-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v8_0)) (v2 : (c : Dev Cert.Kernel2Ideal.nD) → Buf (Elt Ideal) ((c.tc : Thread Cert.Kernel2Ideal.nD Cert.Kernel2Ideal.τ).loc Cert.Kernel2Ideal.main_v8_1)) (v3 : (c : Dev Cert.Kernel2Ideal.nD) → Buf (Elt Ideal) ((c.tc : Thread Cert.Kernel2Ideal.nD Cert.Kernel2Ideal.τ).loc Cert.Kernel2Ideal.main_v5)) (v4 : (c : Dev Cert.Kernel2Ideal.nD) → Buf (Elt Ideal) ((c.tc : Thread Cert.Kernel2Ideal.nD Cert.Kernel2Ideal.τ).loc Cert.Kernel2Ideal.main_v6)) (v5 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v8_0) = v1 c
          ∧ r.2.mem ((c.tc : Thread Cert.Kernel2Ideal.nD Cert.Kernel2Ideal.τ).loc Cert.Kernel2Ideal.main_v8_1) = v2 c
          ∧ r.2.mem ((c.tc : Thread Cert.Kernel2Ideal.nD Cert.Kernel2Ideal.τ).loc Cert.Kernel2Ideal.main_v5) = v3 c
          ∧ r.2.mem ((c.tc : Thread Cert.Kernel2Ideal.nD Cert.Kernel2Ideal.τ).loc Cert.Kernel2Ideal.main_v6) = v4 c
          ∧ r.2.mem ((c.tc : Thread Cert.Kernel2Ideal.nD Cert.Kernel2Ideal.τ).loc Cert.Kernel2Ideal.main_v4) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_v39) = v3 c
          ∧ r.2.mem ((c.tc : Thread Cert.Reference2Ideal.nD Cert.Reference2Ideal.τ).loc Cert.Reference2Ideal.main_v35) = v4 c
          ∧ r.2.mem ((c.tc : Thread Cert.Reference2Ideal.nD Cert.Reference2Ideal.τ).loc Cert.Reference2Ideal.main_v30) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v2)) (v2 : (c : Dev Cert.Kernel3Ideal.nD) → Buf (Elt Ideal) ((c.tc : Thread Cert.Kernel3Ideal.nD Cert.Kernel3Ideal.τ).loc Cert.Kernel3Ideal.main_v7_0)) (v3 : (c : Dev Cert.Kernel3Ideal.nD) → Buf (Elt Ideal) ((c.tc : Thread Cert.Kernel3Ideal.nD Cert.Kernel3Ideal.τ).loc Cert.Kernel3Ideal.main_v7_1)) (v4 : (c : Dev Cert.Kernel3Ideal.nD) → Buf (Elt Ideal) ((c.tc : Thread Cert.Kernel3Ideal.nD Cert.Kernel3Ideal.τ).loc Cert.Kernel3Ideal.main_v5)) (v5 : (c : Dev Cert.Kernel3Ideal.nD) → Buf (Elt Ideal) ((c.tc : Thread Cert.Kernel3Ideal.nD Cert.Kernel3Ideal.τ).loc Cert.Kernel3Ideal.main_v3)) (v6 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v2) = v1 c
          ∧ r.2.mem ((c.tc : Thread Cert.Kernel3Ideal.nD Cert.Kernel3Ideal.τ).loc Cert.Kernel3Ideal.main_v7_0) = v2 c
          ∧ r.2.mem ((c.tc : Thread Cert.Kernel3Ideal.nD Cert.Kernel3Ideal.τ).loc Cert.Kernel3Ideal.main_v7_1) = v3 c
          ∧ r.2.mem ((c.tc : Thread Cert.Kernel3Ideal.nD Cert.Kernel3Ideal.τ).loc Cert.Kernel3Ideal.main_v5) = v4 c
          ∧ r.2.mem ((c.tc : Thread Cert.Kernel3Ideal.nD Cert.Kernel3Ideal.τ).loc Cert.Kernel3Ideal.main_v3) = v5 c
          ∧ r.2.mem ((c.tc : Thread Cert.Kernel3Ideal.nD Cert.Kernel3Ideal.τ).loc Cert.Kernel3Ideal.main_v4) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v26) = v4 c
          ∧ r.2.mem ((c.tc : Thread Cert.Reference3Ideal.nD Cert.Reference3Ideal.τ).loc Cert.Reference3Ideal.main_v24) = v5 c
          ∧ r.2.mem ((c.tc : Thread Cert.Reference3Ideal.nD Cert.Reference3Ideal.τ).loc Cert.Reference3Ideal.main_v23) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v2)) (v2 : (c : Dev Cert.Kernel4Ideal.nD) → Buf (Elt Ideal) ((c.tc : Thread Cert.Kernel4Ideal.nD Cert.Kernel4Ideal.τ).loc Cert.Kernel4Ideal.main_v7_0)) (v3 : (c : Dev Cert.Kernel4Ideal.nD) → Buf (Elt Ideal) ((c.tc : Thread Cert.Kernel4Ideal.nD Cert.Kernel4Ideal.τ).loc Cert.Kernel4Ideal.main_v7_1)) (v4 : (c : Dev Cert.Kernel4Ideal.nD) → Buf (Elt Ideal) ((c.tc : Thread Cert.Kernel4Ideal.nD Cert.Kernel4Ideal.τ).loc Cert.Kernel4Ideal.main_v5)) (v5 : (c : Dev Cert.Kernel4Ideal.nD) → Buf (Elt Ideal) ((c.tc : Thread Cert.Kernel4Ideal.nD Cert.Kernel4Ideal.τ).loc Cert.Kernel4Ideal.main_v3)) (v6 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v2) = v1 c
          ∧ r.2.mem ((c.tc : Thread Cert.Kernel4Ideal.nD Cert.Kernel4Ideal.τ).loc Cert.Kernel4Ideal.main_v7_0) = v2 c
          ∧ r.2.mem ((c.tc : Thread Cert.Kernel4Ideal.nD Cert.Kernel4Ideal.τ).loc Cert.Kernel4Ideal.main_v7_1) = v3 c
          ∧ r.2.mem ((c.tc : Thread Cert.Kernel4Ideal.nD Cert.Kernel4Ideal.τ).loc Cert.Kernel4Ideal.main_v5) = v4 c
          ∧ r.2.mem ((c.tc : Thread Cert.Kernel4Ideal.nD Cert.Kernel4Ideal.τ).loc Cert.Kernel4Ideal.main_v3) = v5 c
          ∧ r.2.mem ((c.tc : Thread Cert.Kernel4Ideal.nD Cert.Kernel4Ideal.τ).loc Cert.Kernel4Ideal.main_v4) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v48) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v27) = v4 c
          ∧ r.2.mem ((c.tc : Thread Cert.Reference4Ideal.nD Cert.Reference4Ideal.τ).loc Cert.Reference4Ideal.main_v49) = v5 c
          ∧ r.2.mem ((c.tc : Thread Cert.Reference4Ideal.nD Cert.Reference4Ideal.τ).loc Cert.Reference4Ideal.main_v24) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8320x1024 : Shape := ⟨2, ![8320, 1024]⟩
abbrev S_ : Shape := ⟨0, ![]⟩

class Facts : Prop where
  bitsLt_bf16_f32 : FTy.bits .bf16 < FTy.bits .f32
  bcast_S_S8320x1024 : S_.BroadcastsInDim S8320x1024 (![] : Fin 0 → Fin S8320x1024.rank)

variable [Facts]

def fn {F : FTy → Type} [FloatOps F] (main_arg0 : FVec F S8320x1024 .bf16) (main_arg1 : FVec F S8320x1024 .bf16) (main_arg2 : FVec F S8320x1024 .bf16) (main_arg3 : FVec F S8320x1024 .bf16) : IVec S8320x1024 1 × IVec S8320x1024 1 × IVec S8320x1024 1 × IVec S8320x1024 1 :=
  let main_v0 : FVec F S8320x1024 .f32 := (extf .f32 · bitsLt_bf16_f32) main_arg0
  let main_v1 : FVec F S8320x1024 .f32 := Host.absf main_v0
  let main_cst : FVec F S_ .f32 := constant S_ .f32 0x7F800000#32
  let main_v2 : FVec F S8320x1024 .f32 := broadcastInDim S8320x1024 ![] bcast_S_S8320x1024 main_cst
  let main_v3 : IVec S8320x1024 1 := cmpf .olt main_v1 main_v2
  let main_v4 : FVec F S8320x1024 .f32 := (extf .f32 · bitsLt_bf16_f32) main_arg1
  let main_v5 : FVec F S8320x1024 .f32 := Host.absf main_v4
  let main_cst_0 : FVec F S_ .f32 := constant S_ .f32 0x7F800000#32
  let main_v6 : FVec F S8320x1024 .f32 := broadcastInDim S8320x1024 ![] bcast_S_S8320x1024 main_cst_0
  let main_v7 : IVec S8320x1024 1 := cmpf .olt main_v5 main_v6
  let main_v8 : FVec F S8320x1024 .f32 := (extf .f32 · bitsLt_bf16_f32) main_arg2
  let main_v9 : FVec F S8320x1024 .f32 := Host.absf main_v8
  let main_cst_1 : FVec F S_ .f32 := constant S_ .f32 0x7F800000#32
  let main_v10 : FVec F S8320x1024 .f32 := broadcastInDim S8320x1024 ![] bcast_S_S8320x1024 main_cst_1
  let main_v11 : IVec S8320x1024 1 := cmpf .olt main_v9 main_v10
  let main_v12 : FVec F S8320x1024 .f32 := (extf .f32 · bitsLt_bf16_f32) main_arg3
  let main_v13 : FVec F S8320x1024 .f32 := Host.absf main_v12
  let main_cst_2 : FVec F S_ .f32 := constant S_ .f32 0x7F800000#32
  let main_v14 : FVec F S8320x1024 .f32 := broadcastInDim S8320x1024 ![] bcast_S_S8320x1024 main_cst_2
  let main_v15 : IVec S8320x1024 1 := cmpf .olt main_v13 main_v14
  (main_v3, main_v7, main_v11, main_v15)
-- ==== Pre_finite2.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8320x1024 : S_.BroadcastsInDim S8320x1024 (![] : Fin 0 → Fin S8320x1024.rank)
  bcast_S_S1x1024 : S_.BroadcastsInDim S1x1024 (![] : Fin 0 → Fin S1x1024.rank)
  bitsLt_bf16_f32 : FTy.bits .bf16 < FTy.bits .f32
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_v2 : IVec S8320x1024 1) (main_v5 : IVec S1x1024 1) (main_v9 : IVec S1024x2816 1) (main_v13 : IVec S1024x2816 1) (main_v17 : IVec S2816x1024 1) (main_v18 : FVec F S8320x1024 .f32) : IVec S8320x1024 1 × IVec S1x1024 1 × IVec S1024x2816 1 × IVec S1024x2816 1 × IVec S2816x1024 1 × IVec S8320x1024 1 :=
  let main_cst_4 : FVec F S_ .f32 := constant S_ .f32 0x7F800000#32
  let main_v19 : FVec F S8320x1024 .f32 := broadcastInDim S8320x1024 ![] bcast_S_S8320x1024 main_cst_4
  let main_v20 : IVec S8320x1024 1 := cmpf .olt main_v18 main_v19
  (main_v2, main_v5, main_v9, main_v13, main_v17, main_v20)

def fn {F : FTy → Type} [FloatOps F] (main_arg0 : FVec F S8320x1024 .f32) (main_arg1 : FVec F S1x1024 .f32) (main_arg2 : FVec F S1024x2816 .bf16) (main_arg3 : FVec F S1024x2816 .bf16) (main_arg4 : FVec F S2816x1024 .bf16) (main_arg5 : FVec F S8320x1024 .f32) : IVec S8320x1024 1 × IVec S1x1024 1 × IVec S1024x2816 1 × IVec S1024x2816 1 × IVec S2816x1024 1 × IVec S8320x1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := (extf .f32 · bitsLt_bf16_f32) main_arg2
  let main_v7 : FVec F S1024x2816 .f32 := Host.absf main_v6
  let main_cst_1 : FVec F S_ .f32 := constant S_ .f32 0x7F800000#32
  let main_v8 : FVec F S1024x2816 .f32 := broadcastInDim S1024x2816 ![] bcast_S_S1024x2816 main_cst_1
  let main_v9 : IVec S1024x2816 1 := cmpf .olt main_v7 main_v8
  let main_v10 : FVec F S1024x2816 .f32 := (extf .f32 · bitsLt_bf16_f32) main_arg3
  let main_v11 : FVec F S1024x2816 .f32 := Host.absf main_v10
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_v14 : FVec F S2816x1024 .f32 := (extf .f32 · bitsLt_bf16_f32) main_arg4
  let main_v15 : FVec F S2816x1024 .f32 := Host.absf main_v14
  let main_cst_3 : FVec F S_ .f32 := constant S_ .f32 0x7F800000#32
  let main_v16 : FVec F S2816x1024 .f32 := broadcastInDim S2816x1024 ![] bcast_S_S2816x1024 main_cst_3
  let main_v17 : IVec S2816x1024 1 := cmpf .olt main_v15 main_v16
  let main_v18 : FVec F S8320x1024 .f32 := Host.absf main_arg5
  fn_part1 (F := F) main_v2 main_v5 main_v9 main_v13 main_v17 main_v18
-- ==== Kernel.lean ====
abbrev S8320x1024 : Shape := ⟨2, ![8320, 1024]⟩
abbrev S128x128 : Shape := ⟨2, ![128, 128]⟩
abbrev S8320x128 : Shape := ⟨2, ![8320, 128]⟩
abbrev S256x128 : Shape := ⟨2, ![256, 128]⟩
abbrev S256x1 : Shape := ⟨2, ![256, 1]⟩
abbrev S256 : Shape := ⟨1, ![256]⟩

abbrev nBuf : Space → Nat
  | .hbm => 9
  | .vmem => 26
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x1024, .bf16⟩
  | .hbm, ⟨4, _⟩ => ⟨S8320x1024, .bf16⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .local _ .vmem, ⟨0, _⟩ => ⟨S128x128, .bf16⟩
  | .local _ .vmem, ⟨1, _⟩ => ⟨S128x128, .bf16⟩
  | .local _ .vmem, ⟨2, _⟩ => ⟨S8320x128, .bf16⟩
  | .local _ .vmem, ⟨3, _⟩ => ⟨S8320x128, .bf16⟩
  | .local _ .vmem, ⟨4, _⟩ => ⟨S8320x128, .bf16⟩
  | .local _ .vmem, ⟨5, _⟩ => ⟨S8320x128, .bf16⟩
  | .local _ .vmem, ⟨6, _⟩ => ⟨S128x128, .bf16⟩
  | .local _ .vmem, ⟨7, _⟩ => ⟨S128x128, .bf16⟩
  | .local _ .vmem, ⟨8, _⟩ => ⟨S128x128, .f32⟩
  | .local _ .vmem, ⟨9, _⟩ => ⟨S128x128, .f32⟩
  | .local _ .vmem, ⟨10, _⟩ => ⟨S128x128, .bf16⟩
  | .local _ .vmem, ⟨11, _⟩ => ⟨S128x128, .bf16⟩
  | .local _ .vmem, ⟨12, _⟩ => ⟨S8320x128, .bf16⟩
  | .local _ .vmem, ⟨13, _⟩ => ⟨S8320x128, .bf16⟩
  | .local _ .vmem, ⟨14, _⟩ => ⟨S8320x128, .bf16⟩
  | .local _ .vmem, ⟨15, _⟩ => ⟨S8320x128, .bf16⟩
  | .local _ .vmem, ⟨16, _⟩ => ⟨S128x128, .bf16⟩
  | .local _ .vmem, ⟨17, _⟩ => ⟨S128x128, .bf16⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S8320x128, .f32⟩
  | .local _ .vmem, ⟨23, _⟩ => ⟨S8320x128, .f32⟩
  | .local _ .vmem, ⟨24, _⟩ => ⟨S8320x128, .f32⟩
  | .local _ .vmem, ⟨25, _⟩ => ⟨S8320x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![8, 65], ![false, false]⟩

def k0_mult1 (i : grid0.Coords) : BitVec 32 :=
  let arg1 : BitVec 32 := BitVec.ofNat 32 (i 1).val
  let c0_i32 : BitVec 32 := 0#32
  let v24 : BitVec 32 := Scalar.subi arg1 c0_i32
  let c0_i32_4 : BitVec 32 := 0#32
  let v28 : BitVec 32 := Scalar.maxsi v24 c0_i32_4
  let c128_i32 : BitVec 32 := 128#32
  let v32 : BitVec 32 := Scalar.muli v28 c128_i32
  v32
def k0_mult2 (i : grid0.Coords) : BitVec 32 :=
  let arg1 : BitVec 32 := BitVec.ofNat 32 (i 1).val
  let c1_i32 : BitVec 32 := 1#32
  let v25 : BitVec 32 := Scalar.subi arg1 c1_i32
  let c0_i32_5 : BitVec 32 := 0#32
  let v29 : BitVec 32 := Scalar.maxsi v25 c0_i32_5
  let c128_i32_8 : BitVec 32 := 128#32
  let v34 : BitVec 32 := Scalar.muli v29 c128_i32_8
  v34
def k0_mult3 (i : grid0.Coords) : BitVec 32 :=
  let arg1 : BitVec 32 := BitVec.ofNat 32 (i 1).val
  let c2_i32 : BitVec 32 := 2#32
  let v26 : BitVec 32 := Scalar.subi arg1 c2_i32
  let c0_i32_6 : BitVec 32 := 0#32
  let v30 : BitVec 32 := Scalar.maxsi v26 c0_i32_6
  let c128_i32_9 : BitVec 32 := 128#32
  let v36 : BitVec 32 := Scalar.muli v30 c128_i32_9
  v36
def k0_mult4 (i : grid0.Coords) : BitVec 32 :=
  let arg1 : BitVec 32 := BitVec.ofNat 32 (i 1).val
  let c3_i32 : BitVec 32 := 3#32
  let v27 : BitVec 32 := Scalar.subi arg1 c3_i32
  let c0_i32_7 : BitVec 32 := 0#32
  let v31 : BitVec 32 := Scalar.maxsi v27 c0_i32_7
  let c128_i32_10 : BitVec 32 := 128#32
  let v38 : BitVec 32 := Scalar.muli v31 c128_i32_10
  v38
def k0_off1 (i : grid0.Coords) (c0_i32 : BitVec 32) : Fin 2 → Nat :=
  let arg1 : BitVec 32 := BitVec.ofNat 32 (i 1).val
  let v24 : BitVec 32 := Scalar.subi arg1 c0_i32
  let c0_i32_4 : BitVec 32 := 0#32
  let v28 : BitVec 32 := Scalar.maxsi v24 c0_i32_4
  let c128_i32 : BitVec 32 := 128#32
  let v32 : BitVec 32 := Scalar.muli v28 c128_i32
  let v33 : BitVec 32 := v32
  let v64 : Index := Scalar.indexCast v33
  let c0_30 : Index := 0#32
  ![v64.toNat, 0]
@[reducible] def k0_t1_loop (i : grid0.Coords) : Scf.Loop 32 :=
  let c0_i32_97 : BitVec 32 := 0#32
  let arg1 : BitVec 32 := BitVec.ofNat 32 (i 1).val
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_99 : BitVec 32 := 1#32
  ⟨c0_i32_97, v279, c1_i32_99⟩
def k0_mult5 (i : grid0.Coords) (k0_t1 : Fin (k0_t1_loop i).trips) : BitVec 32 :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let c0_i32_123 : BitVec 32 := 0#32
  let v322 : BitVec 32 := Scalar.addi v321 c0_i32_123
  let v323 : BitVec 32 := Scalar.subi arg1 v322
  let c0_i32_128 : BitVec 32 := 0#32
  let v338 : BitVec 32 := Scalar.maxsi v323 c0_i32_128
  let c128_i32_136 : BitVec 32 := 128#32
  let v346 : BitVec 32 := Scalar.muli v338 c128_i32_136
  v346
def k0_mult6 (i : grid0.Coords) (k0_t1 : Fin (k0_t1_loop i).trips) : BitVec 32 :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let c1_i32_124 : BitVec 32 := 1#32
  let v324 : BitVec 32 := Scalar.addi v321 c1_i32_124
  let v325 : BitVec 32 := Scalar.subi arg1 v324
  let c0_i32_129 : BitVec 32 := 0#32
  let v339 : BitVec 32 := Scalar.maxsi v325 c0_i32_129
  let c128_i32_137 : BitVec 32 := 128#32
  let v348 : BitVec 32 := Scalar.muli v339 c128_i32_137
  v348
def k0_mult7 (i : grid0.Coords) (k0_t1 : Fin (k0_t1_loop i).trips) : BitVec 32 :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let c2_i32_125 : BitVec 32 := 2#32
  let v326 : BitVec 32 := Scalar.addi v321 c2_i32_125
  let v327 : BitVec 32 := Scalar.subi arg1 v326
  let c0_i32_130 : BitVec 32 := 0#32
  let v340 : BitVec 32 := Scalar.maxsi v327 c0_i32_130
  let c128_i32_138 : BitVec 32 := 128#32
  let v350 : BitVec 32 := Scalar.muli v340 c128_i32_138
  v350
def k0_mult8 (i : grid0.Coords) (k0_t1 : Fin (k0_t1_loop i).trips) : BitVec 32 :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let c3_i32_126 : BitVec 32 := 3#32
  let v328 : BitVec 32 := Scalar.addi v321 c3_i32_126
  let v329 : BitVec 32 := Scalar.subi arg1 v328
  let c0_i32_131 : BitVec 32 := 0#32
  let v341 : BitVec 32 := Scalar.maxsi v329 c0_i32_131
  let c128_i32_139 : BitVec 32 := 128#32
  let v352 : BitVec 32 := Scalar.muli v341 c128_i32_139
  v352
def k0_mult9 (i : grid0.Coords) (k0_t1 : Fin (k0_t1_loop i).trips) : BitVec 32 :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let c4_i32_127 : BitVec 32 := 4#32
  let v330 : BitVec 32 := Scalar.addi v321 c4_i32_127
  let v331 : BitVec 32 := Scalar.subi arg1 v330
  let c0_i32_132 : BitVec 32 := 0#32
  let v342 : BitVec 32 := Scalar.maxsi v331 c0_i32_132
  let c128_i32_140 : BitVec 32 := 128#32
  let v354 : BitVec 32 := Scalar.muli v342 c128_i32_140
  v354
def k0_mult10 (i : grid0.Coords) (k0_t1 : Fin (k0_t1_loop i).trips) : BitVec 32 :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let c5_i32 : BitVec 32 := 5#32
  let v332 : BitVec 32 := Scalar.addi v321 c5_i32
  let v333 : BitVec 32 := Scalar.subi arg1 v332
  let c0_i32_133 : BitVec 32 := 0#32
  let v343 : BitVec 32 := Scalar.maxsi v333 c0_i32_133
  let c128_i32_141 : BitVec 32 := 128#32
  let v356 : BitVec 32 := Scalar.muli v343 c128_i32_141
  v356
def k0_mult11 (i : grid0.Coords) (k0_t1 : Fin (k0_t1_loop i).trips) : BitVec 32 :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let c6_i32 : BitVec 32 := 6#32
  let v334 : BitVec 32 := Scalar.addi v321 c6_i32
  let v335 : BitVec 32 := Scalar.subi arg1 v334
  let c0_i32_134 : BitVec 32 := 0#32
  let v344 : BitVec 32 := Scalar.maxsi v335 c0_i32_134
  let c128_i32_142 : BitVec 32 := 128#32
  let v358 : BitVec 32 := Scalar.muli v344 c128_i32_142
  v358
def k0_mult12 (i : grid0.Coords) (k0_t1 : Fin (k0_t1_loop i).trips) : BitVec 32 :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let c7_i32 : BitVec 32 := 7#32
  let v336 : BitVec 32 := Scalar.addi v321 c7_i32
  let v337 : BitVec 32 := Scalar.subi arg1 v336
  let c0_i32_135 : BitVec 32 := 0#32
  let v345 : BitVec 32 := Scalar.maxsi v337 c0_i32_135
  let c128_i32_143 : BitVec 32 := 128#32
  let v360 : BitVec 32 := Scalar.muli v345 c128_i32_143
  v360
def k0_off2 (i : grid0.Coords) (k0_t1 : Fin (k0_t1_loop i).trips) (c0_i32_123 : BitVec 32) : Fin 2 → Nat :=
  let arg1 : BitVec 32 := BitVec.ofNat 32 (i 1).val
  let c4_i32_122 : BitVec 32 := 4#32
  let c0_i32_97 : BitVec 32 := 0#32
  let c1_i32_99 : BitVec 32 := 1#32
  let arg7 : BitVec 32 := Scf.iv c0_i32_97 c1_i32_99 k0_t1
  let c8_i32_121 : BitVec 32 := 8#32
  let v320 : BitVec 32 := Scalar.muli arg7 c8_i32_121
  let v321 : BitVec 32 := Scalar.addi c4_i32_122 v320
  let v322 : BitVec 32 := Scalar.addi v321 c0_i32_123
  let v323 : BitVec 32 := Scalar.subi arg1 v322
  let c0_i32_128 : BitVec 32 := 0#32
  let v338 : BitVec 32 := Scalar.maxsi v323 c0_i32_128
  let c128_i32_136 : BitVec 32 := 128#32
  let v346 : BitVec 32 := Scalar.muli v338 c128_i32_136
  let v347 : BitVec 32 := v346
  let v362 : Index := Scalar.indexCast v347
  let c0_144 : Index := 0#32
  ![v362.toNat, 0]
@[reducible] def k0_t2_loop (i : grid0.Coords) : Scf.Loop 32 :=
  let c0_i32_97 : BitVec 32 := 0#32
  let arg1 : BitVec 32 := BitVec.ofNat 32 (i 1).val
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let v276 : BitVec 32 := Scalar.addi c0_i32_97 v275
  let c1_i32_100 : BitVec 32 := 1#32
  ⟨v279, v276, c1_i32_100⟩
def k0_mult13 (i : grid0.Coords) (k0_t2 : Fin (k0_t2_loop i).trips) : BitVec 32 :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let c0_i32_123 : BitVec 32 := 0#32
  let v322 : BitVec 32 := Scalar.addi v321 c0_i32_123
  let v323 : BitVec 32 := Scalar.subi arg1 v322
  let c0_i32_128 : BitVec 32 := 0#32
  let v338 : BitVec 32 := Scalar.maxsi v323 c0_i32_128
  let c128_i32_136 : BitVec 32 := 128#32
  let v346 : BitVec 32 := Scalar.muli v338 c128_i32_136
  v346
def k0_mult14 (i : grid0.Coords) (k0_t2 : Fin (k0_t2_loop i).trips) : BitVec 32 :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let c1_i32_124 : BitVec 32 := 1#32
  let v324 : BitVec 32 := Scalar.addi v321 c1_i32_124
  let v325 : BitVec 32 := Scalar.subi arg1 v324
  let c0_i32_129 : BitVec 32 := 0#32
  let v339 : BitVec 32 := Scalar.maxsi v325 c0_i32_129
  let c128_i32_137 : BitVec 32 := 128#32
  let v348 : BitVec 32 := Scalar.muli v339 c128_i32_137
  v348
def k0_mult15 (i : grid0.Coords) (k0_t2 : Fin (k0_t2_loop i).trips) : BitVec 32 :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let c2_i32_125 : BitVec 32 := 2#32
  let v326 : BitVec 32 := Scalar.addi v321 c2_i32_125
  let v327 : BitVec 32 := Scalar.subi arg1 v326
  let c0_i32_130 : BitVec 32 := 0#32
  let v340 : BitVec 32 := Scalar.maxsi v327 c0_i32_130
  let c128_i32_138 : BitVec 32 := 128#32
  let v350 : BitVec 32 := Scalar.muli v340 c128_i32_138
  v350
def k0_mult16 (i : grid0.Coords) (k0_t2 : Fin (k0_t2_loop i).trips) : BitVec 32 :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let c3_i32_126 : BitVec 32 := 3#32
  let v328 : BitVec 32 := Scalar.addi v321 c3_i32_126
  let v329 : BitVec 32 := Scalar.subi arg1 v328
  let c0_i32_131 : BitVec 32 := 0#32
  let v341 : BitVec 32 := Scalar.maxsi v329 c0_i32_131
  let c128_i32_139 : BitVec 32 := 128#32
  let v352 : BitVec 32 := Scalar.muli v341 c128_i32_139
  v352
def k0_mult17 (i : grid0.Coords) (k0_t2 : Fin (k0_t2_loop i).trips) : BitVec 32 :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let c4_i32_127 : BitVec 32 := 4#32
  let v330 : BitVec 32 := Scalar.addi v321 c4_i32_127
  let v331 : BitVec 32 := Scalar.subi arg1 v330
  let c0_i32_132 : BitVec 32 := 0#32
  let v342 : BitVec 32 := Scalar.maxsi v331 c0_i32_132
  let c128_i32_140 : BitVec 32 := 128#32
  let v354 : BitVec 32 := Scalar.muli v342 c128_i32_140
  v354
def k0_mult18 (i : grid0.Coords) (k0_t2 : Fin (k0_t2_loop i).trips) : BitVec 32 :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let c5_i32 : BitVec 32 := 5#32
  let v332 : BitVec 32 := Scalar.addi v321 c5_i32
  let v333 : BitVec 32 := Scalar.subi arg1 v332
  let c0_i32_133 : BitVec 32 := 0#32
  let v343 : BitVec 32 := Scalar.maxsi v333 c0_i32_133
  let c128_i32_141 : BitVec 32 := 128#32
  let v356 : BitVec 32 := Scalar.muli v343 c128_i32_141
  v356
def k0_mult19 (i : grid0.Coords) (k0_t2 : Fin (k0_t2_loop i).trips) : BitVec 32 :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let c6_i32 : BitVec 32 := 6#32
  let v334 : BitVec 32 := Scalar.addi v321 c6_i32
  let v335 : BitVec 32 := Scalar.subi arg1 v334
  let c0_i32_134 : BitVec 32 := 0#32
  let v344 : BitVec 32 := Scalar.maxsi v335 c0_i32_134
  let c128_i32_142 : BitVec 32 := 128#32
  let v358 : BitVec 32 := Scalar.muli v344 c128_i32_142
  v358
def k0_mult20 (i : grid0.Coords) (k0_t2 : Fin (k0_t2_loop i).trips) : BitVec 32 :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let c7_i32 : BitVec 32 := 7#32
  let v336 : BitVec 32 := Scalar.addi v321 c7_i32
  let v337 : BitVec 32 := Scalar.subi arg1 v336
  let c0_i32_135 : BitVec 32 := 0#32
  let v345 : BitVec 32 := Scalar.maxsi v337 c0_i32_135
  let c128_i32_143 : BitVec 32 := 128#32
  let v360 : BitVec 32 := Scalar.muli v345 c128_i32_143
  v360
def k0_off3 (i : grid0.Coords) (k0_t2 : Fin (k0_t2_loop i).trips) (c0_i32_123 : BitVec 32) : Fin 2 → Nat :=
  let arg1 : BitVec 32 := BitVec.ofNat 32 (i 1).val
  let c4_i32_122 : BitVec 32 := 4#32
  let c0_i32_97 : BitVec 32 := 0#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let v275 : BitVec 32 := Scalar.subi v274 c0_i32_97
  let c1_i32_98 : BitVec 32 := 1#32
  let v277 : BitVec 32 := Scalar.divsi v275 c1_i32_98
  let v278 : BitVec 32 := Scalar.muli v277 c1_i32_98
  let v279 : BitVec 32 := Scalar.addi c0_i32_97 v278
  let c1_i32_100 : BitVec 32 := 1#32
  let arg7 : BitVec 32 := Scf.iv v279 c1_i32_100 k0_t2
  let c8_i32_121 : BitVec 32 := 8#32
  let v320 : BitVec 32 := Scalar.muli arg7 c8_i32_121
  let v321 : BitVec 32 := Scalar.addi c4_i32_122 v320
  let v322 : BitVec 32 := Scalar.addi v321 c0_i32_123
  let v323 : BitVec 32 := Scalar.subi arg1 v322
  let c0_i32_128 : BitVec 32 := 0#32
  let v338 : BitVec 32 := Scalar.maxsi v323 c0_i32_128
  let c128_i32_136 : BitVec 32 := 128#32
  let v346 : BitVec 32 := Scalar.muli v338 c128_i32_136
  let v347 : BitVec 32 := v346
  let v362 : Index := Scalar.indexCast v347
  let c0_144 : Index := 0#32
  ![v362.toNat, 0]
@[reducible] def k0_t3_loop (i : grid0.Coords) : Scf.Loop 32 :=
  let c0_i32_112 : BitVec 32 := 0#32
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let v284 : BitVec 32 := Scalar.subi arg1 v283
  let c4_i32_103 : BitVec 32 := 4#32
  let v285 : BitVec 32 := Scalar.addi v284 c4_i32_103
  let c0_i32_105 : BitVec 32 := 0#32
  let v287 : BitVec 1 := Scalar.cmpi .sgt v285 c0_i32_105
  let v288 : BitVec 32 := Scalar.extui v287
  let c0_i32_106 : BitVec 32 := 0#32
  let v289 : BitVec 1 := Scalar.cmpi .slt v285 c0_i32_106
  let v290 : BitVec 32 := Scalar.extui v289
  let v291 : BitVec 32 := Scalar.subi v288 v290
  let c4_i32_104 : BitVec 32 := 4#32
  let c0_i32_107 : BitVec 32 := 0#32
  let v292 : BitVec 1 := Scalar.cmpi .sgt c4_i32_104 c0_i32_107
  let v293 : BitVec 32 := Scalar.extui v292
  let c0_i32_108 : BitVec 32 := 0#32
  let v294 : BitVec 1 := Scalar.cmpi .slt c4_i32_104 c0_i32_108
  let v295 : BitVec 32 := Scalar.extui v294
  let v296 : BitVec 32 := Scalar.subi v293 v295
  let v297 : BitVec 1 := Scalar.cmpi .ne v291 v296
  let v298 : BitVec 32 := Scalar.remsi v285 c4_i32_104
  let c0_i32_109 : BitVec 32 := 0#32
  let v299 : BitVec 1 := Scalar.cmpi .ne v298 c0_i32_109
  let v300 : BitVec 1 := Scalar.andi v297 v299
  let v286 : BitVec 32 := Scalar.divsi v285 c4_i32_104
  let c1_i32_110 : BitVec 32 := 1#32
  let v301 : BitVec 32 := Scalar.subi v286 c1_i32_110
  let v302 : BitVec 32 := Scalar.select v300 v301 v286
  let c0_i32_111 : BitVec 32 := 0#32
  let v303 : BitVec 32 := Scalar.maxsi v302 c0_i32_111
  let v304 : BitVec 32 := Scalar.subi v303 c0_i32_112
  let c1_i32_113 : BitVec 32 := 1#32
  let v306 : BitVec 32 := Scalar.divsi v304 c1_i32_113
  let v307 : BitVec 32 := Scalar.muli v306 c1_i32_113
  let v308 : BitVec 32 := Scalar.addi c0_i32_112 v307
  let c1_i32_114 : BitVec 32 := 1#32
  ⟨c0_i32_112, v308, c1_i32_114⟩
def k0_mult21 (i : grid0.Coords) (k0_t3 : Fin (k0_t3_loop i).trips) : BitVec 32 :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let c1_i32_114 : BitVec 32 := 1#32
  let arg7 : BitVec 32 := Scf.iv c0_i32_112 c1_i32_114 k0_t3
  let c4_i32_121 : BitVec 32 := 4#32
  let v320 : BitVec 32 := Scalar.muli arg7 c4_i32_121
  let v321 : BitVec 32 := Scalar.addi v283 v320
  let c0_i32_122 : BitVec 32 := 0#32
  let v322 : BitVec 32 := Scalar.addi v321 c0_i32_122
  let v323 : BitVec 32 := Scalar.subi arg1 v322
  let c0_i32_126 : BitVec 32 := 0#32
  let v330 : BitVec 32 := Scalar.maxsi v323 c0_i32_126
  let c128_i32_130 : BitVec 32 := 128#32
  let v334 : BitVec 32 := Scalar.muli v330 c128_i32_130
  v334
def k0_mult22 (i : grid0.Coords) (k0_t3 : Fin (k0_t3_loop i).trips) : BitVec 32 :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let c1_i32_114 : BitVec 32 := 1#32
  let arg7 : BitVec 32 := Scf.iv c0_i32_112 c1_i32_114 k0_t3
  let c4_i32_121 : BitVec 32 := 4#32
  let v320 : BitVec 32 := Scalar.muli arg7 c4_i32_121
  let v321 : BitVec 32 := Scalar.addi v283 v320
  let c1_i32_123 : BitVec 32 := 1#32
  let v324 : BitVec 32 := Scalar.addi v321 c1_i32_123
  let v325 : BitVec 32 := Scalar.subi arg1 v324
  let c0_i32_127 : BitVec 32 := 0#32
  let v331 : BitVec 32 := Scalar.maxsi v325 c0_i32_127
  let c128_i32_131 : BitVec 32 := 128#32
  let v336 : BitVec 32 := Scalar.muli v331 c128_i32_131
  v336
def k0_mult23 (i : grid0.Coords) (k0_t3 : Fin (k0_t3_loop i).trips) : BitVec 32 :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let c1_i32_114 : BitVec 32 := 1#32
  let arg7 : BitVec 32 := Scf.iv c0_i32_112 c1_i32_114 k0_t3
  let c4_i32_121 : BitVec 32 := 4#32
  let v320 : BitVec 32 := Scalar.muli arg7 c4_i32_121
  let v321 : BitVec 32 := Scalar.addi v283 v320
  let c2_i32_124 : BitVec 32 := 2#32
  let v326 : BitVec 32 := Scalar.addi v321 c2_i32_124
  let v327 : BitVec 32 := Scalar.subi arg1 v326
  let c0_i32_128 : BitVec 32 := 0#32
  let v332 : BitVec 32 := Scalar.maxsi v327 c0_i32_128
  let c128_i32_132 : BitVec 32 := 128#32
  let v338 : BitVec 32 := Scalar.muli v332 c128_i32_132
  v338
def k0_mult24 (i : grid0.Coords) (k0_t3 : Fin (k0_t3_loop i).trips) : BitVec 32 :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let c1_i32_114 : BitVec 32 := 1#32
  let arg7 : BitVec 32 := Scf.iv c0_i32_112 c1_i32_114 k0_t3
  let c4_i32_121 : BitVec 32 := 4#32
  let v320 : BitVec 32 := Scalar.muli arg7 c4_i32_121
  let v321 : BitVec 32 := Scalar.addi v283 v320
  let c3_i32_125 : BitVec 32 := 3#32
  let v328 : BitVec 32 := Scalar.addi v321 c3_i32_125
  let v329 : BitVec 32 := Scalar.subi arg1 v328
  let c0_i32_129 : BitVec 32 := 0#32
  let v333 : BitVec 32 := Scalar.maxsi v329 c0_i32_129
  let c128_i32_133 : BitVec 32 := 128#32
  let v340 : BitVec 32 := Scalar.muli v333 c128_i32_133
  v340
def k0_off4 (i : grid0.Coords) (k0_t3 : Fin (k0_t3_loop i).trips) (c0_i32_122 : BitVec 32) : Fin 2 → Nat :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let c1_i32_114 : BitVec 32 := 1#32
  let arg7 : BitVec 32 := Scf.iv c0_i32_112 c1_i32_114 k0_t3
  let c4_i32_121 : BitVec 32 := 4#32
  let v320 : BitVec 32 := Scalar.muli arg7 c4_i32_121
  let v321 : BitVec 32 := Scalar.addi v283 v320
  let v322 : BitVec 32 := Scalar.addi v321 c0_i32_122
  let v323 : BitVec 32 := Scalar.subi arg1 v322
  let c0_i32_126 : BitVec 32 := 0#32
  let v330 : BitVec 32 := Scalar.maxsi v323 c0_i32_126
  let c128_i32_130 : BitVec 32 := 128#32
  let v334 : BitVec 32 := Scalar.muli v330 c128_i32_130
  let v335 : BitVec 32 := v334
  let v366 : Index := Scalar.indexCast v335
  let c0_154 : Index := 0#32
  ![v366.toNat, 0]
@[reducible] def k0_t4_loop (i : grid0.Coords) : Scf.Loop 32 :=
  let c0_i32_112 : BitVec 32 := 0#32
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let v284 : BitVec 32 := Scalar.subi arg1 v283
  let c4_i32_103 : BitVec 32 := 4#32
  let v285 : BitVec 32 := Scalar.addi v284 c4_i32_103
  let c0_i32_105 : BitVec 32 := 0#32
  let v287 : BitVec 1 := Scalar.cmpi .sgt v285 c0_i32_105
  let v288 : BitVec 32 := Scalar.extui v287
  let c0_i32_106 : BitVec 32 := 0#32
  let v289 : BitVec 1 := Scalar.cmpi .slt v285 c0_i32_106
  let v290 : BitVec 32 := Scalar.extui v289
  let v291 : BitVec 32 := Scalar.subi v288 v290
  let c4_i32_104 : BitVec 32 := 4#32
  let c0_i32_107 : BitVec 32 := 0#32
  let v292 : BitVec 1 := Scalar.cmpi .sgt c4_i32_104 c0_i32_107
  let v293 : BitVec 32 := Scalar.extui v292
  let c0_i32_108 : BitVec 32 := 0#32
  let v294 : BitVec 1 := Scalar.cmpi .slt c4_i32_104 c0_i32_108
  let v295 : BitVec 32 := Scalar.extui v294
  let v296 : BitVec 32 := Scalar.subi v293 v295
  let v297 : BitVec 1 := Scalar.cmpi .ne v291 v296
  let v298 : BitVec 32 := Scalar.remsi v285 c4_i32_104
  let c0_i32_109 : BitVec 32 := 0#32
  let v299 : BitVec 1 := Scalar.cmpi .ne v298 c0_i32_109
  let v300 : BitVec 1 := Scalar.andi v297 v299
  let v286 : BitVec 32 := Scalar.divsi v285 c4_i32_104
  let c1_i32_110 : BitVec 32 := 1#32
  let v301 : BitVec 32 := Scalar.subi v286 c1_i32_110
  let v302 : BitVec 32 := Scalar.select v300 v301 v286
  let c0_i32_111 : BitVec 32 := 0#32
  let v303 : BitVec 32 := Scalar.maxsi v302 c0_i32_111
  let v304 : BitVec 32 := Scalar.subi v303 c0_i32_112
  let c1_i32_113 : BitVec 32 := 1#32
  let v306 : BitVec 32 := Scalar.divsi v304 c1_i32_113
  let v307 : BitVec 32 := Scalar.muli v306 c1_i32_113
  let v308 : BitVec 32 := Scalar.addi c0_i32_112 v307
  let v305 : BitVec 32 := Scalar.addi c0_i32_112 v304
  let c1_i32_115 : BitVec 32 := 1#32
  ⟨v308, v305, c1_i32_115⟩
def k0_mult25 (i : grid0.Coords) (k0_t4 : Fin (k0_t4_loop i).trips) : BitVec 32 :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let v284 : BitVec 32 := Scalar.subi arg1 v283
  let c4_i32_103 : BitVec 32 := 4#32
  let v285 : BitVec 32 := Scalar.addi v284 c4_i32_103
  let c0_i32_105 : BitVec 32 := 0#32
  let v287 : BitVec 1 := Scalar.cmpi .sgt v285 c0_i32_105
  let v288 : BitVec 32 := Scalar.extui v287
  let c0_i32_106 : BitVec 32 := 0#32
  let v289 : BitVec 1 := Scalar.cmpi .slt v285 c0_i32_106
  let v290 : BitVec 32 := Scalar.extui v289
  let v291 : BitVec 32 := Scalar.subi v288 v290
  let c4_i32_104 : BitVec 32 := 4#32
  let c0_i32_107 : BitVec 32 := 0#32
  let v292 : BitVec 1 := Scalar.cmpi .sgt c4_i32_104 c0_i32_107
  let v293 : BitVec 32 := Scalar.extui v292
  let c0_i32_108 : BitVec 32 := 0#32
  let v294 : BitVec 1 := Scalar.cmpi .slt c4_i32_104 c0_i32_108
  let v295 : BitVec 32 := Scalar.extui v294
  let v296 : BitVec 32 := Scalar.subi v293 v295
  let v297 : BitVec 1 := Scalar.cmpi .ne v291 v296
  let v298 : BitVec 32 := Scalar.remsi v285 c4_i32_104
  let c0_i32_109 : BitVec 32 := 0#32
  let v299 : BitVec 1 := Scalar.cmpi .ne v298 c0_i32_109
  let v300 : BitVec 1 := Scalar.andi v297 v299
  let v286 : BitVec 32 := Scalar.divsi v285 c4_i32_104
  let c1_i32_110 : BitVec 32 := 1#32
  let v301 : BitVec 32 := Scalar.subi v286 c1_i32_110
  let v302 : BitVec 32 := Scalar.select v300 v301 v286
  let c0_i32_111 : BitVec 32 := 0#32
  let v303 : BitVec 32 := Scalar.maxsi v302 c0_i32_111
  let v304 : BitVec 32 := Scalar.subi v303 c0_i32_112
  let c1_i32_113 : BitVec 32 := 1#32
  let v306 : BitVec 32 := Scalar.divsi v304 c1_i32_113
  let v307 : BitVec 32 := Scalar.muli v306 c1_i32_113
  let v308 : BitVec 32 := Scalar.addi c0_i32_112 v307
  let c1_i32_115 : BitVec 32 := 1#32
  let arg7 : BitVec 32 := Scf.iv v308 c1_i32_115 k0_t4
  let c4_i32_121 : BitVec 32 := 4#32
  let v320 : BitVec 32 := Scalar.muli arg7 c4_i32_121
  let v321 : BitVec 32 := Scalar.addi v283 v320
  let c0_i32_122 : BitVec 32 := 0#32
  let v322 : BitVec 32 := Scalar.addi v321 c0_i32_122
  let v323 : BitVec 32 := Scalar.subi arg1 v322
  let c0_i32_126 : BitVec 32 := 0#32
  let v330 : BitVec 32 := Scalar.maxsi v323 c0_i32_126
  let c128_i32_130 : BitVec 32 := 128#32
  let v334 : BitVec 32 := Scalar.muli v330 c128_i32_130
  v334
def k0_mult26 (i : grid0.Coords) (k0_t4 : Fin (k0_t4_loop i).trips) : BitVec 32 :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let v284 : BitVec 32 := Scalar.subi arg1 v283
  let c4_i32_103 : BitVec 32 := 4#32
  let v285 : BitVec 32 := Scalar.addi v284 c4_i32_103
  let c0_i32_105 : BitVec 32 := 0#32
  let v287 : BitVec 1 := Scalar.cmpi .sgt v285 c0_i32_105
  let v288 : BitVec 32 := Scalar.extui v287
  let c0_i32_106 : BitVec 32 := 0#32
  let v289 : BitVec 1 := Scalar.cmpi .slt v285 c0_i32_106
  let v290 : BitVec 32 := Scalar.extui v289
  let v291 : BitVec 32 := Scalar.subi v288 v290
  let c4_i32_104 : BitVec 32 := 4#32
  let c0_i32_107 : BitVec 32 := 0#32
  let v292 : BitVec 1 := Scalar.cmpi .sgt c4_i32_104 c0_i32_107
  let v293 : BitVec 32 := Scalar.extui v292
  let c0_i32_108 : BitVec 32 := 0#32
  let v294 : BitVec 1 := Scalar.cmpi .slt c4_i32_104 c0_i32_108
  let v295 : BitVec 32 := Scalar.extui v294
  let v296 : BitVec 32 := Scalar.subi v293 v295
  let v297 : BitVec 1 := Scalar.cmpi .ne v291 v296
  let v298 : BitVec 32 := Scalar.remsi v285 c4_i32_104
  let c0_i32_109 : BitVec 32 := 0#32
  let v299 : BitVec 1 := Scalar.cmpi .ne v298 c0_i32_109
  let v300 : BitVec 1 := Scalar.andi v297 v299
  let v286 : BitVec 32 := Scalar.divsi v285 c4_i32_104
  let c1_i32_110 : BitVec 32 := 1#32
  let v301 : BitVec 32 := Scalar.subi v286 c1_i32_110
  let v302 : BitVec 32 := Scalar.select v300 v301 v286
  let c0_i32_111 : BitVec 32 := 0#32
  let v303 : BitVec 32 := Scalar.maxsi v302 c0_i32_111
  let v304 : BitVec 32 := Scalar.subi v303 c0_i32_112
  let c1_i32_113 : BitVec 32 := 1#32
  let v306 : BitVec 32 := Scalar.divsi v304 c1_i32_113
  let v307 : BitVec 32 := Scalar.muli v306 c1_i32_113
  let v308 : BitVec 32 := Scalar.addi c0_i32_112 v307
  let c1_i32_115 : BitVec 32 := 1#32
  let arg7 : BitVec 32 := Scf.iv v308 c1_i32_115 k0_t4
  let c4_i32_121 : BitVec 32 := 4#32
  let v320 : BitVec 32 := Scalar.muli arg7 c4_i32_121
  let v321 : BitVec 32 := Scalar.addi v283 v320
  let c1_i32_123 : BitVec 32 := 1#32
  let v324 : BitVec 32 := Scalar.addi v321 c1_i32_123
  let v325 : BitVec 32 := Scalar.subi arg1 v324
  let c0_i32_127 : BitVec 32 := 0#32
  let v331 : BitVec 32 := Scalar.maxsi v325 c0_i32_127
  let c128_i32_131 : BitVec 32 := 128#32
  let v336 : BitVec 32 := Scalar.muli v331 c128_i32_131
  v336
def k0_mult27 (i : grid0.Coords) (k0_t4 : Fin (k0_t4_loop i).trips) : BitVec 32 :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let v284 : BitVec 32 := Scalar.subi arg1 v283
  let c4_i32_103 : BitVec 32 := 4#32
  let v285 : BitVec 32 := Scalar.addi v284 c4_i32_103
  let c0_i32_105 : BitVec 32 := 0#32
  let v287 : BitVec 1 := Scalar.cmpi .sgt v285 c0_i32_105
  let v288 : BitVec 32 := Scalar.extui v287
  let c0_i32_106 : BitVec 32 := 0#32
  let v289 : BitVec 1 := Scalar.cmpi .slt v285 c0_i32_106
  let v290 : BitVec 32 := Scalar.extui v289
  let v291 : BitVec 32 := Scalar.subi v288 v290
  let c4_i32_104 : BitVec 32 := 4#32
  let c0_i32_107 : BitVec 32 := 0#32
  let v292 : BitVec 1 := Scalar.cmpi .sgt c4_i32_104 c0_i32_107
  let v293 : BitVec 32 := Scalar.extui v292
  let c0_i32_108 : BitVec 32 := 0#32
  let v294 : BitVec 1 := Scalar.cmpi .slt c4_i32_104 c0_i32_108
  let v295 : BitVec 32 := Scalar.extui v294
  let v296 : BitVec 32 := Scalar.subi v293 v295
  let v297 : BitVec 1 := Scalar.cmpi .ne v291 v296
  let v298 : BitVec 32 := Scalar.remsi v285 c4_i32_104
  let c0_i32_109 : BitVec 32 := 0#32
  let v299 : BitVec 1 := Scalar.cmpi .ne v298 c0_i32_109
  let v300 : BitVec 1 := Scalar.andi v297 v299
  let v286 : BitVec 32 := Scalar.divsi v285 c4_i32_104
  let c1_i32_110 : BitVec 32 := 1#32
  let v301 : BitVec 32 := Scalar.subi v286 c1_i32_110
  let v302 : BitVec 32 := Scalar.select v300 v301 v286
  let c0_i32_111 : BitVec 32 := 0#32
  let v303 : BitVec 32 := Scalar.maxsi v302 c0_i32_111
  let v304 : BitVec 32 := Scalar.subi v303 c0_i32_112
  let c1_i32_113 : BitVec 32 := 1#32
  let v306 : BitVec 32 := Scalar.divsi v304 c1_i32_113
  let v307 : BitVec 32 := Scalar.muli v306 c1_i32_113
  let v308 : BitVec 32 := Scalar.addi c0_i32_112 v307
  let c1_i32_115 : BitVec 32 := 1#32
  let arg7 : BitVec 32 := Scf.iv v308 c1_i32_115 k0_t4
  let c4_i32_121 : BitVec 32 := 4#32
  let v320 : BitVec 32 := Scalar.muli arg7 c4_i32_121
  let v321 : BitVec 32 := Scalar.addi v283 v320
  let c2_i32_124 : BitVec 32 := 2#32
  let v326 : BitVec 32 := Scalar.addi v321 c2_i32_124
  let v327 : BitVec 32 := Scalar.subi arg1 v326
  let c0_i32_128 : BitVec 32 := 0#32
  let v332 : BitVec 32 := Scalar.maxsi v327 c0_i32_128
  let c128_i32_132 : BitVec 32 := 128#32
  let v338 : BitVec 32 := Scalar.muli v332 c128_i32_132
  v338
def k0_mult28 (i : grid0.Coords) (k0_t4 : Fin (k0_t4_loop i).trips) : BitVec 32 :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let v284 : BitVec 32 := Scalar.subi arg1 v283
  let c4_i32_103 : BitVec 32 := 4#32
  let v285 : BitVec 32 := Scalar.addi v284 c4_i32_103
  let c0_i32_105 : BitVec 32 := 0#32
  let v287 : BitVec 1 := Scalar.cmpi .sgt v285 c0_i32_105
  let v288 : BitVec 32 := Scalar.extui v287
  let c0_i32_106 : BitVec 32 := 0#32
  let v289 : BitVec 1 := Scalar.cmpi .slt v285 c0_i32_106
  let v290 : BitVec 32 := Scalar.extui v289
  let v291 : BitVec 32 := Scalar.subi v288 v290
  let c4_i32_104 : BitVec 32 := 4#32
  let c0_i32_107 : BitVec 32 := 0#32
  let v292 : BitVec 1 := Scalar.cmpi .sgt c4_i32_104 c0_i32_107
  let v293 : BitVec 32 := Scalar.extui v292
  let c0_i32_108 : BitVec 32 := 0#32
  let v294 : BitVec 1 := Scalar.cmpi .slt c4_i32_104 c0_i32_108
  let v295 : BitVec 32 := Scalar.extui v294
  let v296 : BitVec 32 := Scalar.subi v293 v295
  let v297 : BitVec 1 := Scalar.cmpi .ne v291 v296
  let v298 : BitVec 32 := Scalar.remsi v285 c4_i32_104
  let c0_i32_109 : BitVec 32 := 0#32
  let v299 : BitVec 1 := Scalar.cmpi .ne v298 c0_i32_109
  let v300 : BitVec 1 := Scalar.andi v297 v299
  let v286 : BitVec 32 := Scalar.divsi v285 c4_i32_104
  let c1_i32_110 : BitVec 32 := 1#32
  let v301 : BitVec 32 := Scalar.subi v286 c1_i32_110
  let v302 : BitVec 32 := Scalar.select v300 v301 v286
  let c0_i32_111 : BitVec 32 := 0#32
  let v303 : BitVec 32 := Scalar.maxsi v302 c0_i32_111
  let v304 : BitVec 32 := Scalar.subi v303 c0_i32_112
  let c1_i32_113 : BitVec 32 := 1#32
  let v306 : BitVec 32 := Scalar.divsi v304 c1_i32_113
  let v307 : BitVec 32 := Scalar.muli v306 c1_i32_113
  let v308 : BitVec 32 := Scalar.addi c0_i32_112 v307
  let c1_i32_115 : BitVec 32 := 1#32
  let arg7 : BitVec 32 := Scf.iv v308 c1_i32_115 k0_t4
  let c4_i32_121 : BitVec 32 := 4#32
  let v320 : BitVec 32 := Scalar.muli arg7 c4_i32_121
  let v321 : BitVec 32 := Scalar.addi v283 v320
  let c3_i32_125 : BitVec 32 := 3#32
  let v328 : BitVec 32 := Scalar.addi v321 c3_i32_125
  let v329 : BitVec 32 := Scalar.subi arg1 v328
  let c0_i32_129 : BitVec 32 := 0#32
  let v333 : BitVec 32 := Scalar.maxsi v329 c0_i32_129
  let c128_i32_133 : BitVec 32 := 128#32
  let v340 : BitVec 32 := Scalar.muli v333 c128_i32_133
  v340
def k0_off5 (i : grid0.Coords) (k0_t4 : Fin (k0_t4_loop i).trips) (c0_i32_122 : BitVec 32) : Fin 2 → Nat :=
  let arg1 : BitVec 32 := BitVec.ofNat 32 (i 1).val
  let c4_i32_102 : BitVec 32 := 4#32
  let c4_i32 : BitVec 32 := 4#32
  let v256 : BitVec 32 := Scalar.subi arg1 c4_i32
  let c0_i32_90 : BitVec 32 := 0#32
  let v258 : BitVec 1 := Scalar.cmpi .sgt v256 c0_i32_90
  let v259 : BitVec 32 := Scalar.extui v258
  let c0_i32_91 : BitVec 32 := 0#32
  let v260 : BitVec 1 := Scalar.cmpi .slt v256 c0_i32_91
  let v261 : BitVec 32 := Scalar.extui v260
  let v262 : BitVec 32 := Scalar.subi v259 v261
  let c8_i32 : BitVec 32 := 8#32
  let c0_i32_92 : BitVec 32 := 0#32
  let v263 : BitVec 1 := Scalar.cmpi .sgt c8_i32 c0_i32_92
  let v264 : BitVec 32 := Scalar.extui v263
  let c0_i32_93 : BitVec 32 := 0#32
  let v265 : BitVec 1 := Scalar.cmpi .slt c8_i32 c0_i32_93
  let v266 : BitVec 32 := Scalar.extui v265
  let v267 : BitVec 32 := Scalar.subi v264 v266
  let v268 : BitVec 1 := Scalar.cmpi .ne v262 v267
  let v269 : BitVec 32 := Scalar.remsi v256 c8_i32
  let c0_i32_94 : BitVec 32 := 0#32
  let v270 : BitVec 1 := Scalar.cmpi .ne v269 c0_i32_94
  let v271 : BitVec 1 := Scalar.andi v268 v270
  let v257 : BitVec 32 := Scalar.divsi v256 c8_i32
  let c1_i32_95 : BitVec 32 := 1#32
  let v272 : BitVec 32 := Scalar.subi v257 c1_i32_95
  let v273 : BitVec 32 := Scalar.select v271 v272 v257
  let c0_i32_96 : BitVec 32 := 0#32
  let v274 : BitVec 32 := Scalar.maxsi v273 c0_i32_96
  let c8_i32_101 : BitVec 32 := 8#32
  let v282 : BitVec 32 := Scalar.muli v274 c8_i32_101
  let v283 : BitVec 32 := Scalar.addi c4_i32_102 v282
  let c0_i32_112 : BitVec 32 := 0#32
  let v284 : BitVec 32 := Scalar.subi arg1 v283
  let c4_i32_103 : BitVec 32 := 4#32
  let v285 : BitVec 32 := Scalar.addi v284 c4_i32_103
  let c0_i32_105 : BitVec 32 := 0#32
  let v287 : BitVec 1 := Scalar.cmpi .sgt v285 c0_i32_105
  let v288 : BitVec 32 := Scalar.extui v287
  let c0_i32_106 : BitVec 32 := 0#32
  let v289 : BitVec 1 := Scalar.cmpi .slt v285 c0_i32_106
  let v290 : BitVec 32 := Scalar.extui v289
  let v291 : BitVec 32 := Scalar.subi v288 v290
  let c4_i32_104 : BitVec 32 := 4#32
  let c0_i32_107 : BitVec 32 := 0#32
  let v292 : BitVec 1 := Scalar.cmpi .sgt c4_i32_104 c0_i32_107
  let v293 : BitVec 32 := Scalar.extui v292
  let c0_i32_108 : BitVec 32 := 0#32
  let v294 : BitVec 1 := Scalar.cmpi .slt c4_i32_104 c0_i32_108
  let v295 : BitVec 32 := Scalar.extui v294
  let v296 : BitVec 32 := Scalar.subi v293 v295
  let v297 : BitVec 1 := Scalar.cmpi .ne v291 v296
  let v298 : BitVec 32 := Scalar.remsi v285 c4_i32_104
  let c0_i32_109 : BitVec 32 := 0#32
  let v299 : BitVec 1 := Scalar.cmpi .ne v298 c0_i32_109
  let v300 : BitVec 1 := Scalar.andi v297 v299
  let v286 : BitVec 32 := Scalar.divsi v285 c4_i32_104
  let c1_i32_110 : BitVec 32 := 1#32
  let v301 : BitVec 32 := Scalar.subi v286 c1_i32_110
  let v302 : BitVec 32 := Scalar.select v300 v301 v286
  let c0_i32_111 : BitVec 32 := 0#32
  let v303 : BitVec 32 := Scalar.maxsi v302 c0_i32_111
  let v304 : BitVec 32 := Scalar.subi v303 c0_i32_112
  let c1_i32_113 : BitVec 32 := 1#32
  let v306 : BitVec 32 := Scalar.divsi v304 c1_i32_113
  let v307 : BitVec 32 := Scalar.muli v306 c1_i32_113
  let v308 : BitVec 32 := Scalar.addi c0_i32_112 v307
  let c1_i32_115 : BitVec 32 := 1#32
  let arg7 : BitVec 32 := Scf.iv v308 c1_i32_115 k0_t4
  let c4_i32_121 : BitVec 32 := 4#32
  let v320 : BitVec 32 := Scalar.muli arg7 c4_i32_121
  let v321 : BitVec 32 := Scalar.addi v283 v320
  let v322 : BitVec 32 := Scalar.addi v321 c0_i32_122
  let v323 : BitVec 32 := Scalar.subi arg1 v322
  let c0_i32_126 : BitVec 32 := 0#32
  let v330 : BitVec 32 := Scalar.maxsi v323 c0_i32_126
  let c128_i32_130 : BitVec 32 := 128#32
  let v334 : BitVec 32 := Scalar.muli v330 c128_i32_130
  let v335 : BitVec 32 := v334
  let v366 : Index := Scalar.indexCast v335
  let c0_154 : Index := 0#32
  ![v366.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 65], ![false, false]⟩

def k1_mult1 (i : grid1.Coords) : BitVec 32 :=
  let arg1 : BitVec 32 := BitVec.ofNat 32 (i 1).val
  let c0_i32_14 : BitVec 32 := 0#32
  let v50 : BitVec 32 := Scalar.subi arg1 c0_i32_14
  let c0_i32_15 : BitVec 32 := 0#32
  let v54 : BitVec 32 := Scalar.maxsi v50 c0_i32_15
  let c128_i32 : BitVec 32 := 128#32
  let v58 : BitVec 32 := Scalar.muli v54 c128_i32
  v58
def k1_mult2 (i : grid1.Coords) : BitVec 32 :=
  let arg1 : BitVec 32 := BitVec.ofNat 32 (i 1).val
  let c1_i32 : BitVec 32 := 1#32
  let v51 : BitVec 32 := Scalar.subi arg1 c1_i32
  let c0_i32_16 : BitVec 32 := 0#32
  let v55 : BitVec 32 := Scalar.maxsi v51 c0_i32_16
  let c128_i32_19 : BitVec 32 := 128#32
  let v60 : BitVec 32 := Scalar.muli v55 c128_i32_19
  v60
def k1_mult3 (i : grid1.Coords) : BitVec 32 :=
  let arg1 : BitVec 32 := BitVec.ofNat 32 (i 1).val
  let c2_i32 : BitVec 32 := 2#32
  let v52 : BitVec 32 := Scalar.subi arg1 c2_i32
  let c0_i32_17 : BitVec 32 := 0#32
  let v56 : BitVec 32 := Scalar.maxsi v52 c0_i32_17
  let c128_i32_20 : BitVec 32 := 128#32
  let v62 : BitVec 32 := Scalar.muli v56 c128_i32_20
  v62
def k1_mult4 (i : grid1.Coords) : BitVec 32 :=
  let arg1 : BitVec 32 := BitVec.ofNat 32 (i 1).val
  let c3_i32 : BitVec 32 := 3#32
  let v53 : BitVec 32 := Scalar.subi arg1 c3_i32
  let c0_i32_18 : BitVec 32 := 0#32
  let v57 : BitVec 32 := Scalar.maxsi v53 c0_i32_18
  let c128_i32_21 : BitVec 32 := 128#32
  let v64 : BitVec 32 := Scalar.muli v57 c128_i32_21
  v64
def k1_off1 (i : grid1.Coords) (c0_i32_14 : BitVec 32) : Fin 2 → Nat :=
  let arg1 : BitVec 32 := BitVec.ofNat 32 (i 1).val
  let v50 : BitVec 32 := Scalar.subi arg1 c0_i32_14
  let c0_i32_15 : BitVec 32 := 0#32
  let v54 : BitVec 32 := Scalar.maxsi v50 c0_i32_15
  let c128_i32 : BitVec 32 := 128#32
  let v58 : BitVec 32 := Scalar.muli v54 c128_i32
  let v59 : BitVec 32 := v58
  let v90 : Index := Scalar.indexCast v59
  let c0_41 : Index := 0#32
  ![v90.toNat, 0]
@[reducible] def k1_t1_loop (i : grid1.Coords) : Scf.Loop 32 :=
  let c0_i32_172 : BitVec 32 := 0#32
  let arg1 : BitVec 32 := BitVec.ofNat 32 (i 1).val
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_174 : BitVec 32 := 1#32
  ⟨c0_i32_172, v501, c1_i32_174⟩
def k1_mult5 (i : grid1.Coords) (k1_t1 : Fin (k1_t1_loop i).trips) : BitVec 32 :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let c0_i32_197 : BitVec 32 := 0#32
  let v544 : BitVec 32 := Scalar.addi v543 c0_i32_197
  let v545 : BitVec 32 := Scalar.subi arg1 v544
  let c0_i32_202 : BitVec 32 := 0#32
  let v560 : BitVec 32 := Scalar.maxsi v545 c0_i32_202
  let c128_i32_210 : BitVec 32 := 128#32
  let v568 : BitVec 32 := Scalar.muli v560 c128_i32_210
  v568
def k1_mult6 (i : grid1.Coords) (k1_t1 : Fin (k1_t1_loop i).trips) : BitVec 32 :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let c1_i32_198 : BitVec 32 := 1#32
  let v546 : BitVec 32 := Scalar.addi v543 c1_i32_198
  let v547 : BitVec 32 := Scalar.subi arg1 v546
  let c0_i32_203 : BitVec 32 := 0#32
  let v561 : BitVec 32 := Scalar.maxsi v547 c0_i32_203
  let c128_i32_211 : BitVec 32 := 128#32
  let v570 : BitVec 32 := Scalar.muli v561 c128_i32_211
  v570
def k1_mult7 (i : grid1.Coords) (k1_t1 : Fin (k1_t1_loop i).trips) : BitVec 32 :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let c2_i32_199 : BitVec 32 := 2#32
  let v548 : BitVec 32 := Scalar.addi v543 c2_i32_199
  let v549 : BitVec 32 := Scalar.subi arg1 v548
  let c0_i32_204 : BitVec 32 := 0#32
  let v562 : BitVec 32 := Scalar.maxsi v549 c0_i32_204
  let c128_i32_212 : BitVec 32 := 128#32
  let v572 : BitVec 32 := Scalar.muli v562 c128_i32_212
  v572
def k1_mult8 (i : grid1.Coords) (k1_t1 : Fin (k1_t1_loop i).trips) : BitVec 32 :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let c3_i32_200 : BitVec 32 := 3#32
  let v550 : BitVec 32 := Scalar.addi v543 c3_i32_200
  let v551 : BitVec 32 := Scalar.subi arg1 v550
  let c0_i32_205 : BitVec 32 := 0#32
  let v563 : BitVec 32 := Scalar.maxsi v551 c0_i32_205
  let c128_i32_213 : BitVec 32 := 128#32
  let v574 : BitVec 32 := Scalar.muli v563 c128_i32_213
  v574
def k1_mult9 (i : grid1.Coords) (k1_t1 : Fin (k1_t1_loop i).trips) : BitVec 32 :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let c4_i32_201 : BitVec 32 := 4#32
  let v552 : BitVec 32 := Scalar.addi v543 c4_i32_201
  let v553 : BitVec 32 := Scalar.subi arg1 v552
  let c0_i32_206 : BitVec 32 := 0#32
  let v564 : BitVec 32 := Scalar.maxsi v553 c0_i32_206
  let c128_i32_214 : BitVec 32 := 128#32
  let v576 : BitVec 32 := Scalar.muli v564 c128_i32_214
  v576
def k1_mult10 (i : grid1.Coords) (k1_t1 : Fin (k1_t1_loop i).trips) : BitVec 32 :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let c5_i32 : BitVec 32 := 5#32
  let v554 : BitVec 32 := Scalar.addi v543 c5_i32
  let v555 : BitVec 32 := Scalar.subi arg1 v554
  let c0_i32_207 : BitVec 32 := 0#32
  let v565 : BitVec 32 := Scalar.maxsi v555 c0_i32_207
  let c128_i32_215 : BitVec 32 := 128#32
  let v578 : BitVec 32 := Scalar.muli v565 c128_i32_215
  v578
def k1_mult11 (i : grid1.Coords) (k1_t1 : Fin (k1_t1_loop i).trips) : BitVec 32 :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let c6_i32 : BitVec 32 := 6#32
  let v556 : BitVec 32 := Scalar.addi v543 c6_i32
  let v557 : BitVec 32 := Scalar.subi arg1 v556
  let c0_i32_208 : BitVec 32 := 0#32
  let v566 : BitVec 32 := Scalar.maxsi v557 c0_i32_208
  let c128_i32_216 : BitVec 32 := 128#32
  let v580 : BitVec 32 := Scalar.muli v566 c128_i32_216
  v580
def k1_mult12 (i : grid1.Coords) (k1_t1 : Fin (k1_t1_loop i).trips) : BitVec 32 :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let c7_i32 : BitVec 32 := 7#32
  let v558 : BitVec 32 := Scalar.addi v543 c7_i32
  let v559 : BitVec 32 := Scalar.subi arg1 v558
  let c0_i32_209 : BitVec 32 := 0#32
  let v567 : BitVec 32 := Scalar.maxsi v559 c0_i32_209
  let c128_i32_217 : BitVec 32 := 128#32
  let v582 : BitVec 32 := Scalar.muli v567 c128_i32_217
  v582
def k1_off2 (i : grid1.Coords) (k1_t1 : Fin (k1_t1_loop i).trips) (c0_i32_197 : BitVec 32) : Fin 2 → Nat :=
  let arg1 : BitVec 32 := BitVec.ofNat 32 (i 1).val
  let c4_i32_196 : BitVec 32 := 4#32
  let c0_i32_172 : BitVec 32 := 0#32
  let c1_i32_174 : BitVec 32 := 1#32
  let arg10 : BitVec 32 := Scf.iv c0_i32_172 c1_i32_174 k1_t1
  let c8_i32_195 : BitVec 32 := 8#32
  let v542 : BitVec 32 := Scalar.muli arg10 c8_i32_195
  let v543 : BitVec 32 := Scalar.addi c4_i32_196 v542
  let v544 : BitVec 32 := Scalar.addi v543 c0_i32_197
  let v545 : BitVec 32 := Scalar.subi arg1 v544
  let c0_i32_202 : BitVec 32 := 0#32
  let v560 : BitVec 32 := Scalar.maxsi v545 c0_i32_202
  let c128_i32_210 : BitVec 32 := 128#32
  let v568 : BitVec 32 := Scalar.muli v560 c128_i32_210
  let v569 : BitVec 32 := v568
  let v584 : Index := Scalar.indexCast v569
  let c0_218 : Index := 0#32
  ![v584.toNat, 0]
@[reducible] def k1_t2_loop (i : grid1.Coords) : Scf.Loop 32 :=
  let c0_i32_172 : BitVec 32 := 0#32
  let arg1 : BitVec 32 := BitVec.ofNat 32 (i 1).val
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let v498 : BitVec 32 := Scalar.addi c0_i32_172 v497
  let c1_i32_175 : BitVec 32 := 1#32
  ⟨v501, v498, c1_i32_175⟩
def k1_mult13 (i : grid1.Coords) (k1_t2 : Fin (k1_t2_loop i).trips) : BitVec 32 :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let c0_i32_197 : BitVec 32 := 0#32
  let v544 : BitVec 32 := Scalar.addi v543 c0_i32_197
  let v545 : BitVec 32 := Scalar.subi arg1 v544
  let c0_i32_202 : BitVec 32 := 0#32
  let v560 : BitVec 32 := Scalar.maxsi v545 c0_i32_202
  let c128_i32_210 : BitVec 32 := 128#32
  let v568 : BitVec 32 := Scalar.muli v560 c128_i32_210
  v568
def k1_mult14 (i : grid1.Coords) (k1_t2 : Fin (k1_t2_loop i).trips) : BitVec 32 :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let c1_i32_198 : BitVec 32 := 1#32
  let v546 : BitVec 32 := Scalar.addi v543 c1_i32_198
  let v547 : BitVec 32 := Scalar.subi arg1 v546
  let c0_i32_203 : BitVec 32 := 0#32
  let v561 : BitVec 32 := Scalar.maxsi v547 c0_i32_203
  let c128_i32_211 : BitVec 32 := 128#32
  let v570 : BitVec 32 := Scalar.muli v561 c128_i32_211
  v570
def k1_mult15 (i : grid1.Coords) (k1_t2 : Fin (k1_t2_loop i).trips) : BitVec 32 :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let c2_i32_199 : BitVec 32 := 2#32
  let v548 : BitVec 32 := Scalar.addi v543 c2_i32_199
  let v549 : BitVec 32 := Scalar.subi arg1 v548
  let c0_i32_204 : BitVec 32 := 0#32
  let v562 : BitVec 32 := Scalar.maxsi v549 c0_i32_204
  let c128_i32_212 : BitVec 32 := 128#32
  let v572 : BitVec 32 := Scalar.muli v562 c128_i32_212
  v572
def k1_mult16 (i : grid1.Coords) (k1_t2 : Fin (k1_t2_loop i).trips) : BitVec 32 :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let c3_i32_200 : BitVec 32 := 3#32
  let v550 : BitVec 32 := Scalar.addi v543 c3_i32_200
  let v551 : BitVec 32 := Scalar.subi arg1 v550
  let c0_i32_205 : BitVec 32 := 0#32
  let v563 : BitVec 32 := Scalar.maxsi v551 c0_i32_205
  let c128_i32_213 : BitVec 32 := 128#32
  let v574 : BitVec 32 := Scalar.muli v563 c128_i32_213
  v574
def k1_mult17 (i : grid1.Coords) (k1_t2 : Fin (k1_t2_loop i).trips) : BitVec 32 :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let c4_i32_201 : BitVec 32 := 4#32
  let v552 : BitVec 32 := Scalar.addi v543 c4_i32_201
  let v553 : BitVec 32 := Scalar.subi arg1 v552
  let c0_i32_206 : BitVec 32 := 0#32
  let v564 : BitVec 32 := Scalar.maxsi v553 c0_i32_206
  let c128_i32_214 : BitVec 32 := 128#32
  let v576 : BitVec 32 := Scalar.muli v564 c128_i32_214
  v576
def k1_mult18 (i : grid1.Coords) (k1_t2 : Fin (k1_t2_loop i).trips) : BitVec 32 :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let c5_i32 : BitVec 32 := 5#32
  let v554 : BitVec 32 := Scalar.addi v543 c5_i32
  let v555 : BitVec 32 := Scalar.subi arg1 v554
  let c0_i32_207 : BitVec 32 := 0#32
  let v565 : BitVec 32 := Scalar.maxsi v555 c0_i32_207
  let c128_i32_215 : BitVec 32 := 128#32
  let v578 : BitVec 32 := Scalar.muli v565 c128_i32_215
  v578
def k1_mult19 (i : grid1.Coords) (k1_t2 : Fin (k1_t2_loop i).trips) : BitVec 32 :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let c6_i32 : BitVec 32 := 6#32
  let v556 : BitVec 32 := Scalar.addi v543 c6_i32
  let v557 : BitVec 32 := Scalar.subi arg1 v556
  let c0_i32_208 : BitVec 32 := 0#32
  let v566 : BitVec 32 := Scalar.maxsi v557 c0_i32_208
  let c128_i32_216 : BitVec 32 := 128#32
  let v580 : BitVec 32 := Scalar.muli v566 c128_i32_216
  v580
def k1_mult20 (i : grid1.Coords) (k1_t2 : Fin (k1_t2_loop i).trips) : BitVec 32 :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let c7_i32 : BitVec 32 := 7#32
  let v558 : BitVec 32 := Scalar.addi v543 c7_i32
  let v559 : BitVec 32 := Scalar.subi arg1 v558
  let c0_i32_209 : BitVec 32 := 0#32
  let v567 : BitVec 32 := Scalar.maxsi v559 c0_i32_209
  let c128_i32_217 : BitVec 32 := 128#32
  let v582 : BitVec 32 := Scalar.muli v567 c128_i32_217
  v582
def k1_off3 (i : grid1.Coords) (k1_t2 : Fin (k1_t2_loop i).trips) (c0_i32_197 : BitVec 32) : Fin 2 → Nat :=
  let arg1 : BitVec 32 := BitVec.ofNat 32 (i 1).val
  let c4_i32_196 : BitVec 32 := 4#32
  let c0_i32_172 : BitVec 32 := 0#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let v497 : BitVec 32 := Scalar.subi v496 c0_i32_172
  let c1_i32_173 : BitVec 32 := 1#32
  let v499 : BitVec 32 := Scalar.divsi v497 c1_i32_173
  let v500 : BitVec 32 := Scalar.muli v499 c1_i32_173
  let v501 : BitVec 32 := Scalar.addi c0_i32_172 v500
  let c1_i32_175 : BitVec 32 := 1#32
  let arg10 : BitVec 32 := Scf.iv v501 c1_i32_175 k1_t2
  let c8_i32_195 : BitVec 32 := 8#32
  let v542 : BitVec 32 := Scalar.muli arg10 c8_i32_195
  let v543 : BitVec 32 := Scalar.addi c4_i32_196 v542
  let v544 : BitVec 32 := Scalar.addi v543 c0_i32_197
  let v545 : BitVec 32 := Scalar.subi arg1 v544
  let c0_i32_202 : BitVec 32 := 0#32
  let v560 : BitVec 32 := Scalar.maxsi v545 c0_i32_202
  let c128_i32_210 : BitVec 32 := 128#32
  let v568 : BitVec 32 := Scalar.muli v560 c128_i32_210
  let v569 : BitVec 32 := v568
  let v584 : Index := Scalar.indexCast v569
  let c0_218 : Index := 0#32
  ![v584.toNat, 0]
@[reducible] def k1_t3_loop (i : grid1.Coords) : Scf.Loop 32 :=
  let c0_i32_187 : BitVec 32 := 0#32
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let v506 : BitVec 32 := Scalar.subi arg1 v505
  let c4_i32_178 : BitVec 32 := 4#32
  let v507 : BitVec 32 := Scalar.addi v506 c4_i32_178
  let c0_i32_180 : BitVec 32 := 0#32
  let v509 : BitVec 1 := Scalar.cmpi .sgt v507 c0_i32_180
  let v510 : BitVec 32 := Scalar.extui v509
  let c0_i32_181 : BitVec 32 := 0#32
  let v511 : BitVec 1 := Scalar.cmpi .slt v507 c0_i32_181
  let v512 : BitVec 32 := Scalar.extui v511
  let v513 : BitVec 32 := Scalar.subi v510 v512
  let c4_i32_179 : BitVec 32 := 4#32
  let c0_i32_182 : BitVec 32 := 0#32
  let v514 : BitVec 1 := Scalar.cmpi .sgt c4_i32_179 c0_i32_182
  let v515 : BitVec 32 := Scalar.extui v514
  let c0_i32_183 : BitVec 32 := 0#32
  let v516 : BitVec 1 := Scalar.cmpi .slt c4_i32_179 c0_i32_183
  let v517 : BitVec 32 := Scalar.extui v516
  let v518 : BitVec 32 := Scalar.subi v515 v517
  let v519 : BitVec 1 := Scalar.cmpi .ne v513 v518
  let v520 : BitVec 32 := Scalar.remsi v507 c4_i32_179
  let c0_i32_184 : BitVec 32 := 0#32
  let v521 : BitVec 1 := Scalar.cmpi .ne v520 c0_i32_184
  let v522 : BitVec 1 := Scalar.andi v519 v521
  let v508 : BitVec 32 := Scalar.divsi v507 c4_i32_179
  let c1_i32_185 : BitVec 32 := 1#32
  let v523 : BitVec 32 := Scalar.subi v508 c1_i32_185
  let v524 : BitVec 32 := Scalar.select v522 v523 v508
  let c0_i32_186 : BitVec 32 := 0#32
  let v525 : BitVec 32 := Scalar.maxsi v524 c0_i32_186
  let v526 : BitVec 32 := Scalar.subi v525 c0_i32_187
  let c1_i32_188 : BitVec 32 := 1#32
  let v528 : BitVec 32 := Scalar.divsi v526 c1_i32_188
  let v529 : BitVec 32 := Scalar.muli v528 c1_i32_188
  let v530 : BitVec 32 := Scalar.addi c0_i32_187 v529
  let c1_i32_189 : BitVec 32 := 1#32
  ⟨c0_i32_187, v530, c1_i32_189⟩
def k1_mult21 (i : grid1.Coords) (k1_t3 : Fin (k1_t3_loop i).trips) : BitVec 32 :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let c1_i32_189 : BitVec 32 := 1#32
  let arg10 : BitVec 32 := Scf.iv c0_i32_187 c1_i32_189 k1_t3
  let c4_i32_195 : BitVec 32 := 4#32
  let v542 : BitVec 32 := Scalar.muli arg10 c4_i32_195
  let v543 : BitVec 32 := Scalar.addi v505 v542
  let c0_i32_196 : BitVec 32 := 0#32
  let v544 : BitVec 32 := Scalar.addi v543 c0_i32_196
  let v545 : BitVec 32 := Scalar.subi arg1 v544
  let c0_i32_200 : BitVec 32 := 0#32
  let v552 : BitVec 32 := Scalar.maxsi v545 c0_i32_200
  let c128_i32_204 : BitVec 32 := 128#32
  let v556 : BitVec 32 := Scalar.muli v552 c128_i32_204
  v556
def k1_mult22 (i : grid1.Coords) (k1_t3 : Fin (k1_t3_loop i).trips) : BitVec 32 :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let c1_i32_189 : BitVec 32 := 1#32
  let arg10 : BitVec 32 := Scf.iv c0_i32_187 c1_i32_189 k1_t3
  let c4_i32_195 : BitVec 32 := 4#32
  let v542 : BitVec 32 := Scalar.muli arg10 c4_i32_195
  let v543 : BitVec 32 := Scalar.addi v505 v542
  let c1_i32_197 : BitVec 32 := 1#32
  let v546 : BitVec 32 := Scalar.addi v543 c1_i32_197
  let v547 : BitVec 32 := Scalar.subi arg1 v546
  let c0_i32_201 : BitVec 32 := 0#32
  let v553 : BitVec 32 := Scalar.maxsi v547 c0_i32_201
  let c128_i32_205 : BitVec 32 := 128#32
  let v558 : BitVec 32 := Scalar.muli v553 c128_i32_205
  v558
def k1_mult23 (i : grid1.Coords) (k1_t3 : Fin (k1_t3_loop i).trips) : BitVec 32 :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let c1_i32_189 : BitVec 32 := 1#32
  let arg10 : BitVec 32 := Scf.iv c0_i32_187 c1_i32_189 k1_t3
  let c4_i32_195 : BitVec 32 := 4#32
  let v542 : BitVec 32 := Scalar.muli arg10 c4_i32_195
  let v543 : BitVec 32 := Scalar.addi v505 v542
  let c2_i32_198 : BitVec 32 := 2#32
  let v548 : BitVec 32 := Scalar.addi v543 c2_i32_198
  let v549 : BitVec 32 := Scalar.subi arg1 v548
  let c0_i32_202 : BitVec 32 := 0#32
  let v554 : BitVec 32 := Scalar.maxsi v549 c0_i32_202
  let c128_i32_206 : BitVec 32 := 128#32
  let v560 : BitVec 32 := Scalar.muli v554 c128_i32_206
  v560
def k1_mult24 (i : grid1.Coords) (k1_t3 : Fin (k1_t3_loop i).trips) : BitVec 32 :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let c1_i32_189 : BitVec 32 := 1#32
  let arg10 : BitVec 32 := Scf.iv c0_i32_187 c1_i32_189 k1_t3
  let c4_i32_195 : BitVec 32 := 4#32
  let v542 : BitVec 32 := Scalar.muli arg10 c4_i32_195
  let v543 : BitVec 32 := Scalar.addi v505 v542
  let c3_i32_199 : BitVec 32 := 3#32
  let v550 : BitVec 32 := Scalar.addi v543 c3_i32_199
  let v551 : BitVec 32 := Scalar.subi arg1 v550
  let c0_i32_203 : BitVec 32 := 0#32
  let v555 : BitVec 32 := Scalar.maxsi v551 c0_i32_203
  let c128_i32_207 : BitVec 32 := 128#32
  let v562 : BitVec 32 := Scalar.muli v555 c128_i32_207
  v562
def k1_off4 (i : grid1.Coords) (k1_t3 : Fin (k1_t3_loop i).trips) (c0_i32_196 : BitVec 32) : Fin 2 → Nat :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let c1_i32_189 : BitVec 32 := 1#32
  let arg10 : BitVec 32 := Scf.iv c0_i32_187 c1_i32_189 k1_t3
  let c4_i32_195 : BitVec 32 := 4#32
  let v542 : BitVec 32 := Scalar.muli arg10 c4_i32_195
  let v543 : BitVec 32 := Scalar.addi v505 v542
  let v544 : BitVec 32 := Scalar.addi v543 c0_i32_196
  let v545 : BitVec 32 := Scalar.subi arg1 v544
  let c0_i32_200 : BitVec 32 := 0#32
  let v552 : BitVec 32 := Scalar.maxsi v545 c0_i32_200
  let c128_i32_204 : BitVec 32 := 128#32
  let v556 : BitVec 32 := Scalar.muli v552 c128_i32_204
  let v557 : BitVec 32 := v556
  let v588 : Index := Scalar.indexCast v557
  let c0_228 : Index := 0#32
  ![v588.toNat, 0]
@[reducible] def k1_t4_loop (i : grid1.Coords) : Scf.Loop 32 :=
  let c0_i32_187 : BitVec 32 := 0#32
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let v506 : BitVec 32 := Scalar.subi arg1 v505
  let c4_i32_178 : BitVec 32 := 4#32
  let v507 : BitVec 32 := Scalar.addi v506 c4_i32_178
  let c0_i32_180 : BitVec 32 := 0#32
  let v509 : BitVec 1 := Scalar.cmpi .sgt v507 c0_i32_180
  let v510 : BitVec 32 := Scalar.extui v509
  let c0_i32_181 : BitVec 32 := 0#32
  let v511 : BitVec 1 := Scalar.cmpi .slt v507 c0_i32_181
  let v512 : BitVec 32 := Scalar.extui v511
  let v513 : BitVec 32 := Scalar.subi v510 v512
  let c4_i32_179 : BitVec 32 := 4#32
  let c0_i32_182 : BitVec 32 := 0#32
  let v514 : BitVec 1 := Scalar.cmpi .sgt c4_i32_179 c0_i32_182
  let v515 : BitVec 32 := Scalar.extui v514
  let c0_i32_183 : BitVec 32 := 0#32
  let v516 : BitVec 1 := Scalar.cmpi .slt c4_i32_179 c0_i32_183
  let v517 : BitVec 32 := Scalar.extui v516
  let v518 : BitVec 32 := Scalar.subi v515 v517
  let v519 : BitVec 1 := Scalar.cmpi .ne v513 v518
  let v520 : BitVec 32 := Scalar.remsi v507 c4_i32_179
  let c0_i32_184 : BitVec 32 := 0#32
  let v521 : BitVec 1 := Scalar.cmpi .ne v520 c0_i32_184
  let v522 : BitVec 1 := Scalar.andi v519 v521
  let v508 : BitVec 32 := Scalar.divsi v507 c4_i32_179
  let c1_i32_185 : BitVec 32 := 1#32
  let v523 : BitVec 32 := Scalar.subi v508 c1_i32_185
  let v524 : BitVec 32 := Scalar.select v522 v523 v508
  let c0_i32_186 : BitVec 32 := 0#32
  let v525 : BitVec 32 := Scalar.maxsi v524 c0_i32_186
  let v526 : BitVec 32 := Scalar.subi v525 c0_i32_187
  let c1_i32_188 : BitVec 32 := 1#32
  let v528 : BitVec 32 := Scalar.divsi v526 c1_i32_188
  let v529 : BitVec 32 := Scalar.muli v528 c1_i32_188
  let v530 : BitVec 32 := Scalar.addi c0_i32_187 v529
  let v527 : BitVec 32 := Scalar.addi c0_i32_187 v526
  let c1_i32_190 : BitVec 32 := 1#32
  ⟨v530, v527, c1_i32_190⟩
def k1_mult25 (i : grid1.Coords) (k1_t4 : Fin (k1_t4_loop i).trips) : BitVec 32 :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let v506 : BitVec 32 := Scalar.subi arg1 v505
  let c4_i32_178 : BitVec 32 := 4#32
  let v507 : BitVec 32 := Scalar.addi v506 c4_i32_178
  let c0_i32_180 : BitVec 32 := 0#32
  let v509 : BitVec 1 := Scalar.cmpi .sgt v507 c0_i32_180
  let v510 : BitVec 32 := Scalar.extui v509
  let c0_i32_181 : BitVec 32 := 0#32
  let v511 : BitVec 1 := Scalar.cmpi .slt v507 c0_i32_181
  let v512 : BitVec 32 := Scalar.extui v511
  let v513 : BitVec 32 := Scalar.subi v510 v512
  let c4_i32_179 : BitVec 32 := 4#32
  let c0_i32_182 : BitVec 32 := 0#32
  let v514 : BitVec 1 := Scalar.cmpi .sgt c4_i32_179 c0_i32_182
  let v515 : BitVec 32 := Scalar.extui v514
  let c0_i32_183 : BitVec 32 := 0#32
  let v516 : BitVec 1 := Scalar.cmpi .slt c4_i32_179 c0_i32_183
  let v517 : BitVec 32 := Scalar.extui v516
  let v518 : BitVec 32 := Scalar.subi v515 v517
  let v519 : BitVec 1 := Scalar.cmpi .ne v513 v518
  let v520 : BitVec 32 := Scalar.remsi v507 c4_i32_179
  let c0_i32_184 : BitVec 32 := 0#32
  let v521 : BitVec 1 := Scalar.cmpi .ne v520 c0_i32_184
  let v522 : BitVec 1 := Scalar.andi v519 v521
  let v508 : BitVec 32 := Scalar.divsi v507 c4_i32_179
  let c1_i32_185 : BitVec 32 := 1#32
  let v523 : BitVec 32 := Scalar.subi v508 c1_i32_185
  let v524 : BitVec 32 := Scalar.select v522 v523 v508
  let c0_i32_186 : BitVec 32 := 0#32
  let v525 : BitVec 32 := Scalar.maxsi v524 c0_i32_186
  let v526 : BitVec 32 := Scalar.subi v525 c0_i32_187
  let c1_i32_188 : BitVec 32 := 1#32
  let v528 : BitVec 32 := Scalar.divsi v526 c1_i32_188
  let v529 : BitVec 32 := Scalar.muli v528 c1_i32_188
  let v530 : BitVec 32 := Scalar.addi c0_i32_187 v529
  let c1_i32_190 : BitVec 32 := 1#32
  let arg10 : BitVec 32 := Scf.iv v530 c1_i32_190 k1_t4
  let c4_i32_195 : BitVec 32 := 4#32
  let v542 : BitVec 32 := Scalar.muli arg10 c4_i32_195
  let v543 : BitVec 32 := Scalar.addi v505 v542
  let c0_i32_196 : BitVec 32 := 0#32
  let v544 : BitVec 32 := Scalar.addi v543 c0_i32_196
  let v545 : BitVec 32 := Scalar.subi arg1 v544
  let c0_i32_200 : BitVec 32 := 0#32
  let v552 : BitVec 32 := Scalar.maxsi v545 c0_i32_200
  let c128_i32_204 : BitVec 32 := 128#32
  let v556 : BitVec 32 := Scalar.muli v552 c128_i32_204
  v556
def k1_mult26 (i : grid1.Coords) (k1_t4 : Fin (k1_t4_loop i).trips) : BitVec 32 :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let v506 : BitVec 32 := Scalar.subi arg1 v505
  let c4_i32_178 : BitVec 32 := 4#32
  let v507 : BitVec 32 := Scalar.addi v506 c4_i32_178
  let c0_i32_180 : BitVec 32 := 0#32
  let v509 : BitVec 1 := Scalar.cmpi .sgt v507 c0_i32_180
  let v510 : BitVec 32 := Scalar.extui v509
  let c0_i32_181 : BitVec 32 := 0#32
  let v511 : BitVec 1 := Scalar.cmpi .slt v507 c0_i32_181
  let v512 : BitVec 32 := Scalar.extui v511
  let v513 : BitVec 32 := Scalar.subi v510 v512
  let c4_i32_179 : BitVec 32 := 4#32
  let c0_i32_182 : BitVec 32 := 0#32
  let v514 : BitVec 1 := Scalar.cmpi .sgt c4_i32_179 c0_i32_182
  let v515 : BitVec 32 := Scalar.extui v514
  let c0_i32_183 : BitVec 32 := 0#32
  let v516 : BitVec 1 := Scalar.cmpi .slt c4_i32_179 c0_i32_183
  let v517 : BitVec 32 := Scalar.extui v516
  let v518 : BitVec 32 := Scalar.subi v515 v517
  let v519 : BitVec 1 := Scalar.cmpi .ne v513 v518
  let v520 : BitVec 32 := Scalar.remsi v507 c4_i32_179
  let c0_i32_184 : BitVec 32 := 0#32
  let v521 : BitVec 1 := Scalar.cmpi .ne v520 c0_i32_184
  let v522 : BitVec 1 := Scalar.andi v519 v521
  let v508 : BitVec 32 := Scalar.divsi v507 c4_i32_179
  let c1_i32_185 : BitVec 32 := 1#32
  let v523 : BitVec 32 := Scalar.subi v508 c1_i32_185
  let v524 : BitVec 32 := Scalar.select v522 v523 v508
  let c0_i32_186 : BitVec 32 := 0#32
  let v525 : BitVec 32 := Scalar.maxsi v524 c0_i32_186
  let v526 : BitVec 32 := Scalar.subi v525 c0_i32_187
  let c1_i32_188 : BitVec 32 := 1#32
  let v528 : BitVec 32 := Scalar.divsi v526 c1_i32_188
  let v529 : BitVec 32 := Scalar.muli v528 c1_i32_188
  let v530 : BitVec 32 := Scalar.addi c0_i32_187 v529
  let c1_i32_190 : BitVec 32 := 1#32
  let arg10 : BitVec 32 := Scf.iv v530 c1_i32_190 k1_t4
  let c4_i32_195 : BitVec 32 := 4#32
  let v542 : BitVec 32 := Scalar.muli arg10 c4_i32_195
  let v543 : BitVec 32 := Scalar.addi v505 v542
  let c1_i32_197 : BitVec 32 := 1#32
  let v546 : BitVec 32 := Scalar.addi v543 c1_i32_197
  let v547 : BitVec 32 := Scalar.subi arg1 v546
  let c0_i32_201 : BitVec 32 := 0#32
  let v553 : BitVec 32 := Scalar.maxsi v547 c0_i32_201
  let c128_i32_205 : BitVec 32 := 128#32
  let v558 : BitVec 32 := Scalar.muli v553 c128_i32_205
  v558
def k1_mult27 (i : grid1.Coords) (k1_t4 : Fin (k1_t4_loop i).trips) : BitVec 32 :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let v506 : BitVec 32 := Scalar.subi arg1 v505
  let c4_i32_178 : BitVec 32 := 4#32
  let v507 : BitVec 32 := Scalar.addi v506 c4_i32_178
  let c0_i32_180 : BitVec 32 := 0#32
  let v509 : BitVec 1 := Scalar.cmpi .sgt v507 c0_i32_180
  let v510 : BitVec 32 := Scalar.extui v509
  let c0_i32_181 : BitVec 32 := 0#32
  let v511 : BitVec 1 := Scalar.cmpi .slt v507 c0_i32_181
  let v512 : BitVec 32 := Scalar.extui v511
  let v513 : BitVec 32 := Scalar.subi v510 v512
  let c4_i32_179 : BitVec 32 := 4#32
  let c0_i32_182 : BitVec 32 := 0#32
  let v514 : BitVec 1 := Scalar.cmpi .sgt c4_i32_179 c0_i32_182
  let v515 : BitVec 32 := Scalar.extui v514
  let c0_i32_183 : BitVec 32 := 0#32
  let v516 : BitVec 1 := Scalar.cmpi .slt c4_i32_179 c0_i32_183
  let v517 : BitVec 32 := Scalar.extui v516
  let v518 : BitVec 32 := Scalar.subi v515 v517
  let v519 : BitVec 1 := Scalar.cmpi .ne v513 v518
  let v520 : BitVec 32 := Scalar.remsi v507 c4_i32_179
  let c0_i32_184 : BitVec 32 := 0#32
  let v521 : BitVec 1 := Scalar.cmpi .ne v520 c0_i32_184
  let v522 : BitVec 1 := Scalar.andi v519 v521
  let v508 : BitVec 32 := Scalar.divsi v507 c4_i32_179
  let c1_i32_185 : BitVec 32 := 1#32
  let v523 : BitVec 32 := Scalar.subi v508 c1_i32_185
  let v524 : BitVec 32 := Scalar.select v522 v523 v508
  let c0_i32_186 : BitVec 32 := 0#32
  let v525 : BitVec 32 := Scalar.maxsi v524 c0_i32_186
  let v526 : BitVec 32 := Scalar.subi v525 c0_i32_187
  let c1_i32_188 : BitVec 32 := 1#32
  let v528 : BitVec 32 := Scalar.divsi v526 c1_i32_188
  let v529 : BitVec 32 := Scalar.muli v528 c1_i32_188
  let v530 : BitVec 32 := Scalar.addi c0_i32_187 v529
  let c1_i32_190 : BitVec 32 := 1#32
  let arg10 : BitVec 32 := Scf.iv v530 c1_i32_190 k1_t4
  let c4_i32_195 : BitVec 32 := 4#32
  let v542 : BitVec 32 := Scalar.muli arg10 c4_i32_195
  let v543 : BitVec 32 := Scalar.addi v505 v542
  let c2_i32_198 : BitVec 32 := 2#32
  let v548 : BitVec 32 := Scalar.addi v543 c2_i32_198
  let v549 : BitVec 32 := Scalar.subi arg1 v548
  let c0_i32_202 : BitVec 32 := 0#32
  let v554 : BitVec 32 := Scalar.maxsi v549 c0_i32_202
  let c128_i32_206 : BitVec 32 := 128#32
  let v560 : BitVec 32 := Scalar.muli v554 c128_i32_206
  v560
def k1_mult28 (i : grid1.Coords) (k1_t4 : Fin (k1_t4_loop i).trips) : BitVec 32 :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let v506 : BitVec 32 := Scalar.subi arg1 v505
  let c4_i32_178 : BitVec 32 := 4#32
  let v507 : BitVec 32 := Scalar.addi v506 c4_i32_178
  let c0_i32_180 : BitVec 32 := 0#32
  let v509 : BitVec 1 := Scalar.cmpi .sgt v507 c0_i32_180
  let v510 : BitVec 32 := Scalar.extui v509
  let c0_i32_181 : BitVec 32 := 0#32
  let v511 : BitVec 1 := Scalar.cmpi .slt v507 c0_i32_181
  let v512 : BitVec 32 := Scalar.extui v511
  let v513 : BitVec 32 := Scalar.subi v510 v512
  let c4_i32_179 : BitVec 32 := 4#32
  let c0_i32_182 : BitVec 32 := 0#32
  let v514 : BitVec 1 := Scalar.cmpi .sgt c4_i32_179 c0_i32_182
  let v515 : BitVec 32 := Scalar.extui v514
  let c0_i32_183 : BitVec 32 := 0#32
  let v516 : BitVec 1 := Scalar.cmpi .slt c4_i32_179 c0_i32_183
  let v517 : BitVec 32 := Scalar.extui v516
  let v518 : BitVec 32 := Scalar.subi v515 v517
  let v519 : BitVec 1 := Scalar.cmpi .ne v513 v518
  let v520 : BitVec 32 := Scalar.remsi v507 c4_i32_179
  let c0_i32_184 : BitVec 32 := 0#32
  let v521 : BitVec 1 := Scalar.cmpi .ne v520 c0_i32_184
  let v522 : BitVec 1 := Scalar.andi v519 v521
  let v508 : BitVec 32 := Scalar.divsi v507 c4_i32_179
  let c1_i32_185 : BitVec 32 := 1#32
  let v523 : BitVec 32 := Scalar.subi v508 c1_i32_185
  let v524 : BitVec 32 := Scalar.select v522 v523 v508
  let c0_i32_186 : BitVec 32 := 0#32
  let v525 : BitVec 32 := Scalar.maxsi v524 c0_i32_186
  let v526 : BitVec 32 := Scalar.subi v525 c0_i32_187
  let c1_i32_188 : BitVec 32 := 1#32
  let v528 : BitVec 32 := Scalar.divsi v526 c1_i32_188
  let v529 : BitVec 32 := Scalar.muli v528 c1_i32_188
  let v530 : BitVec 32 := Scalar.addi c0_i32_187 v529
  let c1_i32_190 : BitVec 32 := 1#32
  let arg10 : BitVec 32 := Scf.iv v530 c1_i32_190 k1_t4
  let c4_i32_195 : BitVec 32 := 4#32
  let v542 : BitVec 32 := Scalar.muli arg10 c4_i32_195
  let v543 : BitVec 32 := Scalar.addi v505 v542
  let c3_i32_199 : BitVec 32 := 3#32
  let v550 : BitVec 32 := Scalar.addi v543 c3_i32_199
  let v551 : BitVec 32 := Scalar.subi arg1 v550
  let c0_i32_203 : BitVec 32 := 0#32
  let v555 : BitVec 32 := Scalar.maxsi v551 c0_i32_203
  let c128_i32_207 : BitVec 32 := 128#32
  let v562 : BitVec 32 := Scalar.muli v555 c128_i32_207
  v562
def k1_off5 (i : grid1.Coords) (k1_t4 : Fin (k1_t4_loop i).trips) (c0_i32_196 : BitVec 32) : Fin 2 → Nat :=
  let arg1 : BitVec 32 := BitVec.ofNat 32 (i 1).val
  let c4_i32_177 : BitVec 32 := 4#32
  let c4_i32 : BitVec 32 := 4#32
  let v478 : BitVec 32 := Scalar.subi arg1 c4_i32
  let c0_i32_165 : BitVec 32 := 0#32
  let v480 : BitVec 1 := Scalar.cmpi .sgt v478 c0_i32_165
  let v481 : BitVec 32 := Scalar.extui v480
  let c0_i32_166 : BitVec 32 := 0#32
  let v482 : BitVec 1 := Scalar.cmpi .slt v478 c0_i32_166
  let v483 : BitVec 32 := Scalar.extui v482
  let v484 : BitVec 32 := Scalar.subi v481 v483
  let c8_i32 : BitVec 32 := 8#32
  let c0_i32_167 : BitVec 32 := 0#32
  let v485 : BitVec 1 := Scalar.cmpi .sgt c8_i32 c0_i32_167
  let v486 : BitVec 32 := Scalar.extui v485
  let c0_i32_168 : BitVec 32 := 0#32
  let v487 : BitVec 1 := Scalar.cmpi .slt c8_i32 c0_i32_168
  let v488 : BitVec 32 := Scalar.extui v487
  let v489 : BitVec 32 := Scalar.subi v486 v488
  let v490 : BitVec 1 := Scalar.cmpi .ne v484 v489
  let v491 : BitVec 32 := Scalar.remsi v478 c8_i32
  let c0_i32_169 : BitVec 32 := 0#32
  let v492 : BitVec 1 := Scalar.cmpi .ne v491 c0_i32_169
  let v493 : BitVec 1 := Scalar.andi v490 v492
  let v479 : BitVec 32 := Scalar.divsi v478 c8_i32
  let c1_i32_170 : BitVec 32 := 1#32
  let v494 : BitVec 32 := Scalar.subi v479 c1_i32_170
  let v495 : BitVec 32 := Scalar.select v493 v494 v479
  let c0_i32_171 : BitVec 32 := 0#32
  let v496 : BitVec 32 := Scalar.maxsi v495 c0_i32_171
  let c8_i32_176 : BitVec 32 := 8#32
  let v504 : BitVec 32 := Scalar.muli v496 c8_i32_176
  let v505 : BitVec 32 := Scalar.addi c4_i32_177 v504
  let c0_i32_187 : BitVec 32 := 0#32
  let v506 : BitVec 32 := Scalar.subi arg1 v505
  let c4_i32_178 : BitVec 32 := 4#32
  let v507 : BitVec 32 := Scalar.addi v506 c4_i32_178
  let c0_i32_180 : BitVec 32 := 0#32
  let v509 : BitVec 1 := Scalar.cmpi .sgt v507 c0_i32_180
  let v510 : BitVec 32 := Scalar.extui v509
  let c0_i32_181 : BitVec 32 := 0#32
  let v511 : BitVec 1 := Scalar.cmpi .slt v507 c0_i32_181
  let v512 : BitVec 32 := Scalar.extui v511
  let v513 : BitVec 32 := Scalar.subi v510 v512
  let c4_i32_179 : BitVec 32 := 4#32
  let c0_i32_182 : BitVec 32 := 0#32
  let v514 : BitVec 1 := Scalar.cmpi .sgt c4_i32_179 c0_i32_182
  let v515 : BitVec 32 := Scalar.extui v514
  let c0_i32_183 : BitVec 32 := 0#32
  let v516 : BitVec 1 := Scalar.cmpi .slt c4_i32_179 c0_i32_183
  let v517 : BitVec 32 := Scalar.extui v516
  let v518 : BitVec 32 := Scalar.subi v515 v517
  let v519 : BitVec 1 := Scalar.cmpi .ne v513 v518
  let v520 : BitVec 32 := Scalar.remsi v507 c4_i32_179
  let c0_i32_184 : BitVec 32 := 0#32
  let v521 : BitVec 1 := Scalar.cmpi .ne v520 c0_i32_184
  let v522 : BitVec 1 := Scalar.andi v519 v521
  let v508 : BitVec 32 := Scalar.divsi v507 c4_i32_179
  let c1_i32_185 : BitVec 32 := 1#32
  let v523 : BitVec 32 := Scalar.subi v508 c1_i32_185
  let v524 : BitVec 32 := Scalar.select v522 v523 v508
  let c0_i32_186 : BitVec 32 := 0#32
  let v525 : BitVec 32 := Scalar.maxsi v524 c0_i32_186
  let v526 : BitVec 32 := Scalar.subi v525 c0_i32_187
  let c1_i32_188 : BitVec 32 := 1#32
  let v528 : BitVec 32 := Scalar.divsi v526 c1_i32_188
  let v529 : BitVec 32 := Scalar.muli v528 c1_i32_188
  let v530 : BitVec 32 := Scalar.addi c0_i32_187 v529
  let c1_i32_190 : BitVec 32 := 1#32
  let arg10 : BitVec 32 := Scf.iv v530 c1_i32_190 k1_t4
  let c4_i32_195 : BitVec 32 := 4#32
  let v542 : BitVec 32 := Scalar.muli arg10 c4_i32_195
  let v543 : BitVec 32 := Scalar.addi v505 v542
  let v544 : BitVec 32 := Scalar.addi v543 c0_i32_196
  let v545 : BitVec 32 := Scalar.subi arg1 v544
  let c0_i32_200 : BitVec 32 := 0#32
  let v552 : BitVec 32 := Scalar.maxsi v545 c0_i32_200
  let c128_i32_204 : BitVec 32 := 128#32
  let v556 : BitVec 32 := Scalar.muli v552 c128_i32_204
  let v557 : BitVec 32 := v556
  let v588 : Index := Scalar.indexCast v557
  let c0_228 : Index := 0#32
  ![v588.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8320x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8320x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8320x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8320x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S8320x1024 : Shape := ⟨2, ![8320, 1024]⟩
abbrev S8208x1024 : Shape := ⟨2, ![8208, 1024]⟩
abbrev S1x8208x16x64 : Shape := ⟨4, ![1, 8208, 16, 64]⟩
abbrev S1x16x8208x8208 : Shape := ⟨4, ![1, 16, 8208, 8208]⟩
abbrev S_ : Shape := ⟨0, ![]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S1x16x64x8208 : Shape := ⟨4, ![1, 16, 64, 8208]⟩
abbrev S1x16x8208x64 : Shape := ⟨4, ![1, 16, 8208, 64]⟩

abbrev nBuf : Space → Nat
  | .hbm => 191
  | .vmem => 0
  | .smem => 0
  | _ => 0

abbrev hbmTy0_0 (i : Nat) : BufTy := match i % 128 with
  | 0 => ⟨S8320x1024, .bf16⟩
  | 1 => ⟨S8320x1024, .bf16⟩
  | 2 => ⟨S8320x1024, .bf16⟩
  | 3 => ⟨S8320x1024, .bf16⟩
  | 4 => ⟨S8320x1024, .f32⟩
  | 5 => ⟨S8320x1024, .f32⟩
  | 6 => ⟨S8320x1024, .f32⟩
  | 7 => ⟨S8320x1024, .f32⟩
  | 8 => ⟨S8208x1024, .f32⟩
  | 9 => ⟨S1x8208x16x64, .f32⟩
  | 10 => ⟨S8208x1024, .f32⟩
  | 11 => ⟨S1x8208x16x64, .f32⟩
  | 12 => ⟨S8208x1024, .f32⟩
  | 13 => ⟨S1x8208x16x64, .f32⟩
  | 14 => ⟨S1x16x8208x8208, .f32⟩
  | 15 => ⟨S_, .f32⟩
  | 16 => ⟨S1x16x8208x8208, .f32⟩
  | 17 => ⟨S1x16x8208x8208, .f32⟩
  | 18 => ⟨S8208, .i32⟩
  | 19 => ⟨S1x8208, .i32⟩
  | 20 => ⟨S8208, .i32⟩
  | 21 => ⟨S8208x1, .i32⟩
  | 22 => ⟨S8208x8208, .i32⟩
  | 23 => ⟨S8208x8208, .i32⟩
  | 24 => ⟨S8208x8208, .i1⟩
  | 25 => ⟨S1x16x8208x8208, .f32⟩
  | 26 => ⟨S1x16x8208x8208, .f32⟩
  | 27 => ⟨S_, .f32⟩
  | 28 => ⟨S1x16x8208x8208, .f32⟩
  | 29 => ⟨S1x16x8208x8208, .f32⟩
  | 30 => ⟨S1x16x8208x8208, .f32⟩
  | 31 => ⟨S1x16x8208x8208, .f32⟩
  | 32 => ⟨S1x16x8208x8208, .i1⟩
  | 33 => ⟨S1x16x8208x8208, .f32⟩
  | 34 => ⟨S1x16x8208x8208, .f32⟩
  | 35 => ⟨S1x16x8208x8208, .f32⟩
  | 36 => ⟨S1x16x8208x8208, .f32⟩
  | 37 => ⟨S1x16x8208x8208, .f32⟩
  | 38 => ⟨S1x16x8208x8208, .f32⟩
  | 39 => ⟨S1x16x8208x8208, .f32⟩
  | 40 => ⟨S1x16x8208x8208, .f32⟩
  | 41 => ⟨S_, .f32⟩
  | 42 => ⟨S1x16x8208x8208, .f32⟩
  | 43 => ⟨S1x16x8208x8208, .i1⟩
  | 44 => ⟨S_, .f32⟩
  | 45 => ⟨S1x16x8208x8208, .f32⟩
  | 46 => ⟨S1x16x8208x8208, .f32⟩
  | 47 => ⟨S_, .f32⟩
  | 48 => ⟨S1x16x8208x8208, .f32⟩
  | 49 => ⟨S1x16x8208x8208, .i1⟩
  | 50 => ⟨S_, .f32⟩
  | 51 => ⟨S1x16x8208x8208, .f32⟩
  | 52 => ⟨S1x16x8208x8208, .f32⟩
  | 53 => ⟨S1x16x8208x8208, .f32⟩
  | 54 => ⟨S1x16x8208x8208, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S1x16x8208x8208, .f32⟩
  | 63 => ⟨S1x16x8208x8208, .i1⟩
  | 64 => ⟨S_, .f32⟩
  | 65 => ⟨S1x16x8208x8208, .f32⟩
  | 66 => ⟨S1x16x8208x8208, .f32⟩
  | 67 => ⟨S1x16x8208x8208, .f32⟩
  | 68 => ⟨S1x16x8208x8208, .f32⟩
  | 69 => ⟨S1x16x8208x8208, .f32⟩
  | 70 => ⟨S_, .f32⟩
  | 71 => ⟨S1x16x8208x8208, .f32⟩
  | 72 => ⟨S1x16x8208x8208, .f32⟩
  | 73 => ⟨S1x16x8208x8208, .f32⟩
  | 74 => ⟨S_, .f32⟩
  | 75 => ⟨S_, .f32⟩
  | 76 => ⟨S1x16x8208x8208, .i1⟩
  | 77 => ⟨S1x16x8208x8208, .f32⟩
  | 78 => ⟨S1x16x8208x8208, .f32⟩
  | 79 => ⟨S_, .f32⟩
  | 80 => ⟨S1x16x8208x8208, .f32⟩
  | 81 => ⟨S1x16x8208x8208, .f32⟩
  | 82 => ⟨S_, .f32⟩
  | 83 => ⟨S1x16x8208x8208, .f32⟩
  | 84 => ⟨S1x16x8208x8208, .f32⟩
  | 85 => ⟨S1x16x8208x8208, .f32⟩
  | 86 => ⟨S1x16x8208x8208, .f32⟩
  | 87 => ⟨S1x16x8208x8208, .i1⟩
  | 88 => ⟨S1x16x8208x8208, .f32⟩
  | 89 => ⟨S1x16x8208x8208, .f32⟩
  | 90 => ⟨S1x16x8208x8208, .f32⟩
  | 91 => ⟨S1x16x8208x8208, .f32⟩
  | 92 => ⟨S1x16x8208x8208, .f32⟩
  | 93 => ⟨S1x16x8208x8208, .f32⟩
  | 94 => ⟨S1x16x8208x8208, .f32⟩
  | 95 => ⟨S1x16x8208x8208, .f32⟩
  | 96 => ⟨S_, .f32⟩
  | 97 => ⟨S1x16x8208x8208, .f32⟩
  | 98 => ⟨S1x16x8208x8208, .i1⟩
  | 99 => ⟨S_, .f32⟩
  | 100 => ⟨S1x16x8208x8208, .f32⟩
  | 101 => ⟨S1x16x8208x8208, .f32⟩
  | 102 => ⟨S_, .f32⟩
  | 103 => ⟨S1x16x8208x8208, .f32⟩
  | 104 => ⟨S1x16x8208x8208, .i1⟩
  | 105 => ⟨S_, .f32⟩
  | 106 => ⟨S1x16x8208x8208, .f32⟩
  | 107 => ⟨S1x16x8208x8208, .f32⟩
  | 108 => ⟨S1x16x8208x8208, .f32⟩
  | 109 => ⟨S1x16x8208x8208, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S1x16x8208x8208, .f32⟩
  | 118 => ⟨S1x16x8208x8208, .i1⟩
  | 119 => ⟨S_, .f32⟩
  | 120 => ⟨S1x16x8208x8208, .f32⟩
  | 121 => ⟨S1x16x8208x8208, .f32⟩
  | 122 => ⟨S1x16x8208x8208, .f32⟩
  | 123 => ⟨S1x16x8208x8208, .f32⟩
  | 124 => ⟨S1x16x8208x8208, .f32⟩
  | 125 => ⟨S_, .f32⟩
  | 126 => ⟨S1x16x8208x8208, .f32⟩
  | 127 => ⟨S1x16x8208x8208, .f32⟩
  | _ => ⟨S8320x1024, .bf16⟩

abbrev hbmTy0_1 (i : Nat) : BufTy := match i % 128 with
  | 0 => ⟨S1x16x8208x8208, .f32⟩
  | 1 => ⟨S_, .f32⟩
  | 2 => ⟨S_, .f32⟩
  | 3 => ⟨S1x16x8208x8208, .f32⟩
  | 4 => ⟨S1x16x8208x8208, .f32⟩
  | 5 => ⟨S1x16x8208x8208, .f32⟩
  | 6 => ⟨S1x16x8208x8208, .f32⟩
  | 7 => ⟨S_, .f32⟩
  | 8 => ⟨S_, .f32⟩
  | 9 => ⟨S1x16x8208x8208, .i1⟩
  | 10 => ⟨S1x16x8208x8208, .f32⟩
  | 11 => ⟨S1x16x8208x8208, .f32⟩
  | 12 => ⟨S_, .f32⟩
  | 13 => ⟨S1x16x8208x8208, .f32⟩
  | 14 => ⟨S1x16x64x8208, .f32⟩
  | 15 => ⟨S1x8208x16x64, .f32⟩
  | 16 => ⟨S8208x1024, .f32⟩
  | 17 => ⟨S_, .i32⟩
  | 18 => ⟨S_, .f32⟩
  | 19 => ⟨S8320x1024, .f32⟩
  | 20 => ⟨S8320x1024, .bf16⟩
  | 21 => ⟨S8208x1024, .f32⟩
  | 22 => ⟨S1x8208x16x64, .f32⟩
  | 23 => ⟨S1x16x64x8208, .f32⟩
  | 24 => ⟨S1x16x8208x8208, .f32⟩
  | 25 => ⟨S1x16x64x8208, .f32⟩
  | 26 => ⟨S1x8208x16x64, .f32⟩
  | 27 => ⟨S_, .f32⟩
  | 28 => ⟨S1x16x8208x8208, .f32⟩
  | 29 => ⟨S1x16x8208x8208, .f32⟩
  | 30 => ⟨S1x16x8208x8208, .f32⟩
  | 31 => ⟨S1x16x8208x8208, .f32⟩
  | 32 => ⟨S_, .f32⟩
  | 33 => ⟨S_, .f32⟩
  | 34 => ⟨S1x16x8208x8208, .f32⟩
  | 35 => ⟨S1x16x8208x8208, .f32⟩
  | 36 => ⟨S1x16x8208x8208, .f32⟩
  | 37 => ⟨S1x16x8208x8208, .f32⟩
  | 38 => ⟨S1x16x8208x8208, .f32⟩
  | 39 => ⟨S_, .f32⟩
  | 40 => ⟨S1x16x8208x8208, .f32⟩
  | 41 => ⟨S1x16x8208x8208, .f32⟩
  | 42 => ⟨S1x16x8208x8208, .f32⟩
  | 43 => ⟨S1x16x8208x8208, .f32⟩
  | 44 => ⟨S1x16x8208x8208, .f32⟩
  | 45 => ⟨S1x16x8208x8208, .f32⟩
  | 46 => ⟨S1x16x8208x8208, .f32⟩
  | 47 => ⟨S_, .f32⟩
  | 48 => ⟨S1x16x8208x8208, .f32⟩
  | 49 => ⟨S1x16x8208x8208, .f32⟩
  | 50 => ⟨S1x16x8208x64, .f32⟩
  | 51 => ⟨S1x8208x16x64, .f32⟩
  | 52 => ⟨S1x16x8208x64, .f32⟩
  | 53 => ⟨S1x8208x16x64, .f32⟩
  | 54 => ⟨S8208x1024, .f32⟩
  | 55 => ⟨S_, .f32⟩
  | 56 => ⟨S8320x1024, .f32⟩
  | 57 => ⟨S8208x1024, .f32⟩
  | 58 => ⟨S_, .f32⟩
  | 59 => ⟨S8320x1024, .f32⟩
  | 60 => ⟨S8208x1024, .f32⟩
  | 61 => ⟨S_, .f32⟩
  | 62 => ⟨S8320x1024, .f32⟩
  | _ => ⟨S8320x1024, .bf16⟩

abbrev hbmTy (i : Nat) : BufTy := match i / 128 with
  | 0 => hbmTy0_0 i
  | 1 => hbmTy0_1 i
  | _ => ⟨S8320x1024, .bf16⟩

abbrev bufTy : (tb : Table) → Fin (tcTables nBuf tb) → BufTy
  | .hbm, ⟨i, _⟩ => hbmTy i
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v21_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v21_2 : Ref sig .tc := ⟨.hbm, 72, rfl⟩
abbrev main_v21_0 : Ref sig .tc := ⟨.hbm, 73, rfl⟩
abbrev main_cst_0 : Ref sig .tc := ⟨.hbm, 74, rfl⟩
abbrev main_call1_v0 : Ref sig .tc := ⟨.hbm, 75, rfl⟩
abbrev main_v22_1 : Ref sig .tc := ⟨.hbm, 76, rfl⟩
abbrev main_call1_v2 : Ref sig .tc := ⟨.hbm, 77, rfl⟩
abbrev main_v22_0 : Ref sig .tc := ⟨.hbm, 78, rfl⟩
abbrev main_call1_cst : Ref sig .tc := ⟨.hbm, 79, rfl⟩
abbrev main_v22_2 : Ref sig .tc := ⟨.hbm, 80, rfl⟩
abbrev main_call2_v0 : Ref sig .tc := ⟨.hbm, 81, rfl⟩
abbrev main_call2_call0_cst : Ref sig .tc := ⟨.hbm, 82, rfl⟩
abbrev main_call2_call0_v0 : Ref sig .tc := ⟨.hbm, 83, rfl⟩
abbrev main_call2_call0_v1 : Ref sig .tc := ⟨.hbm, 84, rfl⟩
abbrev main_call2_call0_v2 : Ref sig .tc := ⟨.hbm, 85, rfl⟩
abbrev main_call2_call0_v3 : Ref sig .tc := ⟨.hbm, 86, rfl⟩
abbrev main_call2_call0_v4 : Ref sig .tc := ⟨.hbm, 87, rfl⟩
abbrev main_call2_call0_v5 : Ref sig .tc := ⟨.hbm, 88, rfl⟩
abbrev main_call2_call0_v6 : Ref sig .tc := ⟨.hbm, 89, rfl⟩
abbrev main_call2_call0_v7 : Ref sig .tc := ⟨.hbm, 90, rfl⟩
abbrev main_call2_call0_v8 : Ref sig .tc := ⟨.hbm, 91, rfl⟩
abbrev main_call2_call0_v9 : Ref sig .tc := ⟨.hbm, 92, rfl⟩
abbrev main_call2_call0_v10 : Ref sig .tc := ⟨.hbm, 93, rfl⟩
abbrev main_call2_call0_v11 : Ref sig .tc := ⟨.hbm, 94, rfl⟩
abbrev main_call2_v1_0 : Ref sig .tc := ⟨.hbm, 95, rfl⟩
abbrev main_call2_call0_cst_0 : Ref sig .tc := ⟨.hbm, 96, rfl⟩
abbrev main_call2_call0_v13 : Ref sig .tc := ⟨.hbm, 97, rfl⟩
abbrev main_call2_call0_v14 : Ref sig .tc := ⟨.hbm, 98, rfl⟩
abbrev main_call2_call0_cst_1 : Ref sig .tc := ⟨.hbm, 99, rfl⟩
abbrev main_call2_call0_v15 : Ref sig .tc := ⟨.hbm, 100, rfl⟩
abbrev main_call2_call0_v16 : Ref sig .tc := ⟨.hbm, 101, rfl⟩
abbrev main_call2_call0_cst_2 : Ref sig .tc := ⟨.hbm, 102, rfl⟩
abbrev main_call2_call0_v17 : Ref sig .tc := ⟨.hbm, 103, rfl⟩
abbrev main_call2_call0_v18 : Ref sig .tc := ⟨.hbm, 104, rfl⟩
abbrev main_call2_call0_cst_3 : Ref sig .tc := ⟨.hbm, 105, rfl⟩
abbrev main_call2_call0_v19 : Ref sig .tc := ⟨.hbm, 106, rfl⟩
abbrev main_call2_call0_v20 : Ref sig .tc := ⟨.hbm, 107, rfl⟩
abbrev main_call2_call0_v21 : Ref sig .tc := ⟨.hbm, 108, rfl⟩
abbrev main_v23_1 : Ref sig .tc := ⟨.hbm, 109, rfl⟩
abbrev main_call2_call0_cst_4 : Ref sig .tc := ⟨.hbm, 110, rfl⟩
abbrev main_call2_call0_cst_5 : Ref sig .tc := ⟨.hbm, 111, rfl⟩
abbrev main_call2_call0_v23 : Ref sig .tc := ⟨.hbm, 112, rfl⟩
abbrev main_call2_call0_cst_6 : Ref sig .tc := ⟨.hbm, 113, rfl⟩
abbrev main_call2_call0_cst_7 : Ref sig .tc := ⟨.hbm, 114, rfl⟩
abbrev main_call2_call0_v24 : Ref sig .tc := ⟨.hbm, 115, rfl⟩
abbrev main_call2_call0_cst_8 : Ref sig .tc := ⟨.hbm, 116, rfl⟩
abbrev main_call2_call0_v25 : Ref sig .tc := ⟨.hbm, 117, rfl⟩
abbrev main_call2_call0_v26 : Ref sig .tc := ⟨.hbm, 118, rfl⟩
abbrev main_call2_call0_cst_9 : Ref sig .tc := ⟨.hbm, 119, rfl⟩
abbrev main_call2_call0_v27 : Ref sig .tc := ⟨.hbm, 120, rfl⟩
abbrev main_call2_call0_v28 : Ref sig .tc := ⟨.hbm, 121, rfl⟩
abbrev main_call2_call0_v29 : Ref sig .tc := ⟨.hbm, 122, rfl⟩
abbrev main_call2_call0_v30 : Ref sig .tc := ⟨.hbm, 123, rfl⟩
abbrev main_call2_call0_v31 : Ref sig .tc := ⟨.hbm, 124, rfl⟩
abbrev main_call2_call0_cst_10 : Ref sig .tc := ⟨.hbm, 125, rfl⟩
abbrev main_call2_call0_v32 : Ref sig .tc := ⟨.hbm, 126, rfl⟩
abbrev main_v23_2 : Ref sig .tc := ⟨.hbm, 127, rfl⟩
abbrev main_v23_0 : Ref sig .tc := ⟨.hbm, 128, rfl⟩
abbrev main_call3_cst : Ref sig .tc := ⟨.hbm, 129, rfl⟩
abbrev main_call3_v0 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_cst_1 : Ref sig .tc := ⟨.hbm, 135, rfl⟩
abbrev main_call4_v0 : Ref sig .tc := ⟨.hbm, 136, rfl⟩
abbrev main_v28_1 : Ref sig .tc := ⟨.hbm, 137, rfl⟩
abbrev main_call4_v2 : Ref sig .tc := ⟨.hbm, 138, rfl⟩
abbrev main_v28_0 : Ref sig .tc := ⟨.hbm, 139, rfl⟩
abbrev main_call4_cst : Ref sig .tc := ⟨.hbm, 140, rfl⟩
abbrev main_v28_2 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_c : Ref sig .tc := ⟨.hbm, 145, rfl⟩
abbrev main_call5_v0 : Ref sig .tc := ⟨.hbm, 146, rfl⟩
abbrev main_v32 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_call6_cst : Ref sig .tc := ⟨.hbm, 155, rfl⟩
abbrev main_call6_v0 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_call7_cst : Ref sig .tc := ⟨.hbm, 160, rfl⟩
abbrev main_call7_v0 : Ref sig .tc := ⟨.hbm, 161, rfl⟩
abbrev main_v43 : Ref sig .tc := ⟨.hbm, 162, rfl⟩
abbrev main_v44 : Ref sig .tc := ⟨.hbm, 163, rfl⟩
abbrev main_call8_v0 : Ref sig .tc := ⟨.hbm, 164, rfl⟩
abbrev main_call8_v1 : Ref sig .tc := ⟨.hbm, 165, rfl⟩
abbrev main_v45 : Ref sig .tc := ⟨.hbm, 166, rfl⟩
abbrev main_call9_cst : Ref sig .tc := ⟨.hbm, 167, rfl⟩
abbrev main_call9_v0 : Ref sig .tc := ⟨.hbm, 168, rfl⟩
abbrev main_v46 : Ref sig .tc := ⟨.hbm, 169, rfl⟩
abbrev main_call10_v0 : Ref sig .tc := ⟨.hbm, 170, rfl⟩
abbrev main_call10_v1 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_cst_2 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_cst_3 : Ref sig .tc := ⟨.hbm, 183, rfl⟩
abbrev main_v57 : Ref sig .tc := ⟨.hbm, 184, rfl⟩
abbrev main_v58 : Ref sig .tc := ⟨.hbm, 185, rfl⟩
abbrev main_cst_4 : Ref sig .tc := ⟨.hbm, 186, rfl⟩
abbrev main_v59 : Ref sig .tc := ⟨.hbm, 187, rfl⟩
abbrev main_v60 : Ref sig .tc := ⟨.hbm, 188, rfl⟩
abbrev main_cst_5 : Ref sig .tc := ⟨.hbm, 189, rfl⟩
abbrev main_v61 : Ref sig .tc := ⟨.hbm, 190, rfl⟩

abbrev nD : Nat := 1
abbrev τ : Topo := Topo.v7x

variable {F : FTy → Type} [FloatOps F]
-- ==== Kernel2.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S832x1024 : Shape := ⟨2, ![832, 1024]⟩
abbrev S832 : Shape := ⟨1, ![832]⟩
abbrev S832x1 : Shape := ⟨2, ![832, 1]⟩
abbrev S8320x2816 : Shape := ⟨2, ![8320, 2816]⟩
abbrev S640x1024 : Shape := ⟨2, ![640, 1024]⟩
abbrev S1024x1408 : Shape := ⟨2, ![1024, 1408]⟩
abbrev S640x1408 : Shape := ⟨2, ![640, 1408]⟩
abbrev S640x2816 : Shape := ⟨2, ![640, 2816]⟩
abbrev S1408x1024 : Shape := ⟨2, ![1408, 1024]⟩
abbrev S512x2816 : Shape := ⟨2, ![512, 2816]⟩
abbrev S640x512 : Shape := ⟨2, ![640, 512]⟩
abbrev S416x1024 : Shape := ⟨2, ![416, 1024]⟩
abbrev S416 : Shape := ⟨1, ![416]⟩
abbrev S416x1 : Shape := ⟨2, ![416, 1]⟩
abbrev S1024 : Shape := ⟨1, ![1024]⟩

abbrev nBuf : Space → Nat
  | .hbm => 19
  | .vmem => 79
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8320x1024, .f32⟩
  | .hbm, ⟨6, _⟩ => ⟨S8320x1024, .bf16⟩
  | .hbm, ⟨7, _⟩ => ⟨S8320x2816, .bf16⟩
  | .hbm, ⟨8, _⟩ => ⟨S8320x2816, .bf16⟩
  | .hbm, ⟨9, _⟩ => ⟨S8320x2816, .bf16⟩
  | .hbm, ⟨10, _⟩ => ⟨S8320x1024, .f32⟩
  | .hbm, ⟨11, _⟩ => ⟨S8320x2816, .bf16⟩
  | .hbm, ⟨12, _⟩ => ⟨S8320x2816, .bf16⟩
  | .hbm, ⟨13, _⟩ => ⟨S2816x1024, .f32⟩
  | .hbm, ⟨14, _⟩ => ⟨S1024x2816, .f32⟩
  | .hbm, ⟨15, _⟩ => ⟨S1024x2816, .f32⟩
  | .hbm, ⟨16, _⟩ => ⟨S8320x1024, .f32⟩
  | .hbm, ⟨17, _⟩ => ⟨S8320x1024, .f32⟩
  | .hbm, ⟨18, _⟩ => ⟨S1x1024, .f32⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S832x1024, .bf16⟩
  | .local _ .vmem, ⟨4, _⟩ => ⟨S832x1024, .bf16⟩
  | .local _ .vmem, ⟨5, _⟩ => ⟨S640x1024, .bf16⟩
  | .local _ .vmem, ⟨6, _⟩ => ⟨S640x1024, .bf16⟩
  | .local _ .vmem, ⟨7, _⟩ => ⟨S1024x1408, .bf16⟩
  | .local _ .vmem, ⟨8, _⟩ => ⟨S1024x1408, .bf16⟩
  | .local _ .vmem, ⟨9, _⟩ => ⟨S640x1024, .bf16⟩
  | .local _ .vmem, ⟨10, _⟩ => ⟨S640x1024, .bf16⟩
  | .local _ .vmem, ⟨11, _⟩ => ⟨S1024x1408, .bf16⟩
  | .local _ .vmem, ⟨12, _⟩ => ⟨S1024x1408, .bf16⟩
  | .local _ .vmem, ⟨13, _⟩ => ⟨S640x1408, .bf16⟩
  | .local _ .vmem, ⟨14, _⟩ => ⟨S640x1408, .bf16⟩
  | .local _ .vmem, ⟨15, _⟩ => ⟨S640x1408, .bf16⟩
  | .local _ .vmem, ⟨16, _⟩ => ⟨S640x1408, .bf16⟩
  | .local _ .vmem, ⟨17, _⟩ => ⟨S640x1408, .bf16⟩
  | .local _ .vmem, ⟨18, _⟩ => ⟨S640x1408, .bf16⟩
  | .local _ .vmem, ⟨19, _⟩ => ⟨S640x2816, .bf16⟩
  | .local _ .vmem, ⟨20, _⟩ => ⟨S640x2816, .bf16⟩
  | .local _ .vmem, ⟨21, _⟩ => ⟨S2816x1024, .bf16⟩
  | .local _ .vmem, ⟨22, _⟩ => ⟨S640x1024, .f32⟩
  | .local _ .vmem, ⟨23, _⟩ => ⟨S640x1024, .f32⟩
  | .local _ .vmem, ⟨24, _⟩ => ⟨S640x1024, .f32⟩
  | .local _ .vmem, ⟨25, _⟩ => ⟨S640x1024, .f32⟩
  | .local _ .vmem, ⟨26, _⟩ => ⟨S640x1024, .f32⟩
  | .local _ .vmem, ⟨27, _⟩ => ⟨S640x1024, .f32⟩
  | .local _ .vmem, ⟨28, _⟩ => ⟨S1408x1024, .bf16⟩
  | .local _ .vmem, ⟨29, _⟩ => ⟨S1408x1024, .bf16⟩
  | .local _ .vmem, ⟨30, _⟩ => ⟨S640x1408, .bf16⟩
  | .local _ .vmem, ⟨31, _⟩ => ⟨S640x1408, .bf16⟩
  | .local _ .vmem, ⟨32, _⟩ => ⟨S640x1408, .bf16⟩
  | .local _ .vmem, ⟨33, _⟩ => ⟨S640x1408, .bf16⟩
  | .local _ .vmem, ⟨34, _⟩ => ⟨S640x1408, .bf16⟩
  | .local _ .vmem, ⟨35, _⟩ => ⟨S640x1408, .bf16⟩
  | .local _ .vmem, ⟨36, _⟩ => ⟨S640x1408, .bf16⟩
  | .local _ .vmem, ⟨37, _⟩ => ⟨S640x1408, .bf16⟩
  | .local _ .vmem, ⟨38, _⟩ => ⟨S640x1408, .bf16⟩
  | .local _ .vmem, ⟨39, _⟩ => ⟨S640x1408, .bf16⟩
  | .local _ .vmem, ⟨40, _⟩ => ⟨S640x1024, .f32⟩
  | .local _ .vmem, ⟨41, _⟩ => ⟨S640x1024, .f32⟩
  | .local _ .vmem, ⟨42, _⟩ => ⟨S1408x1024, .f32⟩
  | .local _ .vmem, ⟨43, _⟩ => ⟨S1408x1024, .f32⟩
  | .local _ .vmem, ⟨44, _⟩ => ⟨S1408x1024, .f32⟩
  | .local _ .vmem, ⟨45, _⟩ => ⟨S640x1024, .bf16⟩
  | .local _ .vmem, ⟨46, _⟩ => ⟨S640x1024, .bf16⟩
  | .local _ .vmem, ⟨47, _⟩ => ⟨S640x1408, .bf16⟩
  | .local _ .vmem, ⟨48, _⟩ => ⟨S640x1408, .bf16⟩
  | .local _ .vmem, ⟨49, _⟩ => ⟨S1024x1408, .f32⟩
  | .local _ .vmem, ⟨50, _⟩ => ⟨S1024x1408, .f32⟩
  | .local _ .vmem, ⟨51, _⟩ => ⟨S1024x1408, .f32⟩
  | .local _ .vmem, ⟨52, _⟩ => ⟨S640x1024, .bf16⟩
  | .local _ .vmem, ⟨53, _⟩ => ⟨S640x1024, .bf16⟩
  | .local _ .vmem, ⟨54, _⟩ => ⟨S640x1408, .bf16⟩
  | .local _ .vmem, ⟨55, _⟩ => ⟨S640x1408, .bf16⟩
  | .local _ .vmem, ⟨56, _⟩ => ⟨S1024x1408, .f32⟩
  | .local _ .vmem, ⟨57, _⟩ => ⟨S1024x1408, .f32⟩
  | .local _ .vmem, ⟨58, _⟩ => ⟨S1024x1408, .f32⟩
  | .local _ .vmem, ⟨59, _⟩ => ⟨S640x2816, .bf16⟩
  | .local _ .vmem, ⟨60, _⟩ => ⟨S640x2816, .bf16⟩
  | .local _ .vmem, ⟨61, _⟩ => ⟨S512x2816, .bf16⟩
  | .local _ .vmem, ⟨62, _⟩ => ⟨S512x2816, .bf16⟩
  | .local _ .vmem, ⟨63, _⟩ => ⟨S640x2816, .bf16⟩
  | .local _ .vmem, ⟨64, _⟩ => ⟨S640x2816, .bf16⟩
  | .local _ .vmem, ⟨65, _⟩ => ⟨S512x2816, .bf16⟩
  | .local _ .vmem, ⟨66, _⟩ => ⟨S512x2816, .bf16⟩
  | .local _ .vmem, ⟨67, _⟩ => ⟨S640x512, .f32⟩
  | .local _ .vmem, ⟨68, _⟩ => ⟨S640x512, .f32⟩
  | .local _ .vmem, ⟨69, _⟩ => ⟨S416x1024, .f32⟩
  | .local _ .vmem, ⟨70, _⟩ => ⟨S416x1024, .f32⟩
  | .local _ .vmem, ⟨71, _⟩ => ⟨S416x1024, .f32⟩
  | .local _ .vmem, ⟨72, _⟩ => ⟨S416x1024, .f32⟩
  | .local _ .vmem, ⟨73, _⟩ => ⟨S1x1024, .f32⟩
  | .local _ .vmem, ⟨74, _⟩ => ⟨S416x1024, .f32⟩
  | .local _ .vmem, ⟨75, _⟩ => ⟨S416x1024, .f32⟩
  | .local _ .vmem, ⟨76, _⟩ => ⟨S416x1024, .f32⟩
  | .local _ .vmem, ⟨77, _⟩ => ⟨S416x1024, .f32⟩
  | .local _ .vmem, ⟨78, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_scratch0 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_scratch0 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg3_1 : Ref sig .tc := ⟨.vmem, 66, rfl⟩
abbrev cc7_stg4_0 : Ref sig .tc := ⟨.vmem, 67, rfl⟩
abbrev cc7_stg4_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg1_1 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg3_1 : Ref sig .tc := ⟨.vmem, 75, rfl⟩
abbrev cc8_stg4_0 : Ref sig .tc := ⟨.vmem, 76, rfl⟩
abbrev cc8_stg4_1 : Ref sig .tc := ⟨.vmem, 77, rfl⟩
abbrev cc8_stg5_0 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63
abbrev cc7_sem4_0 : DmaSem sig := 64
abbrev cc7_sem4_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem3_0 : DmaSem sig := 71
abbrev cc8_sem3_1 : DmaSem sig := 72
abbrev cc8_sem4_0 : DmaSem sig := 73
abbrev cc8_sem4_1 : DmaSem sig := 74
abbrev cc8_sem5_0 : DmaSem sig := 75

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 13, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S640x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S640x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S640x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S640x1408 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![1, 13, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S640x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S640x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S640x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 13, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S640x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S1408x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S640x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S640x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S640x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S640x1408 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![1, 2, 13], ![false, false, false]⟩

def k4_cond3 (i : grid4.Coords) : BitVec 1 :=
  let arg2 : BitVec 32 := BitVec.ofNat 32 (i 2).val
  let c12_i32 : BitVec 32 := 12#32
  let v11 : BitVec 1 := Scalar.cmpi .eq arg2 c12_i32
  let v12 : BitVec 32 := Scalar.extui v11
  let c0_i32_6 : BitVec 32 := 0#32
  let v13 : BitVec 1 := Scalar.cmpi .ne v12 c0_i32_6
  v13

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S640x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S640x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1408x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 13], ![false, false, false]⟩

def k5_cond3 (i : grid5.Coords) : BitVec 1 :=
  let arg2 : BitVec 32 := BitVec.ofNat 32 (i 2).val
  let c12_i32 : BitVec 32 := 12#32
  let v11 : BitVec 1 := Scalar.cmpi .eq arg2 c12_i32
  let v12 : BitVec 32 := Scalar.extui v11
  let c0_i32_6 : BitVec 32 := 0#32
  let v13 : BitVec 1 := Scalar.cmpi .ne v12 c0_i32_6
  v13

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S640x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S640x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1024x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 1, 13], ![false, false, false]⟩

def k6_cond3 (i : grid6.Coords) : BitVec 1 :=
  let arg2 : BitVec 32 := BitVec.ofNat 32 (i 2).val
  let c12_i32 : BitVec 32 := 12#32
  let v11 : BitVec 1 := Scalar.cmpi .eq arg2 c12_i32
  let v12 : BitVec 32 := Scalar.extui v11
  let c0_i32_6 : BitVec 32 := 0#32
  let v13 : BitVec 1 := Scalar.cmpi .ne v12 c0_i32_6
  v13

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage6_0 : Fin 2 → Memref sig .tc .vmem S640x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 2 → Memref sig .tc .vmem S640x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1024x1408 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 13, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_4 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage7_0 : Fin 2 → Memref sig .tc .vmem S640x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, true]

abbrev stage7_1 : Fin 2 → Memref sig .tc .vmem S512x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true]

abbrev stage7_2 : Fin 2 → Memref sig .tc .vmem S640x2816 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, true]

abbrev stage7_3 : Fin 2 → Memref sig .tc .vmem S512x2816 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false, true]

abbrev stage7_4 : Fin 2 → Memref sig .tc .vmem S640x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true, false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S416x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S416x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S416x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S416x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]
-- ==== Reference2Ideal.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8320x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S8320x2816, .f32⟩
  | .hbm, ⟨29, _⟩ => ⟨S8320x2816, .f32⟩
  | .hbm, ⟨30, _⟩ => ⟨S8320x2816, .f32⟩
  | .hbm, ⟨31, _⟩ => ⟨S_, .f32⟩
  | .hbm, ⟨32, _⟩ => ⟨S8320x2816, .f32⟩
  | .hbm, ⟨33, _⟩ => ⟨S8320x2816, .f32⟩
  | .hbm, ⟨34, _⟩ => ⟨S_, .f32⟩
  | .hbm, ⟨35, _⟩ => ⟨S8320x2816, .f32⟩
  | .hbm, ⟨36, _⟩ => ⟨S8320x2816, .f32⟩
  | .hbm, ⟨37, _⟩ => ⟨S_, .f32⟩
  | .hbm, ⟨38, _⟩ => ⟨S8320x2816, .f32⟩
  | .hbm, ⟨39, _⟩ => ⟨S8320x2816, .f32⟩
  | .hbm, ⟨40, _⟩ => ⟨S8320x2816, .f32⟩
  | .hbm, ⟨41, _⟩ => ⟨S8320x2816, .f32⟩
  | .hbm, ⟨42, _⟩ => ⟨S8320x2816, .f32⟩
  | .hbm, ⟨43, _⟩ => ⟨S8320x2816, .f32⟩
  | .hbm, ⟨44, _⟩ => ⟨S8320x1024, .f32⟩
  | .hbm, ⟨45, _⟩ => ⟨S_, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S_, .f32⟩
  | .hbm, ⟨51, _⟩ => ⟨S8320x1024, .f32⟩
  | .hbm, ⟨52, _⟩ => ⟨S8320x1024, .f32⟩
  | .hbm, ⟨53, _⟩ => ⟨S1024x2816, .f32⟩
  | .hbm, ⟨54, _⟩ => ⟨S2816x1024, .f32⟩
  | .hbm, ⟨55, _⟩ => ⟨S8320x2816, .f32⟩
  | .hbm, ⟨56, _⟩ => ⟨S8320x2816, .f32⟩
  | .hbm, ⟨57, _⟩ => ⟨S8320x2816, .f32⟩
  | .hbm, ⟨58, _⟩ => ⟨S2816x1024, .f32⟩
  | .hbm, ⟨59, _⟩ => ⟨S1024x2816, .f32⟩
  | .hbm, ⟨60, _⟩ => ⟨S8320x1024, .f32⟩
  | .hbm, ⟨61, _⟩ => ⟨S8320x2816, .f32⟩
  | .hbm, ⟨62, _⟩ => ⟨S8320x2816, .f32⟩
  | .hbm, ⟨63, _⟩ => ⟨S8320x2816, .f32⟩
  | .hbm, ⟨64, _⟩ => ⟨S8320x2816, .f32⟩
  | .hbm, ⟨65, _⟩ => ⟨S2816x1024, .f32⟩
  | .hbm, ⟨66, _⟩ => ⟨S1024x2816, .f32⟩
  | .hbm, ⟨67, _⟩ => ⟨S8320x1024, .f32⟩
  | .hbm, ⟨68, _⟩ => ⟨S8320x1024, .f32⟩
  | .hbm, ⟨69, _⟩ => ⟨S8320x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8320x1024, .f32⟩
  | .hbm, ⟨74, _⟩ => ⟨S8320x1024, .f32⟩
  | .hbm, ⟨75, _⟩ => ⟨S8320x1024, .f32⟩
  | .hbm, ⟨76, _⟩ => ⟨S_, .f32⟩
  | .hbm, ⟨77, _⟩ => ⟨S8320, .f32⟩
  | .hbm, ⟨78, _⟩ => ⟨S8320x1, .f32⟩
  | .hbm, ⟨79, _⟩ => ⟨S8320x1024, .f32⟩
  | .hbm, ⟨80, _⟩ => ⟨S8320x1024, .f32⟩
  | .hbm, ⟨81, _⟩ => ⟨S8320x1024, .f32⟩
  | .hbm, ⟨82, _⟩ => ⟨S8320x1, .f32⟩
  | .hbm, ⟨83, _⟩ => ⟨S_, .f32⟩
  | .hbm, ⟨84, _⟩ => ⟨S8320x1, .f32⟩
  | .hbm, ⟨85, _⟩ => ⟨S8320x1, .f32⟩
  | .hbm, ⟨86, _⟩ => ⟨S_, .f32⟩
  | .hbm, ⟨87, _⟩ => ⟨S8320, .f32⟩
  | .hbm, ⟨88, _⟩ => ⟨S8320x1024, .f32⟩
  | .hbm, ⟨89, _⟩ => ⟨S8320x1024, .f32⟩
  | .hbm, ⟨90, _⟩ => ⟨S8320x1024, .f32⟩
  | .hbm, ⟨91, _⟩ => ⟨S8320x1024, .f32⟩
  | .hbm, ⟨92, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel3.lean ====
abbrev S8320x1024 : Shape := ⟨2, ![8320, 1024]⟩
abbrev S1x1024 : Shape := ⟨2, ![1, 1024]⟩
abbrev S1024x6272 : Shape := ⟨2, ![1024, 6272]⟩
abbrev S8320x2048 : Shape := ⟨2, ![8320, 2048]⟩
abbrev S2048x1024 : Shape := ⟨2, ![2048, 1024]⟩
abbrev S8320x6272 : Shape := ⟨2, ![8320, 6272]⟩
abbrev S832x1024 : Shape := ⟨2, ![832, 1024]⟩
abbrev S832 : Shape := ⟨1, ![832]⟩
abbrev S832x1 : Shape := ⟨2, ![832, 1]⟩
abbrev S640x1024 : Shape := ⟨2, ![640, 1024]⟩
abbrev S1024x896 : Shape := ⟨2, ![1024, 896]⟩
abbrev S640x896 : Shape := ⟨2, ![640, 896]⟩
abbrev S640x2048 : Shape := ⟨2, ![640, 2048]⟩
abbrev S1024x1024 : Shape := ⟨2, ![1024, 1024]⟩
abbrev S320x6272 : Shape := ⟨2, ![320, 6272]⟩
abbrev S512x6272 : Shape := ⟨2, ![512, 6272]⟩
abbrev S320x512 : Shape := ⟨2, ![320, 512]⟩
abbrev S416x1024 : Shape := ⟨2, ![416, 1024]⟩
abbrev S416 : Shape := ⟨1, ![416]⟩
abbrev S416x1 : Shape := ⟨2, ![416, 1]⟩
abbrev S1024 : Shape := ⟨1, ![1024]⟩

abbrev nBuf : Space → Nat
  | .hbm => 16
  | .vmem => 54
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x6272, .bf16⟩
  | .hbm, ⟨3, _⟩ => ⟨S8320x2048, .bf16⟩
  | .hbm, ⟨4, _⟩ => ⟨S2048x1024, .bf16⟩
  | .hbm, ⟨5, _⟩ => ⟨S8320x6272, .f32⟩
  | .hbm, ⟨6, _⟩ => ⟨S8320x1024, .f32⟩
  | .hbm, ⟨7, _⟩ => ⟨S8320x1024, .bf16⟩
  | .hbm, ⟨8, _⟩ => ⟨S8320x6272, .f32⟩
  | .hbm, ⟨9, _⟩ => ⟨S8320x1024, .f32⟩
  | .hbm, ⟨10, _⟩ => ⟨S8320x2048, .f32⟩
  | .hbm, ⟨11, _⟩ => ⟨S2048x1024, .f32⟩
  | .hbm, ⟨12, _⟩ => ⟨S1024x6272, .f32⟩
  | .hbm, ⟨13, _⟩ => ⟨S8320x1024, .f32⟩
  | .hbm, ⟨14, _⟩ => ⟨S8320x1024, .f32⟩
  | .hbm, ⟨15, _⟩ => ⟨S1x1024, .f32⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S832x1024, .bf16⟩
  | .local _ .vmem, ⟨4, _⟩ => ⟨S832x1024, .bf16⟩
  | .local _ .vmem, ⟨5, _⟩ => ⟨S640x1024, .bf16⟩
  | .local _ .vmem, ⟨6, _⟩ => ⟨S640x1024, .bf16⟩
  | .local _ .vmem, ⟨7, _⟩ => ⟨S1024x896, .bf16⟩
  | .local _ .vmem, ⟨8, _⟩ => ⟨S1024x896, .bf16⟩
  | .local _ .vmem, ⟨9, _⟩ => ⟨S640x896, .f32⟩
  | .local _ .vmem, ⟨10, _⟩ => ⟨S640x896, .f32⟩
  | .local _ .vmem, ⟨11, _⟩ => ⟨S640x2048, .bf16⟩
  | .local _ .vmem, ⟨12, _⟩ => ⟨S640x2048, .bf16⟩
  | .local _ .vmem, ⟨13, _⟩ => ⟨S2048x1024, .bf16⟩
  | .local _ .vmem, ⟨14, _⟩ => ⟨S640x1024, .f32⟩
  | .local _ .vmem, ⟨15, _⟩ => ⟨S640x1024, .f32⟩
  | .local _ .vmem, ⟨16, _⟩ => ⟨S640x1024, .f32⟩
  | .local _ .vmem, ⟨17, _⟩ => ⟨S640x1024, .f32⟩
  | .local _ .vmem, ⟨18, _⟩ => ⟨S640x1024, .f32⟩
  | .local _ .vmem, ⟨19, _⟩ => ⟨S640x1024, .f32⟩
  | .local _ .vmem, ⟨20, _⟩ => ⟨S1024x1024, .bf16⟩
  | .local _ .vmem, ⟨21, _⟩ => ⟨S1024x1024, .bf16⟩
  | .local _ .vmem, ⟨22, _⟩ => ⟨S640x1024, .f32⟩
  | .local _ .vmem, ⟨23, _⟩ => ⟨S640x1024, .f32⟩
  | .local _ .vmem, ⟨24, _⟩ => ⟨S640x1024, .bf16⟩
  | .local _ .vmem, ⟨25, _⟩ => ⟨S640x1024, .bf16⟩
  | .local _ .vmem, ⟨26, _⟩ => ⟨S640x1024, .f32⟩
  | .local _ .vmem, ⟨27, _⟩ => ⟨S640x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S640x1024, .bf16⟩
  | .local _ .vmem, ⟨32, _⟩ => ⟨S640x1024, .bf16⟩
  | .local _ .vmem, ⟨33, _⟩ => ⟨S640x896, .f32⟩
  | .local _ .vmem, ⟨34, _⟩ => ⟨S640x896, .f32⟩
  | .local _ .vmem, ⟨35, _⟩ => ⟨S1024x896, .f32⟩
  | .local _ .vmem, ⟨36, _⟩ => ⟨S1024x896, .f32⟩
  | .local _ .vmem, ⟨37, _⟩ => ⟨S1024x896, .f32⟩
  | .local _ .vmem, ⟨38, _⟩ => ⟨S320x6272, .f32⟩
  | .local _ .vmem, ⟨39, _⟩ => ⟨S320x6272, .f32⟩
  | .local _ .vmem, ⟨40, _⟩ => ⟨S512x6272, .bf16⟩
  | .local _ .vmem, ⟨41, _⟩ => ⟨S512x6272, .bf16⟩
  | .local _ .vmem, ⟨42, _⟩ => ⟨S320x512, .f32⟩
  | .local _ .vmem, ⟨43, _⟩ => ⟨S320x512, .f32⟩
  | .local _ .vmem, ⟨44, _⟩ => ⟨S416x1024, .f32⟩
  | .local _ .vmem, ⟨45, _⟩ => ⟨S416x1024, .f32⟩
  | .local _ .vmem, ⟨46, _⟩ => ⟨S416x1024, .f32⟩
  | .local _ .vmem, ⟨47, _⟩ => ⟨S416x1024, .f32⟩
  | .local _ .vmem, ⟨48, _⟩ => ⟨S1x1024, .f32⟩
  | .local _ .vmem, ⟨49, _⟩ => ⟨S416x1024, .f32⟩
  | .local _ .vmem, ⟨50, _⟩ => ⟨S416x1024, .f32⟩
  | .local _ .vmem, ⟨51, _⟩ => ⟨S416x1024, .f32⟩
  | .local _ .vmem, ⟨52, _⟩ => ⟨S416x1024, .f32⟩
  | .local _ .vmem, ⟨53, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc7_stg4_0 : Ref sig .tc := ⟨.vmem, 51, rfl⟩
abbrev cc7_stg4_1 : Ref sig .tc := ⟨.vmem, 52, rfl⟩
abbrev cc7_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem3_0 : DmaSem sig := 47
abbrev cc7_sem3_1 : DmaSem sig := 48
abbrev cc7_sem4_0 : DmaSem sig := 49
abbrev cc7_sem4_1 : DmaSem sig := 50
abbrev cc7_sem5_0 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![7, 13, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x896 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S640x896 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 13, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S640x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S640x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S640x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 13, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S640x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S640x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 13], ![false, false, false]⟩

def k4_cond3 (i : grid4.Coords) : BitVec 1 :=
  let arg2 : BitVec 32 := BitVec.ofNat 32 (i 2).val
  let c12_i32 : BitVec 32 := 12#32
  let v10 : BitVec 1 := Scalar.cmpi .eq arg2 c12_i32
  let v11 : BitVec 32 := Scalar.extui v10
  let c0_i32_6 : BitVec 32 := 0#32
  let v12 : BitVec 1 := Scalar.cmpi .ne v11 c0_i32_6
  v12

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S640x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S640x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![7, 1, 13], ![false, false, false]⟩

def k5_cond3 (i : grid5.Coords) : BitVec 1 :=
  let arg2 : BitVec 32 := BitVec.ofNat 32 (i 2).val
  let c12_i32 : BitVec 32 := 12#32
  let v11 : BitVec 1 := Scalar.cmpi .eq arg2 c12_i32
  let v12 : BitVec 32 := Scalar.extui v11
  let c0_i32_6 : BitVec 32 := 0#32
  let v13 : BitVec 1 := Scalar.cmpi .ne v12 c0_i32_6
  v13

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S640x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S640x896 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1024x896 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 26, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage6_0 : Fin 2 → Memref sig .tc .vmem S320x6272 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 2 → Memref sig .tc .vmem S512x6272 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S320x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S416x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S416x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S416x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S416x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]
-- ==== Reference3Ideal.lean ====
abbrev S8320x1024 : Shape := ⟨2, ![8320, 1024]⟩
abbrev S1x1024 : Shape := ⟨2, ![1, 1024]⟩
abbrev S1024x6272 : Shape := ⟨2, ![1024, 6272]⟩
abbrev S8320x2048 : Shape := ⟨2, ![8320, 2048]⟩
abbrev S2048x1024 : Shape := ⟨2, ![2048, 1024]⟩
abbrev S8320x6272 : Shape := ⟨2, ![8320, 6272]⟩
abbrev S_ : Shape := ⟨0, ![]⟩
abbrev S8320 : Shape := ⟨1, ![8320]⟩
abbrev S8320x1 : Shape := ⟨2, ![8320, 1]⟩
abbrev S1024x2048 : Shape := ⟨2, ![1024, 2048]⟩
abbrev S6272x1024 : Shape := ⟨2, ![6272, 1024]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x6272, .bf16⟩
  | .hbm, ⟨3, _⟩ => ⟨S8320x2048, .bf16⟩
  | .hbm, ⟨4, _⟩ => ⟨S2048x1024, .bf16⟩
  | .hbm, ⟨5, _⟩ => ⟨S8320x6272, .f32⟩
  | .hbm, ⟨6, _⟩ => ⟨S8320x1024, .f32⟩
  | .hbm, ⟨7, _⟩ => ⟨S1024x6272, .f32⟩
  | .hbm, ⟨8, _⟩ => ⟨S8320x2048, .f32⟩
  | .hbm, ⟨9, _⟩ => ⟨S2048x1024, .f32⟩
  | .hbm, ⟨10, _⟩ => ⟨S8320x1024, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x6272, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S1024x2048, .f32⟩
  | .hbm, ⟨34, _⟩ => ⟨S2048x1024, .f32⟩
  | .hbm, ⟨35, _⟩ => ⟨S8320x2048, .f32⟩
  | .hbm, ⟨36, _⟩ => ⟨S6272x1024, .f32⟩
  | .hbm, ⟨37, _⟩ => ⟨S1024x6272, .f32⟩
  | .hbm, ⟨38, _⟩ => ⟨S8320x1024, .f32⟩
  | .hbm, ⟨39, _⟩ => ⟨S8320x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S_, .f32⟩
  | .hbm, ⟨47, _⟩ => ⟨S8320, .f32⟩
  | .hbm, ⟨48, _⟩ => ⟨S8320x1, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1, .f32⟩
  | .hbm, ⟨53, _⟩ => ⟨S_, .f32⟩
  | .hbm, ⟨54, _⟩ => ⟨S8320x1, .f32⟩
  | .hbm, ⟨55, _⟩ => ⟨S8320x1, .f32⟩
  | .hbm, ⟨56, _⟩ => ⟨S_, .f32⟩
  | .hbm, ⟨57, _⟩ => ⟨S8320, .f32⟩
  | .hbm, ⟨58, _⟩ => ⟨S8320x1024, .f32⟩
  | .hbm, ⟨59, _⟩ => ⟨S8320x1024, .f32⟩
  | .hbm, ⟨60, _⟩ => ⟨S8320x1024, .f32⟩
  | .hbm, ⟨61, _⟩ => ⟨S8320x1024, .f32⟩
  | .hbm, ⟨62, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel4.lean ====
abbrev S8320x1024 : Shape := ⟨2, ![8320, 1024]⟩
abbrev S1x1024 : Shape := ⟨2, ![1, 1024]⟩
abbrev S1024x1024 : Shape := ⟨2, ![1024, 1024]⟩
abbrev S832x1024 : Shape := ⟨2, ![832, 1024]⟩
abbrev S832 : Shape := ⟨1, ![832]⟩
abbrev S832x1 : Shape := ⟨2, ![832, 1]⟩
abbrev S640x1024 : Shape := ⟨2, ![640, 1024]⟩
abbrev S640x512 : Shape := ⟨2, ![640, 512]⟩
abbrev S1024x512 : Shape := ⟨2, ![1024, 512]⟩
abbrev S416x1024 : Shape := ⟨2, ![416, 1024]⟩
abbrev S416 : Shape := ⟨1, ![416]⟩
abbrev S416x1 : Shape := ⟨2, ![416, 1]⟩
abbrev S1024 : Shape := ⟨1, ![1024]⟩

abbrev nBuf : Space → Nat
  | .hbm => 16
  | .vmem => 51
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x1024, .bf16⟩
  | .hbm, ⟨3, _⟩ => ⟨S8320x1024, .bf16⟩
  | .hbm, ⟨4, _⟩ => ⟨S1024x1024, .bf16⟩
  | .hbm, ⟨5, _⟩ => ⟨S8320x1024, .bf16⟩
  | .hbm, ⟨6, _⟩ => ⟨S8320x1024, .f32⟩
  | .hbm, ⟨7, _⟩ => ⟨S8320x1024, .bf16⟩
  | .hbm, ⟨8, _⟩ => ⟨S8320x1024, .f32⟩
  | .hbm, ⟨9, _⟩ => ⟨S8320x1024, .f32⟩
  | .hbm, ⟨10, _⟩ => ⟨S8320x1024, .bf16⟩
  | .hbm, ⟨11, _⟩ => ⟨S1024x1024, .f32⟩
  | .hbm, ⟨12, _⟩ => ⟨S1024x1024, .f32⟩
  | .hbm, ⟨13, _⟩ => ⟨S8320x1024, .f32⟩
  | .hbm, ⟨14, _⟩ => ⟨S8320x1024, .f32⟩
  | .hbm, ⟨15, _⟩ => ⟨S1x1024, .f32⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S832x1024, .bf16⟩
  | .local _ .vmem, ⟨4, _⟩ => ⟨S832x1024, .bf16⟩
  | .local _ .vmem, ⟨5, _⟩ => ⟨S640x1024, .bf16⟩
  | .local _ .vmem, ⟨6, _⟩ => ⟨S640x1024, .bf16⟩
  | .local _ .vmem, ⟨7, _⟩ => ⟨S1024x1024, .bf16⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | .local _ .vmem, ⟨12, _⟩ => ⟨S1024x1024, .bf16⟩
  | .local _ .vmem, ⟨13, _⟩ => ⟨S640x1024, .f32⟩
  | .local _ .vmem, ⟨14, _⟩ => ⟨S640x1024, .f32⟩
  | .local _ .vmem, ⟨15, _⟩ => ⟨S640x1024, .f32⟩
  | .local _ .vmem, ⟨16, _⟩ => ⟨S640x1024, .f32⟩
  | .local _ .vmem, ⟨17, _⟩ => ⟨S640x1024, .f32⟩
  | .local _ .vmem, ⟨18, _⟩ => ⟨S640x1024, .f32⟩
  | .local _ .vmem, ⟨19, _⟩ => ⟨S1024x1024, .bf16⟩
  | .local _ .vmem, ⟨20, _⟩ => ⟨S640x1024, .bf16⟩
  | .local _ .vmem, ⟨21, _⟩ => ⟨S640x1024, .bf16⟩
  | .local _ .vmem, ⟨22, _⟩ => ⟨S640x1024, .bf16⟩
  | .local _ .vmem, ⟨23, _⟩ => ⟨S640x1024, .bf16⟩
  | .local _ .vmem, ⟨24, _⟩ => ⟨S640x512, .f32⟩
  | .local _ .vmem, ⟨25, _⟩ => ⟨S640x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S640x1024, .bf16⟩
  | .local _ .vmem, ⟨30, _⟩ => ⟨S640x1024, .bf16⟩
  | .local _ .vmem, ⟨31, _⟩ => ⟨S640x512, .bf16⟩
  | .local _ .vmem, ⟨32, _⟩ => ⟨S640x512, .bf16⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S640x1024, .bf16⟩
  | .local _ .vmem, ⟨37, _⟩ => ⟨S640x1024, .bf16⟩
  | .local _ .vmem, ⟨38, _⟩ => ⟨S1024x1024, .bf16⟩
  | .local _ .vmem, ⟨39, _⟩ => ⟨S640x1024, .f32⟩
  | .local _ .vmem, ⟨40, _⟩ => ⟨S640x1024, .f32⟩
  | .local _ .vmem, ⟨41, _⟩ => ⟨S416x1024, .f32⟩
  | .local _ .vmem, ⟨42, _⟩ => ⟨S416x1024, .f32⟩
  | .local _ .vmem, ⟨43, _⟩ => ⟨S416x1024, .f32⟩
  | .local _ .vmem, ⟨44, _⟩ => ⟨S416x1024, .f32⟩
  | .local _ .vmem, ⟨45, _⟩ => ⟨S1x1024, .f32⟩
  | .local _ .vmem, ⟨46, _⟩ => ⟨S416x1024, .f32⟩
  | .local _ .vmem, ⟨47, _⟩ => ⟨S416x1024, .f32⟩
  | .local _ .vmem, ⟨48, _⟩ => ⟨S416x1024, .f32⟩
  | .local _ .vmem, ⟨49, _⟩ => ⟨S416x1024, .f32⟩
  | .local _ .vmem, ⟨50, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_scratch0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_scratch0 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc7_stg4_0 : Ref sig .tc := ⟨.vmem, 48, rfl⟩
abbrev cc7_stg4_1 : Ref sig .tc := ⟨.vmem, 49, rfl⟩
abbrev cc7_stg5_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem3_0 : DmaSem sig := 44
abbrev cc7_sem3_1 : DmaSem sig := 45
abbrev cc7_sem4_0 : DmaSem sig := 46
abbrev cc7_sem4_1 : DmaSem sig := 47
abbrev cc7_sem5_0 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 13, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S640x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 13, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S640x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S640x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S640x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 13, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S640x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S640x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 13], ![false, false, false]⟩

def k4_cond3 (i : grid4.Coords) : BitVec 1 :=
  let arg2 : BitVec 32 := BitVec.ofNat 32 (i 2).val
  let c12_i32 : BitVec 32 := 12#32
  let v10 : BitVec 1 := Scalar.cmpi .eq arg2 c12_i32
  let v11 : BitVec 32 := Scalar.extui v10
  let c0_i32_6 : BitVec 32 := 0#32
  let v12 : BitVec 1 := Scalar.cmpi .ne v11 c0_i32_6
  v12

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S640x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S640x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 13], ![false, false, false]⟩

def k5_cond3 (i : grid5.Coords) : BitVec 1 :=
  let arg2 : BitVec 32 := BitVec.ofNat 32 (i 2).val
  let c12_i32 : BitVec 32 := 12#32
  let v10 : BitVec 1 := Scalar.cmpi .eq arg2 c12_i32
  let v11 : BitVec 32 := Scalar.extui v10
  let c0_i32_6 : BitVec 32 := 0#32
  let v12 : BitVec 1 := Scalar.cmpi .ne v11 c0_i32_6
  v12

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S640x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S640x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 13, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage6_0 : Fin 2 → Memref sig .tc .vmem S640x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false, true]

abbrev stage6_2 : Fin 2 → Memref sig .tc .vmem S640x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S416x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S416x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S416x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S416x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]
-- ==== Reference4Ideal.lean ====
abbrev S8320x1024 : Shape := ⟨2, ![8320, 1024]⟩
abbrev S1x1024 : Shape := ⟨2, ![1, 1024]⟩
abbrev S1024x1024 : Shape := ⟨2, ![1024, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x1024, .bf16⟩
  | .hbm, ⟨3, _⟩ => ⟨S8320x1024, .bf16⟩
  | .hbm, ⟨4, _⟩ => ⟨S1024x1024, .bf16⟩
  | .hbm, ⟨5, _⟩ => ⟨S8320x1024, .bf16⟩
  | .hbm, ⟨6, _⟩ => ⟨S8320x1024, .f32⟩
  | .hbm, ⟨7, _⟩ => ⟨S1024x1024, .f32⟩
  | .hbm, ⟨8, _⟩ => ⟨S8320x1024, .f32⟩
  | .hbm, ⟨9, _⟩ => ⟨S1024x1024, .f32⟩
  | .hbm, ⟨10, _⟩ => ⟨S8320x1024, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S1024x1024, .f32⟩
  | .hbm, ⟨35, _⟩ => ⟨S1024x1024, .f32⟩
  | .hbm, ⟨36, _⟩ => ⟨S8320x1024, .f32⟩
  | .hbm, ⟨37, _⟩ => ⟨S1024x1024, .f32⟩
  | .hbm, ⟨38, _⟩ => ⟨S1024x1024, .f32⟩
  | .hbm, ⟨39, _⟩ => ⟨S8320x1024, .f32⟩
  | .hbm, ⟨40, _⟩ => ⟨S8320x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S_, .f32⟩
  | .hbm, ⟨48, _⟩ => ⟨S8320, .f32⟩
  | .hbm, ⟨49, _⟩ => ⟨S8320x1, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1, .f32⟩
  | .hbm, ⟨54, _⟩ => ⟨S_, .f32⟩
  | .hbm, ⟨55, _⟩ => ⟨S8320x1, .f32⟩
  | .hbm, ⟨56, _⟩ => ⟨S8320x1, .f32⟩
  | .hbm, ⟨57, _⟩ => ⟨S_, .f32⟩
  | .hbm, ⟨58, _⟩ => ⟨S8320, .f32⟩
  | .hbm, ⟨59, _⟩ => ⟨S8320x1024, .f32⟩
  | .hbm, ⟨60, _⟩ => ⟨S8320x1024, .f32⟩
  | .hbm, ⟨61, _⟩ => ⟨S8320x1024, .f32⟩
  | .hbm, ⟨62, _⟩ => ⟨S8320x1024, .f32⟩
  | .hbm, ⟨63, _⟩ => ⟨S8320x1024, .f32⟩
  | .hbm, ⟨64, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.Tile.lean ====
module

public import proofs.«01_k».proof.Proof.Gen.KernelIdeal.Skeleton

@[expose] public section

set_option synthInstance.maxSize 4096
set_option maxRecDepth 65536

noncomputable section

/-! The two kernels sweep the score matrix in tiles of two heads by 128 queries by 128 keys. This
module states what one tile computes, as pure functions over the blocks read and the carries, and
the programs of a group of tiles as recursions over a list of tiles. -/

namespace Cert.Proof.Sb

open Cert.KernelIdeal Cert.KernelIdeal.Gen
open Idealize.ShloMosaic Idealize.SL.Sem

variable {F : FTy → Type} [FloatOps F]

/-- Both heads' queries by the keys of a tile, -/
abbrev Sq (F : FTy → Type) := FVec F S256x128 .f32
/-- one number per query, -/
abbrev Col (F : FTy → Type) := FVec F S256x1 .f32
/-- a block of a bf16 operand, -/
abbrev Blk (F : FTy → Type) := Vec F S128x128 .bf16
/-- a block of a gradient, -/
abbrev GBlk (F : FTy → Type) := Vec F S128x128 .f32
/-- and both heads' queries by lanes. -/
abbrev Rows (F : FTy → Type) := FVec F S256x128 .bf16

/-- Which entries of a tile count: the others become zero. -/
abbrev Sel (F : FTy → Type) := Sq F → Sq F

def zeros : Sq F := broadcast S256x128 (Scalar.ofBits .f32 0x00000000#32)
def ones : Sq F := broadcast S256x128 (Scalar.ofBits .f32 0x3F800000#32)

/-- Rows against the rows of a block, -/
def dotT (x : Rows F) (b : Blk F) : Sq F :=
  matmul dot_S256x128_S128x128_S256x128_1_1_0_0_n_n none x b (constant S256x128 .f32 0x00000000#32)

/-- and against its columns. -/
def dotN (x : Rows F) (b : Blk F) : Sq F :=
  matmul dot_S256x128_S128x128_S256x128_1_0_0_1_n_n none x b (constant S256x128 .f32 0x00000000#32)

def trunc (x : Sq F) : Rows F := truncf .bf16 x bitsLt_bf16_f32
def ext (x : Rows F) : Sq F := extf .f32 x bitsLt_bf16_f32

/-- A product whose left operand goes in as two bf16 parts. -/
def dotx (x : Sq F) (b : Blk F) : Sq F :=
  addf (addf zeros (dotN (trunc x) b)) (dotN (trunc (subf x (ext (trunc x)))) b)

def rowsum (x : Sq F) : Col F :=
  shapeCast S256x1 (multiReduction .add [1] S256 x 0x00000000#32 reduces_S256x128_S256 (.inl rfl) rfl) shapeCasts_S256_S256x1

def spread (c : Col F) : Sq F := broadcastTo S256x128 c broadcasts_S256x1_S256x128

def tE (z : Sq F) : Sq F := exp (subf zeros (absf z))
def tL1 (z : Sq F) : Sq F := log (addf ones (tE z))
/-- The log of the sigmoid of the scores, -/
def tLsz (z : Sq F) : Sq F := subf (minimumf z zeros) (tL1 z)
/-- and of the sigmoid of their negatives. -/
def tKeep (z : Sq F) : Sq F := subf (subf zeros (maximumf z zeros)) (tL1 z)

/-- The attention weights of a tile, given what the later keys keep. -/
def tA (sel : Sel F) (after : Blk F) (c : Col F) (z : Sq F) : Rows F :=
  trunc (sel (exp (addf (tLsz z) (addf (spread c) (dotx (sel (tKeep z)) after)))))

def tC (sel : Sel F) (c : Col F) (z : Sq F) : Col F := addf c (rowsum (sel (tKeep z)))

def tSig (z : Sq F) : Sq F :=
  select (cmpf .oge z zeros) (divf ones (addf ones (tE z))) (mulf (tE z) (divf ones (addf ones (tE z))))

/-- The gradient of the log weights, -/
def tDlog (a : Rows F) (da : Sq F) : Sq F := mulf da (ext a)

/-- and of the scores. -/
def tDz (sel : Sel F) (fromJ : Blk F) (total met : Col F) (z dlog : Sq F) : Rows F :=
  trunc (subf (mulf dlog (subf ones (tSig z)))
    (sel (mulf (subf (spread total) (addf (spread met) (dotx dlog fromJ))) (tSig z))))

def tMet (met : Col F) (dlog : Sq F) : Col F := addf met (rowsum dlog)

/-- A gradient block with a tile's contribution added. -/
def tGrad (old : GBlk F) (x y : Rows F) : GBlk F :=
  addf (shapeCast S128x128 old shapeCasts_S128x128_S128x128)
    (matmul dot_S256x128_S256x128_S128x128_0_0_1_1_n_n none x y (constant S128x128 .f32 0x00000000#32))

/-- The mask of a tile whose key block is `kraw` (no block at all if negative), as seen by the query
block `iq`: keys strictly before the query, and past the padding. -/
def msk (dmat scol : IVec S256x128 32) (iq kraw : BitVec 32) : Sel F := fun x =>
  select
    (andi (cmpi .sgt dmat (broadcast S256x128 (Scalar.select (Scalar.cmpi .sge kraw 0#32)
        (Scalar.muli (Scalar.subi (Scalar.maxsi kraw 0#32) iq) 128#32) 128#32)))
      (cmpi .sge scol (broadcast S256x128 (Scalar.subi 112#32 (Scalar.muli (Scalar.maxsi kraw 0#32) 128#32))))) x zeros

/-- The rows of the columns' operands a tile reads. -/
abbrev Off := { o : Fin 2 → ℕ // ∀ a, o a + S128x128.size a ≤ S8320x128.size a }

abbrev PR (F : FTy → Type) (α : Type) := Prog (TpuEff nD τ sig (Elt F) Λ₀ .tc) α

/-- What one tile is told: its mask and its rows. -/
abbrev TileArg (F : FTy → Type) := Sel F × Off

/-- What the backward sweep holds fixed at a grid point. -/
structure Env (F : FTy → Type) where
  after : Blk F
  fromJ : Blk F
  qq : Rows F
  dd : Rows F
  total : Col F

/-- What the backward sweep carries from tile to tile, besides the two gradient columns. -/
abbrev Carry (F : FTy → Type) := Col F × Col F × Sq F

/-- Load the rows of every tile of a list. -/
def loads (m : Memref sig .tc .vmem S8320x128 .bf16) {α : Type} : List (TileArg F) → (List (Blk F) → PR F α) → PR F α
  | [], k => k []
  | t :: ts, k =>
      (Prog.lift (.load m (Rect.unit (s := S8320x128) t.2.1 S128x128.size t.2.2).toLoadRect (View.loadsAt_vmem h_S128x128)) : PR F (Blk F)) >>=
        fun b => loads m ts fun bs => k (b :: bs)

/-- Add to the rows of a gradient column what the tile gives: the rows are read twice. -/
def bump (m : Memref sig .tc .vmem S8320x128 .f32) (o : Off) (x y : Rows F) {α : Type} (k : PR F α) : PR F α :=
  (Prog.lift (.load m (Rect.unit (s := S8320x128) o.1 S128x128.size o.2).toLoadRect (View.loadsAt_vmem h_S128x128)) : PR F (GBlk F)) >>= fun old =>
  (Prog.lift (.load m (Rect.unit (s := S8320x128) o.1 S128x128.size o.2).toLoadRect (View.loadsAt_vmem h_S128x128)) : PR F (GBlk F)) >>= fun _ =>
  (Prog.lift (.store m (Rect.unit (s := S8320x128) o.1 S128x128.size o.2) (tGrad old x y) Finset.univ (View.stores_vmem_bits_univ h_S128x128 rfl) (.inl rfl)) : PR F PUnit) >>= fun _ => k

/-- The attention weights and the gradient of the scores of a tile. -/
def Env.a (E : Env F) (sel : Sel F) (cr : Carry F) (kb : Blk F) : Rows F := tA sel E.after cr.1 (dotT E.qq kb)
def Env.dlog (E : Env F) (sel : Sel F) (cr : Carry F) (kb vb : Blk F) : Sq F := tDlog (E.a sel cr kb) (dotT E.dd vb)
def Env.dz (E : Env F) (sel : Sel F) (cr : Carry F) (kb vb : Blk F) : Rows F :=
  tDz sel E.fromJ E.total cr.2.1 (dotT E.qq kb) (E.dlog sel cr kb vb)
def Env.next (E : Env F) (sel : Sel F) (cr : Carry F) (kb vb : Blk F) : Carry F :=
  (tC sel cr.1 (dotT E.qq kb), tMet cr.2.1 (E.dlog sel cr kb vb), addf cr.2.2 (dotN (E.dz sel cr kb vb) kb))

/-- The updates of a list of tiles whose blocks have been read. -/
def steps (dk dv : Memref sig .tc .vmem S8320x128 .f32) (E : Env F) : List (TileArg F) → List (Blk F) → List (Blk F) → Carry F → PR F (Carry F)
  | t :: ts, kb :: kbs, vb :: vbs, cr =>
      bump dk t.2 (E.dz t.1 cr kb vb) E.qq <| bump dv t.2 (E.a t.1 cr kb) E.dd <|
        steps dk dv E ts kbs vbs (E.next t.1 cr kb vb)
  | _, _, _, cr => pure cr

/-- A group of tiles. -/
def group (mk mv : Memref sig .tc .vmem S8320x128 .bf16) (dk dv : Memref sig .tc .vmem S8320x128 .f32) (E : Env F)
    (ts : List (TileArg F)) (cr : Carry F) : PR F (Carry F) :=
  loads mk ts fun kbs => loads mv ts fun vbs => steps dk dv E ts kbs vbs cr

/-! ### The backward sweep as groups of tiles -/

/-- The columns' numbers within a tile, -/
def scol : IVec S256x128 32 := iota .tc S256x128 32 [1] iota_S256x128_d1_w32

/-- how many unmasked groups of eight tiles a query block has, as the kernels compute it, -/
def nInner (iq : BitVec 32) : BitVec 32 :=
  let m := Scalar.subi iq 4#32
  Scalar.maxsi (Scalar.select
    (Scalar.andi
      (Scalar.cmpi .ne
        (Scalar.subi (Scalar.extui (Scalar.cmpi .sgt m 0#32)) (Scalar.extui (Scalar.cmpi .slt m 0#32)))
        (Scalar.subi (Scalar.extui (Scalar.cmpi .sgt 8#32 0#32)) (Scalar.extui (Scalar.cmpi .slt 8#32 0#32))))
      (Scalar.cmpi .ne (Scalar.remsi m 8#32) 0#32))
    (Scalar.subi (Scalar.divsi m 8#32) 1#32) (Scalar.divsi m 8#32)) 0#32

/-- and how many tiles come before the tail. -/
def done (iq : BitVec 32) : BitVec 32 := Scalar.addi 4#32 (Scalar.muli (nInner iq) 8#32)

/-- What the first half of the sweep hands to the second: the carries and some words. -/
abbrev Mid (F : FTy → Type) :=
  Σ' (_ : FVec F S256x1 .f32) (_ : FVec F S256x1 .f32) (_ : FVec F S256x128 .f32) (_ : BitVec 32) (_ : BitVec 32) (_ : BitVec 32) (_ : BitVec 32) (_ : BitVec 32), BitVec 32

/-- Where the tail's own remainder would start. -/
def tailEnd (x : Mid F) : BitVec 32 :=
  match x with
  | ⟨_, _, _, _, v507, four, v508, v513, zero⟩ =>
  Scalar.addi 0#32 (Scalar.muli (Scalar.divsi (Scalar.subi (Scalar.maxsi (Scalar.select
    (Scalar.andi
      (Scalar.cmpi .ne v513
        (Scalar.subi (Scalar.extui (Scalar.cmpi .sgt four zero)) (Scalar.extui (Scalar.cmpi .slt four 0#32))))
      (Scalar.cmpi .ne (Scalar.remsi v507 four) 0#32))
    (Scalar.subi v508 1#32) v508) 0#32) 0#32) 1#32) 1#32)

section Body

variable (i : grid1.Coords) (arg2 : Memref sig .tc .vmem S128x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S128x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S8320x128 .f32) (harg8 : arg8.IsWhole) (arg9 : Memref sig .tc .vmem S8320x128 .f32) (harg9 : arg9.IsWhole)

/-- The query block's number as a word. -/
abbrev iq1 (i : grid1.Coords) : BitVec 32 := BitVec.ofNat 32 (i 1).val

/-- The tiles next to the diagonal, -/
def edge1 (iq : BitVec 32) (dmat sc : IVec S256x128 32) (u : Fin 4) : TileArg F :=
  (msk dmat sc iq (Scalar.subi iq (BitVec.ofNat 32 u.val)), ⟨k1_off1 i (BitVec.ofNat 32 u.val), k1_off1_inb i u⟩)

/-- of a trip of the middle, -/
def inner1 (t : Fin (k1_t1_loop i).trips) (u : Fin 8) : TileArg F :=
  (fun x => x, ⟨k1_off2 i t (BitVec.ofNat 32 u.val), k1_off2_inb i t u⟩)
def inner1' (t : Fin (k1_t2_loop i).trips) (u : Fin 8) : TileArg F :=
  (fun x => x, ⟨k1_off3 i t (BitVec.ofNat 32 u.val), k1_off3_inb i t u⟩)

/-- and of a trip of the tail. -/
def tail1 (iq : BitVec 32) (dmat sc : IVec S256x128 32) (dn : BitVec 32) (t : Fin (k1_t3_loop i).trips) (u : Fin 4) : TileArg F :=
  (msk dmat sc iq (Scalar.subi iq (Scalar.addi (Scalar.addi dn (Scalar.muli (Scf.iv 0#32 1#32 t) 4#32)) (BitVec.ofNat 32 u.val))),
   ⟨k1_off4 i t (BitVec.ofNat 32 u.val), k1_off4_inb i t u⟩)
def tail1' (iq : BitVec 32) (dmat sc : IVec S256x128 32) (x : Mid F) (t : Fin (k1_t4_loop i).trips) (u : Fin 4) : TileArg F :=
  (msk dmat sc iq (Scalar.subi iq (Scalar.addi (Scalar.addi x.2.2.2.1 (Scalar.muli (Scf.iv (tailEnd x) 1#32 t) 4#32)) (BitVec.ofNat 32 u.val))),
   ⟨k1_off5 i t (BitVec.ofNat 32 u.val), k1_off5_inb i t u⟩)

/-- Load a whole block. -/
abbrev blk (m : Memref sig .tc .vmem S128x128 .bf16) : PR F (Blk F) :=
  Prog.lift (.load m (Rect.unit (s := S128x128) ![0, 0] S128x128.size inb_S128x128_S128x128_0_0).toLoadRect (View.loadsAt_vmem h_S128x128))
abbrev gblk (m : Memref sig .tc .vmem S128x128 .f32) : PR F (GBlk F) :=
  Prog.lift (.load m (Rect.unit (s := S128x128) ![0, 0] S128x128.size inb_S128x128_S128x128_0_0).toLoadRect (View.loadsAt_vmem h_S128x128))

/-- Zero a whole gradient column, which is read first. -/
abbrev wipe (m : Memref sig .tc .vmem S8320x128 .f32) : PR F PUnit :=
  (Prog.lift (.load m (Rect.unit (s := S8320x128) ![0, 0] S8320x128.size inb_S8320x128_S8320x128_0_0).toLoadRect (View.loadsAt_vmem h_S8320x128)) : PR F (Vec F S8320x128 .f32)) >>= fun _ =>
  Prog.lift (.store m (Rect.unit (s := S8320x128) ![0, 0] S8320x128.size inb_S8320x128_S8320x128_0_0) (broadcast S8320x128 (Scalar.ofBits .f32 0x00000000#32)) Finset.univ (View.stores_vmem_bits_univ h_S8320x128 rfl) (.inl rfl))

/-- What the backward sweep holds fixed, from the blocks of the queries, of the output's gradient and
of the output. -/
def env (q d : Blk F) (o : GBlk F) : Env F :=
  ⟨k1_pay446, k1_pay447, k1_pay448 q, k1_pay449 d, k1_pay452 (k1_pay449 d) (k1_pay451 o) o⟩

def carry0 : Carry F := (broadcast S256x1 (Scalar.ofBits .f32 0x00000000#32), broadcast S256x1 (Scalar.ofBits .f32 0x00000000#32), zeros)

/-- The edge and the middle of the sweep, -/
def sweepA (iq : BitVec 32) (dmat sc : IVec S256x128 32) (E : Env F) : PR F (Mid F) :=
  group arg3 arg4 arg8 arg9 E [edge1 i iq dmat sc 0, edge1 i iq dmat sc 1, edge1 i iq dmat sc 2, edge1 i iq dmat sc 3] carry0 >>= fun c0 =>
  Scf.Loop.for (k1_t1_loop i) (k1_t1_ok i) c0 (fun t => group arg3 arg4 arg8 arg9 E
    [inner1 i t 0, inner1 i t 1, inner1 i t 2, inner1 i t 3, inner1 i t 4, inner1 i t 5, inner1 i t 6, inner1 i t 7]) >>= fun c1 =>
  Scf.Loop.for (k1_t2_loop i) (k1_t2_ok i) c1 (fun t => group arg3 arg4 arg8 arg9 E
    [inner1' i t 0, inner1' i t 1, inner1' i t 2, inner1' i t 3, inner1' i t 4, inner1' i t 5, inner1' i t 6, inner1' i t 7]) >>= fun c2 =>
  let m := Scalar.addi (Scalar.subi iq (done iq)) 4#32
  pure ⟨c2.1, c2.2.1, c2.2.2, done iq, m, 4#32, Scalar.divsi m 4#32,
    Scalar.subi (Scalar.extui (Scalar.cmpi .sgt m 0#32)) (Scalar.extui (Scalar.cmpi .slt m 0#32)), 0#32⟩

/-- and its tail. -/
def sweepB (iq : BitVec 32) (dmat sc : IVec S256x128 32) (E : Env F) (x : Mid F) : PR F PUnit :=
  Scf.Loop.for (k1_t3_loop i) (k1_t3_ok i) (x.1, x.2.1, x.2.2.1) (fun t => group arg3 arg4 arg8 arg9 E
    [tail1 i iq dmat sc x.2.2.2.1 t 0, tail1 i iq dmat sc x.2.2.2.1 t 1, tail1 i iq dmat sc x.2.2.2.1 t 2, tail1 i iq dmat sc x.2.2.2.1 t 3]) >>= fun c3 =>
  Scf.Loop.for (k1_t4_loop i) (k1_t4_ok i) c3 (fun t => group arg3 arg4 arg8 arg9 E
    [tail1' i iq dmat sc x t 0, tail1' i iq dmat sc x t 1, tail1' i iq dmat sc x t 2, tail1' i iq dmat sc x t 3]) >>= fun c4 =>
  gblk arg7 >>= fun _ =>
  Prog.lift (.store arg7 (Rect.unit (s := S128x128) ![0, 0] S128x128.size inb_S128x128_S128x128_0_0) (k1_pay5 c4.2.2) Finset.univ (View.stores_vmem_bits_univ h_S128x128 rfl) (.inl rfl))

/-- The values the sweep starts from, -/
abbrev Head (F : FTy → Type) :=
  Σ' (_ : BitVec 32) (_ : FVec F S128x128 .bf16) (_ : FVec F S128x128 .bf16) (_ : FVec F S256x128 .bf16) (_ : FVec F S256x128 .bf16) (_ : IVec S256x128 32) (_ : IVec S256x128 32), FVec F S128x128 .f32

def head1 : PR F (Head F) :=
  (if Scalar.cmpi .ne (Scalar.extui (Scalar.cmpi .eq (iq1 i) 0#32)) 0#32 = 1#1 then wipe arg8 >>= fun _ => wipe arg9 else pure ⟨⟩) >>= fun _ =>
  blk arg2 >>= fun q => blk arg5 >>= fun d => gblk arg6 >>= fun o =>
    pure ⟨iq1 i, k1_pay446, k1_pay447, k1_pay448 q, k1_pay449 d, k1_pay450, scol, k1_pay451 o⟩

/-- and the part of the kernel that computes them. -/
theorem head1_eq : k1_part55 (F := F) i arg2 harg2 arg3 harg3 arg4 harg4 arg5 harg5 arg6 harg6 arg7 harg7 arg8 harg8 arg9 harg9
    = head1 i arg2 arg5 arg6 arg8 arg9 := by
  rw [k1_part55_eq_skeleton]
  unfold k1_part55_skel head1
  by_cases h : Scalar.cmpi .ne (Scalar.extui (Scalar.cmpi .eq (iq1 i) 0#32)) 0#32 = 1#1
  · rw [if_pos h]
    dsimp only
    rw [dif_pos h]
    rfl
  · rw [if_neg h]
    dsimp only
    rw [dif_neg h]
    rfl

theorem bwd_eq : cc1_b_attn (F := F) i arg2 harg2 arg3 harg3 arg4 harg4 arg5 harg5 arg6 harg6 arg7 harg7 arg8 harg8 arg9 harg9
    = (k1_part55 (F := F) i arg2 harg2 arg3 harg3 arg4 harg4 arg5 harg5 arg6 harg6 arg7 harg7 arg8 harg8 arg9 harg9 >>= fun r =>
        gblk arg6 >>= fun o =>
          sweepA i arg3 arg4 arg8 arg9 r.1 r.2.2.2.2.2.1 r.2.2.2.2.2.2.1
            ⟨r.2.1, r.2.2.1, r.2.2.2.1, r.2.2.2.2.1, k1_pay452 r.2.2.2.2.1 r.2.2.2.2.2.2.2 o⟩ >>= fun x =>
          sweepB i arg3 arg4 arg7 arg8 arg9 r.1 r.2.2.2.2.2.1 r.2.2.2.2.2.2.1
            ⟨r.2.1, r.2.2.1, r.2.2.2.1, r.2.2.2.2.1, k1_pay452 r.2.2.2.2.1 r.2.2.2.2.2.2.2 o⟩ x) := rfl

end Body

end Cert.Proof.Sb
-- ==== Proof.TileF.lean ====
module

public import proofs.«01_k».proof.Proof.Tile

@[expose] public section

set_option synthInstance.maxSize 4096
set_option maxRecDepth 65536

noncomputable section

/-! The forward sweep over the same tiles: it carries the log of what the later keys keep and the
output so far. -/

namespace Cert.Proof.Sb

open Cert.KernelIdeal Cert.KernelIdeal.Gen
open Idealize.ShloMosaic Idealize.SL.Sem

variable {F : FTy → Type} [FloatOps F]

abbrev FCarry (F : FTy → Type) := Col F × Sq F

def nextF (qq : Rows F) (after : Blk F) (sel : Sel F) (cr : FCarry F) (kb vb : Blk F) : FCarry F :=
  (tC sel cr.1 (dotT qq kb), addf cr.2 (dotN (tA sel after cr.1 (dotT qq kb)) vb))

/-- The carries after a list of tiles whose blocks have been read. -/
def foldF (qq : Rows F) (after : Blk F) : List (TileArg F) → List (Blk F) → List (Blk F) → FCarry F → FCarry F
  | t :: ts, kb :: kbs, vb :: vbs, cr => foldF qq after ts kbs vbs (nextF qq after t.1 cr kb vb)
  | _, _, _, cr => cr

/-- A group of tiles. -/
def groupF (mk mv : Memref sig .tc .vmem S8320x128 .bf16) (qq : Rows F) (after : Blk F)
    (ts : List (TileArg F)) (cr : FCarry F) : PR F (FCarry F) :=
  loads mk ts fun kbs => loads mv ts fun vbs => pure (foldF qq after ts kbs vbs cr)

section Body

variable (i : grid0.Coords) (arg2 : Memref sig .tc .vmem S128x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S128x128 .bf16) (harg5 : arg5.IsWhole) (arg6 : Memref sig .tc .vmem S128x128 .f32) (harg6 : arg6.IsWhole)

abbrev iq0 (i : grid0.Coords) : BitVec 32 := BitVec.ofNat 32 (i 1).val

/-- The tiles next to the diagonal, -/
def edge0 (u : Fin 4) : TileArg F :=
  (msk k1_pay450 scol (iq0 i) (Scalar.subi (iq0 i) (BitVec.ofNat 32 u.val)), ⟨k0_off1 i (BitVec.ofNat 32 u.val), k0_off1_inb i u⟩)

/-- of a trip of the middle, -/
def inner0 (t : Fin (k0_t1_loop i).trips) (u : Fin 8) : TileArg F :=
  (fun x => x, ⟨k0_off2 i t (BitVec.ofNat 32 u.val), k0_off2_inb i t u⟩)
def inner0' (t : Fin (k0_t2_loop i).trips) (u : Fin 8) : TileArg F :=
  (fun x => x, ⟨k0_off3 i t (BitVec.ofNat 32 u.val), k0_off3_inb i t u⟩)

/-- What the first half of the sweep hands to the second. -/
abbrev Mid0 (F : FTy → Type) :=
  Σ' (_ : FVec F S256x1 .f32) (_ : FVec F S256x128 .f32) (_ : BitVec 32) (_ : BitVec 32) (_ : BitVec 32) (_ : BitVec 32) (_ : BitVec 32), BitVec 32

def tailEnd0 (x : Mid0 F) : BitVec 32 :=
  match x with
  | ⟨_, _, _, v285, four, v286, v291, v296⟩ =>
  Scalar.addi 0#32 (Scalar.muli (Scalar.divsi (Scalar.subi (Scalar.maxsi (Scalar.select
    (Scalar.andi (Scalar.cmpi .ne v291 v296) (Scalar.cmpi .ne (Scalar.remsi v285 four) 0#32))
    (Scalar.subi v286 1#32) v286) 0#32) 0#32) 1#32) 1#32)

/-- and of a trip of the tail. -/
def tail0 (dn : BitVec 32) (t : Fin (k0_t3_loop i).trips) (u : Fin 4) : TileArg F :=
  (msk k1_pay450 scol (iq0 i) (Scalar.subi (iq0 i) (Scalar.addi (Scalar.addi dn (Scalar.muli (Scf.iv 0#32 1#32 t) 4#32)) (BitVec.ofNat 32 u.val))),
   ⟨k0_off4 i t (BitVec.ofNat 32 u.val), k0_off4_inb i t u⟩)
def tail0' (x : Mid0 F) (t : Fin (k0_t4_loop i).trips) (u : Fin 4) : TileArg F :=
  (msk k1_pay450 scol (iq0 i) (Scalar.subi (iq0 i) (Scalar.addi (Scalar.addi x.2.2.1 (Scalar.muli (Scf.iv (tailEnd0 x) 1#32 t) 4#32)) (BitVec.ofNat 32 u.val))),
   ⟨k0_off5 i t (BitVec.ofNat 32 u.val), k0_off5_inb i t u⟩)

def carryF0 : FCarry F := (broadcast S256x1 (Scalar.ofBits .f32 0x00000000#32), zeros)

/-- The middle of the sweep, -/
def sweepA0 (qq : Rows F) (c0 : FCarry F) : PR F (Mid0 F) :=
  Scf.Loop.for (k0_t1_loop i) (k0_t1_ok i) c0 (fun t => groupF arg3 arg4 qq k1_pay446
    [inner0 i t 0, inner0 i t 1, inner0 i t 2, inner0 i t 3, inner0 i t 4, inner0 i t 5, inner0 i t 6, inner0 i t 7]) >>= fun c1 =>
  Scf.Loop.for (k0_t2_loop i) (k0_t2_ok i) c1 (fun t => groupF arg3 arg4 qq k1_pay446
    [inner0' i t 0, inner0' i t 1, inner0' i t 2, inner0' i t 3, inner0' i t 4, inner0' i t 5, inner0' i t 6, inner0' i t 7]) >>= fun c2 =>
  let m := Scalar.addi (Scalar.subi (iq0 i) (done (iq0 i))) 4#32
  pure ⟨c2.1, c2.2, done (iq0 i), m, 4#32, Scalar.divsi m 4#32,
    Scalar.subi (Scalar.extui (Scalar.cmpi .sgt m 0#32)) (Scalar.extui (Scalar.cmpi .slt m 0#32)),
    Scalar.subi (Scalar.extui (Scalar.cmpi .sgt 4#32 0#32)) (Scalar.extui (Scalar.cmpi .slt 4#32 0#32))⟩

/-- its tail, and the output's stores. -/
def sweepB0 (qq : Rows F) (x : Mid0 F) : PR F PUnit :=
  Scf.Loop.for (k0_t3_loop i) (k0_t3_ok i) (x.1, x.2.1) (fun t => groupF arg3 arg4 qq k1_pay446
    [tail0 i x.2.2.1 t 0, tail0 i x.2.2.1 t 1, tail0 i x.2.2.1 t 2, tail0 i x.2.2.1 t 3]) >>= fun c3 =>
  Scf.Loop.for (k0_t4_loop i) (k0_t4_ok i) c3 (fun t => groupF arg3 arg4 qq k1_pay446
    [tail0' i x t 0, tail0' i x t 1, tail0' i x t 2, tail0' i x t 3]) >>= fun c4 =>
  blk arg5 >>= fun _ =>
  Prog.lift (.store arg5 (Rect.unit (s := S128x128) ![0, 0] S128x128.size inb_S128x128_S128x128_0_0) (k0_pay8 c4.2) Finset.univ (View.stores_vmem h_S128x128 (harg5.storeExact_slice rfl _ packedbf16_S128x128_S128x128_0_0) (fun _ => rfl)) (.inl rfl)) >>= fun _ =>
  gblk arg6 >>= fun _ =>
  Prog.lift (.store arg6 (Rect.unit (s := S128x128) ![0, 0] S128x128.size inb_S128x128_S128x128_0_0) (k0_pay7 c4.2) Finset.univ (View.stores_vmem_bits_univ h_S128x128 rfl) (.inl rfl))

theorem fwd_eq : cc0_a_attn (F := F) i arg2 harg2 arg3 harg3 arg4 harg4 arg5 harg5 arg6 harg6
    = (blk arg2 >>= fun q =>
        groupF arg3 arg4 (k1_pay448 q) k1_pay446 [edge0 i 0, edge0 i 1, edge0 i 2, edge0 i 3] carryF0 >>= fun c0 =>
        sweepA0 i arg3 arg4 (k1_pay448 q) c0 >>= fun x => sweepB0 i arg3 arg4 arg5 harg5 arg6 (k1_pay448 q) x) := rfl

end Body

end Cert.Proof.Sb
-- ==== Proof.Rules.lean ====
module

public import Idealize.ShloMosaic.Lib.Exec
public import Idealize.ShloMosaic.Lib.Memref
public import Idealize.ShloMosaic.Lib.Scf

@[expose] public section

noncomputable section

/-! Loads and stores through a rectangle of a memref that is owned at known contents. -/

namespace Cert.Proof.Sb

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}
variable {α : Type} {Q : α → sProp (MT nD τ sig Ix Val Name U Lvl)}

/-- A load gives the contents' part in the rectangle. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k fun j => X (r.emb j)) Q)
        -∗ wp frame (wpE defs 𝒱 c bd) E (.op (.load m r.toLoadRect hl) k) Q) := by
  unfold owns
  iintro ⟨%f, %hf, H⟩ Hk
  iapply (wp_load_rect (defs := defs) 𝒱 c bd E (Q := Q) (m := m) (r := r) (hl := hl) (k := k) (S := m.view.set) (q := q) (f := f)
    (m.view.set_slice_subset r)) $$ H
  iintro H
  have h : (m.access r).read Val f = fun j => X (r.emb j) := by rw [← hf]; rfl
  rw [h]
  iapply Hk
  iexists f
  isplitr
  · ipureintro; exact hf
  iexact H

/-- A store replaces them. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store (defs := defs) 𝒱 c bd E (Q := Q) (m := m) (r := r) (w := w) (Mk := Finset.univ) (hx := hx) (hm := hm) (k := k)
    (S := m.view.set) (f := f) (by rw [View.setOn_univ]; exact m.view.set_slice_subset r)) $$ H
  iintro H
  iapply Hk
  iexists ((m.access r).write Val f w Finset.univ)
  isplitr
  · ipureintro
    funext j
    by_cases hj : j ∈ r.set
    · obtain ⟨i, rfl⟩ := r.exists_idx_of_mem hj
      change View.read Val m.view (View.write Val (m.access r) f w Finset.univ) (r.emb i) = r.overlay X w (r.emb i)
      rw [Rect.overlay_emb]
      exact congrFun (View.read_write_univ (v := m.access r) f w) i
    · rw [Rect.overlay_of_not_mem _ _ _ hj, ← hf, View.read_apply, View.read_apply, View.write_of_not_mem]
      rw [View.setOn_univ, View.set_slice]
      show m.view.emb j ∉ _
      rw [Finset.mem_map' m.view.emb]; exact hj
  iexact H

end Cert.Proof.Sb
-- ==== Proof.Group.lean ====
module

public import proofs.«01_k».proof.Proof.TileF
public import proofs.«01_k».proof.Proof.Rules

@[expose] public section

set_option synthInstance.maxSize 4096
set_option maxRecDepth 65536

noncomputable section

/-! What a group of tiles does to the memrefs it reads and writes. -/

namespace Cert.Proof.Sb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A bf16 operand's column of blocks, -/
abbrev Cols (F : FTy → Type) := Vec F S8320x128 .bf16
/-- and a gradient's. -/
abbrev GCols (F : FTy → Type) := Vec F S8320x128 .f32

abbrev rect (o : Off) : Rect S8320x128 := Rect.unit (s := S8320x128) o.1 S128x128.size o.2

/-- The block at a tile's rows, -/
def rd (X : Cols F) (o : Off) : Blk F := fun j => X ((rect o).emb j)
def grd (X : GCols F) (o : Off) : GBlk F := fun j => X ((rect o).emb j)
/-- and a column with that block replaced. -/
def put (X : GCols F) (o : Off) (w : GBlk F) : GCols F := (rect o).overlay X w

/-- The state of the backward sweep: its carry and the two gradient columns. -/
abbrev St (F : FTy → Type) := Carry F × GCols F × GCols F

/-- One tile. -/
def stepS (E : Env F) (K V : Cols F) (s : St F) (t : TileArg F) : St F :=
  (E.next t.1 s.1 (rd K t.2) (rd V t.2),
   put s.2.1 t.2 (tGrad (grd s.2.1 t.2) (E.dz t.1 s.1 (rd K t.2) (rd V t.2)) E.qq),
   put s.2.2 t.2 (tGrad (grd s.2.2 t.2) (E.a t.1 s.1 (rd K t.2)) E.dd))

def runS (E : Env F) (K V : Cols F) (ts : List (TileArg F)) (s : St F) : St F := ts.foldl (stepS E K V) s

def stepF (qq : Rows F) (after : Blk F) (K V : Cols F) (s : FCarry F) (t : TileArg F) : FCarry F :=
  nextF qq after t.1 s (rd K t.2) (rd V t.2)

def runF (qq : Rows F) (after : Blk F) (K V : Cols F) (ts : List (TileArg F)) (s : FCarry F) : FCarry F :=
  ts.foldl (stepF qq after K V) s

/-- The state after the first `k` trips of a loop. -/
def trips {σ : Type} (n : ℕ) (f : Fin n → σ → σ) (s : σ) : ℕ → σ
  | 0 => s
  | k + 1 => if h : k < n then f ⟨k, h⟩ (trips n f s k) else trips n f s k

section

variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (Es : Set Name)

local notation "𝕄" => MT nD τ sig Ix (Elt F) Name U Lvl
local notation "wpk" => wp frame (wpE (Ix := Ix) (Name := Name) (U := U) (Lvl := Lvl) defs 𝒱 (c : Thread nD τ) bd) Es

variable {α : Type}

theorem wp_loads {Q : α → sProp 𝕄} (m : Memref sig .tc .vmem S8320x128 .bf16) {q : PosShare TreeShare} (X : Cols F) (ts : List (TileArg F)) :
    ∀ k : List (Blk F) → PR F α,
    (owns (c : Thread nD τ) m q X : sProp 𝕄)
      ⊢ iprop((owns (c : Thread nD τ) m q X -∗ wpk (k (ts.map fun t => rd X t.2)) Q) -∗ wpk (loads m ts k) Q) := by
  induction ts with
  | nil =>
    intro k
    iintro H Hk
    iapply Hk
    iexact H
  | cons t ts ih =>
    intro k
    have e : loads m (t :: ts) k = .op (.load m (rect t.2).toLoadRect (View.loadsAt_vmem h_S128x128)) fun b => loads m ts fun bs => k (b :: bs) := rfl
    rw [e]
    iintro H Hk
    iapply (wp_load_owns (defs := defs) 𝒱 (c : Thread nD τ) bd Es (Q := Q) (m := m) (r := rect t.2) (q := q) (X := X)) $$ H
    iintro H
    iapply (ih fun bs => k (rd X t.2 :: bs)) $$ H
    iexact Hk

theorem wp_bump {Q : α → sProp 𝕄} (m : Memref sig .tc .vmem S8320x128 .f32) (X : GCols F) (o : Off) (x y : Rows F) (k : PR F α) :
    (owns (c : Thread nD τ) m fullShare X : sProp 𝕄)
      ⊢ iprop((owns (c : Thread nD τ) m fullShare (put X o (tGrad (grd X o) x y)) -∗ wpk k Q) -∗ wpk (bump m o x y k) Q) := by
  have e : bump m o x y k = .op (.load m (rect o).toLoadRect (View.loadsAt_vmem h_S128x128)) fun old =>
      .op (.load m (rect o).toLoadRect (View.loadsAt_vmem h_S128x128)) fun _ =>
      .op (.store m (rect o) (tGrad old x y) Finset.univ (View.stores_vmem_bits_univ h_S128x128 rfl) (.inl rfl)) fun _ => k := rfl
  rw [e]
  iintro H Hk
  iapply (wp_load_owns (defs := defs) 𝒱 (c : Thread nD τ) bd Es (Q := Q) (m := m) (r := rect o) (q := fullShare) (X := X)) $$ H
  iintro H
  iapply (wp_load_owns (defs := defs) 𝒱 (c : Thread nD τ) bd Es (Q := Q) (m := m) (r := rect o) (q := fullShare) (X := X)) $$ H
  iintro H
  iapply (wp_store_owns (defs := defs) 𝒱 (c : Thread nD τ) bd Es (Q := Q) (m := m) (r := rect o) (X := X)) $$ H
  iintro H
  iapply Hk
  iexact H

theorem wp_steps {Q : Carry F → sProp 𝕄} (dk dv : Memref sig .tc .vmem S8320x128 .f32) (E : Env F) (K V : Cols F) (ts : List (TileArg F)) :
    ∀ s : St F,
    iprop(owns (c : Thread nD τ) dk fullShare s.2.1 ∗ owns (c : Thread nD τ) dv fullShare s.2.2)
      ⊢ iprop(((owns (c : Thread nD τ) dk fullShare (runS E K V ts s).2.1 ∗ owns (c : Thread nD τ) dv fullShare (runS E K V ts s).2.2)
            -∗ Q (runS E K V ts s).1)
          -∗ wpk (steps dk dv E ts (ts.map fun t => rd K t.2) (ts.map fun t => rd V t.2) s.1) Q) := by
  induction ts with
  | nil =>
    intro s
    have e : steps dk dv E [] ([].map fun t : TileArg F => rd K t.2) ([].map fun t : TileArg F => rd V t.2) s.1 = pure s.1 := rfl
    rw [e, wp_pure, show runS E K V [] s = s from rfl]
    iintro H Hk
    imodintro
    iapply Hk
    iexact H
  | cons t ts ih =>
    intro s
    have e : steps dk dv E (t :: ts) ((t :: ts).map fun t => rd K t.2) ((t :: ts).map fun t => rd V t.2) s.1 = (bump dk t.2 (E.dz t.1 s.1 (rd K t.2) (rd V t.2)) E.qq <| bump dv t.2 (E.a t.1 s.1 (rd K t.2)) E.dd <|
        steps dk dv E ts (ts.map fun t => rd K t.2) (ts.map fun t => rd V t.2) (stepS E K V s t).1) := rfl
    rw [e]
    iintro ⟨Hk, Hv⟩ HQ
    iapply (wp_bump (defs := defs) 𝒱 c bd Es dk s.2.1 t.2) $$ Hk
    iintro Hk
    iapply (wp_bump (defs := defs) 𝒱 c bd Es dv s.2.2 t.2) $$ Hv
    iintro Hv
    iapply (ih (stepS E K V s t)) $$ [Hk Hv]
    · isplitl [Hk]
      · iexact Hk
      iexact Hv
    iexact HQ

/-- The four memrefs of the backward sweep at a state. -/
def mem4 (mk mv : Memref sig .tc .vmem S8320x128 .bf16) (dk dv : Memref sig .tc .vmem S8320x128 .f32) (q : PosShare TreeShare) (K V : Cols F) (s : St F) : sProp 𝕄 :=
  iprop(owns (c : Thread nD τ) mk q K ∗ owns (c : Thread nD τ) mv q V ∗ owns (c : Thread nD τ) dk fullShare s.2.1 ∗ owns (c : Thread nD τ) dv fullShare s.2.2)

/-- The same with the carry. -/
def inv4 (mk mv : Memref sig .tc .vmem S8320x128 .bf16) (dk dv : Memref sig .tc .vmem S8320x128 .f32) (q : PosShare TreeShare) (K V : Cols F) (s : St F) (cr : Carry F) : sProp 𝕄 :=
  iprop(⌜cr = s.1⌝ ∗ mem4 c mk mv dk dv q K V s)

theorem wp_group (mk mv : Memref sig .tc .vmem S8320x128 .bf16) (dk dv : Memref sig .tc .vmem S8320x128 .f32) (q : PosShare TreeShare) (E : Env F) (K V : Cols F)
    (ts : List (TileArg F)) (s : St F) (cr : Carry F) :
    (inv4 c mk mv dk dv q K V s cr : sProp 𝕄)
      ⊢ wpk (group mk mv dk dv E ts cr) (inv4 c mk mv dk dv q K V (runS E K V ts s)) := by
  unfold inv4 mem4 group
  iintro ⟨%h, Hmk, Hmv, Hdk, Hdv⟩
  subst h
  iapply (wp_loads (defs := defs) 𝒱 c bd Es mk K ts) $$ Hmk
  iintro Hmk
  iapply (wp_loads (defs := defs) 𝒱 c bd Es mv V ts) $$ Hmv
  iintro Hmv
  iapply (wp_steps (defs := defs) 𝒱 c bd Es dk dv E K V ts s) $$ [Hdk Hdv]
  · isplitl [Hdk]
    · iexact Hdk
    iexact Hdv
  iintro ⟨Hdk, Hdv⟩
  isplitr
  · ipureintro; rfl
  isplitl [Hmk]; · iexact Hmk
  isplitl [Hmv]; · iexact Hmv
  isplitl [Hdk]; · iexact Hdk
  iexact Hdv

/-- The two memrefs of the forward sweep, with its carry. -/
def inv2 (mk mv : Memref sig .tc .vmem S8320x128 .bf16) (q : PosShare TreeShare) (K V : Cols F) (s cr : FCarry F) : sProp 𝕄 :=
  iprop(⌜cr = s⌝ ∗ owns (c : Thread nD τ) mk q K ∗ owns (c : Thread nD τ) mv q V)

theorem foldF_eq (qq : Rows F) (after : Blk F) (K V : Cols F) (ts : List (TileArg F)) : ∀ s : FCarry F,
    foldF qq after ts (ts.map fun t => rd K t.2) (ts.map fun t => rd V t.2) s = runF qq after K V ts s := by
  induction ts with
  | nil => intro s; rfl
  | cons t ts ih => intro s; exact ih _

theorem wp_groupF (mk mv : Memref sig .tc .vmem S8320x128 .bf16) (q : PosShare TreeShare) (qq : Rows F) (after : Blk F) (K V : Cols F)
    (ts : List (TileArg F)) (s cr : FCarry F) :
    (inv2 c mk mv q K V s cr : sProp 𝕄)
      ⊢ wpk (groupF mk mv qq after ts cr) (inv2 c mk mv q K V (runF qq after K V ts s)) := by
  unfold inv2 groupF
  iintro ⟨%h, Hmk, Hmv⟩
  subst h
  iapply (wp_loads (defs := defs) 𝒱 c bd Es mk K ts) $$ Hmk
  iintro Hmk
  iapply (wp_loads (defs := defs) 𝒱 c bd Es mv V ts) $$ Hmv
  iintro Hmv
  rw [wp_pure, foldF_eq]
  imodintro
  isplitr
  · ipureintro; rfl
  isplitl [Hmk]; · iexact Hmk
  iexact Hmv

/-- A loop whose trips carry an invariant over states. -/
theorem wp_trips {σ ρ β : Type} (l : Scf.Loop 32) (ok : l.OK) (f : Fin l.trips → ρ → ρ) (I : ρ → σ → sProp 𝕄)
    (body : Fin l.trips → σ → PR F σ) (hb : ∀ t s cr, I s cr ⊢ wpk (body t cr) (I (f t s))) (s : ρ) (cr : σ)
    (k : σ → PR F β) (Q : β → sProp 𝕄) :
    I s cr ⊢ iprop((∀ cr', I (trips l.trips f s l.trips) cr' -∗ wpk (k cr') Q) -∗ wpk (Scf.Loop.for l ok cr body >>= k) Q) := by
  refine Scf.wp_for_bind _ _ _ _ _ _ _ cr body (fun n cr' => I (trips l.trips f s n) cr') (fun t cr' => ?_)
  have : trips l.trips f s (t.val + 1) = f t (trips l.trips f s t.val) := by
    show dite _ _ _ = _
    rw [dif_pos t.isLt]
  rw [this]
  exact hb t _ cr'

end

end Cert.Proof.Sb
-- ==== Proof.Body.lean ====
module

public import proofs.«01_k».proof.Proof.Group

@[expose] public section

set_option synthInstance.maxSize 4096
set_option maxRecDepth 65536

noncomputable section

/-! What a grid point of each kernel does to the memrefs it is given. -/

namespace Cert.Proof.Sb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The states a sweep goes through -/

theorem trips_zero {σ : Type} {n : ℕ} (h : n = 0) (f : Fin n → σ → σ) (s : σ) : trips n f s n = s := by
  subst h; rfl

/-- The middle loops' remainders, and the tails', are empty. -/
theorem t2_zero : ∀ i : grid1.Coords, (k1_t2_loop i).trips = 0 := by decide +kernel
theorem t4_zero : ∀ i : grid1.Coords, (k1_t4_loop i).trips = 0 := by decide +kernel
theorem u2_zero : ∀ i : grid0.Coords, (k0_t2_loop i).trips = 0 := by decide +kernel
theorem u4_zero : ∀ i : grid0.Coords, (k0_t4_loop i).trips = 0 := by decide +kernel

def edgeL (i : grid1.Coords) : List (TileArg F) :=
  [edge1 i (iq1 i) k1_pay450 scol 0, edge1 i (iq1 i) k1_pay450 scol 1, edge1 i (iq1 i) k1_pay450 scol 2, edge1 i (iq1 i) k1_pay450 scol 3]
def innerL (i : grid1.Coords) (t : Fin (k1_t1_loop i).trips) : List (TileArg F) :=
  [inner1 i t 0, inner1 i t 1, inner1 i t 2, inner1 i t 3, inner1 i t 4, inner1 i t 5, inner1 i t 6, inner1 i t 7]
def tailL (i : grid1.Coords) (t : Fin (k1_t3_loop i).trips) : List (TileArg F) :=
  [tail1 i (iq1 i) k1_pay450 scol (done (iq1 i)) t 0, tail1 i (iq1 i) k1_pay450 scol (done (iq1 i)) t 1, tail1 i (iq1 i) k1_pay450 scol (done (iq1 i)) t 2, tail1 i (iq1 i) k1_pay450 scol (done (iq1 i)) t 3]

/-- The state after the edge and the middle, -/
def midS (i : grid1.Coords) (E : Env F) (K V : Cols F) (s : St F) : St F :=
  trips (k1_t1_loop i).trips (fun t => runS E K V (innerL i t)) (runS E K V (edgeL i) s) (k1_t1_loop i).trips
/-- and after the whole sweep. -/
def endS (i : grid1.Coords) (E : Env F) (K V : Cols F) (s : St F) : St F :=
  trips (k1_t3_loop i).trips (fun t => runS E K V (tailL i t)) (midS i E K V s) (k1_t3_loop i).trips

def edgeL0 (i : grid0.Coords) : List (TileArg F) := [edge0 i 0, edge0 i 1, edge0 i 2, edge0 i 3]
def innerL0 (i : grid0.Coords) (t : Fin (k0_t1_loop i).trips) : List (TileArg F) :=
  [inner0 i t 0, inner0 i t 1, inner0 i t 2, inner0 i t 3, inner0 i t 4, inner0 i t 5, inner0 i t 6, inner0 i t 7]
def tailL0 (i : grid0.Coords) (t : Fin (k0_t3_loop i).trips) : List (TileArg F) :=
  [tail0 i (done (iq0 i)) t 0, tail0 i (done (iq0 i)) t 1, tail0 i (done (iq0 i)) t 2, tail0 i (done (iq0 i)) t 3]

def midF (i : grid0.Coords) (qq : Rows F) (K V : Cols F) : FCarry F :=
  trips (k0_t1_loop i).trips (fun t => runF qq k1_pay446 K V (innerL0 i t)) (runF qq k1_pay446 K V (edgeL0 i) carryF0) (k0_t1_loop i).trips
def endF (i : grid0.Coords) (qq : Rows F) (K V : Cols F) : FCarry F :=
  trips (k0_t3_loop i).trips (fun t => runF qq k1_pay446 K V (tailL0 i t)) (midF i qq K V) (k0_t3_loop i).trips

/-! ### Whole blocks -/

theorem emb_whole {s : Shape} {o : Fin s.rank → ℕ} (ho : o = fun _ => 0) (h : ∀ a, o a + s.size a ≤ s.size a) (j : s.Idx) :
    (Rect.unit (s := s) o s.size h).emb j = j := by
  subst ho
  funext a
  apply Fin.ext
  simp [Rect.emb, Rect.unit]

theorem overlay_whole {s : Shape} {α : Type} {o : Fin s.rank → ℕ} (ho : o = fun _ => 0) (h : ∀ a, o a + s.size a ≤ s.size a) (X w : s.Idx → α) :
    (Rect.unit (s := s) o s.size h).overlay X w = w := by
  funext j
  have := (Rect.unit (s := s) o s.size h).overlay_emb X w j
  rw [emb_whole ho] at this
  exact this

theorem hz2 : (![0, 0] : Fin 2 → ℕ) = fun _ => 0 := funext fun a => by fin_cases a <;> rfl

def zeroCol : GCols F := broadcast S8320x128 (Scalar.ofBits .f32 0x00000000#32)

/-- A point's gradient columns begin at zero at a column's first query block, else where the point before left them. -/
def startCol (i : grid1.Coords) (A : GCols F) : GCols F :=
  if Scalar.cmpi .ne (Scalar.extui (Scalar.cmpi .eq (iq1 i) 0#32)) 0#32 = 1#1 then zeroCol else A

/-- What the backward kernel computes at a point. -/
def bwdS (i : grid1.Coords) (q : Blk F) (K V : Cols F) (d : Blk F) (o : GBlk F) (A B : GCols F) : St F :=
  endS i (env q d o) K V (carry0, startCol i A, startCol i B)

section

variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (Es : Set Name)

local notation "𝕄" => MT nD τ sig Ix (Elt F) Name U Lvl
local notation "wpk" => wp frame (wpE (Ix := Ix) (Name := Name) (U := U) (Lvl := Lvl) defs 𝒱 (c : Thread nD τ) bd) Es

theorem wp_whole {s : Shape} {e : EltTy} {α : Type} {Q : α → sProp 𝕄} (m : Memref sig .tc .vmem s e) {q : PosShare TreeShare} {X : s.Idx → Elt F e}
    {o : Fin s.rank → ℕ} (ho : o = fun _ => 0) (h : ∀ a, o a + s.size a ≤ s.size a) {hl : m.view.LoadsAt (Rect.unit (s := s) o s.size h).toLoadRect}
    (k : (s.Idx → Elt F e) → PR F α) :
    (owns (c : Thread nD τ) m q X : sProp 𝕄)
      ⊢ iprop((owns (c : Thread nD τ) m q X -∗ wpk (k X) Q)
        -∗ wpk ((Prog.lift (.load m (Rect.unit (s := s) o s.size h).toLoadRect hl) : PR F (s.Idx → Elt F e)) >>= k) Q) := by
  have e : ((Prog.lift (.load m (Rect.unit (s := s) o s.size h).toLoadRect hl) : PR F (s.Idx → Elt F e)) >>= k)
    = .op (.load m (Rect.unit (s := s) o s.size h).toLoadRect hl) k := rfl
  have e2 : (fun j => X ((Rect.unit (s := s) o s.size h).emb j)) = X := funext fun j => congrArg X (emb_whole ho h j)
  rw [e]
  iintro H Hk
  iapply (wp_load_owns (defs := defs) 𝒱 (c : Thread nD τ) bd Es (Q := Q) (m := m) (r := Rect.unit (s := s) o s.size h) (q := q) (X := X)) $$ H
  iintro H
  rw [e2]
  iapply Hk
  iexact H

theorem wp_fill {s : Shape} {e : EltTy} {α : Type} {Q : α → sProp 𝕄} (m : Memref sig .tc .vmem s e) {X : s.Idx → Elt F e}
    {o : Fin s.rank → ℕ} (ho : o = fun _ => 0) (h : ∀ a, o a + s.size a ≤ s.size a) (w : s.Idx → Elt F e)
    {hx : (m.access (Rect.unit (s := s) o s.size h)).Stores Finset.univ}
    {hm : (Finset.univ : Finset (Rect.unit (s := s) o s.size h).shape.Idx) = Finset.univ ∨ ∀ a, (Rect.unit (s := s) o s.size h).stride a = 1}
    (k : PUnit → PR F α) :
    (owns (c : Thread nD τ) m fullShare X : sProp 𝕄)
      ⊢ iprop((owns (c : Thread nD τ) m fullShare w -∗ wpk (k ⟨⟩) Q)
        -∗ wpk ((Prog.lift (.store m (Rect.unit (s := s) o s.size h) w Finset.univ hx hm) : PR F PUnit) >>= k) Q) := by
  have e : ((Prog.lift (.store m (Rect.unit (s := s) o s.size h) w Finset.univ hx hm) : PR F PUnit) >>= k)
    = .op (.store m (Rect.unit (s := s) o s.size h) w Finset.univ hx hm) k := rfl
  rw [e]
  iintro H Hk
  iapply (wp_store_owns (defs := defs) 𝒱 (c : Thread nD τ) bd Es (Q := Q) (m := m) (r := Rect.unit (s := s) o s.size h) (X := X)) $$ H
  rw [overlay_whole ho h X w]
  iintro H
  iapply Hk
  iexact H

theorem wp_fill' {s : Shape} {e : EltTy} {Q : PUnit → sProp 𝕄} (m : Memref sig .tc .vmem s e) {X : s.Idx → Elt F e}
    {o : Fin s.rank → ℕ} (ho : o = fun _ => 0) (h : ∀ a, o a + s.size a ≤ s.size a) (w : s.Idx → Elt F e)
    {hx : (m.access (Rect.unit (s := s) o s.size h)).Stores Finset.univ}
    {hm : (Finset.univ : Finset (Rect.unit (s := s) o s.size h).shape.Idx) = Finset.univ ∨ ∀ a, (Rect.unit (s := s) o s.size h).stride a = 1} :
    (owns (c : Thread nD τ) m fullShare X : sProp 𝕄)
      ⊢ iprop((owns (c : Thread nD τ) m fullShare w -∗ Q ⟨⟩)
        -∗ wpk (Prog.lift (.store m (Rect.unit (s := s) o s.size h) w Finset.univ hx hm) : PR F PUnit) Q) := by
  have e : (Prog.lift (.store m (Rect.unit (s := s) o s.size h) w Finset.univ hx hm) : PR F PUnit)
    = (Prog.lift (.store m (Rect.unit (s := s) o s.size h) w Finset.univ hx hm) : PR F PUnit) >>= fun u => pure u := rfl
  rw [e]
  iintro H Hk
  iapply (wp_fill (defs := defs) 𝒱 c bd Es m ho h w) $$ H
  iintro H
  rw [wp_pure]
  imodintro
  iapply Hk
  iexact H

section Bwd

variable (i : grid1.Coords) (arg2 : Memref sig .tc .vmem S128x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S128x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S8320x128 .f32) (harg8 : arg8.IsWhole) (arg9 : Memref sig .tc .vmem S8320x128 .f32) (harg9 : arg9.IsWhole)

/-- One group between two programs. -/
theorem wp_group_bind {β : Type} {Q : β → sProp 𝕄} (q : PosShare TreeShare) (E : Env F) (K V : Cols F)
    (ts : List (TileArg F)) (s : St F) (cr : Carry F) (k : Carry F → PR F β) :
    (inv4 c arg3 arg4 arg8 arg9 q K V s cr : sProp 𝕄)
      ⊢ iprop((∀ cr', inv4 c arg3 arg4 arg8 arg9 q K V (runS E K V ts s) cr' -∗ wpk (k cr') Q)
        -∗ wpk (group arg3 arg4 arg8 arg9 E ts cr >>= k) Q) := by
  rw [wp_bind]
  exact (wp_group (defs := defs) 𝒱 c bd Es arg3 arg4 arg8 arg9 q E K V ts s cr).trans (wp_wand _ _ _)

/-- The edge and the middle. -/
theorem wp_sweepA {β : Type} {Q : β → sProp 𝕄} (q : PosShare TreeShare) (E : Env F) (K V : Cols F) (A B : GCols F) (k : Mid F → PR F β) :
    (mem4 c arg3 arg4 arg8 arg9 q K V (carry0, A, B) : sProp 𝕄)
      ⊢ iprop((∀ x : Mid F, ⌜(x.1, x.2.1, x.2.2.1) = (midS i E K V (carry0, A, B)).1 ∧ x.2.2.2.1 = done (iq1 i)⌝
            -∗ mem4 c arg3 arg4 arg8 arg9 q K V (midS i E K V (carry0, A, B)) -∗ wpk (k x) Q)
        -∗ wpk (sweepA i arg3 arg4 arg8 arg9 (iq1 i) k1_pay450 scol E >>= k) Q) := by
  unfold sweepA
  simp only [bind_assoc]
  iintro H Hk
  iapply (wp_group_bind (defs := defs) 𝒱 c bd Es arg3 arg4 arg8 arg9 q E K V _ (carry0, A, B) carry0) $$ [H]
  · unfold inv4
    isplitr
    · ipureintro; rfl
    iexact H
  iintro %c0 H
  iapply (wp_trips (defs := defs) 𝒱 c bd Es (k1_t1_loop i) (k1_t1_ok i) (fun t => runS E K V (innerL i t)) (inv4 c arg3 arg4 arg8 arg9 q K V) _
    (fun t s cr => wp_group (defs := defs) 𝒱 c bd Es arg3 arg4 arg8 arg9 q E K V (innerL i t) s cr)) $$ H
  iintro %c1 H
  iapply (wp_trips (defs := defs) 𝒱 c bd Es (k1_t2_loop i) (k1_t2_ok i) (fun t => runS E K V
      [inner1' i t 0, inner1' i t 1, inner1' i t 2, inner1' i t 3, inner1' i t 4, inner1' i t 5, inner1' i t 6, inner1' i t 7]) (inv4 c arg3 arg4 arg8 arg9 q K V) _
    (fun t s cr => wp_group (defs := defs) 𝒱 c bd Es arg3 arg4 arg8 arg9 q E K V _ s cr)) $$ H
  rw [trips_zero (t2_zero i)]
  iintro %c2 H
  unfold inv4
  icases H with ⟨%h, H⟩
  rw [pure_bind]
  iapply Hk $$ [] [H]
  · ipureintro
    exact ⟨h, rfl⟩
  iexact H

/-- The tail. -/
theorem wp_sweepB {Q : PUnit → sProp 𝕄} (q : PosShare TreeShare) (E : Env F) (K V : Cols F) (s : St F) (x : Mid F) (Y : GBlk F)
    (hx : (x.1, x.2.1, x.2.2.1) = (midS i E K V s).1 ∧ x.2.2.2.1 = done (iq1 i)) :
    (iprop(mem4 c arg3 arg4 arg8 arg9 q K V (midS i E K V s) ∗ owns (c : Thread nD τ) arg7 fullShare Y) : sProp 𝕄)
      ⊢ iprop((mem4 c arg3 arg4 arg8 arg9 q K V (endS i E K V s) -∗ owns (c : Thread nD τ) arg7 fullShare (k1_pay5 (endS i E K V s).1.2.2) -∗ Q ⟨⟩)
        -∗ wpk (sweepB i arg3 arg4 arg7 arg8 arg9 (iq1 i) k1_pay450 scol E x) Q) := by
  unfold sweepB
  rw [hx.1, hx.2]
  iintro ⟨H, Ha⟩ Hk
  iapply (wp_trips (defs := defs) 𝒱 c bd Es (k1_t3_loop i) (k1_t3_ok i) (fun t => runS E K V (tailL i t)) (inv4 c arg3 arg4 arg8 arg9 q K V) _
    (fun t s cr => wp_group (defs := defs) 𝒱 c bd Es arg3 arg4 arg8 arg9 q E K V (tailL i t) s cr) (midS i E K V s) (midS i E K V s).1) $$ [H]
  · unfold inv4
    isplitr
    · ipureintro; rfl
    iexact H
  iintro %c3 H
  iapply (wp_trips (defs := defs) 𝒱 c bd Es (k1_t4_loop i) (k1_t4_ok i) (fun t => runS E K V
      [tail1' i (iq1 i) k1_pay450 scol x t 0, tail1' i (iq1 i) k1_pay450 scol x t 1, tail1' i (iq1 i) k1_pay450 scol x t 2, tail1' i (iq1 i) k1_pay450 scol x t 3]) (inv4 c arg3 arg4 arg8 arg9 q K V) _
    (fun t s cr => wp_group (defs := defs) 𝒱 c bd Es arg3 arg4 arg8 arg9 q E K V _ s cr)) $$ H
  rw [trips_zero (t4_zero i)]
  iintro %c4 H
  unfold inv4
  icases H with ⟨%h, H⟩
  subst h
  iapply (wp_whole (defs := defs) 𝒱 c bd Es arg7 hz2) $$ Ha
  iintro Ha
  iapply (wp_fill' (defs := defs) 𝒱 c bd Es arg7 hz2) $$ Ha
  iintro Ha
  iapply Hk $$ [H] [Ha]
  · iexact H
  iexact Ha

theorem wp_wipe {β : Type} {Q : β → sProp 𝕄} (m : Memref sig .tc .vmem S8320x128 .f32) (A : GCols F) (k : PUnit → PR F β) :
    (owns (c : Thread nD τ) m fullShare A : sProp 𝕄)
      ⊢ iprop((owns (c : Thread nD τ) m fullShare zeroCol -∗ wpk (k ⟨⟩) Q) -∗ wpk (wipe m >>= k) Q) := by
  unfold wipe
  rw [bind_assoc]
  iintro H Hk
  iapply (wp_whole (defs := defs) 𝒱 c bd Es m hz2) $$ H
  iintro H
  iapply (wp_fill (defs := defs) 𝒱 c bd Es m hz2) $$ H
  iintro H
  iapply Hk
  iexact H

theorem wp_head {β : Type} {Q : β → sProp 𝕄} (qs : PosShare TreeShare) (q d : Blk F) (o : GBlk F) (A B : GCols F) (k : Head F → PR F β) :
    (iprop(owns (c : Thread nD τ) arg2 qs q ∗ owns (c : Thread nD τ) arg5 qs d ∗ owns (c : Thread nD τ) arg6 qs o
        ∗ owns (c : Thread nD τ) arg8 fullShare A ∗ owns (c : Thread nD τ) arg9 fullShare B) : sProp 𝕄)
      ⊢ iprop((iprop(owns (c : Thread nD τ) arg2 qs q ∗ owns (c : Thread nD τ) arg5 qs d ∗ owns (c : Thread nD τ) arg6 qs o
        ∗ owns (c : Thread nD τ) arg8 fullShare (startCol i A) ∗ owns (c : Thread nD τ) arg9 fullShare (startCol i B))
          -∗ wpk (k ⟨iq1 i, k1_pay446, k1_pay447, k1_pay448 q, k1_pay449 d, k1_pay450, scol, k1_pay451 o⟩) Q)
        -∗ wpk (head1 i arg2 arg5 arg6 arg8 arg9 >>= k) Q) := by
  have rest : (iprop(owns (c : Thread nD τ) arg2 qs q ∗ owns (c : Thread nD τ) arg5 qs d ∗ owns (c : Thread nD τ) arg6 qs o
        ∗ owns (c : Thread nD τ) arg8 fullShare (startCol i A) ∗ owns (c : Thread nD τ) arg9 fullShare (startCol i B)) : sProp 𝕄)
      ⊢ iprop((iprop(owns (c : Thread nD τ) arg2 qs q ∗ owns (c : Thread nD τ) arg5 qs d ∗ owns (c : Thread nD τ) arg6 qs o
        ∗ owns (c : Thread nD τ) arg8 fullShare (startCol i A) ∗ owns (c : Thread nD τ) arg9 fullShare (startCol i B))
          -∗ wpk (k ⟨iq1 i, k1_pay446, k1_pay447, k1_pay448 q, k1_pay449 d, k1_pay450, scol, k1_pay451 o⟩) Q)
        -∗ wpk (blk arg2 >>= fun q => blk arg5 >>= fun d => gblk arg6 >>= fun o =>
            k ⟨iq1 i, k1_pay446, k1_pay447, k1_pay448 q, k1_pay449 d, k1_pay450, scol, k1_pay451 o⟩) Q) := by
    iintro ⟨H2, H5, H6, H8, H9⟩ Hk
    iapply (wp_whole (defs := defs) 𝒱 c bd Es arg2 hz2) $$ H2
    iintro H2
    iapply (wp_whole (defs := defs) 𝒱 c bd Es arg5 hz2) $$ H5
    iintro H5
    iapply (wp_whole (defs := defs) 𝒱 c bd Es arg6 hz2) $$ H6
    iintro H6
    iapply Hk
    isplitl [H2]; · iexact H2
    isplitl [H5]; · iexact H5
    isplitl [H6]; · iexact H6
    isplitl [H8]; · iexact H8
    iexact H9
  have e : head1 i arg2 arg5 arg6 arg8 arg9 >>= k
      = (if Scalar.cmpi .ne (Scalar.extui (Scalar.cmpi .eq (iq1 i) 0#32)) 0#32 = 1#1 then wipe arg8 >>= fun _ => wipe arg9 else pure ⟨⟩ : PR F PUnit) >>= fun _ =>
        blk arg2 >>= fun q => blk arg5 >>= fun d => gblk arg6 >>= fun o =>
            k ⟨iq1 i, k1_pay446, k1_pay447, k1_pay448 q, k1_pay449 d, k1_pay450, scol, k1_pay451 o⟩ := by
    unfold head1
    simp only [bind_assoc, pure_bind]
  rw [e]
  by_cases h : Scalar.cmpi .ne (Scalar.extui (Scalar.cmpi .eq (iq1 i) 0#32)) 0#32 = 1#1
  · rw [if_pos h]
    rw [show startCol i A = zeroCol from if_pos h, show startCol i B = zeroCol from if_pos h] at rest ⊢
    rw [bind_assoc]
    iintro ⟨H2, H5, H6, H8, H9⟩ HQ
    iapply (wp_wipe (defs := defs) 𝒱 c bd Es arg8 A) $$ H8
    iintro H8
    iapply (wp_wipe (defs := defs) 𝒱 c bd Es arg9 B) $$ H9
    iintro H9
    iapply rest $$ [H2 H5 H6 H8 H9]
    · isplitl [H2]; · iexact H2
      isplitl [H5]; · iexact H5
      isplitl [H6]; · iexact H6
      isplitl [H8]; · iexact H8
      iexact H9
    iexact HQ
  · rw [if_neg h, pure_bind]
    rw [show startCol i A = A from if_neg h, show startCol i B = B from if_neg h] at rest ⊢
    exact rest

/-- The backward kernel at a grid point. -/
theorem wp_bwd {Q : PUnit → sProp 𝕄} (qs : PosShare TreeShare) (q d : Blk F) (o Y : GBlk F) (K V : Cols F) (A B : GCols F) :
    (iprop(owns (c : Thread nD τ) arg2 qs q ∗ owns (c : Thread nD τ) arg3 qs K ∗ owns (c : Thread nD τ) arg4 qs V ∗ owns (c : Thread nD τ) arg5 qs d
        ∗ owns (c : Thread nD τ) arg6 qs o ∗ owns (c : Thread nD τ) arg7 fullShare Y
        ∗ owns (c : Thread nD τ) arg8 fullShare A ∗ owns (c : Thread nD τ) arg9 fullShare B) : sProp 𝕄)
      ⊢ iprop((iprop(owns (c : Thread nD τ) arg2 qs q ∗ owns (c : Thread nD τ) arg3 qs K ∗ owns (c : Thread nD τ) arg4 qs V ∗ owns (c : Thread nD τ) arg5 qs d
        ∗ owns (c : Thread nD τ) arg6 qs o ∗ owns (c : Thread nD τ) arg7 fullShare (k1_pay5 (bwdS i q K V d o A B).1.2.2)
        ∗ owns (c : Thread nD τ) arg8 fullShare (bwdS i q K V d o A B).2.1 ∗ owns (c : Thread nD τ) arg9 fullShare (bwdS i q K V d o A B).2.2) -∗ Q ⟨⟩)
        -∗ wpk (cc1_b_attn (F := F) i arg2 harg2 arg3 harg3 arg4 harg4 arg5 harg5 arg6 harg6 arg7 harg7 arg8 harg8 arg9 harg9) Q) := by
  rw [bwd_eq, head1_eq]
  iintro ⟨H2, H3, H4, H5, H6, H7, H8, H9⟩ HQ
  iapply (wp_head (defs := defs) 𝒱 c bd Es i arg2 arg5 arg6 arg8 arg9 qs q d o A B) $$ [H2 H5 H6 H8 H9]
  · isplitl [H2]; · iexact H2
    isplitl [H5]; · iexact H5
    isplitl [H6]; · iexact H6
    isplitl [H8]; · iexact H8
    iexact H9
  iintro ⟨H2, H5, H6, H8, H9⟩
  dsimp only
  iapply (wp_whole (defs := defs) 𝒱 c bd Es arg6 hz2) $$ H6
  iintro H6
  iapply (wp_sweepA (defs := defs) 𝒱 c bd Es i arg3 arg4 arg8 arg9 qs (env q d o) K V (startCol i A) (startCol i B)) $$ [H3 H4 H8 H9]
  · unfold mem4
    isplitl [H3]; · iexact H3
    isplitl [H4]; · iexact H4
    isplitl [H8]; · iexact H8
    iexact H9
  iintro %x %hx H
  iapply (wp_sweepB (defs := defs) 𝒱 c bd Es i arg3 arg4 arg7 arg8 arg9 qs (env q d o) K V _ x Y hx) $$ [H H7]
  · isplitl [H]; · iexact H
    iexact H7
  iintro H H7
  unfold mem4
  icases H with ⟨H3, H4, H8, H9⟩
  iapply HQ
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Bwd

section Fwd

variable (i : grid0.Coords) (arg2 : Memref sig .tc .vmem S128x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S128x128 .bf16) (harg5 : arg5.IsWhole) (arg6 : Memref sig .tc .vmem S128x128 .f32) (harg6 : arg6.IsWhole)

theorem wp_groupF_bind {β : Type} {Q : β → sProp 𝕄} (q : PosShare TreeShare) (qq : Rows F) (after : Blk F) (K V : Cols F)
    (ts : List (TileArg F)) (s cr : FCarry F) (k : FCarry F → PR F β) :
    (inv2 c arg3 arg4 q K V s cr : sProp 𝕄)
      ⊢ iprop((∀ cr', inv2 c arg3 arg4 q K V (runF qq after K V ts s) cr' -∗ wpk (k cr') Q)
        -∗ wpk (groupF arg3 arg4 qq after ts cr >>= k) Q) := by
  rw [wp_bind]
  exact (wp_groupF (defs := defs) 𝒱 c bd Es arg3 arg4 q qq after K V ts s cr).trans (wp_wand _ _ _)

/-- The middle. -/
theorem wp_sweepA0 {β : Type} {Q : β → sProp 𝕄} (qs : PosShare TreeShare) (qq : Rows F) (K V : Cols F) (cr : FCarry F) (k : Mid0 F → PR F β) :
    (inv2 c arg3 arg4 qs K V (runF qq k1_pay446 K V (edgeL0 i) carryF0) cr : sProp 𝕄)
      ⊢ iprop((∀ x : Mid0 F, ⌜(x.1, x.2.1) = midF i qq K V ∧ x.2.2.1 = done (iq0 i)⌝
            -∗ owns (c : Thread nD τ) arg3 qs K -∗ owns (c : Thread nD τ) arg4 qs V -∗ wpk (k x) Q)
        -∗ wpk (sweepA0 i arg3 arg4 qq cr >>= k) Q) := by
  unfold sweepA0
  simp only [bind_assoc]
  iintro H Hk
  iapply (wp_trips (defs := defs) 𝒱 c bd Es (k0_t1_loop i) (k0_t1_ok i) (fun t => runF qq k1_pay446 K V (innerL0 i t)) (inv2 c arg3 arg4 qs K V) _
    (fun t s cr => wp_groupF (defs := defs) 𝒱 c bd Es arg3 arg4 qs qq k1_pay446 K V (innerL0 i t) s cr)) $$ H
  iintro %c1 H
  iapply (wp_trips (defs := defs) 𝒱 c bd Es (k0_t2_loop i) (k0_t2_ok i) (fun t => runF qq k1_pay446 K V
      [inner0' i t 0, inner0' i t 1, inner0' i t 2, inner0' i t 3, inner0' i t 4, inner0' i t 5, inner0' i t 6, inner0' i t 7]) (inv2 c arg3 arg4 qs K V) _
    (fun t s cr => wp_groupF (defs := defs) 𝒱 c bd Es arg3 arg4 qs qq k1_pay446 K V _ s cr)) $$ H
  rw [trips_zero (u2_zero i)]
  iintro %c2 H
  unfold inv2
  icases H with ⟨%h, H3, H4⟩
  rw [pure_bind]
  iapply Hk $$ [] [H3] [H4]
  · ipureintro
    exact ⟨h, rfl⟩
  · iexact H3
  iexact H4

/-- The tail and the stores. -/
theorem wp_sweepB0 {Q : PUnit → sProp 𝕄} (qs : PosShare TreeShare) (qq : Rows F) (K V : Cols F) (X : Blk F) (Y : GBlk F) (x : Mid0 F)
    (hx : (x.1, x.2.1) = midF i qq K V ∧ x.2.2.1 = done (iq0 i)) :
    (iprop(owns (c : Thread nD τ) arg3 qs K ∗ owns (c : Thread nD τ) arg4 qs V
        ∗ owns (c : Thread nD τ) arg5 fullShare X ∗ owns (c : Thread nD τ) arg6 fullShare Y) : sProp 𝕄)
      ⊢ iprop((iprop(owns (c : Thread nD τ) arg3 qs K ∗ owns (c : Thread nD τ) arg4 qs V
        ∗ owns (c : Thread nD τ) arg5 fullShare (k0_pay8 (endF i qq K V).2) ∗ owns (c : Thread nD τ) arg6 fullShare (k0_pay7 (endF i qq K V).2)) -∗ Q ⟨⟩)
        -∗ wpk (sweepB0 i arg3 arg4 arg5 harg5 arg6 qq x) Q) := by
  unfold sweepB0
  rw [hx.1, hx.2]
  iintro ⟨H3, H4, H5, H6⟩ HQ
  iapply (wp_trips (defs := defs) 𝒱 c bd Es (k0_t3_loop i) (k0_t3_ok i) (fun t => runF qq k1_pay446 K V (tailL0 i t)) (inv2 c arg3 arg4 qs K V) _
    (fun t s cr => wp_groupF (defs := defs) 𝒱 c bd Es arg3 arg4 qs qq k1_pay446 K V (tailL0 i t) s cr) (midF i qq K V) (midF i qq K V)) $$ [H3 H4]
  · unfold inv2
    isplitr
    · ipureintro; rfl
    isplitl [H3]; · iexact H3
    iexact H4
  iintro %c3 H
  iapply (wp_trips (defs := defs) 𝒱 c bd Es (k0_t4_loop i) (k0_t4_ok i) (fun t => runF qq k1_pay446 K V [tail0' i x t 0, tail0' i x t 1, tail0' i x t 2, tail0' i x t 3]) (inv2 c arg3 arg4 qs K V) _
    (fun t s cr => wp_groupF (defs := defs) 𝒱 c bd Es arg3 arg4 qs qq k1_pay446 K V _ s cr)) $$ H
  rw [trips_zero (u4_zero i)]
  iintro %c4 H
  unfold inv2
  icases H with ⟨%h, H3, H4⟩
  subst h
  iapply (wp_whole (defs := defs) 𝒱 c bd Es arg5 hz2) $$ H5
  iintro H5
  iapply (wp_fill (defs := defs) 𝒱 c bd Es arg5 hz2) $$ H5
  iintro H5
  iapply (wp_whole (defs := defs) 𝒱 c bd Es arg6 hz2) $$ H6
  iintro H6
  iapply (wp_fill' (defs := defs) 𝒱 c bd Es arg6 hz2) $$ H6
  iintro H6
  iapply HQ
  isplitl [H3]; · iexact H3
  isplitl [H4]; · iexact H4
  isplitl [H5]; · iexact H5
  iexact H6

/-- The forward kernel at a grid point. -/
theorem wp_fwd {Q : PUnit → sProp 𝕄} (qs : PosShare TreeShare) (q : Blk F) (X : Blk F) (Y : GBlk F) (K V : Cols F) :
    (iprop(owns (c : Thread nD τ) arg2 qs q ∗ owns (c : Thread nD τ) arg3 qs K ∗ owns (c : Thread nD τ) arg4 qs V
        ∗ owns (c : Thread nD τ) arg5 fullShare X ∗ owns (c : Thread nD τ) arg6 fullShare Y) : sProp 𝕄)
      ⊢ iprop((iprop(owns (c : Thread nD τ) arg2 qs q ∗ owns (c : Thread nD τ) arg3 qs K ∗ owns (c : Thread nD τ) arg4 qs V
        ∗ owns (c : Thread nD τ) arg5 fullShare (k0_pay8 (endF i (k1_pay448 q) K V).2) ∗ owns (c : Thread nD τ) arg6 fullShare (k0_pay7 (endF i (k1_pay448 q) K V).2)) -∗ Q ⟨⟩)
        -∗ wpk (cc0_a_attn (F := F) i arg2 harg2 arg3 harg3 arg4 harg4 arg5 harg5 arg6 harg6) Q) := by
  rw [fwd_eq]
  iintro ⟨H2, H3, H4, H5, H6⟩ HQ
  iapply (wp_whole (defs := defs) 𝒱 c bd Es arg2 hz2) $$ H2
  iintro H2
  iapply (wp_groupF_bind (defs := defs) 𝒱 c bd Es arg3 arg4 qs (k1_pay448 q) k1_pay446 K V (edgeL0 i) carryF0 carryF0) $$ [H3 H4]
  · unfold inv2
    isplitr
    · ipureintro; rfl
    isplitl [H3]; · iexact H3
    iexact H4
  iintro %c0 H
  iapply (wp_sweepA0 (defs := defs) 𝒱 c bd Es i arg3 arg4 qs (k1_pay448 q) K V c0) $$ H
  iintro %x %hx H3 H4
  iapply (wp_sweepB0 (defs := defs) 𝒱 c bd Es i arg3 arg4 arg5 harg5 arg6 qs (k1_pay448 q) K V X Y x hx) $$ [H3 H4 H5 H6]
  · isplitl [H3]; · iexact H3
    isplitl [H4]; · iexact H4
    isplitl [H5]; · iexact H5
    iexact H6
  iintro ⟨H3, H4, H5, H6⟩
  iapply HQ
  isplitl [H2]; · iexact H2
  isplitl [H3]; · iexact H3
  isplitl [H4]; · iexact H4
  isplitl [H5]; · iexact H5
  iexact H6

end Fwd

end

end Cert.Proof.Sb
-- ==== Proof.Steps.lean ====
module

public import proofs.«01_k».proof.Proof.Rules

@[expose] public section

set_option synthInstance.maxSize 4096
set_option maxRecDepth 65536

noncomputable section

/-! What the bodies that several calls share do to the memrefs they are given. -/

namespace Cert.Proof.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ₀ : Labels}

/-- A core's program. -/
abbrev PR (nD : Nat) (τ : Topo) (sig : RefSig) (Λ₀ : Labels) (F : FTy → Type) (α : Type) := Prog (TpuEff nD τ sig (Elt F) Λ₀ .tc) α

/-- A core owns a memref, at given contents. -/
abbrev has {Val : EltTy → Type} {Ix : Type} [DecidableEq Ix] {Name : Type} [DecidableEq Name] {U : Type} [URA U] {Lvl : Type} {s : Shape} {e : EltTy} (c : Dev nD) (m : Memref sig .tc .vmem s e) (x : s.Idx → Val e) : sProp (MT nD τ sig Ix Val Name U Lvl) :=
  owns (c : Thread nD τ) m fullShare x

/-! ### Whole blocks -/

theorem emb_whole {s : Shape} {o : Fin s.rank → ℕ} (ho : o = fun _ => 0) (h : ∀ a, o a + s.size a ≤ s.size a) (j : s.Idx) :
    (Rect.unit (s := s) o s.size h).emb j = j := by
  subst ho
  funext a
  apply Fin.ext
  simp [Rect.emb, Rect.unit]

theorem overlay_whole {s : Shape} {α : Type} {o : Fin s.rank → ℕ} (ho : o = fun _ => 0) (h : ∀ a, o a + s.size a ≤ s.size a) (X w : s.Idx → α) :
    (Rect.unit (s := s) o s.size h).overlay X w = w := by
  funext j
  have := (Rect.unit (s := s) o s.size h).overlay_emb X w j
  rw [emb_whole ho] at this
  exact this

theorem hz2 : (![0, 0] : Fin 2 → ℕ) = fun _ => 0 := funext fun a => by fin_cases a <;> rfl

/-! ### The conditions a kernel that accumulates branches on -/

/-- It is the first step along the contraction; -/
abbrev isFirst (n : ℕ) : Prop := Scalar.cmpi .ne (Scalar.extui (Scalar.cmpi .eq (BitVec.ofNat 32 n) 0#32)) 0#32 = 1#1
/-- it is a later one. -/
abbrev isLater (n : ℕ) : Prop := Scalar.cmpi .ne (Scalar.extui (Scalar.cmpi .sgt (BitVec.ofNat 32 n) 0#32)) 0#32 = 1#1

/-- An accumulator after a step: `a` replaces it at the first step along the contraction, and `f` adds to it at a later one. -/
abbrev accOf {β : Type} (n : ℕ) (a : β) (f : β → β) (s : β) : β :=
  if isLater n then f (if isFirst n then a else s) else if isFirst n then a else s

/-- Whether a point is the first along the contraction, -/
theorem first_iff : ∀ n : Fin 20, isFirst n.val ↔ n.val = 0 := by decide +kernel
/-- or a later one. -/
theorem later_iff : ∀ n : Fin 20, isLater n.val ↔ n.val ≠ 0 := by decide +kernel

theorem accOf_start {β : Type} {n : ℕ} (h : n = 0) (a : β) (f : β → β) (s : β) : accOf n a f s = a := by
  subst h
  rw [accOf, if_neg (show ¬ isLater 0 from fun e => (later_iff 0).mp e rfl), if_pos (show isFirst 0 from (first_iff 0).mpr rfl)]

theorem accOf_next {β : Type} {n : ℕ} (hn : n < 20) (h : n ≠ 0) (a : β) (f : β → β) (s : β) : accOf n a f s = f s := by
  rw [accOf, if_pos (show isLater n from (later_iff ⟨n, hn⟩).mpr h), if_neg (show ¬ isFirst n from fun e => h ((first_iff ⟨n, hn⟩).mp e))]

section

variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (Es : Set Name)

local notation "𝕄" => MT nD τ sig Ix (Elt F) Name U Lvl
local notation "wpk" => wp frame (wpE (Ix := Ix) (Name := Name) (U := U) (Lvl := Lvl) defs 𝒱 (c : Thread nD τ) bd) Es

theorem wp_whole {s : Shape} {e : EltTy} {α : Type} {Q : α → sProp 𝕄} (m : Memref sig .tc .vmem s e) {q : PosShare TreeShare} {X : s.Idx → Elt F e}
    {o : Fin s.rank → ℕ} (ho : o = fun _ => 0) (h : ∀ a, o a + s.size a ≤ s.size a) {hl : m.view.LoadsAt (Rect.unit (s := s) o s.size h).toLoadRect}
    (k : (s.Idx → Elt F e) → PR nD τ sig Λ₀ F α) :
    (owns (c : Thread nD τ) m q X : sProp 𝕄)
      ⊢ iprop((owns (c : Thread nD τ) m q X -∗ wpk (k X) Q)
        -∗ wpk ((Prog.lift (.load m (Rect.unit (s := s) o s.size h).toLoadRect hl) : PR nD τ sig Λ₀ F (s.Idx → Elt F e)) >>= k) Q) := by
  have e : ((Prog.lift (.load m (Rect.unit (s := s) o s.size h).toLoadRect hl) : PR nD τ sig Λ₀ F (s.Idx → Elt F e)) >>= k)
    = .op (.load m (Rect.unit (s := s) o s.size h).toLoadRect hl) k := rfl
  have e2 : (fun j => X ((Rect.unit (s := s) o s.size h).emb j)) = X := funext fun j => congrArg X (emb_whole ho h j)
  rw [e]
  iintro H Hk
  iapply (Sb.wp_load_owns (defs := defs) 𝒱 (c : Thread nD τ) bd Es (Q := Q) (m := m) (r := Rect.unit (s := s) o s.size h) (q := q) (X := X)) $$ H
  iintro H
  rw [e2]
  iapply Hk
  iexact H

theorem wp_fill {s : Shape} {e : EltTy} {α : Type} {Q : α → sProp 𝕄} (m : Memref sig .tc .vmem s e) {X : s.Idx → Elt F e}
    {o : Fin s.rank → ℕ} (ho : o = fun _ => 0) (h : ∀ a, o a + s.size a ≤ s.size a) (w : s.Idx → Elt F e)
    {hx : (m.access (Rect.unit (s := s) o s.size h)).Stores Finset.univ}
    {hm : (Finset.univ : Finset (Rect.unit (s := s) o s.size h).shape.Idx) = Finset.univ ∨ ∀ a, (Rect.unit (s := s) o s.size h).stride a = 1}
    (k : PUnit → PR nD τ sig Λ₀ F α) :
    (has c m X : sProp 𝕄)
      ⊢ iprop((has c m w -∗ wpk (k ⟨⟩) Q)
        -∗ wpk ((Prog.lift (.store m (Rect.unit (s := s) o s.size h) w Finset.univ hx hm) : PR nD τ sig Λ₀ F PUnit) >>= k) Q) := by
  have e : ((Prog.lift (.store m (Rect.unit (s := s) o s.size h) w Finset.univ hx hm) : PR nD τ sig Λ₀ F PUnit) >>= k)
    = .op (.store m (Rect.unit (s := s) o s.size h) w Finset.univ hx hm) k := rfl
  rw [e]
  iintro H Hk
  iapply (Sb.wp_store_owns (defs := defs) 𝒱 (c : Thread nD τ) bd Es (Q := Q) (m := m) (r := Rect.unit (s := s) o s.size h) (X := X)) $$ H
  rw [overlay_whole ho h X w]
  iintro H
  iapply Hk
  iexact H

theorem wp_fill' {s : Shape} {e : EltTy} {Q : PUnit → sProp 𝕄} (m : Memref sig .tc .vmem s e) {X : s.Idx → Elt F e}
    {o : Fin s.rank → ℕ} (ho : o = fun _ => 0) (h : ∀ a, o a + s.size a ≤ s.size a) (w : s.Idx → Elt F e)
    {hx : (m.access (Rect.unit (s := s) o s.size h)).Stores Finset.univ}
    {hm : (Finset.univ : Finset (Rect.unit (s := s) o s.size h).shape.Idx) = Finset.univ ∨ ∀ a, (Rect.unit (s := s) o s.size h).stride a = 1} :
    (has c m X : sProp 𝕄)
      ⊢ iprop((has c m w -∗ Q ⟨⟩)
        -∗ wpk (Prog.lift (.store m (Rect.unit (s := s) o s.size h) w Finset.univ hx hm) : PR nD τ sig Λ₀ F PUnit) Q) := by
  have e : (Prog.lift (.store m (Rect.unit (s := s) o s.size h) w Finset.univ hx hm) : PR nD τ sig Λ₀ F PUnit)
    = (Prog.lift (.store m (Rect.unit (s := s) o s.size h) w Finset.univ hx hm) : PR nD τ sig Λ₀ F PUnit) >>= fun u => pure u := rfl
  rw [e]
  iintro H Hk
  iapply (wp_fill (defs := defs) 𝒱 c bd Es m ho h w) $$ H
  iintro H
  rw [wp_pure]
  imodintro
  iapply Hk
  iexact H

/-- A body that computes one block from two. -/
theorem wp_two {s0 s1 s2 : Shape} {e0 e1 e2 : EltTy} {Q : PUnit → sProp 𝕄}
    (m0 : Memref sig .tc .vmem s0 e0) (m1 : Memref sig .tc .vmem s1 e1) (m2 : Memref sig .tc .vmem s2 e2)
    {o0 : Fin s0.rank → ℕ} (ho0 : o0 = fun _ => 0) {o1 : Fin s1.rank → ℕ} (ho1 : o1 = fun _ => 0) {o2 : Fin s2.rank → ℕ} (ho2 : o2 = fun _ => 0)
    {h0 : ∀ a, o0 a + s0.size a ≤ s0.size a} {h1 : ∀ a, o1 a + s1.size a ≤ s1.size a} {h2 : ∀ a, o2 a + s2.size a ≤ s2.size a}
    {hl0 : m0.view.LoadsAt (Rect.unit (s := s0) o0 s0.size h0).toLoadRect} {hl1 : m1.view.LoadsAt (Rect.unit (s := s1) o1 s1.size h1).toLoadRect} {hl2 : m2.view.LoadsAt (Rect.unit (s := s2) o2 s2.size h2).toLoadRect}
    {hx0 : (m2.access (Rect.unit (s := s2) o2 s2.size h2)).Stores Finset.univ}
    (f : (s0.Idx → Elt F e0) → (s1.Idx → Elt F e1) → (s2.Idx → Elt F e2)) (x0 : s0.Idx → Elt F e0) (x1 : s1.Idx → Elt F e1) (x2 : s2.Idx → Elt F e2) :
    (iprop(has c m0 x0 ∗ has c m1 x1 ∗ has c m2 x2) : sProp 𝕄)
      ⊢ iprop((iprop(has c m0 x0 ∗ has c m1 x1 ∗ has c m2 (f x0 x1)) -∗ Q ⟨⟩)
        -∗ wpk ((do
          let v0 ← Prog.lift (.load m0 (Rect.unit (s := s0) o0 s0.size h0).toLoadRect hl0)
          let v1 ← Prog.lift (.load m1 (Rect.unit (s := s1) o1 s1.size h1).toLoadRect hl1)
          let _v ← Prog.lift (.load m2 (Rect.unit (s := s2) o2 s2.size h2).toLoadRect hl2)
          Prog.lift (.store m2 (Rect.unit (s := s2) o2 s2.size h2) (f v0 v1) Finset.univ hx0 (.inl rfl))
          pure ⟨⟩) : PR nD τ sig Λ₀ F PUnit) Q) := by
  iintro ⟨H0, H1, H2⟩ HQ
  iapply (wp_whole (defs := defs) 𝒱 c bd Es m0 ho0) $$ H0
  iintro H0
  iapply (wp_whole (defs := defs) 𝒱 c bd Es m1 ho1) $$ H1
  iintro H1
  iapply (wp_whole (defs := defs) 𝒱 c bd Es m2 ho2) $$ H2
  iintro H2
  iapply (wp_fill (defs := defs) 𝒱 c bd Es m2 ho2) $$ H2
  iintro H2
  rw [wp_pure]
  imodintro
  iapply HQ
  iframe

/-- A body that computes one block from three. -/
theorem wp_three {s0 s1 s2 s3 : Shape} {e0 e1 e2 e3 : EltTy} {Q : PUnit → sProp 𝕄}
    (m0 : Memref sig .tc .vmem s0 e0) (m1 : Memref sig .tc .vmem s1 e1) (m2 : Memref sig .tc .vmem s2 e2) (m3 : Memref sig .tc .vmem s3 e3)
    {o0 : Fin s0.rank → ℕ} (ho0 : o0 = fun _ => 0) {o1 : Fin s1.rank → ℕ} (ho1 : o1 = fun _ => 0) {o2 : Fin s2.rank → ℕ} (ho2 : o2 = fun _ => 0) {o3 : Fin s3.rank → ℕ} (ho3 : o3 = fun _ => 0)
    {h0 : ∀ a, o0 a + s0.size a ≤ s0.size a} {h1 : ∀ a, o1 a + s1.size a ≤ s1.size a} {h2 : ∀ a, o2 a + s2.size a ≤ s2.size a} {h3 : ∀ a, o3 a + s3.size a ≤ s3.size a}
    {hl0 : m0.view.LoadsAt (Rect.unit (s := s0) o0 s0.size h0).toLoadRect} {hl1 : m1.view.LoadsAt (Rect.unit (s := s1) o1 s1.size h1).toLoadRect} {hl2 : m2.view.LoadsAt (Rect.unit (s := s2) o2 s2.size h2).toLoadRect} {hl3 : m3.view.LoadsAt (Rect.unit (s := s3) o3 s3.size h3).toLoadRect}
    {hx0 : (m3.access (Rect.unit (s := s3) o3 s3.size h3)).Stores Finset.univ}
    (f : (s0.Idx → Elt F e0) → (s1.Idx → Elt F e1) → (s2.Idx → Elt F e2) → (s3.Idx → Elt F e3)) (x0 : s0.Idx → Elt F e0) (x1 : s1.Idx → Elt F e1) (x2 : s2.Idx → Elt F e2) (x3 : s3.Idx → Elt F e3) :
    (iprop(has c m0 x0 ∗ has c m1 x1 ∗ has c m2 x2 ∗ has c m3 x3) : sProp 𝕄)
      ⊢ iprop((iprop(has c m0 x0 ∗ has c m1 x1 ∗ has c m2 x2 ∗ has c m3 (f x0 x1 x2)) -∗ Q ⟨⟩)
        -∗ wpk ((do
          let v0 ← Prog.lift (.load m0 (Rect.unit (s := s0) o0 s0.size h0).toLoadRect hl0)
          let v1 ← Prog.lift (.load m1 (Rect.unit (s := s1) o1 s1.size h1).toLoadRect hl1)
          let v2 ← Prog.lift (.load m2 (Rect.unit (s := s2) o2 s2.size h2).toLoadRect hl2)
          let _v ← Prog.lift (.load m3 (Rect.unit (s := s3) o3 s3.size h3).toLoadRect hl3)
          Prog.lift (.store m3 (Rect.unit (s := s3) o3 s3.size h3) (f v0 v1 v2) Finset.univ hx0 (.inl rfl))
          pure ⟨⟩) : PR nD τ sig Λ₀ F PUnit) Q) := by
  iintro ⟨H0, H1, H2, H3⟩ HQ
  iapply (wp_whole (defs := defs) 𝒱 c bd Es m0 ho0) $$ H0
  iintro H0
  iapply (wp_whole (defs := defs) 𝒱 c bd Es m1 ho1) $$ H1
  iintro H1
  iapply (wp_whole (defs := defs) 𝒱 c bd Es m2 ho2) $$ H2
  iintro H2
  iapply (wp_whole (defs := defs) 𝒱 c bd Es m3 ho3) $$ H3
  iintro H3
  iapply (wp_fill (defs := defs) 𝒱 c bd Es m3 ho3) $$ H3
  iintro H3
  rw [wp_pure]
  imodintro
  iapply HQ
  iframe

/-- A body that adds to an accumulator along a contraction, and copies it to its block at the last step. -/
theorem wp_sum {s0 s1 s2 s3 : Shape} {e0 e1 e2 e3 : EltTy} {Q : PUnit → sProp 𝕄}
    (m0 : Memref sig .tc .vmem s0 e0) (m1 : Memref sig .tc .vmem s1 e1) (m2 : Memref sig .tc .vmem s2 e2) (m3 : Memref sig .tc .vmem s3 e3)
    {o0 : Fin s0.rank → ℕ} (ho0 : o0 = fun _ => 0) {o1 : Fin s1.rank → ℕ} (ho1 : o1 = fun _ => 0) {o2 : Fin s2.rank → ℕ} (ho2 : o2 = fun _ => 0) {o3 : Fin s3.rank → ℕ} (ho3 : o3 = fun _ => 0)
    {h0 : ∀ a, o0 a + s0.size a ≤ s0.size a} {h1 : ∀ a, o1 a + s1.size a ≤ s1.size a} {h2 : ∀ a, o2 a + s2.size a ≤ s2.size a} {h3 : ∀ a, o3 a + s3.size a ≤ s3.size a}
    {hl0 : m0.view.LoadsAt (Rect.unit (s := s0) o0 s0.size h0).toLoadRect} {hl1 : m1.view.LoadsAt (Rect.unit (s := s1) o1 s1.size h1).toLoadRect} {hl2 : m2.view.LoadsAt (Rect.unit (s := s2) o2 s2.size h2).toLoadRect} {hl3 : m3.view.LoadsAt (Rect.unit (s := s3) o3 s3.size h3).toLoadRect}
    {hx0 : (m2.access (Rect.unit (s := s2) o2 s2.size h2)).Stores Finset.univ}
    {hx1 : (m3.access (Rect.unit (s := s3) o3 s3.size h3)).Stores Finset.univ}
    (n : ℕ) (p : Prop) [Decidable p] (a : (s0.Idx → Elt F e0) → (s1.Idx → Elt F e1) → (s3.Idx → Elt F e3)) (f : (s0.Idx → Elt F e0) → (s1.Idx → Elt F e1) → (s3.Idx → Elt F e3) → (s3.Idx → Elt F e3)) (r : (s3.Idx → Elt F e3) → (s2.Idx → Elt F e2))
    (x0 : s0.Idx → Elt F e0) (x1 : s1.Idx → Elt F e1) (x2 : s2.Idx → Elt F e2) (x3 : s3.Idx → Elt F e3) :
    (iprop(has c m0 x0 ∗ has c m1 x1 ∗ has c m2 x2 ∗ has c m3 x3) : sProp 𝕄)
      ⊢ iprop((iprop(has c m0 x0 ∗ has c m1 x1 ∗ has c m2 (if p then r (accOf n (a x0 x1) (f x0 x1) x3) else x2) ∗ has c m3 (accOf n (a x0 x1) (f x0 x1) x3)) -∗ Q ⟨⟩)
        -∗ wpk ((do
          let v0 ← Prog.lift (.load m0 (Rect.unit (s := s0) o0 s0.size h0).toLoadRect hl0)
          let v1 ← Prog.lift (.load m1 (Rect.unit (s := s1) o1 s1.size h1).toLoadRect hl1)
          if _ : isFirst n then do
            let _v ← Prog.lift (.load m3 (Rect.unit (s := s3) o3 s3.size h3).toLoadRect hl3)
            Prog.lift (.store m3 (Rect.unit (s := s3) o3 s3.size h3) (a v0 v1) Finset.univ hx1 (.inl rfl))
            pure ⟨⟩
          else do pure ⟨⟩
          if _ : isLater n then do
            let v ← Prog.lift (.load m3 (Rect.unit (s := s3) o3 s3.size h3).toLoadRect hl3)
            let _v ← Prog.lift (.load m3 (Rect.unit (s := s3) o3 s3.size h3).toLoadRect hl3)
            Prog.lift (.store m3 (Rect.unit (s := s3) o3 s3.size h3) (f v0 v1 v) Finset.univ hx1 (.inl rfl))
            pure ⟨⟩
          else do pure ⟨⟩
          if _ : p then do
            let v ← Prog.lift (.load m3 (Rect.unit (s := s3) o3 s3.size h3).toLoadRect hl3)
            let _v ← Prog.lift (.load m2 (Rect.unit (s := s2) o2 s2.size h2).toLoadRect hl2)
            Prog.lift (.store m2 (Rect.unit (s := s2) o2 s2.size h2) (r v) Finset.univ hx0 (.inl rfl))
            pure ⟨⟩
          else do pure ⟨⟩
          pure ⟨⟩) : PR nD τ sig Λ₀ F PUnit) Q) := by
  unfold accOf
  iintro ⟨H0, H1, H2, H3⟩ HQ
  iapply (wp_whole (defs := defs) 𝒱 c bd Es m0 ho0) $$ H0
  iintro H0
  iapply (wp_whole (defs := defs) 𝒱 c bd Es m1 ho1) $$ H1
  iintro H1
  by_cases h1 : isFirst n <;> by_cases h2 : isLater n <;> by_cases h3 : p
  · rw [if_pos h2, if_pos h1, if_pos h3]
    simp only [dif_pos h1, dif_pos h2, dif_pos h3, bind_assoc, pure_bind]
    iapply (wp_whole (defs := defs) 𝒱 c bd Es m3 ho3) $$ H3
    iintro H3
    iapply (wp_fill (defs := defs) 𝒱 c bd Es m3 ho3) $$ H3
    iintro H3
    iapply (wp_whole (defs := defs) 𝒱 c bd Es m3 ho3) $$ H3
    iintro H3
    iapply (wp_whole (defs := defs) 𝒱 c bd Es m3 ho3) $$ H3
    iintro H3
    iapply (wp_fill (defs := defs) 𝒱 c bd Es m3 ho3) $$ H3
    iintro H3
    iapply (wp_whole (defs := defs) 𝒱 c bd Es m3 ho3) $$ H3
    iintro H3
    iapply (wp_whole (defs := defs) 𝒱 c bd Es m2 ho2) $$ H2
    iintro H2
    iapply (wp_fill (defs := defs) 𝒱 c bd Es m2 ho2) $$ H2
    iintro H2
    rw [wp_pure]
    imodintro
    iapply HQ
    iframe
  · rw [if_pos h2, if_pos h1, if_neg h3]
    simp only [dif_pos h1, dif_pos h2, dif_neg h3, bind_assoc, pure_bind]
    iapply (wp_whole (defs := defs) 𝒱 c bd Es m3 ho3) $$ H3
    iintro H3
    iapply (wp_fill (defs := defs) 𝒱 c bd Es m3 ho3) $$ H3
    iintro H3
    iapply (wp_whole (defs := defs) 𝒱 c bd Es m3 ho3) $$ H3
    iintro H3
    iapply (wp_whole (defs := defs) 𝒱 c bd Es m3 ho3) $$ H3
    iintro H3
    iapply (wp_fill (defs := defs) 𝒱 c bd Es m3 ho3) $$ H3
    iintro H3
    rw [wp_pure]
    imodintro
    iapply HQ
    iframe
  · rw [if_neg h2, if_pos h1, if_pos h3]
    simp only [dif_pos h1, dif_neg h2, dif_pos h3, bind_assoc, pure_bind]
    iapply (wp_whole (defs := defs) 𝒱 c bd Es m3 ho3) $$ H3
    iintro H3
    iapply (wp_fill (defs := defs) 𝒱 c bd Es m3 ho3) $$ H3
    iintro H3
    iapply (wp_whole (defs := defs) 𝒱 c bd Es m3 ho3) $$ H3
    iintro H3
    iapply (wp_whole (defs := defs) 𝒱 c bd Es m2 ho2) $$ H2
    iintro H2
    iapply (wp_fill (defs := defs) 𝒱 c bd Es m2 ho2) $$ H2
    iintro H2
    rw [wp_pure]
    imodintro
    iapply HQ
    iframe
  · rw [if_neg h2, if_pos h1, if_neg h3]
    simp only [dif_pos h1, dif_neg h2, dif_neg h3, bind_assoc, pure_bind]
    iapply (wp_whole (defs := defs) 𝒱 c bd Es m3 ho3) $$ H3
    iintro H3
    iapply (wp_fill (defs := defs) 𝒱 c bd Es m3 ho3) $$ H3
    iintro H3
    rw [wp_pure]
    imodintro
    iapply HQ
    iframe
  · rw [if_pos h2, if_neg h1, if_pos h3]
    simp only [dif_neg h1, dif_pos h2, dif_pos h3, bind_assoc, pure_bind]
    iapply (wp_whole (defs := defs) 𝒱 c bd Es m3 ho3) $$ H3
    iintro H3
    iapply (wp_whole (defs := defs) 𝒱 c bd Es m3 ho3) $$ H3
    iintro H3
    iapply (wp_fill (defs := defs) 𝒱 c bd Es m3 ho3) $$ H3
    iintro H3
    iapply (wp_whole (defs := defs) 𝒱 c bd Es m3 ho3) $$ H3
    iintro H3
    iapply (wp_whole (defs := defs) 𝒱 c bd Es m2 ho2) $$ H2
    iintro H2
    iapply (wp_fill (defs := defs) 𝒱 c bd Es m2 ho2) $$ H2
    iintro H2
    rw [wp_pure]
    imodintro
    iapply HQ
    iframe
  · rw [if_pos h2, if_neg h1, if_neg h3]
    simp only [dif_neg h1, dif_pos h2, dif_neg h3, bind_assoc, pure_bind]
    iapply (wp_whole (defs := defs) 𝒱 c bd Es m3 ho3) $$ H3
    iintro H3
    iapply (wp_whole (defs := defs) 𝒱 c bd Es m3 ho3) $$ H3
    iintro H3
    iapply (wp_fill (defs := defs) 𝒱 c bd Es m3 ho3) $$ H3
    iintro H3
    rw [wp_pure]
    imodintro
    iapply HQ
    iframe
  · rw [if_neg h2, if_neg h1, if_pos h3]
    simp only [dif_neg h1, dif_neg h2, dif_pos h3, bind_assoc, pure_bind]
    iapply (wp_whole (defs := defs) 𝒱 c bd Es m3 ho3) $$ H3
    iintro H3
    iapply (wp_whole (defs := defs) 𝒱 c bd Es m2 ho2) $$ H2
    iintro H2
    iapply (wp_fill (defs := defs) 𝒱 c bd Es m2 ho2) $$ H2
    iintro H2
    rw [wp_pure]
    imodintro
    iapply HQ
    iframe
  · rw [if_neg h2, if_neg h1, if_neg h3]
    simp only [dif_neg h1, dif_neg h2, dif_neg h3, bind_assoc, pure_bind]
    rw [wp_pure]
    imodintro
    iapply HQ
    iframe

end

end Cert.Proof.Steps
-- ==== Proof.Bodies.lean ====
module

public import proofs.«01_k».proof.Proof.Steps
public import Idealize.ShloMosaic.Lib.Pipeline.FrameBody

@[expose] public section

set_option synthInstance.maxSize 4096
set_option maxRecDepth 65536

noncomputable section

/-! What a call's body owes at every grid point, from what its program does to the blocks it is given. -/

namespace Cert.Proof.Bodies

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {nD : Nat} {τ : Topo} {sig : RefSig} {Val : EltTy → Type} [∀ e, Inhabited (Val e)] {Name : Type} [DecidableEq Name] {U : Type} [URA U] {Lvl : Type} [Preorder Lvl] {Λ₀ : Labels}
variable {cfg : Cfg sig Λ₀} {c : Dev nD} (d : Dat τ Val Unit Name U Lvl cfg c) (defs : Defs nD τ sig Val Λ₀) (𝒱 : Variants)

local notation "𝕄" => MT nD τ sig Unit Val Name U Lvl

/-- What it takes to run the body at a point and have `R` after it. -/
abbrev runs (c : Dev nD) (t : Fin cfg.N) (R : sProp 𝕄) : sProp 𝕄 :=
  wp frame (wpE (Ix := Unit) (Name := Name) (U := U) (Lvl := Lvl) defs 𝒱 (c : Thread nD τ) none) Set.univ (defs .tc cfg.body (cfg.bodyArgs t (cfg.slots t))) fun _ => R

/-- The buffer window `w` uses at a point, at given contents. -/
abbrev at_ (c : Dev nD) (w : Fin cfg.W) (t : Fin cfg.N) (x : (cfg.win w).block.Idx → Val (cfg.win w).elt) : sProp 𝕄 :=
  owns c ((cfg.win w).stage (cfg.slots t w)) fullShare x

/-- A window that is only read holds its array's block at every point. -/
theorem before_in (w : Fin cfg.W) (t : Fin cfg.N) (x) (hw : (cfg.win w).isOut = false := by rfl) (hlive : ∀ i, cfg.idle w i = false := by intros; rfl)
    (hclip : ∀ t t' : Fin cfg.N, (cfg.win w).index t = (cfg.win w).index t' → (cfg.win w).clip (cfg.grid.coords t) = (cfg.win w).clip (cfg.grid.coords t') := by intros; rfl)
    (hkeep : ∀ t, (cfg.win w).cut (cfg.grid.coords t) (d.after w t) = d.blockOf w t := by intros; rfl) : d.before w t x = d.fetched w t x :=
  d.before_in_eq_fetched w hw hlive hclip hkeep t x

/-- A body that keeps what it holds beside its blocks: it is enough that it takes every block from what it held to what it leaves. -/
theorem body_of
    (h : ∀ (t : Fin cfg.N) (x : ∀ w, (cfg.win w).block.Idx → Val (cfg.win w).elt) (Q : sProp 𝕄),
      (bigSep Finset.univ fun w => (at_ c w t (d.before w t (x w)) : sProp 𝕄)) ⊢ iprop(((bigSep Finset.univ fun w => d.leavesExact w t) -∗ Q) -∗ runs defs 𝒱 c t Q))
    (ho : ∀ t, d.owed t = 0 := by intros; rfl) (hr : ∀ t, d.recorded t = Set.univ := by intros; rfl) (hΦ : ∀ t : Fin cfg.N, d.Φ t.castSucc = d.Φ t.succ := by intros; rfl) :
    BodyObligation d defs 𝒱 () Set.univ := fun t => by
  unfold Dat.owesAt Pipeline.owesWithin
  rw [ho, ho, hΦ]
  iintro ⟨HΦ, ⟨%W, %hW, HO⟩, H⟩
  ihave H := (bigSep_exists_pi Finset.univ fun (w : Fin cfg.W) x => (at_ c w t (d.before w t x) : sProp 𝕄)) $$ H
  icases H with ⟨%x, H⟩
  iapply (h t x _) $$ [H]
  · iexact H
  iintro H
  isplitl [HΦ]; · iexact HΦ
  isplitl [HO]
  · iexists W
    isplitr
    · ipureintro; unfold Dat.bound; rw [hr]; exact fun _ _ => Or.inl trivial
    iexact HO
  iexact H

/-- A body over three blocks and an accumulator, of which `P` is known before every point. -/
theorem body_acc {s : Shape} {e : EltTy} (m : Memref sig .tc .vmem s e) (P : ℕ → (s.Idx → Val e) → Prop) (R : sProp 𝕄)
    (hΦ : ∀ t, d.Φ t = iprop((∃ a, ⌜P t.val a⌝ ∗ owns (c : Thread nD τ) m fullShare a) ∗ R))
    (w0 w1 w2 : Fin cfg.W) (hw : ∀ Φ : Fin cfg.W → sProp 𝕄, bigSep Finset.univ Φ = iprop(Φ w0 ∗ Φ w1 ∗ Φ w2))
    (h : ∀ (t : Fin cfg.N) x0 x1 x2 a, P t.val a → ∃ y0 y1 y2 b, (∀ Q : sProp 𝕄,
      iprop(at_ c w0 t (d.before w0 t x0) ∗ at_ c w1 t (d.before w1 t x1) ∗ at_ c w2 t (d.before w2 t x2) ∗ owns (c : Thread nD τ) m fullShare a)
        ⊢ iprop((iprop(at_ c w0 t y0 ∗ at_ c w1 t y1 ∗ at_ c w2 t y2 ∗ owns (c : Thread nD τ) m fullShare b) -∗ Q) -∗ runs defs 𝒱 c t Q))
      ∧ P (t.val + 1) b ∧ ((at_ c w0 t y0 : sProp 𝕄) ⊢ d.leavesExact w0 t) ∧ ((at_ c w1 t y1 : sProp 𝕄) ⊢ d.leavesExact w1 t) ∧ ((at_ c w2 t y2 : sProp 𝕄) ⊢ d.leavesExact w2 t))
    (ho : ∀ t, d.owed t = 0 := by intros; rfl) (hr : ∀ t, d.recorded t = Set.univ := by intros; rfl) :
    BodyObligation d defs 𝒱 () Set.univ := fun t => by
  unfold Dat.owesAt Pipeline.owesWithin
  rw [ho, ho, hΦ, hΦ, hw, hw]
  iintro ⟨⟨⟨%a, %ha, HA⟩, HR⟩, ⟨%W, %hW, HO⟩, ⟨%x0, H0⟩, ⟨%x1, H1⟩, ⟨%x2, H2⟩⟩
  obtain ⟨y0, y1, y2, b, hwp, hb, h0, h1, h2⟩ := h t x0 x1 x2 a ha
  iapply (hwp _) $$ [H0 H1 H2 HA]
  · isplitl [H0]; · iexact H0
    isplitl [H1]; · iexact H1
    isplitl [H2]; · iexact H2
    iexact HA
  iintro ⟨H0, H1, H2, HA⟩
  isplitl [HA HR]
  · isplitl [HA]
    · iexists b
      isplitr
      · ipureintro; exact hb
      iexact HA
    iexact HR
  isplitl [HO]
  · iexists W
    isplitr
    · ipureintro; unfold Dat.bound; rw [hr]; exact fun _ _ => Or.inl trivial
    iexact HO
  isplitl [H0]; · iapply h0; iexact H0
  isplitl [H1]; · iapply h1; iexact H1
  iapply h2; iexact H2

/-- A block that is written only where `v` is 1 and is idle elsewhere. -/
theorem left_of (w : Fin cfg.W) (t : Fin cfg.N) (v : BitVec 1) (hi : cfg.idle w (cfg.grid.coords t) = !(v == 1#1))
    (hf : (cfg.win w).flush t = true → v = 1#1) {X : (cfg.win w).block.Idx → Val (cfg.win w).elt} (hX : X = d.after w t) (x) :
    (at_ c w t (if v = 1#1 then X else d.before w t x) : sProp 𝕄) ⊢ d.leavesExact w t := by
  by_cases h : v = 1#1
  · have hi' : cfg.idle w (cfg.grid.coords t) = false := by rw [hi, h]; rfl
    unfold Dat.leavesExact
    rw [hi', if_pos h, hX]
  · rw [Dat.leavesExact_idle d w t (by rw [hi, Bool.not_eq_true', beq_eq_false_iff_ne]; exact h) (by rw [← Bool.not_eq_true]; exact fun e => h (hf e)), if_neg h]
    iintro H
    iexists x
    iexact H

end Cert.Proof.Bodies
-- ==== Proof.Run.lean ====
module

public import proofs.«01_k».proof.Proof.Body
public import proofs.«01_k».proof.Proof.Gen.KernelIdeal.Points
public import proofs.«01_k».proof.Proof.Gen.KernelIdeal.Regions
public import proofs.«01_k».proof.Proof.Bodies

@[expose] public section

set_option synthInstance.maxSize 4096
set_option maxRecDepth 65536

noncomputable section

/-! The run of the two kernels one after the other: what each leaves in its arrays, and that the
program ends with them there. -/

namespace Cert.Proof.Sb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Proof.Bodies (before_in body_of)

variable {F : FTy → Type} [FloatOps F]

/-- The pipelines' bookkeeping, and nothing else of note beside it. -/
abbrev UU : Type := UR sig nD τ × UR sig nD τ
local notation "𝕄" => MT nD τ sig Unit (Elt F) ℕ UU ℕ
abbrev EP : Emb (UR sig nD τ) (MT nD τ sig Unit (Elt F) ℕ UU ℕ) := embL
abbrev 𝒱₀ : Variants := Variants.none

/-- What every buffer of a core holds. -/
abbrev Val0 (F : FTy → Type) := (c : Dev nD) → (b : Ref sig .tc) → Buf (Elt F) ((c : Thread nD τ).loc b)

variable (V : Val0 F) (c : Dev nD)

/-! ### The forward call -/

/-- The block of window `w`'s array at a point. -/
def blk0 (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sums the forward call's sweep ends with at a point. -/
def sum0 (t : Fin cfg0.N) : Sq F :=
  (endF (grid0.coords t) (k1_pay448 (blk0 V c 0 t : Blk F)) (blk0 V c 1 t : Cols F) (blk0 V c 2 t : Cols F)).2

def dat0 : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay8 (sum0 V c t)
    | ⟨4, _⟩ => k0_pay7 (sum0 V c t)
  Φ _ := Pipeline.scopedRest (Ix := Unit) (Name := ℕ) (U := UU) (Lvl := ℕ) (Val := Elt F) spec0 c
  q _ := fullShare
  owed _ := 0

theorem before0_0 (t : Fin cfg0.N) (d) : (dat0 V c).before 0 t d = blk0 V c 0 t :=
  before_in (dat0 V c) 0 t d
theorem before0_1 (t : Fin cfg0.N) (d) : (dat0 V c).before 1 t d = blk0 V c 1 t :=
  before_in (dat0 V c) 1 t d
theorem before0_2 (t : Fin cfg0.N) (d) : (dat0 V c).before 2 t d = blk0 V c 2 t :=
  before_in (dat0 V c) 2 t d

theorem body0 : BodyObligation (dat0 V c) (defs₀ (F := F)) 𝒱₀ () Set.univ :=
  body_of _ _ _ fun t x Q => by
  rw [bigSep_W0, bigSep_W0, before0_0, before0_1, before0_2]
  exact wp_fwd (Q := fun _ => Q) 𝒱₀ c none _ (grid0.coords t) _ (hstage0_0 _) _ (hstage0_1 _) _ (hstage0_2 _) _ (hstage0_3 _) _ (hstage0_4 _) fullShare (blk0 V c 0 t) _ _ (blk0 V c 1 t) (blk0 V c 2 t)

/-! ### The backward call -/

def blk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a point computes from the gradient columns as the point before left them. -/
def point1 (t : Fin cfg1.N) (A B : GCols F) : St F :=
  bwdS (grid1.coords t) (blk1 V c 0 t : Blk F) (blk1 V c 1 t : Cols F) (blk1 V c 2 t : Cols F) (blk1 V c 3 t : Blk F) (blk1 V c 4 t : GBlk F) A B

/-- The gradient columns before a point. -/
def cols1 : ℕ → GCols F × GCols F
  | 0 => (zeroCol, zeroCol)
  | n + 1 => if h : n < cfg1.N then (point1 V c ⟨n, h⟩ (cols1 n).1 (cols1 n).2).2 else cols1 n

theorem cols1_succ (t : Fin cfg1.N) : cols1 V c (t.val + 1) = (point1 V c t (cols1 V c t.val).1 (cols1 V c t.val).2).2 := by
  rw [cols1, dif_pos t.isLt]

def dat1 : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => k1_pay5 (point1 V c t (cols1 V c t.val).1 (cols1 V c t.val).2).1.2.2
    | ⟨6, _⟩ => (cols1 V c (t.val + 1)).1
    | ⟨7, _⟩ => (cols1 V c (t.val + 1)).2
  Φ _ := Pipeline.scopedRest (Ix := Unit) (Name := ℕ) (U := UU) (Lvl := ℕ) (Val := Elt F) spec1 c
  q _ := fullShare
  owed _ := 0

theorem before1_0 (t : Fin cfg1.N) (d) : (dat1 V c).before 0 t d = blk1 V c 0 t :=
  before_in (dat1 V c) 0 t d
theorem before1_1 (t : Fin cfg1.N) (d) : (dat1 V c).before 1 t d = blk1 V c 1 t :=
  before_in (dat1 V c) 1 t d
theorem before1_2 (t : Fin cfg1.N) (d) : (dat1 V c).before 2 t d = blk1 V c 2 t :=
  before_in (dat1 V c) 2 t d
theorem before1_3 (t : Fin cfg1.N) (d) : (dat1 V c).before 3 t d = blk1 V c 3 t :=
  before_in (dat1 V c) 3 t d
theorem before1_4 (t : Fin cfg1.N) (d) : (dat1 V c).before 4 t d = blk1 V c 4 t :=
  before_in (dat1 V c) 4 t d

/-- At a column's first query block the columns are cleared, whatever they held. -/
theorem cleared : ∀ i : grid1.Coords, (i 1).val = 0 → Scalar.cmpi .ne (Scalar.extui (Scalar.cmpi .eq (iq1 i) 0#32)) 0#32 = 1#1 := by
  decide +kernel

theorem coord1 (t : Fin cfg1.N) : (grid1.coords t 1).val = t.val % 65 := by
  rw [Pipeline.Grid.coords_val t 1 (S := 1) (B := 65) (by decide) rfl, Nat.div_one]

theorem start_clear (t : Fin cfg1.N) (h : t.val % 65 = 0) (A : GCols F) : startCol (grid1.coords t) A = zeroCol := by
  unfold startCol
  rw [if_pos (cleared _ ((coord1 t).trans h))]

theorem start1_6 (t : Fin cfg1.N) (d) :
    startCol (grid1.coords t) ((dat1 V c).before 6 t d : GCols F) = startCol (grid1.coords t) (cols1 V c t.val).1 := by
  by_cases h : t.val % 65 = 0
  · rw [start_clear t h, start_clear t h]
  · have h0 : t.val ≠ 0 := fun e => h (by rw [e])
    rw [(dat1 V c).before_out_kept 6 rfl t h0 (by
      rw [← Bool.not_eq_true]; intro e; have := (flush1_6 _).mp e; dsimp only at this; omega) (fun _ => rfl) (fun _ _ => rfl) d]
    show startCol _ (cols1 V c (t.val - 1 + 1)).1 = _
    rw [Nat.sub_add_cancel (Nat.one_le_iff_ne_zero.mpr h0)]

theorem start1_7 (t : Fin cfg1.N) (d) :
    startCol (grid1.coords t) ((dat1 V c).before 7 t d : GCols F) = startCol (grid1.coords t) (cols1 V c t.val).2 := by
  by_cases h : t.val % 65 = 0
  · rw [start_clear t h, start_clear t h]
  · have h0 : t.val ≠ 0 := fun e => h (by rw [e])
    rw [(dat1 V c).before_out_kept 7 rfl t h0 (by
      rw [← Bool.not_eq_true]; intro e; have := (flush1_7 _).mp e; dsimp only at this; omega) (fun _ => rfl) (fun _ _ => rfl) d]
    show startCol _ (cols1 V c (t.val - 1 + 1)).2 = _
    rw [Nat.sub_add_cancel (Nat.one_le_iff_ne_zero.mpr h0)]

theorem point1_start (t : Fin cfg1.N) (d d') :
    point1 V c t ((dat1 V c).before 6 t d : GCols F) ((dat1 V c).before 7 t d' : GCols F) = point1 V c t (cols1 V c t.val).1 (cols1 V c t.val).2 := by
  unfold point1 bwdS
  rw [start1_6, start1_7]

theorem body1 : BodyObligation (dat1 V c) (defs₀ (F := F)) 𝒱₀ () Set.univ :=
  body_of _ _ _ fun t x Q => by
  rw [bigSep_W1, bigSep_W1, before1_0, before1_1, before1_2, before1_3, before1_4]
  have e : bwdS (grid1.coords t) (blk1 V c 0 t : Blk F) (blk1 V c 1 t : Cols F) (blk1 V c 2 t : Cols F) (blk1 V c 3 t : Blk F) (blk1 V c 4 t : GBlk F)
      ((dat1 V c).before 6 t (x 6) : GCols F) ((dat1 V c).before 7 t (x 7) : GCols F) = point1 V c t (cols1 V c t.val).1 (cols1 V c t.val).2 := point1_start V c t (x 6) (x 7)
  refine (wp_bwd (defs := defs₀) (Q := fun _ => Q) 𝒱₀ c none Set.univ (grid1.coords t) _ (hstage1_0 _) _ (hstage1_1 _) _ (hstage1_2 _) _ (hstage1_3 _) _ (hstage1_4 _) _ (hstage1_5 _) _ (hstage1_6 _) _ (hstage1_7 _)
    fullShare (blk1 V c 0 t) (blk1 V c 3 t) (blk1 V c 4 t) ((dat1 V c).before 5 t (x 5)) (blk1 V c 1 t) (blk1 V c 2 t) ((dat1 V c).before 6 t (x 6)) ((dat1 V c).before 7 t (x 7))).trans ?_
  have l6 : (dat1 V c).leavesExact 6 t = (owns (c : Thread nD τ) (win1_6.stage (cfg1.slots t 6)) fullShare (cols1 V c (t.val + 1)).1 : sProp 𝕄) := rfl
  have l7 : (dat1 V c).leavesExact 7 t = (owns (c : Thread nD τ) (win1_7.stage (cfg1.slots t 7)) fullShare (cols1 V c (t.val + 1)).2 : sProp 𝕄) := rfl
  rw [e, l6, l7, cols1_succ]
  exact .rfl

end Cert.Proof.Sb
-- ==== Proof.Segs.lean ====
module

public import Idealize.ShloMosaic.Lib.Pipeline.Kit
public import Idealize.ShloMosaic.Lib.Pipeline.Frame
public import Idealize.ShloMosaic.Lib.Pipeline.Regions
public import Idealize.ShloMosaic.Lib.Pipeline.RegionsLoop

@[expose] public section

noncomputable section

/-! One call of a program as a segment: the buffers outside the call's scope at one valuation before it, and at another after it. -/

namespace Cert.Proof.Segs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg PCfg BodyObligation RegionSeg)

variable {nD : Nat} {τ : Topo} {sig : RefSig} {Val : EltTy → Type} {U : Type} [URA U]
variable {Λ₀ : Labels} {P : Type} [Fintype P] {cfgs : P → Cfg sig Λ₀}

local notation "𝕄" => MT nD τ sig Unit Val ℕ U ℕ

/-- No call has a semaphore of its own. -/
def noK : Fin 0 → SemLoc sig := fun k => k.elim0

theorem noSems (c : Dev nD) : (BI.emp : sProp 𝕄) ⊢ Pipeline.ownSems0 (Ix := Unit) (Name := ℕ) (U := U) (Lvl := ℕ) (Val := Val) (τ := τ) noK c := by
  unfold Pipeline.ownSems0
  rw [show (Finset.univ : Finset (Fin 0)) = ∅ from rfl, BI.bigSep_empty]

/-- The core holds every buffer outside a call's scope, at the contents `V`. -/
abbrev Holds (V : Dev nD → Valuation τ sig Val) (c : Dev nD) : sProp 𝕄 := StableHlo.held (c : Thread nD τ) (Pipeline.ucRefs τ sig) (V c)

/-- An update of one buffer leaves every other as it was. -/
theorem upd_of (V : Valuation τ sig Val) {b : Ref sig .tc} (x) {r : Ref sig .tc} (h : r ≠ b) : Function.update V (Proc.devRef .tc b : DevRef τ sig) x r = V r :=
  Function.update_of_ne (StableHlo.devRef_ne_of_ne h) _ _

/-- A buffer that is no window's array is not window `w`'s. -/
theorem ne_arr {cfg : Cfg sig Λ₀} {b : Ref sig .tc} (h : b ∉ Finset.univ.image (Pipeline.arrRef cfg.spec)) (w : Fin cfg.W) : b ≠ Pipeline.arrRef cfg.spec w :=
  fun e => h (e ▸ Finset.mem_image_of_mem (Pipeline.arrRef cfg.spec) (Finset.mem_univ w))

/-- The core owes nothing. -/
abbrev R (c : Dev nD) : sProp 𝕄 := iprop(∃ W, owes (c : Thread nD τ) (0 : CellTallies nD τ sig Unit) W)

/-- Call `p`'s windows start at `V`'s arrays and end at `W`'s, and `W` is `V` at every other buffer. -/
structure Goes (p : P) (pdats : (p : P) → (c : Dev nD) → Dat τ Val Unit ℕ U ℕ (cfgs p) c) (V W : Dev nD → Valuation τ sig Val) : Prop where
  q : ∀ c w, ((cfgs p).spec w).isOut = false → (pdats p c).q w = Pipeline.shareOf (cfgs p).spec w
  owed : ∀ c t, (pdats p c).owed t = 0
  recd : ∀ c x, x ∈ (pdats p c).recorded 0
  A : ∀ c w, (pdats p c).A w = V c (Pipeline.arrRef (cfgs p).spec w)
  left : ∀ c w, (pdats p c).arrAt w (cfgs p).N = W c (Pipeline.arrRef (cfgs p).spec w)
  other : ∀ c (b : Ref sig .tc), b ∉ Finset.univ.image (Pipeline.arrRef (cfgs p).spec) → W c b = V c b

omit [Fintype P] in
/-- Full shares are the shares of distinct arrays. -/
theorem shares {p : P} {pdats : (p : P) → (c : Dev nD) → Dat τ Val Unit ℕ U ℕ (cfgs p) c} (la : Pipeline.LaunchFacts (nD := nD) (τ := τ) cfgs p) (q : ∀ c w, (pdats p c).q w = fullShare) :
    ∀ c w, ((cfgs p).spec w).isOut = false → (pdats p c).q w = Pipeline.shareOf (cfgs p).spec w :=
  fun c w hw => (pdats p c).q_eq_shareOf_of_share_full la.win.arr_inj ((pdats p c).share_full (q c)) w hw

/-- A call with one output window leaves every other buffer as it was. -/
theorem Goes.one {p : P} {pdats : (p : P) → (c : Dev nD) → Dat τ Val Unit ℕ U ℕ (cfgs p) c} {V W : Dev nD → Valuation τ sig Val}
    (la : Pipeline.LaunchFacts (nD := nD) (τ := τ) cfgs p) (o : Fin (cfgs p).W) (hin : ∀ w, w ≠ o → ((cfgs p).win w).isOut = false)
    (hW : ∀ c, W c = Function.update (V c) (Pipeline.arrRef (cfgs p).spec o) ((pdats p c).arrAt o (cfgs p).N))
    (q : ∀ c w, (pdats p c).q w = fullShare := by intros; rfl) (owed : ∀ c t, (pdats p c).owed t = 0 := by intros; rfl) (recd : ∀ c x, x ∈ (pdats p c).recorded 0 := by intros; trivial)
    (A : ∀ c w, (pdats p c).A w = V c (Pipeline.arrRef (cfgs p).spec w) := by intros; rfl) : Goes p pdats V W where
  q := shares la q
  owed := owed
  recd := recd
  A := A
  left c w := by
    by_cases h : w = o
    · subst h
      rw [hW, Function.update_self]
    · rw [hW, Function.update_of_ne (StableHlo.devRef_ne_of_ne fun e => h (la.win.arr_inj e)), (pdats p c).arrAt_in w (hin w h), A]
  other c b hb := by
    have hne : b ≠ Pipeline.arrRef (cfgs p).spec o := fun e => hb (e ▸ Finset.mem_image_of_mem (Pipeline.arrRef (cfgs p).spec) (Finset.mem_univ o))
    rw [hW, Function.update_of_ne (StableHlo.devRef_ne_of_ne hne)]

variable (pdats : (p : P) → (c : Dev nD) → Dat τ Val Unit ℕ U ℕ (cfgs p) c)
variable (defs₀ : Defs nD τ sig Val Λ₀) (𝒱₀ : Variants)
variable (L : GSem nD τ sig → Finset Unit) (lv : GSem nD τ sig → Unit → ℕ)
variable {p : P} {V W : Dev nD → Valuation τ sig Val}

theorem enter (la : Pipeline.LaunchFacts₀ (nD := nD) (τ := τ) cfgs p) (h : Goes p pdats V W) (c : Dev nD) :
    (Holds V c : sProp 𝕄) ⊢ iprop((pdats p c).arrays ((pdats p c).arrAt · 0) ∗ Pipeline.unscopedRest (Ix := Unit) (Name := ℕ) (U := U) (Lvl := ℕ) (cfgs p).spec c (fun b => V c b)) := by
  rw [show Holds V c = (unscopedBufs c (fun b => V c b) : sProp 𝕄) from (Pipeline.unscopedBufs_held c _).symm]
  exact Pipeline.arrays_of_unscopedBufs_shared (p := p) (fun q => (cfgs q).toPCfg (Val := Val)) (fun q => (cfgs q).toPCfg_adm) pdats la.win la.sharedIn la.arr_whole c
    (h.q c) (fun b => V c b) (h.A c)

theorem leave (la : Pipeline.LaunchFacts₀ (nD := nD) (τ := τ) cfgs p) (h : Goes p pdats V W) (c : Dev nD) :
    iprop((pdats p c).arrays ((pdats p c).arrAt · (cfgs p).N) ∗ Pipeline.unscopedRest (Ix := Unit) (Name := ℕ) (U := U) (Lvl := ℕ) (cfgs p).spec c (fun b => V c b)) ⊢ (Holds W c : sProp 𝕄) := by
  rw [show Holds W c = (unscopedBufs c (fun b => W c b) : sProp 𝕄) from (Pipeline.unscopedBufs_held c _).symm]
  exact Pipeline.unscopedBufs_of_arrays_shared (p := p) (fun q => (cfgs q).toPCfg (Val := Val)) (fun q => (cfgs q).toPCfg_adm) (Ix := Unit) (Name := ℕ) (U := U) (Lvl := ℕ) la.win la.sharedIn la.arr_whole c pdats
    (h.q c) (fun b => V c b) (fun b => W c b) ((pdats p c).arrAt · (cfgs p).N) (h.left c) (h.other c)

omit [Fintype P] in
/-- A scratch buffer at any contents is one at contents of which nothing is asked. -/
theorem scratch_in (c : Dev nD) (r : Ref sig .tc) {φ : r.ty.Contents Val → Prop} (hφ : ∀ d, φ d) {rest : sProp 𝕄} :
    iprop((∃ f : Buf Val ((c : Thread nD τ).loc r), ((c : Thread nD τ).loc r) ↦{fullShare} f) ∗ rest)
      ⊢ iprop((∃ d : r.ty.Contents Val, ⌜φ d⌝ ∗ owns (c : Thread nD τ) (Memref.whole r) fullShare d) ∗ rest) := by
  iintro ⟨⟨%f, Hs⟩, Hr⟩
  isplitl [Hs]
  · iexists f
    isplitr; · ipureintro; exact hφ f
    rw [owns_whole]
    iexact Hs
  iexact Hr

omit [Fintype P] in
/-- And back. -/
theorem scratch_out (c : Dev nD) (r : Ref sig .tc) {φ : r.ty.Contents Val → Prop} {rest : sProp 𝕄} :
    iprop((∃ d : r.ty.Contents Val, ⌜φ d⌝ ∗ owns (c : Thread nD τ) (Memref.whole r) fullShare d) ∗ rest)
      ⊢ iprop((∃ f : Buf Val ((c : Thread nD τ).loc r), ((c : Thread nD τ).loc r) ↦{fullShare} f) ∗ rest) := by
  iintro ⟨⟨%f, -, Hs⟩, Hr⟩
  isplitl [Hs]
  · iexists f
    rw [owns_whole]
    exact .rfl
  iexact Hr

/-- A call as a segment. -/
def seg (la : Pipeline.LaunchFacts₀ (nD := nD) (τ := τ) cfgs p) (ho : Pipeline.OwnSemFacts (cfgs p).spec noK)
    (hbody : ∀ c, BodyObligation (pdats p c) defs₀ 𝒱₀ () Set.univ) (h : Goes p pdats V W)
    (hin : ∀ c, Pipeline.scopedRest (Ix := Unit) (Name := ℕ) (U := U) (Lvl := ℕ) (Val := Val) (cfgs p).spec c ⊢ (pdats p c).Φ 0)
    (hout : ∀ c, (pdats p c).Φ (Fin.last (cfgs p).N) ⊢ Pipeline.scopedRest (Ix := Unit) (Name := ℕ) (U := U) (Lvl := ℕ) (Val := Val) (cfgs p).spec c) :
    RegionSeg (fun q => (cfgs q).toPCfg (Val := Val)) (fun q => (cfgs q).toPCfg_adm) pdats () defs₀ 𝒱₀ L lv p where
  win := la.win
  block_pos := la.block_pos
  stage_whole := la.stage_whole
  K := Fin 0
  osem := noK
  ho := ho
  hbody c := (hbody c).loose
  hwaits := Pipeline.hwaits_of_owed_zero _ _ _ _ L lv p h.owed
  pre c := iprop(Holds V c ∗ R c)
  post c := iprop(Holds W c ∗ R c)
  X _ := iprop(emp)
  Y _ := iprop(emp)
  Z c := Pipeline.unscopedRest (Ix := Unit) (Name := ℕ) (U := U) (Lvl := ℕ) (cfgs p).spec c (fun b => V c b)
  hentry c := by
    iintro ⟨⟨Hub, HO⟩, -, -⟩
    ihave H := (enter pdats la h c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.owed]
      icases HO with ⟨%W, HO⟩; iexists W; isplitr; · ipureintro; exact fun _ _ => Or.inl (h.recd c _)
      iexact HO
    isplitr; · iempintro
    iexact Hr
  hin c := by
    iintro ⟨-, -, Hr⟩
    iapply (hin c)
    iexact Hr
  hout c := by
    iintro Hr
    isplitr; · iempintro
    isplitr; · iapply (noSems c); iempintro
    iapply (hout c)
    iexact Hr
  hexit c := by
    iintro ⟨Ha, HO, -, HZ⟩
    imodintro
    isplitr [HO]
    · iapply (leave pdats la h c)
      isplitl [Ha]; · iexact Ha
      iexact HZ
    · unfold Pipeline.Dat.owesAt Pipeline.owesWithin
      rw [h.owed]
      icases HO with ⟨%W, -, HO⟩; iexists W; iexact HO

end Cert.Proof.Segs
-- ==== Proof.Launch.lean ====
module

public import proofs.«01_k».proof.Proof.Run
public import proofs.«01_k».proof.Proof.Segs

@[expose] public section

set_option synthInstance.maxSize 4096
set_option maxRecDepth 65536

noncomputable section

/-! The launch: the two calls as the program's two segments, and what the program ends with. -/

namespace Cert.Proof.Sb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The contents at launch, -/
abbrev W0 : Val0 F := fun c b => V0 m c b
/-- what the forward call leaves, -/
def o16 : Buf (Elt F) ((c : Thread nD τ).loc main_v0_0) := (dat0 (W0 m) c).arrAt 3 cfg0.N
def o32 : Buf (Elt F) ((c : Thread nD τ).loc main_v0_1) := (dat0 (W0 m) c).arrAt 4 cfg0.N
/-- the contents after it, -/
def U1 : Valuation τ sig (Elt F) := Function.update (Function.update (V0 m c) main_v0_0 (o16 m c)) main_v0_1 (o32 m c)
abbrev W1 : Val0 F := fun c b => U1 m c b
/-- what the backward call leaves, -/
def dqA : Buf (Elt F) ((c : Thread nD τ).loc main_v1_0) := (dat1 (W1 m) c).arrAt 5 cfg1.N
def dkA : Buf (Elt F) ((c : Thread nD τ).loc main_v1_1) := (dat1 (W1 m) c).arrAt 6 cfg1.N
def dvA : Buf (Elt F) ((c : Thread nD τ).loc main_v1_2) := (dat1 (W1 m) c).arrAt 7 cfg1.N
/-- and the contents at the end. -/
def U2 : Valuation τ sig (Elt F) :=
  Function.update (Function.update (Function.update (U1 m c) main_v1_0 (dqA m c)) main_v1_1 (dkA m c)) main_v1_2 (dvA m c)

theorem U1_of (r : Ref sig .tc) (h0 : r ≠ main_v0_0) (h1 : r ≠ main_v0_1) : U1 m c r = V0 m c r := (Segs.upd_of _ _ h1).trans (Segs.upd_of _ _ h0)
theorem U1_v0_0 : U1 m c main_v0_0 = o16 m c := (Segs.upd_of _ _ (by decide)).trans (Function.update_self _ _ _)
theorem U1_v0_1 : U1 m c main_v0_1 = o32 m c := Function.update_self _ _ _

theorem U2_of (r : Ref sig .tc) (h0 : r ≠ main_v1_0) (h1 : r ≠ main_v1_1) (h2 : r ≠ main_v1_2) : U2 m c r = U1 m c r :=
  (Segs.upd_of _ _ h2).trans ((Segs.upd_of _ _ h1).trans (Segs.upd_of _ _ h0))
theorem U2_v1_0 : U2 m c main_v1_0 = dqA m c := (Segs.upd_of _ _ (by decide)).trans ((Segs.upd_of _ _ (by decide)).trans (Function.update_self _ _ _))
theorem U2_v1_1 : U2 m c main_v1_1 = dkA m c := (Segs.upd_of _ _ (by decide)).trans (Function.update_self _ _ _)
theorem U2_v1_2 : U2 m c main_v1_2 = dvA m c := Function.update_self _ _ _

/-- The operands. -/
abbrev args : List (Ref sig .tc) := [main_arg0, main_arg1, main_arg2, main_arg3]

theorem U2_arg (r : Ref sig .tc) (h : r ∈ args) : U2 m c r = m ((c : Thread nD τ).loc r) :=
  have n {b : Ref sig .tc} (hb : b ∉ args) : r ≠ b := ne_of_mem_of_not_mem h hb
  (U2_of m c r (n (by decide)) (n (by decide)) (n (by decide))).trans (U1_of m c r (n (by decide)) (n (by decide)))

/-- The two calls' data. -/
def pdats : (p : Fin 2) → (c : Dev nD) → Dat τ (Elt F) Unit ℕ UU ℕ (cfgs p) c
  | 0 => fun c => dat0 (W0 m) c
  | 1 => fun c => dat1 (W1 m) c
  | ⟨_ + 2, h⟩ => absurd h (by omega)

abbrev L : GSem nD τ sig → Finset Unit := fun _ => ∅
abbrev lv : GSem nD τ sig → Unit → ℕ := fun _ _ => 0
abbrev W2 : Val0 F := fun c b => U2 m c b

/-! ### The calls as segments -/

theorem left0 : (w : Fin cfg0.W) → (pdats m 0 c).arrAt w cfg0.N = W1 m c (Pipeline.arrRef spec0 w)
  | ⟨0, _⟩ => ((dat0 (W0 m) c).arrAt_in 0 rfl _).trans (U1_of m c main_arg0 (by decide) (by decide)).symm
  | ⟨1, _⟩ => ((dat0 (W0 m) c).arrAt_in 1 rfl _).trans (U1_of m c main_arg1 (by decide) (by decide)).symm
  | ⟨2, _⟩ => ((dat0 (W0 m) c).arrAt_in 2 rfl _).trans (U1_of m c main_arg2 (by decide) (by decide)).symm
  | ⟨3, _⟩ => (U1_v0_0 m c).symm
  | ⟨4, _⟩ => (U1_v0_1 m c).symm

theorem other0 (b : Ref sig .tc) (hb : b ∉ Finset.univ.image (Pipeline.arrRef spec0)) : W1 m c b = W0 m c b :=
  U1_of m c b (Segs.ne_arr (cfg := cfg0) hb 3) (Segs.ne_arr (cfg := cfg0) hb 4)

theorem goes0 : Segs.Goes (cfgs := cfgs) 0 (pdats m) (V0 m) (U1 m) :=
  ⟨Segs.shares launch0 fun _ _ => rfl, fun _ _ => rfl, fun _ _ => trivial, fun _ _ => rfl, left0 m, other0 m⟩

set_option backward.isDefEq.respectTransparency.types false in
def reg0 : RegionSeg (pcfgs (F := F)) adm (pdats m) () defs₀ 𝒱₀ L lv 0 :=
  Segs.seg (pdats m) defs₀ 𝒱₀ L lv launch0.to₀ (by decide) (body0 (W0 m)) (goes0 m) (fun _ => .rfl) (fun _ => .rfl)

theorem left1 : (w : Fin cfg1.W) → (pdats m 1 c).arrAt w cfg1.N = W2 m c (Pipeline.arrRef spec1 w)
  | ⟨0, _⟩ => ((dat1 (W1 m) c).arrAt_in 0 rfl _).trans (U2_of m c main_arg0 (by decide) (by decide) (by decide)).symm
  | ⟨1, _⟩ => ((dat1 (W1 m) c).arrAt_in 1 rfl _).trans (U2_of m c main_arg1 (by decide) (by decide) (by decide)).symm
  | ⟨2, _⟩ => ((dat1 (W1 m) c).arrAt_in 2 rfl _).trans (U2_of m c main_arg2 (by decide) (by decide) (by decide)).symm
  | ⟨3, _⟩ => ((dat1 (W1 m) c).arrAt_in 3 rfl _).trans (U2_of m c main_arg3 (by decide) (by decide) (by decide)).symm
  | ⟨4, _⟩ => ((dat1 (W1 m) c).arrAt_in 4 rfl _).trans (U2_of m c main_v0_1 (by decide) (by decide) (by decide)).symm
  | ⟨5, _⟩ => (U2_v1_0 m c).symm
  | ⟨6, _⟩ => (U2_v1_1 m c).symm
  | ⟨7, _⟩ => (U2_v1_2 m c).symm

theorem other1 (b : Ref sig .tc) (hb : b ∉ Finset.univ.image (Pipeline.arrRef spec1)) : W2 m c b = W1 m c b :=
  U2_of m c b (Segs.ne_arr (cfg := cfg1) hb 5) (Segs.ne_arr (cfg := cfg1) hb 6) (Segs.ne_arr (cfg := cfg1) hb 7)

theorem goes1 : Segs.Goes (cfgs := cfgs) 1 (pdats m) (U1 m) (U2 m) :=
  ⟨Segs.shares launch1 fun _ _ => rfl, fun _ _ => rfl, fun _ _ => trivial, fun _ _ => rfl, left1 m, other1 m⟩

set_option backward.isDefEq.respectTransparency.types false in
def reg1 : RegionSeg (pcfgs (F := F)) adm (pdats m) () defs₀ 𝒱₀ L lv 1 :=
  Segs.seg (pdats m) defs₀ 𝒱₀ L lv launch1.to₀ (by decide) (body1 (W1 m)) (goes1 m) (fun _ => .rfl) (fun _ => .rfl)

def u₀ : UU := (initOf (Pipeline.cells cfgs cellOf_inj) (Pipeline.launchToks cfgs cellOf_inj), 1)

/-- What a final state holds on a core. -/
def Ends (s : MemSt nD τ sig (Elt F)) : Prop :=
  ∀ b : Ref sig .tc, (Proc.devRef .tc b : DevRef τ sig) ∈ Pipeline.ucRefs τ sig → s.mem ((c : Thread nD τ).loc b) = U2 m c b

set_option backward.isDefEq.respectTransparency.types false in
/-- Every run of the two calls ends, with every buffer at what the calls leave and every counter at zero. -/
theorem run_main : θ_run defs (onTc (τ := τ) (main (F := F))) ⟨m, fun _ => 0, ρ⟩ (fun r => (∀ c, Ends m c r.2) ∧ r.2.sem = fun _ => 0) :=
  Pipeline.θ_run_regions_kit_sems (pcfgs (F := F)) adm (pdats m) () cellOf_inj EP defs₀ 𝒱₀ L lv m ρ main [.region (reg0 m), .region (reg1 m)]
    (fun c Q => by rw [main_segs adm (pdats m) () 𝒱₀ L lv (reg0 m) (reg1 m) c])
    (by simp only [Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(Segs.Holds (V0 m) c ∗ Segs.R c)) (Tₙ := Segs.Holds (U2 m))
    (hch := ⟨fun _ => .rfl, fun _ => .rfl, fun _ => .rfl⟩)
    (hinit := by
      refine Pipeline.initEach L lv fun c => ?_
      rw [show unscopedBufs c (fun b => m ((c : Thread nD τ).loc b)) = Segs.Holds (V0 m) c from Pipeline.unscopedBufs_held c (V0 m c)]
      iintro ⟨⟨Hh, -, HO, -, -, -⟩, -⟩
      imodintro
      isplitl [Hh]; · iexact Hh
      iexists ∅; iexact HO)
    (QY := Ends m)
    (hfin := fun c s' => by
      dsimp only [Segs.Holds]; unfold StableHlo.held
      iintro ⟨Hh, HSI⟩
      ihave Hr := (pointsTo_read_all (Pipeline.ucRefs τ sig) (fun b => ((c : Thread nD τ).1, b)) (U2 m c) s') $$ [Hh HSI]
      · isplitl [Hh] <;> iassumption
      icases Hr with ⟨%h, HSI⟩
      imodintro
      isplitr
      · ipureintro
        exact fun b hb => h (Proc.devRef .tc b) hb
      iexact HSI)
    (hQ := fun _ h hz => ⟨h, funext fun g => hz g (.inr (regions_no_unscoped g.2))⟩)

theorem end_at (s : MemSt nD τ sig (Elt F)) (h : Ends m c s) (b : Ref sig .tc) (hb : b.isScoped = false) : s.mem ((c : Thread nD τ).loc b) = U2 m c b :=
  h b (Finset.mem_filter.mpr ⟨StableHlo.devRef_mem_tcRefs b, by rw [Bool.not_eq_true]; exact hb⟩)

theorem end_arg (s : MemSt nD τ sig (Elt F)) (h : Ends m c s) (b : Ref sig .tc) (hb : b ∈ args) :
    s.mem ((c : Thread nD τ).loc b) = m ((c : Thread nD τ).loc b) :=
  (end_at m c s h b (by
    simp only [args, List.mem_cons, List.not_mem_nil, or_false] at hb
    rcases hb with rfl | rfl | rfl | rfl <;> rfl)).trans (U2_arg m c b hb)

end Cert.Proof.Sb
-- ==== Proof.Same.lean ====
module

public import proofs.«01_k».proof.Defs
public import proofs.«01_k».proof.Proof.Gen.KernelIdeal
public import proofs.«01_k».proof.Proof.Gen.Kernel

/-! The program as printed and the program to be read over the reals have one text: a run of one is a run of the other. -/

@[expose] public section

namespace Cert.Proof

open Idealize.ShloMosaic Idealize.SL.Sem

section
set_option maxRecDepth 100000
set_option backward.isDefEq.respectTransparency false

theorem fwd_same : @Cert.Kernel.cc0_a_attn Bits _ _ = @Cert.KernelIdeal.cc0_a_attn Bits _ _ := rfl

theorem bwd_same : @Cert.Kernel.cc1_b_attn Bits _ _ = @Cert.KernelIdeal.cc1_b_attn Bits _ _ := rfl
end

theorem bodies_same : @Cert.Kernel.defs₀ Bits _ _ = @Cert.KernelIdeal.defs₀ Bits _ _ := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀))
    (funext fun l => funext fun a => ?_)
  match l, a with
  | 0, (t, s) => exact (by rw [← fwd_same]; rfl)
  | 1, (t, s) => exact (by rw [← bwd_same]; rfl)

theorem defs_same : @Cert.Kernel.defs Bits _ _ = @Cert.KernelIdeal.defs Bits _ _ :=
  congrArg (Pipeline.defs (Cert.KernelIdeal.pcfgs (F := Bits))) bodies_same

/-- What holds of every run of the one text holds of every run of the other. -/
theorem run_same (m ρ Q) (h : θ_run Cert.KernelIdeal.defs (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  rw [defs_same]; exact h

end Cert.Proof

end
-- ==== Proof.Math.lean ====
module

public import Mathlib.Analysis.SpecialFunctions.Log.Basic
public import Mathlib.Algebra.BigOperators.Intervals

@[expose] public section

noncomputable section

/-! Stick-breaking attention as real numbers, one query at a time. A query sees the keys strictly
before it and past the padding; a key's weight is the sigmoid of its score times what every later
key keeps. -/

namespace Cert.Proof.Sb

open Finset

/-- How many rows the operands have, padding included. -/
def NN : ℕ := 8320

/-- The log of one plus the exponential of minus the absolute value, -/
def rL (z : ℝ) : ℝ := Real.log (1 + Real.exp (-|z|))
/-- the log of the sigmoid, -/
def rLsz (z : ℝ) : ℝ := min z 0 - rL z
/-- the log of the sigmoid of the negative, -/
def rKeep (z : ℝ) : ℝ := -max z 0 - rL z
/-- and the sigmoid. -/
def rSig (z : ℝ) : ℝ := Real.exp (rLsz z)

/-- The keys the query at row `t` sees. -/
abbrev sees (t s : ℕ) : Prop := 112 ≤ s ∧ s < t

/-- What a key keeps, in logs, -/
def kpR (t : ℕ) (z : ℕ → ℝ) (s : ℕ) : ℝ := if sees t s then rKeep (z s) else 0
/-- the weight of a key, -/
def aR (t : ℕ) (z : ℕ → ℝ) (s : ℕ) : ℝ :=
  if sees t s then Real.exp (rLsz (z s) + ∑ s' ∈ Ico (s + 1) NN, kpR t z s') else 0
/-- the gradient of its log, from the gradient `d` of the weights, -/
def dlR (t : ℕ) (z d : ℕ → ℝ) (s : ℕ) : ℝ := d s * aR t z s
/-- and of its score. -/
def dzR (t : ℕ) (z d : ℕ → ℝ) (s : ℕ) : ℝ :=
  dlR t z d s * (1 - rSig (z s)) - if sees t s then (∑ s' ∈ range s, dlR t z d s') * rSig (z s) else 0

theorem one_add_exp_pos (z : ℝ) : 0 < 1 + Real.exp z := by positivity

theorem rSig_nonneg_case (z : ℝ) (h : 0 ≤ z) : rSig z = 1 / (1 + Real.exp (-|z|)) := by
  unfold rSig rLsz rL
  rw [min_eq_right h, zero_sub, Real.exp_neg, Real.exp_log (one_add_exp_pos _), one_div]

theorem rSig_neg_case (z : ℝ) (h : ¬ 0 ≤ z) : rSig z = Real.exp (-|z|) * (1 / (1 + Real.exp (-|z|))) := by
  unfold rSig rLsz rL
  have h' : z < 0 := not_le.mp h
  rw [min_eq_left h'.le, Real.exp_sub, Real.exp_log (one_add_exp_pos _), abs_of_neg h', neg_neg, mul_one_div]

theorem rSig_neg (z : ℝ) : rSig (-z) = 1 - rSig z := by
  have h1 := one_add_exp_pos (-|z|)
  by_cases h : 0 ≤ z
  · by_cases h0 : 0 ≤ -z
    · have : z = 0 := le_antisymm (by linarith) h
      subst this
      rw [neg_zero, rSig_nonneg_case 0 le_rfl]; simp; norm_num
    · rw [rSig_neg_case _ h0, rSig_nonneg_case _ h, abs_neg]; field_simp; ring
  · rw [rSig_nonneg_case _ (by linarith), rSig_neg_case _ h, abs_neg]; field_simp; ring

theorem rLsz_neg (z : ℝ) : rLsz (-z) = rKeep z := by
  unfold rLsz rKeep rL
  rw [abs_neg, show min (-z) 0 = -max z 0 by rw [← neg_zero, min_neg_neg, neg_zero]]

theorem rKeep_neg (z : ℝ) : rKeep (-z) = rLsz z := by
  rw [← rLsz_neg, neg_neg]

theorem exp_rKeep (z : ℝ) : Real.exp (rKeep z) = 1 - rSig z := by
  rw [← rSig_neg, rSig, rLsz_neg]

theorem kpR_late {t s : ℕ} (z : ℕ → ℝ) (h : t ≤ s) : kpR t z s = 0 := if_neg (by omega)
theorem aR_late {t s : ℕ} (z : ℕ → ℝ) (h : t ≤ s) : aR t z s = 0 := if_neg (by omega)
theorem dlR_late {t s : ℕ} (z d : ℕ → ℝ) (h : t ≤ s) : dlR t z d s = 0 := by rw [dlR, aR_late z h, mul_zero]
theorem dzR_late {t s : ℕ} (z d : ℕ → ℝ) (h : t ≤ s) : dzR t z d s = 0 := by
  rw [dzR, dlR_late z d h, if_neg (by omega)]; simp
theorem aR_early {t s : ℕ} (z : ℕ → ℝ) (h : s < 112) : aR t z s = 0 := if_neg (by omega)
theorem dlR_early {t s : ℕ} (z d : ℕ → ℝ) (h : s < 112) : dlR t z d s = 0 := by rw [dlR, aR_early z h, mul_zero]
theorem dzR_early {t s : ℕ} (z d : ℕ → ℝ) (h : s < 112) : dzR t z d s = 0 := by
  rw [dzR, dlR_early z d h, if_neg (by omega)]; simp

/-- A sum over the later part of a block is a sum over a stretch of the keys. -/
theorem sum_block (f : ℕ → ℝ) (b c : ℕ) : (∑ l ∈ range 128, f (b + l) * (if c < l then 1 else 0)) = ∑ s ∈ Ico (b + (c + 1)) (b + 128), f s := by
  rw [add_comm b, add_comm b, ← sum_Ico_add' f (c + 1) 128 b]
  rw [range_eq_Ico]
  simp only [mul_ite, mul_one, mul_zero]
  rw [← sum_filter]
  refine sum_congr ?_ fun x _ => by rw [add_comm]
  ext x; simp; omega

theorem sum_block' (f : ℕ → ℝ) (b c : ℕ) : (∑ l ∈ range 128, f (b + l) * (if c ≤ l then 1 else 0)) = ∑ s ∈ Ico (b + c) (b + 128), f s := by
  rw [add_comm b, add_comm b, ← sum_Ico_add' f c 128 b]
  rw [range_eq_Ico]
  simp only [mul_ite, mul_one, mul_zero]
  rw [← sum_filter]
  refine sum_congr ?_ fun x _ => by rw [add_comm]
  ext x; simp; omega

theorem sum_block_all (f : ℕ → ℝ) (b : ℕ) : (∑ l ∈ range 128, f (b + l)) = ∑ s ∈ Ico b (b + 128), f s := by
  rw [sum_Ico_eq_sum_range, Nat.add_sub_cancel_left]

end Cert.Proof.Sb
-- ==== Proof.Real.lean ====
module

public import proofs.«01_k».proof.Proof.TileF
public import proofs.«01_k».proof.Proof.Math
public import Idealize.ShloMosaic.Lib.Pointwise
public import Idealize.ShloMosaic.Lib.IdealHost

@[expose] public section

set_option maxRecDepth 65536

noncomputable section

namespace Cert.Proof.Sb

open Cert.KernelIdeal Cert.KernelIdeal.Gen
open Idealize.ShloMosaic Idealize.SL.Sem

/-- A tile of real entries, -/
def upQ (f : ℕ → ℕ → ℝ) : Sq Ideal := fun j => ((f (j 0).val (j 1).val : ℝ) : EReal)
/-- a block, -/
def upB (f : ℕ → ℕ → ℝ) : Blk Ideal := fun j => ((f (j 0).val (j 1).val : ℝ) : EReal)
/-- and a number per row. -/
def upC (f : ℕ → ℝ) : Col Ideal := fun j => ((f (j 0).val : ℝ) : EReal)

theorem sum_up {n : ℕ} (f : ℕ → ℝ) : (∑ k : Fin n, ((f k.val : ℝ) : EReal)) = ((∑ k ∈ Finset.range n, f k : ℝ) : EReal) := by
  rw [← Fin.sum_univ_eq_sum_range]
  exact (map_sum (⟨⟨((↑) : ℝ → EReal), rfl⟩, EReal.coe_add⟩ : ℝ →+ EReal) (fun k : Fin n => f k.val) Finset.univ).symm

theorem upQ_congr {f g : ℕ → ℕ → ℝ} (h : ∀ r < 256, ∀ c < 128, f r c = g r c) : upQ f = upQ g := by
  funext j
  exact congrArg _ (h _ (j 0).isLt _ (j 1).isLt)

theorem upB_congr {f g : ℕ → ℕ → ℝ} (h : ∀ r < 128, ∀ c < 128, f r c = g r c) : upB f = upB g := by
  funext j
  exact congrArg _ (h _ (j 0).isLt _ (j 1).isLt)

theorem upC_congr {f g : ℕ → ℝ} (h : ∀ r < 256, f r = g r) : upC f = upC g := by
  funext j
  exact congrArg _ (h _ (j 0).isLt)

theorem zeros_up : (zeros : Sq Ideal) = upQ fun _ _ => 0 := by
  funext j
  exact Ideal.ofBits_zero_f32

theorem ones_up : (ones : Sq Ideal) = upQ fun _ _ => 1 := by
  funext j
  exact Ideal.ofBits_one_f32

theorem add_up (f g : ℕ → ℕ → ℝ) : addf (upQ f) (upQ g) = upQ fun r c => f r c + g r c := rfl
theorem mul_up (f g : ℕ → ℕ → ℝ) : mulf (upQ f) (upQ g) = upQ fun r c => f r c * g r c := by
  funext j; exact (EReal.coe_mul _ _).symm
theorem sub_up (f g : ℕ → ℕ → ℝ) : subf (upQ f) (upQ g) = upQ fun r c => f r c - g r c := rfl
theorem addC_up (f g : ℕ → ℝ) : addf (upC f) (upC g) = upC fun r => f r + g r := rfl
theorem max_up (f g : ℕ → ℕ → ℝ) : maximumf (upQ f) (upQ g) = upQ fun r c => max (f r c) (g r c) := by
  funext j; exact (EReal.coe_strictMono.monotone.map_max).symm
theorem min_up (f g : ℕ → ℕ → ℝ) : minimumf (upQ f) (upQ g) = upQ fun r c => min (f r c) (g r c) := by
  funext j; exact (EReal.coe_strictMono.monotone.map_min).symm
theorem exp_up (f : ℕ → ℕ → ℝ) : Idealize.ShloMosaic.exp (upQ f) = upQ fun r c => Real.exp (f r c) := rfl
theorem abs_up (f : ℕ → ℕ → ℝ) : absf (upQ f) = upQ fun r c => |f r c| := by
  funext j
  show (max _ _ : EReal) = _
  unfold upQ
  rw [← EReal.coe_neg, ← EReal.coe_strictMono.monotone.map_max]; rfl
theorem log_up (f : ℕ → ℕ → ℝ) (h : ∀ r c, 0 < f r c) : Idealize.ShloMosaic.log (upQ f) = upQ fun r c => Real.log (f r c) := by
  funext j
  exact if_neg (not_le.mpr (h _ _))
theorem div_up (f g : ℕ → ℕ → ℝ) (h : ∀ r c, g r c ≠ 0) : divf (upQ f) (upQ g) = upQ fun r c => f r c / g r c := by
  funext j
  refine (Ideal.div_coe (h _ _) _).trans ?_
  exact (EReal.coe_mul _ _).symm.trans (congrArg _ (mul_one_div _ _))
theorem trunc_up (f : ℕ → ℕ → ℝ) : trunc (upQ f) = (upQ f : Sq Ideal) := rfl
theorem ext_up (f : ℕ → ℕ → ℝ) : ext (upQ f : Sq Ideal) = (upQ f : Sq Ideal) := rfl
theorem spread_up (X : ℕ → ℝ) : spread (upC X) = upQ fun r _ => X r := by
  funext j
  unfold spread
  pointwise
  rfl
theorem rowsum_up (X : ℕ → ℕ → ℝ) : rowsum (upQ X) = upC fun r => ∑ l ∈ Finset.range 128, X r l := by
  funext j
  unfold rowsum
  pointwise
  exact sum_up (fun l => X (j 0).val l)

theorem dotT_up (X B : ℕ → ℕ → ℝ) : dotT (upQ X : Sq Ideal) (upB B) = upQ fun r c => ∑ l ∈ Finset.range 128, X r l * B c l := by
  funext j
  unfold dotT
  pointwise
  refine Eq.trans ?_ (sum_up (fun l => X (j 0).val l * B (j 1).val l))
  refine Finset.sum_congr rfl fun l _ => (EReal.coe_mul _ _).symm

theorem dotN_up (X B : ℕ → ℕ → ℝ) : dotN (upQ X : Sq Ideal) (upB B) = upQ fun r c => ∑ l ∈ Finset.range 128, X r l * B l c := by
  funext j
  unfold dotN
  pointwise
  refine Eq.trans ?_ (sum_up (fun l => X (j 0).val l * B l (j 1).val))
  refine Finset.sum_congr rfl fun l _ => (EReal.coe_mul _ _).symm

theorem dotx_up (X B : ℕ → ℕ → ℝ) : dotx (upQ X) (upB B) = upQ fun r c => ∑ l ∈ Finset.range 128, X r l * B l c := by
  unfold dotx
  simp only [trunc_up, ext_up, sub_up, dotN_up, zeros_up, add_up, sub_self, zero_mul, Finset.sum_const_zero, zero_add, add_zero]

theorem tGrad_up (G X Y : ℕ → ℕ → ℝ) : tGrad (F := Ideal) (upB G) (upQ X) (upQ Y)
    = upB fun l c => G l c + ∑ r ∈ Finset.range 256, X r l * Y r c := by
  funext j
  unfold tGrad
  pointwise
  unfold upB
  rw [EReal.coe_add]
  refine congrArg (fun e : EReal => _ + e) ?_
  refine Eq.trans ?_ (sum_up (fun r => X r (j 0).val * Y r (j 1).val))
  refine Finset.sum_congr rfl fun l _ => (EReal.coe_mul _ _).symm

theorem tE_up (z : ℕ → ℕ → ℝ) : tE (upQ z) = upQ fun r c => Real.exp (-|z r c|) := by
  unfold tE
  simp only [zeros_up, abs_up, sub_up, exp_up, zero_sub]
theorem tL1_up (z : ℕ → ℕ → ℝ) : tL1 (upQ z) = upQ fun r c => rL (z r c) := by
  unfold tL1
  rw [tE_up, ones_up, add_up, log_up _ fun _ _ => one_add_exp_pos _]; rfl
theorem tLsz_up (z : ℕ → ℕ → ℝ) : tLsz (upQ z) = upQ fun r c => rLsz (z r c) := by
  unfold tLsz
  rw [tL1_up, zeros_up, min_up, sub_up]; rfl
theorem tKeep_up (z : ℕ → ℕ → ℝ) : tKeep (upQ z) = upQ fun r c => rKeep (z r c) := by
  unfold tKeep
  rw [tL1_up, zeros_up, max_up, sub_up, sub_up]
  simp only [zero_sub]; rfl
theorem tSig_up (z : ℕ → ℕ → ℝ) : tSig (upQ z) = upQ fun r c => rSig (z r c) := by
  unfold tSig
  rw [tE_up, ones_up, zeros_up, add_up, div_up _ _ fun _ _ => (one_add_exp_pos _).ne', mul_up]
  funext j
  pointwise
  by_cases h : 0 ≤ z (j 0).val (j 1).val
  · rw [if_pos (by simpa [upQ] using h)]
    exact congrArg _ (rSig_nonneg_case _ h).symm
  · rw [if_neg (by simpa [upQ] using h)]
    exact congrArg _ (rSig_neg_case _ h).symm

end Cert.Proof.Sb
-- ==== Proof.Sweep.lean ====
module

public import proofs.«01_k».proof.Proof.Real
public import proofs.«01_k».proof.Proof.Group

@[expose] public section

set_option maxRecDepth 65536

noncomputable section

/-! One tile after the other on real numbers: what the carries and the gradient columns hold once the
keys from a given row on have been visited. -/

namespace Cert.Proof.Sb

open Cert.KernelIdeal Cert.KernelIdeal.Gen
open Idealize.ShloMosaic Idealize.SL.Sem
open Finset

/-- A column of real entries. -/
def upK (f : ℕ → ℕ → ℝ) : Cols Ideal := fun j => ((f (j 0).val (j 1).val : ℝ) : EReal)

theorem upK_congr {f g : ℕ → ℕ → ℝ} (h : ∀ r < NN, ∀ c < 128, f r c = g r c) : upK f = upK g := by
  funext j
  exact congrArg _ (h _ (j 0).isLt _ (j 1).isLt)

theorem rd_up (f : ℕ → ℕ → ℝ) (o : Off) (b : ℕ) (h : o.1 = ![b, 0]) : rd (upK f) o = upB fun l c => f (b + l) c := by
  obtain ⟨o, ho⟩ := o
  simp only at h
  subst h
  funext j
  show ((f (b + 1 * (j 0).val) (0 + 1 * (j 1).val) : ℝ) : EReal) = _
  rw [one_mul, one_mul, zero_add]; rfl

theorem grd_up (f : ℕ → ℕ → ℝ) (o : Off) (b : ℕ) (h : o.1 = ![b, 0]) : grd (F := Ideal) (upK f) o = upB fun l c => f (b + l) c :=
  rd_up f o b h

theorem put_up (f g : ℕ → ℕ → ℝ) (o : Off) (b : ℕ) (h : o.1 = ![b, 0]) :
    put (F := Ideal) (upK f) o (upB g) = upK fun s c => if b ≤ s ∧ s < b + 128 then g (s - b) c else f s c := by
  obtain ⟨o, ho⟩ := o
  simp only at h
  subst h
  funext j
  unfold put
  by_cases hj : b ≤ (j 0).val ∧ (j 0).val < b + 128
  · have e : j = (rect ⟨![b, 0], ho⟩).emb (ix2 (⟨(j 0).val - b, by omega⟩ : Fin 128) (j 1)) := by
      funext a
      match a with
      | 0 => exact Fin.ext (show (j 0).val = b + 1 * ((j 0).val - b) by omega)
      | 1 => exact Fin.ext (show (j 1).val = 0 + 1 * (j 1).val by omega)
    conv_lhs => rw [e, Rect.overlay_emb]
    unfold upK
    exact (congrArg (fun x : ℝ => (x : EReal)) (if_pos hj)).symm
  · rw [Rect.overlay_of_not_mem]
    · unfold upK
      exact (congrArg (fun x : ℝ => (x : EReal)) (if_neg hj)).symm
    · intro hm
      exact hj (Rect.mem_set_unit.mp hm 0)

section
variable (T : ℕ) (X D K V : ℕ → ℕ → ℝ) (O : ℕ → ℝ)

/-- The scores of a row -/
def zL (r s : ℕ) : ℝ := ∑ l ∈ range 128, X r l * K s l
/-- and the row of the query it stands for. -/
def rowT (r : ℕ) : ℕ := T + r % 128

/-- What a tile's mask does and the rows it reads. -/
def IsTile (b : ℕ) (t : TileArg Ideal) : Prop :=
  (∀ f, t.1 (upQ f) = upQ fun r c => if sees (rowT T r) (b + c) then f r c else 0) ∧ t.2.1 = ![b, 0]

/-- A tile whose mask leaves nothing. -/
def IsNull (t : TileArg Ideal) : Prop := (∀ f, t.1 (upQ f) = upQ fun _ _ => 0) ∧ t.2.1 = ![0, 0]

/-- The constant the keys after a key are summed with, -/
def afterR : ℕ → ℕ → ℝ := fun l c => if c < l then 1 else 0
/-- and the keys from a key on. -/
def fromR : ℕ → ℕ → ℝ := fun l c => if c ≤ l then 1 else 0

variable {T}

theorem split_block {f : ℕ → ℝ} (b c : ℕ) (hc : c < 128) (hb : b + 128 ≤ NN) :
    (∑ s ∈ Ico (b + 128) NN, f s) + ∑ l ∈ range 128, f (b + l) * afterR l c = ∑ s ∈ Ico (b + c + 1) NN, f s := by
  unfold afterR
  rw [sum_block, add_comm, add_assoc, sum_Ico_consecutive _ (by omega) hb]

theorem split_block' {f : ℕ → ℝ} (b c : ℕ) (hc : c < 128) (hb : b + 128 ≤ NN) :
    (∑ s ∈ Ico (b + 128) NN, f s) + ∑ l ∈ range 128, f (b + l) * fromR l c = ∑ s ∈ Ico (b + c) NN, f s := by
  unfold fromR
  rw [sum_block', add_comm, sum_Ico_consecutive _ (by omega) hb]

theorem split_all {f : ℕ → ℝ} (b : ℕ) (hb : b + 128 ≤ NN) :
    (∑ s ∈ Ico (b + 128) NN, f s) + ∑ l ∈ range 128, f (b + l) = ∑ s ∈ Ico b NN, f s := by
  rw [sum_block_all, add_comm, sum_Ico_consecutive _ (by omega) hb]

theorem range_sub (f : ℕ → ℝ) (b : ℕ) (hb : b ≤ NN) : (∑ s ∈ range NN, f s) - ∑ s ∈ Ico b NN, f s = ∑ s ∈ range b, f s := by
  rw [← sum_range_add_sum_Ico f hb, add_sub_cancel_right]

theorem mk2 {α β : Type} {a a' : α} {b b' : β} (h : a = a') (h' : b = b') : (a, b) = (a', b') := by rw [h, h']
theorem mk3 {α β γ : Type} {a a' : α} {b b' : β} {c c' : γ} (h : a = a') (h' : b = b') (h'' : c = c') : (a, b, c) = (a', b', c') := by
  rw [h, h', h'']

/-- The weights of a tile. -/
theorem tA_tile {b : ℕ} {t : TileArg Ideal} (h : IsTile T b t) (hb : b + 128 ≤ NN) :
    tA t.1 (upB afterR) (upC fun r => ∑ s ∈ Ico (b + 128) NN, kpR (rowT T r) (zL X K r) s) (dotT (upQ X : Sq Ideal) (rd (upK K) t.2))
      = (upQ fun r c => aR (rowT T r) (zL X K r) (b + c) : Sq Ideal) := by
  rw [rd_up _ _ _ h.2, dotT_up]
  unfold tA
  rw [tLsz_up, tKeep_up, h.1, dotx_up, spread_up, add_up, add_up, exp_up, h.1, trunc_up]
  refine upQ_congr fun r _ c hc => ?_
  unfold aR
  refine if_congr Iff.rfl ?_ rfl
  have := split_block (f := kpR (rowT T r) (zL X K r)) b c hc hb
  rw [← this]
  rfl

theorem tC_tile {b : ℕ} {t : TileArg Ideal} (h : IsTile T b t) (hb : b + 128 ≤ NN) :
    tC t.1 (upC fun r => ∑ s ∈ Ico (b + 128) NN, kpR (rowT T r) (zL X K r) s) (dotT (upQ X : Sq Ideal) (rd (upK K) t.2))
      = upC fun r => ∑ s ∈ Ico b NN, kpR (rowT T r) (zL X K r) s := by
  rw [rd_up _ _ _ h.2, dotT_up]
  unfold tC
  rw [tKeep_up, h.1, rowsum_up, addC_up]
  refine upC_congr fun r _ => ?_
  rw [← split_all (f := kpR (rowT T r) (zL X K r)) b hb]
  rfl

/-- The forward carries once the keys from `b` on are done. -/
def invF (T : ℕ) (b : ℕ) : FCarry Ideal :=
  (upC fun r => ∑ s ∈ Ico b NN, kpR (rowT T r) (zL X K r) s,
   upQ fun r l => ∑ s ∈ Ico b NN, aR (rowT T r) (zL X K r) s * V s l)

theorem stepF_tile {b : ℕ} {t : TileArg Ideal} (h : IsTile T b t) (hb : b + 128 ≤ NN) :
    stepF (upQ X : Sq Ideal) (upB afterR) (upK K) (upK V) (invF X K V T (b + 128)) t = invF X K V T b := by
  unfold stepF nextF invF
  refine mk2 (tC_tile X K h hb) ?_
  rw [tA_tile X K h hb, rd_up V _ _ h.2, dotN_up, add_up]
  refine upQ_congr fun r _ l _ => ?_
  exact split_all (f := fun s => aR (rowT T r) (zL X K r) s * V s l) b hb

theorem sel_null {t : TileArg Ideal} (h : IsNull t) (f : ℕ → ℕ → ℝ) : t.1 (upQ f) = upQ fun _ _ => 0 := h.1 f

theorem tA_null {t : TileArg Ideal} (h : IsNull t) (c : ℕ → ℝ) :
    tA t.1 (upB afterR) (upC c) (dotT (upQ X : Sq Ideal) (rd (upK K) t.2)) = (upQ fun _ _ => 0 : Sq Ideal) := by
  rw [rd_up _ _ _ h.2, dotT_up]
  unfold tA
  rw [tLsz_up, tKeep_up, h.1, dotx_up, spread_up, add_up, add_up, exp_up, h.1, trunc_up]

theorem tC_null {t : TileArg Ideal} (h : IsNull t) (c : ℕ → ℝ) :
    tC t.1 (upC c) (dotT (upQ X : Sq Ideal) (rd (upK K) t.2)) = upC c := by
  rw [rd_up _ _ _ h.2, dotT_up]
  unfold tC
  rw [tKeep_up, h.1, rowsum_up, addC_up]
  refine upC_congr fun r _ => ?_
  rw [sum_const_zero, add_zero]

theorem stepF_null {b : ℕ} {t : TileArg Ideal} (h : IsNull t) :
    stepF (upQ X : Sq Ideal) (upB afterR) (upK K) (upK V) (invF X K V T b) t = invF X K V T b := by
  unfold stepF nextF invF
  refine mk2 (tC_null X K h (fun r => ∑ s ∈ Ico b NN, kpR (rowT T r) (zL X K r) s)) ?_
  rw [tA_null X K h, rd_up V _ _ h.2, dotN_up, add_up]
  refine upQ_congr fun r _ l _ => ?_
  simp

/-- The gradient of the weights, -/
abbrev gL (r s : ℕ) : ℝ := zL D V r s

/-- What the backward sweep holds fixed. -/
def envR (T : ℕ) : Env Ideal :=
  ⟨upB afterR, upB fromR, (upQ X : Sq Ideal), (upQ D : Sq Ideal),
   upC fun r => ∑ s ∈ range NN, dlR (rowT T r) (zL X K r) (zL D V r) s⟩

/-- The backward carries once the keys from `b` on are done, -/
def invC (T : ℕ) (b : ℕ) : Carry Ideal :=
  (upC fun r => ∑ s ∈ Ico b NN, kpR (rowT T r) (zL X K r) s,
   upC fun r => ∑ s ∈ Ico b NN, dlR (rowT T r) (zL X K r) (zL D V r) s,
   upQ fun r l => ∑ s ∈ Ico b NN, dzR (rowT T r) (zL X K r) (zL D V r) s * K s l)

/-- and what has been added to the gradient columns. -/
def addK (T : ℕ) (b : ℕ) (A : ℕ → ℕ → ℝ) (s l : ℕ) : ℝ :=
  A s l + if b ≤ s then ∑ r ∈ range 256, dzR (rowT T r) (zL X K r) (zL D V r) s * X r l else 0
def addV (T : ℕ) (b : ℕ) (B : ℕ → ℕ → ℝ) (s l : ℕ) : ℝ :=
  B s l + if b ≤ s then ∑ r ∈ range 256, aR (rowT T r) (zL X K r) s * D r l else 0

def invS (T : ℕ) (A B : ℕ → ℕ → ℝ) (b : ℕ) : St Ideal :=
  (invC X D K V T b, upK (addK X D K V T b A), upK (addV X D K T b B))

theorem dlog_tile {b : ℕ} {t : TileArg Ideal} (h : IsTile T b t) (hb : b + 128 ≤ NN) :
    (envR X D K V T).dlog t.1 (invC X D K V T (b + 128)) (rd (upK K) t.2) (rd (upK V) t.2)
      = upQ fun r c => dlR (rowT T r) (zL X K r) (zL D V r) (b + c) := by
  unfold Env.dlog Env.a envR invC
  dsimp only
  rw [tA_tile X K h hb, rd_up V _ _ h.2, dotT_up]
  unfold tDlog
  rw [ext_up, mul_up]
  rfl

theorem dz_tile {b : ℕ} {t : TileArg Ideal} (h : IsTile T b t) (hb : b + 128 ≤ NN) :
    (envR X D K V T).dz t.1 (invC X D K V T (b + 128)) (rd (upK K) t.2) (rd (upK V) t.2)
      = (upQ fun r c => dzR (rowT T r) (zL X K r) (zL D V r) (b + c) : Sq Ideal) := by
  unfold Env.dz
  rw [dlog_tile X D K V h hb]
  unfold envR invC
  dsimp only
  rw [rd_up K _ _ h.2, dotT_up]
  unfold tDz
  rw [tSig_up, ones_up, sub_up, mul_up, dotx_up, spread_up, spread_up, add_up, sub_up, mul_up, h.1, sub_up, trunc_up]
  refine upQ_congr fun r _ c hc => ?_
  rw [split_block' (f := dlR (rowT T r) (zL X K r) (zL D V r)) b c hc hb]
  rw [range_sub _ _ (by omega)]
  rfl

theorem next_tile {b : ℕ} {t : TileArg Ideal} (h : IsTile T b t) (hb : b + 128 ≤ NN) :
    (envR X D K V T).next t.1 (invC X D K V T (b + 128)) (rd (upK K) t.2) (rd (upK V) t.2) = invC X D K V T b := by
  unfold Env.next
  rw [dlog_tile X D K V h hb, dz_tile X D K V h hb]
  unfold invC envR
  refine mk3 (tC_tile X K h hb) ?_ ?_
  · unfold tMet
    rw [rowsum_up, addC_up]
    refine upC_congr fun r _ => ?_
    exact split_all (f := dlR (rowT T r) (zL X K r) (zL D V r)) b hb
  · rw [rd_up K _ _ h.2, dotN_up, add_up]
    refine upQ_congr fun r _ l _ => ?_
    exact split_all (f := fun s => dzR (rowT T r) (zL X K r) (zL D V r) s * K s l) b hb

theorem stepS_tile {b : ℕ} {t : TileArg Ideal} (h : IsTile T b t) (hb : b + 128 ≤ NN) (A B : ℕ → ℕ → ℝ) :
    stepS (envR X D K V T) (upK K) (upK V) (invS X D K V T A B (b + 128)) t = invS X D K V T A B b := by
  unfold stepS invS
  dsimp only
  rw [next_tile X D K V h hb, dz_tile X D K V h hb]
  refine mk3 rfl ?_ ?_
  · rw [grd_up _ _ _ h.2]
    rw [show (envR X D K V T).qq = (upQ X : Sq Ideal) from rfl]
    rw [tGrad_up, put_up _ _ _ _ h.2]
    refine upK_congr fun s _ l _ => ?_
    unfold addK
    by_cases hs : b ≤ s ∧ s < b + 128
    · rw [if_pos hs, if_neg (by omega), if_pos hs.1, add_zero, Nat.add_sub_cancel' hs.1]
    · rw [if_neg hs]
      by_cases h' : b + 128 ≤ s
      · rw [if_pos h', if_pos (by omega)]
      · rw [if_neg h', if_neg (by omega)]
  · rw [grd_up _ _ _ h.2]
    have e : (envR X D K V T).a t.1 (invC X D K V T (b + 128)) (rd (upK K) t.2)
        = (upQ fun r c => aR (rowT T r) (zL X K r) (b + c) : Sq Ideal) := tA_tile X K h hb
    rw [e]
    rw [show (envR X D K V T).dd = (upQ D : Sq Ideal) from rfl]
    rw [tGrad_up, put_up _ _ _ _ h.2]
    refine upK_congr fun s _ l _ => ?_
    unfold addV
    by_cases hs : b ≤ s ∧ s < b + 128
    · rw [if_pos hs, if_neg (by omega), if_pos hs.1, add_zero, Nat.add_sub_cancel' hs.1]
    · rw [if_neg hs]
      by_cases h' : b + 128 ≤ s
      · rw [if_pos h', if_pos (by omega)]
      · rw [if_neg h', if_neg (by omega)]

theorem dlog_null {b : ℕ} {t : TileArg Ideal} (h : IsNull t) :
    (envR X D K V T).dlog t.1 (invC X D K V T b) (rd (upK K) t.2) (rd (upK V) t.2) = upQ fun _ _ => 0 := by
  unfold Env.dlog Env.a envR invC
  dsimp only
  rw [tA_null X K h, rd_up V _ _ h.2, dotT_up]
  unfold tDlog
  rw [ext_up, mul_up]
  simp only [mul_zero]

theorem dz_null {b : ℕ} {t : TileArg Ideal} (h : IsNull t) :
    (envR X D K V T).dz t.1 (invC X D K V T b) (rd (upK K) t.2) (rd (upK V) t.2) = (upQ fun _ _ => 0 : Sq Ideal) := by
  unfold Env.dz
  rw [dlog_null X D K V h]
  unfold envR invC
  dsimp only
  rw [rd_up K _ _ h.2, dotT_up]
  unfold tDz
  rw [tSig_up, ones_up, sub_up, mul_up, dotx_up, spread_up, spread_up, add_up, sub_up, mul_up, h.1, sub_up, trunc_up]
  simp only [zero_mul, sub_zero]

theorem stepS_null {b : ℕ} {t : TileArg Ideal} (h : IsNull t) (A B : ℕ → ℕ → ℝ) :
    stepS (envR X D K V T) (upK K) (upK V) (invS X D K V T A B b) t = invS X D K V T A B b := by
  unfold stepS invS
  dsimp only
  rw [dz_null X D K V h]
  refine mk3 ?_ ?_ ?_
  · unfold Env.next
    rw [dlog_null X D K V h, dz_null X D K V h]
    unfold invC envR
    refine mk3 (tC_null X K h (fun r => ∑ s ∈ Ico b NN, kpR (rowT T r) (zL X K r) s)) ?_ ?_
    · unfold tMet
      rw [rowsum_up, addC_up]
      refine upC_congr fun r _ => ?_
      simp
    · rw [rd_up K _ _ h.2, dotN_up, add_up]
      refine upQ_congr fun r _ l _ => ?_
      simp
  · rw [grd_up _ _ _ h.2]
    rw [show (envR X D K V T).qq = (upQ X : Sq Ideal) from rfl]
    rw [tGrad_up, put_up _ _ _ _ h.2]
    refine upK_congr fun s _ l _ => ?_
    simp
  · rw [grd_up _ _ _ h.2]
    have e : (envR X D K V T).a t.1 (invC X D K V T b) (rd (upK K) t.2) = (upQ fun _ _ => 0 : Sq Ideal) := tA_null X K h (fun r => ∑ s ∈ Ico b NN, kpR (rowT T r) (zL X K r) s)
    rw [e]
    rw [show (envR X D K V T).dd = (upQ D : Sq Ideal) from rfl]
    rw [tGrad_up, put_up _ _ _ _ h.2]
    refine upK_congr fun s _ l _ => ?_
    simp

end

end Cert.Proof.Sb
-- ==== Proof.Words.lean ====
module

public import proofs.«01_k».proof.Proof.TileF

@[expose] public section

set_option maxRecDepth 65536

noncomputable section

/-! The words of the sweeps: the masks' thresholds, the rows a tile reads and how many tiles there are. -/

namespace Cert.Proof.Sb

open Cert.KernelIdeal Cert.KernelIdeal.Gen
open Idealize.ShloMosaic Idealize.SL.Sem

/-- The word a mask compares the diagonals with -/
def wA (iq kraw : BitVec 32) : BitVec 32 :=
  Scalar.select (Scalar.cmpi .sge kraw 0#32) (Scalar.muli (Scalar.subi (Scalar.maxsi kraw 0#32) iq) 128#32) 128#32
/-- and the one it compares the keys with. -/
def wB (kraw : BitVec 32) : BitVec 32 := Scalar.subi 112#32 (Scalar.muli (Scalar.maxsi kraw 0#32) 128#32)

theorem wA_tile : ∀ i : Fin 65, ∀ n : Fin 80, n.val ≤ i.val →
    (wA (BitVec.ofNat 32 i.val) (Scalar.subi (BitVec.ofNat 32 i.val) (BitVec.ofNat 32 n.val))).toInt = -(128 * (n.val : ℤ)) := by decide +kernel
theorem wA_null : ∀ i : Fin 65, ∀ n : Fin 80, i.val < n.val →
    (wA (BitVec.ofNat 32 i.val) (Scalar.subi (BitVec.ofNat 32 i.val) (BitVec.ofNat 32 n.val))).toInt = 128 := by decide +kernel
theorem wB_tile : ∀ i : Fin 65, ∀ n : Fin 80, n.val ≤ i.val →
    (wB (Scalar.subi (BitVec.ofNat 32 i.val) (BitVec.ofNat 32 n.val))).toInt = 112 - 128 * ((i.val : ℤ) - n.val) := by decide +kernel

theorem diag_word : ∀ r : Fin 256, ∀ c : Fin 128,
    (IntOp.subi (IntOp.andi (BitVec.ofNat 32 r.val) 127#32) (BitVec.ofNat 32 c.val)).toInt = (r.val % 128 : ℕ) - (c.val : ℤ) := by decide +kernel
theorem lane_word : ∀ c : Fin 128, (BitVec.ofNat 32 c.val).toInt = (c.val : ℤ) := by decide +kernel

theorem off1_eq : ∀ i : grid1.Coords, ∀ u : Fin 4, k1_off1 i (BitVec.ofNat 32 u.val) = ![128 * ((i 1).val - u.val), 0] := by decide +kernel
theorem off2_eq : ∀ (i : grid1.Coords) (t : Fin (k1_t1_loop i).trips) (u : Fin 8),
    k1_off2 i t (BitVec.ofNat 32 u.val) = ![128 * ((i 1).val - (4 + 8 * t.val + u.val)), 0] ∧ 4 + 8 * t.val + u.val < (i 1).val := by decide +kernel
theorem off4_eq : ∀ (i : grid1.Coords) (t : Fin (k1_t3_loop i).trips) (u : Fin 4),
    k1_off4 i t (BitVec.ofNat 32 u.val) = ![128 * ((i 1).val - (4 + 8 * (k1_t1_loop i).trips + 4 * t.val + u.val)), 0]
      ∧ 4 + 8 * (k1_t1_loop i).trips + 4 * t.val + u.val < 80
      ∧ Scalar.addi (Scalar.addi (done (iq1 i)) (Scalar.muli (Scf.iv 0#32 1#32 t) 4#32)) (BitVec.ofNat 32 u.val)
        = BitVec.ofNat 32 (4 + 8 * (k1_t1_loop i).trips + 4 * t.val + u.val) := by decide +kernel
theorem tiles_all : ∀ i : grid1.Coords, (i 1).val < 4 + 8 * (k1_t1_loop i).trips + 4 * (k1_t3_loop i).trips := by decide +kernel

theorem off1_eq0 : ∀ i : grid0.Coords, ∀ u : Fin 4, k0_off1 i (BitVec.ofNat 32 u.val) = ![128 * ((i 1).val - u.val), 0] := by decide +kernel
theorem off2_eq0 : ∀ (i : grid0.Coords) (t : Fin (k0_t1_loop i).trips) (u : Fin 8),
    k0_off2 i t (BitVec.ofNat 32 u.val) = ![128 * ((i 1).val - (4 + 8 * t.val + u.val)), 0] ∧ 4 + 8 * t.val + u.val < (i 1).val := by decide +kernel
theorem off4_eq0 : ∀ (i : grid0.Coords) (t : Fin (k0_t3_loop i).trips) (u : Fin 4),
    k0_off4 i t (BitVec.ofNat 32 u.val) = ![128 * ((i 1).val - (4 + 8 * (k0_t1_loop i).trips + 4 * t.val + u.val)), 0]
      ∧ 4 + 8 * (k0_t1_loop i).trips + 4 * t.val + u.val < 80
      ∧ Scalar.addi (Scalar.addi (done (iq0 i)) (Scalar.muli (Scf.iv 0#32 1#32 t) 4#32)) (BitVec.ofNat 32 u.val)
        = BitVec.ofNat 32 (4 + 8 * (k0_t1_loop i).trips + 4 * t.val + u.val) := by decide +kernel
theorem tiles_all0 : ∀ i : grid0.Coords, (i 1).val < 4 + 8 * (k0_t1_loop i).trips + 4 * (k0_t3_loop i).trips := by decide +kernel

end Cert.Proof.Sb
-- ==== Proof.Mask.lean ====
module

public import proofs.«01_k».proof.Proof.Sweep
public import proofs.«01_k».proof.Proof.Body
public import proofs.«01_k».proof.Proof.Words
public import Idealize.ShloMosaic.Lib.WordArith

@[expose] public section

set_option maxRecDepth 65536

noncomputable section

/-! Which tile is which: the rows a tile of the sweep reads, and what its mask leaves. -/

namespace Cert.Proof.Sb

open Cert.KernelIdeal Cert.KernelIdeal.Gen
open Idealize.ShloMosaic Idealize.SL.Sem
open Finset

theorem diag_at (j : S256x128.Idx) : (k1_pay450 j).toInt = ((j 0).val % 128 : ℕ) - ((j 1).val : ℤ) := by
  rw [← diag_word (j 0) (j 1)]
  unfold k1_pay450
  pointwise

theorem scol_at (j : S256x128.Idx) : (scol j).toInt = ((j 1).val : ℤ) := by
  rw [← lane_word (j 1)]
  unfold scol
  pointwise

theorem msk_at (iq kraw : BitVec 32) (f : ℕ → ℕ → ℝ) :
    msk k1_pay450 scol iq kraw (upQ f) = upQ fun r c => if (wA iq kraw).toInt < (r % 128 : ℕ) - (c : ℤ) ∧ (wB kraw).toInt ≤ c then f r c else 0 := by
  funext j
  show (if IntOp.andi (IntOp.cmpi .sgt (k1_pay450 j) (wA iq kraw)) (IntOp.cmpi .sge (scol j) (wB kraw)) = 1#1 then upQ f j else (zeros : Sq Ideal) j) = _
  rw [zeros_up]
  unfold upQ
  have e : (IntOp.andi (IntOp.cmpi .sgt (k1_pay450 j) (wA iq kraw)) (IntOp.cmpi .sge (scol j) (wB kraw)) = 1#1)
      ↔ ((wA iq kraw).toInt < ((j 0).val % 128 : ℕ) - ((j 1).val : ℤ) ∧ (wB kraw).toInt ≤ (j 1).val) := by
    rw [← diag_at, ← scol_at]
    unfold IntOp.cmpi
    rw [WordArith.andi_ofBool, WordArith.ofBool_eq_one_iff, Bool.and_eq_true]
    simp [BitVec.slt, BitVec.sle]
  by_cases h : (wA iq kraw).toInt < ((j 0).val % 128 : ℕ) - ((j 1).val : ℤ) ∧ (wB kraw).toInt ≤ (j 1).val
  · rw [if_pos (e.mpr h)]
    exact (congrArg (fun x : ℝ => (x : EReal)) (if_pos h)).symm
  · rw [if_neg (fun h' => h (e.mp h'))]
    exact (congrArg (fun x : ℝ => (x : EReal)) (if_neg h)).symm

/-- The tile `n` steps before the diagonal of the query block `i`. -/
def StepN (i n : ℕ) (t : TileArg Ideal) : Prop :=
  (n ≤ i → IsTile (128 * i) (128 * (i - n)) t) ∧ (i < n → IsNull t)

theorem stepN_msk {i n : ℕ} (hi : i < 65) (hn : n < 80) {t : TileArg Ideal}
    (hm : t.1 = msk k1_pay450 scol (BitVec.ofNat 32 i) (Scalar.subi (BitVec.ofNat 32 i) (BitVec.ofNat 32 n)))
    (ho : t.2.1 = ![128 * (i - n), 0]) : StepN i n t := by
  refine ⟨fun h => ⟨fun f => ?_, ho⟩, fun h => ⟨fun f => ?_, ?_⟩⟩
  · rw [hm, msk_at]
    have e1 := wA_tile ⟨i, hi⟩ ⟨n, hn⟩ h
    have e2 := wB_tile ⟨i, hi⟩ ⟨n, hn⟩ h
    dsimp only at e1 e2
    rw [e1, e2]
    refine upQ_congr fun r _ c _ => if_congr ?_ rfl rfl
    unfold sees rowT
    omega
  · rw [hm, msk_at]
    have e1 := wA_null ⟨i, hi⟩ ⟨n, hn⟩ h
    dsimp only at e1
    rw [e1]
    refine upQ_congr fun r _ c _ => if_neg ?_
    omega
  · rw [ho, Nat.sub_eq_zero_of_le h.le]

theorem stepN_id {i n : ℕ} (h4 : 4 ≤ n) (hn : n < i) {t : TileArg Ideal} (hm : t.1 = fun x => x)
    (ho : t.2.1 = ![128 * (i - n), 0]) : StepN i n t := by
  refine ⟨fun h => ⟨fun f => ?_, ho⟩, fun h => absurd h (by omega)⟩
  rw [hm]
  refine upQ_congr fun r _ c _ => (if_pos ?_).symm
  unfold sees rowT
  omega

/-! ### The backward sweep's tiles -/

theorem edge1_step (i : grid1.Coords) (u : Fin 4) : StepN (i 1).val u.val (edge1 i (iq1 i) k1_pay450 scol u) :=
  stepN_msk (i 1).isLt (by omega) rfl (off1_eq i u)
theorem inner1_step (i : grid1.Coords) (t : Fin (k1_t1_loop i).trips) (u : Fin 8) :
    StepN (i 1).val (4 + 8 * t.val + u.val) (inner1 i t u) :=
  stepN_id (by omega) (off2_eq i t u).2 rfl (off2_eq i t u).1
theorem tail1_step (i : grid1.Coords) (t : Fin (k1_t3_loop i).trips) (u : Fin 4) :
    StepN (i 1).val (4 + 8 * (k1_t1_loop i).trips + 4 * t.val + u.val) (tail1 i (iq1 i) k1_pay450 scol (done (iq1 i)) t u) :=
  stepN_msk (i 1).isLt (off4_eq i t u).2.1 (by unfold tail1; rw [(off4_eq i t u).2.2]) (off4_eq i t u).1

/-! ### The forward sweep's tiles -/

theorem edge0_step (i : grid0.Coords) (u : Fin 4) : StepN (i 1).val u.val (edge0 i u) :=
  stepN_msk (i 1).isLt (by omega) rfl (off1_eq0 i u)
theorem inner0_step (i : grid0.Coords) (t : Fin (k0_t1_loop i).trips) (u : Fin 8) :
    StepN (i 1).val (4 + 8 * t.val + u.val) (inner0 i t u) :=
  stepN_id (by omega) (off2_eq0 i t u).2 rfl (off2_eq0 i t u).1
theorem tail0_step (i : grid0.Coords) (t : Fin (k0_t3_loop i).trips) (u : Fin 4) :
    StepN (i 1).val (4 + 8 * (k0_t1_loop i).trips + 4 * t.val + u.val) (tail0 i (done (iq0 i)) t u) :=
  stepN_msk (i 1).isLt (off4_eq0 i t u).2.1 (by unfold tail0; rw [(off4_eq0 i t u).2.2]) (off4_eq0 i t u).1

/-! ### All of a sweep -/

section
variable {σ : Type} (st : σ → TileArg Ideal → σ) (i : ℕ) (S : ℕ → σ) (hst : ∀ n t, StepN i n t → st (S n) t = S (n + 1))
include hst

theorem four_steps (n : ℕ) (ts : Fin 4 → TileArg Ideal) (h : ∀ u : Fin 4, StepN i (n + u.val) (ts u)) :
    [ts 0, ts 1, ts 2, ts 3].foldl st (S n) = S (n + 4) := by
  simp only [List.foldl]
  rw [hst n _ (h 0), hst (n + 1) _ (h 1), hst (n + 1 + 1) _ (h 2), hst (n + 1 + 1 + 1) _ (h 3)]

theorem eight_steps (n : ℕ) (ts : Fin 8 → TileArg Ideal) (h : ∀ u : Fin 8, StepN i (n + u.val) (ts u)) :
    [ts 0, ts 1, ts 2, ts 3, ts 4, ts 5, ts 6, ts 7].foldl st (S n) = S (n + 8) := by
  simp only [List.foldl]
  rw [hst n _ (h 0), hst (n + 1) _ (h 1), hst (n + 1 + 1) _ (h 2), hst (n + 1 + 1 + 1) _ (h 3), hst (n + 1 + 1 + 1 + 1) _ (h 4),
    hst (n + 1 + 1 + 1 + 1 + 1) _ (h 5), hst (n + 1 + 1 + 1 + 1 + 1 + 1) _ (h 6), hst (n + 1 + 1 + 1 + 1 + 1 + 1 + 1) _ (h 7)]

omit hst in
theorem trips_steps (N w n : ℕ) (f : Fin N → σ → σ) (h : ∀ k : Fin N, f k (S (n + w * k.val)) = S (n + w * k.val + w)) :
    ∀ k, k ≤ N → trips N f (S n) k = S (n + w * k)
  | 0, _ => by rw [Nat.mul_zero]; rfl
  | k + 1, hk => by
      rw [trips, dif_pos (by omega), trips_steps N w n f h k (by omega), h ⟨k, by omega⟩]
      congr 1
      rw [Nat.mul_succ, add_assoc]

end

theorem endS_eq (i : grid1.Coords) (E : Env Ideal) (K V : Cols Ideal) (S : ℕ → St Ideal)
    (hst : ∀ n t, StepN (i 1).val n t → stepS E K V (S n) t = S (n + 1)) :
    endS i E K V (S 0) = S (4 + 8 * (k1_t1_loop i).trips + 4 * (k1_t3_loop i).trips) := by
  unfold endS midS
  have e0 : runS E K V (edgeL i) (S 0) = S 4 :=
    four_steps (stepS E K V) _ S hst 0 (fun u => edge1 i (iq1 i) k1_pay450 scol u) (fun u => by rw [zero_add]; exact edge1_step i u)
  rw [e0, trips_steps S _ 8 4 _ (fun k => eight_steps (stepS E K V) _ S hst _ (fun u => inner1 i k u) (inner1_step i k)) _ le_rfl]
  exact trips_steps S _ 4 _ _ (fun k => four_steps (stepS E K V) _ S hst _ (fun u => tail1 i (iq1 i) k1_pay450 scol (done (iq1 i)) k u) (tail1_step i k)) _ le_rfl

theorem endF_eq (i : grid0.Coords) (qq : Rows Ideal) (K V : Cols Ideal) (S : ℕ → FCarry Ideal) (h0 : S 0 = carryF0)
    (hst : ∀ n t, StepN (i 1).val n t → stepF qq (k1_pay446 (F := Ideal)) K V (S n) t = S (n + 1)) :
    endF i qq K V = S (4 + 8 * (k0_t1_loop i).trips + 4 * (k0_t3_loop i).trips) := by
  unfold endF midF
  rw [← h0]
  generalize k1_pay446 (F := Ideal) = after at *
  have e0 : runF qq after K V (edgeL0 i) (S 0) = S 4 := by
    unfold runF edgeL0
    exact four_steps (stepF qq after K V) _ S hst 0 (fun u => edge0 i u) (fun u => by rw [zero_add]; exact edge0_step i u)
  have e1 : ∀ k : Fin (k0_t1_loop i).trips, runF qq after K V (innerL0 i k) (S (4 + 8 * k.val)) = S (4 + 8 * k.val + 8) := fun k => by
    unfold runF innerL0
    exact eight_steps (stepF qq after K V) _ S hst _ (fun u => inner0 i k u) (inner0_step i k)
  have e2 : ∀ k : Fin (k0_t3_loop i).trips, runF qq after K V (tailL0 i k) (S (4 + 8 * (k0_t1_loop i).trips + 4 * k.val))
      = S (4 + 8 * (k0_t1_loop i).trips + 4 * k.val + 4) := fun k => by
    unfold runF tailL0
    exact four_steps (stepF qq after K V) _ S hst _ (fun u => tail0 i (done (iq0 i)) k u) (tail0_step i k)
  rw [e0, trips_steps S _ 8 4 _ e1 _ le_rfl]
  exact trips_steps S _ 4 _ _ e2 _ le_rfl

/-! ### On real numbers -/

theorem gt_word : ∀ a b : Fin 128, (BitVec.setWidth 32 (IntOp.cmpi .sgt (BitVec.ofNat 32 a.val) (BitVec.ofNat 32 b.val))).toInt
    = if b.val < a.val then 1 else 0 := by decide +kernel
theorem ge_word : ∀ a b : Fin 128, (BitVec.setWidth 32 (IntOp.cmpi .sge (BitVec.ofNat 32 a.val) (BitVec.ofNat 32 b.val))).toInt
    = if b.val ≤ a.val then 1 else 0 := by decide +kernel

theorem bit_real (w : BitVec 32) (p : Prop) [Decidable p] (x : EReal) (h : w.toInt = if p then 1 else 0)
    (hx : x = ((if p then 1 else 0 : ℝ) : EReal) := by rfl) : FloatOps.sitofp (F := Ideal) .f32 w = x := by
  rw [hx]
  show ((w.toInt : ℝ) : EReal) = _
  rw [h]
  congr 1
  split <;> simp

theorem after_up : k1_pay446 (F := Ideal) = upB afterR := by
  funext j
  unfold k1_pay446
  pointwise
  exact bit_real _ _ _ (gt_word (j 0) (j 1))

theorem from_up : k1_pay447 (F := Ideal) = upB fromR := by
  funext j
  unfold k1_pay447
  pointwise
  exact bit_real _ _ _ (ge_word (j 0) (j 1))

theorem empty_sum (f : ℕ → ℝ) (i r : ℕ) (hi : i < 65) (h : ∀ s, rowT (128 * i) r ≤ s → f s = 0) :
    (∑ s ∈ Ico (128 * (i + 1 - 0)) NN, f s) = 0 :=
  sum_eq_zero fun s hs => h s (by rw [mem_Ico] at hs; unfold rowT; omega)

theorem endF_real (i : grid0.Coords) (X K V : ℕ → ℕ → ℝ) :
    endF i (upQ X : Sq Ideal) (upK K) (upK V) = invF X K V (128 * (i 1).val) 0 := by
  have hi : (i 1).val < 65 := (i 1).isLt
  rw [endF_eq i _ _ _ (fun n => invF X K V (128 * (i 1).val) (128 * ((i 1).val + 1 - n)))]
  · rw [Nat.sub_eq_zero_of_le (tiles_all0 i)]
  · unfold invF carryF0
    refine mk2 ?_ ?_
    · refine (upC_congr (g := fun _ => 0) fun r _ => empty_sum _ _ r hi fun s hs => kpR_late _ hs).trans ?_
      funext j
      exact Ideal.ofBits_zero_f32.symm
    · rw [zeros_up]
      exact upQ_congr fun r _ l _ => empty_sum _ _ r hi fun s hs => by rw [aR_late _ hs, zero_mul]
  · intro n t h
    rw [after_up]
    by_cases hn : n ≤ (i 1).val
    · rw [show 128 * ((i 1).val + 1 - n) = 128 * ((i 1).val - n) + 128 by omega, show (i 1).val + 1 - (n + 1) = (i 1).val - n by omega]
      exact stepF_tile X K V (h.1 hn) (by unfold NN; omega)
    · rw [show (i 1).val + 1 - n = 0 by omega, show (i 1).val + 1 - (n + 1) = 0 by omega]
      exact stepF_null X K V (h.2 (by omega))

theorem endS_real (i : grid1.Coords) (X D K V A B : ℕ → ℕ → ℝ) :
    endS i (envR X D K V (128 * (i 1).val)) (upK K) (upK V) (carry0, upK A, upK B) = invS X D K V (128 * (i 1).val) A B 0 := by
  have hi : (i 1).val < 65 := (i 1).isLt
  have h0 : ((carry0, upK A, upK B) : St Ideal) = invS X D K V (128 * (i 1).val) A B (128 * ((i 1).val + 1 - 0)) := by
    unfold invS invC carry0
    refine mk3 (mk3 ?_ ?_ ?_) ?_ ?_
    · refine Eq.trans ?_ (upC_congr (f := fun _ => 0) fun r _ => (empty_sum _ _ r hi fun s hs => kpR_late _ hs).symm)
      funext j
      exact Ideal.ofBits_zero_f32
    · refine Eq.trans ?_ (upC_congr (f := fun _ => 0) fun r _ => (empty_sum _ _ r hi fun s hs => dlR_late _ _ hs).symm)
      funext j
      exact Ideal.ofBits_zero_f32
    · rw [zeros_up]
      exact upQ_congr fun r _ l _ => (empty_sum _ _ r hi fun s hs => by rw [dzR_late _ _ hs, zero_mul]).symm
    · refine upK_congr fun s _ l _ => ?_
      unfold addK
      by_cases hs : 128 * ((i 1).val + 1 - 0) ≤ s
      · rw [if_pos hs, sum_eq_zero fun r _ => by rw [dzR_late _ _ (by unfold rowT; omega), zero_mul], add_zero]
      · rw [if_neg hs, add_zero]
    · refine upK_congr fun s _ l _ => ?_
      unfold addV
      by_cases hs : 128 * ((i 1).val + 1 - 0) ≤ s
      · rw [if_pos hs, sum_eq_zero fun r _ => by rw [aR_late _ (by unfold rowT; omega), zero_mul], add_zero]
      · rw [if_neg hs, add_zero]
  rw [h0, endS_eq i _ _ _ (fun n => invS X D K V (128 * (i 1).val) A B (128 * ((i 1).val + 1 - n)))]
  · rw [Nat.sub_eq_zero_of_le (tiles_all i)]
  · intro n t h
    by_cases hn : n ≤ (i 1).val
    · rw [show 128 * ((i 1).val + 1 - n) = 128 * ((i 1).val - n) + 128 by omega, show (i 1).val + 1 - (n + 1) = (i 1).val - n by omega]
      exact stepS_tile X D K V (h.1 hn) (by unfold NN; omega) A B
    · rw [show (i 1).val + 1 - n = 0 by omega, show (i 1).val + 1 - (n + 1) = 0 by omega]
      exact stepS_null X D K V (h.2 (by omega)) A B

end Cert.Proof.Sb
-- ==== Proof.Head.lean ====
module

public import proofs.«01_k».proof.Proof.Mask
public import Idealize.ShloMosaic.Lib.Pipeline.Value

@[expose] public section

set_option maxRecDepth 65536

noncomputable section

/-! A block of 128 lanes is two heads of 64: the kernels stack the two heads' rows, each with the
other head's lanes zeroed, and at the end take each head's lanes from its own rows. -/

namespace Cert.Proof.Sb

open Cert.KernelIdeal Cert.KernelIdeal.Gen
open Idealize.ShloMosaic Idealize.SL.Sem
open Finset

/-- Both heads' rows of a block. -/
def headR (f : ℕ → ℕ → ℝ) (r l : ℕ) : ℝ := if r / 128 = l / 64 then f (r % 128) l else 0

theorem lane_bit (c : Fin 128) : IntOp.cmpi .slt (BitVec.ofNat 32 c.val) 64#32 = 1#1 ↔ c.val < 64 := by
  revert c; decide +kernel

theorem ofBits_eighth : Ideal.ofBits .bf16 0x3E00#16 = ((0.125 : ℝ) : EReal) := by
  simp [Ideal.ofBits, Ideal.ieee, -EReal.coe_mul]; norm_num
theorem ofBits_eighth32 : Ideal.ofBits .f32 0x3E000000#32 = ((0.125 : ℝ) : EReal) := by
  simp [Ideal.ofBits, Ideal.ieee, -EReal.coe_mul]; norm_num

theorem lane_sel {α : Type} (c : Fin 128) (x y : α) :
    Scalar.select (IntOp.cmpi .slt (BitVec.ofNat 32 c.val) 64#32) x y = if c.val < 64 then x else y := by
  unfold Scalar.select
  exact if_congr (lane_bit c) rfl rfl

theorem upQ_at (f : ℕ → ℕ → ℝ) (r : Fin 256) (l : Fin 128) : upQ f (ix2 r l) = ((f r.val l.val : ℝ) : EReal) := rfl
theorem upB_at (f : ℕ → ℕ → ℝ) (r l : Fin 128) : upB f (ix2 r l) = ((f r.val l.val : ℝ) : EReal) := rfl

/-- The rows of two stacked blocks, one head's lanes each. -/
theorem stack_at (f : ℕ → ℕ → ℝ) (r : Fin 256) (l : Fin 128) (x y : EReal)
    (hx : r.val < 128 → x = ((f r.val l.val : ℝ) : EReal)) (hy : ¬ r.val < 128 → y = ((f (r.val - 128) l.val : ℝ) : EReal)) :
    (if r.val < 128 then (if l.val < 64 then x else 0) else (if l.val < 64 then 0 else y)) = ((headR f r.val l.val : ℝ) : EReal) := by
  have hr := r.isLt
  have hl := l.isLt
  unfold headR
  by_cases h1 : r.val < 128
  · rw [if_pos h1]
    by_cases h2 : l.val < 64
    · rw [if_pos h2, if_pos (by omega), hx h1, Nat.mod_eq_of_lt h1]
    · rw [if_neg h2, if_neg (by omega)]; rfl
  · rw [if_neg h1]
    by_cases h2 : l.val < 64
    · rw [if_pos h2, if_neg (by omega)]; rfl
    · rw [if_neg h2, if_pos (by omega), hy h1, show r.val % 128 = r.val - 128 by omega]

theorem pay448_up (q : ℕ → ℕ → ℝ) : k1_pay448 (F := Ideal) (upB q) = upQ (headR fun r l => 0.125 * q r l) := by
  funext j
  obtain ⟨r, l, rfl⟩ : ∃ (r : Fin 256) (l : Fin 128), j = ix2 r l := ⟨j 0, j 1, eq_ix2 j⟩
  unfold k1_pay448
  pointwise
  simp only [ofBits_eighth, lane_sel, upQ_at, upB_at, ← EReal.coe_mul]
  rw [← stack_at (fun r l => 0.125 * q r l) r l ((q r.val l.val * 0.125 : ℝ) : EReal) ((q (r.val - 128) l.val * 0.125 : ℝ) : EReal)
    (fun _ => by rw [mul_comm]) (fun _ => by rw [mul_comm])]
  rfl

theorem pay449_up (q : ℕ → ℕ → ℝ) : k1_pay449 (F := Ideal) (upB q) = upQ (headR q) := by
  funext j
  obtain ⟨r, l, rfl⟩ : ∃ (r : Fin 256) (l : Fin 128), j = ix2 r l := ⟨j 0, j 1, eq_ix2 j⟩
  unfold k1_pay449
  pointwise
  simp only [lane_sel, upQ_at, upB_at]
  rw [← stack_at q r l ((q r.val l.val : ℝ) : EReal) ((q (r.val - 128) l.val : ℝ) : EReal) (fun _ => rfl) (fun _ => rfl)]
  rfl

theorem pay452_up (d o : ℕ → ℕ → ℝ) : k1_pay452 (F := Ideal) (upQ d) (k1_pay451 (upB o)) (upB o)
    = upC fun r => ∑ l ∈ range 128, d r l * o (r % 128) l := by
  funext j
  obtain ⟨r, l, rfl⟩ : ∃ (r : Fin 256) (l : Fin 1), j = ix2 r l := ⟨j 0, j 1, eq_ix2 j⟩
  have hr := r.isLt
  unfold k1_pay452 k1_pay451
  pointwise
  refine Eq.trans ?_ (sum_up (fun l => d r.val l * o (r.val % 128) l))
  refine sum_congr rfl fun l _ => ?_
  rw [EReal.coe_mul]
  refine congrArg (fun e : EReal => _ * e) ?_
  by_cases h : r.val < 128
  · refine (dif_pos h).trans ?_
    rw [Nat.mod_eq_of_lt h]; rfl
  · refine (dif_neg h).trans ?_
    rw [show r.val % 128 = r.val - 128 by omega]; rfl

/-- Each head's lanes from its own rows. -/
theorem unstack_at (f : ℕ → ℕ → ℝ) (r l : Fin 128) :
    (if l.val < 64 then ((f r.val l.val : ℝ) : EReal) else ((f (128 + r.val) l.val : ℝ) : EReal))
      = ((f (128 * (l.val / 64) + r.val) l.val : ℝ) : EReal) := by
  have hl := l.isLt
  split_ifs with h
  · rw [show 128 * (l.val / 64) + r.val = r.val by omega]
  · rw [show 128 * (l.val / 64) + r.val = 128 + r.val by omega]

theorem pay7_up (f : ℕ → ℕ → ℝ) : k0_pay7 (F := Ideal) (upQ f) = upB fun r l => f (128 * (l / 64) + r) l := by
  funext j
  obtain ⟨r, l, rfl⟩ : ∃ (r : Fin 128) (l : Fin 128), j = ix2 r l := ⟨j 0, j 1, eq_ix2 j⟩
  unfold k0_pay7
  pointwise
  simp only [lane_sel, upQ_at, upB_at]
  exact unstack_at f r l

theorem pay8_up (f : ℕ → ℕ → ℝ) : k0_pay8 (F := Ideal) (upQ f) = upB fun r l => f (128 * (l / 64) + r) l :=
  pay7_up f

theorem pay5_up (f : ℕ → ℕ → ℝ) : k1_pay5 (F := Ideal) (upQ f) = upB fun r l => 0.125 * f (128 * (l / 64) + r) l := by
  funext j
  obtain ⟨r, l, rfl⟩ : ∃ (r : Fin 128) (l : Fin 128), j = ix2 r l := ⟨j 0, j 1, eq_ix2 j⟩
  unfold k1_pay5
  pointwise
  simp only [ofBits_eighth32, lane_sel, upQ_at, upB_at]
  rw [mul_comm (0.125 : ℝ), EReal.coe_mul, ← unstack_at f r l]

/-! ### The two calls' results as real numbers -/

section
variable (Q K V D : ℕ → ℕ → ℝ)

/-- The score of a key for a head's query, -/
def zG (h t s : ℕ) : ℝ := ∑ d ∈ range 64, (0.125 * Q t (64 * h + d)) * K s (64 * h + d)
/-- the gradient of its weight, -/
def gG (h t s : ℕ) : ℝ := ∑ d ∈ range 64, D t (64 * h + d) * V s (64 * h + d)
/-- the output, -/
def oG (t c : ℕ) : ℝ := ∑ s ∈ range NN, aR t (zG Q K (c / 64) t) s * V s c
/-- and the three gradients. -/
def dqG (t c : ℕ) : ℝ := 0.125 * ∑ s ∈ range NN, dzR t (zG Q K (c / 64) t) (gG V D (c / 64) t) s * K s c
def dkG (s c : ℕ) : ℝ := ∑ t ∈ range NN, dzR t (zG Q K (c / 64) t) (gG V D (c / 64) t) s * (0.125 * Q t c)
def dvG (s c : ℕ) : ℝ := ∑ t ∈ range NN, aR t (zG Q K (c / 64) t) s * D t c

/-- A block of a query's operand, -/
def blkR (A : ℕ → ℕ → ℝ) (p i r l : ℕ) : ℝ := A (128 * i + r) (128 * p + l)
/-- and a column. -/
def colR (A : ℕ → ℕ → ℝ) (p s l : ℕ) : ℝ := A s (128 * p + l)
/-- The queries of a point, scaled and stacked. -/
def qR (p i : ℕ) : ℕ → ℕ → ℝ := headR fun r l => 0.125 * blkR Q p i r l
def dR (p i : ℕ) : ℕ → ℕ → ℝ := headR (blkR D p i)

/-- A sum over the lanes of a head's rows runs over the head. -/
theorem sum_head (f g : ℕ → ℕ → ℝ) (r s : ℕ) (hr : r < 256) :
    (∑ l ∈ range 128, headR f r l * g s l) = ∑ d ∈ range 64, f (r % 128) (64 * (r / 128) + d) * g s (64 * (r / 128) + d) := by
  unfold headR
  rw [show (128 : ℕ) = 64 + 64 from rfl, sum_range_add]
  have hr' : r / (64 + 64) = 0 ∨ r / (64 + 64) = 1 := by omega
  rcases hr' with h | h
  · rw [h]
    have e2 : (∑ x ∈ range 64, (if (0 : ℕ) = (64 + x) / 64 then f (r % (64 + 64)) (64 + x) else 0) * g s (64 + x)) = 0 :=
      sum_eq_zero fun x hx => by rw [if_neg (by rw [mem_range] at hx; omega), zero_mul]
    rw [e2, add_zero]
    refine sum_congr rfl fun x hx => ?_
    rw [mem_range] at hx
    rw [if_pos (by omega), mul_zero, zero_add]
  · rw [h]
    have e2 : (∑ x ∈ range 64, (if (1 : ℕ) = x / 64 then f (r % (64 + 64)) x else 0) * g s x) = 0 :=
      sum_eq_zero fun x hx => by rw [if_neg (by rw [mem_range] at hx; omega), zero_mul]
    rw [e2, zero_add]
    refine sum_congr rfl fun x hx => ?_
    rw [mem_range] at hx
    rw [if_pos (by omega), mul_one]

theorem zL_eq (p i r : ℕ) (hr : r < 256) :
    zL (qR Q p i) (colR K p) r = zG Q K (2 * p + r / 128) (128 * i + r % 128) := by
  funext s
  unfold zL qR zG
  rw [sum_head _ _ _ _ hr]
  refine sum_congr rfl fun d _ => ?_
  unfold blkR colR
  rw [show 128 * p + (64 * (r / 128) + d) = 64 * (2 * p + r / 128) + d by ring]

theorem gL_eq (p i r : ℕ) (hr : r < 256) :
    zL (dR D p i) (colR V p) r = gG V D (2 * p + r / 128) (128 * i + r % 128) := by
  funext s
  unfold zL dR gG
  rw [sum_head _ _ _ _ hr]
  refine sum_congr rfl fun d _ => ?_
  unfold blkR colR
  rw [show 128 * p + (64 * (r / 128) + d) = 64 * (2 * p + r / 128) + d by ring]

/-- The forward sweep's block. -/
theorem out_block (p i r l : ℕ) (hr : r < 128) (hl : l < 128) :
    (∑ s ∈ Ico 0 NN, aR (rowT (128 * i) (128 * (l / 64) + r)) (zL (qR Q p i) (colR K p) (128 * (l / 64) + r)) s * colR V p s l)
      = blkR (oG Q K V) p i r l := by
  have hh : 128 * (l / 64) + r < 256 := by omega
  rw [zL_eq Q K p i _ hh, ← range_eq_Ico]
  unfold blkR oG rowT colR
  rw [show (128 * (l / 64) + r) % 128 = r by omega, show 2 * p + (128 * (l / 64) + r) / 128 = (128 * p + l) / 64 by omega]

theorem dq_block (p i r l : ℕ) (hr : r < 128) (hl : l < 128) :
    0.125 * (∑ s ∈ Ico 0 NN, dzR (rowT (128 * i) (128 * (l / 64) + r)) (zL (qR Q p i) (colR K p) (128 * (l / 64) + r))
        (zL (dR D p i) (colR V p) (128 * (l / 64) + r)) s * colR K p s l)
      = blkR (dqG Q K V D) p i r l := by
  have hh : 128 * (l / 64) + r < 256 := by omega
  rw [zL_eq Q K p i _ hh, gL_eq V D p i _ hh, ← range_eq_Ico]
  unfold blkR dqG rowT colR
  rw [show (128 * (l / 64) + r) % 128 = r by omega, show 2 * p + (128 * (l / 64) + r) / 128 = (128 * p + l) / 64 by omega]

/-- The sum of the output's gradient against the output is the sum of the log weights' gradients. -/
theorem total_eq (p i r : ℕ) (hr : r < 256) :
    (∑ l ∈ range 128, dR D p i r l * blkR (oG Q K V) p i (r % 128) l)
      = ∑ s ∈ range NN, dlR (rowT (128 * i) r) (zL (qR Q p i) (colR K p) r) (zL (dR D p i) (colR V p) r) s := by
  have e : ∀ l ∈ range 128, dR D p i r l * blkR (oG Q K V) p i (r % 128) l
      = ∑ s ∈ range NN, (dR D p i r l * colR V p s l) * aR (rowT (128 * i) r) (zL (qR Q p i) (colR K p) r) s := by
    intro l hl
    rw [mem_range] at hl
    by_cases h : r / 128 = l / 64
    · rw [← out_block Q K V p i (r % 128) l (Nat.mod_lt _ (by norm_num)) hl, mul_sum, ← range_eq_Ico,
        show 128 * (l / 64) + r % 128 = r by omega]
      exact sum_congr rfl fun s _ => by ring
    · have : dR D p i r l = 0 := if_neg h
      rw [this, zero_mul]
      exact (sum_eq_zero fun s _ => by ring).symm
  rw [sum_congr rfl e, sum_comm]
  refine sum_congr rfl fun s _ => ?_
  unfold dlR zL
  rw [← sum_mul]

/-- What a point adds to a gradient column, over its two heads' rows. -/
theorem sum_rows (f : ℕ → ℕ → ℝ) (g : ℕ → ℝ) (l : ℕ) (hl : l < 128) :
    (∑ r ∈ range 256, g r * headR f r l) = ∑ r ∈ range 128, g (128 * (l / 64) + r) * f r l := by
  unfold headR
  rw [show (256 : ℕ) = 128 + 128 from rfl, sum_range_add, ← sum_add_distrib]
  refine sum_congr rfl fun r hr => ?_
  rw [mem_range] at hr
  have hl' : l / 64 = 0 ∨ l / 64 = 1 := by omega
  rcases hl' with h | h
  · rw [h, if_pos (by omega), if_neg (by omega), mul_zero, mul_zero, add_zero, zero_add, Nat.mod_eq_of_lt hr]
  · rw [h, if_neg (by omega), if_pos (by omega), mul_zero, zero_add, mul_one, show (128 + r) % 128 = r by omega]

theorem dk_point (p i s l : ℕ) (hl : l < 128) :
    (∑ r ∈ range 256, dzR (rowT (128 * i) r) (zL (qR Q p i) (colR K p) r) (zL (dR D p i) (colR V p) r) s * qR Q p i r l)
      = ∑ r ∈ range 128, dzR (128 * i + r) (zG Q K ((128 * p + l) / 64) (128 * i + r)) (gG V D ((128 * p + l) / 64) (128 * i + r)) s
          * (0.125 * Q (128 * i + r) (128 * p + l)) := by
  unfold qR
  rw [sum_rows _ _ _ hl]
  refine sum_congr rfl fun r hr => ?_
  rw [mem_range] at hr
  have hh : 128 * (l / 64) + r < 256 := by omega
  rw [show (headR fun r l => 0.125 * blkR Q p i r l) = qR Q p i from rfl, zL_eq Q K p i _ hh, gL_eq V D p i _ hh]
  unfold rowT blkR
  rw [show (128 * (l / 64) + r) % 128 = r by omega, show 2 * p + (128 * (l / 64) + r) / 128 = (128 * p + l) / 64 by omega]

theorem dv_point (p i s l : ℕ) (hl : l < 128) :
    (∑ r ∈ range 256, aR (rowT (128 * i) r) (zL (qR Q p i) (colR K p) r) s * dR D p i r l)
      = ∑ r ∈ range 128, aR (128 * i + r) (zG Q K ((128 * p + l) / 64) (128 * i + r)) s * D (128 * i + r) (128 * p + l) := by
  unfold dR
  rw [sum_rows _ _ _ hl]
  refine sum_congr rfl fun r hr => ?_
  rw [mem_range] at hr
  have hh : 128 * (l / 64) + r < 256 := by omega
  rw [zL_eq Q K p i _ hh]
  unfold rowT blkR
  rw [show (128 * (l / 64) + r) % 128 = r by omega, show 2 * p + (128 * (l / 64) + r) / 128 = (128 * p + l) / 64 by omega]

/-- The gradient columns after the query blocks before `i`. -/
def dkP (p i s l : ℕ) : ℝ :=
  ∑ t ∈ range (128 * i), dzR t (zG Q K ((128 * p + l) / 64) t) (gG V D ((128 * p + l) / 64) t) s * (0.125 * Q t (128 * p + l))
def dvP (p i s l : ℕ) : ℝ :=
  ∑ t ∈ range (128 * i), aR t (zG Q K ((128 * p + l) / 64) t) s * D t (128 * p + l)

theorem env_up (p i : ℕ) : env (upB (blkR Q p i)) (upB (blkR D p i)) (upB (blkR (oG Q K V) p i))
    = envR (qR Q p i) (dR D p i) (colR K p) (colR V p) (128 * i) := by
  unfold env envR
  rw [after_up, from_up, pay448_up, pay449_up, pay452_up]
  congr 1
  exact upC_congr fun r hr => total_eq Q K V D p i r hr

/-- A point of the forward call. -/
theorem endF_point (i : grid0.Coords) (p : ℕ) :
    (endF i (k1_pay448 (F := Ideal) (upB (blkR Q p (i 1).val))) (upK (colR K p)) (upK (colR V p))).2
      = upQ fun r l => ∑ s ∈ Ico 0 NN, aR (rowT (128 * (i 1).val) r) (zL (qR Q p (i 1).val) (colR K p) r) s * colR V p s l := by
  rw [pay448_up, show (headR fun r l => 0.125 * blkR Q p (i 1).val r l) = qR Q p (i 1).val from rfl, endF_real]
  rfl

theorem pay7_point (i p : ℕ) :
    k0_pay7 (F := Ideal) (upQ fun r l => ∑ s ∈ Ico 0 NN, aR (rowT (128 * i) r) (zL (qR Q p i) (colR K p) r) s * colR V p s l)
      = upB (blkR (oG Q K V) p i) := by
  rw [pay7_up]
  exact upB_congr fun r hr l hl => out_block Q K V p i r l hr hl

/-- A point of the backward call. -/
theorem bwdS_point (i : grid1.Coords) (p : ℕ) (A B : ℕ → ℕ → ℝ) :
    endS i (env (upB (blkR Q p (i 1).val)) (upB (blkR D p (i 1).val)) (upB (blkR (oG Q K V) p (i 1).val)))
        (upK (colR K p)) (upK (colR V p)) (carry0, upK A, upK B)
      = invS (qR Q p (i 1).val) (dR D p (i 1).val) (colR K p) (colR V p) (128 * (i 1).val) A B 0 := by
  rw [env_up, endS_real]

theorem dk_step (i p : ℕ) :
    upK (addK (qR Q p i) (dR D p i) (colR K p) (colR V p) (128 * i) 0 (dkP Q K V D p i)) = upK (dkP Q K V D p (i + 1)) := by
  refine upK_congr fun s _ l hl => ?_
  unfold addK
  rw [if_pos (Nat.zero_le _), dk_point Q K V D p i s l hl]
  unfold dkP
  rw [Nat.mul_succ, sum_range_add]

theorem dv_step (i p : ℕ) :
    upK (addV (qR Q p i) (dR D p i) (colR K p) (128 * i) 0 (dvP Q K D p i)) = upK (dvP Q K D p (i + 1)) := by
  refine upK_congr fun s _ l hl => ?_
  unfold addV
  rw [if_pos (Nat.zero_le _), dv_point Q K D p i s l hl]
  unfold dvP
  rw [Nat.mul_succ, sum_range_add]

theorem pay5_point (i p : ℕ) (A B : ℕ → ℕ → ℝ) :
    k1_pay5 (F := Ideal) (invS (qR Q p i) (dR D p i) (colR K p) (colR V p) (128 * i) A B 0).1.2.2 = upB (blkR (dqG Q K V D) p i) := by
  unfold invS invC
  dsimp only
  rw [pay5_up]
  exact upB_congr fun r hr l hl => dq_block Q K V D p i r l hr hl

end

end Cert.Proof.Sb
-- ==== Proof.Arrays.lean ====
module

public import proofs.«01_k».proof.Proof.Head
public import proofs.«01_k».proof.Proof.Launch

@[expose] public section

set_option maxRecDepth 65536

noncomputable section

/-! What the two calls leave in their result arrays, on real numbers. -/

namespace Cert.Proof.Sb

open Cert.KernelIdeal Cert.KernelIdeal.Gen
open Idealize.ShloMosaic Idealize.ShloMosaic.TcCoe Idealize.SL.Sem
open Finset

/-- An operand of real entries. -/
def upA (f : ℕ → ℕ → ℝ) : S8320x1024.Idx → EReal := fun j => ((f (j 0).val (j 1).val : ℝ) : EReal)

theorem upA_congr {f g : ℕ → ℕ → ℝ} (h : ∀ r < NN, ∀ c < 1024, f r c = g r c) : upA f = upA g := by
  funext j
  exact congrArg _ (h _ (j 0).isLt _ (j 1).isLt)

theorem coord1_0 (t : Fin cfg1.N) : (grid1.coords t 0).val = t.val / 65 := by
  have h : t.val < 520 := t.isLt
  rw [Pipeline.Grid.coords_val t 0 (S := 65) (B := 8) (by decide) rfl, Nat.mod_eq_of_lt (by omega)]
theorem coord0 (t : Fin cfg0.N) : (grid0.coords t 1).val = t.val % 65 := by
  rw [Pipeline.Grid.coords_val t 1 (S := 1) (B := 65) (by decide) rfl, Nat.div_one]
theorem coord0_0 (t : Fin cfg0.N) : (grid0.coords t 0).val = t.val / 65 := by
  have h : t.val < 520 := t.isLt
  rw [Pipeline.Grid.coords_val t 0 (S := 65) (B := 8) (by decide) rfl, Nat.mod_eq_of_lt (by omega)]

theorem word_back : ∀ n : Fin 65, (BitVec.ofNat 32 n.val).toNat = n.val := by decide +kernel
theorem word_back' : ∀ n : Fin 8, (BitVec.ofNat 32 n.val).toNat = n.val := by decide +kernel

theorem kept : ∀ i : grid1.Coords, (i 1).val ≠ 0 → ¬ Scalar.cmpi .ne (Scalar.extui (Scalar.cmpi .eq (iq1 i) 0#32)) 0#32 = 1#1 := by
  decide +kernel

theorem idx0_blk (t : Fin cfg0.N) : cc0_transform_0 (grid0.coords t) = ![t.val % 65, t.val / 65] := by
  rw [← coord0, ← coord0_0, ← word_back (grid0.coords t 1), ← word_back' (grid0.coords t 0)]; rfl
theorem idx0_col (t : Fin cfg0.N) : cc0_transform_1 (grid0.coords t) = ![0, t.val / 65] := by
  rw [← coord0_0, ← word_back' (grid0.coords t 0)]; rfl
theorem idx1_blk (t : Fin cfg1.N) : cc1_transform_0 (grid1.coords t) = ![t.val % 65, t.val / 65] := by
  rw [← coord1, ← coord1_0, ← word_back (grid1.coords t 1), ← word_back' (grid1.coords t 0)]; rfl
theorem idx1_col (t : Fin cfg1.N) : cc1_transform_1 (grid1.coords t) = ![0, t.val / 65] := by
  rw [← coord1_0, ← word_back' (grid1.coords t 0)]; rfl

/-- An entry of a block of an operand of real entries. -/
theorem upA_blk (f : ℕ → ℕ → ℝ) (j : S8320x1024.Idx) (p i r l : ℕ) (h0 : (j 0).val = i * 128 + r) (h1 : (j 1).val = p * 128 + l) :
    upA f j = ((blkR f p i r l : ℝ) : EReal) := by
  unfold upA blkR
  rw [h0, h1, mul_comm i, mul_comm p]
theorem upA_col (f : ℕ → ℕ → ℝ) (j : S8320x1024.Idx) (p r l : ℕ) (h0 : (j 0).val = 0 * 8320 + r) (h1 : (j 1).val = p * 128 + l) :
    upA f j = ((colR f p r l : ℝ) : EReal) := by
  unfold upA colR
  rw [h0, h1, zero_mul, zero_add, mul_comm p]

section Blocks
variable (f : ℕ → ℕ → ℝ)

theorem read0_0 (t : Fin cfg0.N) : ((cfg0.win 0).blk t).view.read (Elt Ideal) (upA f) = upB (blkR f (t.val / 65) (t.val % 65)) := by
  funext y
  refine upA_blk f ((win0_0.rect t).emb y) _ _ _ _ ?_ ?_
  · exact (Pipeline.Window.rect_emb_val win0_0 t y 0).trans (congrArg (· * 128 + (y 0).val) (congrFun (idx0_blk t) 0))
  · exact (Pipeline.Window.rect_emb_val win0_0 t y 1).trans (congrArg (· * 128 + (y 1).val) (congrFun (idx0_blk t) 1))
theorem read0_1 (t : Fin cfg0.N) : ((cfg0.win 1).blk t).view.read (Elt Ideal) (upA f) = upK (colR f (t.val / 65)) := by
  funext y
  refine upA_col f ((win0_1.rect t).emb y) _ _ _ ?_ ?_
  · exact (Pipeline.Window.rect_emb_val win0_1 t y 0).trans (congrArg (· * 8320 + (y 0).val) (congrFun (idx0_col t) 0))
  · exact (Pipeline.Window.rect_emb_val win0_1 t y 1).trans (congrArg (· * 128 + (y 1).val) (congrFun (idx0_col t) 1))
theorem read0_2 (t : Fin cfg0.N) : ((cfg0.win 2).blk t).view.read (Elt Ideal) (upA f) = upK (colR f (t.val / 65)) := by
  funext y
  refine upA_col f ((win0_2.rect t).emb y) _ _ _ ?_ ?_
  · exact (Pipeline.Window.rect_emb_val win0_2 t y 0).trans (congrArg (· * 8320 + (y 0).val) (congrFun (idx0_col t) 0))
  · exact (Pipeline.Window.rect_emb_val win0_2 t y 1).trans (congrArg (· * 128 + (y 1).val) (congrFun (idx0_col t) 1))
theorem read0_3 (t : Fin cfg0.N) : ((cfg0.win 3).blk t).view.read (Elt Ideal) (upA f) = upB (blkR f (t.val / 65) (t.val % 65)) := by
  funext y
  refine upA_blk f ((win0_3.rect t).emb y) _ _ _ _ ?_ ?_
  · exact (Pipeline.Window.rect_emb_val win0_3 t y 0).trans (congrArg (· * 128 + (y 0).val) (congrFun (idx0_blk t) 0))
  · exact (Pipeline.Window.rect_emb_val win0_3 t y 1).trans (congrArg (· * 128 + (y 1).val) (congrFun (idx0_blk t) 1))
theorem read0_4 (t : Fin cfg0.N) : ((cfg0.win 4).blk t).view.read (Elt Ideal) (upA f) = upB (blkR f (t.val / 65) (t.val % 65)) := by
  funext y
  refine upA_blk f ((win0_4.rect t).emb y) _ _ _ _ ?_ ?_
  · exact (Pipeline.Window.rect_emb_val win0_4 t y 0).trans (congrArg (· * 128 + (y 0).val) (congrFun (idx0_blk t) 0))
  · exact (Pipeline.Window.rect_emb_val win0_4 t y 1).trans (congrArg (· * 128 + (y 1).val) (congrFun (idx0_blk t) 1))
theorem read1_0 (t : Fin cfg1.N) : ((cfg1.win 0).blk t).view.read (Elt Ideal) (upA f) = upB (blkR f (t.val / 65) (t.val % 65)) := by
  funext y
  refine upA_blk f ((win1_0.rect t).emb y) _ _ _ _ ?_ ?_
  · exact (Pipeline.Window.rect_emb_val win1_0 t y 0).trans (congrArg (· * 128 + (y 0).val) (congrFun (idx1_blk t) 0))
  · exact (Pipeline.Window.rect_emb_val win1_0 t y 1).trans (congrArg (· * 128 + (y 1).val) (congrFun (idx1_blk t) 1))
theorem read1_1 (t : Fin cfg1.N) : ((cfg1.win 1).blk t).view.read (Elt Ideal) (upA f) = upK (colR f (t.val / 65)) := by
  funext y
  refine upA_col f ((win1_1.rect t).emb y) _ _ _ ?_ ?_
  · exact (Pipeline.Window.rect_emb_val win1_1 t y 0).trans (congrArg (· * 8320 + (y 0).val) (congrFun (idx1_col t) 0))
  · exact (Pipeline.Window.rect_emb_val win1_1 t y 1).trans (congrArg (· * 128 + (y 1).val) (congrFun (idx1_col t) 1))
theorem read1_2 (t : Fin cfg1.N) : ((cfg1.win 2).blk t).view.read (Elt Ideal) (upA f) = upK (colR f (t.val / 65)) := by
  funext y
  refine upA_col f ((win1_2.rect t).emb y) _ _ _ ?_ ?_
  · exact (Pipeline.Window.rect_emb_val win1_2 t y 0).trans (congrArg (· * 8320 + (y 0).val) (congrFun (idx1_col t) 0))
  · exact (Pipeline.Window.rect_emb_val win1_2 t y 1).trans (congrArg (· * 128 + (y 1).val) (congrFun (idx1_col t) 1))
theorem read1_3 (t : Fin cfg1.N) : ((cfg1.win 3).blk t).view.read (Elt Ideal) (upA f) = upB (blkR f (t.val / 65) (t.val % 65)) := by
  funext y
  refine upA_blk f ((win1_3.rect t).emb y) _ _ _ _ ?_ ?_
  · exact (Pipeline.Window.rect_emb_val win1_3 t y 0).trans (congrArg (· * 128 + (y 0).val) (congrFun (idx1_blk t) 0))
  · exact (Pipeline.Window.rect_emb_val win1_3 t y 1).trans (congrArg (· * 128 + (y 1).val) (congrFun (idx1_blk t) 1))
theorem read1_4 (t : Fin cfg1.N) : ((cfg1.win 4).blk t).view.read (Elt Ideal) (upA f) = upB (blkR f (t.val / 65) (t.val % 65)) := by
  funext y
  refine upA_blk f ((win1_4.rect t).emb y) _ _ _ _ ?_ ?_
  · exact (Pipeline.Window.rect_emb_val win1_4 t y 0).trans (congrArg (· * 128 + (y 0).val) (congrFun (idx1_blk t) 0))
  · exact (Pipeline.Window.rect_emb_val win1_4 t y 1).trans (congrArg (· * 128 + (y 1).val) (congrFun (idx1_blk t) 1))
theorem read1_5 (t : Fin cfg1.N) : ((cfg1.win 5).blk t).view.read (Elt Ideal) (upA f) = upB (blkR f (t.val / 65) (t.val % 65)) := by
  funext y
  refine upA_blk f ((win1_5.rect t).emb y) _ _ _ _ ?_ ?_
  · exact (Pipeline.Window.rect_emb_val win1_5 t y 0).trans (congrArg (· * 128 + (y 0).val) (congrFun (idx1_blk t) 0))
  · exact (Pipeline.Window.rect_emb_val win1_5 t y 1).trans (congrArg (· * 128 + (y 1).val) (congrFun (idx1_blk t) 1))
theorem read1_6 (t : Fin cfg1.N) : ((cfg1.win 6).blk t).view.read (Elt Ideal) (upA f) = upK (colR f (t.val / 65)) := by
  funext y
  refine upA_col f ((win1_6.rect t).emb y) _ _ _ ?_ ?_
  · exact (Pipeline.Window.rect_emb_val win1_6 t y 0).trans (congrArg (· * 8320 + (y 0).val) (congrFun (idx1_col t) 0))
  · exact (Pipeline.Window.rect_emb_val win1_6 t y 1).trans (congrArg (· * 128 + (y 1).val) (congrFun (idx1_col t) 1))
theorem read1_7 (t : Fin cfg1.N) : ((cfg1.win 7).blk t).view.read (Elt Ideal) (upA f) = upK (colR f (t.val / 65)) := by
  funext y
  refine upA_col f ((win1_7.rect t).emb y) _ _ _ ?_ ?_
  · exact (Pipeline.Window.rect_emb_val win1_7 t y 0).trans (congrArg (· * 8320 + (y 0).val) (congrFun (idx1_col t) 0))
  · exact (Pipeline.Window.rect_emb_val win1_7 t y 1).trans (congrArg (· * 128 + (y 1).val) (congrFun (idx1_col t) 1))

end Blocks

theorem cover0_3 (i : S8320x1024.Idx) : ∃ t : Fin cfg0.N, (cfg0.win 3).flush t = true ∧ i ∈ ((cfg0.win 3).blk t).view.set := by
  have h0 : (i 0).val < 8320 := (i 0).isLt
  have h1 : (i 1).val < 1024 := (i 1).isLt
  have hN : cfg0.N = 520 := N_0
  refine ⟨⟨(i 1).val / 128 * 65 + (i 0).val / 128, by omega⟩, flush0_3 _, ?_⟩
  generalize ht : (⟨(i 1).val / 128 * 65 + (i 0).val / 128, by omega⟩ : Fin cfg0.N) = t
  have hv : t.val = (i 1).val / 128 * 65 + (i 0).val / 128 := by rw [← ht]
  show i ∈ ((View.whole main_v0_0).slice (win0_3.rect t)).set
  rw [View.set_slice_whole, Rect.mem_set_unit]
  intro a
  match a with
  | ⟨0, _⟩ =>
    show cc0_transform_3 (grid0.coords t) 0 * 128 ≤ (i 0).val ∧ (i 0).val < cc0_transform_3 (grid0.coords t) 0 * 128 + 128
    rw [show cc0_transform_3 (grid0.coords t) 0 = t.val % 65 from congrFun (idx0_blk t) 0]
    omega
  | ⟨1, _⟩ =>
    show cc0_transform_3 (grid0.coords t) 1 * 128 ≤ (i 1).val ∧ (i 1).val < cc0_transform_3 (grid0.coords t) 1 * 128 + 128
    rw [show cc0_transform_3 (grid0.coords t) 1 = t.val / 65 from congrFun (idx0_blk t) 1]
    omega
theorem cover0_4 (i : S8320x1024.Idx) : ∃ t : Fin cfg0.N, (cfg0.win 4).flush t = true ∧ i ∈ ((cfg0.win 4).blk t).view.set := by
  have h0 : (i 0).val < 8320 := (i 0).isLt
  have h1 : (i 1).val < 1024 := (i 1).isLt
  have hN : cfg0.N = 520 := N_0
  refine ⟨⟨(i 1).val / 128 * 65 + (i 0).val / 128, by omega⟩, flush0_4 _, ?_⟩
  generalize ht : (⟨(i 1).val / 128 * 65 + (i 0).val / 128, by omega⟩ : Fin cfg0.N) = t
  have hv : t.val = (i 1).val / 128 * 65 + (i 0).val / 128 := by rw [← ht]
  show i ∈ ((View.whole main_v0_1).slice (win0_4.rect t)).set
  rw [View.set_slice_whole, Rect.mem_set_unit]
  intro a
  match a with
  | ⟨0, _⟩ =>
    show cc0_transform_4 (grid0.coords t) 0 * 128 ≤ (i 0).val ∧ (i 0).val < cc0_transform_4 (grid0.coords t) 0 * 128 + 128
    rw [show cc0_transform_4 (grid0.coords t) 0 = t.val % 65 from congrFun (idx0_blk t) 0]
    omega
  | ⟨1, _⟩ =>
    show cc0_transform_4 (grid0.coords t) 1 * 128 ≤ (i 1).val ∧ (i 1).val < cc0_transform_4 (grid0.coords t) 1 * 128 + 128
    rw [show cc0_transform_4 (grid0.coords t) 1 = t.val / 65 from congrFun (idx0_blk t) 1]
    omega
theorem cover1_5 (i : S8320x1024.Idx) : ∃ t : Fin cfg1.N, (cfg1.win 5).flush t = true ∧ i ∈ ((cfg1.win 5).blk t).view.set := by
  have h0 : (i 0).val < 8320 := (i 0).isLt
  have h1 : (i 1).val < 1024 := (i 1).isLt
  have hN : cfg1.N = 520 := N_1
  refine ⟨⟨(i 1).val / 128 * 65 + (i 0).val / 128, by omega⟩, flush1_5 _, ?_⟩
  generalize ht : (⟨(i 1).val / 128 * 65 + (i 0).val / 128, by omega⟩ : Fin cfg1.N) = t
  have hv : t.val = (i 1).val / 128 * 65 + (i 0).val / 128 := by rw [← ht]
  show i ∈ ((View.whole main_v1_0).slice (win1_5.rect t)).set
  rw [View.set_slice_whole, Rect.mem_set_unit]
  intro a
  match a with
  | ⟨0, _⟩ =>
    show cc1_transform_5 (grid1.coords t) 0 * 128 ≤ (i 0).val ∧ (i 0).val < cc1_transform_5 (grid1.coords t) 0 * 128 + 128
    rw [show cc1_transform_5 (grid1.coords t) 0 = t.val % 65 from congrFun (idx1_blk t) 0]
    omega
  | ⟨1, _⟩ =>
    show cc1_transform_5 (grid1.coords t) 1 * 128 ≤ (i 1).val ∧ (i 1).val < cc1_transform_5 (grid1.coords t) 1 * 128 + 128
    rw [show cc1_transform_5 (grid1.coords t) 1 = t.val / 65 from congrFun (idx1_blk t) 1]
    omega
theorem cover1_6 (i : S8320x1024.Idx) : ∃ t : Fin cfg1.N, (cfg1.win 6).flush t = true ∧ i ∈ ((cfg1.win 6).blk t).view.set := by
  have h0 : (i 0).val < 8320 := (i 0).isLt
  have h1 : (i 1).val < 1024 := (i 1).isLt
  have hN : cfg1.N = 520 := N_1
  refine ⟨⟨(i 1).val / 128 * 65 + 64, by omega⟩, (flush1_6 _).mpr (by dsimp only; omega), ?_⟩
  generalize ht : (⟨(i 1).val / 128 * 65 + 64, by omega⟩ : Fin cfg1.N) = t
  have hv : t.val = (i 1).val / 128 * 65 + 64 := by rw [← ht]
  show i ∈ ((View.whole main_v1_1).slice (win1_6.rect t)).set
  rw [View.set_slice_whole, Rect.mem_set_unit]
  intro a
  match a with
  | ⟨0, _⟩ =>
    show cc1_transform_6 (grid1.coords t) 0 * 8320 ≤ (i 0).val ∧ (i 0).val < cc1_transform_6 (grid1.coords t) 0 * 8320 + 8320
    rw [show cc1_transform_6 (grid1.coords t) 0 = 0 from congrFun (idx1_col t) 0]
    omega
  | ⟨1, _⟩ =>
    show cc1_transform_6 (grid1.coords t) 1 * 128 ≤ (i 1).val ∧ (i 1).val < cc1_transform_6 (grid1.coords t) 1 * 128 + 128
    rw [show cc1_transform_6 (grid1.coords t) 1 = t.val / 65 from congrFun (idx1_col t) 1]
    omega
theorem cover1_7 (i : S8320x1024.Idx) : ∃ t : Fin cfg1.N, (cfg1.win 7).flush t = true ∧ i ∈ ((cfg1.win 7).blk t).view.set := by
  have h0 : (i 0).val < 8320 := (i 0).isLt
  have h1 : (i 1).val < 1024 := (i 1).isLt
  have hN : cfg1.N = 520 := N_1
  refine ⟨⟨(i 1).val / 128 * 65 + 64, by omega⟩, (flush1_7 _).mpr (by dsimp only; omega), ?_⟩
  generalize ht : (⟨(i 1).val / 128 * 65 + 64, by omega⟩ : Fin cfg1.N) = t
  have hv : t.val = (i 1).val / 128 * 65 + 64 := by rw [← ht]
  show i ∈ ((View.whole main_v1_2).slice (win1_7.rect t)).set
  rw [View.set_slice_whole, Rect.mem_set_unit]
  intro a
  match a with
  | ⟨0, _⟩ =>
    show cc1_transform_7 (grid1.coords t) 0 * 8320 ≤ (i 0).val ∧ (i 0).val < cc1_transform_7 (grid1.coords t) 0 * 8320 + 8320
    rw [show cc1_transform_7 (grid1.coords t) 0 = 0 from congrFun (idx1_col t) 0]
    omega
  | ⟨1, _⟩ =>
    show cc1_transform_7 (grid1.coords t) 1 * 128 ≤ (i 1).val ∧ (i 1).val < cc1_transform_7 (grid1.coords t) 1 * 128 + 128
    rw [show cc1_transform_7 (grid1.coords t) 1 = t.val / 65 from congrFun (idx1_col t) 1]
    omega

section Real
variable (m : (ℓ : Loc nD τ sig) → Buf (Elt Ideal) ℓ) (c : Dev nD) (Q K V D : ℕ → ℕ → ℝ)

/-- The four operands hold the given real numbers. -/
def Args : Prop :=
  m ((c : Thread nD τ).loc main_arg0) = upA Q ∧ m ((c : Thread nD τ).loc main_arg1) = upA K
    ∧ m ((c : Thread nD τ).loc main_arg2) = upA V ∧ m ((c : Thread nD τ).loc main_arg3) = upA D

variable {m c Q K V D} (H : Args m c Q K V D)
include H

theorem sum0_eq (t : Fin cfg0.N) : sum0 (W0 m) c t
    = upQ fun r l => ∑ s ∈ Ico 0 NN, aR (rowT (128 * (t.val % 65)) r) (zL (qR Q (t.val / 65) (t.val % 65)) (colR K (t.val / 65)) r) s * colR V (t.val / 65) s l := by
  unfold sum0
  rw [show (blk0 (W0 m) c 0 t : Blk Ideal) = upB (blkR Q (t.val / 65) (t.val % 65)) from
      (congrArg (((cfg0.win 0).blk t).view.read (Elt Ideal)) H.1).trans (read0_0 Q t),
    show (blk0 (W0 m) c 1 t : Cols Ideal) = upK (colR K (t.val / 65)) from
      (congrArg (((cfg0.win 1).blk t).view.read (Elt Ideal)) H.2.1).trans (read0_1 K t),
    show (blk0 (W0 m) c 2 t : Cols Ideal) = upK (colR V (t.val / 65)) from
      (congrArg (((cfg0.win 2).blk t).view.read (Elt Ideal)) H.2.2.1).trans (read0_2 V t)]
  rw [← coord0]
  exact endF_point Q K V (grid0.coords t) (t.val / 65)

theorem o32_eq : o32 m c = upA (oG Q K V) := by
  refine (dat0 (W0 m) c).arrAt_eq_of_cover 4 (upA (oG Q K V)) (fun t _ => ?_) cover0_4
  rw [read0_4]
  show (cfg0.win 4).cut (grid0.coords t) (k0_pay7 (sum0 (W0 m) c t)) = _
  rw [sum0_eq H, pay7_point]
  rfl

theorem o16_eq : o16 m c = upA (oG Q K V) := by
  refine (dat0 (W0 m) c).arrAt_eq_of_cover 3 (upA (oG Q K V)) (fun t _ => ?_) cover0_3
  rw [read0_3]
  show (cfg0.win 3).cut (grid0.coords t) (k0_pay8 (sum0 (W0 m) c t)) = _
  rw [sum0_eq H, (pay8_up _).trans (pay7_up _).symm, pay7_point]
  rfl

theorem blk1_0 (t : Fin cfg1.N) : (blk1 (W1 m) c 0 t : Blk Ideal) = upB (blkR Q (t.val / 65) (t.val % 65)) :=
  (congrArg (((cfg1.win 0).blk t).view.read (Elt Ideal)) ((U1_of m c main_arg0 (by decide) (by decide)).trans H.1)).trans (read1_0 Q t)
theorem blk1_1 (t : Fin cfg1.N) : (blk1 (W1 m) c 1 t : Cols Ideal) = upK (colR K (t.val / 65)) :=
  (congrArg (((cfg1.win 1).blk t).view.read (Elt Ideal)) ((U1_of m c main_arg1 (by decide) (by decide)).trans H.2.1)).trans (read1_1 K t)
theorem blk1_2 (t : Fin cfg1.N) : (blk1 (W1 m) c 2 t : Cols Ideal) = upK (colR V (t.val / 65)) :=
  (congrArg (((cfg1.win 2).blk t).view.read (Elt Ideal)) ((U1_of m c main_arg2 (by decide) (by decide)).trans H.2.2.1)).trans (read1_2 V t)
theorem blk1_3 (t : Fin cfg1.N) : (blk1 (W1 m) c 3 t : Blk Ideal) = upB (blkR D (t.val / 65) (t.val % 65)) :=
  (congrArg (((cfg1.win 3).blk t).view.read (Elt Ideal)) ((U1_of m c main_arg3 (by decide) (by decide)).trans H.2.2.2)).trans (read1_3 D t)
theorem blk1_4 (t : Fin cfg1.N) : (blk1 (W1 m) c 4 t : GBlk Ideal) = upB (blkR (oG Q K V) (t.val / 65) (t.val % 65)) :=
  (congrArg (((cfg1.win 4).blk t).view.read (Elt Ideal)) ((U1_v0_1 m c).trans (o32_eq H))).trans (read1_4 (oG Q K V) t)

/-- A point whose gradient columns begin at real numbers. -/
theorem point1_real (t : Fin cfg1.N) (A B : GCols Ideal) (A' B' : ℕ → ℕ → ℝ)
    (hA : startCol (grid1.coords t) A = upK A') (hB : startCol (grid1.coords t) B = upK B') :
    point1 (W1 m) c t A B = invS (qR Q (t.val / 65) (t.val % 65)) (dR D (t.val / 65) (t.val % 65)) (colR K (t.val / 65)) (colR V (t.val / 65))
      (128 * (t.val % 65)) A' B' 0 := by
  unfold point1 bwdS
  rw [blk1_0 H, blk1_1 H, blk1_2 H, blk1_3 H, blk1_4 H, hA, hB, ← coord1]
  exact bwdS_point Q K V D (grid1.coords t) (t.val / 65) A' B'

omit H in
theorem start_keep (t : Fin cfg1.N) (h : t.val % 65 ≠ 0) (A : GCols Ideal) : startCol (grid1.coords t) A = A := by
  unfold startCol
  rw [if_neg (kept _ (by rw [coord1]; exact h))]

omit H in
theorem zeroCol_up : zeroCol (F := Ideal) = upK fun _ _ => 0 := by
  funext j
  exact Ideal.ofBits_zero_f32

/-- The gradient columns a point begins with, -/
def ColsAt (n : ℕ) : Prop :=
  ∀ h : n < cfg1.N, startCol (grid1.coords ⟨n, h⟩) (cols1 (W1 m) c n).1 = upK (dkP Q K V D (n / 65) (n % 65))
    ∧ startCol (grid1.coords ⟨n, h⟩) (cols1 (W1 m) c n).2 = upK (dvP Q K D (n / 65) (n % 65))

theorem point1_at (t : Fin cfg1.N) (h : ColsAt (m := m) (c := c) (Q := Q) (K := K) (V := V) (D := D) t.val) :
    point1 (W1 m) c t (cols1 (W1 m) c t.val).1 (cols1 (W1 m) c t.val).2
      = invS (qR Q (t.val / 65) (t.val % 65)) (dR D (t.val / 65) (t.val % 65)) (colR K (t.val / 65)) (colR V (t.val / 65))
      (128 * (t.val % 65)) (dkP Q K V D (t.val / 65) (t.val % 65)) (dvP Q K D (t.val / 65) (t.val % 65)) 0 :=
  point1_real H t _ _ _ _ (h t.isLt).1 (h t.isLt).2

/-- and the ones it leaves. -/
theorem cols1_next (t : Fin cfg1.N) (h : ColsAt (m := m) (c := c) (Q := Q) (K := K) (V := V) (D := D) t.val) :
    (cols1 (W1 m) c (t.val + 1)).1 = upK (dkP Q K V D (t.val / 65) (t.val % 65 + 1))
      ∧ (cols1 (W1 m) c (t.val + 1)).2 = upK (dvP Q K D (t.val / 65) (t.val % 65 + 1)) := by
  rw [cols1_succ, point1_at H t h]
  exact ⟨dk_step Q K V D (t.val % 65) (t.val / 65), dv_step Q K D (t.val % 65) (t.val / 65)⟩

omit H in
theorem colsAt_zero (n : ℕ) (h : n % 65 = 0) : ColsAt (m := m) (c := c) (Q := Q) (K := K) (V := V) (D := D) n := by
  intro hn
  rw [start_clear _ h, start_clear _ h, zeroCol_up, h]
  exact ⟨upK_congr fun s _ l _ => by unfold dkP; simp, upK_congr fun s _ l _ => by unfold dvP; simp⟩

theorem colsAt : ∀ n, ColsAt (m := m) (c := c) (Q := Q) (K := K) (V := V) (D := D) n
  | 0 => colsAt_zero 0 rfl
  | n + 1 => by
      by_cases h : (n + 1) % 65 = 0
      · exact colsAt_zero _ h
      · intro hn
        rw [start_keep _ h, start_keep _ h]
        have e := cols1_next H ⟨n, by omega⟩ (colsAt n)
        dsimp only at e
        rw [show (n + 1) / 65 = n / 65 by omega, show (n + 1) % 65 = n % 65 + 1 by omega]
        exact e

theorem dqA_eq : dqA m c = upA (dqG Q K V D) := by
  refine (dat1 (W1 m) c).arrAt_eq_of_cover 5 (upA (dqG Q K V D)) (fun t _ => ?_) cover1_5
  rw [read1_5]
  show (cfg1.win 5).cut (grid1.coords t) (k1_pay5 (point1 (W1 m) c t (cols1 (W1 m) c t.val).1 (cols1 (W1 m) c t.val).2).1.2.2) = _
  rw [point1_at H t (colsAt H t.val), pay5_point]
  rfl

theorem dkA_eq : dkA m c = upA (dkG Q K V D) := by
  refine (dat1 (W1 m) c).arrAt_eq_of_cover 6 (upA (dkG Q K V D)) (fun t ht => ?_) cover1_6
  rw [read1_6]
  show (cfg1.win 6).cut (grid1.coords t) (cols1 (W1 m) c (t.val + 1)).1 = _
  rw [(cols1_next H t (colsAt H t.val)).1, (flush1_6 t).mp ht]
  rfl

theorem dvA_eq : dvA m c = upA (dvG Q K D) := by
  refine (dat1 (W1 m) c).arrAt_eq_of_cover 7 (upA (dvG Q K D)) (fun t ht => ?_) cover1_7
  rw [read1_7]
  show (cfg1.win 7).cut (grid1.coords t) (cols1 (W1 m) c (t.val + 1)).2 = _
  rw [(cols1_next H t (colsAt H t.val)).2, (flush1_7 t).mp ht]
  rfl

end Real

end Cert.Proof.Sb
-- ==== Proof.Ref.lean ====
module

public import proofs.«01_k».proof.Proof.Head
public import proofs.«01_k».proof.Proof.Gen.ReferenceIdeal.Run

@[expose] public section

set_option maxRecDepth 65536

noncomputable section

/-! The unblocked computation at real operands. -/

namespace Cert.Proof.Sb.Ref

open Cert.ReferenceIdeal Cert.ReferenceIdeal.Gen Cert.ReferenceIdeal.Value
open Idealize.ShloMosaic Idealize.ShloMosaic.ValueIdx Idealize.SL.Sem Finset

/-- An operand of real entries, -/
def upA (f : ℕ → ℕ → ℝ) : FVec Ideal S8320x1024 .bf16 := fun j => ((f (j 0).val (j 1).val : ℝ) : EReal)
/-- an operand cut into heads, -/
def upH (f : ℕ → ℕ → ℕ → ℝ) : FVec Ideal S1x8208x16x64 .f32 := fun j => ((f (j 1).val (j 2).val (j 3).val : ℝ) : EReal)
/-- a number per head, query and key, -/
def upR (f : ℕ → ℕ → ℕ → ℝ) : FVec Ideal S1x16x8208x8208 .f32 := fun j => ((f (j 1).val (j 2).val (j 3).val : ℝ) : EReal)
/-- and a number per head, lane and query. -/
def upT (f : ℕ → ℕ → ℕ → ℝ) : FVec Ideal S1x16x64x8208 .f32 := fun j => ((f (j 1).val (j 2).val (j 3).val : ℝ) : EReal)

variable (V0 : Valuation τ sig (Elt Ideal)) (Q K V D : ℕ → ℕ → ℝ)

theorem heads_up (x : FVec Ideal S8320x1024 .bf16) (f : ℕ → ℕ → ℝ) (h : x = upA f) :
    shapeCast S1x8208x16x64 (extractStridedSlice S8208x1024 ![112, 0] (extf .f32 x bitsLt_bf16_f32) slices_S8320x1024_S8208x1024_112_0) shapeCasts_S8208x1024_S1x8208x16x64
      = upH fun t h d => f (112 + t) (64 * h + d) := by
  subst h
  funext j
  obtain ⟨a, t, h, d, rfl⟩ : ∃ (a : Fin 1) (t : Fin 8208) (h : Fin 16) (d : Fin 64), j = ValueIdx.ix4 a t h d := ⟨j 0, j 1, j 2, j 3, ValueIdx.eq_ix4 j⟩
  unfold upA upH
  pointwise
  refine congrArg (fun n : ℕ => ((f (112 + t.val) (n + d.val) : ℝ) : EReal)) ?_
  exact mul_comm _ _

/-! ### Entry by entry -/

theorem upR_congr {f g : ℕ → ℕ → ℕ → ℝ} (e : ∀ h < 16, ∀ t < 8208, ∀ s < 8208, f h t s = g h t s) : upR f = upR g := by
  funext j
  exact congrArg _ (e _ (j 1).isLt _ (j 2).isLt _ (j 3).isLt)

theorem zero_up (b : S_.BroadcastsInDim S1x16x8208x8208 ![]) : broadcastInDim S1x16x8208x8208 ![] b (constant (F := Ideal) S_ .f32 0x00000000#32) = upR fun _ _ _ => 0 := by
  funext j
  exact Ideal.ofBits_zero_f32
theorem eighth_up (b : S_.BroadcastsInDim S1x16x8208x8208 ![]) : broadcastInDim S1x16x8208x8208 ![] b (constant (F := Ideal) S_ .f32 0x3E000000#32) = upR fun _ _ _ => 0.125 := by
  funext j
  exact ofBits_eighth32

section Ops
variable (f g : ℕ → ℕ → ℕ → ℝ)
theorem add_up : addf (upR f) (upR g) = upR fun h t s => f h t s + g h t s := rfl
theorem sub_up : subf (upR f) (upR g) = upR fun h t s => f h t s - g h t s := rfl
theorem mul_up : mulf (upR f) (upR g) = upR fun h t s => f h t s * g h t s := by
  funext j; exact (EReal.coe_mul _ _).symm
theorem neg_up : Host.negf (upR f) = upR fun h t s => -f h t s := rfl
theorem exp_up : Host.exp (upR f) = upR fun h t s => Real.exp (f h t s) := rfl
theorem max_up : maximumf (upR f) (upR g) = upR fun h t s => max (f h t s) (g h t s) := by
  funext j; exact (EReal.coe_strictMono.monotone.map_max).symm
theorem abs_up : Host.absf (upR f) = upR fun h t s => |f h t s| := by
  funext j
  show (max _ _ : EReal) = _
  unfold upR
  rw [← EReal.coe_neg, ← EReal.coe_strictMono.monotone.map_max]; rfl
theorem log1p_up (p : ∀ h t s, 0 < 1 + f h t s) : Host.log1p (upR f) = upR fun h t s => Real.log (1 + f h t s) := by
  funext j
  exact if_neg (not_le.mpr (p _ _ _))

/-- No number differs from itself, -/
theorem une_self (x y : FVec Ideal S1x16x8208x8208 .f32) : select (cmpf .une (upR f) (upR f)) x y = y := by
  funext j
  show Scalar.select (Ideal.cmp .une _ _) _ _ = _
  simp [Ideal.cmp, Scalar.select]

/-- and none is infinite. -/
theorem oeq_inf (b : S_.BroadcastsInDim S1x16x8208x8208 ![]) (x y : FVec Ideal S1x16x8208x8208 .f32) :
    select (cmpf .oeq (upR f) (broadcastInDim S1x16x8208x8208 ![] b (constant (F := Ideal) S_ .f32 0x7F800000#32))) x y = y := by
  funext j
  show Scalar.select (Ideal.cmp .oeq ((f (j 1).val (j 2).val (j 3).val : ℝ) : EReal) (Ideal.ofBits .f32 0x7F800000#32)) _ _ = _
  rw [show Ideal.ofBits .f32 0x7F800000#32 = ⊤ by simp [Ideal.ofBits, Ideal.ieee]]
  simp [Ideal.cmp, Scalar.select]

/-- Zero or the number, whichever is larger, plus the log of one plus the exponential. -/
theorem soft_up (x : FVec Ideal S1x16x8208x8208 .f32) :
    select (cmpf .une (upR f) (upR f)) x
        (addf (maximumf (upR f) (upR fun _ _ _ => 0)) (Host.log1p (Host.exp (Host.negf (Host.absf (upR f))))))
      = upR fun h t s => -rKeep (f h t s) := by
  rw [une_self, abs_up, neg_up, exp_up, log1p_up _ (fun _ _ _ => one_add_exp_pos _), max_up, add_up]
  exact upR_congr fun h _ t _ s _ => by unfold rKeep rL; ring

end Ops

theorem before_bit (s t : Fin 8208) : IntOp.cmpi .slt (BitVec.ofNat 32 s.val) (BitVec.ofNat 32 t.val) = 1#1 ↔ s.val < t.val := by
  have hs := s.isLt
  have ht := t.isLt
  have e : ∀ n : ℕ, n < 8208 → (BitVec.ofNat 32 n).toInt = n := fun n hn => by
    rw [BitVec.toInt_eq_toNat_of_lt (by rw [BitVec.toNat_ofNat]; omega), BitVec.toNat_ofNat, Nat.mod_eq_of_lt (by omega)]
  show BitVec.ofBool (BitVec.slt _ _) = 1#1 ↔ _
  rw [WordArith.ofBool_eq_one_iff, BitVec.slt, decide_eq_true_iff, e _ hs, e _ ht]
  exact Nat.cast_lt

/-- The mask keeps the keys strictly before the query. -/
theorem mask_up (f g : ℕ → ℕ → ℕ → ℝ) : select (res_main_v22_1 V0) (upR f) (upR g) = upR fun h t s => if s < t then f h t s else g h t s := by
  funext j
  obtain ⟨a, h, t, s, rfl⟩ : ∃ (a : Fin 1) (h : Fin 16) (t s : Fin 8208), j = ValueIdx.ix4 a h t s := ⟨j 0, j 1, j 2, j 3, ValueIdx.eq_ix4 j⟩
  unfold res_main_v22_1 res_main_v19 upR
  pointwise
  unfold Scalar.select
  exact (if_congr (before_bit s t) rfl rfl).trans (apply_ite (fun x : ℝ => (x : EReal)) _ _ _).symm

/-! ### Running sums -/

theorem foldl_add {n : ℕ} (g : Fin n → EReal) : ∀ (l : List (Fin n)) (v : EReal), l.foldl (fun r k => r + g k) v = v + (l.map g).sum
  | [], v => by simp
  | a :: l, v => by rw [List.foldl_cons, foldl_add g l, List.map_cons, List.sum_cons, add_assoc]

/-- A window's fold from zero is the sum over its positions. -/
theorem window_sum {s t u : Shape} (w st lo hi : Fin s.rank → ℕ) (x : FVec Ideal s .f32) (h : s.ReduceWindows w st lo hi t)
    (hu : 0 < u.numel) (j : t.Idx) :
    Host.reduceWindowAdd w st lo hi x (fun _ : u.Idx => (0 : EReal)) h hu j
      = ∑ i : (⟨s.rank, w⟩ : Shape).Idx,
          if hin : ∀ a, lo a ≤ (j (a.cast h.1.symm)).val * st a + (i a).val ∧ (j (a.cast h.1.symm)).val * st a + (i a).val - lo a < s.size a
          then x (fun a => ⟨(j (a.cast h.1.symm)).val * st a + (i a).val - lo a, (hin a).2⟩) else (0 : EReal) := by
  rw [← Equiv.sum_comp (⟨s.rank, w⟩ : Shape).rowMajor.symm, ← List.sum_ofFn, List.ofFn_eq_map]
  refine (foldl_add _ _ 0).trans ?_
  rw [zero_add]
  refine congrArg List.sum (List.map_congr_left fun n _ => ?_)
  by_cases hin : ∀ a, lo a ≤ (j (a.cast h.1.symm)).val * st a + ((⟨s.rank, w⟩ : Shape).rowMajor.symm n a).val
      ∧ (j (a.cast h.1.symm)).val * st a + ((⟨s.rank, w⟩ : Shape).rowMajor.symm n a).val - lo a < s.size a
  · refine (dif_pos hin).trans ?_
    rw [dif_pos hin]
  · refine (dif_neg hin).trans ?_
    rw [dif_neg hin]

/-- The positions of a window along the last axis. -/
theorem row_sum (g : (⟨4, ![1, 1, 1, 8208]⟩ : Shape).Idx → EReal) : ∑ i, g i = ∑ k : Fin 8208, g (ValueIdx.ix4 0 0 0 k) := by
  refine (Function.Bijective.sum_comp (e := fun k : Fin 8208 => (ValueIdx.ix4 0 0 0 k : (⟨4, ![1, 1, 1, 8208]⟩ : Shape).Idx)) ⟨?_, ?_⟩ g).symm
  · intro a b h
    exact congrFun h 3
  · intro j
    refine ⟨j 3, ?_⟩
    have e : ValueIdx.ix4 (0 : Fin 1) (0 : Fin 1) (0 : Fin 1) (j 3) = ValueIdx.ix4 (j 0 : Fin 1) (j 1 : Fin 1) (j 2 : Fin 1) (j 3) := by
      rw [Subsingleton.elim (α := Fin 1) (j 0) 0, Subsingleton.elim (α := Fin 1) (j 1) 0, Subsingleton.elim (α := Fin 1) (j 2) 0]
      rfl
    exact e.trans (ValueIdx.eq_ix4 j).symm

theorem suffix_up (f : ℕ → ℕ → ℕ → ℝ) (z : FVec Ideal S_ .f32) (hz : z = fun _ => (0 : EReal)) :
    Host.reduceWindowAdd ![1, 1, 1, 8208] ![1, 1, 1, 1] ![0, 0, 0, 0] ![0, 0, 0, 8207] (upR f) z reduceWindows_S1x16x8208x8208_S1x16x8208x8208_w1s1p0_0_w1s1p0_0_w1s1p0_0_w8208s1p0_8207 h_S_
      = upR fun h t s => ∑ s' ∈ Ico s 8208, f h t s' := by
  subst hz
  funext j
  refine (window_sum _ _ _ _ _ _ _ j).trans ?_
  refine (row_sum _).trans ?_
  obtain ⟨b, h, t, s, rfl⟩ : ∃ (b : Fin 1) (h : Fin 16) (t s : Fin 8208), j = ValueIdx.ix4 b h t s := ⟨j 0, j 1, j 2, j 3, ValueIdx.eq_ix4 j⟩
  have hs := s.isLt
  refine Eq.trans (sum_congr rfl (g := fun k : Fin 8208 => (((if s.val + k.val < 8208 then f h.val t.val (s.val + k.val) else 0 : ℝ)) : EReal)) fun k _ => ?_) ?_
  · by_cases hk : s.val + k.val < 8208
    · rw [if_pos hk]
      refine (dif_pos ?_).trans ?_
      · intro a
        have h0 := b.isLt
        have h1 := h.isLt
        have h2 := t.isLt
        match a with
        | ⟨0, _⟩ => exact ⟨Nat.zero_le _, show b.val * 1 + 0 - 0 < 1 by omega⟩
        | ⟨1, _⟩ => exact ⟨Nat.zero_le _, show h.val * 1 + 0 - 0 < 16 by omega⟩
        | ⟨2, _⟩ => exact ⟨Nat.zero_le _, show t.val * 1 + 0 - 0 < 8208 by omega⟩
        | ⟨3, _⟩ => exact ⟨Nat.zero_le _, show s.val * 1 + k.val - 0 < 8208 by omega⟩
      · show ((f (h.val * 1 + 0 - 0) (t.val * 1 + 0 - 0) (s.val * 1 + k.val - 0) : ℝ) : EReal) = _
        simp only [Nat.mul_one, Nat.add_zero, Nat.sub_zero]
    · rw [if_neg hk]
      refine (dif_neg fun hin => hk ?_).trans EReal.coe_zero.symm
      have h3 : s.val * 1 + k.val - 0 < 8208 := (hin 3).2
      omega
  · refine (sum_up fun k => if s.val + k < 8208 then f h.val t.val (s.val + k) else 0).trans (congrArg _ ?_)
    show _ = ∑ s' ∈ Ico s.val 8208, f h.val t.val s'
    rw [← sum_filter, sum_Ico_eq_sum_range]
    refine sum_congr ?_ fun _ _ => rfl
    ext k
    rw [mem_filter, mem_range, mem_range]
    omega

theorem prefix_up (f : ℕ → ℕ → ℕ → ℝ) (z : FVec Ideal S_ .f32) (hz : z = fun _ => (0 : EReal)) :
    Host.reduceWindowAdd ![1, 1, 1, 8208] ![1, 1, 1, 1] ![0, 0, 0, 8207] ![0, 0, 0, 0] (upR f) z reduceWindows_S1x16x8208x8208_S1x16x8208x8208_w1s1p0_0_w1s1p0_0_w1s1p0_0_w8208s1p8207_0 h_S_
      = upR fun h t s => ∑ s' ∈ range (s + 1), f h t s' := by
  subst hz
  funext j
  refine (window_sum _ _ _ _ _ _ _ j).trans ?_
  refine (row_sum _).trans ?_
  obtain ⟨b, h, t, s, rfl⟩ : ∃ (b : Fin 1) (h : Fin 16) (t s : Fin 8208), j = ValueIdx.ix4 b h t s := ⟨j 0, j 1, j 2, j 3, ValueIdx.eq_ix4 j⟩
  have hs := s.isLt
  refine Eq.trans (sum_congr rfl (g := fun k : Fin 8208 => (((if 8207 ≤ s.val + k.val then f h.val t.val (s.val + k.val - 8207) else 0 : ℝ)) : EReal)) fun k _ => ?_) ?_
  · have hk' := k.isLt
    by_cases hk : 8207 ≤ s.val + k.val
    · rw [if_pos hk]
      refine (dif_pos ?_).trans ?_
      · intro a
        have h0 := b.isLt
        have h1 := h.isLt
        have h2 := t.isLt
        match a with
        | ⟨0, _⟩ => exact ⟨Nat.zero_le _, show b.val * 1 + 0 - 0 < 1 by omega⟩
        | ⟨1, _⟩ => exact ⟨Nat.zero_le _, show h.val * 1 + 0 - 0 < 16 by omega⟩
        | ⟨2, _⟩ => exact ⟨Nat.zero_le _, show t.val * 1 + 0 - 0 < 8208 by omega⟩
        | ⟨3, _⟩ => exact ⟨show 8207 ≤ s.val * 1 + k.val by omega, show s.val * 1 + k.val - 8207 < 8208 by omega⟩
      · show ((f (h.val * 1 + 0 - 0) (t.val * 1 + 0 - 0) (s.val * 1 + k.val - 8207) : ℝ) : EReal) = _
        simp only [Nat.mul_one, Nat.add_zero, Nat.sub_zero]
    · rw [if_neg hk]
      refine (dif_neg fun hin => hk ?_).trans EReal.coe_zero.symm
      have h3 : 8207 ≤ s.val * 1 + k.val := (hin 3).1
      omega
  · refine (sum_up fun k => if 8207 ≤ s.val + k then f h.val t.val (s.val + k - 8207) else 0).trans (congrArg _ ?_)
    show _ = ∑ s' ∈ range (s.val + 1), f h.val t.val s'
    rw [← sum_filter]
    refine sum_nbij (fun k => s.val + k - 8207) ?_ ?_ ?_ ?_
    · intro k hk
      rw [mem_filter, mem_range] at hk
      rw [mem_range]
      omega
    · intro a ha b hb e
      rw [mem_coe, mem_filter, mem_range] at ha hb
      dsimp only at e
      omega
    · intro b hb
      rw [mem_coe, mem_range] at hb
      refine ⟨b + 8207 - s.val, ?_, ?_⟩
      · rw [mem_coe, mem_filter, mem_range]
        omega
      · dsimp only
        omega
    · intro _ _
      rfl

end Cert.Proof.Sb.Ref
-- ==== Proof.Terms.lean ====
module

public import proofs.«01_k».proof.Proof.Ref

@[expose] public section

set_option maxRecDepth 65536

noncomputable section

/-! The unblocked computation's named terms at real operands. -/

namespace Cert.Proof.Sb.Ref

open Cert.ReferenceIdeal Cert.ReferenceIdeal.Gen Cert.ReferenceIdeal.Value
open Idealize.ShloMosaic Idealize.SL.Sem Finset

/-! ### The model with the padding's rows cut off -/

section Model
variable (Q K V D : ℕ → ℕ → ℝ)

/-- The score of a key for a query, -/
def zS (h t s : ℕ) : ℝ := zG Q K h (112 + t) (112 + s)
/-- what it keeps, in logs, -/
def kpS (h t s : ℕ) : ℝ := if s < t then rKeep (zS Q K h t s) else 0
/-- its weight before the mask, -/
def eS (h t s : ℕ) : ℝ := Real.exp (rLsz (zS Q K h t s) + ∑ s' ∈ Ico s 8208, kpS Q K h t s' - kpS Q K h t s)
/-- and the gradient of its log. -/
def dlS (h t s : ℕ) : ℝ := (if s < t then gG V D h (112 + t) (112 + s) else 0) * eS Q K h t s

theorem sees_shift (t s : ℕ) : sees (112 + t) (112 + s) ↔ s < t := by unfold sees; omega

theorem kpS_eq (h t s : ℕ) : kpS Q K h t s = kpR (112 + t) (zG Q K h (112 + t)) (112 + s) := by
  unfold kpS kpR
  exact if_congr (sees_shift t s).symm rfl rfl

theorem aS_eq (h t s : ℕ) (hs : s < 8208) : (if s < t then eS Q K h t s else 0) = aR (112 + t) (zG Q K h (112 + t)) (112 + s) := by
  unfold aR eS
  refine if_congr (sees_shift t s).symm ?_ rfl
  rw [sum_eq_sum_Ico_succ_bot hs, add_sub_assoc, add_sub_cancel_left]
  refine congrArg Real.exp (congrArg (rLsz (zS Q K h t s) + ·) ?_)
  simp only [kpS_eq]
  rw [sum_Ico_add]
  refine sum_congr (congrArg₂ Ico ?_ rfl) fun _ _ => rfl
  omega

theorem dlS_eq (h t s : ℕ) (hs : s < 8208) : dlS Q K V D h t s = dlR (112 + t) (zG Q K h (112 + t)) (gG V D h (112 + t)) (112 + s) := by
  unfold dlS dlR
  rw [← aS_eq Q K h t s hs, ite_mul, mul_ite, zero_mul, mul_zero]

theorem dl_sum (h t s : ℕ) (hs : s < 8208) :
    ∑ s' ∈ range s, dlS Q K V D h t s' = ∑ s' ∈ range (112 + s), dlR (112 + t) (zG Q K h (112 + t)) (gG V D h (112 + t)) s' := by
  rw [sum_range_add, sum_eq_zero (s := range 112) (fun x hx => dlR_early _ _ (mem_range.mp hx)), zero_add]
  exact sum_congr rfl fun x hx => dlS_eq Q K V D h t x (by rw [mem_range] at hx; omega)

end Model

/-- A number per head, row and lane. -/
def upU (f : ℕ → ℕ → ℕ → ℝ) : FVec Ideal S1x16x8208x64 .f32 := fun j => ((f (j 1).val (j 2).val (j 3).val : ℝ) : EReal)

section Terms
variable {V0 : Valuation τ sig (Elt Ideal)} {Q K V D : ℕ → ℕ → ℝ}

theorem v5_up (H : V0 (Proc.devRef .tc main_arg0) = upA Q) : res_main_v5 V0 = upH fun t h d => Q (112 + t) (64 * h + d) :=
  heads_up _ Q H
theorem v7_up (H : V0 (Proc.devRef .tc main_arg1) = upA K) : res_main_v7 V0 = upH fun t h d => K (112 + t) (64 * h + d) :=
  heads_up _ K H
theorem v9_up (H : V0 (Proc.devRef .tc main_arg2) = upA V) : res_main_v9 V0 = upH fun t h d => V (112 + t) (64 * h + d) :=
  heads_up _ V H

theorem v36_up (H : V0 (Proc.devRef .tc main_arg3) = upA D) : res_main_v36 V0 = upT fun h d t => D (112 + t) (64 * h + d) := by
  unfold res_main_v36
  rw [heads_up _ D H]
  funext j
  obtain ⟨a, h, d, t, rfl⟩ : ∃ (a : Fin 1) (h : Fin 16) (d : Fin 64) (t : Fin 8208), j = ValueIdx.ix4 a h d t := ⟨j 0, j 1, j 2, j 3, ValueIdx.eq_ix4 j⟩
  unfold upH upT
  pointwise

/-- A query's product with a key, -/
theorem qk_up (p : Option ContractPrecision) (f g : ℕ → ℕ → ℕ → ℝ) :
    Host.dotGeneral (F := Ideal) dot_S1x8208x16x64_S1x8208x16x64_S1x16x8208x8208_3_3_1_1_02_02 p (upH f) (upH g) = upR fun h t s => ∑ d ∈ range 64, f t h d * g s h d := by
  funext j
  obtain ⟨a, h, t, s, rfl⟩ : ∃ (a : Fin 1) (h : Fin 16) (t : Fin 8208) (s : Fin 8208), j = ValueIdx.ix4 a h t s := ⟨j 0, j 1, j 2, j 3, ValueIdx.eq_ix4 j⟩
  unfold upH upR
  pointwise
  exact Eq.trans (sum_congr rfl fun _ _ => (EReal.coe_mul _ _).symm) (sum_up (n := 64) fun d => f t.val h.val d * g s.val h.val d)

/-- an output gradient's with a value, -/
theorem dv_up (p : Option ContractPrecision) (f g : ℕ → ℕ → ℕ → ℝ) :
    Host.dotGeneral (F := Ideal) dot_S1x16x64x8208_S1x8208x16x64_S1x16x8208x8208_2_3_3_1_01_02 p (upT f) (upH g) = upR fun h t s => ∑ d ∈ range 64, f h d t * g s h d := by
  funext j
  obtain ⟨a, h, t, s, rfl⟩ : ∃ (a : Fin 1) (h : Fin 16) (t : Fin 8208) (s : Fin 8208), j = ValueIdx.ix4 a h t s := ⟨j 0, j 1, j 2, j 3, ValueIdx.eq_ix4 j⟩
  unfold upT upH upR
  pointwise
  exact Eq.trans (sum_congr rfl fun _ _ => (EReal.coe_mul _ _).symm) (sum_up (n := 64) fun d => f h.val d t.val * g s.val h.val d)

/-- values summed over the keys, -/
theorem values_up (p : Option ContractPrecision) (f g : ℕ → ℕ → ℕ → ℝ) :
    Host.dotGeneral (F := Ideal) dot_S1x8208x16x64_S1x16x8208x8208_S1x16x64x8208_1_3_3_2_02_01 p (upH f) (upR g) = upT fun h d t => ∑ s ∈ range 8208, f s h d * g h t s := by
  funext j
  obtain ⟨a, h, d, t, rfl⟩ : ∃ (a : Fin 1) (h : Fin 16) (d : Fin 64) (t : Fin 8208), j = ValueIdx.ix4 a h d t := ⟨j 0, j 1, j 2, j 3, ValueIdx.eq_ix4 j⟩
  unfold upH upR upT
  pointwise
  exact Eq.trans (sum_congr rfl fun _ _ => (EReal.coe_mul _ _).symm) (sum_up (n := 8208) fun s => f s h.val d.val * g h.val t.val s)

/-- keys summed over the keys, -/
theorem keys_up (p : Option ContractPrecision) (f g : ℕ → ℕ → ℕ → ℝ) :
    Host.dotGeneral (F := Ideal) dot_S1x16x8208x8208_S1x8208x16x64_S1x16x8208x64_3_1_2_3_01_02 p (upR f) (upH g) = upU fun h t d => ∑ s ∈ range 8208, f h t s * g s h d := by
  funext j
  obtain ⟨a, h, t, d, rfl⟩ : ∃ (a : Fin 1) (h : Fin 16) (t : Fin 8208) (d : Fin 64), j = ValueIdx.ix4 a h t d := ⟨j 0, j 1, j 2, j 3, ValueIdx.eq_ix4 j⟩
  unfold upR upH upU
  pointwise
  exact Eq.trans (sum_congr rfl fun _ _ => (EReal.coe_mul _ _).symm) (sum_up (n := 8208) fun s => f h.val t.val s * g s h.val d.val)

/-- queries summed over the queries, -/
theorem queries_up (p : Option ContractPrecision) (f g : ℕ → ℕ → ℕ → ℝ) :
    Host.dotGeneral (F := Ideal) dot_S1x16x8208x8208_S1x8208x16x64_S1x16x8208x64_2_1_3_3_01_02 p (upR f) (upH g) = upU fun h s d => ∑ t ∈ range 8208, f h t s * g t h d := by
  funext j
  obtain ⟨a, h, s, d, rfl⟩ : ∃ (a : Fin 1) (h : Fin 16) (s : Fin 8208) (d : Fin 64), j = ValueIdx.ix4 a h s d := ⟨j 0, j 1, j 2, j 3, ValueIdx.eq_ix4 j⟩
  unfold upR upH upU
  pointwise
  exact Eq.trans (sum_congr rfl fun _ _ => (EReal.coe_mul _ _).symm) (sum_up (n := 8208) fun t => f h.val t s.val * g t h.val d.val)

/-- and output gradients summed over the queries. -/
theorem outs_up (p : Option ContractPrecision) (f g : ℕ → ℕ → ℕ → ℝ) :
    Host.dotGeneral (F := Ideal) dot_S1x16x64x8208_S1x16x8208x8208_S1x16x64x8208_3_2_2_3_01_01 p (upT f) (upR g) = upT fun h d s => ∑ t ∈ range 8208, f h d t * g h t s := by
  funext j
  obtain ⟨a, h, d, s, rfl⟩ : ∃ (a : Fin 1) (h : Fin 16) (d : Fin 64) (s : Fin 8208), j = ValueIdx.ix4 a h d s := ⟨j 0, j 1, j 2, j 3, ValueIdx.eq_ix4 j⟩
  unfold upT upR
  pointwise
  exact Eq.trans (sum_congr rfl fun _ _ => (EReal.coe_mul _ _).symm) (sum_up (n := 8208) fun t => f h.val d.val t * g h.val t s.val)

theorem scalar_zero : broadcastInDim S_ ![] bcast_S_S_ (constant (F := Ideal) S_ .f32 0x00000000#32) = fun _ => (0 : EReal) :=
  funext fun _ => Ideal.ofBits_zero_f32

variable (HQ : V0 (Proc.devRef .tc main_arg0) = upA Q) (HK : V0 (Proc.devRef .tc main_arg1) = upA K)
variable (HV : V0 (Proc.devRef .tc main_arg2) = upA V) (HD : V0 (Proc.devRef .tc main_arg3) = upA D)

section QK
include HQ HK

theorem v12_up : res_main_v12 V0 = upR (zS Q K) := by
  unfold res_main_v12
  rw [v5_up HQ, v7_up HK, qk_up, eighth_up, mul_up]
  refine upR_congr fun h _ t _ s _ => ?_
  unfold zS zG
  rw [sum_mul]
  exact sum_congr rfl fun d _ => by ring

theorem call0_up : res_main_call0_v0 V0 = upR (zS Q K) := by
  unfold res_main_call0_v0
  rw [v12_up HQ HK, neg_up, neg_up]
  exact upR_congr fun h _ t _ s _ => neg_neg _
theorem call0s_up : res_main_call0_call0_v3 V0 = upR (zS Q K) := by
  unfold res_main_call0_call0_v3 res_main_call0_call0_cst
  rw [call0_up HQ HK, zero_up, sub_up]
  exact upR_congr fun h _ t _ s _ => sub_zero _
theorem call0p_up : res_main_call0_v1_0 V0 = upR fun h t s => -rKeep (zS Q K h t s) := by
  unfold res_main_call0_v1_0 res_main_call0_call0_cst
  rw [call0_up HQ HK, call0s_up HQ HK, zero_up, soft_up]

theorem call2_up : res_main_call2_v0 V0 = upR fun h t s => -zS Q K h t s := by
  unfold res_main_call2_v0
  rw [v12_up HQ HK, neg_up]
theorem call2s_up : res_main_call2_call0_v3 V0 = upR fun h t s => -zS Q K h t s := by
  unfold res_main_call2_call0_v3 res_main_call2_call0_cst
  rw [call2_up HQ HK, zero_up, sub_up]
  exact upR_congr fun h _ t _ s _ => sub_zero _
theorem call2p_up : res_main_call2_v1_0 V0 = upR fun h t s => -rLsz (zS Q K h t s) := by
  unfold res_main_call2_v1_0 res_main_call2_call0_cst
  rw [call2_up HQ HK, call2s_up HQ HK, zero_up, soft_up]
  exact upR_congr fun h _ t _ s _ => by rw [rKeep_neg]

theorem v22_up : res_main_v22_0 V0 = upR (kpS Q K) := by
  unfold res_main_v22_0
  rw [call0p_up HQ HK, neg_up, show (id (constant (F := Ideal) S_ .f32 0x00000000#32)) = constant (F := Ideal) S_ .f32 0x00000000#32 from rfl, zero_up, mask_up]
  exact upR_congr fun h _ t _ s _ => by unfold kpS; rw [neg_neg]

theorem v27_up : res_main_v27 V0 = upR (eS Q K) := by
  unfold res_main_v27
  rw [call2p_up HQ HK, v22_up HQ HK, neg_up, suffix_up _ _ scalar_zero, add_up, sub_up, exp_up]
  exact upR_congr fun h _ t _ s _ => by unfold eS; rw [neg_neg]

theorem v28_up : res_main_v28_0 V0 = upR fun h t s => aR (112 + t) (zG Q K h (112 + t)) (112 + s) := by
  unfold res_main_v28_0
  rw [v27_up HQ HK, show (id (constant (F := Ideal) S_ .f32 0x00000000#32)) = constant (F := Ideal) S_ .f32 0x00000000#32 from rfl, zero_up,
    show res_main_v28_1 V0 = res_main_v22_1 V0 from rfl, mask_up]
  exact upR_congr fun h _ t _ s hs => aS_eq Q K h t s hs

include HV HD

theorem v41_up : res_main_v41 V0 = upR (dlS Q K V D) := by
  unfold res_main_v41
  rw [v27_up HQ HK, v36_up HD, v9_up HV, dv_up, zero_up, show res_main_v28_1 V0 = res_main_v22_1 V0 from rfl, mask_up, mul_up]
  exact upR_congr fun h _ t _ s hs => rfl

theorem v51_up : res_main_v51 V0 = upR fun h t s => 0.125 * dzR (112 + t) (zG Q K h (112 + t)) (gG V D h (112 + t)) (112 + s) := by
  unfold res_main_v51
  rw [v41_up HQ HK HV HD, call2_up HQ HK, call2p_up HQ HK, call0_up HQ HK, call0p_up HQ HK, oeq_inf, oeq_inf, oeq_inf, oeq_inf,
    prefix_up _ _ scalar_zero, zero_up, eighth_up]
  simp only [neg_up, sub_up, exp_up, mul_up, add_up]
  rw [mask_up]
  simp only [neg_up, mul_up, add_up]
  refine upR_congr fun h _ t _ s hs => ?_
  unfold dzR
  rw [← dlS_eq Q K V D h t s hs, ← dl_sum Q K V D h t s hs, if_congr (sees_shift t s) rfl rfl]
  have e1 : Real.exp (-zS Q K h t s - -rLsz (zS Q K h t s)) = 1 - rSig (zG Q K h (112 + t) (112 + s)) := by
    show _ = 1 - rSig (zS Q K h t s)
    rw [← exp_rKeep, ← rLsz_neg]
    congr 1
    unfold rLsz rL
    rw [abs_neg]
    rcases le_total 0 (zS Q K h t s) with h0 | h0
    · rw [min_eq_right h0, min_eq_left (by linarith)]; ring
    · rw [min_eq_left h0, min_eq_right (by linarith)]; ring
  have e2 : Real.exp (zS Q K h t s - -rKeep (zS Q K h t s)) = rSig (zG Q K h (112 + t) (112 + s)) := by
    show _ = rSig (zS Q K h t s)
    unfold rSig
    congr 1
    unfold rLsz rKeep
    rcases le_total 0 (zS Q K h t s) with h0 | h0
    · rw [min_eq_right h0, max_eq_left h0]; ring
    · rw [min_eq_left h0, max_eq_right h0]; ring
  rw [e1, e2, sum_range_succ]
  split_ifs <;> ring

end QK

/-! ### The results -/

/-- Rows of heads, put side by side under the padding. -/
theorem rows_up (x : FVec Ideal S1x8208x16x64 .f32) (F : ℕ → ℕ → ℕ → ℝ) (G : ℕ → ℕ → ℝ) (z : FVec Ideal S_ .f32) (hz : z = fun _ => (0 : EReal))
    (hx : x = upH F) (h0 : ∀ t < 112, ∀ c < 1024, G t c = 0) (h1 : ∀ t < 8208, ∀ h < 16, ∀ d < 64, G (112 + t) (64 * h + d) = F t h d) :
    pad S8320x1024 ![112, 0] ![0, 0] ![0, 0] (shapeCast S8208x1024 x shapeCasts_S1x8208x16x64_S8208x1024) z pads_S8208x1024_S8320x1024_11200_000 h_S_
      = (fun j => ((G (j 0).val (j 1).val : ℝ) : EReal) : FVec Ideal S8320x1024 .f32) := by
  subst hz hx
  funext j
  obtain ⟨t, c, rfl⟩ : ∃ (t : Fin 8320) (c : Fin 1024), j = ValueIdx.ix2 t c := ⟨j 0, j 1, ValueIdx.eq_ix2 j⟩
  unfold upH
  pointwise
  by_cases h : t.val < 112
  · refine (dif_neg ?_).trans ?_
    · show ¬ (112 ≤ t.val ∧ _)
      omega
    · show (0 : EReal) = ((G t.val c.val : ℝ) : EReal)
      rw [h0 _ h _ c.isLt]; rfl
  · have ht := t.isLt
    have hc := c.isLt
    refine (dif_pos ?_).trans ?_
    · show 112 ≤ t.val ∧ t.val - 112 < 8208
      omega
    · show ((F (t.val - 112) (c.val / 64) (c.val % 64) : ℝ) : EReal) = ((G t.val c.val : ℝ) : EReal)
      rw [← h1 _ (by omega) _ (by omega) _ (by omega), show 112 + (t.val - 112) = t.val by omega, show 64 * (c.val / 64) + c.val % 64 = c.val by omega]

theorem back_lanes (f : ℕ → ℕ → ℕ → ℝ) (p : S1x16x64x8208.Transposes [0, 3, 1, 2] S1x8208x16x64) :
    transpose S1x8208x16x64 [0, 3, 1, 2] (upT f) p = upH fun t h d => f h d t := by
  funext j
  obtain ⟨a, t, h, d, rfl⟩ : ∃ (a : Fin 1) (t : Fin 8208) (h : Fin 16) (d : Fin 64), j = ValueIdx.ix4 a t h d := ⟨j 0, j 1, j 2, j 3, ValueIdx.eq_ix4 j⟩
  unfold upH upT
  pointwise

theorem back_rows (f : ℕ → ℕ → ℕ → ℝ) (p : S1x16x8208x64.Transposes [0, 2, 1, 3] S1x8208x16x64) :
    transpose S1x8208x16x64 [0, 2, 1, 3] (upU f) p = upH fun t h d => f h t d := by
  funext j
  obtain ⟨a, t, h, d, rfl⟩ : ∃ (a : Fin 1) (t : Fin 8208) (h : Fin 16) (d : Fin 64), j = ValueIdx.ix4 a t h d := ⟨j 0, j 1, j 2, j 3, ValueIdx.eq_ix4 j⟩
  unfold upH upU
  pointwise

/-- A sum over all the rows whose padding gives nothing. -/
theorem shift_sum (f : ℕ → ℝ) (h : ∀ s < 112, f s = 0) : ∑ s ∈ range NN, f s = ∑ s ∈ range 8208, f (112 + s) := by
  rw [show NN = 112 + 8208 from rfl, sum_range_add, sum_eq_zero (s := range 112) (fun x hx => h x (mem_range.mp hx)), zero_add]

theorem aR_pad {t : ℕ} (z : ℕ → ℝ) (s : ℕ) (h : t < 112) : aR t z s = 0 :=
  if_neg (by unfold sees; omega)
theorem dzR_pad {t : ℕ} (z d : ℕ → ℝ) (s : ℕ) (h : t < 112) : dzR t z d s = 0 := by
  rcases Nat.lt_or_ge s 112 with h' | h'
  · exact dzR_early _ _ h'
  · exact dzR_late _ _ (by omega)

theorem head_of (h d : ℕ) (hd : d < 64) : (64 * h + d) / 64 = h := by omega

section Out
include HQ HK

include HV in
theorem o_up :
    truncf .bf16 (pad S8320x1024 ![112, 0] ![0, 0] ![0, 0] (shapeCast _ (transpose S1x8208x16x64 [0, 3, 1, 2] (Host.dotGeneral (φ₂ := .f32) dot_S1x8208x16x64_S1x16x8208x8208_S1x16x64x8208_1_3_3_2_02_01 none (res_main_v9 V0) (res_main_v28_0 V0)) transposes_S1x16x64x8208_S1x8208x16x64_0_3_1_2) shapeCasts_S1x8208x16x64_S8208x1024) (sitofp .f32 (constantI S_ 32 0#32)) pads_S8208x1024_S8320x1024_11200_000 h_S_) bitsLt_bf16_f32
      = upA (oG Q K V) := by
  rw [v9_up HV, v28_up HQ HK, values_up, back_lanes]
  refine rows_up _ _ (oG Q K V) _ ?_ rfl (fun t ht c _ => ?_) (fun t _ h _ d hd => ?_)
  · funext i
    show (((0#32 : BitVec 32).toInt : ℝ) : EReal) = 0
    simp
  · exact sum_eq_zero fun s _ => by rw [aR_pad _ _ ht, zero_mul]
  · unfold oG
    rw [shift_sum _ (fun s hs => by rw [aR_early _ hs, zero_mul]), head_of h d hd]
    exact sum_congr rfl fun s _ => mul_comm _ _

include HD in
theorem gv_up :
    pad S8320x1024 ![112, 0] ![0, 0] ![0, 0] (shapeCast _ (transpose S1x8208x16x64 [0, 3, 1, 2] (Host.dotGeneral (φ₂ := .f32) dot_S1x16x64x8208_S1x16x8208x8208_S1x16x64x8208_3_2_2_3_01_01 none (res_main_v36 V0) (res_main_v28_0 V0)) transposes_S1x16x64x8208_S1x8208x16x64_0_3_1_2) shapeCasts_S1x8208x16x64_S8208x1024) (constant S_ .f32 0x00000000#32) pads_S8208x1024_S8320x1024_11200_000 h_S_
      = (fun j => ((dvG Q K D (j 0).val (j 1).val : ℝ) : EReal) : FVec Ideal S8320x1024 .f32) := by
  rw [v36_up HD, v28_up HQ HK, outs_up, back_lanes]
  refine rows_up _ _ (dvG Q K D) _ (funext fun _ => Ideal.ofBits_zero_f32) rfl (fun s hs c _ => ?_) (fun s _ h _ d hd => ?_)
  · exact sum_eq_zero fun t _ => by rw [aR_early _ hs, zero_mul]
  · unfold dvG
    rw [shift_sum _ (fun t ht => by rw [aR_pad _ _ ht, zero_mul]), head_of h d hd]
    exact sum_congr rfl fun t _ => mul_comm _ _

include HV HD

theorem gq_up :
    pad S8320x1024 ![112, 0] ![0, 0] ![0, 0] (shapeCast _ (transpose S1x8208x16x64 [0, 2, 1, 3] (Host.dotGeneral (φ₂ := .f32) dot_S1x16x8208x8208_S1x8208x16x64_S1x16x8208x64_3_1_2_3_01_02 none (res_main_v51 V0) (res_main_v7 V0)) transposes_S1x16x8208x64_S1x8208x16x64_0_2_1_3) shapeCasts_S1x8208x16x64_S8208x1024) (constant S_ .f32 0x00000000#32) pads_S8208x1024_S8320x1024_11200_000 h_S_
      = (fun j => ((dqG Q K V D (j 0).val (j 1).val : ℝ) : EReal) : FVec Ideal S8320x1024 .f32) := by
  rw [v51_up HQ HK HV HD, v7_up HK, keys_up, back_rows]
  refine rows_up _ _ (dqG Q K V D) _ (funext fun _ => Ideal.ofBits_zero_f32) rfl (fun t ht c _ => ?_) (fun t _ h _ d hd => ?_)
  · unfold dqG
    rw [sum_eq_zero fun s _ => by rw [dzR_pad _ _ _ ht, zero_mul], mul_zero]
  · unfold dqG
    rw [shift_sum _ (fun s hs => by rw [dzR_early _ _ hs, zero_mul]), head_of h d hd, mul_sum]
    exact sum_congr rfl fun s _ => (mul_assoc _ _ _).symm

theorem gk_up :
    pad S8320x1024 ![112, 0] ![0, 0] ![0, 0] (shapeCast _ (transpose S1x8208x16x64 [0, 2, 1, 3] (Host.dotGeneral (φ₂ := .f32) dot_S1x16x8208x8208_S1x8208x16x64_S1x16x8208x64_2_1_3_3_01_02 none (res_main_v51 V0) (res_main_v5 V0)) transposes_S1x16x8208x64_S1x8208x16x64_0_2_1_3) shapeCasts_S1x8208x16x64_S8208x1024) (constant S_ .f32 0x00000000#32) pads_S8208x1024_S8320x1024_11200_000 h_S_
      = (fun j => ((dkG Q K V D (j 0).val (j 1).val : ℝ) : EReal) : FVec Ideal S8320x1024 .f32) := by
  rw [v51_up HQ HK HV HD, v5_up HQ, queries_up, back_rows]
  refine rows_up _ _ (dkG Q K V D) _ (funext fun _ => Ideal.ofBits_zero_f32) rfl (fun s hs c _ => ?_) (fun s _ h _ d hd => ?_)
  · exact sum_eq_zero fun t _ => by rw [dzR_early _ _ hs, zero_mul]
  · unfold dkG
    rw [shift_sum _ (fun t ht => by rw [dzR_pad _ _ _ ht, zero_mul]), head_of h d hd]
    exact sum_congr rfl fun t _ => by ring

end Out

end Terms

end Cert.Proof.Sb.Ref
-- ==== Proof.Value.lean ====
module

public import proofs.«01_k».proof.Defs
public import proofs.«01_k».proof.Proof.Arrays
public import proofs.«01_k».proof.Proof.Terms

@[expose] public section

set_option maxRecDepth 65536

noncomputable section

/-! The two calls and the unblocked computation leave the same extended reals. -/

namespace Cert.Proof

open Idealize.ShloMosaic Idealize.SL.Sem

instance finiteFacts : Cert.Pre_finite.Facts := ⟨by decide, by decide⟩

/-- An operand whose entries lie strictly below infinity in absolute value has real entries. -/
theorem real_of (x : FVec Ideal Cert.KernelIdeal.S8320x1024 .bf16)
    (h : ∀ j, Ideal.cmp .olt (max (x j) (-(x j)) : EReal) (Ideal.ofBits .f32 0x7F800000#32) = 1#1) : ∃ f, x = Sb.upA f := by
  refine ⟨fun t c => if h : t < 8320 ∧ c < 1024 then EReal.toReal (x (ValueIdx.ix2 ⟨t, h.1⟩ ⟨c, h.2⟩)) else 0, ?_⟩
  funext j
  obtain ⟨t, c, rfl⟩ : ∃ (t : Fin 8320) (c : Fin 1024), j = ValueIdx.ix2 t c := ⟨j 0, j 1, ValueIdx.eq_ix2 j⟩
  have hx := h (ValueIdx.ix2 t c)
  rw [show Ideal.ofBits .f32 0x7F800000#32 = ⊤ by simp [Ideal.ofBits, Ideal.ieee]] at hx
  have hl : max (x (ValueIdx.ix2 t c)) (-(x (ValueIdx.ix2 t c))) < (⊤ : EReal) := by
    exact of_decide_eq_true ((WordArith.ofBool_eq_one_iff _).mp hx)
  show x (ValueIdx.ix2 t c) = ((dite (t.val < 8320 ∧ c.val < 1024) _ _ : ℝ) : EReal)
  rw [dif_pos ⟨t.isLt, c.isLt⟩]
  refine (EReal.coe_toReal ?_ ?_).symm
  · exact ne_of_lt (lt_of_le_of_lt (le_max_left _ _) hl)
  · intro hb
    have h2 := lt_of_le_of_lt (le_max_right _ _) hl
    rw [show x (ValueIdx.ix2 t c) = (⊥ : EReal) from hb] at h2
    exact absurd h2 (by simp)

section
open Cert.KernelIdeal

theorem args_real (m : (ℓ : Loc nD τ sig) → Buf (Elt Ideal) ℓ) (h : Cert.Pre_KernelIdeal_finite m) (c : Dev nD) :
    ∃ Q K V D, Sb.Args m c Q K V D := by
  obtain ⟨h0, h1, h2, h3⟩ := h c
  obtain ⟨Q, hQ⟩ := real_of (m ((c.tc : Thread nD τ).loc main_arg0)) (congrFun h0)
  obtain ⟨K, hK⟩ := real_of (m ((c.tc : Thread nD τ).loc main_arg1)) (congrFun h1)
  obtain ⟨V, hV⟩ := real_of (m ((c.tc : Thread nD τ).loc main_arg2)) (congrFun h2)
  obtain ⟨D, hD⟩ := real_of (m ((c.tc : Thread nD τ).loc main_arg3)) (congrFun h3)
  exact ⟨Q, K, V, D, hQ, hK, hV, hD⟩

end

/-- The same output and the same three gradients. -/
theorem same_values : Cert.algebraic_KernelIdeal_ReferenceIdeal_pre_finite := by
  intro m g m' g' hm hargs
  refine ⟨fun c => Sb.o16 m c, fun c => Sb.dqA m c, fun c => Sb.dkA m c, fun c => Sb.dvA m c, ?_, ?_⟩
  · refine (θ_run Cert.KernelIdeal.defs _ _).mono (fun r h c => ?_) (Sb.run_main (F := Ideal) m g)
    have e := h.1 c
    refine ⟨?_, ?_, ?_, ?_, Sb.end_arg m c r.2 e _ (by decide), Sb.end_arg m c r.2 e _ (by decide), Sb.end_arg m c r.2 e _ (by decide),
      Sb.end_arg m c r.2 e _ (by decide)⟩
    · exact (Sb.end_at m c r.2 e _ (by decide)).trans ((Sb.U2_of m c Cert.KernelIdeal.main_v0_0 (by decide) (by decide) (by decide)).trans (Sb.U1_v0_0 m c))
    · exact (Sb.end_at m c r.2 e _ (by decide)).trans (Sb.U2_v1_0 m c)
    · exact (Sb.end_at m c r.2 e _ (by decide)).trans (Sb.U2_v1_1 m c)
    · exact (Sb.end_at m c r.2 e _ (by decide)).trans (Sb.U2_v1_2 m c)
  · refine (θ_run Cert.ReferenceIdeal.defs _ _).mono (fun r h c => ?_) (Cert.ReferenceIdeal.Value.run (F := Ideal) m' g')
    obtain ⟨ho, hq, hk, hv, ha⟩ := h c
    obtain ⟨Q, K, V, D, H⟩ := args_real m hm c
    obtain ⟨a0, a1, a2, a3⟩ := hargs c
    have HQ := a0.trans H.1
    have HK := a1.trans H.2.1
    have HV := a2.trans H.2.2.1
    have HD := a3.trans H.2.2.2
    exact ⟨(ho.trans (Sb.Ref.o_up (V0 := StableHlo.launchContents m' c) HQ HK HV)).trans (Sb.o16_eq H).symm,
      (hq.trans (Sb.Ref.gq_up (V0 := StableHlo.launchContents m' c) HQ HK HV HD)).trans (Sb.dqA_eq H).symm,
      (hk.trans (Sb.Ref.gk_up (V0 := StableHlo.launchContents m' c) HQ HK HV HD)).trans (Sb.dkA_eq H).symm,
      (hv.trans (Sb.Ref.gv_up (V0 := StableHlo.launchContents m' c) HQ HK HD)).trans (Sb.dvA_eq H).symm, ha⟩

end Cert.Proof
-- ==== Proof.MixStep.lean ====
module

public import proofs.«01_k».proof.Proof.Steps
public import proofs.«01_k».proof.Proof.Gen.Kernel3Ideal
public import proofs.«01_k».proof.Proof.Gen.Kernel3Ideal.Skeleton

@[expose] public section

set_option synthInstance.maxSize 4096
set_option maxRecDepth 65536

noncomputable section

/-! What a grid point of each of the mixer's projection kernels does to the memrefs it is given. -/

namespace Cert.Proof.Mix

open Cert.Kernel3Ideal Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Proof.Steps (has hz2 isFirst isLater accOf wp_whole wp_fill wp_two wp_three wp_sum)

variable {F : FTy → Type} [FloatOps F]

abbrev PR (F : FTy → Type) (α : Type) := Prog (TpuEff nD τ sig (Elt F) Λ₀ .tc) α

/-- What call 4 leaves in its accumulator at a point, from its two blocks and what the accumulator held; -/
def acc4 (i : grid4.Coords) (x : Vec F S640x1024 .bf16) (y : Vec F S640x1024 .f32) (s : Vec F S1024x1024 .f32) : Vec F S1024x1024 .f32 :=
  accOf (i 2).val (k4_pay2 x y) (k4_pay3 x y) s
/-- and in its output block, from what that held. -/
def res4 (i : grid4.Coords) (x : Vec F S640x1024 .bf16) (y : Vec F S640x1024 .f32) (s d : Vec F S1024x1024 .f32) : Vec F S1024x1024 .f32 :=
  if k4_cond3 i = 1#1 then (acc4 i x y s) else d

/-- What call 5 leaves in its accumulator at a point, from its two blocks and what the accumulator held; -/
def acc5 (i : grid5.Coords) (x : Vec F S640x1024 .bf16) (y : Vec F S640x896 .f32) (s : Vec F S1024x896 .f32) : Vec F S1024x896 .f32 :=
  accOf (i 2).val (k5_pay2 x y) (k5_pay3 x y) s
/-- and in its output block, from what that held. -/
def res5 (i : grid5.Coords) (x : Vec F S640x1024 .bf16) (y : Vec F S640x896 .f32) (s d : Vec F S1024x896 .f32) : Vec F S1024x896 .f32 :=
  if k5_cond3 i = 1#1 then (acc5 i x y s) else d

/-- What call 7 leaves in its row of sums at a point, from its blocks and what the row held. -/
def acc7 (i : grid7.Coords) (x : Vec F S416x1024 .f32) (h : Vec F S416x1024 .f32) (s : Vec F S1x1024 .f32) : Vec F S1x1024 .f32 :=
  k7_pay1 (k7_pay7 (if isFirst (i 0).val then k7_pay6 else s)) (k7_pay8 h x)

section

variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (Es : Set Name)

local notation "𝕄" => MT nD τ sig Ix (Elt F) Name U Lvl
local notation "wpk" => wp frame (wpE (Ix := Ix) (Name := Name) (U := U) (Lvl := Lvl) defs 𝒱 (c : Thread nD τ) bd) Es

/-- Call 0 at a grid point. -/
theorem wp_k0 {Q : PUnit → sProp 𝕄} (i : grid0.Coords) (arg1 : Memref sig .tc .vmem S832x1024 .f32) (harg1 : arg1.IsWhole) (arg2 : Memref sig .tc .vmem S1x1024 .f32) (harg2 : arg2.IsWhole) (arg3 : Memref sig .tc .vmem S832x1024 .bf16) (harg3 : arg3.IsWhole)
    (x0 : Vec F S832x1024 .f32) (x1 : Vec F S1x1024 .f32) (x2 : Vec F S832x1024 .bf16) :
    (iprop(has c arg1 x0 ∗ has c arg2 x1 ∗ has c arg3 x2) : sProp 𝕄)
      ⊢ iprop((iprop(has c arg1 x0 ∗ has c arg2 x1 ∗ has c arg3 (k0_pay1 x0 x1)) -∗ Q ⟨⟩)
        -∗ wpk (cc0_m_norm i arg1 harg1 arg2 harg2 arg3 harg3 : PR F PUnit) Q) := by
  rw [cc0_m_norm_eq_skeleton]; unfold cc0_m_norm_skel
  exact wp_two (defs := defs) 𝒱 c bd Es arg1 arg2 arg3 hz2 hz2 hz2 k0_pay1 x0 x1 x2

/-- Call 1 at a grid point. -/
theorem wp_k1 {Q : PUnit → sProp 𝕄} (i : grid1.Coords) (arg3 : Memref sig .tc .vmem S640x1024 .bf16) (harg3 : arg3.IsWhole) (arg4 : Memref sig .tc .vmem S1024x896 .bf16) (harg4 : arg4.IsWhole) (arg5 : Memref sig .tc .vmem S640x896 .f32) (harg5 : arg5.IsWhole)
    (x0 : Vec F S640x1024 .bf16) (x1 : Vec F S1024x896 .bf16) (x2 : Vec F S640x896 .f32) :
    (iprop(has c arg3 x0 ∗ has c arg4 x1 ∗ has c arg5 x2) : sProp 𝕄)
      ⊢ iprop((iprop(has c arg3 x0 ∗ has c arg4 x1 ∗ has c arg5 (k1_pay1 x0 x1)) -∗ Q ⟨⟩)
        -∗ wpk (cc1_m_inproj i arg3 harg3 arg4 harg4 arg5 harg5 : PR F PUnit) Q) := by
  rw [cc1_m_inproj_eq_skeleton]; unfold cc1_m_inproj_skel
  exact wp_two (defs := defs) 𝒱 c bd Es arg3 arg4 arg5 hz2 hz2 hz2 k1_pay1 x0 x1 x2

/-- Call 2 at a grid point. -/
theorem wp_k2 {Q : PUnit → sProp 𝕄} (i : grid2.Coords) (arg3 : Memref sig .tc .vmem S640x2048 .bf16) (harg3 : arg3.IsWhole) (arg4 : Memref sig .tc .vmem S2048x1024 .bf16) (harg4 : arg4.IsWhole) (arg5 : Memref sig .tc .vmem S640x1024 .f32) (harg5 : arg5.IsWhole) (arg6 : Memref sig .tc .vmem S640x1024 .f32) (harg6 : arg6.IsWhole)
    (x0 : Vec F S640x2048 .bf16) (x1 : Vec F S2048x1024 .bf16) (x2 : Vec F S640x1024 .f32) (x3 : Vec F S640x1024 .f32) :
    (iprop(has c arg3 x0 ∗ has c arg4 x1 ∗ has c arg5 x2 ∗ has c arg6 x3) : sProp 𝕄)
      ⊢ iprop((iprop(has c arg3 x0 ∗ has c arg4 x1 ∗ has c arg5 x2 ∗ has c arg6 (k2_pay1 x0 x1 x2)) -∗ Q ⟨⟩)
        -∗ wpk (cc2_m_outproj i arg3 harg3 arg4 harg4 arg5 harg5 arg6 harg6 : PR F PUnit) Q) := by
  rw [cc2_m_outproj_eq_skeleton]; unfold cc2_m_outproj_skel
  exact wp_three (defs := defs) 𝒱 c bd Es arg3 arg4 arg5 arg6 hz2 hz2 hz2 hz2 k2_pay1 x0 x1 x2 x3

/-- Call 3 at a grid point. -/
theorem wp_k3 {Q : PUnit → sProp 𝕄} (i : grid3.Coords) (arg3 : Memref sig .tc .vmem S640x1024 .f32) (harg3 : arg3.IsWhole) (arg4 : Memref sig .tc .vmem S1024x1024 .bf16) (harg4 : arg4.IsWhole) (arg5 : Memref sig .tc .vmem S640x1024 .f32) (harg5 : arg5.IsWhole)
    (x0 : Vec F S640x1024 .f32) (x1 : Vec F S1024x1024 .bf16) (x2 : Vec F S640x1024 .f32) :
    (iprop(has c arg3 x0 ∗ has c arg4 x1 ∗ has c arg5 x2) : sProp 𝕄)
      ⊢ iprop((iprop(has c arg3 x0 ∗ has c arg4 x1 ∗ has c arg5 (k3_pay1 x0 x1)) -∗ Q ⟨⟩)
        -∗ wpk (cc3_b_dy3 i arg3 harg3 arg4 harg4 arg5 harg5 : PR F PUnit) Q) := by
  rw [cc3_b_dy3_eq_skeleton]; unfold cc3_b_dy3_skel
  exact wp_two (defs := defs) 𝒱 c bd Es arg3 arg4 arg5 hz2 hz2 hz2 k3_pay1 x0 x1 x2

/-- Call 4 at a grid point. -/
theorem wp_k4 {Q : PUnit → sProp 𝕄} (i : grid4.Coords) (arg3 : Memref sig .tc .vmem S640x1024 .bf16) (harg3 : arg3.IsWhole) (arg4 : Memref sig .tc .vmem S640x1024 .f32) (harg4 : arg4.IsWhole) (arg5 : Memref sig .tc .vmem S1024x1024 .f32) (harg5 : arg5.IsWhole) (arg6 : Memref sig .tc .vmem S1024x1024 .f32) (harg6 : arg6.IsWhole)
    (x0 : Vec F S640x1024 .bf16) (x1 : Vec F S640x1024 .f32) (x2 : Vec F S1024x1024 .f32) (x3 : Vec F S1024x1024 .f32) :
    (iprop(has c arg3 x0 ∗ has c arg4 x1 ∗ has c arg5 x2 ∗ has c arg6 x3) : sProp 𝕄)
      ⊢ iprop((iprop(has c arg3 x0 ∗ has c arg4 x1 ∗ has c arg5 (res4 i x0 x1 x3 x2) ∗ has c arg6 (acc4 i x0 x1 x3)) -∗ Q ⟨⟩)
        -∗ wpk (cc4_b_dwout i arg3 harg3 arg4 harg4 arg5 harg5 arg6 harg6 : PR F PUnit) Q) := by
  rw [cc4_b_dwout_eq_skeleton]; unfold cc4_b_dwout_skel
  exact wp_sum (defs := defs) 𝒱 c bd Es arg3 arg4 arg5 arg6 hz2 hz2 hz2 hz2 (i 2).val (k4_cond3 i = 1#1) k4_pay2 k4_pay3 (fun v => v) x0 x1 x2 x3

/-- Call 5 at a grid point. -/
theorem wp_k5 {Q : PUnit → sProp 𝕄} (i : grid5.Coords) (arg3 : Memref sig .tc .vmem S640x1024 .bf16) (harg3 : arg3.IsWhole) (arg4 : Memref sig .tc .vmem S640x896 .f32) (harg4 : arg4.IsWhole) (arg5 : Memref sig .tc .vmem S1024x896 .f32) (harg5 : arg5.IsWhole) (arg6 : Memref sig .tc .vmem S1024x896 .f32) (harg6 : arg6.IsWhole)
    (x0 : Vec F S640x1024 .bf16) (x1 : Vec F S640x896 .f32) (x2 : Vec F S1024x896 .f32) (x3 : Vec F S1024x896 .f32) :
    (iprop(has c arg3 x0 ∗ has c arg4 x1 ∗ has c arg5 x2 ∗ has c arg6 x3) : sProp 𝕄)
      ⊢ iprop((iprop(has c arg3 x0 ∗ has c arg4 x1 ∗ has c arg5 (res5 i x0 x1 x3 x2) ∗ has c arg6 (acc5 i x0 x1 x3)) -∗ Q ⟨⟩)
        -∗ wpk (cc5_b_dwin i arg3 harg3 arg4 harg4 arg5 harg5 arg6 harg6 : PR F PUnit) Q) := by
  rw [cc5_b_dwin_eq_skeleton]; unfold cc5_b_dwin_skel
  exact wp_sum (defs := defs) 𝒱 c bd Es arg3 arg4 arg5 arg6 hz2 hz2 hz2 hz2 (i 2).val (k5_cond3 i = 1#1) k5_pay2 k5_pay3 (fun v => v) x0 x1 x2 x3

/-- Call 6 at a grid point. -/
theorem wp_k6 {Q : PUnit → sProp 𝕄} (i : grid6.Coords) (arg3 : Memref sig .tc .vmem S320x6272 .f32) (harg3 : arg3.IsWhole) (arg4 : Memref sig .tc .vmem S512x6272 .bf16) (harg4 : arg4.IsWhole) (arg5 : Memref sig .tc .vmem S320x512 .f32) (harg5 : arg5.IsWhole)
    (x0 : Vec F S320x6272 .f32) (x1 : Vec F S512x6272 .bf16) (x2 : Vec F S320x512 .f32) :
    (iprop(has c arg3 x0 ∗ has c arg4 x1 ∗ has c arg5 x2) : sProp 𝕄)
      ⊢ iprop((iprop(has c arg3 x0 ∗ has c arg4 x1 ∗ has c arg5 (k6_pay1 x0 x1)) -∗ Q ⟨⟩)
        -∗ wpk (cc6_b_du0 i arg3 harg3 arg4 harg4 arg5 harg5 : PR F PUnit) Q) := by
  rw [cc6_b_du0_eq_skeleton]; unfold cc6_b_du0_skel
  exact wp_two (defs := defs) 𝒱 c bd Es arg3 arg4 arg5 hz2 hz2 hz2 k6_pay1 x0 x1 x2

/-- Call 7 at a grid point. -/
theorem wp_k7 {Q : PUnit → sProp 𝕄} (i : grid7.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x1024 .f32) (harg4 : arg4.IsWhole) (arg5 : Memref sig .tc .vmem S416x1024 .f32) (harg5 : arg5.IsWhole) (arg6 : Memref sig .tc .vmem S1x1024 .f32) (harg6 : arg6.IsWhole)
    (x0 : Vec F S416x1024 .f32) (x1 : Vec F S416x1024 .f32) (x2 : Vec F S1x1024 .f32) (x3 : Vec F S416x1024 .f32) (x4 : Vec F S416x1024 .f32) (x5 : Vec F S1x1024 .f32) :
    (iprop(has c arg1 x0 ∗ has c arg2 x1 ∗ has c arg3 x2 ∗ has c arg4 x3 ∗ has c arg5 x4 ∗ has c arg6 x5) : sProp 𝕄)
      ⊢ iprop((iprop(has c arg1 x0 ∗ has c arg2 x1 ∗ has c arg3 x2 ∗ has c arg4 x3 ∗ has c arg5 (k7_pay5 x1 x0 x2 x3) ∗ has c arg6 (acc7 i x0 x1 x5)) -∗ Q ⟨⟩)
        -∗ wpk (cc7_b_mnorm i arg1 harg1 arg2 harg2 arg3 harg3 arg4 harg4 arg5 harg5 arg6 harg6 : PR F PUnit) Q) := by
  rw [cc7_b_mnorm_eq_skeleton]; unfold cc7_b_mnorm_skel
  rw [k7_part1_eq_skeleton]; unfold k7_part1_skel
  dsimp only
  unfold acc7
  simp only [bind_assoc, pure_bind]
  by_cases h1 : isFirst (i 0).val
  · rw [if_pos h1]
    iintro ⟨H0, H1, H2, H3, H4, H5⟩ HQ
    iapply (wp_whole (defs := defs) 𝒱 c bd Es arg2 hz2) $$ H1
    iintro H1
    iapply (wp_whole (defs := defs) 𝒱 c bd Es arg1 hz2) $$ H0
    iintro H0
    iapply (wp_whole (defs := defs) 𝒱 c bd Es arg3 hz2) $$ H2
    iintro H2
    iapply (wp_whole (defs := defs) 𝒱 c bd Es arg4 hz2) $$ H3
    iintro H3
    iapply (wp_whole (defs := defs) 𝒱 c bd Es arg5 hz2) $$ H4
    iintro H4
    iapply (wp_fill (defs := defs) 𝒱 c bd Es arg5 hz2) $$ H4
    iintro H4
    simp only [dif_pos h1, bind_assoc, pure_bind]
    iapply (wp_whole (defs := defs) 𝒱 c bd Es arg6 hz2) $$ H5
    iintro H5
    iapply (wp_fill (defs := defs) 𝒱 c bd Es arg6 hz2) $$ H5
    iintro H5
    iapply (wp_whole (defs := defs) 𝒱 c bd Es arg6 hz2) $$ H5
    iintro H5
    iapply (wp_whole (defs := defs) 𝒱 c bd Es arg6 hz2) $$ H5
    iintro H5
    iapply (wp_fill (defs := defs) 𝒱 c bd Es arg6 hz2) $$ H5
    iintro H5
    rw [wp_pure]
    imodintro
    iapply HQ
    iframe
  · rw [if_neg h1]
    iintro ⟨H0, H1, H2, H3, H4, H5⟩ HQ
    iapply (wp_whole (defs := defs) 𝒱 c bd Es arg2 hz2) $$ H1
    iintro H1
    iapply (wp_whole (defs := defs) 𝒱 c bd Es arg1 hz2) $$ H0
    iintro H0
    iapply (wp_whole (defs := defs) 𝒱 c bd Es arg3 hz2) $$ H2
    iintro H2
    iapply (wp_whole (defs := defs) 𝒱 c bd Es arg4 hz2) $$ H3
    iintro H3
    iapply (wp_whole (defs := defs) 𝒱 c bd Es arg5 hz2) $$ H4
    iintro H4
    iapply (wp_fill (defs := defs) 𝒱 c bd Es arg5 hz2) $$ H4
    iintro H4
    simp only [dif_neg h1, bind_assoc, pure_bind]
    iapply (wp_whole (defs := defs) 𝒱 c bd Es arg6 hz2) $$ H5
    iintro H5
    iapply (wp_whole (defs := defs) 𝒱 c bd Es arg6 hz2) $$ H5
    iintro H5
    iapply (wp_fill (defs := defs) 𝒱 c bd Es arg6 hz2) $$ H5
    iintro H5
    rw [wp_pure]
    imodintro
    iapply HQ
    iframe

end

end Cert.Proof.Mix
-- ==== Proof.MixRun.lean ====
module

public import proofs.«01_k».proof.Proof.Bodies
public import proofs.«01_k».proof.Proof.MixStep
public import proofs.«01_k».proof.Proof.Gen.Kernel3Ideal.Launch
public import proofs.«01_k».proof.Proof.Gen.Kernel3Ideal.Points
public import Idealize.ShloMosaic.Lib.Pipeline.Value

@[expose] public section

set_option synthInstance.maxSize 4096
set_option maxRecDepth 65536

noncomputable section

/-! What each of the eight calls leaves in its arrays, at any contents it is entered with. -/

namespace Cert.Proof.Mix

open Cert.Kernel3Ideal Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Bodies (before_in body_of body_acc left_of)
open Cert.Proof.Steps (accOf_start accOf_next first_iff later_iff isFirst isLater)
open Idealize.ShloMosaic.Pipeline (Dat Cfg Window BodyObligation)

variable {F : FTy → Type} [FloatOps F]

/-- The pipelines' bookkeeping, and nothing else of note beside it. -/
abbrev UU : Type := UR sig nD τ × UR sig nD τ
local notation "𝕄" => MT nD τ sig Unit (Elt F) ℕ UU ℕ
abbrev EP : Emb (UR sig nD τ) (MT nD τ sig Unit (Elt F) ℕ UU ℕ) := embL
abbrev 𝒱₀ : Variants := Variants.none

/-- What every buffer of a core holds. -/
abbrev Val0 (F : FTy → Type) := (c : Dev nD) → (b : Ref sig .tc) → Buf (Elt F) ((c : Thread nD τ).loc b)

variable (V : Val0 F) (c : Dev nD)

/-! ### Call 0 -/

/-- The block of window `w`'s array at a point. -/
def blk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t : Vec F S832x1024 .f32) (blk0 V c 1 t : Vec F S1x1024 .f32)
  Φ _ := Pipeline.scopedRest (Ix := Unit) (Name := ℕ) (U := UU) (Lvl := ℕ) (Val := Elt F) spec0 c
  q _ := fullShare
  owed _ := 0

theorem before0_0 (t : Fin cfg0.N) (d) : (dat0 V c).before 0 t d = blk0 V c 0 t :=
  before_in (dat0 V c) 0 t d
theorem before0_1 (t : Fin cfg0.N) (d) : (dat0 V c).before 1 t d = blk0 V c 1 t :=
  before_in (dat0 V c) 1 t d

theorem body0 : BodyObligation (dat0 V c) (defs₀ (F := F)) 𝒱₀ () Set.univ :=
  body_of _ _ _ fun t x Q => by
  rw [bigSep_W0, bigSep_W0, before0_0, before0_1]
  exact wp_k0 (Q := fun _ => Q) 𝒱₀ c none _ (grid0.coords t) _ (hstage0_0 _) _ (hstage0_1 _) _ (hstage0_2 _) _ _ _

/-! ### Call 1 -/

/-- The block of window `w`'s array at a point. -/
def blk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t : Vec F S640x1024 .bf16) (blk1 V c 1 t : Vec F S1024x896 .bf16)
  Φ _ := Pipeline.scopedRest (Ix := Unit) (Name := ℕ) (U := UU) (Lvl := ℕ) (Val := Elt F) spec1 c
  q _ := fullShare
  owed _ := 0

theorem before1_0 (t : Fin cfg1.N) (d) : (dat1 V c).before 0 t d = blk1 V c 0 t :=
  before_in (dat1 V c) 0 t d
theorem before1_1 (t : Fin cfg1.N) (d) : (dat1 V c).before 1 t d = blk1 V c 1 t :=
  before_in (dat1 V c) 1 t d

theorem body1 : BodyObligation (dat1 V c) (defs₀ (F := F)) 𝒱₀ () Set.univ :=
  body_of _ _ _ fun t x Q => by
  rw [bigSep_W1, bigSep_W1, before1_0, before1_1]
  exact wp_k1 (Q := fun _ => Q) 𝒱₀ c none _ (grid1.coords t) _ (hstage1_0 _) _ (hstage1_1 _) _ (hstage1_2 _) _ _ _

/-! ### Call 2 -/

/-- The block of window `w`'s array at a point. -/
def blk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 : Dat τ (Elt F) Unit ℕ UU ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => k2_pay1 (blk2 V c 0 t : Vec F S640x2048 .bf16) (blk2 V c 1 t : Vec F S2048x1024 .bf16) (blk2 V c 2 t : Vec F S640x1024 .f32)
  Φ _ := Pipeline.scopedRest (Ix := Unit) (Name := ℕ) (U := UU) (Lvl := ℕ) (Val := Elt F) spec2 c
  q _ := fullShare
  owed _ := 0

theorem before2_0 (t : Fin cfg2.N) (d) : (dat2 V c).before 0 t d = blk2 V c 0 t :=
  before_in (dat2 V c) 0 t d
theorem before2_1 (t : Fin cfg2.N) (d) : (dat2 V c).before 1 t d = blk2 V c 1 t :=
  before_in (dat2 V c) 1 t d
theorem before2_2 (t : Fin cfg2.N) (d) : (dat2 V c).before 2 t d = blk2 V c 2 t :=
  before_in (dat2 V c) 2 t d

theorem body2 : BodyObligation (dat2 V c) (defs₀ (F := F)) 𝒱₀ () Set.univ :=
  body_of _ _ _ fun t x Q => by
  rw [bigSep_W2, bigSep_W2, before2_0, before2_1, before2_2]
  exact wp_k2 (Q := fun _ => Q) 𝒱₀ c none _ (grid2.coords t) _ (hstage2_0 _) _ (hstage2_1 _) _ (hstage2_2 _) _ (hstage2_3 _) _ _ _ _

/-! ### Call 3 -/

/-- The block of window `w`'s array at a point. -/
def blk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ UU ℕ cfg3 c where
  A w := V c (Pipeline.arrRef spec3 w)
  after w t := match w with
    | ⟨0, _⟩ => blk3 V c 0 t
    | ⟨1, _⟩ => blk3 V c 1 t
    | ⟨2, _⟩ => k3_pay1 (blk3 V c 0 t : Vec F S640x1024 .f32) (blk3 V c 1 t : Vec F S1024x1024 .bf16)
  Φ _ := Pipeline.scopedRest (Ix := Unit) (Name := ℕ) (U := UU) (Lvl := ℕ) (Val := Elt F) spec3 c
  q _ := fullShare
  owed _ := 0

theorem before3_0 (t : Fin cfg3.N) (d) : (dat3 V c).before 0 t d = blk3 V c 0 t :=
  before_in (dat3 V c) 0 t d
theorem before3_1 (t : Fin cfg3.N) (d) : (dat3 V c).before 1 t d = blk3 V c 1 t :=
  before_in (dat3 V c) 1 t d

theorem body3 : BodyObligation (dat3 V c) (defs₀ (F := F)) 𝒱₀ () Set.univ :=
  body_of _ _ _ fun t x Q => by
  rw [bigSep_W3, bigSep_W3, before3_0, before3_1]
  exact wp_k3 (Q := fun _ => Q) 𝒱₀ c none _ (grid3.coords t) _ (hstage3_0 _) _ (hstage3_1 _) _ (hstage3_2 _) _ _ _

/-! ### Call 4 -/

/-- The block of window `w`'s array at a point. -/
def blk4 (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds before a point that is not the first of its contraction. -/
def scr4 : ℕ → Vec F S1024x1024 .f32
  | 0 => fun _ => Scalar.ofBits .f32 0x00000000#32
  | n + 1 => if h : n < cfg4.N then acc4 (grid4.coords ⟨n, h⟩) (blk4 V c 0 ⟨n, h⟩ : Vec F S640x1024 .bf16) (blk4 V c 1 ⟨n, h⟩ : Vec F S640x1024 .f32) (scr4 n) else scr4 n

theorem scr4_succ (t : Fin cfg4.N) :
    scr4 V c (t.val + 1) = acc4 (grid4.coords t) (blk4 V c 0 t : Vec F S640x1024 .bf16) (blk4 V c 1 t : Vec F S640x1024 .f32) (scr4 V c t.val) := by
  rw [scr4, dif_pos t.isLt]

/-- The accumulator before a point, beside the other scoped buffers. -/
def Phi4 (n : ℕ) : sProp 𝕄 :=
  iprop((∃ d : Vec F S1024x1024 .f32, ⌜n % 13 ≠ 0 → d = scr4 V c n⌝ ∗ owns (c : Thread nD τ) (Memref.whole cc4_scratch0) fullShare d) ∗ Pipeline.scopedRestBut (Ix := Unit) (Name := ℕ) (U := UU) (Lvl := ℕ) (Val := Elt F) spec4 c [cc4_scratch0])

def dat4 : Dat τ (Elt F) Unit ℕ UU ℕ cfg4 c where
  A w := V c (Pipeline.arrRef spec4 w)
  after w t := match w with
    | ⟨0, _⟩ => blk4 V c 0 t
    | ⟨1, _⟩ => blk4 V c 1 t
    | ⟨2, _⟩ => scr4 V c (t.val + 1)
  Φ t := Phi4 V c t.val
  q _ := fullShare
  owed _ := 0

theorem before4_0 (t : Fin cfg4.N) (d) : (dat4 V c).before 0 t d = blk4 V c 0 t :=
  before_in (dat4 V c) 0 t d
theorem before4_1 (t : Fin cfg4.N) (d) : (dat4 V c).before 1 t d = blk4 V c 1 t :=
  before_in (dat4 V c) 1 t d

theorem coord4 (t : Fin cfg4.N) : (grid4.coords t 2).val = t.val % 13 := by
  rw [Pipeline.Grid.coords_val t 2 (S := 1) (B := 13) (by decide) rfl, Nat.div_one]

theorem last4 : ∀ t : Fin grid4.N, k4_cond3 (grid4.coords t) = 1#1 ↔ t.val % 13 = 12 := by decide +kernel

/-- The first step along a contraction replaces what the accumulator held. -/
theorem acc4_start (t : Fin cfg4.N) (h : t.val % 13 = 0) (x : Vec F S640x1024 .bf16) (y : Vec F S640x1024 .f32) (s : Vec F S1024x1024 .f32) :
    acc4 (grid4.coords t) x y s = k4_pay2 x y :=
  accOf_start ((coord4 t).trans h) _ _ _

/-- A later one adds to it. -/
theorem acc4_next (t : Fin cfg4.N) (h : t.val % 13 ≠ 0) (x : Vec F S640x1024 .bf16) (y : Vec F S640x1024 .f32) (s : Vec F S1024x1024 .f32) :
    acc4 (grid4.coords t) x y s = k4_pay3 x y s :=
  accOf_next (by rw [coord4]; omega) (by rw [coord4]; exact h) _ _ _

theorem point4 (t : Fin cfg4.N) (s : Vec F S1024x1024 .f32) (hs : t.val % 13 ≠ 0 → s = scr4 V c t.val) :
    acc4 (grid4.coords t) (blk4 V c 0 t : Vec F S640x1024 .bf16) (blk4 V c 1 t : Vec F S640x1024 .f32) s = scr4 V c (t.val + 1) := by
  rw [scr4_succ]
  by_cases h : t.val % 13 = 0
  · rw [acc4_start t h, acc4_start t h]
  · rw [hs h]

theorem left4 (t : Fin cfg4.N) (s : Vec F S1024x1024 .f32) (hs : t.val % 13 ≠ 0 → s = scr4 V c t.val) (d) :
    owns (c : Thread nD τ) (win4_2.stage (cfg4.slots t 2)) fullShare (res4 (grid4.coords t) (blk4 V c 0 t : Vec F S640x1024 .bf16) (blk4 V c 1 t : Vec F S640x1024 .f32) s ((dat4 V c).before 2 t d : Vec F S1024x1024 .f32))
      ⊢ ((dat4 V c).leavesExact 2 t : sProp 𝕄) :=
  left_of (dat4 V c) 2 t (k4_cond3 (grid4.coords t)) rfl (fun e => (last4 t).mpr ((flush4_2 t).mp e)) (point4 V c t s hs) d

theorem body4 : BodyObligation (dat4 V c) (defs₀ (F := F)) 𝒱₀ () Set.univ :=
  body_acc _ _ _ (Memref.whole cc4_scratch0) (fun n a => n % 13 ≠ 0 → a = scr4 V c n) _ (fun _ => rfl) 0 1 2 bigSep_W4 fun t x0 x1 x2 a ha => by
    rw [before4_0, before4_1]
    exact ⟨_, _, _, _, fun Q => wp_k4 (Q := fun _ => Q) 𝒱₀ c none _ (grid4.coords t) _ (hstage4_0 _) _ (hstage4_1 _) _ (hstage4_2 _) _ (Memref.isWhole_whole _) _ _ _ _,
      fun _ => point4 V c t a ha, .rfl, .rfl, left4 V c t a ha x2⟩

/-! ### Call 5 -/

/-- The block of window `w`'s array at a point. -/
def blk5 (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds before a point that is not the first of its contraction. -/
def scr5 : ℕ → Vec F S1024x896 .f32
  | 0 => fun _ => Scalar.ofBits .f32 0x00000000#32
  | n + 1 => if h : n < cfg5.N then acc5 (grid5.coords ⟨n, h⟩) (blk5 V c 0 ⟨n, h⟩ : Vec F S640x1024 .bf16) (blk5 V c 1 ⟨n, h⟩ : Vec F S640x896 .f32) (scr5 n) else scr5 n

theorem scr5_succ (t : Fin cfg5.N) :
    scr5 V c (t.val + 1) = acc5 (grid5.coords t) (blk5 V c 0 t : Vec F S640x1024 .bf16) (blk5 V c 1 t : Vec F S640x896 .f32) (scr5 V c t.val) := by
  rw [scr5, dif_pos t.isLt]

/-- The accumulator before a point, beside the other scoped buffers. -/
def Phi5 (n : ℕ) : sProp 𝕄 :=
  iprop((∃ d : Vec F S1024x896 .f32, ⌜n % 13 ≠ 0 → d = scr5 V c n⌝ ∗ owns (c : Thread nD τ) (Memref.whole cc5_scratch0) fullShare d) ∗ Pipeline.scopedRestBut (Ix := Unit) (Name := ℕ) (U := UU) (Lvl := ℕ) (Val := Elt F) spec5 c [cc5_scratch0])

def dat5 : Dat τ (Elt F) Unit ℕ UU ℕ cfg5 c where
  A w := V c (Pipeline.arrRef spec5 w)
  after w t := match w with
    | ⟨0, _⟩ => blk5 V c 0 t
    | ⟨1, _⟩ => blk5 V c 1 t
    | ⟨2, _⟩ => scr5 V c (t.val + 1)
  Φ t := Phi5 V c t.val
  q _ := fullShare
  owed _ := 0

theorem before5_0 (t : Fin cfg5.N) (d) : (dat5 V c).before 0 t d = blk5 V c 0 t :=
  before_in (dat5 V c) 0 t d
theorem before5_1 (t : Fin cfg5.N) (d) : (dat5 V c).before 1 t d = blk5 V c 1 t :=
  before_in (dat5 V c) 1 t d

theorem coord5 (t : Fin cfg5.N) : (grid5.coords t 2).val = t.val % 13 := by
  rw [Pipeline.Grid.coords_val t 2 (S := 1) (B := 13) (by decide) rfl, Nat.div_one]

theorem last5 : ∀ t : Fin grid5.N, k5_cond3 (grid5.coords t) = 1#1 ↔ t.val % 13 = 12 := by decide +kernel

/-- The first step along a contraction replaces what the accumulator held. -/
theorem acc5_start (t : Fin cfg5.N) (h : t.val % 13 = 0) (x : Vec F S640x1024 .bf16) (y : Vec F S640x896 .f32) (s : Vec F S1024x896 .f32) :
    acc5 (grid5.coords t) x y s = k5_pay2 x y :=
  accOf_start ((coord5 t).trans h) _ _ _

/-- A later one adds to it. -/
theorem acc5_next (t : Fin cfg5.N) (h : t.val % 13 ≠ 0) (x : Vec F S640x1024 .bf16) (y : Vec F S640x896 .f32) (s : Vec F S1024x896 .f32) :
    acc5 (grid5.coords t) x y s = k5_pay3 x y s :=
  accOf_next (by rw [coord5]; omega) (by rw [coord5]; exact h) _ _ _

theorem point5 (t : Fin cfg5.N) (s : Vec F S1024x896 .f32) (hs : t.val % 13 ≠ 0 → s = scr5 V c t.val) :
    acc5 (grid5.coords t) (blk5 V c 0 t : Vec F S640x1024 .bf16) (blk5 V c 1 t : Vec F S640x896 .f32) s = scr5 V c (t.val + 1) := by
  rw [scr5_succ]
  by_cases h : t.val % 13 = 0
  · rw [acc5_start t h, acc5_start t h]
  · rw [hs h]

theorem left5 (t : Fin cfg5.N) (s : Vec F S1024x896 .f32) (hs : t.val % 13 ≠ 0 → s = scr5 V c t.val) (d) :
    owns (c : Thread nD τ) (win5_2.stage (cfg5.slots t 2)) fullShare (res5 (grid5.coords t) (blk5 V c 0 t : Vec F S640x1024 .bf16) (blk5 V c 1 t : Vec F S640x896 .f32) s ((dat5 V c).before 2 t d : Vec F S1024x896 .f32))
      ⊢ ((dat5 V c).leavesExact 2 t : sProp 𝕄) :=
  left_of (dat5 V c) 2 t (k5_cond3 (grid5.coords t)) rfl (fun e => (last5 t).mpr ((flush5_2 t).mp e)) (point5 V c t s hs) d

theorem body5 : BodyObligation (dat5 V c) (defs₀ (F := F)) 𝒱₀ () Set.univ :=
  body_acc _ _ _ (Memref.whole cc5_scratch0) (fun n a => n % 13 ≠ 0 → a = scr5 V c n) _ (fun _ => rfl) 0 1 2 bigSep_W5 fun t x0 x1 x2 a ha => by
    rw [before5_0, before5_1]
    exact ⟨_, _, _, _, fun Q => wp_k5 (Q := fun _ => Q) 𝒱₀ c none _ (grid5.coords t) _ (hstage5_0 _) _ (hstage5_1 _) _ (hstage5_2 _) _ (Memref.isWhole_whole _) _ _ _ _,
      fun _ => point5 V c t a ha, .rfl, .rfl, left5 V c t a ha x2⟩

/-! ### Call 6 -/

/-- The block of window `w`'s array at a point. -/
def blk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 : Dat τ (Elt F) Unit ℕ UU ℕ cfg6 c where
  A w := V c (Pipeline.arrRef spec6 w)
  after w t := match w with
    | ⟨0, _⟩ => blk6 V c 0 t
    | ⟨1, _⟩ => blk6 V c 1 t
    | ⟨2, _⟩ => k6_pay1 (blk6 V c 0 t : Vec F S320x6272 .f32) (blk6 V c 1 t : Vec F S512x6272 .bf16)
  Φ _ := Pipeline.scopedRest (Ix := Unit) (Name := ℕ) (U := UU) (Lvl := ℕ) (Val := Elt F) spec6 c
  q _ := fullShare
  owed _ := 0

theorem before6_0 (t : Fin cfg6.N) (d) : (dat6 V c).before 0 t d = blk6 V c 0 t :=
  before_in (dat6 V c) 0 t d
theorem before6_1 (t : Fin cfg6.N) (d) : (dat6 V c).before 1 t d = blk6 V c 1 t :=
  before_in (dat6 V c) 1 t d

theorem body6 : BodyObligation (dat6 V c) (defs₀ (F := F)) 𝒱₀ () Set.univ :=
  body_of _ _ _ fun t x Q => by
  rw [bigSep_W6, bigSep_W6, before6_0, before6_1]
  exact wp_k6 (Q := fun _ => Q) 𝒱₀ c none _ (grid6.coords t) _ (hstage6_0 _) _ (hstage6_1 _) _ (hstage6_2 _) _ _ _

/-! ### Call 7 -/

/-- The block of window `w`'s array at a point. -/
def blk7 (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the row of sums holds before a point. -/
def row7 : ℕ → Vec F S1x1024 .f32
  | 0 => fun _ => Scalar.ofBits .f32 0x00000000#32
  | n + 1 => if h : n < cfg7.N then acc7 (grid7.coords ⟨n, h⟩) (blk7 V c 0 ⟨n, h⟩ : Vec F S416x1024 .f32) (blk7 V c 1 ⟨n, h⟩ : Vec F S416x1024 .f32) (row7 n) else row7 n

theorem row7_succ (t : Fin cfg7.N) :
    row7 V c (t.val + 1) = acc7 (grid7.coords t) (blk7 V c 0 t : Vec F S416x1024 .f32) (blk7 V c 1 t : Vec F S416x1024 .f32) (row7 V c t.val) := by
  rw [row7, dif_pos t.isLt]

def dat7 : Dat τ (Elt F) Unit ℕ UU ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => k7_pay5 (blk7 V c 1 t : Vec F S416x1024 .f32) (blk7 V c 0 t : Vec F S416x1024 .f32) (blk7 V c 2 t : Vec F S1x1024 .f32) (blk7 V c 3 t : Vec F S416x1024 .f32)
    | ⟨5, _⟩ => row7 V c (t.val + 1)
  Φ _ := Pipeline.scopedRest (Ix := Unit) (Name := ℕ) (U := UU) (Lvl := ℕ) (Val := Elt F) spec7 c
  q _ := fullShare
  owed _ := 0

theorem before7_0 (t : Fin cfg7.N) (d) : (dat7 V c).before 0 t d = blk7 V c 0 t :=
  before_in (dat7 V c) 0 t d
theorem before7_1 (t : Fin cfg7.N) (d) : (dat7 V c).before 1 t d = blk7 V c 1 t :=
  before_in (dat7 V c) 1 t d
theorem before7_2 (t : Fin cfg7.N) (d) : (dat7 V c).before 2 t d = blk7 V c 2 t :=
  before_in (dat7 V c) 2 t d
theorem before7_3 (t : Fin cfg7.N) (d) : (dat7 V c).before 3 t d = blk7 V c 3 t :=
  before_in (dat7 V c) 3 t d

theorem point7 (t : Fin cfg7.N) (x h : Vec F S416x1024 .f32) (d) :
    acc7 (grid7.coords t) x h ((dat7 V c).before 5 t d : Vec F S1x1024 .f32) = acc7 (grid7.coords t) x h (row7 V c t.val) := by
  have ec : (grid7.coords t 0).val = t.val % 20 := by
    rw [Pipeline.Grid.coords_val t 0 (S := 1) (B := 20) (by decide) rfl, Nat.div_one]
  have hN : t.val < 20 := lt_of_lt_of_eq t.isLt (show cfg7.N = 20 from N_7)
  unfold acc7
  by_cases h0 : t.val = 0
  · have e : isFirst (grid7.coords t 0).val := (first_iff ⟨(grid7.coords t 0).val, by rw [ec]; exact Nat.mod_lt _ (by decide)⟩).mpr (by show (grid7.coords t 0).val = 0; rw [ec, h0])
    rw [if_pos e, if_pos e]
  · rw [(dat7 V c).before_out_kept 5 rfl t h0 (by
      rw [← Bool.not_eq_true]; intro e; have := (flush7_5 _).mp e; dsimp only at this; omega) (fun _ => rfl) (fun _ _ => rfl) d]
    show k7_pay1 (k7_pay7 (if _ then k7_pay6 else row7 V c (t.val - 1 + 1))) _ = _
    rw [Nat.sub_add_cancel (Nat.one_le_iff_ne_zero.mpr h0)]

theorem body7 : BodyObligation (dat7 V c) (defs₀ (F := F)) 𝒱₀ () Set.univ :=
  body_of _ _ _ fun t x Q => by
  rw [bigSep_W7, bigSep_W7, before7_0, before7_1, before7_2, before7_3]
  have e : acc7 (grid7.coords t) (blk7 V c 0 t : Vec F S416x1024 .f32) (blk7 V c 1 t : Vec F S416x1024 .f32) ((dat7 V c).before 5 t (x 5) : Vec F S1x1024 .f32) = row7 V c (t.val + 1) :=
    (point7 V c t _ _ (x 5)).trans (row7_succ V c t).symm
  refine (wp_k7 (defs := defs₀) (Q := fun _ => Q) 𝒱₀ c none Set.univ (grid7.coords t) _ (hstage7_0 _) _ (hstage7_1 _) _ (hstage7_2 _) _ (hstage7_3 _) _ (hstage7_4 _) _ (hstage7_5 _) (blk7 V c 0 t) (blk7 V c 1 t) (blk7 V c 2 t) (blk7 V c 3 t) ((dat7 V c).before 4 t (x 4)) ((dat7 V c).before 5 t (x 5))).trans ?_
  rw [e]
  exact .rfl

end Cert.Proof.Mix
-- ==== Proof.MixLaunch.lean ====
module

public import proofs.«01_k».proof.Proof.MixRun
public import proofs.«01_k».proof.Proof.Gen.Kernel3Ideal.Regions
public import proofs.«01_k».proof.Proof.Segs

@[expose] public section

set_option synthInstance.maxSize 4096
set_option maxRecDepth 65536

noncomputable section

/-! The launch: the eight calls as the program's eight segments, and what the program ends with. -/

namespace Cert.Proof.Mix

open Cert.Kernel3Ideal Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The operands. -/
abbrev args : List (Ref sig .tc) := [main_arg0, main_arg1, main_arg2, main_arg3, main_arg4, main_arg5, main_arg6]
/-- The contents at launch. -/
abbrev U0 (c : Dev nD) : Valuation τ sig (Elt F) := V0 m c
abbrev W0 : Val0 F := fun c b => U0 m c b

/-! ### After call 0 -/

def o_v0 : Buf (Elt F) ((c : Thread nD τ).loc main_v0) := (dat0 (W0 m) c).arrAt 2 cfg0.N
def U1 : Valuation τ sig (Elt F) := (Function.update (U0 m c) main_v0 (o_v0 m c))
abbrev W1 : Val0 F := fun c b => U1 m c b

theorem U1_of (r : Ref sig .tc) (h0 : r ≠ main_v0) : U1 m c r = U0 m c r := Segs.upd_of _ _ h0
theorem U1_arg (r : Ref sig .tc) (h : r ∈ args) : U1 m c r = m ((c : Thread nD τ).loc r) :=
  (U1_of m c r (ne_of_mem_of_not_mem h (by decide)))
theorem U1_v0 : U1 m c main_v0 = o_v0 m c := Function.update_self _ _ _

/-! ### After call 1 -/

def o_v1 : Buf (Elt F) ((c : Thread nD τ).loc main_v1) := (dat1 (W1 m) c).arrAt 2 cfg1.N
def U2 : Valuation τ sig (Elt F) := (Function.update (U1 m c) main_v1 (o_v1 m c))
abbrev W2 : Val0 F := fun c b => U2 m c b

theorem U2_of (r : Ref sig .tc) (h0 : r ≠ main_v1) : U2 m c r = U1 m c r := Segs.upd_of _ _ h0
theorem U2_arg (r : Ref sig .tc) (h : r ∈ args) : U2 m c r = m ((c : Thread nD τ).loc r) :=
  (U2_of m c r (ne_of_mem_of_not_mem h (by decide))).trans (U1_arg m c r h)
theorem U2_v1 : U2 m c main_v1 = o_v1 m c := Function.update_self _ _ _

/-! ### After call 2 -/

def o_v2 : Buf (Elt F) ((c : Thread nD τ).loc main_v2) := (dat2 (W2 m) c).arrAt 3 cfg2.N
def U3 : Valuation τ sig (Elt F) := (Function.update (U2 m c) main_v2 (o_v2 m c))
abbrev W3 : Val0 F := fun c b => U3 m c b

theorem U3_of (r : Ref sig .tc) (h0 : r ≠ main_v2) : U3 m c r = U2 m c r := Segs.upd_of _ _ h0
theorem U3_arg (r : Ref sig .tc) (h : r ∈ args) : U3 m c r = m ((c : Thread nD τ).loc r) :=
  (U3_of m c r (ne_of_mem_of_not_mem h (by decide))).trans (U2_arg m c r h)
theorem U3_v2 : U3 m c main_v2 = o_v2 m c := Function.update_self _ _ _

/-! ### After call 3 -/

def o_v3 : Buf (Elt F) ((c : Thread nD τ).loc main_v3) := (dat3 (W3 m) c).arrAt 2 cfg3.N
def U4 : Valuation τ sig (Elt F) := (Function.update (U3 m c) main_v3 (o_v3 m c))
abbrev W4 : Val0 F := fun c b => U4 m c b

theorem U4_of (r : Ref sig .tc) (h0 : r ≠ main_v3) : U4 m c r = U3 m c r := Segs.upd_of _ _ h0
theorem U4_arg (r : Ref sig .tc) (h : r ∈ args) : U4 m c r = m ((c : Thread nD τ).loc r) :=
  (U4_of m c r (ne_of_mem_of_not_mem h (by decide))).trans (U3_arg m c r h)
theorem U4_v3 : U4 m c main_v3 = o_v3 m c := Function.update_self _ _ _

/-! ### After call 4 -/

def o_v4 : Buf (Elt F) ((c : Thread nD τ).loc main_v4) := (dat4 (W4 m) c).arrAt 2 cfg4.N
def U5 : Valuation τ sig (Elt F) := (Function.update (U4 m c) main_v4 (o_v4 m c))
abbrev W5 : Val0 F := fun c b => U5 m c b

theorem U5_of (r : Ref sig .tc) (h0 : r ≠ main_v4) : U5 m c r = U4 m c r := Segs.upd_of _ _ h0
theorem U5_arg (r : Ref sig .tc) (h : r ∈ args) : U5 m c r = m ((c : Thread nD τ).loc r) :=
  (U5_of m c r (ne_of_mem_of_not_mem h (by decide))).trans (U4_arg m c r h)
theorem U5_v4 : U5 m c main_v4 = o_v4 m c := Function.update_self _ _ _

/-! ### After call 5 -/

def o_v5 : Buf (Elt F) ((c : Thread nD τ).loc main_v5) := (dat5 (W5 m) c).arrAt 2 cfg5.N
def U6 : Valuation τ sig (Elt F) := (Function.update (U5 m c) main_v5 (o_v5 m c))
abbrev W6 : Val0 F := fun c b => U6 m c b

theorem U6_of (r : Ref sig .tc) (h0 : r ≠ main_v5) : U6 m c r = U5 m c r := Segs.upd_of _ _ h0
theorem U6_arg (r : Ref sig .tc) (h : r ∈ args) : U6 m c r = m ((c : Thread nD τ).loc r) :=
  (U6_of m c r (ne_of_mem_of_not_mem h (by decide))).trans (U5_arg m c r h)
theorem U6_v5 : U6 m c main_v5 = o_v5 m c := Function.update_self _ _ _

/-! ### After call 6 -/

def o_v6 : Buf (Elt F) ((c : Thread nD τ).loc main_v6) := (dat6 (W6 m) c).arrAt 2 cfg6.N
def U7 : Valuation τ sig (Elt F) := (Function.update (U6 m c) main_v6 (o_v6 m c))
abbrev W7 : Val0 F := fun c b => U7 m c b

theorem U7_of (r : Ref sig .tc) (h0 : r ≠ main_v6) : U7 m c r = U6 m c r := Segs.upd_of _ _ h0
theorem U7_arg (r : Ref sig .tc) (h : r ∈ args) : U7 m c r = m ((c : Thread nD τ).loc r) :=
  (U7_of m c r (ne_of_mem_of_not_mem h (by decide))).trans (U6_arg m c r h)
theorem U7_v6 : U7 m c main_v6 = o_v6 m c := Function.update_self _ _ _

/-! ### After call 7 -/

def o_v7_0 : Buf (Elt F) ((c : Thread nD τ).loc main_v7_0) := (dat7 (W7 m) c).arrAt 4 cfg7.N
def o_v7_1 : Buf (Elt F) ((c : Thread nD τ).loc main_v7_1) := (dat7 (W7 m) c).arrAt 5 cfg7.N
def U8 : Valuation τ sig (Elt F) := (Function.update (Function.update (U7 m c) main_v7_0 (o_v7_0 m c)) main_v7_1 (o_v7_1 m c))
abbrev W8 : Val0 F := fun c b => U8 m c b

theorem U8_of (r : Ref sig .tc) (h0 : r ≠ main_v7_0) (h1 : r ≠ main_v7_1) : U8 m c r = U7 m c r := (Segs.upd_of _ _ h1).trans (Segs.upd_of _ _ h0)
theorem U8_arg (r : Ref sig .tc) (h : r ∈ args) : U8 m c r = m ((c : Thread nD τ).loc r) :=
  (U8_of m c r (ne_of_mem_of_not_mem h (by decide)) (ne_of_mem_of_not_mem h (by decide))).trans (U7_arg m c r h)
theorem U8_v7_0 : U8 m c main_v7_0 = o_v7_0 m c := (Segs.upd_of _ _ (by decide)).trans (Function.update_self _ _ _)
theorem U8_v7_1 : U8 m c main_v7_1 = o_v7_1 m c := Function.update_self _ _ _

/-- The calls' data. -/
def pdats : (p : Fin 8) → (c : Dev nD) → Dat τ (Elt F) Unit ℕ UU ℕ (cfgs p) c
  | 0 => fun c => dat0 (W0 m) c
  | 1 => fun c => dat1 (W1 m) c
  | 2 => fun c => dat2 (W2 m) c
  | 3 => fun c => dat3 (W3 m) c
  | 4 => fun c => dat4 (W4 m) c
  | 5 => fun c => dat5 (W5 m) c
  | 6 => fun c => dat6 (W6 m) c
  | 7 => fun c => dat7 (W7 m) c
  | ⟨_ + 8, h⟩ => absurd h (by omega)

abbrev L : GSem nD τ sig → Finset Unit := fun _ => ∅
abbrev lv : GSem nD τ sig → Unit → ℕ := fun _ _ => 0
/-! ### The calls as segments -/

theorem goes0 : Segs.Goes (cfgs := cfgs) 0 (pdats m) (U0 m) (U1 m) :=
  .one launch0 2 (by decide) fun _ => rfl

set_option backward.isDefEq.respectTransparency.types false in
def reg0 : RegionSeg (pcfgs (F := F)) adm (pdats m) () defs₀ 𝒱₀ L lv 0 :=
  Segs.seg (pdats m) defs₀ 𝒱₀ L lv launch0.to₀ (by decide) (body0 (W0 m)) (goes0 m) (fun _ => .rfl) (fun _ => .rfl)

theorem goes1 : Segs.Goes (cfgs := cfgs) 1 (pdats m) (U1 m) (U2 m) :=
  .one launch1 2 (by decide) fun _ => rfl

set_option backward.isDefEq.respectTransparency.types false in
def reg1 : RegionSeg (pcfgs (F := F)) adm (pdats m) () defs₀ 𝒱₀ L lv 1 :=
  Segs.seg (pdats m) defs₀ 𝒱₀ L lv launch1.to₀ (by decide) (body1 (W1 m)) (goes1 m) (fun _ => .rfl) (fun _ => .rfl)

theorem goes2 : Segs.Goes (cfgs := cfgs) 2 (pdats m) (U2 m) (U3 m) :=
  .one launch2 3 (by decide) fun _ => rfl

set_option backward.isDefEq.respectTransparency.types false in
def reg2 : RegionSeg (pcfgs (F := F)) adm (pdats m) () defs₀ 𝒱₀ L lv 2 :=
  Segs.seg (pdats m) defs₀ 𝒱₀ L lv launch2.to₀ (by decide) (body2 (W2 m)) (goes2 m) (fun _ => .rfl) (fun _ => .rfl)

theorem goes3 : Segs.Goes (cfgs := cfgs) 3 (pdats m) (U3 m) (U4 m) :=
  .one launch3 2 (by decide) fun _ => rfl

set_option backward.isDefEq.respectTransparency.types false in
def reg3 : RegionSeg (pcfgs (F := F)) adm (pdats m) () defs₀ 𝒱₀ L lv 3 :=
  Segs.seg (pdats m) defs₀ 𝒱₀ L lv launch3.to₀ (by decide) (body3 (W3 m)) (goes3 m) (fun _ => .rfl) (fun _ => .rfl)

theorem goes4 : Segs.Goes (cfgs := cfgs) 4 (pdats m) (U4 m) (U5 m) :=
  .one launch4 2 (by decide) fun _ => rfl

set_option backward.isDefEq.respectTransparency.types false in
def reg4 : RegionSeg (pcfgs (F := F)) adm (pdats m) () defs₀ 𝒱₀ L lv 4 :=
  Segs.seg (pdats m) defs₀ 𝒱₀ L lv launch4.to₀ (by decide) (body4 (W4 m)) (goes4 m) (fun c => (Entails.of_eq (scopedRest4_split c)).trans (Segs.scratch_in c cc4_scratch0 fun _ h => absurd rfl h))
    (fun c => (Segs.scratch_out c cc4_scratch0).trans (Entails.of_eq (scopedRest4_split c).symm))

theorem goes5 : Segs.Goes (cfgs := cfgs) 5 (pdats m) (U5 m) (U6 m) :=
  .one launch5 2 (by decide) fun _ => rfl

set_option backward.isDefEq.respectTransparency.types false in
def reg5 : RegionSeg (pcfgs (F := F)) adm (pdats m) () defs₀ 𝒱₀ L lv 5 :=
  Segs.seg (pdats m) defs₀ 𝒱₀ L lv launch5.to₀ (by decide) (body5 (W5 m)) (goes5 m) (fun c => (Entails.of_eq (scopedRest5_split c)).trans (Segs.scratch_in c cc5_scratch0 fun _ h => absurd rfl h))
    (fun c => (Segs.scratch_out c cc5_scratch0).trans (Entails.of_eq (scopedRest5_split c).symm))

theorem goes6 : Segs.Goes (cfgs := cfgs) 6 (pdats m) (U6 m) (U7 m) :=
  .one launch6 2 (by decide) fun _ => rfl

set_option backward.isDefEq.respectTransparency.types false in
def reg6 : RegionSeg (pcfgs (F := F)) adm (pdats m) () defs₀ 𝒱₀ L lv 6 :=
  Segs.seg (pdats m) defs₀ 𝒱₀ L lv launch6.to₀ (by decide) (body6 (W6 m)) (goes6 m) (fun _ => .rfl) (fun _ => .rfl)

theorem left7' : (w : Fin cfg7.W) → (pdats m 7 c).arrAt w cfg7.N = W8 m c (Pipeline.arrRef spec7 w)
  | ⟨0, _⟩ => ((dat7 (W7 m) c).arrAt_in 0 rfl _).trans (U8_of m c main_v6 (by decide) (by decide)).symm
  | ⟨1, _⟩ => ((dat7 (W7 m) c).arrAt_in 1 rfl _).trans (U8_of m c main_arg0 (by decide) (by decide)).symm
  | ⟨2, _⟩ => ((dat7 (W7 m) c).arrAt_in 2 rfl _).trans (U8_of m c main_arg1 (by decide) (by decide)).symm
  | ⟨3, _⟩ => ((dat7 (W7 m) c).arrAt_in 3 rfl _).trans (U8_of m c main_arg6 (by decide) (by decide)).symm
  | ⟨4, _⟩ => (U8_v7_0 m c).symm
  | ⟨5, _⟩ => (U8_v7_1 m c).symm

theorem other7 (b : Ref sig .tc) (hb : b ∉ Finset.univ.image (Pipeline.arrRef spec7)) : W8 m c b = W7 m c b :=
  U8_of m c b (Segs.ne_arr (cfg := cfg7) hb 4) (Segs.ne_arr (cfg := cfg7) hb 5)

theorem goes7 : Segs.Goes (cfgs := cfgs) 7 (pdats m) (U7 m) (U8 m) :=
  ⟨Segs.shares launch7 fun _ _ => rfl, fun _ _ => rfl, fun _ _ => trivial, fun _ _ => rfl, left7' m, other7 m⟩

set_option backward.isDefEq.respectTransparency.types false in
def reg7 : RegionSeg (pcfgs (F := F)) adm (pdats m) () defs₀ 𝒱₀ L lv 7 :=
  Segs.seg (pdats m) defs₀ 𝒱₀ L lv launch7.to₀ (by decide) (body7 (W7 m)) (goes7 m) (fun _ => .rfl) (fun _ => .rfl)

def u₀ : UU := (initOf (Pipeline.cells cfgs cellOf_inj) (Pipeline.launchToks cfgs cellOf_inj), 1)

/-- What a final state holds on a core. -/
def Ends (s : MemSt nD τ sig (Elt F)) : Prop :=
  ∀ b : Ref sig .tc, (Proc.devRef .tc b : DevRef τ sig) ∈ Pipeline.ucRefs τ sig → s.mem ((c : Thread nD τ).loc b) = U8 m c b

set_option backward.isDefEq.respectTransparency.types false in
/-- Every run of the eight calls ends, with every buffer at what the calls leave and every counter at zero. -/
theorem run_main : θ_run defs (onTc (τ := τ) (main (F := F))) ⟨m, fun _ => 0, ρ⟩ (fun r => (∀ c, Ends m c r.2) ∧ r.2.sem = fun _ => 0) :=
  Pipeline.θ_run_regions_kit_sems (pcfgs (F := F)) adm (pdats m) () cellOf_inj EP defs₀ 𝒱₀ L lv m ρ main [.region (reg0 m), .region (reg1 m), .region (reg2 m), .region (reg3 m), .region (reg4 m), .region (reg5 m), .region (reg6 m), .region (reg7 m)]
    (fun c Q => by rw [main_segs adm (pdats m) () 𝒱₀ L lv (reg0 m) (reg1 m) (reg2 m) (reg3 m) (reg4 m) (reg5 m) (reg6 m) (reg7 m) c])
    (by simp only [Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(Segs.Holds (U0 m) c ∗ Segs.R c)) (Tₙ := Segs.Holds (U8 m))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = Segs.Holds (U0 m) c from Pipeline.unscopedBufs_held c (V0 m c)]
      iintro ⟨⟨Hh, -, HO, -, -, -⟩, -⟩
      imodintro
      isplitl [Hh]; · iexact Hh
      iexists ∅; iexact HO)
    (QY := Ends m)
    (hfin := fun c s' => by
      dsimp only [Segs.Holds]; unfold StableHlo.held
      iintro ⟨Hh, HSI⟩
      ihave Hr := (pointsTo_read_all (Pipeline.ucRefs τ sig) (fun b => ((c : Thread nD τ).1, b)) (U8 m c) s') $$ [Hh HSI]
      · isplitl [Hh] <;> iassumption
      icases Hr with ⟨%h, HSI⟩
      imodintro
      isplitr
      · ipureintro
        exact fun b hb => h (Proc.devRef .tc b) hb
      iexact HSI)
    (hQ := fun _ h hz => ⟨h, funext fun g => hz g (.inr (regions_no_unscoped g.2))⟩)

theorem end_at (s : MemSt nD τ sig (Elt F)) (h : Ends m c s) (b : Ref sig .tc) (hb : b.isScoped = false) : s.mem ((c : Thread nD τ).loc b) = U8 m c b :=
  h b (Finset.mem_filter.mpr ⟨StableHlo.devRef_mem_tcRefs b, by rw [Bool.not_eq_true]; exact hb⟩)

theorem end_arg (s : MemSt nD τ sig (Elt F)) (h : Ends m c s) (b : Ref sig .tc) (hb : b ∈ args) :
    s.mem ((c : Thread nD τ).loc b) = m ((c : Thread nD τ).loc b) :=
  (end_at m c s h b (by
    simp only [args, List.mem_cons, List.not_mem_nil, _root_.or_false] at hb
    rcases hb with rfl | rfl | rfl | rfl | rfl | rfl | rfl <;> rfl)).trans (U8_arg m c b hb)

end Cert.Proof.Mix
-- ==== Proof.MixSame.lean ====
module

public import proofs.«01_k».proof.Defs
public import proofs.«01_k».proof.Proof.Gen.Kernel3Ideal
public import proofs.«01_k».proof.Proof.Gen.Kernel3

/-! The program as printed and the program to be read over the reals have one text: a run of one is a run of the other. -/

@[expose] public section

set_option maxHeartbeats 0

namespace Cert.Proof.Mix

open Idealize.ShloMosaic Idealize.SL.Sem

section
set_option maxRecDepth 100000
set_option backward.isDefEq.respectTransparency false

theorem call0_same : @Cert.Kernel3.cc0_m_norm Bits _ _ = @Cert.Kernel3Ideal.cc0_m_norm Bits _ _ := by exact rfl
theorem call1_same : @Cert.Kernel3.cc1_m_inproj Bits _ _ = @Cert.Kernel3Ideal.cc1_m_inproj Bits _ _ := by exact rfl
theorem call2_same : @Cert.Kernel3.cc2_m_outproj Bits _ _ = @Cert.Kernel3Ideal.cc2_m_outproj Bits _ _ := by exact rfl
theorem call3_same : @Cert.Kernel3.cc3_b_dy3 Bits _ _ = @Cert.Kernel3Ideal.cc3_b_dy3 Bits _ _ := by exact rfl
theorem call4_same : @Cert.Kernel3.cc4_b_dwout Bits _ _ = @Cert.Kernel3Ideal.cc4_b_dwout Bits _ _ := by exact rfl
theorem call5_same : @Cert.Kernel3.cc5_b_dwin Bits _ _ = @Cert.Kernel3Ideal.cc5_b_dwin Bits _ _ := by exact rfl
theorem call6_same : @Cert.Kernel3.cc6_b_du0 Bits _ _ = @Cert.Kernel3Ideal.cc6_b_du0 Bits _ _ := by exact rfl
theorem call7_same : @Cert.Kernel3.cc7_b_mnorm Bits _ _ = @Cert.Kernel3Ideal.cc7_b_mnorm Bits _ _ := by exact rfl
end

theorem bodies_same : @Cert.Kernel3.defs₀ Bits _ _ = @Cert.Kernel3Ideal.defs₀ Bits _ _ := by
  unfold Cert.Kernel3.defs₀ Cert.Kernel3Ideal.defs₀
  refine congrArg (Defs.onTc (nD := Cert.Kernel3Ideal.nD) (τ := Cert.Kernel3Ideal.τ) (sig := Cert.Kernel3Ideal.sig) (Λ := Cert.Kernel3Ideal.Λ₀))
    (funext fun l => funext fun a => ?_)
  match l, a with
  | 0, (t, s) => exact (by rw [← call0_same]; rfl)
  | 1, (t, s) => exact (by rw [← call1_same]; rfl)
  | 2, (t, s) => exact (by rw [← call2_same]; rfl)
  | 3, (t, s) => exact (by rw [← call3_same]; rfl)
  | 4, (t, s) => exact (by rw [← call4_same]; rfl)
  | 5, (t, s) => exact (by rw [← call5_same]; rfl)
  | 6, (t, s) => exact (by rw [← call6_same]; rfl)
  | 7, (t, s) => exact (by rw [← call7_same]; rfl)

theorem defs_same : @Cert.Kernel3.defs Bits _ _ = @Cert.Kernel3Ideal.defs Bits _ _ :=
  congrArg (Pipeline.defs (Cert.Kernel3Ideal.pcfgs (F := Bits))) bodies_same

/-- What holds of every run of the one text holds of every run of the other. -/
theorem run_same (m ρ Q) (h : θ_run Cert.Kernel3Ideal.defs (onTc (τ := Cert.Kernel3Ideal.τ) (Cert.Kernel3Ideal.main (F := Bits))) ⟨m, fun _ => 0, ρ⟩ Q) :
    θ_run (Cert.Kernel3.defs (F := Bits)) (onTc (τ := Cert.Kernel3.τ) (Cert.Kernel3.main (F := Bits))) ⟨m, fun _ => 0, ρ⟩ Q := by
  rw [defs_same]; exact h

end Cert.Proof.Mix

end
-- ==== Proof.MixReal.lean ====
module

public import proofs.«01_k».proof.Proof.MixStep
public import Mathlib.Analysis.SpecialFunctions.Pow.NNReal
public import Idealize.ShloMosaic.Lib.Pointwise
public import Idealize.ShloMosaic.Lib.IdealHost

@[expose] public section

set_option maxRecDepth 65536

noncomputable section

/-! What the eight calls' payloads are, entry by entry, on arrays of extended reals. -/

namespace Cert.Proof.Mix

open Cert.Kernel3Ideal Cert.Kernel3Ideal.Gen
open Idealize.ShloMosaic Idealize.SL.Sem
open Finset

/-! ### The functions -/

/-- A row's length, -/
def lenE : EReal := Ideal.ofBits .f32 0x44800000#32
/-- and the small number the normalisation adds. -/
def epsE : EReal := Ideal.ofBits .f32 0x358637BD#32
/-- Mean square of a row, -/
def vr (H : ℕ → ℕ → EReal) (r : ℕ) : EReal := Ideal.div (∑ k ∈ range 1024, H r k * H r k) lenE + epsE
/-- its reciprocal root, -/
def rs (H : ℕ → ℕ → EReal) (r : ℕ) : EReal := Ideal.rsqrt (vr H r)
/-- the row over its root mean square, -/
def xh (H : ℕ → ℕ → EReal) (r k : ℕ) : EReal := H r k * rs H r
/-- and scaled by the gains. -/
def xn (H G : ℕ → ℕ → EReal) (r k : ℕ) : EReal := xh H r k * G 0 k
/-- The three products. -/
def nn (K : ℕ) (A B : ℕ → ℕ → EReal) (r n : ℕ) : EReal := ∑ k ∈ range K, A r k * B k n
def nt (K : ℕ) (A B : ℕ → ℕ → EReal) (r n : ℕ) : EReal := ∑ k ∈ range K, A r k * B n k
def tn (K : ℕ) (A B : ℕ → ℕ → EReal) (r n : ℕ) : EReal := ∑ k ∈ range K, A k r * B k n
/-- A product added to the input. -/
def outR (H P : ℕ → ℕ → EReal) (r k : ℕ) : EReal := H r k + P r k
/-- The norm's gradient, with the residual's, -/
def dhR (H X G D : ℕ → ℕ → EReal) (r k : ℕ) : EReal :=
  D r k + rs H r * (X r k * G 0 k - xh H r k * Ideal.div (∑ l ∈ range 1024, X r l * G 0 l * xh H r l) lenE)
/-- and what some rows give to the gains' gradient. -/
def dgR (N : ℕ) (H X : ℕ → ℕ → EReal) (_ k : ℕ) : EReal := ∑ s ∈ range N, X s k * xh H s k

/-! ### Operations on arrays -/

/-- An array by its entries. -/
def up (a b : ℕ) (φ : FTy) (f : ℕ → ℕ → EReal) : FVec Ideal ⟨2, ![a, b]⟩ φ := fun j => f (j 0).val (j 1).val

/-- Every array is one. -/
theorem up_of {a b : ℕ} {φ : FTy} (x : FVec Ideal ⟨2, ![a, b]⟩ φ) : ∃ f, x = up a b φ f := by
  refine ⟨fun t c => if h : t < a ∧ c < b then x (ValueIdx.ix2 ⟨t, h.1⟩ ⟨c, h.2⟩) else 0, ?_⟩
  funext j
  refine (congrArg x (ValueIdx.eq_ix2 j)).trans (Eq.symm ?_)
  exact dif_pos (⟨(j 0).isLt, (j 1).isLt⟩ : (j 0).val < a ∧ (j 1).val < b)

theorem sum_up {n : ℕ} (f : ℕ → EReal) : (∑ k : Fin n, f k.val) = ∑ k ∈ Finset.range n, f k := Fin.sum_univ_eq_sum_range f n

section Ops
variable {a b : ℕ} {φ : FTy} (f g : ℕ → ℕ → EReal)

theorem add_up : addf (up a b φ f) (up a b φ g) = up a b φ fun r c => f r c + g r c := rfl
theorem sub_up : subf (up a b φ f) (up a b φ g) = up a b φ fun r c => f r c - g r c := rfl
theorem mul_up : mulf (up a b φ f) (up a b φ g) = up a b φ fun r c => f r c * g r c := rfl
theorem div_up : divf (up a b φ f) (up a b φ g) = up a b φ fun r c => Ideal.div (f r c) (g r c) := rfl
theorem rsqrt_up : rsqrt (up a b φ f) = up a b φ fun r c => Ideal.rsqrt (f r c) := rfl
theorem trunc_up (h : FTy.bits .bf16 < FTy.bits .f32) : truncf .bf16 (up a b .f32 f) h = up a b .bf16 f := rfl
theorem ext_up (h : FTy.bits .bf16 < FTy.bits .f32) : extf .f32 (up a b .bf16 f) h = up a b .f32 f := rfl

variable (a b)
theorem b0_up : broadcast ⟨2, ![a, b]⟩ (Scalar.ofBits (F := Ideal) .f32 0x00000000#32) = up a b .f32 fun _ _ => 0 := by
  funext j; exact Ideal.ofBits_zero_f32
theorem blen_up : broadcast ⟨2, ![a, b]⟩ (Scalar.ofBits (F := Ideal) .f32 0x44800000#32) = up a b .f32 fun _ _ => lenE := rfl
theorem beps_up : broadcast ⟨2, ![a, b]⟩ (Scalar.ofBits (F := Ideal) .f32 0x358637BD#32) = up a b .f32 fun _ _ => epsE := rfl
end Ops

theorem same_up {S : Shape} {φ : FTy} (x : FVec Ideal S φ) (h : S.ShapeCasts S) : shapeCast S x h = x := by
  funext j
  pointwise

section Shapes
variable (f g : ℕ → ℕ → EReal)

theorem rows832_up : shapeCast S832x1 (multiReduction .add [1] S832 (up 832 1024 .f32 f) 0x00000000#32 reduces_S832x1024_S832 (.inl rfl) rfl) shapeCasts_S832_S832x1
    = up 832 1 .f32 fun r _ => ∑ k ∈ range 1024, f r k := by
  funext j
  obtain ⟨r, z, rfl⟩ : ∃ (r : Fin 832) (z : Fin 1), j = ValueIdx.ix2 r z := ⟨j 0, j 1, ValueIdx.eq_ix2 j⟩
  pointwise
  exact sum_up (n := 1024) fun k => f r.val k
theorem rows416_up : shapeCast S416x1 (multiReduction .add [1] S416 (up 416 1024 .f32 f) 0x00000000#32 reduces_S416x1024_S416 (.inl rfl) rfl) shapeCasts_S416_S416x1
    = up 416 1 .f32 fun r _ => ∑ k ∈ range 1024, f r k := by
  funext j
  obtain ⟨r, z, rfl⟩ : ∃ (r : Fin 416) (z : Fin 1), j = ValueIdx.ix2 r z := ⟨j 0, j 1, ValueIdx.eq_ix2 j⟩
  pointwise
  exact sum_up (n := 1024) fun k => f r.val k
theorem cols416_up : shapeCast S1x1024 (multiReduction .add [0] S1024 (up 416 1024 .f32 f) 0x00000000#32 reduces_S416x1024_S1024 (.inl rfl) rfl) shapeCasts_S1024_S1x1024
    = up 1 1024 .f32 fun _ k => ∑ r ∈ range 416, f r k := by
  funext j
  obtain ⟨z, k, rfl⟩ : ∃ (z : Fin 1) (k : Fin 1024), j = ValueIdx.ix2 z k := ⟨j 0, j 1, ValueIdx.eq_ix2 j⟩
  pointwise
  exact sum_up (n := 416) fun r => f r k.val
theorem spread832_up : broadcastTo S832x1024 (up 832 1 .f32 f) broadcasts_S832x1_S832x1024 = up 832 1024 .f32 fun r _ => f r 0 := by
  funext j
  obtain ⟨r, k, rfl⟩ : ∃ (r : Fin 832) (k : Fin 1024), j = ValueIdx.ix2 r k := ⟨j 0, j 1, ValueIdx.eq_ix2 j⟩
  pointwise
  rfl
theorem gains832_up : broadcastTo S832x1024 (up 1 1024 .f32 f) broadcasts_S1x1024_S832x1024 = up 832 1024 .f32 fun _ k => f 0 k := by
  funext j
  obtain ⟨r, k, rfl⟩ : ∃ (r : Fin 832) (k : Fin 1024), j = ValueIdx.ix2 r k := ⟨j 0, j 1, ValueIdx.eq_ix2 j⟩
  pointwise
  rfl
theorem spread416_up : broadcastTo S416x1024 (up 416 1 .f32 f) broadcasts_S416x1_S416x1024 = up 416 1024 .f32 fun r _ => f r 0 := by
  funext j
  obtain ⟨r, k, rfl⟩ : ∃ (r : Fin 416) (k : Fin 1024), j = ValueIdx.ix2 r k := ⟨j 0, j 1, ValueIdx.eq_ix2 j⟩
  pointwise
  rfl
theorem gains416_up : broadcastTo S416x1024 (up 1 1024 .f32 f) broadcasts_S1x1024_S416x1024 = up 416 1024 .f32 fun _ k => f 0 k := by
  funext j
  obtain ⟨r, k, rfl⟩ : ∃ (r : Fin 416) (k : Fin 1024), j = ValueIdx.ix2 r k := ⟨j 0, j 1, ValueIdx.eq_ix2 j⟩
  pointwise
  rfl
/-! ### The products -/

theorem mm1_up : matmul dot_S640x1024_S1024x896_S640x896_1_0_0_1_n_n none (up 640 1024 .bf16 f) (up 1024 896 .bf16 g) (constant (F := Ideal) S640x896 .f32 0x00000000#32)
    = up 640 896 .f32 (nn 1024 f g) := by
  funext j
  obtain ⟨r, n, rfl⟩ : ∃ (r : Fin 640) (n : Fin 896), j = ValueIdx.ix2 r n := ⟨j 0, j 1, ValueIdx.eq_ix2 j⟩
  pointwise
  exact sum_up (n := 1024) fun k => f r.val k * g k n.val
theorem mm2_up : matmul dot_S640x2048_S2048x1024_S640x1024_1_0_0_1_n_n none (up 640 2048 .bf16 f) (up 2048 1024 .bf16 g) (constant (F := Ideal) S640x1024 .f32 0x00000000#32)
    = up 640 1024 .f32 (nn 2048 f g) := by
  funext j
  obtain ⟨r, n, rfl⟩ : ∃ (r : Fin 640) (n : Fin 1024), j = ValueIdx.ix2 r n := ⟨j 0, j 1, ValueIdx.eq_ix2 j⟩
  pointwise
  exact sum_up (n := 2048) fun k => f r.val k * g k n.val
theorem mm3_up : matmul dot_S640x1024_S1024x1024_S640x1024_1_1_0_0_n_n none (up 640 1024 .bf16 f) (up 1024 1024 .bf16 g) (constant (F := Ideal) S640x1024 .f32 0x00000000#32)
    = up 640 1024 .f32 (nt 1024 f g) := by
  funext j
  obtain ⟨r, n, rfl⟩ : ∃ (r : Fin 640) (n : Fin 1024), j = ValueIdx.ix2 r n := ⟨j 0, j 1, ValueIdx.eq_ix2 j⟩
  pointwise
  exact sum_up (n := 1024) fun k => f r.val k * g n.val k
theorem mm4_up : matmul dot_S640x1024_S640x1024_S1024x1024_0_0_1_1_n_n none (up 640 1024 .bf16 f) (up 640 1024 .bf16 g) (constant (F := Ideal) S1024x1024 .f32 0x00000000#32)
    = up 1024 1024 .f32 (tn 640 f g) := by
  funext j
  obtain ⟨r, n, rfl⟩ : ∃ (r : Fin 1024) (n : Fin 1024), j = ValueIdx.ix2 r n := ⟨j 0, j 1, ValueIdx.eq_ix2 j⟩
  pointwise
  exact sum_up (n := 640) fun k => f k r.val * g k n.val
theorem mm5_up : matmul dot_S640x1024_S640x896_S1024x896_0_0_1_1_n_n none (up 640 1024 .bf16 f) (up 640 896 .bf16 g) (constant (F := Ideal) S1024x896 .f32 0x00000000#32)
    = up 1024 896 .f32 (tn 640 f g) := by
  funext j
  obtain ⟨r, n, rfl⟩ : ∃ (r : Fin 1024) (n : Fin 896), j = ValueIdx.ix2 r n := ⟨j 0, j 1, ValueIdx.eq_ix2 j⟩
  pointwise
  exact sum_up (n := 640) fun k => f k r.val * g k n.val
theorem mm6_up : matmul dot_S320x6272_S512x6272_S320x512_1_1_0_0_n_n none (up 320 6272 .bf16 f) (up 512 6272 .bf16 g) (constant (F := Ideal) S320x512 .f32 0x00000000#32)
    = up 320 512 .f32 (nt 6272 f g) := by
  funext j
  obtain ⟨r, n, rfl⟩ : ∃ (r : Fin 320) (n : Fin 512), j = ValueIdx.ix2 r n := ⟨j 0, j 1, ValueIdx.eq_ix2 j⟩
  pointwise
  exact sum_up (n := 6272) fun k => f r.val k * g n.val k
end Shapes

/-! ### The payloads -/

section Payloads
variable (f g h w : ℕ → ℕ → EReal)

theorem p0_up : k0_pay1 (F := Ideal) (up 832 1024 .f32 f) (up 1 1024 .f32 g) = up 832 1024 .bf16 (xn f g) := by
  unfold k0_pay1
  dsimp only
  rw [mul_up, rows832_up, blen_up, div_up, beps_up, add_up, rsqrt_up, spread832_up, mul_up, gains832_up, mul_up, trunc_up]
  rfl
theorem p1_up : k1_pay1 (F := Ideal) (up 640 1024 .bf16 f) (up 1024 896 .bf16 g) = up 640 896 .f32 (nn 1024 f g) := by
  unfold k1_pay1
  dsimp only
  rw [same_up, mm1_up]
theorem p2_up : k2_pay1 (F := Ideal) (up 640 2048 .bf16 f) (up 2048 1024 .bf16 g) (up 640 1024 .f32 h) = up 640 1024 .f32 (outR h (nn 2048 f g)) := by
  unfold k2_pay1
  dsimp only
  rw [mm2_up, add_up]
  rfl
theorem p3_up : k3_pay1 (F := Ideal) (up 640 1024 .f32 f) (up 1024 1024 .bf16 g) = up 640 1024 .f32 (nt 1024 f g) := by
  unfold k3_pay1
  dsimp only
  rw [trunc_up, mm3_up]
theorem p41_up : k4_pay1 (F := Ideal) (up 640 1024 .bf16 f) (up 640 1024 .f32 g) = up 1024 1024 .f32 (tn 640 f g) := by
  unfold k4_pay1
  dsimp only
  rw [trunc_up, mm4_up]
theorem p42_up : k4_pay2 (F := Ideal) (up 640 1024 .bf16 f) (up 640 1024 .f32 g) = up 1024 1024 .f32 (tn 640 f g) := by
  unfold k4_pay2
  dsimp only
  rw [p41_up, same_up]
theorem p43_up : k4_pay3 (F := Ideal) (up 640 1024 .bf16 f) (up 640 1024 .f32 g) (up 1024 1024 .f32 h) = up 1024 1024 .f32 fun r n => h r n + tn 640 f g r n := by
  unfold k4_pay3
  dsimp only
  rw [p41_up, add_up, same_up]
theorem p51_up : k5_pay1 (F := Ideal) (up 640 1024 .bf16 f) (up 640 896 .f32 g) = up 1024 896 .f32 (tn 640 f g) := by
  unfold k5_pay1
  dsimp only
  rw [same_up, trunc_up, mm5_up]
theorem p52_up : k5_pay2 (F := Ideal) (up 640 1024 .bf16 f) (up 640 896 .f32 g) = up 1024 896 .f32 (tn 640 f g) := by
  unfold k5_pay2
  dsimp only
  rw [p51_up, same_up]
theorem p53_up : k5_pay3 (F := Ideal) (up 640 1024 .bf16 f) (up 640 896 .f32 g) (up 1024 896 .f32 h) = up 1024 896 .f32 fun r n => h r n + tn 640 f g r n := by
  unfold k5_pay3
  dsimp only
  rw [p51_up, add_up, same_up]
theorem p6_up : k6_pay1 (F := Ideal) (up 320 6272 .f32 f) (up 512 6272 .bf16 g) = up 320 512 .f32 (nt 6272 f g) := by
  unfold k6_pay1
  dsimp only
  rw [trunc_up, mm6_up]
theorem p72_up : k7_pay2 (F := Ideal) (up 416 1024 .f32 f) = up 416 1 .f32 fun r _ => rs f r := by
  unfold k7_pay2
  dsimp only
  rw [mul_up, rows416_up, blen_up, div_up, beps_up, add_up, rsqrt_up]
  rfl
theorem p73_up : k7_pay3 (F := Ideal) (up 416 1024 .f32 f) = up 416 1024 .f32 (xh f) := by
  unfold k7_pay3
  dsimp only
  rw [p72_up, spread416_up, mul_up]
  rfl
theorem p74_up : k7_pay4 (F := Ideal) (up 416 1024 .f32 f) = up 416 1024 .f32 f := by
  unfold k7_pay4
  dsimp only
  rw [same_up]
theorem p75_up : k7_pay5 (F := Ideal) (up 416 1024 .f32 f) (up 416 1024 .f32 g) (up 1 1024 .f32 h) (up 416 1024 .f32 w) = up 416 1024 .f32 (dhR f g h w) := by
  unfold k7_pay5
  dsimp only
  rw [p74_up, p73_up, p72_up, gains416_up, mul_up, mul_up, rows416_up, blen_up, div_up, spread416_up, spread416_up, mul_up, sub_up, mul_up, add_up]
  rfl
theorem p76_up : k7_pay6 (F := Ideal) = up 1 1024 .f32 fun _ _ => 0 := by
  unfold k7_pay6
  dsimp only
  rw [b0_up]
theorem p78_up : k7_pay8 (F := Ideal) (up 416 1024 .f32 f) (up 416 1024 .f32 g) = up 1 1024 .f32 (dgR 416 f g) := by
  unfold k7_pay8
  dsimp only
  rw [p74_up, p73_up, mul_up, cols416_up]
  rfl
theorem p71_up : k7_pay1 (F := Ideal) (k7_pay7 (F := Ideal) (up 1 1024 .f32 f)) (up 1 1024 .f32 g) = up 1 1024 .f32 fun r k => f r k + g r k := by
  unfold k7_pay1 k7_pay7
  dsimp only
  rw [same_up, add_up]
end Payloads

end Cert.Proof.Mix
-- ==== Proof.Windows.lean ====
module

public import Idealize.ShloMosaic.Lib.Pipeline.ValueKit

@[expose] public section

noncomputable section

/-! Where the block of a window lies in the window's array, given which block the window takes at a point, and what a running sum over the points holds. -/

namespace Cert.Proof.Windows

open Idealize.ShloMosaic Idealize.ShloMosaic.TcCoe
open Idealize.ShloMosaic.Pipeline (Window Grid)

variable {sig : RefSig} {G : Grid}

/-- An index of the block in the array, on each axis: as many sizes as the block's number, and the index in the block. -/
theorem emb_at (w : Window sig G) (t : Fin G.N) {j : Fin w.shape.rank → ℕ} (h : w.index t = j)
    (y : (w.xblock (G.coords t)).Idx) (a : Fin w.shape.rank) (hk : w.kind = .blocked := by rfl) :
    ((w.rect t).emb y a : ℕ) = j a * w.size a + y a := by
  rw [w.rect_emb_val t y a hk, h]

/-- An index of the array is in the block if on each axis it lies between the block's ends. -/
theorem mem_at (w : Window sig G) (t : Fin G.N) (i : w.shape.Idx) {j : Fin w.shape.rank → ℕ} (h : w.index t = j)
    (hb : ∀ a, j a * w.size a ≤ i a ∧ (i a : ℕ) < j a * w.size a + w.xsize (G.coords t) a) (hk : w.kind = .blocked := by rfl) :
    i ∈ (w.rect t).set := by
  rw [w.mem_rect_iff t i hk, h]
  exact hb

/-- What lies in the rectangle lies in the slice of the whole array by it. -/
theorem in_slice {κ : Kind} {l : Ref sig κ} {r : Rect l.ty.shape} {i : l.ty.shape.Idx} (h : i ∈ r.set) : i ∈ ((View.whole l).slice r).set :=
  (View.set_slice_whole l r).symm ▸ h

/-- What is started afresh at every `p`-th point and added to at every other holds, after each point, the sum up to it. -/
theorem sum_at {α : Type} (p : ℕ) {N : ℕ} (a : ℕ → α) {s : ℕ → α} (first : ∀ n, n < N → n % p = 0 → a (n + 1) = s n)
    (next : ∀ n, n + 1 < N → (n + 1) % p ≠ 0 → a (n + 1) = s n → a (n + 1 + 1) = s (n + 1)) (n : ℕ) (hn : n < N) : a (n + 1) = s n := by
  induction n with
  | zero => exact first 0 hn (Nat.zero_mod p)
  | succ n ih => exact if h : (n + 1) % p = 0 then first (n + 1) hn h else next n hn h (ih (Nat.lt_of_succ_lt hn))

end Cert.Proof.Windows
-- ==== Proof.MixBlocks.lean ====
module

public import proofs.«01_k».proof.Proof.MixReal
public import proofs.«01_k».proof.Proof.MixRun
public import proofs.«01_k».proof.Proof.Windows

@[expose] public section

set_option maxRecDepth 65536

noncomputable section

/-! Which entries of its array each window of the eight calls holds at a point. -/

namespace Cert.Proof.Mix

open Cert.Kernel3Ideal Cert.Kernel3Ideal.Gen
open Idealize.ShloMosaic Idealize.ShloMosaic.TcCoe Idealize.SL.Sem
open Finset
open Cert.Proof.Windows (emb_at in_slice mem_at)

/-- A block of an array, by its first row and column. -/
def blkAt (f : ℕ → ℕ → EReal) (I J : ℕ) (r l : ℕ) : EReal := f (I + r) (J + l)

theorem idx0_0 : ∀ t : Fin grid0.N, cc0_transform_0 (grid0.coords t) = ![t.val, 0] := by decide +kernel
theorem idx0_1 : ∀ t : Fin grid0.N, cc0_transform_1 (grid0.coords t) = ![0, 0] := by decide +kernel
theorem idx0_2 : ∀ t : Fin grid0.N, cc0_transform_2 (grid0.coords t) = ![t.val, 0] := by decide +kernel
theorem idx1_0 : ∀ t : Fin grid1.N, cc1_transform_0 (grid1.coords t) = ![t.val % 13, 0] := by decide +kernel
theorem idx1_1 : ∀ t : Fin grid1.N, cc1_transform_1 (grid1.coords t) = ![0, t.val / 13] := by decide +kernel
theorem idx1_2 : ∀ t : Fin grid1.N, cc1_transform_2 (grid1.coords t) = ![t.val % 13, t.val / 13] := by decide +kernel
theorem idx2_0 : ∀ t : Fin grid2.N, cc2_transform_0 (grid2.coords t) = ![t.val, 0] := by decide +kernel
theorem idx2_1 : ∀ t : Fin grid2.N, cc2_transform_1 (grid2.coords t) = ![0, 0] := by decide +kernel
theorem idx2_2 : ∀ t : Fin grid2.N, cc2_transform_2 (grid2.coords t) = ![t.val, 0] := by decide +kernel
theorem idx2_3 : ∀ t : Fin grid2.N, cc2_transform_3 (grid2.coords t) = ![t.val, 0] := by decide +kernel
theorem idx3_0 : ∀ t : Fin grid3.N, cc3_transform_0 (grid3.coords t) = ![t.val % 13, 0] := by decide +kernel
theorem idx3_1 : ∀ t : Fin grid3.N, cc3_transform_1 (grid3.coords t) = ![t.val / 13, 0] := by decide +kernel
theorem idx3_2 : ∀ t : Fin grid3.N, cc3_transform_2 (grid3.coords t) = ![t.val % 13, t.val / 13] := by decide +kernel
theorem idx4_0 : ∀ t : Fin grid4.N, cc4_transform_0 (grid4.coords t) = ![t.val % 13, t.val / 13] := by decide +kernel
theorem idx4_1 : ∀ t : Fin grid4.N, cc4_transform_1 (grid4.coords t) = ![t.val % 13, 0] := by decide +kernel
theorem idx4_2 : ∀ t : Fin grid4.N, cc4_transform_2 (grid4.coords t) = ![t.val / 13, 0] := by decide +kernel
theorem idx5_0 : ∀ t : Fin grid5.N, cc5_transform_0 (grid5.coords t) = ![t.val % 13, 0] := by decide +kernel
theorem idx5_1 : ∀ t : Fin grid5.N, cc5_transform_1 (grid5.coords t) = ![t.val % 13, t.val / 13] := by decide +kernel
theorem idx5_2 : ∀ t : Fin grid5.N, cc5_transform_2 (grid5.coords t) = ![0, t.val / 13] := by decide +kernel
theorem idx6_0 : ∀ t : Fin grid6.N, cc6_transform_0 (grid6.coords t) = ![t.val % 26, 0] := by decide +kernel
theorem idx6_1 : ∀ t : Fin grid6.N, cc6_transform_1 (grid6.coords t) = ![t.val / 26, 0] := by decide +kernel
theorem idx6_2 : ∀ t : Fin grid6.N, cc6_transform_2 (grid6.coords t) = ![t.val % 26, t.val / 26] := by decide +kernel
theorem idx7_0 : ∀ t : Fin grid7.N, cc7_transform_0 (grid7.coords t) = ![t.val, 0] := by decide +kernel
theorem idx7_1 : ∀ t : Fin grid7.N, cc7_transform_1 (grid7.coords t) = ![t.val, 0] := by decide +kernel
theorem idx7_2 : ∀ t : Fin grid7.N, cc7_transform_2 (grid7.coords t) = ![0, 0] := by decide +kernel
theorem idx7_3 : ∀ t : Fin grid7.N, cc7_transform_3 (grid7.coords t) = ![t.val, 0] := by decide +kernel
theorem idx7_4 : ∀ t : Fin grid7.N, cc7_transform_4 (grid7.coords t) = ![t.val, 0] := by decide +kernel
theorem idx7_5 : ∀ t : Fin grid7.N, cc7_transform_5 (grid7.coords t) = ![0, 0] := by decide +kernel

/-- An array read through indices which lie as far behind a first row and column as the block's own. -/
theorem up_at {R L m n : ℕ} {φ : FTy} {E : Shape.Idx ⟨2, ![m, n]⟩ → Shape.Idx ⟨2, ![R, L]⟩} {o : Fin 2 → ℕ} (f : ℕ → ℕ → EReal)
    (h : ∀ y a, (E y a).val = o a + (y a).val) : (fun y => up R L φ f (E y)) = up m n φ (blkAt f (o 0) (o 1)) :=
  funext fun y => congrArg₂ (f) (h y 0) (h y 1)

section Reads
variable (f : ℕ → ℕ → EReal)

theorem read0_0 (t : Fin cfg0.N) : ((cfg0.win 0).blk t).view.read (Elt Ideal) (up 8320 1024 .f32 f) = up 832 1024 .f32 (blkAt f (t.val * 832) (0 * 1024)) :=
  up_at f (emb_at win0_0 t (idx0_0 t))
theorem read0_1 (t : Fin cfg0.N) : ((cfg0.win 1).blk t).view.read (Elt Ideal) (up 1 1024 .f32 f) = up 1 1024 .f32 (blkAt f (0 * 1) (0 * 1024)) :=
  up_at f (emb_at win0_1 t (idx0_1 t))
theorem read0_2 (t : Fin cfg0.N) : ((cfg0.win 2).blk t).view.read (Elt Ideal) (up 8320 1024 .bf16 f) = up 832 1024 .bf16 (blkAt f (t.val * 832) (0 * 1024)) :=
  up_at f (emb_at win0_2 t (idx0_2 t))
theorem read1_0 (t : Fin cfg1.N) : ((cfg1.win 0).blk t).view.read (Elt Ideal) (up 8320 1024 .bf16 f) = up 640 1024 .bf16 (blkAt f (t.val % 13 * 640) (0 * 1024)) :=
  up_at f (emb_at win1_0 t (idx1_0 t))
theorem read1_1 (t : Fin cfg1.N) : ((cfg1.win 1).blk t).view.read (Elt Ideal) (up 1024 6272 .bf16 f) = up 1024 896 .bf16 (blkAt f (0 * 1024) (t.val / 13 * 896)) :=
  up_at f (emb_at win1_1 t (idx1_1 t))
theorem read1_2 (t : Fin cfg1.N) : ((cfg1.win 2).blk t).view.read (Elt Ideal) (up 8320 6272 .f32 f) = up 640 896 .f32 (blkAt f (t.val % 13 * 640) (t.val / 13 * 896)) :=
  up_at f (emb_at win1_2 t (idx1_2 t))
theorem read2_0 (t : Fin cfg2.N) : ((cfg2.win 0).blk t).view.read (Elt Ideal) (up 8320 2048 .bf16 f) = up 640 2048 .bf16 (blkAt f (t.val * 640) (0 * 2048)) :=
  up_at f (emb_at win2_0 t (idx2_0 t))
theorem read2_1 (t : Fin cfg2.N) : ((cfg2.win 1).blk t).view.read (Elt Ideal) (up 2048 1024 .bf16 f) = up 2048 1024 .bf16 (blkAt f (0 * 2048) (0 * 1024)) :=
  up_at f (emb_at win2_1 t (idx2_1 t))
theorem read2_2 (t : Fin cfg2.N) : ((cfg2.win 2).blk t).view.read (Elt Ideal) (up 8320 1024 .f32 f) = up 640 1024 .f32 (blkAt f (t.val * 640) (0 * 1024)) :=
  up_at f (emb_at win2_2 t (idx2_2 t))
theorem read2_3 (t : Fin cfg2.N) : ((cfg2.win 3).blk t).view.read (Elt Ideal) (up 8320 1024 .f32 f) = up 640 1024 .f32 (blkAt f (t.val * 640) (0 * 1024)) :=
  up_at f (emb_at win2_3 t (idx2_3 t))
theorem read3_0 (t : Fin cfg3.N) : ((cfg3.win 0).blk t).view.read (Elt Ideal) (up 8320 1024 .f32 f) = up 640 1024 .f32 (blkAt f (t.val % 13 * 640) (0 * 1024)) :=
  up_at f (emb_at win3_0 t (idx3_0 t))
theorem read3_1 (t : Fin cfg3.N) : ((cfg3.win 1).blk t).view.read (Elt Ideal) (up 2048 1024 .bf16 f) = up 1024 1024 .bf16 (blkAt f (t.val / 13 * 1024) (0 * 1024)) :=
  up_at f (emb_at win3_1 t (idx3_1 t))
theorem read3_2 (t : Fin cfg3.N) : ((cfg3.win 2).blk t).view.read (Elt Ideal) (up 8320 2048 .f32 f) = up 640 1024 .f32 (blkAt f (t.val % 13 * 640) (t.val / 13 * 1024)) :=
  up_at f (emb_at win3_2 t (idx3_2 t))
theorem read4_0 (t : Fin cfg4.N) : ((cfg4.win 0).blk t).view.read (Elt Ideal) (up 8320 2048 .bf16 f) = up 640 1024 .bf16 (blkAt f (t.val % 13 * 640) (t.val / 13 * 1024)) :=
  up_at f (emb_at win4_0 t (idx4_0 t))
theorem read4_1 (t : Fin cfg4.N) : ((cfg4.win 1).blk t).view.read (Elt Ideal) (up 8320 1024 .f32 f) = up 640 1024 .f32 (blkAt f (t.val % 13 * 640) (0 * 1024)) :=
  up_at f (emb_at win4_1 t (idx4_1 t))
theorem read4_2 (t : Fin cfg4.N) : ((cfg4.win 2).blk t).view.read (Elt Ideal) (up 2048 1024 .f32 f) = up 1024 1024 .f32 (blkAt f (t.val / 13 * 1024) (0 * 1024)) :=
  up_at f (emb_at win4_2 t (idx4_2 t))
theorem read5_0 (t : Fin cfg5.N) : ((cfg5.win 0).blk t).view.read (Elt Ideal) (up 8320 1024 .bf16 f) = up 640 1024 .bf16 (blkAt f (t.val % 13 * 640) (0 * 1024)) :=
  up_at f (emb_at win5_0 t (idx5_0 t))
theorem read5_1 (t : Fin cfg5.N) : ((cfg5.win 1).blk t).view.read (Elt Ideal) (up 8320 6272 .f32 f) = up 640 896 .f32 (blkAt f (t.val % 13 * 640) (t.val / 13 * 896)) :=
  up_at f (emb_at win5_1 t (idx5_1 t))
theorem read5_2 (t : Fin cfg5.N) : ((cfg5.win 2).blk t).view.read (Elt Ideal) (up 1024 6272 .f32 f) = up 1024 896 .f32 (blkAt f (0 * 1024) (t.val / 13 * 896)) :=
  up_at f (emb_at win5_2 t (idx5_2 t))
theorem read6_0 (t : Fin cfg6.N) : ((cfg6.win 0).blk t).view.read (Elt Ideal) (up 8320 6272 .f32 f) = up 320 6272 .f32 (blkAt f (t.val % 26 * 320) (0 * 6272)) :=
  up_at f (emb_at win6_0 t (idx6_0 t))
theorem read6_1 (t : Fin cfg6.N) : ((cfg6.win 1).blk t).view.read (Elt Ideal) (up 1024 6272 .bf16 f) = up 512 6272 .bf16 (blkAt f (t.val / 26 * 512) (0 * 6272)) :=
  up_at f (emb_at win6_1 t (idx6_1 t))
theorem read6_2 (t : Fin cfg6.N) : ((cfg6.win 2).blk t).view.read (Elt Ideal) (up 8320 1024 .f32 f) = up 320 512 .f32 (blkAt f (t.val % 26 * 320) (t.val / 26 * 512)) :=
  up_at f (emb_at win6_2 t (idx6_2 t))
theorem read7_0 (t : Fin cfg7.N) : ((cfg7.win 0).blk t).view.read (Elt Ideal) (up 8320 1024 .f32 f) = up 416 1024 .f32 (blkAt f (t.val * 416) (0 * 1024)) :=
  up_at f (emb_at win7_0 t (idx7_0 t))
theorem read7_1 (t : Fin cfg7.N) : ((cfg7.win 1).blk t).view.read (Elt Ideal) (up 8320 1024 .f32 f) = up 416 1024 .f32 (blkAt f (t.val * 416) (0 * 1024)) :=
  up_at f (emb_at win7_1 t (idx7_1 t))
theorem read7_2 (t : Fin cfg7.N) : ((cfg7.win 2).blk t).view.read (Elt Ideal) (up 1 1024 .f32 f) = up 1 1024 .f32 (blkAt f (0 * 1) (0 * 1024)) :=
  up_at f (emb_at win7_2 t (idx7_2 t))
theorem read7_3 (t : Fin cfg7.N) : ((cfg7.win 3).blk t).view.read (Elt Ideal) (up 8320 1024 .f32 f) = up 416 1024 .f32 (blkAt f (t.val * 416) (0 * 1024)) :=
  up_at f (emb_at win7_3 t (idx7_3 t))
theorem read7_4 (t : Fin cfg7.N) : ((cfg7.win 4).blk t).view.read (Elt Ideal) (up 8320 1024 .f32 f) = up 416 1024 .f32 (blkAt f (t.val * 416) (0 * 1024)) :=
  up_at f (emb_at win7_4 t (idx7_4 t))
theorem read7_5 (t : Fin cfg7.N) : ((cfg7.win 5).blk t).view.read (Elt Ideal) (up 1 1024 .f32 f) = up 1 1024 .f32 (blkAt f (0 * 1) (0 * 1024)) :=
  up_at f (emb_at win7_5 t (idx7_5 t))

end Reads

theorem cover0_2 (i : S8320x1024.Idx) : ∃ t : Fin cfg0.N, (cfg0.win 2).flush t = true ∧ i ∈ ((cfg0.win 2).blk t).view.set := by
  have h0 : (i 0).val < 8320 := (i 0).isLt
  have h1 : (i 1).val < 1024 := (i 1).isLt
  have hN : cfg0.N = 10 := N_0
  exact ⟨⟨(i 0).val / 832, by omega⟩, flush0_2 _,
    in_slice (mem_at win0_2 _ i (idx0_2 _) (Fin.forall_fin_two.mpr ⟨(by omega : ((i 0).val / 832) * 832 ≤ (i 0).val ∧ (i 0).val < ((i 0).val / 832) * 832 + 832),
      (by omega : 0 * 1024 ≤ (i 1).val ∧ (i 1).val < 0 * 1024 + 1024)⟩))⟩
theorem cover1_2 (i : S8320x6272.Idx) : ∃ t : Fin cfg1.N, (cfg1.win 2).flush t = true ∧ i ∈ ((cfg1.win 2).blk t).view.set := by
  have h0 : (i 0).val < 8320 := (i 0).isLt
  have h1 : (i 1).val < 6272 := (i 1).isLt
  have hN : cfg1.N = 91 := N_1
  exact ⟨⟨(i 1).val / 896 * 13 + (i 0).val / 640, by omega⟩, flush1_2 _,
    in_slice (mem_at win1_2 _ i (idx1_2 _) (Fin.forall_fin_two.mpr ⟨(by omega : ((i 1).val / 896 * 13 + (i 0).val / 640) % 13 * 640 ≤ (i 0).val ∧ (i 0).val < ((i 1).val / 896 * 13 + (i 0).val / 640) % 13 * 640 + 640),
      (by omega : ((i 1).val / 896 * 13 + (i 0).val / 640) / 13 * 896 ≤ (i 1).val ∧ (i 1).val < ((i 1).val / 896 * 13 + (i 0).val / 640) / 13 * 896 + 896)⟩))⟩
theorem cover2_3 (i : S8320x1024.Idx) : ∃ t : Fin cfg2.N, (cfg2.win 3).flush t = true ∧ i ∈ ((cfg2.win 3).blk t).view.set := by
  have h0 : (i 0).val < 8320 := (i 0).isLt
  have h1 : (i 1).val < 1024 := (i 1).isLt
  have hN : cfg2.N = 13 := N_2
  exact ⟨⟨(i 0).val / 640, by omega⟩, flush2_3 _,
    in_slice (mem_at win2_3 _ i (idx2_3 _) (Fin.forall_fin_two.mpr ⟨(by omega : ((i 0).val / 640) * 640 ≤ (i 0).val ∧ (i 0).val < ((i 0).val / 640) * 640 + 640),
      (by omega : 0 * 1024 ≤ (i 1).val ∧ (i 1).val < 0 * 1024 + 1024)⟩))⟩
theorem cover3_2 (i : S8320x2048.Idx) : ∃ t : Fin cfg3.N, (cfg3.win 2).flush t = true ∧ i ∈ ((cfg3.win 2).blk t).view.set := by
  have h0 : (i 0).val < 8320 := (i 0).isLt
  have h1 : (i 1).val < 2048 := (i 1).isLt
  have hN : cfg3.N = 26 := N_3
  exact ⟨⟨(i 1).val / 1024 * 13 + (i 0).val / 640, by omega⟩, flush3_2 _,
    in_slice (mem_at win3_2 _ i (idx3_2 _) (Fin.forall_fin_two.mpr ⟨(by omega : ((i 1).val / 1024 * 13 + (i 0).val / 640) % 13 * 640 ≤ (i 0).val ∧ (i 0).val < ((i 1).val / 1024 * 13 + (i 0).val / 640) % 13 * 640 + 640),
      (by omega : ((i 1).val / 1024 * 13 + (i 0).val / 640) / 13 * 1024 ≤ (i 1).val ∧ (i 1).val < ((i 1).val / 1024 * 13 + (i 0).val / 640) / 13 * 1024 + 1024)⟩))⟩
theorem cover4_2 (i : S2048x1024.Idx) : ∃ t : Fin cfg4.N, (cfg4.win 2).flush t = true ∧ i ∈ ((cfg4.win 2).blk t).view.set := by
  have h0 : (i 0).val < 2048 := (i 0).isLt
  have h1 : (i 1).val < 1024 := (i 1).isLt
  have hN : cfg4.N = 26 := N_4
  exact ⟨⟨(i 0).val / 1024 * 13 + 12, by omega⟩, (flush4_2 _).mpr (by dsimp only; omega),
    in_slice (mem_at win4_2 _ i (idx4_2 _) (Fin.forall_fin_two.mpr ⟨(by omega : ((i 0).val / 1024 * 13 + 12) / 13 * 1024 ≤ (i 0).val ∧ (i 0).val < ((i 0).val / 1024 * 13 + 12) / 13 * 1024 + 1024),
      (by omega : 0 * 1024 ≤ (i 1).val ∧ (i 1).val < 0 * 1024 + 1024)⟩))⟩
theorem cover5_2 (i : S1024x6272.Idx) : ∃ t : Fin cfg5.N, (cfg5.win 2).flush t = true ∧ i ∈ ((cfg5.win 2).blk t).view.set := by
  have h0 : (i 0).val < 1024 := (i 0).isLt
  have h1 : (i 1).val < 6272 := (i 1).isLt
  have hN : cfg5.N = 91 := N_5
  exact ⟨⟨(i 1).val / 896 * 13 + 12, by omega⟩, (flush5_2 _).mpr (by dsimp only; omega),
    in_slice (mem_at win5_2 _ i (idx5_2 _) (Fin.forall_fin_two.mpr ⟨(by omega : 0 * 1024 ≤ (i 0).val ∧ (i 0).val < 0 * 1024 + 1024),
      (by omega : ((i 1).val / 896 * 13 + 12) / 13 * 896 ≤ (i 1).val ∧ (i 1).val < ((i 1).val / 896 * 13 + 12) / 13 * 896 + 896)⟩))⟩
theorem cover6_2 (i : S8320x1024.Idx) : ∃ t : Fin cfg6.N, (cfg6.win 2).flush t = true ∧ i ∈ ((cfg6.win 2).blk t).view.set := by
  have h0 : (i 0).val < 8320 := (i 0).isLt
  have h1 : (i 1).val < 1024 := (i 1).isLt
  have hN : cfg6.N = 52 := N_6
  exact ⟨⟨(i 1).val / 512 * 26 + (i 0).val / 320, by omega⟩, flush6_2 _,
    in_slice (mem_at win6_2 _ i (idx6_2 _) (Fin.forall_fin_two.mpr ⟨(by omega : ((i 1).val / 512 * 26 + (i 0).val / 320) % 26 * 320 ≤ (i 0).val ∧ (i 0).val < ((i 1).val / 512 * 26 + (i 0).val / 320) % 26 * 320 + 320),
      (by omega : ((i 1).val / 512 * 26 + (i 0).val / 320) / 26 * 512 ≤ (i 1).val ∧ (i 1).val < ((i 1).val / 512 * 26 + (i 0).val / 320) / 26 * 512 + 512)⟩))⟩
theorem cover7_4 (i : S8320x1024.Idx) : ∃ t : Fin cfg7.N, (cfg7.win 4).flush t = true ∧ i ∈ ((cfg7.win 4).blk t).view.set := by
  have h0 : (i 0).val < 8320 := (i 0).isLt
  have h1 : (i 1).val < 1024 := (i 1).isLt
  have hN : cfg7.N = 20 := N_7
  exact ⟨⟨(i 0).val / 416, by omega⟩, flush7_4 _,
    in_slice (mem_at win7_4 _ i (idx7_4 _) (Fin.forall_fin_two.mpr ⟨(by omega : ((i 0).val / 416) * 416 ≤ (i 0).val ∧ (i 0).val < ((i 0).val / 416) * 416 + 416),
      (by omega : 0 * 1024 ≤ (i 1).val ∧ (i 1).val < 0 * 1024 + 1024)⟩))⟩
theorem cover7_5 (i : S1x1024.Idx) : ∃ t : Fin cfg7.N, (cfg7.win 5).flush t = true ∧ i ∈ ((cfg7.win 5).blk t).view.set := by
  have h0 : (i 0).val < 1 := (i 0).isLt
  have h1 : (i 1).val < 1024 := (i 1).isLt
  have hN : cfg7.N = 20 := N_7
  exact ⟨⟨19, by omega⟩, (flush7_5 _).mpr rfl,
    in_slice (mem_at win7_5 ⟨19, by decide⟩ i (idx7_5 ⟨19, by decide⟩) (Fin.forall_fin_two.mpr ⟨(by omega : 0 * 1 ≤ (i 0).val ∧ (i 0).val < 0 * 1 + 1),
      (by omega : 0 * 1024 ≤ (i 1).val ∧ (i 1).val < 0 * 1024 + 1024)⟩))⟩

end Cert.Proof.Mix
-- ==== Proof.MixArrays.lean ====
module

public import proofs.«01_k».proof.Proof.MixBlocks
public import proofs.«01_k».proof.Proof.MixLaunch

@[expose] public section

set_option maxRecDepth 65536

noncomputable section

/-! What the eight calls leave in their result arrays, entry by entry. -/

namespace Cert.Proof.Mix

open Cert.Kernel3Ideal Cert.Kernel3Ideal.Gen
open Idealize.ShloMosaic Idealize.ShloMosaic.TcCoe Idealize.SL.Sem
open Finset
open Cert.Proof.Steps (isFirst first_iff)
open Cert.Proof.Windows (sum_at)

/-! ### Blocks of the functions -/

section Blocks
variable (A B : ℕ → ℕ → EReal) (I J K : ℕ)

theorem xn_blk (H G : ℕ → ℕ → EReal) : xn (blkAt H I (0 * 1024)) (blkAt G (0 * 1) (0 * 1024)) = blkAt (xn H G) I (0 * 1024) := by
  funext r k
  simp only [xn, xh, rs, vr, blkAt, Nat.zero_mul, Nat.zero_add]
theorem nn_blk : nn K (blkAt A I (0 * K)) (blkAt B (0 * K) J) = blkAt (nn K A B) I J := by
  funext r k
  simp only [nn, blkAt, Nat.zero_mul, Nat.zero_add]
theorem nt_blk : nt K (blkAt A I (0 * K)) (blkAt B J (0 * K)) = blkAt (nt K A B) I J := by
  funext r k
  simp only [nt, blkAt, Nat.zero_mul, Nat.zero_add]
theorem dh_blk (H X G D : ℕ → ℕ → EReal) : dhR (blkAt H I (0 * 1024)) (blkAt X I (0 * 1024)) (blkAt G (0 * 1) (0 * 1024)) (blkAt D I (0 * 1024)) = blkAt (dhR H X G D) I (0 * 1024) := by
  funext r k
  simp only [dhR, xh, rs, vr, blkAt, Nat.zero_mul, Nat.zero_add]
theorem tn_first : tn 640 (blkAt A (0 * 640) I) (blkAt B (0 * 640) J) = blkAt (tn ((0 + 1) * 640) A B) I J := by
  funext r k
  simp only [tn, blkAt, Nat.zero_mul, Nat.zero_add, Nat.one_mul]
theorem tn_next (s : ℕ) : (fun r n => blkAt (tn (s * 640) A B) I J r n + tn 640 (blkAt A (s * 640) I) (blkAt B (s * 640) J) r n) = blkAt (tn ((s + 1) * 640) A B) I J := by
  funext r k
  simp only [tn, blkAt]
  rw [Nat.succ_mul, sum_range_add]
theorem dg_next (H X : ℕ → ℕ → EReal) (s : ℕ) : (fun r k => dgR (s * 416) H X r k + dgR 416 (blkAt H (s * 416) (0 * 1024)) (blkAt X (s * 416) (0 * 1024)) r k) = dgR ((s + 1) * 416) H X := by
  funext r k
  simp only [dgR, xh, rs, vr, blkAt, Nat.zero_mul, Nat.zero_add]
  rw [Nat.succ_mul, sum_range_add]
end Blocks

section Real
variable (m : (ℓ : Loc nD τ sig) → Buf (Elt Ideal) ℓ) (c : Dev nD) (H G Wi Y Wo Z D : ℕ → ℕ → EReal)

/-- The seven operands hold the given numbers. -/
def Args : Prop :=
  m ((c : Thread nD τ).loc main_arg0) = up 8320 1024 .f32 H ∧ m ((c : Thread nD τ).loc main_arg1) = up 1 1024 .f32 G
    ∧ m ((c : Thread nD τ).loc main_arg2) = up 1024 6272 .bf16 Wi ∧ m ((c : Thread nD τ).loc main_arg3) = up 8320 2048 .bf16 Y
    ∧ m ((c : Thread nD τ).loc main_arg4) = up 2048 1024 .bf16 Wo ∧ m ((c : Thread nD τ).loc main_arg5) = up 8320 6272 .f32 Z
    ∧ m ((c : Thread nD τ).loc main_arg6) = up 8320 1024 .f32 D

variable {m c H G Wi Y Wo Z D} (h : Args m c H G Wi Y Wo Z D)
include h

theorem b0_0 (t : Fin cfg0.N) : blk0 (W0 m) c 0 t = up 832 1024 .f32 (blkAt H (t.val * 832) (0 * 1024)) :=
  (congrArg (((cfg0.win 0).blk t).view.read (Elt Ideal)) h.1).trans (read0_0 _ t)
theorem b0_1 (t : Fin cfg0.N) : blk0 (W0 m) c 1 t = up 1 1024 .f32 (blkAt G (0 * 1) (0 * 1024)) :=
  (congrArg (((cfg0.win 1).blk t).view.read (Elt Ideal)) h.2.1).trans (read0_1 _ t)
theorem o_v0_eq : o_v0 m c = up 8320 1024 .bf16 (xn H G) := by
  refine (dat0 (W0 m) c).arrAt_eq_of_cover 2 (up 8320 1024 .bf16 (xn H G)) (fun t ht => ?_) cover0_2
  rw [read0_2]
  show (cfg0.win 2).cut (grid0.coords t) (k0_pay1 (blk0 (W0 m) c 0 t) (blk0 (W0 m) c 1 t)) = _
  rw [b0_0 h, b0_1 h, p0_up, xn_blk]
  rfl
theorem b1_0 (t : Fin cfg1.N) : blk1 (W1 m) c 0 t = up 640 1024 .bf16 (blkAt (xn H G) (t.val % 13 * 640) (0 * 1024)) :=
  (congrArg (((cfg1.win 0).blk t).view.read (Elt Ideal)) ((U1_v0 m c).trans (o_v0_eq h))).trans (read1_0 _ t)
theorem b1_1 (t : Fin cfg1.N) : blk1 (W1 m) c 1 t = up 1024 896 .bf16 (blkAt Wi (0 * 1024) (t.val / 13 * 896)) :=
  (congrArg (((cfg1.win 1).blk t).view.read (Elt Ideal)) ((U1_arg m c main_arg2 (by decide)).trans h.2.2.1)).trans (read1_1 _ t)
theorem o_v1_eq : o_v1 m c = up 8320 6272 .f32 (nn 1024 (xn H G) Wi) := by
  refine (dat1 (W1 m) c).arrAt_eq_of_cover 2 (up 8320 6272 .f32 (nn 1024 (xn H G) Wi)) (fun t ht => ?_) cover1_2
  rw [read1_2]
  show (cfg1.win 2).cut (grid1.coords t) (k1_pay1 (blk1 (W1 m) c 0 t) (blk1 (W1 m) c 1 t)) = _
  rw [b1_0 h, b1_1 h, p1_up, nn_blk]
  rfl
theorem b2_0 (t : Fin cfg2.N) : blk2 (W2 m) c 0 t = up 640 2048 .bf16 (blkAt Y (t.val * 640) (0 * 2048)) :=
  (congrArg (((cfg2.win 0).blk t).view.read (Elt Ideal)) ((U2_arg m c main_arg3 (by decide)).trans h.2.2.2.1)).trans (read2_0 _ t)
theorem b2_1 (t : Fin cfg2.N) : blk2 (W2 m) c 1 t = up 2048 1024 .bf16 (blkAt Wo (0 * 2048) (0 * 1024)) :=
  (congrArg (((cfg2.win 1).blk t).view.read (Elt Ideal)) ((U2_arg m c main_arg4 (by decide)).trans h.2.2.2.2.1)).trans (read2_1 _ t)
theorem b2_2 (t : Fin cfg2.N) : blk2 (W2 m) c 2 t = up 640 1024 .f32 (blkAt H (t.val * 640) (0 * 1024)) :=
  (congrArg (((cfg2.win 2).blk t).view.read (Elt Ideal)) ((U2_arg m c main_arg0 (by decide)).trans h.1)).trans (read2_2 _ t)
theorem o_v2_eq : o_v2 m c = up 8320 1024 .f32 (outR H (nn 2048 Y Wo)) := by
  refine (dat2 (W2 m) c).arrAt_eq_of_cover 3 (up 8320 1024 .f32 (outR H (nn 2048 Y Wo))) (fun t ht => ?_) cover2_3
  rw [read2_3]
  show (cfg2.win 3).cut (grid2.coords t) (k2_pay1 (blk2 (W2 m) c 0 t) (blk2 (W2 m) c 1 t) (blk2 (W2 m) c 2 t)) = _
  rw [b2_0 h, b2_1 h, b2_2 h, p2_up, nn_blk]
  rfl
theorem b3_0 (t : Fin cfg3.N) : blk3 (W3 m) c 0 t = up 640 1024 .f32 (blkAt D (t.val % 13 * 640) (0 * 1024)) :=
  (congrArg (((cfg3.win 0).blk t).view.read (Elt Ideal)) ((U3_arg m c main_arg6 (by decide)).trans h.2.2.2.2.2.2)).trans (read3_0 _ t)
theorem b3_1 (t : Fin cfg3.N) : blk3 (W3 m) c 1 t = up 1024 1024 .bf16 (blkAt Wo (t.val / 13 * 1024) (0 * 1024)) :=
  (congrArg (((cfg3.win 1).blk t).view.read (Elt Ideal)) ((U3_arg m c main_arg4 (by decide)).trans h.2.2.2.2.1)).trans (read3_1 _ t)
theorem o_v3_eq : o_v3 m c = up 8320 2048 .f32 (nt 1024 D Wo) := by
  refine (dat3 (W3 m) c).arrAt_eq_of_cover 2 (up 8320 2048 .f32 (nt 1024 D Wo)) (fun t ht => ?_) cover3_2
  rw [read3_2]
  show (cfg3.win 2).cut (grid3.coords t) (k3_pay1 (blk3 (W3 m) c 0 t) (blk3 (W3 m) c 1 t)) = _
  rw [b3_0 h, b3_1 h, p3_up, nt_blk]
  rfl
theorem b4_0 (t : Fin cfg4.N) : blk4 (W4 m) c 0 t = up 640 1024 .bf16 (blkAt Y (t.val % 13 * 640) (t.val / 13 * 1024)) :=
  (congrArg (((cfg4.win 0).blk t).view.read (Elt Ideal)) ((U4_arg m c main_arg3 (by decide)).trans h.2.2.2.1)).trans (read4_0 _ t)
theorem b4_1 (t : Fin cfg4.N) : blk4 (W4 m) c 1 t = up 640 1024 .f32 (blkAt D (t.val % 13 * 640) (0 * 1024)) :=
  (congrArg (((cfg4.win 1).blk t).view.read (Elt Ideal)) ((U4_arg m c main_arg6 (by decide)).trans h.2.2.2.2.2.2)).trans (read4_1 _ t)
theorem scr4_at : ∀ n, n < cfg4.N →
    scr4 (W4 m) c (n + 1) = up 1024 1024 .f32 (blkAt (tn ((n % 13 + 1) * 640) Y D) (n / 13 * 1024) (0 * 1024)) :=
  sum_at 13 (scr4 (W4 m) c) (fun n hn h0 => by
    refine (scr4_succ (W4 m) c ⟨n, hn⟩).trans ?_
    rw [acc4_start ⟨n, hn⟩ h0, b4_0 h, b4_1 h, p42_up]
    dsimp only
    rw [h0, tn_first]) fun n hn h0 p => by
    refine (scr4_succ (W4 m) c ⟨n + 1, hn⟩).trans ?_
    rw [show n / 13 = (n + 1) / 13 by omega, show n % 13 + 1 = (n + 1) % 13 by omega] at p
    rw [acc4_next ⟨n + 1, hn⟩ h0, b4_0 h, b4_1 h]
    dsimp only
    rw [p, p43_up, tn_next]
theorem o_v4_eq : o_v4 m c = up 2048 1024 .f32 (tn 8320 Y D) := by
  refine (dat4 (W4 m) c).arrAt_eq_of_cover 2 (up 2048 1024 .f32 (tn 8320 Y D)) (fun t ht => ?_) cover4_2
  rw [read4_2]
  have h12 := (flush4_2 t).mp ht
  show (cfg4.win 2).cut (grid4.coords t) (scr4 (W4 m) c (t.val + 1)) = _
  rw [scr4_at h t.val t.isLt, h12]
  rfl
theorem b5_0 (t : Fin cfg5.N) : blk5 (W5 m) c 0 t = up 640 1024 .bf16 (blkAt (xn H G) (t.val % 13 * 640) (0 * 1024)) :=
  (congrArg (((cfg5.win 0).blk t).view.read (Elt Ideal)) ((U5_of m c main_v0 (by decide)).trans ((U4_of m c main_v0 (by decide)).trans ((U3_of m c main_v0 (by decide)).trans ((U2_of m c main_v0 (by decide)).trans ((U1_v0 m c).trans (o_v0_eq h))))))).trans (read5_0 _ t)
theorem b5_1 (t : Fin cfg5.N) : blk5 (W5 m) c 1 t = up 640 896 .f32 (blkAt Z (t.val % 13 * 640) (t.val / 13 * 896)) :=
  (congrArg (((cfg5.win 1).blk t).view.read (Elt Ideal)) ((U5_arg m c main_arg5 (by decide)).trans h.2.2.2.2.2.1)).trans (read5_1 _ t)
theorem scr5_at : ∀ n, n < cfg5.N →
    scr5 (W5 m) c (n + 1) = up 1024 896 .f32 (blkAt (tn ((n % 13 + 1) * 640) (xn H G) Z) (0 * 1024) (n / 13 * 896)) :=
  sum_at 13 (scr5 (W5 m) c) (fun n hn h0 => by
    refine (scr5_succ (W5 m) c ⟨n, hn⟩).trans ?_
    rw [acc5_start ⟨n, hn⟩ h0, b5_0 h, b5_1 h, p52_up]
    dsimp only
    rw [h0, tn_first]) fun n hn h0 p => by
    refine (scr5_succ (W5 m) c ⟨n + 1, hn⟩).trans ?_
    rw [show n / 13 = (n + 1) / 13 by omega, show n % 13 + 1 = (n + 1) % 13 by omega] at p
    rw [acc5_next ⟨n + 1, hn⟩ h0, b5_0 h, b5_1 h]
    dsimp only
    rw [p, p53_up, tn_next]
theorem o_v5_eq : o_v5 m c = up 1024 6272 .f32 (tn 8320 (xn H G) Z) := by
  refine (dat5 (W5 m) c).arrAt_eq_of_cover 2 (up 1024 6272 .f32 (tn 8320 (xn H G) Z)) (fun t ht => ?_) cover5_2
  rw [read5_2]
  have h12 := (flush5_2 t).mp ht
  show (cfg5.win 2).cut (grid5.coords t) (scr5 (W5 m) c (t.val + 1)) = _
  rw [scr5_at h t.val t.isLt, h12]
  rfl
theorem b6_0 (t : Fin cfg6.N) : blk6 (W6 m) c 0 t = up 320 6272 .f32 (blkAt Z (t.val % 26 * 320) (0 * 6272)) :=
  (congrArg (((cfg6.win 0).blk t).view.read (Elt Ideal)) ((U6_arg m c main_arg5 (by decide)).trans h.2.2.2.2.2.1)).trans (read6_0 _ t)
theorem b6_1 (t : Fin cfg6.N) : blk6 (W6 m) c 1 t = up 512 6272 .bf16 (blkAt Wi (t.val / 26 * 512) (0 * 6272)) :=
  (congrArg (((cfg6.win 1).blk t).view.read (Elt Ideal)) ((U6_arg m c main_arg2 (by decide)).trans h.2.2.1)).trans (read6_1 _ t)
theorem o_v6_eq : o_v6 m c = up 8320 1024 .f32 (nt 6272 Z Wi) := by
  refine (dat6 (W6 m) c).arrAt_eq_of_cover 2 (up 8320 1024 .f32 (nt 6272 Z Wi)) (fun t ht => ?_) cover6_2
  rw [read6_2]
  show (cfg6.win 2).cut (grid6.coords t) (k6_pay1 (blk6 (W6 m) c 0 t) (blk6 (W6 m) c 1 t)) = _
  rw [b6_0 h, b6_1 h, p6_up, nt_blk]
  rfl
theorem b7_0 (t : Fin cfg7.N) : blk7 (W7 m) c 0 t = up 416 1024 .f32 (blkAt (nt 6272 Z Wi) (t.val * 416) (0 * 1024)) :=
  (congrArg (((cfg7.win 0).blk t).view.read (Elt Ideal)) ((U7_v6 m c).trans (o_v6_eq h))).trans (read7_0 _ t)
theorem b7_1 (t : Fin cfg7.N) : blk7 (W7 m) c 1 t = up 416 1024 .f32 (blkAt H (t.val * 416) (0 * 1024)) :=
  (congrArg (((cfg7.win 1).blk t).view.read (Elt Ideal)) ((U7_arg m c main_arg0 (by decide)).trans h.1)).trans (read7_1 _ t)
theorem b7_2 (t : Fin cfg7.N) : blk7 (W7 m) c 2 t = up 1 1024 .f32 (blkAt G (0 * 1) (0 * 1024)) :=
  (congrArg (((cfg7.win 2).blk t).view.read (Elt Ideal)) ((U7_arg m c main_arg1 (by decide)).trans h.2.1)).trans (read7_2 _ t)
theorem b7_3 (t : Fin cfg7.N) : blk7 (W7 m) c 3 t = up 416 1024 .f32 (blkAt D (t.val * 416) (0 * 1024)) :=
  (congrArg (((cfg7.win 3).blk t).view.read (Elt Ideal)) ((U7_arg m c main_arg6 (by decide)).trans h.2.2.2.2.2.2)).trans (read7_3 _ t)
theorem row7_at (n : ℕ) : ∀ hn : n < cfg7.N, row7 (W7 m) c (n + 1) = up 1 1024 .f32 (dgR ((n + 1) * 416) H (nt 6272 Z Wi)) := by
  induction n with
  | zero =>
    intro hn
    refine (row7_succ (W7 m) c ⟨0, hn⟩).trans ?_
    have ec : (grid7.coords ⟨0, hn⟩ 0).val = 0 := by
      rw [Pipeline.Grid.coords_val _ 0 (S := 1) (B := 20) (by decide) rfl, Nat.div_one]
      rfl
    have e : isFirst (grid7.coords ⟨0, hn⟩ 0).val := (first_iff ⟨(grid7.coords ⟨0, hn⟩ 0).val, by rw [ec]; omega⟩).mpr ec
    unfold acc7
    rw [if_pos e, b7_0 h, b7_1 h, p76_up, p78_up, p71_up]
    dsimp only
    rw [← dg_next]
    refine congrArg (up 1 1024 .f32) (funext fun r => funext fun k => ?_)
    simp only [dgR, Nat.zero_mul, sum_range_zero]
  | succ n ih =>
    intro hn
    refine (row7_succ (W7 m) c ⟨n + 1, hn⟩).trans ?_
    have hN : n + 1 < 20 := lt_of_lt_of_eq hn (show cfg7.N = 20 from N_7)
    have ec : (grid7.coords ⟨n + 1, hn⟩ 0).val = n + 1 := by
      rw [Pipeline.Grid.coords_val _ 0 (S := 1) (B := 20) (by decide) rfl, Nat.div_one]
      exact Nat.mod_eq_of_lt hN
    have e : ¬ isFirst (grid7.coords ⟨n + 1, hn⟩ 0).val := fun e => by
      have := (first_iff ⟨(grid7.coords ⟨n + 1, hn⟩ 0).val, by rw [ec]; omega⟩).mp e
      rw [ec] at this
      omega
    have p := ih (by omega)
    unfold acc7
    rw [if_neg e, b7_0 h, b7_1 h]
    dsimp only
    rw [p, p78_up, p71_up, dg_next]
theorem o_v7_0_eq : o_v7_0 m c = up 8320 1024 .f32 (dhR H (nt 6272 Z Wi) G D) := by
  refine (dat7 (W7 m) c).arrAt_eq_of_cover 4 (up 8320 1024 .f32 (dhR H (nt 6272 Z Wi) G D)) (fun t ht => ?_) cover7_4
  rw [read7_4]
  show (cfg7.win 4).cut (grid7.coords t) (k7_pay5 (blk7 (W7 m) c 1 t) (blk7 (W7 m) c 0 t) (blk7 (W7 m) c 2 t) (blk7 (W7 m) c 3 t)) = _
  rw [b7_1 h, b7_0 h, b7_2 h, b7_3 h, p75_up, dh_blk]
  rfl
theorem o_v7_1_eq : o_v7_1 m c = up 1 1024 .f32 (dgR 8320 H (nt 6272 Z Wi)) := by
  refine (dat7 (W7 m) c).arrAt_eq_of_cover 5 (up 1 1024 .f32 (dgR 8320 H (nt 6272 Z Wi))) (fun t ht => ?_) cover7_5
  rw [read7_5]
  have hN : cfg7.N = 20 := N_7
  have h19 : t.val = 19 := by have := (flush7_5 t).mp ht; have := t.isLt; omega
  show (cfg7.win 5).cut (grid7.coords t) (row7 (W7 m) c (t.val + 1)) = _
  rw [row7_at h t.val t.isLt, h19]
  funext y
  show dgR ((19 + 1) * 416) H _ (y 0).val (y 1).val = dgR 8320 H _ (0 * 1 + (y 0).val) (0 * 1024 + (y 1).val)
  rw [Nat.zero_mul, Nat.zero_add, Nat.zero_add]

end Real

end Cert.Proof.Mix
-- ==== Proof.MixRef.lean ====
module

public import proofs.«01_k».proof.Proof.MixReal
public import proofs.«01_k».proof.Proof.Gen.Reference3Ideal.Run

@[expose] public section

set_option maxRecDepth 65536

noncomputable section

/-! What the unblocked computation of the projections leaves, entry by entry. -/

namespace Cert.Proof.Mix.Ref

open Cert.Reference3Ideal Cert.Reference3Ideal.Gen Cert.Reference3Ideal.Value
open Idealize.ShloMosaic Idealize.SL.Sem
open Finset

/-! ### The norm's gradient over all extended reals -/

theorem ofBits_mhalf : Ideal.ofBits .f32 0xBF000000#32 = ((-(1 / 2) : ℝ) : EReal) := by
  simp [Ideal.ofBits, Ideal.ieee, -EReal.coe_mul, -EReal.coe_neg]; norm_num
theorem len_eq : lenE = ((1024 : ℝ) : EReal) := by
  unfold lenE
  simp [Ideal.ofBits, Ideal.ieee, -EReal.coe_mul, -EReal.coe_neg]; norm_num
theorem eps_pos : 0 < epsE := by
  unfold epsE
  simp [Ideal.ofBits, Ideal.ieee, -EReal.coe_mul, -EReal.coe_neg]
theorem div_len (x : EReal) : Ideal.div x lenE = x * ((1 / 1024 : ℝ) : EReal) := by
  rw [len_eq]; exact Ideal.div_coe (by norm_num) x
theorem sq_nonneg' (x : EReal) : 0 ≤ x * x := by
  induction x with
  | bot => simp
  | top => simp
  | coe r => rw [← EReal.coe_mul]; exact EReal.coe_nonneg.mpr (mul_self_nonneg r)
theorem add_self (x : EReal) : x + x = x * ((2 : ℝ) : EReal) := by
  induction x with
  | bot => rw [EReal.bot_mul_coe_of_pos (by norm_num)]; rfl
  | top => rw [EReal.top_mul_coe_of_pos (by norm_num)]; rfl
  | coe r => rw [← EReal.coe_mul, ← EReal.coe_add]; congr 1; ring
theorem sum_mul_coe {q : ℝ} (hq : 0 ≤ q) (n : ℕ) (f : ℕ → EReal) : (∑ k ∈ range n, f k) * (q : EReal) = ∑ k ∈ range n, f k * (q : EReal) := by
  induction n with
  | zero => simp
  | succ n ih =>
    rw [sum_range_succ, sum_range_succ, EReal.right_distrib_of_nonneg_of_ne_top (EReal.coe_nonneg.mpr hq) (EReal.coe_ne_top q), ih]

variable (H G X D : ℕ → ℕ → EReal)

theorem vr_pos (r : ℕ) : 0 < vr H r := by
  unfold vr
  rw [div_len]
  refine lt_of_lt_of_le eps_pos ?_
  have h : 0 ≤ (∑ k ∈ range 1024, H r k * H r k) * ((1 / 1024 : ℝ) : EReal) :=
    mul_nonneg (sum_nonneg fun k _ => sq_nonneg' _) (EReal.coe_nonneg.mpr (by norm_num))
  exact le_add_of_nonneg_left h

theorem dh_eq (r k : ℕ) :
    D r k + X r k * G 0 k * rs H r + H r k * Ideal.div ((∑ k ∈ range 1024, H r k * (X r k * G 0 k)) * (Ideal.ofBits .f32 0xBF000000#32 * Ideal.div (rs H r) (vr H r))) lenE
      + Ideal.div ((∑ k ∈ range 1024, H r k * (X r k * G 0 k)) * (Ideal.ofBits .f32 0xBF000000#32 * Ideal.div (rs H r) (vr H r))) lenE * H r k = dhR H X G D r k := by
  have hp := vr_pos H r
  unfold dhR xh rs
  rw [div_len, div_len, ofBits_mhalf]
  generalize vr H r = v at hp ⊢
  induction v with
  | bot => exact absurd hp (by simp)
  | top =>
    have e : Ideal.rsqrt ⊤ = 0 := rfl
    have d : Ideal.div 0 ⊤ = 0 := (if_neg (by simp)).trans (zero_mul _)
    rw [e, d]
    simp only [mul_zero, zero_mul, add_zero]
  | coe w =>
    have hw : 0 < w := EReal.coe_pos.mp hp
    obtain ⟨q, hq, e, hc⟩ : ∃ q : ℝ, 0 ≤ q ∧ Ideal.rsqrt (w : EReal) = (q : EReal) ∧ q * (1 / w) = q * q * q := by
      refine ⟨(√w)⁻¹, inv_nonneg.mpr (Real.sqrt_nonneg w), ?_, ?_⟩
      · refine (Ideal.rsqrt_coe _).trans ?_
        rw [if_neg (not_lt.mpr hw.le), if_neg hw.ne']
      · rw [← mul_inv, Real.mul_self_sqrt hw.le, one_div, mul_comm]
    have d : Ideal.div (q : EReal) (w : EReal) = ((q * q * q : ℝ) : EReal) := by
      rw [Ideal.div_coe hw.ne', ← EReal.coe_mul, hc]
    rw [e, d]
    have hs : ∑ l ∈ range 1024, X r l * G 0 l * (H r l * (q : EReal)) = (∑ k ∈ range 1024, H r k * (X r k * G 0 k)) * (q : EReal) := by
      rw [sum_mul_coe hq]
      exact sum_congr rfl fun l _ => by rw [← mul_assoc, mul_comm (H r l)]
    rw [hs]
    generalize (∑ k ∈ range 1024, H r k * (X r k * G 0 k)) = S
    rw [mul_comm (S * _ * _) (H r k), add_assoc, add_self, sub_eq_add_neg,
      EReal.left_distrib_of_nonneg_of_ne_top (EReal.coe_nonneg.mpr hq) (EReal.coe_ne_top q), ← add_assoc, mul_comm (q : EReal) (X r k * G 0 k)]
    refine congrArg _ ?_
    rw [← mul_neg, ← mul_neg, ← EReal.coe_neg, ← EReal.coe_mul]
    have l : H r k * (S * ((-(1 / 2) * (q * q * q) : ℝ) : EReal) * ((1 / 1024 : ℝ) : EReal)) * ((2 : ℝ) : EReal)
        = H r k * S * ((-(1 / 2) * (q * q * q) * (1 / 1024) * 2 : ℝ) : EReal) := by
      simp only [EReal.coe_mul, mul_assoc]
    have t : (q : EReal) * (H r k * (q : EReal) * (S * (q : EReal) * ((-(1 / 1024) : ℝ) : EReal)))
        = H r k * S * ((q * q * q * (-(1 / 1024)) : ℝ) : EReal) := by
      simp only [EReal.coe_mul, mul_assoc, mul_left_comm, mul_comm]
    rw [l, t]
    congr 2
    ring

/-! ### Operations on arrays -/

section Shapes
variable (f g : ℕ → ℕ → EReal)

theorem hdiv_up {a b : ℕ} : Host.divf (up a b .f32 f) (up a b .f32 g) = up a b .f32 fun r c => Ideal.div (f r c) (g r c) := rfl
theorem hrsqrt_up {a b : ℕ} : Host.rsqrt (up a b .f32 f) = up a b .f32 fun r c => Ideal.rsqrt (f r c) := rfl
/-- A number at every entry of a column. -/
theorem const_up (w : Bits .f32) : broadcastInDim S8320x1 ![] bcast_S_S8320x1 (constant (F := Ideal) S_ .f32 w) = up 8320 1 .f32 fun _ _ => Ideal.ofBits .f32 w := rfl
/-- The sums of the rows, kept as a column, -/
theorem rows_up : broadcastInDim S8320x1 ![0] bcast_S8320_S8320x1_0 (Host.reduceAdd (up 8320 1024 .f32 f) (constant S_ .f32 0x00000000#32) reducesTo_S8320x1024_S8320_d1 h_S_)
    = up 8320 1 .f32 fun r _ => ∑ k ∈ range 1024, f r k := by
  funext j
  obtain ⟨r, z, rfl⟩ : ∃ (r : Fin 8320) (z : Fin 1), j = ValueIdx.ix2 r z := ⟨j 0, j 1, ValueIdx.eq_ix2 j⟩
  pointwise
  exact sum_up (n := 1024) fun k => f r.val k
/-- or reshaped to one; -/
theorem rows'_up : shapeCast S8320x1 (Host.reduceAdd (up 8320 1024 .f32 f) (constant S_ .f32 0x00000000#32) reducesTo_S8320x1024_S8320_d1 h_S_) shapeCasts_S8320_S8320x1
    = up 8320 1 .f32 fun r _ => ∑ k ∈ range 1024, f r k := by
  funext j
  obtain ⟨r, z, rfl⟩ : ∃ (r : Fin 8320) (z : Fin 1), j = ValueIdx.ix2 r z := ⟨j 0, j 1, ValueIdx.eq_ix2 j⟩
  pointwise
  exact sum_up (n := 1024) fun k => f r.val k
/-- of the columns; -/
theorem cols_up : shapeCast S1x1024 (Host.reduceAdd (up 8320 1024 .f32 f) (constant S_ .f32 0x00000000#32) reducesTo_S8320x1024_S1024_d0 h_S_) shapeCasts_S1024_S1x1024
    = up 1 1024 .f32 fun _ k => ∑ r ∈ range 8320, f r k := by
  funext j
  obtain ⟨z, k, rfl⟩ : ∃ (z : Fin 1) (k : Fin 1024), j = ValueIdx.ix2 z k := ⟨j 0, j 1, ValueIdx.eq_ix2 j⟩
  pointwise
  exact sum_up (n := 8320) fun r => f r k.val
/-- a column spread over the lanes, -/
theorem spread_up : broadcastInDim S8320x1024 ![0, 1] bcast_S8320x1_S8320x1024_0_1 (up 8320 1 .f32 f) = up 8320 1024 .f32 fun r _ => f r 0 := by
  funext j
  obtain ⟨r, k, rfl⟩ : ∃ (r : Fin 8320) (k : Fin 1024), j = ValueIdx.ix2 r k := ⟨j 0, j 1, ValueIdx.eq_ix2 j⟩
  pointwise
  rfl
/-- through its one-entry row sums, -/
theorem spread'_up : broadcastInDim S8320x1024 ![0] bcast_S8320_S8320x1024_0 (Host.reduceAdd (up 8320 1 .f32 f) (constant S_ .f32 0x00000000#32) reducesTo_S8320x1_S8320_d1 h_S_)
    = up 8320 1024 .f32 fun r _ => f r 0 := by
  funext j
  obtain ⟨r, k, rfl⟩ : ∃ (r : Fin 8320) (k : Fin 1024), j = ValueIdx.ix2 r k := ⟨j 0, j 1, ValueIdx.eq_ix2 j⟩
  pointwise
  exact (sum_up (n := 1) fun l => f r.val l).trans (sum_range_one _)
/-- and a row over the rows. -/
theorem gains_up : broadcastInDim S8320x1024 ![0, 1] bcast_S1x1024_S8320x1024_0_1 (up 1 1024 .f32 f) = up 8320 1024 .f32 fun _ k => f 0 k := by
  funext j
  obtain ⟨r, k, rfl⟩ : ∃ (r : Fin 8320) (k : Fin 1024), j = ValueIdx.ix2 r k := ⟨j 0, j 1, ValueIdx.eq_ix2 j⟩
  pointwise
  rfl

/-! ### The products, two of them turned round -/

theorem dot1_up : Host.dotGeneral (F := Ideal) (φ₂ := .f32) dot_S8320x1024_S1024x6272_S8320x6272_1_0_0_1_n_n none (up 8320 1024 .f32 f) (up 1024 6272 .f32 g)
    = up 8320 6272 .f32 (nn 1024 f g) := by
  funext j
  obtain ⟨r, n, rfl⟩ : ∃ (r : Fin 8320) (n : Fin 6272), j = ValueIdx.ix2 r n := ⟨j 0, j 1, ValueIdx.eq_ix2 j⟩
  pointwise
  exact sum_up (n := 1024) fun k => f r.val k * g k n.val
theorem dot2_up : Host.dotGeneral (F := Ideal) (φ₂ := .f32) dot_S8320x2048_S2048x1024_S8320x1024_1_0_0_1_n_n none (up 8320 2048 .f32 f) (up 2048 1024 .f32 g)
    = up 8320 1024 .f32 (nn 2048 f g) := by
  funext j
  obtain ⟨r, n, rfl⟩ : ∃ (r : Fin 8320) (n : Fin 1024), j = ValueIdx.ix2 r n := ⟨j 0, j 1, ValueIdx.eq_ix2 j⟩
  pointwise
  exact sum_up (n := 2048) fun k => f r.val k * g k n.val
theorem dot3_up : transpose S2048x1024 [1, 0] (Host.dotGeneral (F := Ideal) (φ₂ := .f32) dot_S8320x1024_S8320x2048_S1024x2048_0_0_1_1_n_n none (up 8320 1024 .f32 f) (up 8320 2048 .f32 g)) transposes_S1024x2048_S2048x1024_1_0
    = up 2048 1024 .f32 (tn 8320 g f) := by
  funext j
  obtain ⟨n, r, rfl⟩ : ∃ (n : Fin 2048) (r : Fin 1024), j = ValueIdx.ix2 n r := ⟨j 0, j 1, ValueIdx.eq_ix2 j⟩
  pointwise
  refine (sum_up (n := 8320) fun k => f k r.val * g k n.val).trans ?_
  exact sum_congr rfl fun _ _ => mul_comm _ _
theorem dot4_up : Host.dotGeneral (F := Ideal) (φ₂ := .f32) dot_S8320x1024_S2048x1024_S8320x2048_1_1_0_0_n_n none (up 8320 1024 .f32 f) (up 2048 1024 .f32 g)
    = up 8320 2048 .f32 (nt 1024 f g) := by
  funext j
  obtain ⟨r, n, rfl⟩ : ∃ (r : Fin 8320) (n : Fin 2048), j = ValueIdx.ix2 r n := ⟨j 0, j 1, ValueIdx.eq_ix2 j⟩
  pointwise
  exact sum_up (n := 1024) fun k => f r.val k * g n.val k
theorem dot5_up : transpose S1024x6272 [1, 0] (Host.dotGeneral (F := Ideal) (φ₂ := .f32) dot_S8320x6272_S8320x1024_S6272x1024_0_0_1_1_n_n none (up 8320 6272 .f32 f) (up 8320 1024 .f32 g)) transposes_S6272x1024_S1024x6272_1_0
    = up 1024 6272 .f32 (tn 8320 g f) := by
  funext j
  obtain ⟨n, r, rfl⟩ : ∃ (n : Fin 1024) (r : Fin 6272), j = ValueIdx.ix2 n r := ⟨j 0, j 1, ValueIdx.eq_ix2 j⟩
  pointwise
  refine (sum_up (n := 8320) fun k => f k r.val * g k n.val).trans ?_
  exact sum_congr rfl fun _ _ => mul_comm _ _
theorem dot6_up : Host.dotGeneral (F := Ideal) (φ₂ := .f32) dot_S8320x6272_S1024x6272_S8320x1024_1_1_0_0_n_n none (up 8320 6272 .f32 f) (up 1024 6272 .f32 g)
    = up 8320 1024 .f32 (nt 6272 f g) := by
  funext j
  obtain ⟨r, n, rfl⟩ : ∃ (r : Fin 8320) (n : Fin 1024), j = ValueIdx.ix2 r n := ⟨j 0, j 1, ValueIdx.eq_ix2 j⟩
  pointwise
  exact sum_up (n := 6272) fun k => f r.val k * g n.val k
end Shapes

/-! ### The seven results -/

section Terms
variable (h d x : FVec Ideal S8320x1024 .f32) (g : FVec Ideal S1x1024 .f32) (wi : FVec Ideal S1024x6272 .bf16) (y : FVec Ideal S8320x2048 .bf16) (wo : FVec Ideal S2048x1024 .bf16)
  (z : FVec Ideal S8320x6272 .f32)

/-- The mean squares, their reciprocal roots, the normalised rows and the scaled ones, -/
def t9 : FVec Ideal S8320x1 .f32 :=
  addf (Host.divf (broadcastInDim S8320x1 ![0] bcast_S8320_S8320x1_0 (Host.reduceAdd (mulf h h) (constant S_ .f32 0x00000000#32) reducesTo_S8320x1024_S8320_d1 h_S_))
    (broadcastInDim S8320x1 ![] bcast_S_S8320x1 (constant S_ .f32 0x44800000#32))) (broadcastInDim S8320x1 ![] bcast_S_S8320x1 (constant S_ .f32 0x358637BD#32))
def t10 : FVec Ideal S8320x1 .f32 := Host.rsqrt (t9 h)
def t15 : FVec Ideal S8320x1024 .f32 := mulf h (broadcastInDim S8320x1024 ![0, 1] bcast_S8320x1_S8320x1024_0_1 (t10 h))
def t17 : FVec Ideal S8320x1024 .f32 := mulf (t15 h) (broadcastInDim S8320x1024 ![0, 1] bcast_S1x1024_S8320x1024_0_1 g)
/-- the two projections, -/
def t18 : FVec Ideal S8320x6272 .f32 := Host.dotGeneral (φ₂ := .f32) dot_S8320x1024_S1024x6272_S8320x6272_1_0_0_1_n_n none (t17 h g) (extf .f32 wi bitsLt_bf16_f32)
def t20 : FVec Ideal S8320x1024 .f32 :=
  addf h (Host.dotGeneral (φ₂ := .f32) dot_S8320x2048_S2048x1024_S8320x1024_1_0_0_1_n_n none (extf .f32 y bitsLt_bf16_f32) (extf .f32 wo bitsLt_bf16_f32))
/-- the gradients of the projections, -/
def t23 : FVec Ideal S2048x1024 .f32 :=
  transpose S2048x1024 [1, 0] (Host.dotGeneral (φ₂ := .f32) dot_S8320x1024_S8320x2048_S1024x2048_0_0_1_1_n_n none (shapeCast S8320x1024 d shapeCasts_S8320x1024_S8320x1024) (extf .f32 y bitsLt_bf16_f32))
    transposes_S1024x2048_S2048x1024_1_0
def t24 : FVec Ideal S8320x2048 .f32 :=
  Host.dotGeneral (φ₂ := .f32) dot_S8320x1024_S2048x1024_S8320x2048_1_1_0_0_n_n none (shapeCast S8320x1024 d shapeCasts_S8320x1024_S8320x1024) (extf .f32 wo bitsLt_bf16_f32)
def t26 : FVec Ideal S1024x6272 .f32 :=
  transpose S1024x6272 [1, 0] (Host.dotGeneral (φ₂ := .f32) dot_S8320x6272_S8320x1024_S6272x1024_0_0_1_1_n_n none z (t17 h g)) transposes_S6272x1024_S1024x6272_1_0
def t27 : FVec Ideal S8320x1024 .f32 := Host.dotGeneral (φ₂ := .f32) dot_S8320x6272_S1024x6272_S8320x1024_1_1_0_0_n_n none z (extf .f32 wi bitsLt_bf16_f32)
/-- and of the norm, of what arrives at its result. -/
def t30 : FVec Ideal S1x1024 .f32 :=
  shapeCast S1x1024 (Host.reduceAdd (mulf (t15 h) x) (constant S_ .f32 0x00000000#32) reducesTo_S8320x1024_S1024_d0 h_S_) shapeCasts_S1024_S1x1024
def t32 : FVec Ideal S8320x1024 .f32 := mulf x (broadcastInDim S8320x1024 ![0, 1] bcast_S1x1024_S8320x1024_0_1 g)
def t43 : FVec Ideal S8320x1024 .f32 :=
  broadcastInDim S8320x1024 ![0] bcast_S8320_S8320x1024_0 (Host.reduceAdd (Host.divf
    (mulf (shapeCast S8320x1 (Host.reduceAdd (mulf h (t32 x g)) (constant S_ .f32 0x00000000#32) reducesTo_S8320x1024_S8320_d1 h_S_) shapeCasts_S8320_S8320x1)
      (mulf (broadcastInDim S8320x1 ![] bcast_S_S8320x1 (constant S_ .f32 0xBF000000#32)) (Host.divf (t10 h) (t9 h))))
    (broadcastInDim S8320x1 ![] bcast_S_S8320x1 (constant S_ .f32 0x44800000#32))) (constant S_ .f32 0x00000000#32) reducesTo_S8320x1_S8320_d1 h_S_)
def t47 : FVec Ideal S8320x1024 .f32 :=
  addf (addf (addf d (mulf (t32 x g) (broadcastInDim S8320x1024 ![0, 1] bcast_S8320x1_S8320x1024_0_1 (t10 h)))) (mulf h (t43 h x g))) (mulf (t43 h x g) h)
end Terms

section Entries
variable (H G Wi Y Wo Z D X : ℕ → ℕ → EReal)

theorem t9_up : t9 (up 8320 1024 .f32 H) = up 8320 1 .f32 fun r _ => vr H r := by
  unfold t9
  rw [mul_up, rows_up, const_up, const_up, hdiv_up, add_up]
  rfl
theorem t10_up : t10 (up 8320 1024 .f32 H) = up 8320 1 .f32 fun r _ => rs H r := by
  unfold t10
  rw [t9_up, hrsqrt_up]
  rfl
theorem t15_up : t15 (up 8320 1024 .f32 H) = up 8320 1024 .f32 (xh H) := by
  unfold t15
  rw [t10_up, spread_up, mul_up]
  rfl
theorem t17_up : t17 (up 8320 1024 .f32 H) (up 1 1024 .f32 G) = up 8320 1024 .f32 (xn H G) := by
  unfold t17
  rw [t15_up, gains_up, mul_up]
  rfl
theorem t18_up : t18 (up 8320 1024 .f32 H) (up 1 1024 .f32 G) (up 1024 6272 .bf16 Wi) = up 8320 6272 .f32 (nn 1024 (xn H G) Wi) := by
  unfold t18
  rw [t17_up, ext_up, dot1_up]
theorem t20_up : t20 (up 8320 1024 .f32 H) (up 8320 2048 .bf16 Y) (up 2048 1024 .bf16 Wo) = up 8320 1024 .f32 (outR H (nn 2048 Y Wo)) := by
  unfold t20
  rw [ext_up, ext_up, dot2_up, add_up]
  rfl
theorem t23_up : t23 (up 8320 1024 .f32 D) (up 8320 2048 .bf16 Y) = up 2048 1024 .f32 (tn 8320 Y D) := by
  unfold t23
  rw [same_up, ext_up, dot3_up]
theorem t24_up : t24 (up 8320 1024 .f32 D) (up 2048 1024 .bf16 Wo) = up 8320 2048 .f32 (nt 1024 D Wo) := by
  unfold t24
  rw [same_up, ext_up, dot4_up]
theorem t26_up : t26 (up 8320 1024 .f32 H) (up 1 1024 .f32 G) (up 8320 6272 .f32 Z) = up 1024 6272 .f32 (tn 8320 (xn H G) Z) := by
  unfold t26
  rw [t17_up, dot5_up]
theorem t27_up : t27 (up 1024 6272 .bf16 Wi) (up 8320 6272 .f32 Z) = up 8320 1024 .f32 (nt 6272 Z Wi) := by
  unfold t27
  rw [ext_up, dot6_up]
theorem t30_up : t30 (up 8320 1024 .f32 H) (up 8320 1024 .f32 X) = up 1 1024 .f32 (dgR 8320 H X) := by
  unfold t30
  rw [t15_up, mul_up, cols_up]
  exact congrArg (up 1 1024 .f32) (funext fun _ => funext fun _ => sum_congr rfl fun _ _ => mul_comm _ _)
theorem t32_up : t32 (up 8320 1024 .f32 X) (up 1 1024 .f32 G) = up 8320 1024 .f32 fun r k => X r k * G 0 k := by
  unfold t32
  rw [gains_up, mul_up]
theorem t47_up : t47 (up 8320 1024 .f32 H) (up 8320 1024 .f32 D) (up 8320 1024 .f32 X) (up 1 1024 .f32 G) = up 8320 1024 .f32 (dhR H X G D) := by
  unfold t47 t43
  rw [t32_up, t10_up, t9_up, spread_up, mul_up, add_up, mul_up, rows'_up, const_up, const_up, hdiv_up, mul_up, mul_up, hdiv_up, spread'_up, mul_up, mul_up, add_up, add_up]
  exact congrArg (up 8320 1024 .f32) (funext fun r => funext fun k => dh_eq H G X D r k)
end Entries

theorem v47_term (m : (ℓ : Loc nD τ sig) → Buf (Elt Ideal) ℓ) (c : Dev nD) : res_main_v47 m c = t47 (m ((c.tc : Thread nD τ).loc main_arg0)) (m ((c.tc : Thread nD τ).loc main_arg6))
    (t27 (m ((c.tc : Thread nD τ).loc main_arg2)) (m ((c.tc : Thread nD τ).loc main_arg5))) (m ((c.tc : Thread nD τ).loc main_arg1)) := rfl

end Cert.Proof.Mix.Ref

end
-- ==== Proof.MixValue.lean ====
module

public import proofs.«01_k».proof.Defs
public import proofs.«01_k».proof.Proof.MixArrays
public import proofs.«01_k».proof.Proof.MixRef

@[expose] public section

set_option maxRecDepth 65536

noncomputable section

/-! The eight calls and the unblocked computation leave the same extended reals. -/

namespace Cert.Proof

open Idealize.ShloMosaic Idealize.SL.Sem

namespace Mix
open Cert.Kernel3Ideal

/-- Whatever the operands hold is an array of numbers. -/
theorem args_of (m : (ℓ : Loc nD τ sig) → Buf (Elt Ideal) ℓ) (c : Dev nD) : ∃ H G Wi Y Wo Z D, Args m c H G Wi Y Wo Z D := by
  obtain ⟨H, h0⟩ := up_of (φ := .f32) (a := 8320) (b := 1024) (m ((c.tc : Thread nD τ).loc main_arg0))
  obtain ⟨G, h1⟩ := up_of (φ := .f32) (a := 1) (b := 1024) (m ((c.tc : Thread nD τ).loc main_arg1))
  obtain ⟨Wi, h2⟩ := up_of (φ := .bf16) (a := 1024) (b := 6272) (m ((c.tc : Thread nD τ).loc main_arg2))
  obtain ⟨Y, h3⟩ := up_of (φ := .bf16) (a := 8320) (b := 2048) (m ((c.tc : Thread nD τ).loc main_arg3))
  obtain ⟨Wo, h4⟩ := up_of (φ := .bf16) (a := 2048) (b := 1024) (m ((c.tc : Thread nD τ).loc main_arg4))
  obtain ⟨Z, h5⟩ := up_of (φ := .f32) (a := 8320) (b := 6272) (m ((c.tc : Thread nD τ).loc main_arg5))
  obtain ⟨D, h6⟩ := up_of (φ := .f32) (a := 8320) (b := 1024) (m ((c.tc : Thread nD τ).loc main_arg6))
  exact ⟨H, G, Wi, Y, Wo, Z, D, h0, h1, h2, h3, h4, h5, h6⟩

end Mix

/-- The same two projections and the same five gradients. -/
theorem same_values3 : Cert.algebraic_Kernel3Ideal_Reference3Ideal := by
  intro m g m' g' _ hargs
  refine ⟨fun c => Mix.o_v1 m c, fun c => Mix.o_v2 m c, fun c => Mix.o_v7_0 m c, fun c => Mix.o_v7_1 m c, fun c => Mix.o_v5 m c, fun c => Mix.o_v3 m c, fun c => Mix.o_v4 m c, ?_, ?_⟩
  · refine (θ_run Cert.Kernel3Ideal.defs _ _).mono (fun r h c => ?_) (Mix.run_main (F := Ideal) m g)
    have e := h.1 c
    have k := fun b hb => Mix.end_at m c r.2 e b hb
    have a := fun b hb => Mix.end_arg m c r.2 e b hb
    refine ⟨(k _ (by decide)).trans ?_, (k _ (by decide)).trans ?_, (k _ (by decide)).trans (Mix.U8_v7_0 m c), (k _ (by decide)).trans (Mix.U8_v7_1 m c),
      (k _ (by decide)).trans ?_, (k _ (by decide)).trans ?_, (k _ (by decide)).trans ?_, a _ (by decide), a _ (by decide), a _ (by decide), a _ (by decide), a _ (by decide),
      a _ (by decide), a _ (by decide)⟩
    · rw [Mix.U8_of m c _ (by decide) (by decide), Mix.U7_of m c _ (by decide), Mix.U6_of m c _ (by decide), Mix.U5_of m c _ (by decide), Mix.U4_of m c _ (by decide), Mix.U3_of m c _ (by decide)]
      exact Mix.U2_v1 m c
    · rw [Mix.U8_of m c _ (by decide) (by decide), Mix.U7_of m c _ (by decide), Mix.U6_of m c _ (by decide), Mix.U5_of m c _ (by decide), Mix.U4_of m c _ (by decide)]
      exact Mix.U3_v2 m c
    · rw [Mix.U8_of m c _ (by decide) (by decide), Mix.U7_of m c _ (by decide)]
      exact Mix.U6_v5 m c
    · rw [Mix.U8_of m c _ (by decide) (by decide), Mix.U7_of m c _ (by decide), Mix.U6_of m c _ (by decide), Mix.U5_of m c _ (by decide)]
      exact Mix.U4_v3 m c
    · rw [Mix.U8_of m c _ (by decide) (by decide), Mix.U7_of m c _ (by decide), Mix.U6_of m c _ (by decide)]
      exact Mix.U5_v4 m c
  · refine (θ_run Cert.Reference3Ideal.defs _ _).mono (fun r h c => ?_) (Cert.Reference3Ideal.Value.run (F := Ideal) m' g')
    obtain ⟨r0, r1, r2, r3, r4, r5, r6, ra⟩ := h c
    obtain ⟨H, G, Wi, Y, Wo, Z, D, A⟩ := Mix.args_of m c
    obtain ⟨a0, a1, a2, a3, a4, a5, a6⟩ := hargs c
    have A' := A
    obtain ⟨e0, e1, e2, e3, e4, e5, e6⟩ := A'
    rw [e0] at a0
    rw [e1] at a1
    rw [e2] at a2
    rw [e3] at a3
    rw [e4] at a4
    rw [e5] at a5
    rw [e6] at a6
    have s0 := r0.trans (show _ = Mix.Ref.t18 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) from rfl)
    rw [a0, a1, a2, Mix.Ref.t18_up, ← Mix.o_v1_eq A] at s0
    have s1 := r1.trans (show _ = Mix.Ref.t20 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) from rfl)
    rw [a0, a3, a4, Mix.Ref.t20_up, ← Mix.o_v2_eq A] at s1
    have s2 := r2.trans (Mix.Ref.v47_term m' c)
    rw [a0, a6, a1, a2, a5, Mix.Ref.t27_up, Mix.Ref.t47_up, ← Mix.o_v7_0_eq A] at s2
    have s3 := r3.trans (show _ = Mix.Ref.t30 (m' ((c.tc : Thread Cert.Reference3Ideal.nD Cert.Reference3Ideal.τ).loc Cert.Reference3Ideal.main_arg0)) (Mix.Ref.t27 (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5))) from rfl)
    rw [a0, a2, a5, Mix.Ref.t27_up, Mix.Ref.t30_up, ← Mix.o_v7_1_eq A] at s3
    have s4 := r4.trans (show _ = Mix.Ref.t26 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg5)) from rfl)
    rw [a0, a1, a5, Mix.Ref.t26_up, ← Mix.o_v5_eq A] at s4
    have s5 := r5.trans (show _ = Mix.Ref.t24 (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg4)) from rfl)
    rw [a6, a4, Mix.Ref.t24_up, ← Mix.o_v3_eq A] at s5
    have s6 := r6.trans (show _ = Mix.Ref.t23 (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg3)) from rfl)
    rw [a6, a3, Mix.Ref.t23_up, ← Mix.o_v4_eq A] at s6
    exact ⟨s0, s1, s2, s3, s4, s5, s6, ra⟩

end Cert.Proof

end
-- ==== Proof.QoStep.lean ====
module

public import proofs.«01_k».proof.Proof.Steps
public import proofs.«01_k».proof.Proof.Gen.Kernel4Ideal
public import proofs.«01_k».proof.Proof.Gen.Kernel4Ideal.Skeleton

@[expose] public section

set_option synthInstance.maxSize 4096
set_option maxRecDepth 65536

noncomputable section

/-! What a grid point of each of the mixer's projection kernels does to the memrefs it is given. -/

namespace Cert.Proof.Qo

open Cert.Kernel4Ideal Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Proof.Steps (has hz2 isFirst isLater accOf wp_whole wp_fill wp_two wp_three wp_sum)

variable {F : FTy → Type} [FloatOps F]

abbrev PR (F : FTy → Type) (α : Type) := Prog (TpuEff nD τ sig (Elt F) Λ₀ .tc) α

/-- What call 4 leaves in its accumulator at a point, from its two blocks and what the accumulator held; -/
def acc4 (i : grid4.Coords) (x : Vec F S640x1024 .bf16) (y : Vec F S640x512 .f32) (s : Vec F S1024x512 .f32) : Vec F S1024x512 .f32 :=
  accOf (i 2).val (k4_pay2 x y) (k4_pay3 x y) s
/-- and in its output block, from what that held. -/
def res4 (i : grid4.Coords) (x : Vec F S640x1024 .bf16) (y : Vec F S640x512 .f32) (s d : Vec F S1024x512 .f32) : Vec F S1024x512 .f32 :=
  if k4_cond3 i = 1#1 then (acc4 i x y s) else d

/-- What call 5 leaves in its accumulator at a point, from its two blocks and what the accumulator held; -/
def acc5 (i : grid5.Coords) (x : Vec F S640x1024 .bf16) (y : Vec F S640x512 .bf16) (s : Vec F S1024x512 .f32) : Vec F S1024x512 .f32 :=
  accOf (i 2).val (k5_pay2 x y) (k5_pay3 x y) s
/-- and in its output block, from what that held. -/
def res5 (i : grid5.Coords) (x : Vec F S640x1024 .bf16) (y : Vec F S640x512 .bf16) (s d : Vec F S1024x512 .f32) : Vec F S1024x512 .f32 :=
  if k5_cond3 i = 1#1 then (acc5 i x y s) else d

/-- What call 7 leaves in its row of sums at a point, from its blocks and what the row held. -/
def acc7 (i : grid7.Coords) (x : Vec F S416x1024 .f32) (h : Vec F S416x1024 .f32) (s : Vec F S1x1024 .f32) : Vec F S1x1024 .f32 :=
  k7_pay1 (k7_pay7 (if isFirst (i 0).val then k7_pay6 else s)) (k7_pay8 h x)

section

variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (Es : Set Name)

local notation "𝕄" => MT nD τ sig Ix (Elt F) Name U Lvl
local notation "wpk" => wp frame (wpE (Ix := Ix) (Name := Name) (U := U) (Lvl := Lvl) defs 𝒱 (c : Thread nD τ) bd) Es

/-- Call 0 at a grid point. -/
theorem wp_k0 {Q : PUnit → sProp 𝕄} (i : grid0.Coords) (arg1 : Memref sig .tc .vmem S832x1024 .f32) (harg1 : arg1.IsWhole) (arg2 : Memref sig .tc .vmem S1x1024 .f32) (harg2 : arg2.IsWhole) (arg3 : Memref sig .tc .vmem S832x1024 .bf16) (harg3 : arg3.IsWhole)
    (x0 : Vec F S832x1024 .f32) (x1 : Vec F S1x1024 .f32) (x2 : Vec F S832x1024 .bf16) :
    (iprop(has c arg1 x0 ∗ has c arg2 x1 ∗ has c arg3 x2) : sProp 𝕄)
      ⊢ iprop((iprop(has c arg1 x0 ∗ has c arg2 x1 ∗ has c arg3 (k0_pay1 x0 x1)) -∗ Q ⟨⟩)
        -∗ wpk (cc0_a_norm i arg1 harg1 arg2 harg2 arg3 harg3 : PR F PUnit) Q) := by
  rw [cc0_a_norm_eq_skeleton]; unfold cc0_a_norm_skel
  exact wp_two (defs := defs) 𝒱 c bd Es arg1 arg2 arg3 hz2 hz2 hz2 k0_pay1 x0 x1 x2

/-- Call 1 at a grid point. -/
theorem wp_k1 {Q : PUnit → sProp 𝕄} (i : grid1.Coords) (arg3 : Memref sig .tc .vmem S640x1024 .bf16) (harg3 : arg3.IsWhole) (arg4 : Memref sig .tc .vmem S1024x1024 .bf16) (harg4 : arg4.IsWhole) (arg5 : Memref sig .tc .vmem S640x1024 .f32) (harg5 : arg5.IsWhole)
    (x0 : Vec F S640x1024 .bf16) (x1 : Vec F S1024x1024 .bf16) (x2 : Vec F S640x1024 .f32) :
    (iprop(has c arg3 x0 ∗ has c arg4 x1 ∗ has c arg5 x2) : sProp 𝕄)
      ⊢ iprop((iprop(has c arg3 x0 ∗ has c arg4 x1 ∗ has c arg5 (k1_pay1 x0 x1)) -∗ Q ⟨⟩)
        -∗ wpk (cc1_a_q i arg3 harg3 arg4 harg4 arg5 harg5 : PR F PUnit) Q) := by
  rw [cc1_a_q_eq_skeleton]; unfold cc1_a_q_skel
  exact wp_two (defs := defs) 𝒱 c bd Es arg3 arg4 arg5 hz2 hz2 hz2 k1_pay1 x0 x1 x2

/-- Call 2 at a grid point. -/
theorem wp_k2 {Q : PUnit → sProp 𝕄} (i : grid2.Coords) (arg3 : Memref sig .tc .vmem S640x1024 .bf16) (harg3 : arg3.IsWhole) (arg4 : Memref sig .tc .vmem S1024x1024 .bf16) (harg4 : arg4.IsWhole) (arg5 : Memref sig .tc .vmem S640x1024 .f32) (harg5 : arg5.IsWhole) (arg6 : Memref sig .tc .vmem S640x1024 .f32) (harg6 : arg6.IsWhole)
    (x0 : Vec F S640x1024 .bf16) (x1 : Vec F S1024x1024 .bf16) (x2 : Vec F S640x1024 .f32) (x3 : Vec F S640x1024 .f32) :
    (iprop(has c arg3 x0 ∗ has c arg4 x1 ∗ has c arg5 x2 ∗ has c arg6 x3) : sProp 𝕄)
      ⊢ iprop((iprop(has c arg3 x0 ∗ has c arg4 x1 ∗ has c arg5 x2 ∗ has c arg6 (k2_pay1 x0 x1 x2)) -∗ Q ⟨⟩)
        -∗ wpk (cc2_a_o i arg3 harg3 arg4 harg4 arg5 harg5 arg6 harg6 : PR F PUnit) Q) := by
  rw [cc2_a_o_eq_skeleton]; unfold cc2_a_o_skel
  exact wp_three (defs := defs) 𝒱 c bd Es arg3 arg4 arg5 arg6 hz2 hz2 hz2 hz2 k2_pay1 x0 x1 x2 x3

/-- Call 3 at a grid point. -/
theorem wp_k3 {Q : PUnit → sProp 𝕄} (i : grid3.Coords) (arg3 : Memref sig .tc .vmem S640x1024 .f32) (harg3 : arg3.IsWhole) (arg4 : Memref sig .tc .vmem S1024x1024 .bf16) (harg4 : arg4.IsWhole) (arg5 : Memref sig .tc .vmem S640x1024 .bf16) (harg5 : arg5.IsWhole)
    (x0 : Vec F S640x1024 .f32) (x1 : Vec F S1024x1024 .bf16) (x2 : Vec F S640x1024 .bf16) :
    (iprop(has c arg3 x0 ∗ has c arg4 x1 ∗ has c arg5 x2) : sProp 𝕄)
      ⊢ iprop((iprop(has c arg3 x0 ∗ has c arg4 x1 ∗ has c arg5 (k3_pay1 x0 x1)) -∗ Q ⟨⟩)
        -∗ wpk (cc3_b_do i arg3 harg3 arg4 harg4 arg5 harg5 : PR F PUnit) Q) := by
  rw [cc3_b_do_eq_skeleton]; unfold cc3_b_do_skel
  exact wp_two (defs := defs) 𝒱 c bd Es arg3 arg4 arg5 hz2 hz2 hz2 k3_pay1 x0 x1 x2

/-- Call 4 at a grid point. -/
theorem wp_k4 {Q : PUnit → sProp 𝕄} (i : grid4.Coords) (arg3 : Memref sig .tc .vmem S640x1024 .bf16) (harg3 : arg3.IsWhole) (arg4 : Memref sig .tc .vmem S640x512 .f32) (harg4 : arg4.IsWhole) (arg5 : Memref sig .tc .vmem S1024x512 .f32) (harg5 : arg5.IsWhole) (arg6 : Memref sig .tc .vmem S1024x512 .f32) (harg6 : arg6.IsWhole)
    (x0 : Vec F S640x1024 .bf16) (x1 : Vec F S640x512 .f32) (x2 : Vec F S1024x512 .f32) (x3 : Vec F S1024x512 .f32) :
    (iprop(has c arg3 x0 ∗ has c arg4 x1 ∗ has c arg5 x2 ∗ has c arg6 x3) : sProp 𝕄)
      ⊢ iprop((iprop(has c arg3 x0 ∗ has c arg4 x1 ∗ has c arg5 (res4 i x0 x1 x3 x2) ∗ has c arg6 (acc4 i x0 x1 x3)) -∗ Q ⟨⟩)
        -∗ wpk (cc4_b_dwo i arg3 harg3 arg4 harg4 arg5 harg5 arg6 harg6 : PR F PUnit) Q) := by
  rw [cc4_b_dwo_eq_skeleton]; unfold cc4_b_dwo_skel
  exact wp_sum (defs := defs) 𝒱 c bd Es arg3 arg4 arg5 arg6 hz2 hz2 hz2 hz2 (i 2).val (k4_cond3 i = 1#1) k4_pay2 k4_pay3 (fun v => v) x0 x1 x2 x3

/-- Call 5 at a grid point. -/
theorem wp_k5 {Q : PUnit → sProp 𝕄} (i : grid5.Coords) (arg3 : Memref sig .tc .vmem S640x1024 .bf16) (harg3 : arg3.IsWhole) (arg4 : Memref sig .tc .vmem S640x512 .bf16) (harg4 : arg4.IsWhole) (arg5 : Memref sig .tc .vmem S1024x512 .f32) (harg5 : arg5.IsWhole) (arg6 : Memref sig .tc .vmem S1024x512 .f32) (harg6 : arg6.IsWhole)
    (x0 : Vec F S640x1024 .bf16) (x1 : Vec F S640x512 .bf16) (x2 : Vec F S1024x512 .f32) (x3 : Vec F S1024x512 .f32) :
    (iprop(has c arg3 x0 ∗ has c arg4 x1 ∗ has c arg5 x2 ∗ has c arg6 x3) : sProp 𝕄)
      ⊢ iprop((iprop(has c arg3 x0 ∗ has c arg4 x1 ∗ has c arg5 (res5 i x0 x1 x3 x2) ∗ has c arg6 (acc5 i x0 x1 x3)) -∗ Q ⟨⟩)
        -∗ wpk (cc5_b_dwq i arg3 harg3 arg4 harg4 arg5 harg5 arg6 harg6 : PR F PUnit) Q) := by
  rw [cc5_b_dwq_eq_skeleton]; unfold cc5_b_dwq_skel
  exact wp_sum (defs := defs) 𝒱 c bd Es arg3 arg4 arg5 arg6 hz2 hz2 hz2 hz2 (i 2).val (k5_cond3 i = 1#1) k5_pay2 k5_pay3 (fun v => v) x0 x1 x2 x3

/-- Call 6 at a grid point. -/
theorem wp_k6 {Q : PUnit → sProp 𝕄} (i : grid6.Coords) (arg3 : Memref sig .tc .vmem S640x1024 .bf16) (harg3 : arg3.IsWhole) (arg4 : Memref sig .tc .vmem S1024x1024 .bf16) (harg4 : arg4.IsWhole) (arg5 : Memref sig .tc .vmem S640x1024 .f32) (harg5 : arg5.IsWhole)
    (x0 : Vec F S640x1024 .bf16) (x1 : Vec F S1024x1024 .bf16) (x2 : Vec F S640x1024 .f32) :
    (iprop(has c arg3 x0 ∗ has c arg4 x1 ∗ has c arg5 x2) : sProp 𝕄)
      ⊢ iprop((iprop(has c arg3 x0 ∗ has c arg4 x1 ∗ has c arg5 (k6_pay1 x0 x1)) -∗ Q ⟨⟩)
        -∗ wpk (cc6_b_du1 i arg3 harg3 arg4 harg4 arg5 harg5 : PR F PUnit) Q) := by
  rw [cc6_b_du1_eq_skeleton]; unfold cc6_b_du1_skel
  exact wp_two (defs := defs) 𝒱 c bd Es arg3 arg4 arg5 hz2 hz2 hz2 k6_pay1 x0 x1 x2

/-- Call 7 at a grid point. -/
theorem wp_k7 {Q : PUnit → sProp 𝕄} (i : grid7.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x1024 .f32) (harg4 : arg4.IsWhole) (arg5 : Memref sig .tc .vmem S416x1024 .f32) (harg5 : arg5.IsWhole) (arg6 : Memref sig .tc .vmem S1x1024 .f32) (harg6 : arg6.IsWhole)
    (x0 : Vec F S416x1024 .f32) (x1 : Vec F S416x1024 .f32) (x2 : Vec F S1x1024 .f32) (x3 : Vec F S416x1024 .f32) (x4 : Vec F S416x1024 .f32) (x5 : Vec F S1x1024 .f32) :
    (iprop(has c arg1 x0 ∗ has c arg2 x1 ∗ has c arg3 x2 ∗ has c arg4 x3 ∗ has c arg5 x4 ∗ has c arg6 x5) : sProp 𝕄)
      ⊢ iprop((iprop(has c arg1 x0 ∗ has c arg2 x1 ∗ has c arg3 x2 ∗ has c arg4 x3 ∗ has c arg5 (k7_pay5 x1 x0 x2 x3) ∗ has c arg6 (acc7 i x0 x1 x5)) -∗ Q ⟨⟩)
        -∗ wpk (cc7_b_anorm i arg1 harg1 arg2 harg2 arg3 harg3 arg4 harg4 arg5 harg5 arg6 harg6 : PR F PUnit) Q) := by
  rw [cc7_b_anorm_eq_skeleton]; unfold cc7_b_anorm_skel
  rw [k7_part1_eq_skeleton]; unfold k7_part1_skel
  dsimp only
  unfold acc7
  simp only [bind_assoc, pure_bind]
  by_cases h1 : isFirst (i 0).val
  · rw [if_pos h1]
    iintro ⟨H0, H1, H2, H3, H4, H5⟩ HQ
    iapply (wp_whole (defs := defs) 𝒱 c bd Es arg2 hz2) $$ H1
    iintro H1
    iapply (wp_whole (defs := defs) 𝒱 c bd Es arg1 hz2) $$ H0
    iintro H0
    iapply (wp_whole (defs := defs) 𝒱 c bd Es arg3 hz2) $$ H2
    iintro H2
    iapply (wp_whole (defs := defs) 𝒱 c bd Es arg4 hz2) $$ H3
    iintro H3
    iapply (wp_whole (defs := defs) 𝒱 c bd Es arg5 hz2) $$ H4
    iintro H4
    iapply (wp_fill (defs := defs) 𝒱 c bd Es arg5 hz2) $$ H4
    iintro H4
    simp only [dif_pos h1, bind_assoc, pure_bind]
    iapply (wp_whole (defs := defs) 𝒱 c bd Es arg6 hz2) $$ H5
    iintro H5
    iapply (wp_fill (defs := defs) 𝒱 c bd Es arg6 hz2) $$ H5
    iintro H5
    iapply (wp_whole (defs := defs) 𝒱 c bd Es arg6 hz2) $$ H5
    iintro H5
    iapply (wp_whole (defs := defs) 𝒱 c bd Es arg6 hz2) $$ H5
    iintro H5
    iapply (wp_fill (defs := defs) 𝒱 c bd Es arg6 hz2) $$ H5
    iintro H5
    rw [wp_pure]
    imodintro
    iapply HQ
    iframe
  · rw [if_neg h1]
    iintro ⟨H0, H1, H2, H3, H4, H5⟩ HQ
    iapply (wp_whole (defs := defs) 𝒱 c bd Es arg2 hz2) $$ H1
    iintro H1
    iapply (wp_whole (defs := defs) 𝒱 c bd Es arg1 hz2) $$ H0
    iintro H0
    iapply (wp_whole (defs := defs) 𝒱 c bd Es arg3 hz2) $$ H2
    iintro H2
    iapply (wp_whole (defs := defs) 𝒱 c bd Es arg4 hz2) $$ H3
    iintro H3
    iapply (wp_whole (defs := defs) 𝒱 c bd Es arg5 hz2) $$ H4
    iintro H4
    iapply (wp_fill (defs := defs) 𝒱 c bd Es arg5 hz2) $$ H4
    iintro H4
    simp only [dif_neg h1, bind_assoc, pure_bind]
    iapply (wp_whole (defs := defs) 𝒱 c bd Es arg6 hz2) $$ H5
    iintro H5
    iapply (wp_whole (defs := defs) 𝒱 c bd Es arg6 hz2) $$ H5
    iintro H5
    iapply (wp_fill (defs := defs) 𝒱 c bd Es arg6 hz2) $$ H5
    iintro H5
    rw [wp_pure]
    imodintro
    iapply HQ
    iframe

end

end Cert.Proof.Qo
-- ==== Proof.QoRun.lean ====
module

public import proofs.«01_k».proof.Proof.Bodies
public import proofs.«01_k».proof.Proof.QoStep
public import proofs.«01_k».proof.Proof.Gen.Kernel4Ideal.Launch
public import proofs.«01_k».proof.Proof.Gen.Kernel4Ideal.Points
public import Idealize.ShloMosaic.Lib.Pipeline.Value

@[expose] public section

set_option synthInstance.maxSize 4096
set_option maxRecDepth 65536

noncomputable section

/-! What each of the eight calls leaves in its arrays, at any contents it is entered with. -/

namespace Cert.Proof.Qo

open Cert.Kernel4Ideal Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Bodies (before_in body_of body_acc left_of)
open Cert.Proof.Steps (accOf_start accOf_next first_iff later_iff isFirst isLater)
open Idealize.ShloMosaic.Pipeline (Dat Cfg Window BodyObligation)

variable {F : FTy → Type} [FloatOps F]

/-- The pipelines' bookkeeping, and nothing else of note beside it. -/
abbrev UU : Type := UR sig nD τ × UR sig nD τ
local notation "𝕄" => MT nD τ sig Unit (Elt F) ℕ UU ℕ
abbrev EP : Emb (UR sig nD τ) (MT nD τ sig Unit (Elt F) ℕ UU ℕ) := embL
abbrev 𝒱₀ : Variants := Variants.none

/-- What every buffer of a core holds. -/
abbrev Val0 (F : FTy → Type) := (c : Dev nD) → (b : Ref sig .tc) → Buf (Elt F) ((c : Thread nD τ).loc b)

variable (V : Val0 F) (c : Dev nD)

/-! ### Call 0 -/

/-- The block of window `w`'s array at a point. -/
def blk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t : Vec F S832x1024 .f32) (blk0 V c 1 t : Vec F S1x1024 .f32)
  Φ _ := Pipeline.scopedRest (Ix := Unit) (Name := ℕ) (U := UU) (Lvl := ℕ) (Val := Elt F) spec0 c
  q _ := fullShare
  owed _ := 0

theorem before0_0 (t : Fin cfg0.N) (d) : (dat0 V c).before 0 t d = blk0 V c 0 t :=
  before_in (dat0 V c) 0 t d
theorem before0_1 (t : Fin cfg0.N) (d) : (dat0 V c).before 1 t d = blk0 V c 1 t :=
  before_in (dat0 V c) 1 t d

theorem body0 : BodyObligation (dat0 V c) (defs₀ (F := F)) 𝒱₀ () Set.univ :=
  body_of _ _ _ fun t x Q => by
  rw [bigSep_W0, bigSep_W0, before0_0, before0_1]
  exact wp_k0 (Q := fun _ => Q) 𝒱₀ c none _ (grid0.coords t) _ (hstage0_0 _) _ (hstage0_1 _) _ (hstage0_2 _) _ _ _

/-! ### Call 1 -/

/-- The block of window `w`'s array at a point. -/
def blk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t : Vec F S640x1024 .bf16) (blk1 V c 1 t : Vec F S1024x1024 .bf16)
  Φ _ := Pipeline.scopedRest (Ix := Unit) (Name := ℕ) (U := UU) (Lvl := ℕ) (Val := Elt F) spec1 c
  q _ := fullShare
  owed _ := 0

theorem before1_0 (t : Fin cfg1.N) (d) : (dat1 V c).before 0 t d = blk1 V c 0 t :=
  before_in (dat1 V c) 0 t d
theorem before1_1 (t : Fin cfg1.N) (d) : (dat1 V c).before 1 t d = blk1 V c 1 t :=
  before_in (dat1 V c) 1 t d

theorem body1 : BodyObligation (dat1 V c) (defs₀ (F := F)) 𝒱₀ () Set.univ :=
  body_of _ _ _ fun t x Q => by
  rw [bigSep_W1, bigSep_W1, before1_0, before1_1]
  exact wp_k1 (Q := fun _ => Q) 𝒱₀ c none _ (grid1.coords t) _ (hstage1_0 _) _ (hstage1_1 _) _ (hstage1_2 _) _ _ _

/-! ### Call 2 -/

/-- The block of window `w`'s array at a point. -/
def blk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 : Dat τ (Elt F) Unit ℕ UU ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => k2_pay1 (blk2 V c 0 t : Vec F S640x1024 .bf16) (blk2 V c 1 t : Vec F S1024x1024 .bf16) (blk2 V c 2 t : Vec F S640x1024 .f32)
  Φ _ := Pipeline.scopedRest (Ix := Unit) (Name := ℕ) (U := UU) (Lvl := ℕ) (Val := Elt F) spec2 c
  q _ := fullShare
  owed _ := 0

theorem before2_0 (t : Fin cfg2.N) (d) : (dat2 V c).before 0 t d = blk2 V c 0 t :=
  before_in (dat2 V c) 0 t d
theorem before2_1 (t : Fin cfg2.N) (d) : (dat2 V c).before 1 t d = blk2 V c 1 t :=
  before_in (dat2 V c) 1 t d
theorem before2_2 (t : Fin cfg2.N) (d) : (dat2 V c).before 2 t d = blk2 V c 2 t :=
  before_in (dat2 V c) 2 t d

theorem body2 : BodyObligation (dat2 V c) (defs₀ (F := F)) 𝒱₀ () Set.univ :=
  body_of _ _ _ fun t x Q => by
  rw [bigSep_W2, bigSep_W2, before2_0, before2_1, before2_2]
  exact wp_k2 (Q := fun _ => Q) 𝒱₀ c none _ (grid2.coords t) _ (hstage2_0 _) _ (hstage2_1 _) _ (hstage2_2 _) _ (hstage2_3 _) _ _ _ _

/-! ### Call 3 -/

/-- The block of window `w`'s array at a point. -/
def blk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ UU ℕ cfg3 c where
  A w := V c (Pipeline.arrRef spec3 w)
  after w t := match w with
    | ⟨0, _⟩ => blk3 V c 0 t
    | ⟨1, _⟩ => blk3 V c 1 t
    | ⟨2, _⟩ => k3_pay1 (blk3 V c 0 t : Vec F S640x1024 .f32) (blk3 V c 1 t : Vec F S1024x1024 .bf16)
  Φ _ := Pipeline.scopedRest (Ix := Unit) (Name := ℕ) (U := UU) (Lvl := ℕ) (Val := Elt F) spec3 c
  q _ := fullShare
  owed _ := 0

theorem before3_0 (t : Fin cfg3.N) (d) : (dat3 V c).before 0 t d = blk3 V c 0 t :=
  before_in (dat3 V c) 0 t d
theorem before3_1 (t : Fin cfg3.N) (d) : (dat3 V c).before 1 t d = blk3 V c 1 t :=
  before_in (dat3 V c) 1 t d

theorem body3 : BodyObligation (dat3 V c) (defs₀ (F := F)) 𝒱₀ () Set.univ :=
  body_of _ _ _ fun t x Q => by
  rw [bigSep_W3, bigSep_W3, before3_0, before3_1]
  exact wp_k3 (Q := fun _ => Q) 𝒱₀ c none _ (grid3.coords t) _ (hstage3_0 _) _ (hstage3_1 _) _ (hstage3_2 _) _ _ _

/-! ### Call 4 -/

/-- The block of window `w`'s array at a point. -/
def blk4 (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds before a point that is not the first of its contraction. -/
def scr4 : ℕ → Vec F S1024x512 .f32
  | 0 => fun _ => Scalar.ofBits .f32 0x00000000#32
  | n + 1 => if h : n < cfg4.N then acc4 (grid4.coords ⟨n, h⟩) (blk4 V c 0 ⟨n, h⟩ : Vec F S640x1024 .bf16) (blk4 V c 1 ⟨n, h⟩ : Vec F S640x512 .f32) (scr4 n) else scr4 n

theorem scr4_succ (t : Fin cfg4.N) :
    scr4 V c (t.val + 1) = acc4 (grid4.coords t) (blk4 V c 0 t : Vec F S640x1024 .bf16) (blk4 V c 1 t : Vec F S640x512 .f32) (scr4 V c t.val) := by
  rw [scr4, dif_pos t.isLt]

/-- The accumulator before a point, beside the other scoped buffers. -/
def Phi4 (n : ℕ) : sProp 𝕄 :=
  iprop((∃ d : Vec F S1024x512 .f32, ⌜n % 13 ≠ 0 → d = scr4 V c n⌝ ∗ owns (c : Thread nD τ) (Memref.whole cc4_scratch0) fullShare d) ∗ Pipeline.scopedRestBut (Ix := Unit) (Name := ℕ) (U := UU) (Lvl := ℕ) (Val := Elt F) spec4 c [cc4_scratch0])

def dat4 : Dat τ (Elt F) Unit ℕ UU ℕ cfg4 c where
  A w := V c (Pipeline.arrRef spec4 w)
  after w t := match w with
    | ⟨0, _⟩ => blk4 V c 0 t
    | ⟨1, _⟩ => blk4 V c 1 t
    | ⟨2, _⟩ => scr4 V c (t.val + 1)
  Φ t := Phi4 V c t.val
  q _ := fullShare
  owed _ := 0

theorem before4_0 (t : Fin cfg4.N) (d) : (dat4 V c).before 0 t d = blk4 V c 0 t :=
  before_in (dat4 V c) 0 t d
theorem before4_1 (t : Fin cfg4.N) (d) : (dat4 V c).before 1 t d = blk4 V c 1 t :=
  before_in (dat4 V c) 1 t d

theorem coord4 (t : Fin cfg4.N) : (grid4.coords t 2).val = t.val % 13 := by
  rw [Pipeline.Grid.coords_val t 2 (S := 1) (B := 13) (by decide) rfl, Nat.div_one]

theorem last4 : ∀ t : Fin grid4.N, k4_cond3 (grid4.coords t) = 1#1 ↔ t.val % 13 = 12 := by decide +kernel

/-- The first step along a contraction replaces what the accumulator held. -/
theorem acc4_start (t : Fin cfg4.N) (h : t.val % 13 = 0) (x : Vec F S640x1024 .bf16) (y : Vec F S640x512 .f32) (s : Vec F S1024x512 .f32) :
    acc4 (grid4.coords t) x y s = k4_pay2 x y :=
  accOf_start ((coord4 t).trans h) _ _ _

/-- A later one adds to it. -/
theorem acc4_next (t : Fin cfg4.N) (h : t.val % 13 ≠ 0) (x : Vec F S640x1024 .bf16) (y : Vec F S640x512 .f32) (s : Vec F S1024x512 .f32) :
    acc4 (grid4.coords t) x y s = k4_pay3 x y s :=
  accOf_next (by rw [coord4]; omega) (by rw [coord4]; exact h) _ _ _

theorem point4 (t : Fin cfg4.N) (s : Vec F S1024x512 .f32) (hs : t.val % 13 ≠ 0 → s = scr4 V c t.val) :
    acc4 (grid4.coords t) (blk4 V c 0 t : Vec F S640x1024 .bf16) (blk4 V c 1 t : Vec F S640x512 .f32) s = scr4 V c (t.val + 1) := by
  rw [scr4_succ]
  by_cases h : t.val % 13 = 0
  · rw [acc4_start t h, acc4_start t h]
  · rw [hs h]

theorem left4 (t : Fin cfg4.N) (s : Vec F S1024x512 .f32) (hs : t.val % 13 ≠ 0 → s = scr4 V c t.val) (d) :
    owns (c : Thread nD τ) (win4_2.stage (cfg4.slots t 2)) fullShare (res4 (grid4.coords t) (blk4 V c 0 t : Vec F S640x1024 .bf16) (blk4 V c 1 t : Vec F S640x512 .f32) s ((dat4 V c).before 2 t d : Vec F S1024x512 .f32))
      ⊢ ((dat4 V c).leavesExact 2 t : sProp 𝕄) :=
  left_of (dat4 V c) 2 t (k4_cond3 (grid4.coords t)) rfl (fun e => (last4 t).mpr ((flush4_2 t).mp e)) (point4 V c t s hs) d

theorem body4 : BodyObligation (dat4 V c) (defs₀ (F := F)) 𝒱₀ () Set.univ :=
  body_acc _ _ _ (Memref.whole cc4_scratch0) (fun n a => n % 13 ≠ 0 → a = scr4 V c n) _ (fun _ => rfl) 0 1 2 bigSep_W4 fun t x0 x1 x2 a ha => by
    rw [before4_0, before4_1]
    exact ⟨_, _, _, _, fun Q => wp_k4 (Q := fun _ => Q) 𝒱₀ c none _ (grid4.coords t) _ (hstage4_0 _) _ (hstage4_1 _) _ (hstage4_2 _) _ (Memref.isWhole_whole _) _ _ _ _,
      fun _ => point4 V c t a ha, .rfl, .rfl, left4 V c t a ha x2⟩

/-! ### Call 5 -/

/-- The block of window `w`'s array at a point. -/
def blk5 (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds before a point that is not the first of its contraction. -/
def scr5 : ℕ → Vec F S1024x512 .f32
  | 0 => fun _ => Scalar.ofBits .f32 0x00000000#32
  | n + 1 => if h : n < cfg5.N then acc5 (grid5.coords ⟨n, h⟩) (blk5 V c 0 ⟨n, h⟩ : Vec F S640x1024 .bf16) (blk5 V c 1 ⟨n, h⟩ : Vec F S640x512 .bf16) (scr5 n) else scr5 n

theorem scr5_succ (t : Fin cfg5.N) :
    scr5 V c (t.val + 1) = acc5 (grid5.coords t) (blk5 V c 0 t : Vec F S640x1024 .bf16) (blk5 V c 1 t : Vec F S640x512 .bf16) (scr5 V c t.val) := by
  rw [scr5, dif_pos t.isLt]

/-- The accumulator before a point, beside the other scoped buffers. -/
def Phi5 (n : ℕ) : sProp 𝕄 :=
  iprop((∃ d : Vec F S1024x512 .f32, ⌜n % 13 ≠ 0 → d = scr5 V c n⌝ ∗ owns (c : Thread nD τ) (Memref.whole cc5_scratch0) fullShare d) ∗ Pipeline.scopedRestBut (Ix := Unit) (Name := ℕ) (U := UU) (Lvl := ℕ) (Val := Elt F) spec5 c [cc5_scratch0])

def dat5 : Dat τ (Elt F) Unit ℕ UU ℕ cfg5 c where
  A w := V c (Pipeline.arrRef spec5 w)
  after w t := match w with
    | ⟨0, _⟩ => blk5 V c 0 t
    | ⟨1, _⟩ => blk5 V c 1 t
    | ⟨2, _⟩ => scr5 V c (t.val + 1)
  Φ t := Phi5 V c t.val
  q _ := fullShare
  owed _ := 0

theorem before5_0 (t : Fin cfg5.N) (d) : (dat5 V c).before 0 t d = blk5 V c 0 t :=
  before_in (dat5 V c) 0 t d
theorem before5_1 (t : Fin cfg5.N) (d) : (dat5 V c).before 1 t d = blk5 V c 1 t :=
  before_in (dat5 V c) 1 t d

theorem coord5 (t : Fin cfg5.N) : (grid5.coords t 2).val = t.val % 13 := by
  rw [Pipeline.Grid.coords_val t 2 (S := 1) (B := 13) (by decide) rfl, Nat.div_one]

theorem last5 : ∀ t : Fin grid5.N, k5_cond3 (grid5.coords t) = 1#1 ↔ t.val % 13 = 12 := by decide +kernel

/-- The first step along a contraction replaces what the accumulator held. -/
theorem acc5_start (t : Fin cfg5.N) (h : t.val % 13 = 0) (x : Vec F S640x1024 .bf16) (y : Vec F S640x512 .bf16) (s : Vec F S1024x512 .f32) :
    acc5 (grid5.coords t) x y s = k5_pay2 x y :=
  accOf_start ((coord5 t).trans h) _ _ _

/-- A later one adds to it. -/
theorem acc5_next (t : Fin cfg5.N) (h : t.val % 13 ≠ 0) (x : Vec F S640x1024 .bf16) (y : Vec F S640x512 .bf16) (s : Vec F S1024x512 .f32) :
    acc5 (grid5.coords t) x y s = k5_pay3 x y s :=
  accOf_next (by rw [coord5]; omega) (by rw [coord5]; exact h) _ _ _

theorem point5 (t : Fin cfg5.N) (s : Vec F S1024x512 .f32) (hs : t.val % 13 ≠ 0 → s = scr5 V c t.val) :
    acc5 (grid5.coords t) (blk5 V c 0 t : Vec F S640x1024 .bf16) (blk5 V c 1 t : Vec F S640x512 .bf16) s = scr5 V c (t.val + 1) := by
  rw [scr5_succ]
  by_cases h : t.val % 13 = 0
  · rw [acc5_start t h, acc5_start t h]
  · rw [hs h]

theorem left5 (t : Fin cfg5.N) (s : Vec F S1024x512 .f32) (hs : t.val % 13 ≠ 0 → s = scr5 V c t.val) (d) :
    owns (c : Thread nD τ) (win5_2.stage (cfg5.slots t 2)) fullShare (res5 (grid5.coords t) (blk5 V c 0 t : Vec F S640x1024 .bf16) (blk5 V c 1 t : Vec F S640x512 .bf16) s ((dat5 V c).before 2 t d : Vec F S1024x512 .f32))
      ⊢ ((dat5 V c).leavesExact 2 t : sProp 𝕄) :=
  left_of (dat5 V c) 2 t (k5_cond3 (grid5.coords t)) rfl (fun e => (last5 t).mpr ((flush5_2 t).mp e)) (point5 V c t s hs) d

theorem body5 : BodyObligation (dat5 V c) (defs₀ (F := F)) 𝒱₀ () Set.univ :=
  body_acc _ _ _ (Memref.whole cc5_scratch0) (fun n a => n % 13 ≠ 0 → a = scr5 V c n) _ (fun _ => rfl) 0 1 2 bigSep_W5 fun t x0 x1 x2 a ha => by
    rw [before5_0, before5_1]
    exact ⟨_, _, _, _, fun Q => wp_k5 (Q := fun _ => Q) 𝒱₀ c none _ (grid5.coords t) _ (hstage5_0 _) _ (hstage5_1 _) _ (hstage5_2 _) _ (Memref.isWhole_whole _) _ _ _ _,
      fun _ => point5 V c t a ha, .rfl, .rfl, left5 V c t a ha x2⟩

/-! ### Call 6 -/

/-- The block of window `w`'s array at a point. -/
def blk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 : Dat τ (Elt F) Unit ℕ UU ℕ cfg6 c where
  A w := V c (Pipeline.arrRef spec6 w)
  after w t := match w with
    | ⟨0, _⟩ => blk6 V c 0 t
    | ⟨1, _⟩ => blk6 V c 1 t
    | ⟨2, _⟩ => k6_pay1 (blk6 V c 0 t : Vec F S640x1024 .bf16) (blk6 V c 1 t : Vec F S1024x1024 .bf16)
  Φ _ := Pipeline.scopedRest (Ix := Unit) (Name := ℕ) (U := UU) (Lvl := ℕ) (Val := Elt F) spec6 c
  q _ := fullShare
  owed _ := 0

theorem before6_0 (t : Fin cfg6.N) (d) : (dat6 V c).before 0 t d = blk6 V c 0 t :=
  before_in (dat6 V c) 0 t d
theorem before6_1 (t : Fin cfg6.N) (d) : (dat6 V c).before 1 t d = blk6 V c 1 t :=
  before_in (dat6 V c) 1 t d

theorem body6 : BodyObligation (dat6 V c) (defs₀ (F := F)) 𝒱₀ () Set.univ :=
  body_of _ _ _ fun t x Q => by
  rw [bigSep_W6, bigSep_W6, before6_0, before6_1]
  exact wp_k6 (Q := fun _ => Q) 𝒱₀ c none _ (grid6.coords t) _ (hstage6_0 _) _ (hstage6_1 _) _ (hstage6_2 _) _ _ _

/-! ### Call 7 -/

/-- The block of window `w`'s array at a point. -/
def blk7 (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the row of sums holds before a point. -/
def row7 : ℕ → Vec F S1x1024 .f32
  | 0 => fun _ => Scalar.ofBits .f32 0x00000000#32
  | n + 1 => if h : n < cfg7.N then acc7 (grid7.coords ⟨n, h⟩) (blk7 V c 0 ⟨n, h⟩ : Vec F S416x1024 .f32) (blk7 V c 1 ⟨n, h⟩ : Vec F S416x1024 .f32) (row7 n) else row7 n

theorem row7_succ (t : Fin cfg7.N) :
    row7 V c (t.val + 1) = acc7 (grid7.coords t) (blk7 V c 0 t : Vec F S416x1024 .f32) (blk7 V c 1 t : Vec F S416x1024 .f32) (row7 V c t.val) := by
  rw [row7, dif_pos t.isLt]

def dat7 : Dat τ (Elt F) Unit ℕ UU ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => k7_pay5 (blk7 V c 1 t : Vec F S416x1024 .f32) (blk7 V c 0 t : Vec F S416x1024 .f32) (blk7 V c 2 t : Vec F S1x1024 .f32) (blk7 V c 3 t : Vec F S416x1024 .f32)
    | ⟨5, _⟩ => row7 V c (t.val + 1)
  Φ _ := Pipeline.scopedRest (Ix := Unit) (Name := ℕ) (U := UU) (Lvl := ℕ) (Val := Elt F) spec7 c
  q _ := fullShare
  owed _ := 0

theorem before7_0 (t : Fin cfg7.N) (d) : (dat7 V c).before 0 t d = blk7 V c 0 t :=
  before_in (dat7 V c) 0 t d
theorem before7_1 (t : Fin cfg7.N) (d) : (dat7 V c).before 1 t d = blk7 V c 1 t :=
  before_in (dat7 V c) 1 t d
theorem before7_2 (t : Fin cfg7.N) (d) : (dat7 V c).before 2 t d = blk7 V c 2 t :=
  before_in (dat7 V c) 2 t d
theorem before7_3 (t : Fin cfg7.N) (d) : (dat7 V c).before 3 t d = blk7 V c 3 t :=
  before_in (dat7 V c) 3 t d

theorem point7 (t : Fin cfg7.N) (x h : Vec F S416x1024 .f32) (d) :
    acc7 (grid7.coords t) x h ((dat7 V c).before 5 t d : Vec F S1x1024 .f32) = acc7 (grid7.coords t) x h (row7 V c t.val) := by
  have ec : (grid7.coords t 0).val = t.val % 20 := by
    rw [Pipeline.Grid.coords_val t 0 (S := 1) (B := 20) (by decide) rfl, Nat.div_one]
  have hN : t.val < 20 := lt_of_lt_of_eq t.isLt (show cfg7.N = 20 from N_7)
  unfold acc7
  by_cases h0 : t.val = 0
  · have e : isFirst (grid7.coords t 0).val := (first_iff ⟨(grid7.coords t 0).val, by rw [ec]; exact Nat.mod_lt _ (by decide)⟩).mpr (by show (grid7.coords t 0).val = 0; rw [ec, h0])
    rw [if_pos e, if_pos e]
  · rw [(dat7 V c).before_out_kept 5 rfl t h0 (by
      rw [← Bool.not_eq_true]; intro e; have := (flush7_5 _).mp e; dsimp only at this; omega) (fun _ => rfl) (fun _ _ => rfl) d]
    show k7_pay1 (k7_pay7 (if _ then k7_pay6 else row7 V c (t.val - 1 + 1))) _ = _
    rw [Nat.sub_add_cancel (Nat.one_le_iff_ne_zero.mpr h0)]

theorem body7 : BodyObligation (dat7 V c) (defs₀ (F := F)) 𝒱₀ () Set.univ :=
  body_of _ _ _ fun t x Q => by
  rw [bigSep_W7, bigSep_W7, before7_0, before7_1, before7_2, before7_3]
  have e : acc7 (grid7.coords t) (blk7 V c 0 t : Vec F S416x1024 .f32) (blk7 V c 1 t : Vec F S416x1024 .f32) ((dat7 V c).before 5 t (x 5) : Vec F S1x1024 .f32) = row7 V c (t.val + 1) :=
    (point7 V c t _ _ (x 5)).trans (row7_succ V c t).symm
  refine (wp_k7 (defs := defs₀) (Q := fun _ => Q) 𝒱₀ c none Set.univ (grid7.coords t) _ (hstage7_0 _) _ (hstage7_1 _) _ (hstage7_2 _) _ (hstage7_3 _) _ (hstage7_4 _) _ (hstage7_5 _) (blk7 V c 0 t) (blk7 V c 1 t) (blk7 V c 2 t) (blk7 V c 3 t) ((dat7 V c).before 4 t (x 4)) ((dat7 V c).before 5 t (x 5))).trans ?_
  rw [e]
  exact .rfl

end Cert.Proof.Qo
-- ==== Proof.QoLaunch.lean ====
module

public import proofs.«01_k».proof.Proof.QoRun
public import proofs.«01_k».proof.Proof.Gen.Kernel4Ideal.Regions
public import proofs.«01_k».proof.Proof.Segs

@[expose] public section

set_option synthInstance.maxSize 4096
set_option maxRecDepth 65536

noncomputable section

/-! The launch: the eight calls as the program's eight segments, and what the program ends with. -/

namespace Cert.Proof.Qo

open Cert.Kernel4Ideal Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The operands. -/
abbrev args : List (Ref sig .tc) := [main_arg0, main_arg1, main_arg2, main_arg3, main_arg4, main_arg5, main_arg6]
/-- The contents at launch. -/
abbrev U0 (c : Dev nD) : Valuation τ sig (Elt F) := V0 m c
abbrev W0 : Val0 F := fun c b => U0 m c b

/-! ### After call 0 -/

def o_v0 : Buf (Elt F) ((c : Thread nD τ).loc main_v0) := (dat0 (W0 m) c).arrAt 2 cfg0.N
def U1 : Valuation τ sig (Elt F) := (Function.update (U0 m c) main_v0 (o_v0 m c))
abbrev W1 : Val0 F := fun c b => U1 m c b

theorem U1_of (r : Ref sig .tc) (h0 : r ≠ main_v0) : U1 m c r = U0 m c r := Segs.upd_of _ _ h0
theorem U1_arg (r : Ref sig .tc) (h : r ∈ args) : U1 m c r = m ((c : Thread nD τ).loc r) :=
  (U1_of m c r (ne_of_mem_of_not_mem h (by decide)))
theorem U1_v0 : U1 m c main_v0 = o_v0 m c := Function.update_self _ _ _

/-! ### After call 1 -/

def o_v1 : Buf (Elt F) ((c : Thread nD τ).loc main_v1) := (dat1 (W1 m) c).arrAt 2 cfg1.N
def U2 : Valuation τ sig (Elt F) := (Function.update (U1 m c) main_v1 (o_v1 m c))
abbrev W2 : Val0 F := fun c b => U2 m c b

theorem U2_of (r : Ref sig .tc) (h0 : r ≠ main_v1) : U2 m c r = U1 m c r := Segs.upd_of _ _ h0
theorem U2_arg (r : Ref sig .tc) (h : r ∈ args) : U2 m c r = m ((c : Thread nD τ).loc r) :=
  (U2_of m c r (ne_of_mem_of_not_mem h (by decide))).trans (U1_arg m c r h)
theorem U2_v1 : U2 m c main_v1 = o_v1 m c := Function.update_self _ _ _

/-! ### After call 2 -/

def o_v2 : Buf (Elt F) ((c : Thread nD τ).loc main_v2) := (dat2 (W2 m) c).arrAt 3 cfg2.N
def U3 : Valuation τ sig (Elt F) := (Function.update (U2 m c) main_v2 (o_v2 m c))
abbrev W3 : Val0 F := fun c b => U3 m c b

theorem U3_of (r : Ref sig .tc) (h0 : r ≠ main_v2) : U3 m c r = U2 m c r := Segs.upd_of _ _ h0
theorem U3_arg (r : Ref sig .tc) (h : r ∈ args) : U3 m c r = m ((c : Thread nD τ).loc r) :=
  (U3_of m c r (ne_of_mem_of_not_mem h (by decide))).trans (U2_arg m c r h)
theorem U3_v2 : U3 m c main_v2 = o_v2 m c := Function.update_self _ _ _

/-! ### After call 3 -/

def o_v3 : Buf (Elt F) ((c : Thread nD τ).loc main_v3) := (dat3 (W3 m) c).arrAt 2 cfg3.N
def U4 : Valuation τ sig (Elt F) := (Function.update (U3 m c) main_v3 (o_v3 m c))
abbrev W4 : Val0 F := fun c b => U4 m c b

theorem U4_of (r : Ref sig .tc) (h0 : r ≠ main_v3) : U4 m c r = U3 m c r := Segs.upd_of _ _ h0
theorem U4_arg (r : Ref sig .tc) (h : r ∈ args) : U4 m c r = m ((c : Thread nD τ).loc r) :=
  (U4_of m c r (ne_of_mem_of_not_mem h (by decide))).trans (U3_arg m c r h)
theorem U4_v3 : U4 m c main_v3 = o_v3 m c := Function.update_self _ _ _

/-! ### After call 4 -/

def o_v4 : Buf (Elt F) ((c : Thread nD τ).loc main_v4) := (dat4 (W4 m) c).arrAt 2 cfg4.N
def U5 : Valuation τ sig (Elt F) := (Function.update (U4 m c) main_v4 (o_v4 m c))
abbrev W5 : Val0 F := fun c b => U5 m c b

theorem U5_of (r : Ref sig .tc) (h0 : r ≠ main_v4) : U5 m c r = U4 m c r := Segs.upd_of _ _ h0
theorem U5_arg (r : Ref sig .tc) (h : r ∈ args) : U5 m c r = m ((c : Thread nD τ).loc r) :=
  (U5_of m c r (ne_of_mem_of_not_mem h (by decide))).trans (U4_arg m c r h)
theorem U5_v4 : U5 m c main_v4 = o_v4 m c := Function.update_self _ _ _

/-! ### After call 5 -/

def o_v5 : Buf (Elt F) ((c : Thread nD τ).loc main_v5) := (dat5 (W5 m) c).arrAt 2 cfg5.N
def U6 : Valuation τ sig (Elt F) := (Function.update (U5 m c) main_v5 (o_v5 m c))
abbrev W6 : Val0 F := fun c b => U6 m c b

theorem U6_of (r : Ref sig .tc) (h0 : r ≠ main_v5) : U6 m c r = U5 m c r := Segs.upd_of _ _ h0
theorem U6_arg (r : Ref sig .tc) (h : r ∈ args) : U6 m c r = m ((c : Thread nD τ).loc r) :=
  (U6_of m c r (ne_of_mem_of_not_mem h (by decide))).trans (U5_arg m c r h)
theorem U6_v5 : U6 m c main_v5 = o_v5 m c := Function.update_self _ _ _

/-! ### After call 6 -/

def o_v6 : Buf (Elt F) ((c : Thread nD τ).loc main_v6) := (dat6 (W6 m) c).arrAt 2 cfg6.N
def U7 : Valuation τ sig (Elt F) := (Function.update (U6 m c) main_v6 (o_v6 m c))
abbrev W7 : Val0 F := fun c b => U7 m c b

theorem U7_of (r : Ref sig .tc) (h0 : r ≠ main_v6) : U7 m c r = U6 m c r := Segs.upd_of _ _ h0
theorem U7_arg (r : Ref sig .tc) (h : r ∈ args) : U7 m c r = m ((c : Thread nD τ).loc r) :=
  (U7_of m c r (ne_of_mem_of_not_mem h (by decide))).trans (U6_arg m c r h)
theorem U7_v6 : U7 m c main_v6 = o_v6 m c := Function.update_self _ _ _

/-! ### After call 7 -/

def o_v7_0 : Buf (Elt F) ((c : Thread nD τ).loc main_v7_0) := (dat7 (W7 m) c).arrAt 4 cfg7.N
def o_v7_1 : Buf (Elt F) ((c : Thread nD τ).loc main_v7_1) := (dat7 (W7 m) c).arrAt 5 cfg7.N
def U8 : Valuation τ sig (Elt F) := (Function.update (Function.update (U7 m c) main_v7_0 (o_v7_0 m c)) main_v7_1 (o_v7_1 m c))
abbrev W8 : Val0 F := fun c b => U8 m c b

theorem U8_of (r : Ref sig .tc) (h0 : r ≠ main_v7_0) (h1 : r ≠ main_v7_1) : U8 m c r = U7 m c r := (Segs.upd_of _ _ h1).trans (Segs.upd_of _ _ h0)
theorem U8_arg (r : Ref sig .tc) (h : r ∈ args) : U8 m c r = m ((c : Thread nD τ).loc r) :=
  (U8_of m c r (ne_of_mem_of_not_mem h (by decide)) (ne_of_mem_of_not_mem h (by decide))).trans (U7_arg m c r h)
theorem U8_v7_0 : U8 m c main_v7_0 = o_v7_0 m c := (Segs.upd_of _ _ (by decide)).trans (Function.update_self _ _ _)
theorem U8_v7_1 : U8 m c main_v7_1 = o_v7_1 m c := Function.update_self _ _ _

/-- The calls' data. -/
def pdats : (p : Fin 8) → (c : Dev nD) → Dat τ (Elt F) Unit ℕ UU ℕ (cfgs p) c
  | 0 => fun c => dat0 (W0 m) c
  | 1 => fun c => dat1 (W1 m) c
  | 2 => fun c => dat2 (W2 m) c
  | 3 => fun c => dat3 (W3 m) c
  | 4 => fun c => dat4 (W4 m) c
  | 5 => fun c => dat5 (W5 m) c
  | 6 => fun c => dat6 (W6 m) c
  | 7 => fun c => dat7 (W7 m) c
  | ⟨_ + 8, h⟩ => absurd h (by omega)

abbrev L : GSem nD τ sig → Finset Unit := fun _ => ∅
abbrev lv : GSem nD τ sig → Unit → ℕ := fun _ _ => 0
/-! ### The calls as segments -/

theorem goes0 : Segs.Goes (cfgs := cfgs) 0 (pdats m) (U0 m) (U1 m) :=
  .one launch0 2 (by decide) fun _ => rfl

set_option backward.isDefEq.respectTransparency.types false in
def reg0 : RegionSeg (pcfgs (F := F)) adm (pdats m) () defs₀ 𝒱₀ L lv 0 :=
  Segs.seg (pdats m) defs₀ 𝒱₀ L lv launch0.to₀ (by decide) (body0 (W0 m)) (goes0 m) (fun _ => .rfl) (fun _ => .rfl)

theorem goes1 : Segs.Goes (cfgs := cfgs) 1 (pdats m) (U1 m) (U2 m) :=
  .one launch1 2 (by decide) fun _ => rfl

set_option backward.isDefEq.respectTransparency.types false in
def reg1 : RegionSeg (pcfgs (F := F)) adm (pdats m) () defs₀ 𝒱₀ L lv 1 :=
  Segs.seg (pdats m) defs₀ 𝒱₀ L lv launch1.to₀ (by decide) (body1 (W1 m)) (goes1 m) (fun _ => .rfl) (fun _ => .rfl)

theorem goes2 : Segs.Goes (cfgs := cfgs) 2 (pdats m) (U2 m) (U3 m) :=
  .one launch2 3 (by decide) fun _ => rfl

set_option backward.isDefEq.respectTransparency.types false in
def reg2 : RegionSeg (pcfgs (F := F)) adm (pdats m) () defs₀ 𝒱₀ L lv 2 :=
  Segs.seg (pdats m) defs₀ 𝒱₀ L lv launch2.to₀ (by decide) (body2 (W2 m)) (goes2 m) (fun _ => .rfl) (fun _ => .rfl)

theorem goes3 : Segs.Goes (cfgs := cfgs) 3 (pdats m) (U3 m) (U4 m) :=
  .one launch3 2 (by decide) fun _ => rfl

set_option backward.isDefEq.respectTransparency.types false in
def reg3 : RegionSeg (pcfgs (F := F)) adm (pdats m) () defs₀ 𝒱₀ L lv 3 :=
  Segs.seg (pdats m) defs₀ 𝒱₀ L lv launch3.to₀ (by decide) (body3 (W3 m)) (goes3 m) (fun _ => .rfl) (fun _ => .rfl)

theorem goes4 : Segs.Goes (cfgs := cfgs) 4 (pdats m) (U4 m) (U5 m) :=
  .one launch4 2 (by decide) fun _ => rfl

set_option backward.isDefEq.respectTransparency.types false in
def reg4 : RegionSeg (pcfgs (F := F)) adm (pdats m) () defs₀ 𝒱₀ L lv 4 :=
  Segs.seg (pdats m) defs₀ 𝒱₀ L lv launch4.to₀ (by decide) (body4 (W4 m)) (goes4 m) (fun c => (Entails.of_eq (scopedRest4_split c)).trans (Segs.scratch_in c cc4_scratch0 fun _ h => absurd rfl h))
    (fun c => (Segs.scratch_out c cc4_scratch0).trans (Entails.of_eq (scopedRest4_split c).symm))

theorem goes5 : Segs.Goes (cfgs := cfgs) 5 (pdats m) (U5 m) (U6 m) :=
  .one launch5 2 (by decide) fun _ => rfl

set_option backward.isDefEq.respectTransparency.types false in
def reg5 : RegionSeg (pcfgs (F := F)) adm (pdats m) () defs₀ 𝒱₀ L lv 5 :=
  Segs.seg (pdats m) defs₀ 𝒱₀ L lv launch5.to₀ (by decide) (body5 (W5 m)) (goes5 m) (fun c => (Entails.of_eq (scopedRest5_split c)).trans (Segs.scratch_in c cc5_scratch0 fun _ h => absurd rfl h))
    (fun c => (Segs.scratch_out c cc5_scratch0).trans (Entails.of_eq (scopedRest5_split c).symm))

theorem goes6 : Segs.Goes (cfgs := cfgs) 6 (pdats m) (U6 m) (U7 m) :=
  .one launch6 2 (by decide) fun _ => rfl

set_option backward.isDefEq.respectTransparency.types false in
def reg6 : RegionSeg (pcfgs (F := F)) adm (pdats m) () defs₀ 𝒱₀ L lv 6 :=
  Segs.seg (pdats m) defs₀ 𝒱₀ L lv launch6.to₀ (by decide) (body6 (W6 m)) (goes6 m) (fun _ => .rfl) (fun _ => .rfl)

theorem left7' : (w : Fin cfg7.W) → (pdats m 7 c).arrAt w cfg7.N = W8 m c (Pipeline.arrRef spec7 w)
  | ⟨0, _⟩ => ((dat7 (W7 m) c).arrAt_in 0 rfl _).trans (U8_of m c main_v6 (by decide) (by decide)).symm
  | ⟨1, _⟩ => ((dat7 (W7 m) c).arrAt_in 1 rfl _).trans (U8_of m c main_arg0 (by decide) (by decide)).symm
  | ⟨2, _⟩ => ((dat7 (W7 m) c).arrAt_in 2 rfl _).trans (U8_of m c main_arg1 (by decide) (by decide)).symm
  | ⟨3, _⟩ => ((dat7 (W7 m) c).arrAt_in 3 rfl _).trans (U8_of m c main_arg6 (by decide) (by decide)).symm
  | ⟨4, _⟩ => (U8_v7_0 m c).symm
  | ⟨5, _⟩ => (U8_v7_1 m c).symm

theorem other7 (b : Ref sig .tc) (hb : b ∉ Finset.univ.image (Pipeline.arrRef spec7)) : W8 m c b = W7 m c b :=
  U8_of m c b (Segs.ne_arr (cfg := cfg7) hb 4) (Segs.ne_arr (cfg := cfg7) hb 5)

theorem goes7 : Segs.Goes (cfgs := cfgs) 7 (pdats m) (U7 m) (U8 m) :=
  ⟨Segs.shares launch7 fun _ _ => rfl, fun _ _ => rfl, fun _ _ => trivial, fun _ _ => rfl, left7' m, other7 m⟩

set_option backward.isDefEq.respectTransparency.types false in
def reg7 : RegionSeg (pcfgs (F := F)) adm (pdats m) () defs₀ 𝒱₀ L lv 7 :=
  Segs.seg (pdats m) defs₀ 𝒱₀ L lv launch7.to₀ (by decide) (body7 (W7 m)) (goes7 m) (fun _ => .rfl) (fun _ => .rfl)

def u₀ : UU := (initOf (Pipeline.cells cfgs cellOf_inj) (Pipeline.launchToks cfgs cellOf_inj), 1)

/-- What a final state holds on a core. -/
def Ends (s : MemSt nD τ sig (Elt F)) : Prop :=
  ∀ b : Ref sig .tc, (Proc.devRef .tc b : DevRef τ sig) ∈ Pipeline.ucRefs τ sig → s.mem ((c : Thread nD τ).loc b) = U8 m c b

set_option backward.isDefEq.respectTransparency.types false in
/-- Every run of the eight calls ends, with every buffer at what the calls leave and every counter at zero. -/
theorem run_main : θ_run defs (onTc (τ := τ) (main (F := F))) ⟨m, fun _ => 0, ρ⟩ (fun r => (∀ c, Ends m c r.2) ∧ r.2.sem = fun _ => 0) :=
  Pipeline.θ_run_regions_kit_sems (pcfgs (F := F)) adm (pdats m) () cellOf_inj EP defs₀ 𝒱₀ L lv m ρ main [.region (reg0 m), .region (reg1 m), .region (reg2 m), .region (reg3 m), .region (reg4 m), .region (reg5 m), .region (reg6 m), .region (reg7 m)]
    (fun c Q => by rw [main_segs adm (pdats m) () 𝒱₀ L lv (reg0 m) (reg1 m) (reg2 m) (reg3 m) (reg4 m) (reg5 m) (reg6 m) (reg7 m) c])
    (by simp only [Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(Segs.Holds (U0 m) c ∗ Segs.R c)) (Tₙ := Segs.Holds (U8 m))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = Segs.Holds (U0 m) c from Pipeline.unscopedBufs_held c (V0 m c)]
      iintro ⟨⟨Hh, -, HO, -, -, -⟩, -⟩
      imodintro
      isplitl [Hh]; · iexact Hh
      iexists ∅; iexact HO)
    (QY := Ends m)
    (hfin := fun c s' => by
      dsimp only [Segs.Holds]; unfold StableHlo.held
      iintro ⟨Hh, HSI⟩
      ihave Hr := (pointsTo_read_all (Pipeline.ucRefs τ sig) (fun b => ((c : Thread nD τ).1, b)) (U8 m c) s') $$ [Hh HSI]
      · isplitl [Hh] <;> iassumption
      icases Hr with ⟨%h, HSI⟩
      imodintro
      isplitr
      · ipureintro
        exact fun b hb => h (Proc.devRef .tc b) hb
      iexact HSI)
    (hQ := fun _ h hz => ⟨h, funext fun g => hz g (.inr (regions_no_unscoped g.2))⟩)

theorem end_at (s : MemSt nD τ sig (Elt F)) (h : Ends m c s) (b : Ref sig .tc) (hb : b.isScoped = false) : s.mem ((c : Thread nD τ).loc b) = U8 m c b :=
  h b (Finset.mem_filter.mpr ⟨StableHlo.devRef_mem_tcRefs b, by rw [Bool.not_eq_true]; exact hb⟩)

theorem end_arg (s : MemSt nD τ sig (Elt F)) (h : Ends m c s) (b : Ref sig .tc) (hb : b ∈ args) :
    s.mem ((c : Thread nD τ).loc b) = m ((c : Thread nD τ).loc b) :=
  (end_at m c s h b (by
    simp only [args, List.mem_cons, List.not_mem_nil, _root_.or_false] at hb
    rcases hb with rfl | rfl | rfl | rfl | rfl | rfl | rfl <;> rfl)).trans (U8_arg m c b hb)

end Cert.Proof.Qo
-- ==== Proof.QoSame.lean ====
module

public import proofs.«01_k».proof.Defs
public import proofs.«01_k».proof.Proof.Gen.Kernel4Ideal
public import proofs.«01_k».proof.Proof.Gen.Kernel4

/-! The program as printed and the program to be read over the reals have one text: a run of one is a run of the other. -/

@[expose] public section

set_option maxHeartbeats 0

namespace Cert.Proof.Qo

open Idealize.ShloMosaic Idealize.SL.Sem

section
set_option maxRecDepth 100000
set_option backward.isDefEq.respectTransparency false

theorem call0_same : @Cert.Kernel4.cc0_a_norm Bits _ _ = @Cert.Kernel4Ideal.cc0_a_norm Bits _ _ := by exact rfl
theorem call1_same : @Cert.Kernel4.cc1_a_q Bits _ _ = @Cert.Kernel4Ideal.cc1_a_q Bits _ _ := by exact rfl
theorem call2_same : @Cert.Kernel4.cc2_a_o Bits _ _ = @Cert.Kernel4Ideal.cc2_a_o Bits _ _ := by exact rfl
theorem call3_same : @Cert.Kernel4.cc3_b_do Bits _ _ = @Cert.Kernel4Ideal.cc3_b_do Bits _ _ := by exact rfl
theorem call4_same : @Cert.Kernel4.cc4_b_dwo Bits _ _ = @Cert.Kernel4Ideal.cc4_b_dwo Bits _ _ := by exact rfl
theorem call5_same : @Cert.Kernel4.cc5_b_dwq Bits _ _ = @Cert.Kernel4Ideal.cc5_b_dwq Bits _ _ := by exact rfl
theorem call6_same : @Cert.Kernel4.cc6_b_du1 Bits _ _ = @Cert.Kernel4Ideal.cc6_b_du1 Bits _ _ := by exact rfl
theorem call7_same : @Cert.Kernel4.cc7_b_anorm Bits _ _ = @Cert.Kernel4Ideal.cc7_b_anorm Bits _ _ := by exact rfl
end

theorem bodies_same : @Cert.Kernel4.defs₀ Bits _ _ = @Cert.Kernel4Ideal.defs₀ Bits _ _ := by
  unfold Cert.Kernel4.defs₀ Cert.Kernel4Ideal.defs₀
  refine congrArg (Defs.onTc (nD := Cert.Kernel4Ideal.nD) (τ := Cert.Kernel4Ideal.τ) (sig := Cert.Kernel4Ideal.sig) (Λ := Cert.Kernel4Ideal.Λ₀))
    (funext fun l => funext fun a => ?_)
  match l, a with
  | 0, (t, s) => exact (by rw [← call0_same]; rfl)
  | 1, (t, s) => exact (by rw [← call1_same]; rfl)
  | 2, (t, s) => exact (by rw [← call2_same]; rfl)
  | 3, (t, s) => exact (by rw [← call3_same]; rfl)
  | 4, (t, s) => exact (by rw [← call4_same]; rfl)
  | 5, (t, s) => exact (by rw [← call5_same]; rfl)
  | 6, (t, s) => exact (by rw [← call6_same]; rfl)
  | 7, (t, s) => exact (by rw [← call7_same]; rfl)

theorem defs_same : @Cert.Kernel4.defs Bits _ _ = @Cert.Kernel4Ideal.defs Bits _ _ :=
  congrArg (Pipeline.defs (Cert.Kernel4Ideal.pcfgs (F := Bits))) bodies_same

/-- What holds of every run of the one text holds of every run of the other. -/
theorem run_same (m ρ Q) (h : θ_run Cert.Kernel4Ideal.defs (onTc (τ := Cert.Kernel4Ideal.τ) (Cert.Kernel4Ideal.main (F := Bits))) ⟨m, fun _ => 0, ρ⟩ Q) :
    θ_run (Cert.Kernel4.defs (F := Bits)) (onTc (τ := Cert.Kernel4.τ) (Cert.Kernel4.main (F := Bits))) ⟨m, fun _ => 0, ρ⟩ Q := by
  rw [defs_same]; exact h

end Cert.Proof.Qo

end
-- ==== Proof.QoReal.lean ====
module

public import proofs.«01_k».proof.Proof.MixReal
public import proofs.«01_k».proof.Proof.Gen.Kernel4Ideal.Skeleton

@[expose] public section

set_option maxRecDepth 65536

noncomputable section

/-! What the eight calls' payloads are, entry by entry. The norm's and the transposed product's are those of the mixer's calls. -/

namespace Cert.Proof.Qo

open Cert.Kernel4Ideal Cert.Kernel4Ideal.Gen
open Cert.Proof.Mix (up sum_up nn nt tn xn xh rs outR dhR dgR same_up trunc_up add_up)
open Idealize.ShloMosaic Idealize.SL.Sem
open Finset

variable (f g h w : ℕ → ℕ → EReal)

/-! ### The products -/

theorem nn_up : matmul dot_S640x1024_S1024x1024_S640x1024_1_0_0_1_n_n none (up 640 1024 .bf16 f) (up 1024 1024 .bf16 g) (constant (F := Ideal) S640x1024 .f32 0x00000000#32)
    = up 640 1024 .f32 (nn 1024 f g) := by
  funext j
  obtain ⟨r, n, rfl⟩ : ∃ (r : Fin 640) (n : Fin 1024), j = ValueIdx.ix2 r n := ⟨j 0, j 1, ValueIdx.eq_ix2 j⟩
  pointwise
  exact sum_up (n := 1024) fun k => f r.val k * g k n.val
theorem nt_up : matmul dot_S640x1024_S1024x1024_S640x1024_1_1_0_0_n_n none (up 640 1024 .bf16 f) (up 1024 1024 .bf16 g) (constant (F := Ideal) S640x1024 .f32 0x00000000#32)
    = up 640 1024 .f32 (nt 1024 f g) := Mix.mm3_up f g
theorem tn_up : matmul dot_S640x1024_S640x512_S1024x512_0_0_1_1_n_n none (up 640 1024 .bf16 f) (up 640 512 .bf16 g) (constant (F := Ideal) S1024x512 .f32 0x00000000#32)
    = up 1024 512 .f32 (tn 640 f g) := by
  funext j
  obtain ⟨r, n, rfl⟩ : ∃ (r : Fin 1024) (n : Fin 512), j = ValueIdx.ix2 r n := ⟨j 0, j 1, ValueIdx.eq_ix2 j⟩
  pointwise
  exact sum_up (n := 640) fun k => f k r.val * g k n.val

/-! ### The payloads -/

theorem p0_up : k0_pay1 (F := Ideal) (up 832 1024 .f32 f) (up 1 1024 .f32 g) = up 832 1024 .bf16 (xn f g) := Mix.p0_up f g
theorem p1_up : k1_pay1 (F := Ideal) (up 640 1024 .bf16 f) (up 1024 1024 .bf16 g) = up 640 1024 .f32 (nn 1024 f g) := by
  unfold k1_pay1
  dsimp only
  rw [same_up, nn_up]
theorem p2_up : k2_pay1 (F := Ideal) (up 640 1024 .bf16 f) (up 1024 1024 .bf16 g) (up 640 1024 .f32 h) = up 640 1024 .f32 (outR h (nn 1024 f g)) := by
  unfold k2_pay1
  dsimp only
  rw [nn_up, add_up]
  rfl
theorem p3_up : k3_pay1 (F := Ideal) (up 640 1024 .f32 f) (up 1024 1024 .bf16 g) = up 640 1024 .bf16 (nt 1024 f g) := by
  unfold k3_pay1
  dsimp only
  rw [trunc_up, nt_up, trunc_up]
theorem p41_up : k4_pay1 (F := Ideal) (up 640 1024 .bf16 f) (up 640 512 .f32 g) = up 1024 512 .f32 (tn 640 f g) := by
  unfold k4_pay1
  dsimp only
  rw [trunc_up, tn_up]
theorem p42_up : k4_pay2 (F := Ideal) (up 640 1024 .bf16 f) (up 640 512 .f32 g) = up 1024 512 .f32 (tn 640 f g) := by
  unfold k4_pay2
  dsimp only
  rw [p41_up, same_up]
theorem p43_up : k4_pay3 (F := Ideal) (up 640 1024 .bf16 f) (up 640 512 .f32 g) (up 1024 512 .f32 h) = up 1024 512 .f32 fun r n => h r n + tn 640 f g r n := by
  unfold k4_pay3
  dsimp only
  rw [p41_up, add_up, same_up]
theorem p51_up : k5_pay1 (F := Ideal) (up 640 1024 .bf16 f) (up 640 512 .bf16 g) = up 1024 512 .f32 (tn 640 f g) := by
  unfold k5_pay1
  dsimp only
  rw [same_up, tn_up]
theorem p52_up : k5_pay2 (F := Ideal) (up 640 1024 .bf16 f) (up 640 512 .bf16 g) = up 1024 512 .f32 (tn 640 f g) := by
  unfold k5_pay2
  dsimp only
  rw [p51_up, same_up]
theorem p53_up : k5_pay3 (F := Ideal) (up 640 1024 .bf16 f) (up 640 512 .bf16 g) (up 1024 512 .f32 h) = up 1024 512 .f32 fun r n => h r n + tn 640 f g r n := by
  unfold k5_pay3
  dsimp only
  rw [p51_up, add_up, same_up]
theorem p6_up : k6_pay1 (F := Ideal) (up 640 1024 .bf16 f) (up 1024 1024 .bf16 g) = up 640 1024 .f32 (nt 1024 f g) := nt_up f g
theorem p75_up : k7_pay5 (F := Ideal) (up 416 1024 .f32 f) (up 416 1024 .f32 g) (up 1 1024 .f32 h) (up 416 1024 .f32 w) = up 416 1024 .f32 (dhR f g h w) := Mix.p75_up f g h w
theorem p76_up : k7_pay6 (F := Ideal) = up 1 1024 .f32 fun _ _ => 0 := Mix.p76_up
theorem p78_up : k7_pay8 (F := Ideal) (up 416 1024 .f32 f) (up 416 1024 .f32 g) = up 1 1024 .f32 (dgR 416 f g) := Mix.p78_up f g
theorem p71_up : k7_pay1 (F := Ideal) (k7_pay7 (F := Ideal) (up 1 1024 .f32 f)) (up 1 1024 .f32 g) = up 1 1024 .f32 fun r k => f r k + g r k := Mix.p71_up f g

end Cert.Proof.Qo
-- ==== Proof.QoBlocks.lean ====
module

public import proofs.«01_k».proof.Proof.MixBlocks
public import proofs.«01_k».proof.Proof.QoReal
public import proofs.«01_k».proof.Proof.QoRun
public import proofs.«01_k».proof.Proof.Windows

@[expose] public section

set_option maxRecDepth 65536

noncomputable section

/-! Which entries of its array each window of the eight calls holds at a point. -/

namespace Cert.Proof.Qo

open Cert.Kernel4Ideal Cert.Kernel4Ideal.Gen
open Idealize.ShloMosaic Idealize.ShloMosaic.TcCoe Idealize.SL.Sem
open Finset
open Cert.Proof.Mix (blkAt up up_at)
open Cert.Proof.Windows (emb_at in_slice mem_at)

theorem idx0_0 : ∀ t : Fin grid0.N, cc0_transform_0 (grid0.coords t) = ![t.val, 0] := by decide +kernel
theorem idx0_1 : ∀ t : Fin grid0.N, cc0_transform_1 (grid0.coords t) = ![0, 0] := by decide +kernel
theorem idx0_2 : ∀ t : Fin grid0.N, cc0_transform_2 (grid0.coords t) = ![t.val, 0] := by decide +kernel
theorem idx1_0 : ∀ t : Fin grid1.N, cc1_transform_0 (grid1.coords t) = ![t.val % 13, 0] := by decide +kernel
theorem idx1_1 : ∀ t : Fin grid1.N, cc1_transform_1 (grid1.coords t) = ![0, t.val / 13] := by decide +kernel
theorem idx1_2 : ∀ t : Fin grid1.N, cc1_transform_2 (grid1.coords t) = ![t.val % 13, t.val / 13] := by decide +kernel
theorem idx2_0 : ∀ t : Fin grid2.N, cc2_transform_0 (grid2.coords t) = ![t.val, 0] := by decide +kernel
theorem idx2_1 : ∀ t : Fin grid2.N, cc2_transform_1 (grid2.coords t) = ![0, 0] := by decide +kernel
theorem idx2_2 : ∀ t : Fin grid2.N, cc2_transform_2 (grid2.coords t) = ![t.val, 0] := by decide +kernel
theorem idx2_3 : ∀ t : Fin grid2.N, cc2_transform_3 (grid2.coords t) = ![t.val, 0] := by decide +kernel
theorem idx3_0 : ∀ t : Fin grid3.N, cc3_transform_0 (grid3.coords t) = ![t.val % 13, 0] := by decide +kernel
theorem idx3_1 : ∀ t : Fin grid3.N, cc3_transform_1 (grid3.coords t) = ![t.val / 13, 0] := by decide +kernel
theorem idx3_2 : ∀ t : Fin grid3.N, cc3_transform_2 (grid3.coords t) = ![t.val % 13, t.val / 13] := by decide +kernel
theorem idx4_0 : ∀ t : Fin grid4.N, cc4_transform_0 (grid4.coords t) = ![t.val % 13, 0] := by decide +kernel
theorem idx4_1 : ∀ t : Fin grid4.N, cc4_transform_1 (grid4.coords t) = ![t.val % 13, t.val / 13] := by decide +kernel
theorem idx4_2 : ∀ t : Fin grid4.N, cc4_transform_2 (grid4.coords t) = ![0, t.val / 13] := by decide +kernel
theorem idx5_0 : ∀ t : Fin grid5.N, cc5_transform_0 (grid5.coords t) = ![t.val % 13, 0] := by decide +kernel
theorem idx5_1 : ∀ t : Fin grid5.N, cc5_transform_1 (grid5.coords t) = ![t.val % 13, t.val / 13] := by decide +kernel
theorem idx5_2 : ∀ t : Fin grid5.N, cc5_transform_2 (grid5.coords t) = ![0, t.val / 13] := by decide +kernel
theorem idx6_0 : ∀ t : Fin grid6.N, cc6_transform_0 (grid6.coords t) = ![t.val % 13, 0] := by decide +kernel
theorem idx6_1 : ∀ t : Fin grid6.N, cc6_transform_1 (grid6.coords t) = ![t.val / 13, 0] := by decide +kernel
theorem idx6_2 : ∀ t : Fin grid6.N, cc6_transform_2 (grid6.coords t) = ![t.val % 13, t.val / 13] := by decide +kernel
theorem idx7_0 : ∀ t : Fin grid7.N, cc7_transform_0 (grid7.coords t) = ![t.val, 0] := by decide +kernel
theorem idx7_1 : ∀ t : Fin grid7.N, cc7_transform_1 (grid7.coords t) = ![t.val, 0] := by decide +kernel
theorem idx7_2 : ∀ t : Fin grid7.N, cc7_transform_2 (grid7.coords t) = ![0, 0] := by decide +kernel
theorem idx7_3 : ∀ t : Fin grid7.N, cc7_transform_3 (grid7.coords t) = ![t.val, 0] := by decide +kernel
theorem idx7_4 : ∀ t : Fin grid7.N, cc7_transform_4 (grid7.coords t) = ![t.val, 0] := by decide +kernel
theorem idx7_5 : ∀ t : Fin grid7.N, cc7_transform_5 (grid7.coords t) = ![0, 0] := by decide +kernel

section Reads
variable (f : ℕ → ℕ → EReal)

theorem read0_0 (t : Fin cfg0.N) : ((cfg0.win 0).blk t).view.read (Elt Ideal) (up 8320 1024 .f32 f) = up 832 1024 .f32 (blkAt f (t.val * 832) (0 * 1024)) :=
  up_at f (emb_at win0_0 t (idx0_0 t))
theorem read0_1 (t : Fin cfg0.N) : ((cfg0.win 1).blk t).view.read (Elt Ideal) (up 1 1024 .f32 f) = up 1 1024 .f32 (blkAt f (0 * 1) (0 * 1024)) :=
  up_at f (emb_at win0_1 t (idx0_1 t))
theorem read0_2 (t : Fin cfg0.N) : ((cfg0.win 2).blk t).view.read (Elt Ideal) (up 8320 1024 .bf16 f) = up 832 1024 .bf16 (blkAt f (t.val * 832) (0 * 1024)) :=
  up_at f (emb_at win0_2 t (idx0_2 t))
theorem read1_0 (t : Fin cfg1.N) : ((cfg1.win 0).blk t).view.read (Elt Ideal) (up 8320 1024 .bf16 f) = up 640 1024 .bf16 (blkAt f (t.val % 13 * 640) (0 * 1024)) :=
  up_at f (emb_at win1_0 t (idx1_0 t))
theorem read1_1 (t : Fin cfg1.N) : ((cfg1.win 1).blk t).view.read (Elt Ideal) (up 1024 1024 .bf16 f) = up 1024 1024 .bf16 (blkAt f (0 * 1024) (t.val / 13 * 1024)) :=
  up_at f (emb_at win1_1 t (idx1_1 t))
theorem read1_2 (t : Fin cfg1.N) : ((cfg1.win 2).blk t).view.read (Elt Ideal) (up 8320 1024 .f32 f) = up 640 1024 .f32 (blkAt f (t.val % 13 * 640) (t.val / 13 * 1024)) :=
  up_at f (emb_at win1_2 t (idx1_2 t))
theorem read2_0 (t : Fin cfg2.N) : ((cfg2.win 0).blk t).view.read (Elt Ideal) (up 8320 1024 .bf16 f) = up 640 1024 .bf16 (blkAt f (t.val * 640) (0 * 1024)) :=
  up_at f (emb_at win2_0 t (idx2_0 t))
theorem read2_1 (t : Fin cfg2.N) : ((cfg2.win 1).blk t).view.read (Elt Ideal) (up 1024 1024 .bf16 f) = up 1024 1024 .bf16 (blkAt f (0 * 1024) (0 * 1024)) :=
  up_at f (emb_at win2_1 t (idx2_1 t))
theorem read2_2 (t : Fin cfg2.N) : ((cfg2.win 2).blk t).view.read (Elt Ideal) (up 8320 1024 .f32 f) = up 640 1024 .f32 (blkAt f (t.val * 640) (0 * 1024)) :=
  up_at f (emb_at win2_2 t (idx2_2 t))
theorem read2_3 (t : Fin cfg2.N) : ((cfg2.win 3).blk t).view.read (Elt Ideal) (up 8320 1024 .f32 f) = up 640 1024 .f32 (blkAt f (t.val * 640) (0 * 1024)) :=
  up_at f (emb_at win2_3 t (idx2_3 t))
theorem read3_0 (t : Fin cfg3.N) : ((cfg3.win 0).blk t).view.read (Elt Ideal) (up 8320 1024 .f32 f) = up 640 1024 .f32 (blkAt f (t.val % 13 * 640) (0 * 1024)) :=
  up_at f (emb_at win3_0 t (idx3_0 t))
theorem read3_1 (t : Fin cfg3.N) : ((cfg3.win 1).blk t).view.read (Elt Ideal) (up 1024 1024 .bf16 f) = up 1024 1024 .bf16 (blkAt f (t.val / 13 * 1024) (0 * 1024)) :=
  up_at f (emb_at win3_1 t (idx3_1 t))
theorem read3_2 (t : Fin cfg3.N) : ((cfg3.win 2).blk t).view.read (Elt Ideal) (up 8320 1024 .bf16 f) = up 640 1024 .bf16 (blkAt f (t.val % 13 * 640) (t.val / 13 * 1024)) :=
  up_at f (emb_at win3_2 t (idx3_2 t))
theorem read4_0 (t : Fin cfg4.N) : ((cfg4.win 0).blk t).view.read (Elt Ideal) (up 8320 1024 .bf16 f) = up 640 1024 .bf16 (blkAt f (t.val % 13 * 640) (0 * 1024)) :=
  up_at f (emb_at win4_0 t (idx4_0 t))
theorem read4_1 (t : Fin cfg4.N) : ((cfg4.win 1).blk t).view.read (Elt Ideal) (up 8320 1024 .f32 f) = up 640 512 .f32 (blkAt f (t.val % 13 * 640) (t.val / 13 * 512)) :=
  up_at f (emb_at win4_1 t (idx4_1 t))
theorem read4_2 (t : Fin cfg4.N) : ((cfg4.win 2).blk t).view.read (Elt Ideal) (up 1024 1024 .f32 f) = up 1024 512 .f32 (blkAt f (0 * 1024) (t.val / 13 * 512)) :=
  up_at f (emb_at win4_2 t (idx4_2 t))
theorem read5_0 (t : Fin cfg5.N) : ((cfg5.win 0).blk t).view.read (Elt Ideal) (up 8320 1024 .bf16 f) = up 640 1024 .bf16 (blkAt f (t.val % 13 * 640) (0 * 1024)) :=
  up_at f (emb_at win5_0 t (idx5_0 t))
theorem read5_1 (t : Fin cfg5.N) : ((cfg5.win 1).blk t).view.read (Elt Ideal) (up 8320 1024 .bf16 f) = up 640 512 .bf16 (blkAt f (t.val % 13 * 640) (t.val / 13 * 512)) :=
  up_at f (emb_at win5_1 t (idx5_1 t))
theorem read5_2 (t : Fin cfg5.N) : ((cfg5.win 2).blk t).view.read (Elt Ideal) (up 1024 1024 .f32 f) = up 1024 512 .f32 (blkAt f (0 * 1024) (t.val / 13 * 512)) :=
  up_at f (emb_at win5_2 t (idx5_2 t))
theorem read6_0 (t : Fin cfg6.N) : ((cfg6.win 0).blk t).view.read (Elt Ideal) (up 8320 1024 .bf16 f) = up 640 1024 .bf16 (blkAt f (t.val % 13 * 640) (0 * 1024)) :=
  up_at f (emb_at win6_0 t (idx6_0 t))
theorem read6_1 (t : Fin cfg6.N) : ((cfg6.win 1).blk t).view.read (Elt Ideal) (up 1024 1024 .bf16 f) = up 1024 1024 .bf16 (blkAt f (t.val / 13 * 1024) (0 * 1024)) :=
  up_at f (emb_at win6_1 t (idx6_1 t))
theorem read6_2 (t : Fin cfg6.N) : ((cfg6.win 2).blk t).view.read (Elt Ideal) (up 8320 1024 .f32 f) = up 640 1024 .f32 (blkAt f (t.val % 13 * 640) (t.val / 13 * 1024)) :=
  up_at f (emb_at win6_2 t (idx6_2 t))
theorem read7_0 (t : Fin cfg7.N) : ((cfg7.win 0).blk t).view.read (Elt Ideal) (up 8320 1024 .f32 f) = up 416 1024 .f32 (blkAt f (t.val * 416) (0 * 1024)) :=
  up_at f (emb_at win7_0 t (idx7_0 t))
theorem read7_1 (t : Fin cfg7.N) : ((cfg7.win 1).blk t).view.read (Elt Ideal) (up 8320 1024 .f32 f) = up 416 1024 .f32 (blkAt f (t.val * 416) (0 * 1024)) :=
  up_at f (emb_at win7_1 t (idx7_1 t))
theorem read7_2 (t : Fin cfg7.N) : ((cfg7.win 2).blk t).view.read (Elt Ideal) (up 1 1024 .f32 f) = up 1 1024 .f32 (blkAt f (0 * 1) (0 * 1024)) :=
  up_at f (emb_at win7_2 t (idx7_2 t))
theorem read7_3 (t : Fin cfg7.N) : ((cfg7.win 3).blk t).view.read (Elt Ideal) (up 8320 1024 .f32 f) = up 416 1024 .f32 (blkAt f (t.val * 416) (0 * 1024)) :=
  up_at f (emb_at win7_3 t (idx7_3 t))
theorem read7_4 (t : Fin cfg7.N) : ((cfg7.win 4).blk t).view.read (Elt Ideal) (up 8320 1024 .f32 f) = up 416 1024 .f32 (blkAt f (t.val * 416) (0 * 1024)) :=
  up_at f (emb_at win7_4 t (idx7_4 t))
theorem read7_5 (t : Fin cfg7.N) : ((cfg7.win 5).blk t).view.read (Elt Ideal) (up 1 1024 .f32 f) = up 1 1024 .f32 (blkAt f (0 * 1) (0 * 1024)) :=
  up_at f (emb_at win7_5 t (idx7_5 t))

end Reads

theorem cover0_2 (i : S8320x1024.Idx) : ∃ t : Fin cfg0.N, (cfg0.win 2).flush t = true ∧ i ∈ ((cfg0.win 2).blk t).view.set := by
  have h0 : (i 0).val < 8320 := (i 0).isLt
  have h1 : (i 1).val < 1024 := (i 1).isLt
  have hN : cfg0.N = 10 := N_0
  exact ⟨⟨(i 0).val / 832, by omega⟩, flush0_2 _,
    in_slice (mem_at win0_2 _ i (idx0_2 _) (Fin.forall_fin_two.mpr ⟨(by omega : ((i 0).val / 832) * 832 ≤ (i 0).val ∧ (i 0).val < ((i 0).val / 832) * 832 + 832),
      (by omega : 0 * 1024 ≤ (i 1).val ∧ (i 1).val < 0 * 1024 + 1024)⟩))⟩
theorem cover1_2 (i : S8320x1024.Idx) : ∃ t : Fin cfg1.N, (cfg1.win 2).flush t = true ∧ i ∈ ((cfg1.win 2).blk t).view.set := by
  have h0 : (i 0).val < 8320 := (i 0).isLt
  have h1 : (i 1).val < 1024 := (i 1).isLt
  have hN : cfg1.N = 13 := N_1
  exact ⟨⟨(i 1).val / 1024 * 13 + (i 0).val / 640, by omega⟩, flush1_2 _,
    in_slice (mem_at win1_2 _ i (idx1_2 _) (Fin.forall_fin_two.mpr ⟨(by omega : ((i 1).val / 1024 * 13 + (i 0).val / 640) % 13 * 640 ≤ (i 0).val ∧ (i 0).val < ((i 1).val / 1024 * 13 + (i 0).val / 640) % 13 * 640 + 640),
      (by omega : ((i 1).val / 1024 * 13 + (i 0).val / 640) / 13 * 1024 ≤ (i 1).val ∧ (i 1).val < ((i 1).val / 1024 * 13 + (i 0).val / 640) / 13 * 1024 + 1024)⟩))⟩
theorem cover2_3 (i : S8320x1024.Idx) : ∃ t : Fin cfg2.N, (cfg2.win 3).flush t = true ∧ i ∈ ((cfg2.win 3).blk t).view.set := by
  have h0 : (i 0).val < 8320 := (i 0).isLt
  have h1 : (i 1).val < 1024 := (i 1).isLt
  have hN : cfg2.N = 13 := N_2
  exact ⟨⟨(i 0).val / 640, by omega⟩, flush2_3 _,
    in_slice (mem_at win2_3 _ i (idx2_3 _) (Fin.forall_fin_two.mpr ⟨(by omega : ((i 0).val / 640) * 640 ≤ (i 0).val ∧ (i 0).val < ((i 0).val / 640) * 640 + 640),
      (by omega : 0 * 1024 ≤ (i 1).val ∧ (i 1).val < 0 * 1024 + 1024)⟩))⟩
theorem cover3_2 (i : S8320x1024.Idx) : ∃ t : Fin cfg3.N, (cfg3.win 2).flush t = true ∧ i ∈ ((cfg3.win 2).blk t).view.set := by
  have h0 : (i 0).val < 8320 := (i 0).isLt
  have h1 : (i 1).val < 1024 := (i 1).isLt
  have hN : cfg3.N = 13 := N_3
  exact ⟨⟨(i 1).val / 1024 * 13 + (i 0).val / 640, by omega⟩, flush3_2 _,
    in_slice (mem_at win3_2 _ i (idx3_2 _) (Fin.forall_fin_two.mpr ⟨(by omega : ((i 1).val / 1024 * 13 + (i 0).val / 640) % 13 * 640 ≤ (i 0).val ∧ (i 0).val < ((i 1).val / 1024 * 13 + (i 0).val / 640) % 13 * 640 + 640),
      (by omega : ((i 1).val / 1024 * 13 + (i 0).val / 640) / 13 * 1024 ≤ (i 1).val ∧ (i 1).val < ((i 1).val / 1024 * 13 + (i 0).val / 640) / 13 * 1024 + 1024)⟩))⟩
theorem cover4_2 (i : S1024x1024.Idx) : ∃ t : Fin cfg4.N, (cfg4.win 2).flush t = true ∧ i ∈ ((cfg4.win 2).blk t).view.set := by
  have h0 : (i 0).val < 1024 := (i 0).isLt
  have h1 : (i 1).val < 1024 := (i 1).isLt
  have hN : cfg4.N = 26 := N_4
  exact ⟨⟨(i 1).val / 512 * 13 + 12, by omega⟩, (flush4_2 _).mpr (by dsimp only; omega),
    in_slice (mem_at win4_2 _ i (idx4_2 _) (Fin.forall_fin_two.mpr ⟨(by omega : 0 * 1024 ≤ (i 0).val ∧ (i 0).val < 0 * 1024 + 1024),
      (by omega : ((i 1).val / 512 * 13 + 12) / 13 * 512 ≤ (i 1).val ∧ (i 1).val < ((i 1).val / 512 * 13 + 12) / 13 * 512 + 512)⟩))⟩
theorem cover5_2 (i : S1024x1024.Idx) : ∃ t : Fin cfg5.N, (cfg5.win 2).flush t = true ∧ i ∈ ((cfg5.win 2).blk t).view.set := by
  have h0 : (i 0).val < 1024 := (i 0).isLt
  have h1 : (i 1).val < 1024 := (i 1).isLt
  have hN : cfg5.N = 26 := N_5
  exact ⟨⟨(i 1).val / 512 * 13 + 12, by omega⟩, (flush5_2 _).mpr (by dsimp only; omega),
    in_slice (mem_at win5_2 _ i (idx5_2 _) (Fin.forall_fin_two.mpr ⟨(by omega : 0 * 1024 ≤ (i 0).val ∧ (i 0).val < 0 * 1024 + 1024),
      (by omega : ((i 1).val / 512 * 13 + 12) / 13 * 512 ≤ (i 1).val ∧ (i 1).val < ((i 1).val / 512 * 13 + 12) / 13 * 512 + 512)⟩))⟩
theorem cover6_2 (i : S8320x1024.Idx) : ∃ t : Fin cfg6.N, (cfg6.win 2).flush t = true ∧ i ∈ ((cfg6.win 2).blk t).view.set := by
  have h0 : (i 0).val < 8320 := (i 0).isLt
  have h1 : (i 1).val < 1024 := (i 1).isLt
  have hN : cfg6.N = 13 := N_6
  exact ⟨⟨(i 1).val / 1024 * 13 + (i 0).val / 640, by omega⟩, flush6_2 _,
    in_slice (mem_at win6_2 _ i (idx6_2 _) (Fin.forall_fin_two.mpr ⟨(by omega : ((i 1).val / 1024 * 13 + (i 0).val / 640) % 13 * 640 ≤ (i 0).val ∧ (i 0).val < ((i 1).val / 1024 * 13 + (i 0).val / 640) % 13 * 640 + 640),
      (by omega : ((i 1).val / 1024 * 13 + (i 0).val / 640) / 13 * 1024 ≤ (i 1).val ∧ (i 1).val < ((i 1).val / 1024 * 13 + (i 0).val / 640) / 13 * 1024 + 1024)⟩))⟩
theorem cover7_4 (i : S8320x1024.Idx) : ∃ t : Fin cfg7.N, (cfg7.win 4).flush t = true ∧ i ∈ ((cfg7.win 4).blk t).view.set := by
  have h0 : (i 0).val < 8320 := (i 0).isLt
  have h1 : (i 1).val < 1024 := (i 1).isLt
  have hN : cfg7.N = 20 := N_7
  exact ⟨⟨(i 0).val / 416, by omega⟩, flush7_4 _,
    in_slice (mem_at win7_4 _ i (idx7_4 _) (Fin.forall_fin_two.mpr ⟨(by omega : ((i 0).val / 416) * 416 ≤ (i 0).val ∧ (i 0).val < ((i 0).val / 416) * 416 + 416),
      (by omega : 0 * 1024 ≤ (i 1).val ∧ (i 1).val < 0 * 1024 + 1024)⟩))⟩
theorem cover7_5 (i : S1x1024.Idx) : ∃ t : Fin cfg7.N, (cfg7.win 5).flush t = true ∧ i ∈ ((cfg7.win 5).blk t).view.set := by
  have h0 : (i 0).val < 1 := (i 0).isLt
  have h1 : (i 1).val < 1024 := (i 1).isLt
  have hN : cfg7.N = 20 := N_7
  exact ⟨⟨19, by omega⟩, (flush7_5 _).mpr rfl,
    in_slice (mem_at win7_5 ⟨19, by decide⟩ i (idx7_5 ⟨19, by decide⟩) (Fin.forall_fin_two.mpr ⟨(by omega : 0 * 1 ≤ (i 0).val ∧ (i 0).val < 0 * 1 + 1),
      (by omega : 0 * 1024 ≤ (i 1).val ∧ (i 1).val < 0 * 1024 + 1024)⟩))⟩

end Cert.Proof.Qo
-- ==== Proof.QoArrays.lean ====
module

public import proofs.«01_k».proof.Proof.MixArrays
public import proofs.«01_k».proof.Proof.QoBlocks
public import proofs.«01_k».proof.Proof.QoLaunch

@[expose] public section

set_option maxRecDepth 65536

noncomputable section

/-! What the eight calls leave in their result arrays, entry by entry. -/

namespace Cert.Proof.Qo

open Cert.Kernel4Ideal Cert.Kernel4Ideal.Gen
open Idealize.ShloMosaic Idealize.ShloMosaic.TcCoe Idealize.SL.Sem
open Finset
open Cert.Proof.Steps (isFirst first_iff)
open Cert.Proof.Windows (sum_at)

open Cert.Proof.Mix (up blkAt xn nn nt tn outR dhR dgR xh rs vr xn_blk nn_blk nt_blk dh_blk tn_first tn_next dg_next)

section Real
variable (m : (ℓ : Loc nD τ sig) → Buf (Elt Ideal) ℓ) (c : Dev nD) (H G Wq O Wo Q D : ℕ → ℕ → EReal)

/-- The seven operands hold the given numbers. -/
def Args : Prop :=
  m ((c : Thread nD τ).loc main_arg0) = up 8320 1024 .f32 H ∧ m ((c : Thread nD τ).loc main_arg1) = up 1 1024 .f32 G
    ∧ m ((c : Thread nD τ).loc main_arg2) = up 1024 1024 .bf16 Wq ∧ m ((c : Thread nD τ).loc main_arg3) = up 8320 1024 .bf16 O
    ∧ m ((c : Thread nD τ).loc main_arg4) = up 1024 1024 .bf16 Wo ∧ m ((c : Thread nD τ).loc main_arg5) = up 8320 1024 .bf16 Q
    ∧ m ((c : Thread nD τ).loc main_arg6) = up 8320 1024 .f32 D

variable {m c H G Wq O Wo Q D} (h : Args m c H G Wq O Wo Q D)
include h

theorem b0_0 (t : Fin cfg0.N) : blk0 (W0 m) c 0 t = up 832 1024 .f32 (blkAt H (t.val * 832) (0 * 1024)) :=
  (congrArg (((cfg0.win 0).blk t).view.read (Elt Ideal)) h.1).trans (read0_0 _ t)
theorem b0_1 (t : Fin cfg0.N) : blk0 (W0 m) c 1 t = up 1 1024 .f32 (blkAt G (0 * 1) (0 * 1024)) :=
  (congrArg (((cfg0.win 1).blk t).view.read (Elt Ideal)) h.2.1).trans (read0_1 _ t)
theorem o_v0_eq : o_v0 m c = up 8320 1024 .bf16 (xn H G) := by
  refine (dat0 (W0 m) c).arrAt_eq_of_cover 2 (up 8320 1024 .bf16 (xn H G)) (fun t ht => ?_) cover0_2
  rw [read0_2]
  show (cfg0.win 2).cut (grid0.coords t) (k0_pay1 (blk0 (W0 m) c 0 t) (blk0 (W0 m) c 1 t)) = _
  rw [b0_0 h, b0_1 h, p0_up, xn_blk]
  rfl
theorem b1_0 (t : Fin cfg1.N) : blk1 (W1 m) c 0 t = up 640 1024 .bf16 (blkAt (xn H G) (t.val % 13 * 640) (0 * 1024)) :=
  (congrArg (((cfg1.win 0).blk t).view.read (Elt Ideal)) ((U1_v0 m c).trans (o_v0_eq h))).trans (read1_0 _ t)
theorem b1_1 (t : Fin cfg1.N) : blk1 (W1 m) c 1 t = up 1024 1024 .bf16 (blkAt Wq (0 * 1024) (t.val / 13 * 1024)) :=
  (congrArg (((cfg1.win 1).blk t).view.read (Elt Ideal)) ((U1_arg m c main_arg2 (by decide)).trans h.2.2.1)).trans (read1_1 _ t)
theorem o_v1_eq : o_v1 m c = up 8320 1024 .f32 (nn 1024 (xn H G) Wq) := by
  refine (dat1 (W1 m) c).arrAt_eq_of_cover 2 (up 8320 1024 .f32 (nn 1024 (xn H G) Wq)) (fun t ht => ?_) cover1_2
  rw [read1_2]
  show (cfg1.win 2).cut (grid1.coords t) (k1_pay1 (blk1 (W1 m) c 0 t) (blk1 (W1 m) c 1 t)) = _
  rw [b1_0 h, b1_1 h, p1_up, nn_blk]
  rfl
theorem b2_0 (t : Fin cfg2.N) : blk2 (W2 m) c 0 t = up 640 1024 .bf16 (blkAt O (t.val * 640) (0 * 1024)) :=
  (congrArg (((cfg2.win 0).blk t).view.read (Elt Ideal)) ((U2_arg m c main_arg3 (by decide)).trans h.2.2.2.1)).trans (read2_0 _ t)
theorem b2_1 (t : Fin cfg2.N) : blk2 (W2 m) c 1 t = up 1024 1024 .bf16 (blkAt Wo (0 * 1024) (0 * 1024)) :=
  (congrArg (((cfg2.win 1).blk t).view.read (Elt Ideal)) ((U2_arg m c main_arg4 (by decide)).trans h.2.2.2.2.1)).trans (read2_1 _ t)
theorem b2_2 (t : Fin cfg2.N) : blk2 (W2 m) c 2 t = up 640 1024 .f32 (blkAt H (t.val * 640) (0 * 1024)) :=
  (congrArg (((cfg2.win 2).blk t).view.read (Elt Ideal)) ((U2_arg m c main_arg0 (by decide)).trans h.1)).trans (read2_2 _ t)
theorem o_v2_eq : o_v2 m c = up 8320 1024 .f32 (outR H (nn 1024 O Wo)) := by
  refine (dat2 (W2 m) c).arrAt_eq_of_cover 3 (up 8320 1024 .f32 (outR H (nn 1024 O Wo))) (fun t ht => ?_) cover2_3
  rw [read2_3]
  show (cfg2.win 3).cut (grid2.coords t) (k2_pay1 (blk2 (W2 m) c 0 t) (blk2 (W2 m) c 1 t) (blk2 (W2 m) c 2 t)) = _
  rw [b2_0 h, b2_1 h, b2_2 h, p2_up, nn_blk]
  rfl
theorem b3_0 (t : Fin cfg3.N) : blk3 (W3 m) c 0 t = up 640 1024 .f32 (blkAt D (t.val % 13 * 640) (0 * 1024)) :=
  (congrArg (((cfg3.win 0).blk t).view.read (Elt Ideal)) ((U3_arg m c main_arg6 (by decide)).trans h.2.2.2.2.2.2)).trans (read3_0 _ t)
theorem b3_1 (t : Fin cfg3.N) : blk3 (W3 m) c 1 t = up 1024 1024 .bf16 (blkAt Wo (t.val / 13 * 1024) (0 * 1024)) :=
  (congrArg (((cfg3.win 1).blk t).view.read (Elt Ideal)) ((U3_arg m c main_arg4 (by decide)).trans h.2.2.2.2.1)).trans (read3_1 _ t)
theorem o_v3_eq : o_v3 m c = up 8320 1024 .bf16 (nt 1024 D Wo) := by
  refine (dat3 (W3 m) c).arrAt_eq_of_cover 2 (up 8320 1024 .bf16 (nt 1024 D Wo)) (fun t ht => ?_) cover3_2
  rw [read3_2]
  show (cfg3.win 2).cut (grid3.coords t) (k3_pay1 (blk3 (W3 m) c 0 t) (blk3 (W3 m) c 1 t)) = _
  rw [b3_0 h, b3_1 h, p3_up, nt_blk]
  rfl
theorem b4_0 (t : Fin cfg4.N) : blk4 (W4 m) c 0 t = up 640 1024 .bf16 (blkAt O (t.val % 13 * 640) (0 * 1024)) :=
  (congrArg (((cfg4.win 0).blk t).view.read (Elt Ideal)) ((U4_arg m c main_arg3 (by decide)).trans h.2.2.2.1)).trans (read4_0 _ t)
theorem b4_1 (t : Fin cfg4.N) : blk4 (W4 m) c 1 t = up 640 512 .f32 (blkAt D (t.val % 13 * 640) (t.val / 13 * 512)) :=
  (congrArg (((cfg4.win 1).blk t).view.read (Elt Ideal)) ((U4_arg m c main_arg6 (by decide)).trans h.2.2.2.2.2.2)).trans (read4_1 _ t)
theorem scr4_at : ∀ n, n < cfg4.N →
    scr4 (W4 m) c (n + 1) = up 1024 512 .f32 (blkAt (tn ((n % 13 + 1) * 640) O D) (0 * 1024) (n / 13 * 512)) :=
  sum_at 13 (scr4 (W4 m) c) (fun n hn h0 => by
    refine (scr4_succ (W4 m) c ⟨n, hn⟩).trans ?_
    rw [acc4_start ⟨n, hn⟩ h0, b4_0 h, b4_1 h, p42_up]
    dsimp only
    rw [h0, tn_first]) fun n hn h0 p => by
    refine (scr4_succ (W4 m) c ⟨n + 1, hn⟩).trans ?_
    rw [show n / 13 = (n + 1) / 13 by omega, show n % 13 + 1 = (n + 1) % 13 by omega] at p
    rw [acc4_next ⟨n + 1, hn⟩ h0, b4_0 h, b4_1 h]
    dsimp only
    rw [p, p43_up, tn_next]
theorem o_v4_eq : o_v4 m c = up 1024 1024 .f32 (tn 8320 O D) := by
  refine (dat4 (W4 m) c).arrAt_eq_of_cover 2 (up 1024 1024 .f32 (tn 8320 O D)) (fun t ht => ?_) cover4_2
  rw [read4_2]
  have h12 := (flush4_2 t).mp ht
  show (cfg4.win 2).cut (grid4.coords t) (scr4 (W4 m) c (t.val + 1)) = _
  rw [scr4_at h t.val t.isLt, h12]
  rfl
theorem b5_0 (t : Fin cfg5.N) : blk5 (W5 m) c 0 t = up 640 1024 .bf16 (blkAt (xn H G) (t.val % 13 * 640) (0 * 1024)) :=
  (congrArg (((cfg5.win 0).blk t).view.read (Elt Ideal)) ((U5_of m c main_v0 (by decide)).trans ((U4_of m c main_v0 (by decide)).trans ((U3_of m c main_v0 (by decide)).trans ((U2_of m c main_v0 (by decide)).trans ((U1_v0 m c).trans (o_v0_eq h))))))).trans (read5_0 _ t)
theorem b5_1 (t : Fin cfg5.N) : blk5 (W5 m) c 1 t = up 640 512 .bf16 (blkAt Q (t.val % 13 * 640) (t.val / 13 * 512)) :=
  (congrArg (((cfg5.win 1).blk t).view.read (Elt Ideal)) ((U5_arg m c main_arg5 (by decide)).trans h.2.2.2.2.2.1)).trans (read5_1 _ t)
theorem scr5_at : ∀ n, n < cfg5.N →
    scr5 (W5 m) c (n + 1) = up 1024 512 .f32 (blkAt (tn ((n % 13 + 1) * 640) (xn H G) Q) (0 * 1024) (n / 13 * 512)) :=
  sum_at 13 (scr5 (W5 m) c) (fun n hn h0 => by
    refine (scr5_succ (W5 m) c ⟨n, hn⟩).trans ?_
    rw [acc5_start ⟨n, hn⟩ h0, b5_0 h, b5_1 h, p52_up]
    dsimp only
    rw [h0, tn_first]) fun n hn h0 p => by
    refine (scr5_succ (W5 m) c ⟨n + 1, hn⟩).trans ?_
    rw [show n / 13 = (n + 1) / 13 by omega, show n % 13 + 1 = (n + 1) % 13 by omega] at p
    rw [acc5_next ⟨n + 1, hn⟩ h0, b5_0 h, b5_1 h]
    dsimp only
    rw [p, p53_up, tn_next]
theorem o_v5_eq : o_v5 m c = up 1024 1024 .f32 (tn 8320 (xn H G) Q) := by
  refine (dat5 (W5 m) c).arrAt_eq_of_cover 2 (up 1024 1024 .f32 (tn 8320 (xn H G) Q)) (fun t ht => ?_) cover5_2
  rw [read5_2]
  have h12 := (flush5_2 t).mp ht
  show (cfg5.win 2).cut (grid5.coords t) (scr5 (W5 m) c (t.val + 1)) = _
  rw [scr5_at h t.val t.isLt, h12]
  rfl
theorem b6_0 (t : Fin cfg6.N) : blk6 (W6 m) c 0 t = up 640 1024 .bf16 (blkAt Q (t.val % 13 * 640) (0 * 1024)) :=
  (congrArg (((cfg6.win 0).blk t).view.read (Elt Ideal)) ((U6_arg m c main_arg5 (by decide)).trans h.2.2.2.2.2.1)).trans (read6_0 _ t)
theorem b6_1 (t : Fin cfg6.N) : blk6 (W6 m) c 1 t = up 1024 1024 .bf16 (blkAt Wq (t.val / 13 * 1024) (0 * 1024)) :=
  (congrArg (((cfg6.win 1).blk t).view.read (Elt Ideal)) ((U6_arg m c main_arg2 (by decide)).trans h.2.2.1)).trans (read6_1 _ t)
theorem o_v6_eq : o_v6 m c = up 8320 1024 .f32 (nt 1024 Q Wq) := by
  refine (dat6 (W6 m) c).arrAt_eq_of_cover 2 (up 8320 1024 .f32 (nt 1024 Q Wq)) (fun t ht => ?_) cover6_2
  rw [read6_2]
  show (cfg6.win 2).cut (grid6.coords t) (k6_pay1 (blk6 (W6 m) c 0 t) (blk6 (W6 m) c 1 t)) = _
  rw [b6_0 h, b6_1 h, p6_up, nt_blk]
  rfl
theorem b7_0 (t : Fin cfg7.N) : blk7 (W7 m) c 0 t = up 416 1024 .f32 (blkAt (nt 1024 Q Wq) (t.val * 416) (0 * 1024)) :=
  (congrArg (((cfg7.win 0).blk t).view.read (Elt Ideal)) ((U7_v6 m c).trans (o_v6_eq h))).trans (read7_0 _ t)
theorem b7_1 (t : Fin cfg7.N) : blk7 (W7 m) c 1 t = up 416 1024 .f32 (blkAt H (t.val * 416) (0 * 1024)) :=
  (congrArg (((cfg7.win 1).blk t).view.read (Elt Ideal)) ((U7_arg m c main_arg0 (by decide)).trans h.1)).trans (read7_1 _ t)
theorem b7_2 (t : Fin cfg7.N) : blk7 (W7 m) c 2 t = up 1 1024 .f32 (blkAt G (0 * 1) (0 * 1024)) :=
  (congrArg (((cfg7.win 2).blk t).view.read (Elt Ideal)) ((U7_arg m c main_arg1 (by decide)).trans h.2.1)).trans (read7_2 _ t)
theorem b7_3 (t : Fin cfg7.N) : blk7 (W7 m) c 3 t = up 416 1024 .f32 (blkAt D (t.val * 416) (0 * 1024)) :=
  (congrArg (((cfg7.win 3).blk t).view.read (Elt Ideal)) ((U7_arg m c main_arg6 (by decide)).trans h.2.2.2.2.2.2)).trans (read7_3 _ t)
theorem row7_at (n : ℕ) : ∀ hn : n < cfg7.N, row7 (W7 m) c (n + 1) = up 1 1024 .f32 (dgR ((n + 1) * 416) H (nt 1024 Q Wq)) := by
  induction n with
  | zero =>
    intro hn
    refine (row7_succ (W7 m) c ⟨0, hn⟩).trans ?_
    have ec : (grid7.coords ⟨0, hn⟩ 0).val = 0 := by
      rw [Pipeline.Grid.coords_val _ 0 (S := 1) (B := 20) (by decide) rfl, Nat.div_one]
      rfl
    have e : isFirst (grid7.coords ⟨0, hn⟩ 0).val := (first_iff ⟨(grid7.coords ⟨0, hn⟩ 0).val, by rw [ec]; omega⟩).mpr ec
    unfold acc7
    rw [if_pos e, b7_0 h, b7_1 h, p76_up, p78_up, p71_up]
    dsimp only
    rw [← dg_next]
    refine congrArg (up 1 1024 .f32) (funext fun r => funext fun k => ?_)
    simp only [dgR, Nat.zero_mul, sum_range_zero]
  | succ n ih =>
    intro hn
    refine (row7_succ (W7 m) c ⟨n + 1, hn⟩).trans ?_
    have hN : n + 1 < 20 := lt_of_lt_of_eq hn (show cfg7.N = 20 from N_7)
    have ec : (grid7.coords ⟨n + 1, hn⟩ 0).val = n + 1 := by
      rw [Pipeline.Grid.coords_val _ 0 (S := 1) (B := 20) (by decide) rfl, Nat.div_one]
      exact Nat.mod_eq_of_lt hN
    have e : ¬ isFirst (grid7.coords ⟨n + 1, hn⟩ 0).val := fun e => by
      have := (first_iff ⟨(grid7.coords ⟨n + 1, hn⟩ 0).val, by rw [ec]; omega⟩).mp e
      rw [ec] at this
      omega
    have p := ih (by omega)
    unfold acc7
    rw [if_neg e, b7_0 h, b7_1 h]
    dsimp only
    rw [p, p78_up, p71_up, dg_next]
theorem o_v7_0_eq : o_v7_0 m c = up 8320 1024 .f32 (dhR H (nt 1024 Q Wq) G D) := by
  refine (dat7 (W7 m) c).arrAt_eq_of_cover 4 (up 8320 1024 .f32 (dhR H (nt 1024 Q Wq) G D)) (fun t ht => ?_) cover7_4
  rw [read7_4]
  show (cfg7.win 4).cut (grid7.coords t) (k7_pay5 (blk7 (W7 m) c 1 t) (blk7 (W7 m) c 0 t) (blk7 (W7 m) c 2 t) (blk7 (W7 m) c 3 t)) = _
  rw [b7_1 h, b7_0 h, b7_2 h, b7_3 h, p75_up, dh_blk]
  rfl
theorem o_v7_1_eq : o_v7_1 m c = up 1 1024 .f32 (dgR 8320 H (nt 1024 Q Wq)) := by
  refine (dat7 (W7 m) c).arrAt_eq_of_cover 5 (up 1 1024 .f32 (dgR 8320 H (nt 1024 Q Wq))) (fun t ht => ?_) cover7_5
  rw [read7_5]
  have hN : cfg7.N = 20 := N_7
  have h19 : t.val = 19 := by have := (flush7_5 t).mp ht; have := t.isLt; omega
  show (cfg7.win 5).cut (grid7.coords t) (row7 (W7 m) c (t.val + 1)) = _
  rw [row7_at h t.val t.isLt, h19]
  funext y
  show dgR ((19 + 1) * 416) H _ (y 0).val (y 1).val = dgR 8320 H _ (0 * 1 + (y 0).val) (0 * 1024 + (y 1).val)
  rw [Nat.zero_mul, Nat.zero_add, Nat.zero_add]

end Real

end Cert.Proof.Qo
-- ==== Proof.QoRef.lean ====
module

public import proofs.«01_k».proof.Proof.MixRef
public import proofs.«01_k».proof.Proof.Gen.Reference4Ideal.Run

@[expose] public section

set_option maxRecDepth 65536

noncomputable section

/-! What the unblocked computation of the query and output projections leaves, entry by entry. The norm and its gradient are the mixer's. -/

namespace Cert.Proof.Qo.Ref

open Cert.Reference4Ideal Cert.Reference4Ideal.Gen Cert.Reference4Ideal.Value
open Cert.Proof.Mix (up sum_up nn nt tn xn outR dhR dgR same_up trunc_up ext_up add_up)
open Cert.Proof.Mix.Ref (t17 t17_up t30 t47)
open Idealize.ShloMosaic Idealize.SL.Sem
open Finset

/-! ### The products, one of them turned round -/

section Shapes
variable (f g : ℕ → ℕ → EReal)

theorem nn_up : Host.dotGeneral (F := Ideal) (φ₂ := .f32) dot_S8320x1024_S1024x1024_S8320x1024_1_0_0_1_n_n none (up 8320 1024 .f32 f) (up 1024 1024 .f32 g)
    = up 8320 1024 .f32 (nn 1024 f g) := by
  funext j
  obtain ⟨r, n, rfl⟩ : ∃ (r : Fin 8320) (n : Fin 1024), j = ValueIdx.ix2 r n := ⟨j 0, j 1, ValueIdx.eq_ix2 j⟩
  pointwise
  exact sum_up (n := 1024) fun k => f r.val k * g k n.val
theorem nt_up : Host.dotGeneral (F := Ideal) (φ₂ := .f32) dot_S8320x1024_S1024x1024_S8320x1024_1_1_0_0_n_n none (up 8320 1024 .f32 f) (up 1024 1024 .f32 g)
    = up 8320 1024 .f32 (nt 1024 f g) := by
  funext j
  obtain ⟨r, n, rfl⟩ : ∃ (r : Fin 8320) (n : Fin 1024), j = ValueIdx.ix2 r n := ⟨j 0, j 1, ValueIdx.eq_ix2 j⟩
  pointwise
  exact sum_up (n := 1024) fun k => f r.val k * g n.val k
theorem tn_up : transpose S1024x1024 [1, 0] (Host.dotGeneral (F := Ideal) (φ₂ := .f32) dot_S8320x1024_S8320x1024_S1024x1024_0_0_1_1_n_n none (up 8320 1024 .f32 f) (up 8320 1024 .f32 g)) transposes_S1024x1024_S1024x1024_1_0
    = up 1024 1024 .f32 (tn 8320 g f) := by
  funext j
  obtain ⟨n, r, rfl⟩ : ∃ (n : Fin 1024) (r : Fin 1024), j = ValueIdx.ix2 n r := ⟨j 0, j 1, ValueIdx.eq_ix2 j⟩
  pointwise
  refine (sum_up (n := 8320) fun k => f k r.val * g k n.val).trans ?_
  exact sum_congr rfl fun _ _ => mul_comm _ _
end Shapes

/-! ### The results but the norm's gradient -/

section Terms
variable (h d : FVec Ideal S8320x1024 .f32) (g : FVec Ideal S1x1024 .f32) (wq wo : FVec Ideal S1024x1024 .bf16) (o q : FVec Ideal S8320x1024 .bf16)

/-- The two projections, -/
def t18 : FVec Ideal S8320x1024 .f32 := Host.dotGeneral (φ₂ := .f32) dot_S8320x1024_S1024x1024_S8320x1024_1_0_0_1_n_n none (t17 h g) (extf .f32 wq bitsLt_bf16_f32)
def t20 : FVec Ideal S8320x1024 .f32 :=
  addf h (Host.dotGeneral (φ₂ := .f32) dot_S8320x1024_S1024x1024_S8320x1024_1_0_0_1_n_n none (extf .f32 o bitsLt_bf16_f32) (extf .f32 wo bitsLt_bf16_f32))
/-- the gradients of the output projection, -/
def t24 : FVec Ideal S1024x1024 .f32 :=
  transpose S1024x1024 [1, 0] (Host.dotGeneral (φ₂ := .f32) dot_S8320x1024_S8320x1024_S1024x1024_0_0_1_1_n_n none (shapeCast S8320x1024 d shapeCasts_S8320x1024_S8320x1024) (extf .f32 o bitsLt_bf16_f32))
    transposes_S1024x1024_S1024x1024_1_0
def t49 : FVec Ideal S8320x1024 .bf16 :=
  truncf .bf16 (Host.dotGeneral (φ₂ := .f32) dot_S8320x1024_S1024x1024_S8320x1024_1_1_0_0_n_n none (shapeCast S8320x1024 d shapeCasts_S8320x1024_S8320x1024) (extf .f32 wo bitsLt_bf16_f32)) bitsLt_bf16_f32
/-- and of the query projection. -/
def t27 : FVec Ideal S1024x1024 .f32 :=
  transpose S1024x1024 [1, 0] (Host.dotGeneral (φ₂ := .f32) dot_S8320x1024_S8320x1024_S1024x1024_0_0_1_1_n_n none (extf .f32 q bitsLt_bf16_f32) (t17 h g)) transposes_S1024x1024_S1024x1024_1_0
def t28 : FVec Ideal S8320x1024 .f32 :=
  Host.dotGeneral (φ₂ := .f32) dot_S8320x1024_S1024x1024_S8320x1024_1_1_0_0_n_n none (extf .f32 q bitsLt_bf16_f32) (extf .f32 wq bitsLt_bf16_f32)
end Terms

section Entries
variable (H G Wq O Wo Q D : ℕ → ℕ → EReal)

theorem t18_up : t18 (up 8320 1024 .f32 H) (up 1 1024 .f32 G) (up 1024 1024 .bf16 Wq) = up 8320 1024 .f32 (nn 1024 (xn H G) Wq) := by
  unfold t18
  rw [t17_up, ext_up, nn_up]
theorem t20_up : t20 (up 8320 1024 .f32 H) (up 1024 1024 .bf16 Wo) (up 8320 1024 .bf16 O) = up 8320 1024 .f32 (outR H (nn 1024 O Wo)) := by
  unfold t20
  rw [ext_up, ext_up, nn_up, add_up]
  rfl
theorem t24_up : t24 (up 8320 1024 .f32 D) (up 8320 1024 .bf16 O) = up 1024 1024 .f32 (tn 8320 O D) := by
  unfold t24
  rw [same_up, ext_up, tn_up]
theorem t49_up : t49 (up 8320 1024 .f32 D) (up 1024 1024 .bf16 Wo) = up 8320 1024 .bf16 (nt 1024 D Wo) := by
  unfold t49
  rw [same_up, ext_up, nt_up, trunc_up]
theorem t27_up : t27 (up 8320 1024 .f32 H) (up 1 1024 .f32 G) (up 8320 1024 .bf16 Q) = up 1024 1024 .f32 (tn 8320 (xn H G) Q) := by
  unfold t27
  rw [t17_up, ext_up, tn_up]
theorem t28_up : t28 (up 1024 1024 .bf16 Wq) (up 8320 1024 .bf16 Q) = up 8320 1024 .f32 (nt 1024 Q Wq) := by
  unfold t28
  rw [ext_up, ext_up, nt_up]
end Entries

theorem v48_term (m : (ℓ : Loc nD τ sig) → Buf (Elt Ideal) ℓ) (c : Dev nD) : res_main_v48 m c = t47 (m ((c.tc : Thread nD τ).loc main_arg0)) (m ((c.tc : Thread nD τ).loc main_arg6))
    (t28 (m ((c.tc : Thread nD τ).loc main_arg2)) (m ((c.tc : Thread nD τ).loc main_arg5))) (m ((c.tc : Thread nD τ).loc main_arg1)) := rfl

end Cert.Proof.Qo.Ref

end
-- ==== Proof.QoValue.lean ====
module

public import proofs.«01_k».proof.Defs
public import proofs.«01_k».proof.Proof.QoArrays
public import proofs.«01_k».proof.Proof.QoRef

@[expose] public section

set_option maxRecDepth 65536

noncomputable section

/-! The eight calls and the unblocked computation leave the same extended reals. -/

namespace Cert.Proof

open Idealize.ShloMosaic Idealize.SL.Sem

namespace Qo
open Cert.Kernel4Ideal
open Cert.Proof.Mix (up_of)

/-- Whatever the operands hold is an array of numbers. -/
theorem args_of (m : (ℓ : Loc nD τ sig) → Buf (Elt Ideal) ℓ) (c : Dev nD) : ∃ H G Wq O Wo Q D, Args m c H G Wq O Wo Q D := by
  obtain ⟨H, h0⟩ := up_of (φ := .f32) (a := 8320) (b := 1024) (m ((c.tc : Thread nD τ).loc main_arg0))
  obtain ⟨G, h1⟩ := up_of (φ := .f32) (a := 1) (b := 1024) (m ((c.tc : Thread nD τ).loc main_arg1))
  obtain ⟨Wq, h2⟩ := up_of (φ := .bf16) (a := 1024) (b := 1024) (m ((c.tc : Thread nD τ).loc main_arg2))
  obtain ⟨O, h3⟩ := up_of (φ := .bf16) (a := 8320) (b := 1024) (m ((c.tc : Thread nD τ).loc main_arg3))
  obtain ⟨Wo, h4⟩ := up_of (φ := .bf16) (a := 1024) (b := 1024) (m ((c.tc : Thread nD τ).loc main_arg4))
  obtain ⟨Q, h5⟩ := up_of (φ := .bf16) (a := 8320) (b := 1024) (m ((c.tc : Thread nD τ).loc main_arg5))
  obtain ⟨D, h6⟩ := up_of (φ := .f32) (a := 8320) (b := 1024) (m ((c.tc : Thread nD τ).loc main_arg6))
  exact ⟨H, G, Wq, O, Wo, Q, D, h0, h1, h2, h3, h4, h5, h6⟩

end Qo

/-- The same two projections and the same five gradients. -/
theorem same_values4 : Cert.algebraic_Kernel4Ideal_Reference4Ideal := by
  intro m g m' g' _ hargs
  refine ⟨fun c => Qo.o_v1 m c, fun c => Qo.o_v2 m c, fun c => Qo.o_v7_0 m c, fun c => Qo.o_v7_1 m c, fun c => Qo.o_v5 m c, fun c => Qo.o_v3 m c, fun c => Qo.o_v4 m c, ?_, ?_⟩
  · refine (θ_run Cert.Kernel4Ideal.defs _ _).mono (fun r h c => ?_) (Qo.run_main (F := Ideal) m g)
    have e := h.1 c
    have k := fun b hb => Qo.end_at m c r.2 e b hb
    have a := fun b hb => Qo.end_arg m c r.2 e b hb
    refine ⟨(k _ (by decide)).trans ?_, (k _ (by decide)).trans ?_, (k _ (by decide)).trans (Qo.U8_v7_0 m c), (k _ (by decide)).trans (Qo.U8_v7_1 m c),
      (k _ (by decide)).trans ?_, (k _ (by decide)).trans ?_, (k _ (by decide)).trans ?_, a _ (by decide), a _ (by decide), a _ (by decide), a _ (by decide), a _ (by decide),
      a _ (by decide), a _ (by decide)⟩
    · rw [Qo.U8_of m c _ (by decide) (by decide), Qo.U7_of m c _ (by decide), Qo.U6_of m c _ (by decide), Qo.U5_of m c _ (by decide), Qo.U4_of m c _ (by decide), Qo.U3_of m c _ (by decide)]
      exact Qo.U2_v1 m c
    · rw [Qo.U8_of m c _ (by decide) (by decide), Qo.U7_of m c _ (by decide), Qo.U6_of m c _ (by decide), Qo.U5_of m c _ (by decide), Qo.U4_of m c _ (by decide)]
      exact Qo.U3_v2 m c
    · rw [Qo.U8_of m c _ (by decide) (by decide), Qo.U7_of m c _ (by decide)]
      exact Qo.U6_v5 m c
    · rw [Qo.U8_of m c _ (by decide) (by decide), Qo.U7_of m c _ (by decide), Qo.U6_of m c _ (by decide), Qo.U5_of m c _ (by decide)]
      exact Qo.U4_v3 m c
    · rw [Qo.U8_of m c _ (by decide) (by decide), Qo.U7_of m c _ (by decide), Qo.U6_of m c _ (by decide)]
      exact Qo.U5_v4 m c
  · refine (θ_run Cert.Reference4Ideal.defs _ _).mono (fun r h c => ?_) (Cert.Reference4Ideal.Value.run (F := Ideal) m' g')
    obtain ⟨r0, r1, r2, r3, r4, r5, r6, ra⟩ := h c
    obtain ⟨H, G, Wq, O, Wo, Q, D, A⟩ := Qo.args_of m c
    obtain ⟨a0, a1, a2, a3, a4, a5, a6⟩ := hargs c
    have A' := A
    obtain ⟨e0, e1, e2, e3, e4, e5, e6⟩ := A'
    rw [e0] at a0
    rw [e1] at a1
    rw [e2] at a2
    rw [e3] at a3
    rw [e4] at a4
    rw [e5] at a5
    rw [e6] at a6
    have s0 := r0.trans (show _ = Qo.Ref.t18 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) from rfl)
    rw [a0, a1, a2, Qo.Ref.t18_up, ← Qo.o_v1_eq A] at s0
    have s1 := r1.trans (show _ = Qo.Ref.t20 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg3)) from rfl)
    rw [a0, a3, a4, Qo.Ref.t20_up, ← Qo.o_v2_eq A] at s1
    have s2 := r2.trans (Qo.Ref.v48_term m' c)
    rw [a0, a6, a1, a2, a5, Qo.Ref.t28_up, Mix.Ref.t47_up, ← Qo.o_v7_0_eq A] at s2
    have s3 := r3.trans (show _ = Mix.Ref.t30 (m' ((c.tc : Thread Cert.Reference4Ideal.nD Cert.Reference4Ideal.τ).loc Cert.Reference4Ideal.main_arg0)) (Qo.Ref.t28 (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg5))) from rfl)
    rw [a0, a2, a5, Qo.Ref.t28_up, Mix.Ref.t30_up, ← Qo.o_v7_1_eq A] at s3
    have s4 := r4.trans (show _ = Qo.Ref.t27 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg5)) from rfl)
    rw [a0, a1, a5, Qo.Ref.t27_up, ← Qo.o_v5_eq A] at s4
    have s5 := r5.trans (show _ = Qo.Ref.t49 (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg4)) from rfl)
    rw [a6, a4, Qo.Ref.t49_up, ← Qo.o_v3_eq A] at s5
    have s6 := r6.trans (show _ = Qo.Ref.t24 (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg3)) from rfl)
    rw [a6, a3, Qo.Ref.t24_up, ← Qo.o_v4_eq A] at s6
    exact ⟨s0, s1, s2, s3, s4, s5, s6, ra⟩

end Cert.Proof

end
-- ==== Proof.FfnStep.lean ====
module

public import proofs.«01_k».proof.Proof.Steps
public import proofs.«01_k».proof.Proof.Gen.Kernel2Ideal
public import proofs.«01_k».proof.Proof.Gen.Kernel2Ideal.Skeleton

@[expose] public section

set_option synthInstance.maxSize 4096
set_option maxRecDepth 65536

noncomputable section

/-! What a grid point of each of the feed-forward layer's kernels does to the memrefs it is given. -/

namespace Cert.Proof.Ffn

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Proof.Steps (has hz2 isFirst isLater accOf wp_whole wp_fill wp_two wp_three wp_sum)

variable {F : FTy → Type} [FloatOps F]

abbrev PR (F : FTy → Type) (α : Type) := Prog (TpuEff nD τ sig (Elt F) Λ₀ .tc) α

/-- What call 4 leaves in its accumulator at a point, from its two blocks and what the accumulator held; -/
def acc4 (i : grid4.Coords) (x : Vec F S640x1408 .bf16) (y : Vec F S640x1024 .f32) (s : Vec F S1408x1024 .f32) : Vec F S1408x1024 .f32 :=
  accOf (i 2).val (k4_pay2 x y) (k4_pay3 x y) s
/-- and in its output block, from what that held. -/
def res4 (i : grid4.Coords) (x : Vec F S640x1408 .bf16) (y : Vec F S640x1024 .f32) (s d : Vec F S1408x1024 .f32) : Vec F S1408x1024 .f32 :=
  if k4_cond3 i = 1#1 then (k4_pay4 (acc4 i x y s)) else d

/-- What call 5 leaves in its accumulator at a point, from its two blocks and what the accumulator held; -/
def acc5 (i : grid5.Coords) (x : Vec F S640x1024 .bf16) (y : Vec F S640x1408 .bf16) (s : Vec F S1024x1408 .f32) : Vec F S1024x1408 .f32 :=
  accOf (i 2).val (k5_pay2 x y) (k5_pay3 x y) s
/-- and in its output block, from what that held. -/
def res5 (i : grid5.Coords) (x : Vec F S640x1024 .bf16) (y : Vec F S640x1408 .bf16) (s d : Vec F S1024x1408 .f32) : Vec F S1024x1408 .f32 :=
  if k5_cond3 i = 1#1 then (acc5 i x y s) else d

/-- What call 6 leaves in its accumulator at a point, from its two blocks and what the accumulator held; -/
def acc6 (i : grid6.Coords) (x : Vec F S640x1024 .bf16) (y : Vec F S640x1408 .bf16) (s : Vec F S1024x1408 .f32) : Vec F S1024x1408 .f32 :=
  accOf (i 2).val (k6_pay2 x y) (k6_pay3 x y) s
/-- and in its output block, from what that held. -/
def res6 (i : grid6.Coords) (x : Vec F S640x1024 .bf16) (y : Vec F S640x1408 .bf16) (s d : Vec F S1024x1408 .f32) : Vec F S1024x1408 .f32 :=
  if k6_cond3 i = 1#1 then (acc6 i x y s) else d

/-- What call 8 leaves in its row of sums at a point, from its blocks and what the row held. -/
def acc8 (i : grid8.Coords) (x : Vec F S416x1024 .f32) (h : Vec F S416x1024 .f32) (s : Vec F S1x1024 .f32) : Vec F S1x1024 .f32 :=
  k8_pay1 (k8_pay7 (if isFirst (i 0).val then k8_pay6 else s)) (k8_pay8 h x)

section

variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (Es : Set Name)

local notation "𝕄" => MT nD τ sig Ix (Elt F) Name U Lvl
local notation "wpk" => wp frame (wpE (Ix := Ix) (Name := Name) (U := U) (Lvl := Lvl) defs 𝒱 (c : Thread nD τ) bd) Es

/-- Call 0 at a grid point. -/
theorem wp_k0 {Q : PUnit → sProp 𝕄} (i : grid0.Coords) (arg1 : Memref sig .tc .vmem S832x1024 .f32) (harg1 : arg1.IsWhole) (arg2 : Memref sig .tc .vmem S1x1024 .f32) (harg2 : arg2.IsWhole) (arg3 : Memref sig .tc .vmem S832x1024 .bf16) (harg3 : arg3.IsWhole)
    (x0 : Vec F S832x1024 .f32) (x1 : Vec F S1x1024 .f32) (x2 : Vec F S832x1024 .bf16) :
    (iprop(has c arg1 x0 ∗ has c arg2 x1 ∗ has c arg3 x2) : sProp 𝕄)
      ⊢ iprop((iprop(has c arg1 x0 ∗ has c arg2 x1 ∗ has c arg3 (k0_pay1 x0 x1)) -∗ Q ⟨⟩)
        -∗ wpk (cc0_a_ffn1_norm i arg1 harg1 arg2 harg2 arg3 harg3 : PR F PUnit) Q) := by
  rw [cc0_a_ffn1_norm_eq_skeleton]; unfold cc0_a_ffn1_norm_skel
  exact wp_two (defs := defs) 𝒱 c bd Es arg1 arg2 arg3 hz2 hz2 hz2 k0_pay1 x0 x1 x2

/-- Call 1 at a grid point. -/
theorem wp_k1 {Q : PUnit → sProp 𝕄} (i : grid1.Coords) (arg3 : Memref sig .tc .vmem S640x1024 .bf16) (harg3 : arg3.IsWhole) (arg4 : Memref sig .tc .vmem S1024x1408 .bf16) (harg4 : arg4.IsWhole) (arg5 : Memref sig .tc .vmem S640x1024 .bf16) (harg5 : arg5.IsWhole) (arg6 : Memref sig .tc .vmem S1024x1408 .bf16) (harg6 : arg6.IsWhole) (arg7 : Memref sig .tc .vmem S640x1408 .bf16) (harg7 : arg7.IsWhole) (arg8 : Memref sig .tc .vmem S640x1408 .bf16) (harg8 : arg8.IsWhole) (arg9 : Memref sig .tc .vmem S640x1408 .bf16) (harg9 : arg9.IsWhole)
    (x0 : Vec F S640x1024 .bf16) (x1 : Vec F S1024x1408 .bf16) (x2 : Vec F S640x1024 .bf16) (x3 : Vec F S1024x1408 .bf16) (x4 : Vec F S640x1408 .bf16) (x5 : Vec F S640x1408 .bf16) (x6 : Vec F S640x1408 .bf16) :
    (iprop(has c arg3 x0 ∗ has c arg4 x1 ∗ has c arg5 x2 ∗ has c arg6 x3 ∗ has c arg7 x4 ∗ has c arg8 x5 ∗ has c arg9 x6) : sProp 𝕄)
      ⊢ iprop((iprop(has c arg3 x0 ∗ has c arg4 x1 ∗ has c arg5 x2 ∗ has c arg6 x3 ∗ has c arg7 (k1_pay3 x0 x1) ∗ has c arg8 (k1_pay4 x2 x3) ∗ has c arg9 (k1_pay5 x0 x1 x2 x3)) -∗ Q ⟨⟩)
        -∗ wpk (cc1_a_ffn1_up i arg3 harg3 arg4 harg4 arg5 harg5 arg6 harg6 arg7 harg7 arg8 harg8 arg9 harg9 : PR F PUnit) Q) := by
  rw [cc1_a_ffn1_up_eq_skeleton]; unfold cc1_a_ffn1_up_skel
  iintro ⟨H0, H1, H2, H3, H4, H5, H6⟩ HQ
  iapply (wp_whole (defs := defs) 𝒱 c bd Es arg3 hz2) $$ H0
  iintro H0
  iapply (wp_whole (defs := defs) 𝒱 c bd Es arg4 hz2) $$ H1
  iintro H1
  iapply (wp_whole (defs := defs) 𝒱 c bd Es arg5 hz2) $$ H2
  iintro H2
  iapply (wp_whole (defs := defs) 𝒱 c bd Es arg6 hz2) $$ H3
  iintro H3
  iapply (wp_whole (defs := defs) 𝒱 c bd Es arg7 hz2) $$ H4
  iintro H4
  iapply (wp_fill (defs := defs) 𝒱 c bd Es arg7 hz2) $$ H4
  iintro H4
  iapply (wp_whole (defs := defs) 𝒱 c bd Es arg8 hz2) $$ H5
  iintro H5
  iapply (wp_fill (defs := defs) 𝒱 c bd Es arg8 hz2) $$ H5
  iintro H5
  iapply (wp_whole (defs := defs) 𝒱 c bd Es arg9 hz2) $$ H6
  iintro H6
  iapply (wp_fill (defs := defs) 𝒱 c bd Es arg9 hz2) $$ H6
  iintro H6
  rw [wp_pure]
  imodintro
  iapply HQ
  iframe

/-- Call 2 at a grid point. -/
theorem wp_k2 {Q : PUnit → sProp 𝕄} (i : grid2.Coords) (arg3 : Memref sig .tc .vmem S640x2816 .bf16) (harg3 : arg3.IsWhole) (arg4 : Memref sig .tc .vmem S2816x1024 .bf16) (harg4 : arg4.IsWhole) (arg5 : Memref sig .tc .vmem S640x1024 .f32) (harg5 : arg5.IsWhole) (arg6 : Memref sig .tc .vmem S640x1024 .f32) (harg6 : arg6.IsWhole)
    (x0 : Vec F S640x2816 .bf16) (x1 : Vec F S2816x1024 .bf16) (x2 : Vec F S640x1024 .f32) (x3 : Vec F S640x1024 .f32) :
    (iprop(has c arg3 x0 ∗ has c arg4 x1 ∗ has c arg5 x2 ∗ has c arg6 x3) : sProp 𝕄)
      ⊢ iprop((iprop(has c arg3 x0 ∗ has c arg4 x1 ∗ has c arg5 x2 ∗ has c arg6 (k2_pay1 x0 x1 x2)) -∗ Q ⟨⟩)
        -∗ wpk (cc2_a_ffn1_down i arg3 harg3 arg4 harg4 arg5 harg5 arg6 harg6 : PR F PUnit) Q) := by
  rw [cc2_a_ffn1_down_eq_skeleton]; unfold cc2_a_ffn1_down_skel
  exact wp_three (defs := defs) 𝒱 c bd Es arg3 arg4 arg5 arg6 hz2 hz2 hz2 hz2 k2_pay1 x0 x1 x2 x3

/-- Call 3 at a grid point. -/
theorem wp_k3 {Q : PUnit → sProp 𝕄} (i : grid3.Coords) (arg3 : Memref sig .tc .vmem S640x1024 .f32) (harg3 : arg3.IsWhole) (arg4 : Memref sig .tc .vmem S1408x1024 .bf16) (harg4 : arg4.IsWhole) (arg5 : Memref sig .tc .vmem S640x1408 .bf16) (harg5 : arg5.IsWhole) (arg6 : Memref sig .tc .vmem S640x1408 .bf16) (harg6 : arg6.IsWhole) (arg7 : Memref sig .tc .vmem S640x1408 .bf16) (harg7 : arg7.IsWhole) (arg8 : Memref sig .tc .vmem S640x1408 .bf16) (harg8 : arg8.IsWhole)
    (x0 : Vec F S640x1024 .f32) (x1 : Vec F S1408x1024 .bf16) (x2 : Vec F S640x1408 .bf16) (x3 : Vec F S640x1408 .bf16) (x4 : Vec F S640x1408 .bf16) (x5 : Vec F S640x1408 .bf16) :
    (iprop(has c arg3 x0 ∗ has c arg4 x1 ∗ has c arg5 x2 ∗ has c arg6 x3 ∗ has c arg7 x4 ∗ has c arg8 x5) : sProp 𝕄)
      ⊢ iprop((iprop(has c arg3 x0 ∗ has c arg4 x1 ∗ has c arg5 x2 ∗ has c arg6 x3 ∗ has c arg7 (k3_pay4 x0 x1 x2 x3) ∗ has c arg8 (k3_pay5 x0 x1 x2)) -∗ Q ⟨⟩)
        -∗ wpk (cc3_b_ffn1_dact i arg3 harg3 arg4 harg4 arg5 harg5 arg6 harg6 arg7 harg7 arg8 harg8 : PR F PUnit) Q) := by
  rw [cc3_b_ffn1_dact_eq_skeleton]; unfold cc3_b_ffn1_dact_skel
  iintro ⟨H0, H1, H2, H3, H4, H5⟩ HQ
  iapply (wp_whole (defs := defs) 𝒱 c bd Es arg3 hz2) $$ H0
  iintro H0
  iapply (wp_whole (defs := defs) 𝒱 c bd Es arg4 hz2) $$ H1
  iintro H1
  iapply (wp_whole (defs := defs) 𝒱 c bd Es arg5 hz2) $$ H2
  iintro H2
  iapply (wp_whole (defs := defs) 𝒱 c bd Es arg6 hz2) $$ H3
  iintro H3
  iapply (wp_whole (defs := defs) 𝒱 c bd Es arg7 hz2) $$ H4
  iintro H4
  iapply (wp_fill (defs := defs) 𝒱 c bd Es arg7 hz2) $$ H4
  iintro H4
  iapply (wp_whole (defs := defs) 𝒱 c bd Es arg8 hz2) $$ H5
  iintro H5
  iapply (wp_fill (defs := defs) 𝒱 c bd Es arg8 hz2) $$ H5
  iintro H5
  rw [wp_pure]
  imodintro
  iapply HQ
  iframe

/-- Call 4 at a grid point. -/
theorem wp_k4 {Q : PUnit → sProp 𝕄} (i : grid4.Coords) (arg3 : Memref sig .tc .vmem S640x1408 .bf16) (harg3 : arg3.IsWhole) (arg4 : Memref sig .tc .vmem S640x1024 .f32) (harg4 : arg4.IsWhole) (arg5 : Memref sig .tc .vmem S1408x1024 .f32) (harg5 : arg5.IsWhole) (arg6 : Memref sig .tc .vmem S1408x1024 .f32) (harg6 : arg6.IsWhole)
    (x0 : Vec F S640x1408 .bf16) (x1 : Vec F S640x1024 .f32) (x2 : Vec F S1408x1024 .f32) (x3 : Vec F S1408x1024 .f32) :
    (iprop(has c arg3 x0 ∗ has c arg4 x1 ∗ has c arg5 x2 ∗ has c arg6 x3) : sProp 𝕄)
      ⊢ iprop((iprop(has c arg3 x0 ∗ has c arg4 x1 ∗ has c arg5 (res4 i x0 x1 x3 x2) ∗ has c arg6 (acc4 i x0 x1 x3)) -∗ Q ⟨⟩)
        -∗ wpk (cc4_b_ffn1_dw2 i arg3 harg3 arg4 harg4 arg5 harg5 arg6 harg6 : PR F PUnit) Q) := by
  rw [cc4_b_ffn1_dw2_eq_skeleton]; unfold cc4_b_ffn1_dw2_skel
  exact wp_sum (defs := defs) 𝒱 c bd Es arg3 arg4 arg5 arg6 hz2 hz2 hz2 hz2 (i 2).val (k4_cond3 i = 1#1) k4_pay2 k4_pay3 k4_pay4 x0 x1 x2 x3

/-- Call 5 at a grid point. -/
theorem wp_k5 {Q : PUnit → sProp 𝕄} (i : grid5.Coords) (arg3 : Memref sig .tc .vmem S640x1024 .bf16) (harg3 : arg3.IsWhole) (arg4 : Memref sig .tc .vmem S640x1408 .bf16) (harg4 : arg4.IsWhole) (arg5 : Memref sig .tc .vmem S1024x1408 .f32) (harg5 : arg5.IsWhole) (arg6 : Memref sig .tc .vmem S1024x1408 .f32) (harg6 : arg6.IsWhole)
    (x0 : Vec F S640x1024 .bf16) (x1 : Vec F S640x1408 .bf16) (x2 : Vec F S1024x1408 .f32) (x3 : Vec F S1024x1408 .f32) :
    (iprop(has c arg3 x0 ∗ has c arg4 x1 ∗ has c arg5 x2 ∗ has c arg6 x3) : sProp 𝕄)
      ⊢ iprop((iprop(has c arg3 x0 ∗ has c arg4 x1 ∗ has c arg5 (res5 i x0 x1 x3 x2) ∗ has c arg6 (acc5 i x0 x1 x3)) -∗ Q ⟨⟩)
        -∗ wpk (cc5_b_ffn1_dw1 i arg3 harg3 arg4 harg4 arg5 harg5 arg6 harg6 : PR F PUnit) Q) := by
  rw [cc5_b_ffn1_dw1_eq_skeleton]; unfold cc5_b_ffn1_dw1_skel
  exact wp_sum (defs := defs) 𝒱 c bd Es arg3 arg4 arg5 arg6 hz2 hz2 hz2 hz2 (i 2).val (k5_cond3 i = 1#1) k5_pay2 k5_pay3 (fun v => v) x0 x1 x2 x3

/-- Call 6 at a grid point. -/
theorem wp_k6 {Q : PUnit → sProp 𝕄} (i : grid6.Coords) (arg3 : Memref sig .tc .vmem S640x1024 .bf16) (harg3 : arg3.IsWhole) (arg4 : Memref sig .tc .vmem S640x1408 .bf16) (harg4 : arg4.IsWhole) (arg5 : Memref sig .tc .vmem S1024x1408 .f32) (harg5 : arg5.IsWhole) (arg6 : Memref sig .tc .vmem S1024x1408 .f32) (harg6 : arg6.IsWhole)
    (x0 : Vec F S640x1024 .bf16) (x1 : Vec F S640x1408 .bf16) (x2 : Vec F S1024x1408 .f32) (x3 : Vec F S1024x1408 .f32) :
    (iprop(has c arg3 x0 ∗ has c arg4 x1 ∗ has c arg5 x2 ∗ has c arg6 x3) : sProp 𝕄)
      ⊢ iprop((iprop(has c arg3 x0 ∗ has c arg4 x1 ∗ has c arg5 (res6 i x0 x1 x3 x2) ∗ has c arg6 (acc6 i x0 x1 x3)) -∗ Q ⟨⟩)
        -∗ wpk (cc6_b_ffn1_dw3 i arg3 harg3 arg4 harg4 arg5 harg5 arg6 harg6 : PR F PUnit) Q) := by
  rw [cc6_b_ffn1_dw3_eq_skeleton]; unfold cc6_b_ffn1_dw3_skel
  exact wp_sum (defs := defs) 𝒱 c bd Es arg3 arg4 arg5 arg6 hz2 hz2 hz2 hz2 (i 2).val (k6_cond3 i = 1#1) k6_pay2 k6_pay3 (fun v => v) x0 x1 x2 x3

/-- Call 7 at a grid point. -/
theorem wp_k7 {Q : PUnit → sProp 𝕄} (i : grid7.Coords) (arg3 : Memref sig .tc .vmem S640x2816 .bf16) (harg3 : arg3.IsWhole) (arg4 : Memref sig .tc .vmem S512x2816 .bf16) (harg4 : arg4.IsWhole) (arg5 : Memref sig .tc .vmem S640x2816 .bf16) (harg5 : arg5.IsWhole) (arg6 : Memref sig .tc .vmem S512x2816 .bf16) (harg6 : arg6.IsWhole) (arg7 : Memref sig .tc .vmem S640x512 .f32) (harg7 : arg7.IsWhole)
    (x0 : Vec F S640x2816 .bf16) (x1 : Vec F S512x2816 .bf16) (x2 : Vec F S640x2816 .bf16) (x3 : Vec F S512x2816 .bf16) (x4 : Vec F S640x512 .f32) :
    (iprop(has c arg3 x0 ∗ has c arg4 x1 ∗ has c arg5 x2 ∗ has c arg6 x3 ∗ has c arg7 x4) : sProp 𝕄)
      ⊢ iprop((iprop(has c arg3 x0 ∗ has c arg4 x1 ∗ has c arg5 x2 ∗ has c arg6 x3 ∗ has c arg7 (k7_pay1 x0 x1 x2 x3)) -∗ Q ⟨⟩)
        -∗ wpk (cc7_b_ffn1_dxn i arg3 harg3 arg4 harg4 arg5 harg5 arg6 harg6 arg7 harg7 : PR F PUnit) Q) := by
  rw [cc7_b_ffn1_dxn_eq_skeleton]; unfold cc7_b_ffn1_dxn_skel
  iintro ⟨H0, H1, H2, H3, H4⟩ HQ
  iapply (wp_whole (defs := defs) 𝒱 c bd Es arg3 hz2) $$ H0
  iintro H0
  iapply (wp_whole (defs := defs) 𝒱 c bd Es arg4 hz2) $$ H1
  iintro H1
  iapply (wp_whole (defs := defs) 𝒱 c bd Es arg5 hz2) $$ H2
  iintro H2
  iapply (wp_whole (defs := defs) 𝒱 c bd Es arg6 hz2) $$ H3
  iintro H3
  iapply (wp_whole (defs := defs) 𝒱 c bd Es arg7 hz2) $$ H4
  iintro H4
  iapply (wp_fill (defs := defs) 𝒱 c bd Es arg7 hz2) $$ H4
  iintro H4
  rw [wp_pure]
  imodintro
  iapply HQ
  iframe

/-- Call 8 at a grid point. -/
theorem wp_k8 {Q : PUnit → sProp 𝕄} (i : grid8.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x1024 .f32) (harg4 : arg4.IsWhole) (arg5 : Memref sig .tc .vmem S416x1024 .f32) (harg5 : arg5.IsWhole) (arg6 : Memref sig .tc .vmem S1x1024 .f32) (harg6 : arg6.IsWhole)
    (x0 : Vec F S416x1024 .f32) (x1 : Vec F S416x1024 .f32) (x2 : Vec F S1x1024 .f32) (x3 : Vec F S416x1024 .f32) (x4 : Vec F S416x1024 .f32) (x5 : Vec F S1x1024 .f32) :
    (iprop(has c arg1 x0 ∗ has c arg2 x1 ∗ has c arg3 x2 ∗ has c arg4 x3 ∗ has c arg5 x4 ∗ has c arg6 x5) : sProp 𝕄)
      ⊢ iprop((iprop(has c arg1 x0 ∗ has c arg2 x1 ∗ has c arg3 x2 ∗ has c arg4 x3 ∗ has c arg5 (k8_pay5 x1 x0 x2 x3) ∗ has c arg6 (acc8 i x0 x1 x5)) -∗ Q ⟨⟩)
        -∗ wpk (cc8_b_ffn1_dnorm i arg1 harg1 arg2 harg2 arg3 harg3 arg4 harg4 arg5 harg5 arg6 harg6 : PR F PUnit) Q) := by
  rw [cc8_b_ffn1_dnorm_eq_skeleton]; unfold cc8_b_ffn1_dnorm_skel
  rw [k8_part1_eq_skeleton]; unfold k8_part1_skel
  dsimp only
  unfold acc8
  simp only [bind_assoc, pure_bind]
  by_cases h1 : isFirst (i 0).val
  · rw [if_pos h1]
    iintro ⟨H0, H1, H2, H3, H4, H5⟩ HQ
    iapply (wp_whole (defs := defs) 𝒱 c bd Es arg2 hz2) $$ H1
    iintro H1
    iapply (wp_whole (defs := defs) 𝒱 c bd Es arg1 hz2) $$ H0
    iintro H0
    iapply (wp_whole (defs := defs) 𝒱 c bd Es arg3 hz2) $$ H2
    iintro H2
    iapply (wp_whole (defs := defs) 𝒱 c bd Es arg4 hz2) $$ H3
    iintro H3
    iapply (wp_whole (defs := defs) 𝒱 c bd Es arg5 hz2) $$ H4
    iintro H4
    iapply (wp_fill (defs := defs) 𝒱 c bd Es arg5 hz2) $$ H4
    iintro H4
    simp only [dif_pos h1, bind_assoc, pure_bind]
    iapply (wp_whole (defs := defs) 𝒱 c bd Es arg6 hz2) $$ H5
    iintro H5
    iapply (wp_fill (defs := defs) 𝒱 c bd Es arg6 hz2) $$ H5
    iintro H5
    iapply (wp_whole (defs := defs) 𝒱 c bd Es arg6 hz2) $$ H5
    iintro H5
    iapply (wp_whole (defs := defs) 𝒱 c bd Es arg6 hz2) $$ H5
    iintro H5
    iapply (wp_fill (defs := defs) 𝒱 c bd Es arg6 hz2) $$ H5
    iintro H5
    rw [wp_pure]
    imodintro
    iapply HQ
    iframe
  · rw [if_neg h1]
    iintro ⟨H0, H1, H2, H3, H4, H5⟩ HQ
    iapply (wp_whole (defs := defs) 𝒱 c bd Es arg2 hz2) $$ H1
    iintro H1
    iapply (wp_whole (defs := defs) 𝒱 c bd Es arg1 hz2) $$ H0
    iintro H0
    iapply (wp_whole (defs := defs) 𝒱 c bd Es arg3 hz2) $$ H2
    iintro H2
    iapply (wp_whole (defs := defs) 𝒱 c bd Es arg4 hz2) $$ H3
    iintro H3
    iapply (wp_whole (defs := defs) 𝒱 c bd Es arg5 hz2) $$ H4
    iintro H4
    iapply (wp_fill (defs := defs) 𝒱 c bd Es arg5 hz2) $$ H4
    iintro H4
    simp only [dif_neg h1, bind_assoc, pure_bind]
    iapply (wp_whole (defs := defs) 𝒱 c bd Es arg6 hz2) $$ H5
    iintro H5
    iapply (wp_whole (defs := defs) 𝒱 c bd Es arg6 hz2) $$ H5
    iintro H5
    iapply (wp_fill (defs := defs) 𝒱 c bd Es arg6 hz2) $$ H5
    iintro H5
    rw [wp_pure]
    imodintro
    iapply HQ
    iframe

end

end Cert.Proof.Ffn
-- ==== Proof.FfnRun.lean ====
module

public import proofs.«01_k».proof.Proof.Bodies
public import proofs.«01_k».proof.Proof.FfnStep
public import proofs.«01_k».proof.Proof.Gen.Kernel2Ideal.Launch
public import proofs.«01_k».proof.Proof.Gen.Kernel2Ideal.Points
public import Idealize.ShloMosaic.Lib.Pipeline.Value

@[expose] public section

set_option synthInstance.maxSize 4096
set_option maxRecDepth 65536

noncomputable section

/-! What each of the nine calls leaves in its arrays, at any contents it is entered with. -/

namespace Cert.Proof.Ffn

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Bodies (before_in body_of body_acc left_of)
open Cert.Proof.Steps (accOf_start accOf_next first_iff later_iff isFirst isLater)
open Idealize.ShloMosaic.Pipeline (Dat Cfg Window BodyObligation)

variable {F : FTy → Type} [FloatOps F]

/-- The pipelines' bookkeeping, and nothing else of note beside it. -/
abbrev UU : Type := UR sig nD τ × UR sig nD τ
local notation "𝕄" => MT nD τ sig Unit (Elt F) ℕ UU ℕ
abbrev EP : Emb (UR sig nD τ) (MT nD τ sig Unit (Elt F) ℕ UU ℕ) := embL
abbrev 𝒱₀ : Variants := Variants.none

/-- What every buffer of a core holds. -/
abbrev Val0 (F : FTy → Type) := (c : Dev nD) → (b : Ref sig .tc) → Buf (Elt F) ((c : Thread nD τ).loc b)

variable (V : Val0 F) (c : Dev nD)

/-! ### Call 0 -/

/-- The block of window `w`'s array at a point. -/
def blk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t : Vec F S832x1024 .f32) (blk0 V c 1 t : Vec F S1x1024 .f32)
  Φ _ := Pipeline.scopedRest (Ix := Unit) (Name := ℕ) (U := UU) (Lvl := ℕ) (Val := Elt F) spec0 c
  q _ := fullShare
  owed _ := 0

theorem before0_0 (t : Fin cfg0.N) (d) : (dat0 V c).before 0 t d = blk0 V c 0 t :=
  before_in (dat0 V c) 0 t d
theorem before0_1 (t : Fin cfg0.N) (d) : (dat0 V c).before 1 t d = blk0 V c 1 t :=
  before_in (dat0 V c) 1 t d

theorem body0 : BodyObligation (dat0 V c) (defs₀ (F := F)) 𝒱₀ () Set.univ :=
  body_of _ _ _ fun t x Q => by
  rw [bigSep_W0, bigSep_W0, before0_0, before0_1]
  exact wp_k0 (Q := fun _ => Q) 𝒱₀ c none _ (grid0.coords t) _ (hstage0_0 _) _ (hstage0_1 _) _ (hstage0_2 _) _ _ _

/-! ### Call 1 -/

/-- The block of window `w`'s array at a point. -/
def blk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => k1_pay3 (blk1 V c 0 t : Vec F S640x1024 .bf16) (blk1 V c 1 t : Vec F S1024x1408 .bf16)
    | ⟨5, _⟩ => k1_pay4 (blk1 V c 2 t : Vec F S640x1024 .bf16) (blk1 V c 3 t : Vec F S1024x1408 .bf16)
    | ⟨6, _⟩ => k1_pay5 (blk1 V c 0 t : Vec F S640x1024 .bf16) (blk1 V c 1 t : Vec F S1024x1408 .bf16) (blk1 V c 2 t : Vec F S640x1024 .bf16) (blk1 V c 3 t : Vec F S1024x1408 .bf16)
  Φ _ := Pipeline.scopedRest (Ix := Unit) (Name := ℕ) (U := UU) (Lvl := ℕ) (Val := Elt F) spec1 c
  q w := Pipeline.shareOf spec1 w
  owed _ := 0

theorem before1_0 (t : Fin cfg1.N) (d) : (dat1 V c).before 0 t d = blk1 V c 0 t :=
  before_in (dat1 V c) 0 t d
theorem before1_1 (t : Fin cfg1.N) (d) : (dat1 V c).before 1 t d = blk1 V c 1 t :=
  before_in (dat1 V c) 1 t d
theorem before1_2 (t : Fin cfg1.N) (d) : (dat1 V c).before 2 t d = blk1 V c 2 t :=
  before_in (dat1 V c) 2 t d
theorem before1_3 (t : Fin cfg1.N) (d) : (dat1 V c).before 3 t d = blk1 V c 3 t :=
  before_in (dat1 V c) 3 t d

theorem body1 : BodyObligation (dat1 V c) (defs₀ (F := F)) 𝒱₀ () Set.univ :=
  body_of _ _ _ fun t x Q => by
  rw [bigSep_W1, bigSep_W1, before1_0, before1_1, before1_2, before1_3]
  exact wp_k1 (Q := fun _ => Q) 𝒱₀ c none _ (grid1.coords t) _ (hstage1_0 _) _ (hstage1_1 _) _ (hstage1_2 _) _ (hstage1_3 _) _ (hstage1_4 _) _ (hstage1_5 _) _ (hstage1_6 _) _ _ _ _ _ _ _

/-! ### Call 2 -/

/-- The block of window `w`'s array at a point. -/
def blk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 : Dat τ (Elt F) Unit ℕ UU ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => k2_pay1 (blk2 V c 0 t : Vec F S640x2816 .bf16) (blk2 V c 1 t : Vec F S2816x1024 .bf16) (blk2 V c 2 t : Vec F S640x1024 .f32)
  Φ _ := Pipeline.scopedRest (Ix := Unit) (Name := ℕ) (U := UU) (Lvl := ℕ) (Val := Elt F) spec2 c
  q _ := fullShare
  owed _ := 0

theorem before2_0 (t : Fin cfg2.N) (d) : (dat2 V c).before 0 t d = blk2 V c 0 t :=
  before_in (dat2 V c) 0 t d
theorem before2_1 (t : Fin cfg2.N) (d) : (dat2 V c).before 1 t d = blk2 V c 1 t :=
  before_in (dat2 V c) 1 t d
theorem before2_2 (t : Fin cfg2.N) (d) : (dat2 V c).before 2 t d = blk2 V c 2 t :=
  before_in (dat2 V c) 2 t d

theorem body2 : BodyObligation (dat2 V c) (defs₀ (F := F)) 𝒱₀ () Set.univ :=
  body_of _ _ _ fun t x Q => by
  rw [bigSep_W2, bigSep_W2, before2_0, before2_1, before2_2]
  exact wp_k2 (Q := fun _ => Q) 𝒱₀ c none _ (grid2.coords t) _ (hstage2_0 _) _ (hstage2_1 _) _ (hstage2_2 _) _ (hstage2_3 _) _ _ _ _

/-! ### Call 3 -/

/-- The block of window `w`'s array at a point. -/
def blk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ UU ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => k3_pay4 (blk3 V c 0 t : Vec F S640x1024 .f32) (blk3 V c 1 t : Vec F S1408x1024 .bf16) (blk3 V c 2 t : Vec F S640x1408 .bf16) (blk3 V c 3 t : Vec F S640x1408 .bf16)
    | ⟨5, _⟩ => k3_pay5 (blk3 V c 0 t : Vec F S640x1024 .f32) (blk3 V c 1 t : Vec F S1408x1024 .bf16) (blk3 V c 2 t : Vec F S640x1408 .bf16)
  Φ _ := Pipeline.scopedRest (Ix := Unit) (Name := ℕ) (U := UU) (Lvl := ℕ) (Val := Elt F) spec3 c
  q _ := fullShare
  owed _ := 0

theorem before3_0 (t : Fin cfg3.N) (d) : (dat3 V c).before 0 t d = blk3 V c 0 t :=
  before_in (dat3 V c) 0 t d
theorem before3_1 (t : Fin cfg3.N) (d) : (dat3 V c).before 1 t d = blk3 V c 1 t :=
  before_in (dat3 V c) 1 t d
theorem before3_2 (t : Fin cfg3.N) (d) : (dat3 V c).before 2 t d = blk3 V c 2 t :=
  before_in (dat3 V c) 2 t d
theorem before3_3 (t : Fin cfg3.N) (d) : (dat3 V c).before 3 t d = blk3 V c 3 t :=
  before_in (dat3 V c) 3 t d

theorem body3 : BodyObligation (dat3 V c) (defs₀ (F := F)) 𝒱₀ () Set.univ :=
  body_of _ _ _ fun t x Q => by
  rw [bigSep_W3, bigSep_W3, before3_0, before3_1, before3_2, before3_3]
  exact wp_k3 (Q := fun _ => Q) 𝒱₀ c none _ (grid3.coords t) _ (hstage3_0 _) _ (hstage3_1 _) _ (hstage3_2 _) _ (hstage3_3 _) _ (hstage3_4 _) _ (hstage3_5 _) _ _ _ _ _ _

/-! ### Call 4 -/

/-- The block of window `w`'s array at a point. -/
def blk4 (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds before a point that is not the first of its contraction. -/
def scr4 : ℕ → Vec F S1408x1024 .f32
  | 0 => fun _ => Scalar.ofBits .f32 0x00000000#32
  | n + 1 => if h : n < cfg4.N then acc4 (grid4.coords ⟨n, h⟩) (blk4 V c 0 ⟨n, h⟩ : Vec F S640x1408 .bf16) (blk4 V c 1 ⟨n, h⟩ : Vec F S640x1024 .f32) (scr4 n) else scr4 n

theorem scr4_succ (t : Fin cfg4.N) :
    scr4 V c (t.val + 1) = acc4 (grid4.coords t) (blk4 V c 0 t : Vec F S640x1408 .bf16) (blk4 V c 1 t : Vec F S640x1024 .f32) (scr4 V c t.val) := by
  rw [scr4, dif_pos t.isLt]

/-- The accumulator before a point, beside the other scoped buffers. -/
def Phi4 (n : ℕ) : sProp 𝕄 :=
  iprop((∃ d : Vec F S1408x1024 .f32, ⌜n % 13 ≠ 0 → d = scr4 V c n⌝ ∗ owns (c : Thread nD τ) (Memref.whole cc4_scratch0) fullShare d) ∗ Pipeline.scopedRestBut (Ix := Unit) (Name := ℕ) (U := UU) (Lvl := ℕ) (Val := Elt F) spec4 c [cc4_scratch0])

def dat4 : Dat τ (Elt F) Unit ℕ UU ℕ cfg4 c where
  A w := V c (Pipeline.arrRef spec4 w)
  after w t := match w with
    | ⟨0, _⟩ => blk4 V c 0 t
    | ⟨1, _⟩ => blk4 V c 1 t
    | ⟨2, _⟩ => k4_pay4 (scr4 V c (t.val + 1))
  Φ t := Phi4 V c t.val
  q _ := fullShare
  owed _ := 0

theorem before4_0 (t : Fin cfg4.N) (d) : (dat4 V c).before 0 t d = blk4 V c 0 t :=
  before_in (dat4 V c) 0 t d
theorem before4_1 (t : Fin cfg4.N) (d) : (dat4 V c).before 1 t d = blk4 V c 1 t :=
  before_in (dat4 V c) 1 t d

theorem coord4 (t : Fin cfg4.N) : (grid4.coords t 2).val = t.val % 13 := by
  rw [Pipeline.Grid.coords_val t 2 (S := 1) (B := 13) (by decide) rfl, Nat.div_one]

theorem last4 : ∀ t : Fin grid4.N, k4_cond3 (grid4.coords t) = 1#1 ↔ t.val % 13 = 12 := by decide +kernel

/-- The first step along a contraction replaces what the accumulator held. -/
theorem acc4_start (t : Fin cfg4.N) (h : t.val % 13 = 0) (x : Vec F S640x1408 .bf16) (y : Vec F S640x1024 .f32) (s : Vec F S1408x1024 .f32) :
    acc4 (grid4.coords t) x y s = k4_pay2 x y :=
  accOf_start ((coord4 t).trans h) _ _ _

/-- A later one adds to it. -/
theorem acc4_next (t : Fin cfg4.N) (h : t.val % 13 ≠ 0) (x : Vec F S640x1408 .bf16) (y : Vec F S640x1024 .f32) (s : Vec F S1408x1024 .f32) :
    acc4 (grid4.coords t) x y s = k4_pay3 x y s :=
  accOf_next (by rw [coord4]; omega) (by rw [coord4]; exact h) _ _ _

theorem point4 (t : Fin cfg4.N) (s : Vec F S1408x1024 .f32) (hs : t.val % 13 ≠ 0 → s = scr4 V c t.val) :
    acc4 (grid4.coords t) (blk4 V c 0 t : Vec F S640x1408 .bf16) (blk4 V c 1 t : Vec F S640x1024 .f32) s = scr4 V c (t.val + 1) := by
  rw [scr4_succ]
  by_cases h : t.val % 13 = 0
  · rw [acc4_start t h, acc4_start t h]
  · rw [hs h]

theorem left4 (t : Fin cfg4.N) (s : Vec F S1408x1024 .f32) (hs : t.val % 13 ≠ 0 → s = scr4 V c t.val) (d) :
    owns (c : Thread nD τ) (win4_2.stage (cfg4.slots t 2)) fullShare (res4 (grid4.coords t) (blk4 V c 0 t : Vec F S640x1408 .bf16) (blk4 V c 1 t : Vec F S640x1024 .f32) s ((dat4 V c).before 2 t d : Vec F S1408x1024 .f32))
      ⊢ ((dat4 V c).leavesExact 2 t : sProp 𝕄) :=
  left_of (dat4 V c) 2 t (k4_cond3 (grid4.coords t)) rfl (fun e => (last4 t).mpr ((flush4_2 t).mp e)) (congrArg k4_pay4 (point4 V c t s hs)) d

theorem body4 : BodyObligation (dat4 V c) (defs₀ (F := F)) 𝒱₀ () Set.univ :=
  body_acc _ _ _ (Memref.whole cc4_scratch0) (fun n a => n % 13 ≠ 0 → a = scr4 V c n) _ (fun _ => rfl) 0 1 2 bigSep_W4 fun t x0 x1 x2 a ha => by
    rw [before4_0, before4_1]
    exact ⟨_, _, _, _, fun Q => wp_k4 (Q := fun _ => Q) 𝒱₀ c none _ (grid4.coords t) _ (hstage4_0 _) _ (hstage4_1 _) _ (hstage4_2 _) _ (Memref.isWhole_whole _) _ _ _ _,
      fun _ => point4 V c t a ha, .rfl, .rfl, left4 V c t a ha x2⟩

/-! ### Call 5 -/

/-- The block of window `w`'s array at a point. -/
def blk5 (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds before a point that is not the first of its contraction. -/
def scr5 : ℕ → Vec F S1024x1408 .f32
  | 0 => fun _ => Scalar.ofBits .f32 0x00000000#32
  | n + 1 => if h : n < cfg5.N then acc5 (grid5.coords ⟨n, h⟩) (blk5 V c 0 ⟨n, h⟩ : Vec F S640x1024 .bf16) (blk5 V c 1 ⟨n, h⟩ : Vec F S640x1408 .bf16) (scr5 n) else scr5 n

theorem scr5_succ (t : Fin cfg5.N) :
    scr5 V c (t.val + 1) = acc5 (grid5.coords t) (blk5 V c 0 t : Vec F S640x1024 .bf16) (blk5 V c 1 t : Vec F S640x1408 .bf16) (scr5 V c t.val) := by
  rw [scr5, dif_pos t.isLt]

/-- The accumulator before a point, beside the other scoped buffers. -/
def Phi5 (n : ℕ) : sProp 𝕄 :=
  iprop((∃ d : Vec F S1024x1408 .f32, ⌜n % 13 ≠ 0 → d = scr5 V c n⌝ ∗ owns (c : Thread nD τ) (Memref.whole cc5_scratch0) fullShare d) ∗ Pipeline.scopedRestBut (Ix := Unit) (Name := ℕ) (U := UU) (Lvl := ℕ) (Val := Elt F) spec5 c [cc5_scratch0])

def dat5 : Dat τ (Elt F) Unit ℕ UU ℕ cfg5 c where
  A w := V c (Pipeline.arrRef spec5 w)
  after w t := match w with
    | ⟨0, _⟩ => blk5 V c 0 t
    | ⟨1, _⟩ => blk5 V c 1 t
    | ⟨2, _⟩ => scr5 V c (t.val + 1)
  Φ t := Phi5 V c t.val
  q _ := fullShare
  owed _ := 0

theorem before5_0 (t : Fin cfg5.N) (d) : (dat5 V c).before 0 t d = blk5 V c 0 t :=
  before_in (dat5 V c) 0 t d
theorem before5_1 (t : Fin cfg5.N) (d) : (dat5 V c).before 1 t d = blk5 V c 1 t :=
  before_in (dat5 V c) 1 t d

theorem coord5 (t : Fin cfg5.N) : (grid5.coords t 2).val = t.val % 13 := by
  rw [Pipeline.Grid.coords_val t 2 (S := 1) (B := 13) (by decide) rfl, Nat.div_one]

theorem last5 : ∀ t : Fin grid5.N, k5_cond3 (grid5.coords t) = 1#1 ↔ t.val % 13 = 12 := by decide +kernel

/-- The first step along a contraction replaces what the accumulator held. -/
theorem acc5_start (t : Fin cfg5.N) (h : t.val % 13 = 0) (x : Vec F S640x1024 .bf16) (y : Vec F S640x1408 .bf16) (s : Vec F S1024x1408 .f32) :
    acc5 (grid5.coords t) x y s = k5_pay2 x y :=
  accOf_start ((coord5 t).trans h) _ _ _

/-- A later one adds to it. -/
theorem acc5_next (t : Fin cfg5.N) (h : t.val % 13 ≠ 0) (x : Vec F S640x1024 .bf16) (y : Vec F S640x1408 .bf16) (s : Vec F S1024x1408 .f32) :
    acc5 (grid5.coords t) x y s = k5_pay3 x y s :=
  accOf_next (by rw [coord5]; omega) (by rw [coord5]; exact h) _ _ _

theorem point5 (t : Fin cfg5.N) (s : Vec F S1024x1408 .f32) (hs : t.val % 13 ≠ 0 → s = scr5 V c t.val) :
    acc5 (grid5.coords t) (blk5 V c 0 t : Vec F S640x1024 .bf16) (blk5 V c 1 t : Vec F S640x1408 .bf16) s = scr5 V c (t.val + 1) := by
  rw [scr5_succ]
  by_cases h : t.val % 13 = 0
  · rw [acc5_start t h, acc5_start t h]
  · rw [hs h]

theorem left5 (t : Fin cfg5.N) (s : Vec F S1024x1408 .f32) (hs : t.val % 13 ≠ 0 → s = scr5 V c t.val) (d) :
    owns (c : Thread nD τ) (win5_2.stage (cfg5.slots t 2)) fullShare (res5 (grid5.coords t) (blk5 V c 0 t : Vec F S640x1024 .bf16) (blk5 V c 1 t : Vec F S640x1408 .bf16) s ((dat5 V c).before 2 t d : Vec F S1024x1408 .f32))
      ⊢ ((dat5 V c).leavesExact 2 t : sProp 𝕄) :=
  left_of (dat5 V c) 2 t (k5_cond3 (grid5.coords t)) rfl (fun e => (last5 t).mpr ((flush5_2 t).mp e)) (point5 V c t s hs) d

theorem body5 : BodyObligation (dat5 V c) (defs₀ (F := F)) 𝒱₀ () Set.univ :=
  body_acc _ _ _ (Memref.whole cc5_scratch0) (fun n a => n % 13 ≠ 0 → a = scr5 V c n) _ (fun _ => rfl) 0 1 2 bigSep_W5 fun t x0 x1 x2 a ha => by
    rw [before5_0, before5_1]
    exact ⟨_, _, _, _, fun Q => wp_k5 (Q := fun _ => Q) 𝒱₀ c none _ (grid5.coords t) _ (hstage5_0 _) _ (hstage5_1 _) _ (hstage5_2 _) _ (Memref.isWhole_whole _) _ _ _ _,
      fun _ => point5 V c t a ha, .rfl, .rfl, left5 V c t a ha x2⟩

/-! ### Call 6 -/

/-- The block of window `w`'s array at a point. -/
def blk6 (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the accumulator holds before a point that is not the first of its contraction. -/
def scr6 : ℕ → Vec F S1024x1408 .f32
  | 0 => fun _ => Scalar.ofBits .f32 0x00000000#32
  | n + 1 => if h : n < cfg6.N then acc6 (grid6.coords ⟨n, h⟩) (blk6 V c 0 ⟨n, h⟩ : Vec F S640x1024 .bf16) (blk6 V c 1 ⟨n, h⟩ : Vec F S640x1408 .bf16) (scr6 n) else scr6 n

theorem scr6_succ (t : Fin cfg6.N) :
    scr6 V c (t.val + 1) = acc6 (grid6.coords t) (blk6 V c 0 t : Vec F S640x1024 .bf16) (blk6 V c 1 t : Vec F S640x1408 .bf16) (scr6 V c t.val) := by
  rw [scr6, dif_pos t.isLt]

/-- The accumulator before a point, beside the other scoped buffers. -/
def Phi6 (n : ℕ) : sProp 𝕄 :=
  iprop((∃ d : Vec F S1024x1408 .f32, ⌜n % 13 ≠ 0 → d = scr6 V c n⌝ ∗ owns (c : Thread nD τ) (Memref.whole cc6_scratch0) fullShare d) ∗ Pipeline.scopedRestBut (Ix := Unit) (Name := ℕ) (U := UU) (Lvl := ℕ) (Val := Elt F) spec6 c [cc6_scratch0])

def dat6 : Dat τ (Elt F) Unit ℕ UU ℕ cfg6 c where
  A w := V c (Pipeline.arrRef spec6 w)
  after w t := match w with
    | ⟨0, _⟩ => blk6 V c 0 t
    | ⟨1, _⟩ => blk6 V c 1 t
    | ⟨2, _⟩ => scr6 V c (t.val + 1)
  Φ t := Phi6 V c t.val
  q _ := fullShare
  owed _ := 0

theorem before6_0 (t : Fin cfg6.N) (d) : (dat6 V c).before 0 t d = blk6 V c 0 t :=
  before_in (dat6 V c) 0 t d
theorem before6_1 (t : Fin cfg6.N) (d) : (dat6 V c).before 1 t d = blk6 V c 1 t :=
  before_in (dat6 V c) 1 t d

theorem coord6 (t : Fin cfg6.N) : (grid6.coords t 2).val = t.val % 13 := by
  rw [Pipeline.Grid.coords_val t 2 (S := 1) (B := 13) (by decide) rfl, Nat.div_one]

theorem last6 : ∀ t : Fin grid6.N, k6_cond3 (grid6.coords t) = 1#1 ↔ t.val % 13 = 12 := by decide +kernel

/-- The first step along a contraction replaces what the accumulator held. -/
theorem acc6_start (t : Fin cfg6.N) (h : t.val % 13 = 0) (x : Vec F S640x1024 .bf16) (y : Vec F S640x1408 .bf16) (s : Vec F S1024x1408 .f32) :
    acc6 (grid6.coords t) x y s = k6_pay2 x y :=
  accOf_start ((coord6 t).trans h) _ _ _

/-- A later one adds to it. -/
theorem acc6_next (t : Fin cfg6.N) (h : t.val % 13 ≠ 0) (x : Vec F S640x1024 .bf16) (y : Vec F S640x1408 .bf16) (s : Vec F S1024x1408 .f32) :
    acc6 (grid6.coords t) x y s = k6_pay3 x y s :=
  accOf_next (by rw [coord6]; omega) (by rw [coord6]; exact h) _ _ _

theorem point6 (t : Fin cfg6.N) (s : Vec F S1024x1408 .f32) (hs : t.val % 13 ≠ 0 → s = scr6 V c t.val) :
    acc6 (grid6.coords t) (blk6 V c 0 t : Vec F S640x1024 .bf16) (blk6 V c 1 t : Vec F S640x1408 .bf16) s = scr6 V c (t.val + 1) := by
  rw [scr6_succ]
  by_cases h : t.val % 13 = 0
  · rw [acc6_start t h, acc6_start t h]
  · rw [hs h]

theorem left6 (t : Fin cfg6.N) (s : Vec F S1024x1408 .f32) (hs : t.val % 13 ≠ 0 → s = scr6 V c t.val) (d) :
    owns (c : Thread nD τ) (win6_2.stage (cfg6.slots t 2)) fullShare (res6 (grid6.coords t) (blk6 V c 0 t : Vec F S640x1024 .bf16) (blk6 V c 1 t : Vec F S640x1408 .bf16) s ((dat6 V c).before 2 t d : Vec F S1024x1408 .f32))
      ⊢ ((dat6 V c).leavesExact 2 t : sProp 𝕄) :=
  left_of (dat6 V c) 2 t (k6_cond3 (grid6.coords t)) rfl (fun e => (last6 t).mpr ((flush6_2 t).mp e)) (point6 V c t s hs) d

theorem body6 : BodyObligation (dat6 V c) (defs₀ (F := F)) 𝒱₀ () Set.univ :=
  body_acc _ _ _ (Memref.whole cc6_scratch0) (fun n a => n % 13 ≠ 0 → a = scr6 V c n) _ (fun _ => rfl) 0 1 2 bigSep_W6 fun t x0 x1 x2 a ha => by
    rw [before6_0, before6_1]
    exact ⟨_, _, _, _, fun Q => wp_k6 (Q := fun _ => Q) 𝒱₀ c none _ (grid6.coords t) _ (hstage6_0 _) _ (hstage6_1 _) _ (hstage6_2 _) _ (Memref.isWhole_whole _) _ _ _ _,
      fun _ => point6 V c t a ha, .rfl, .rfl, left6 V c t a ha x2⟩

/-! ### Call 7 -/

/-- The block of window `w`'s array at a point. -/
def blk7 (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 : Dat τ (Elt F) Unit ℕ UU ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => k7_pay1 (blk7 V c 0 t : Vec F S640x2816 .bf16) (blk7 V c 1 t : Vec F S512x2816 .bf16) (blk7 V c 2 t : Vec F S640x2816 .bf16) (blk7 V c 3 t : Vec F S512x2816 .bf16)
  Φ _ := Pipeline.scopedRest (Ix := Unit) (Name := ℕ) (U := UU) (Lvl := ℕ) (Val := Elt F) spec7 c
  q _ := fullShare
  owed _ := 0

theorem before7_0 (t : Fin cfg7.N) (d) : (dat7 V c).before 0 t d = blk7 V c 0 t :=
  before_in (dat7 V c) 0 t d
theorem before7_1 (t : Fin cfg7.N) (d) : (dat7 V c).before 1 t d = blk7 V c 1 t :=
  before_in (dat7 V c) 1 t d
theorem before7_2 (t : Fin cfg7.N) (d) : (dat7 V c).before 2 t d = blk7 V c 2 t :=
  before_in (dat7 V c) 2 t d
theorem before7_3 (t : Fin cfg7.N) (d) : (dat7 V c).before 3 t d = blk7 V c 3 t :=
  before_in (dat7 V c) 3 t d

theorem body7 : BodyObligation (dat7 V c) (defs₀ (F := F)) 𝒱₀ () Set.univ :=
  body_of _ _ _ fun t x Q => by
  rw [bigSep_W7, bigSep_W7, before7_0, before7_1, before7_2, before7_3]
  exact wp_k7 (Q := fun _ => Q) 𝒱₀ c none _ (grid7.coords t) _ (hstage7_0 _) _ (hstage7_1 _) _ (hstage7_2 _) _ (hstage7_3 _) _ (hstage7_4 _) _ _ _ _ _

/-! ### Call 8 -/

/-- The block of window `w`'s array at a point. -/
def blk8 (w : Fin cfg8.W) (t : Fin cfg8.N) : ((cfg8.win w).xblock (cfg8.grid.coords t)).Idx → Elt F (cfg8.win w).elt :=
  ((cfg8.win w).blk t).view.read (Elt F) (V c (Pipeline.arrRef spec8 w))

/-- What the row of sums holds before a point. -/
def row8 : ℕ → Vec F S1x1024 .f32
  | 0 => fun _ => Scalar.ofBits .f32 0x00000000#32
  | n + 1 => if h : n < cfg8.N then acc8 (grid8.coords ⟨n, h⟩) (blk8 V c 0 ⟨n, h⟩ : Vec F S416x1024 .f32) (blk8 V c 1 ⟨n, h⟩ : Vec F S416x1024 .f32) (row8 n) else row8 n

theorem row8_succ (t : Fin cfg8.N) :
    row8 V c (t.val + 1) = acc8 (grid8.coords t) (blk8 V c 0 t : Vec F S416x1024 .f32) (blk8 V c 1 t : Vec F S416x1024 .f32) (row8 V c t.val) := by
  rw [row8, dif_pos t.isLt]

def dat8 : Dat τ (Elt F) Unit ℕ UU ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => blk8 V c 3 t
    | ⟨4, _⟩ => k8_pay5 (blk8 V c 1 t : Vec F S416x1024 .f32) (blk8 V c 0 t : Vec F S416x1024 .f32) (blk8 V c 2 t : Vec F S1x1024 .f32) (blk8 V c 3 t : Vec F S416x1024 .f32)
    | ⟨5, _⟩ => row8 V c (t.val + 1)
  Φ _ := Pipeline.scopedRest (Ix := Unit) (Name := ℕ) (U := UU) (Lvl := ℕ) (Val := Elt F) spec8 c
  q _ := fullShare
  owed _ := 0

theorem before8_0 (t : Fin cfg8.N) (d) : (dat8 V c).before 0 t d = blk8 V c 0 t :=
  before_in (dat8 V c) 0 t d
theorem before8_1 (t : Fin cfg8.N) (d) : (dat8 V c).before 1 t d = blk8 V c 1 t :=
  before_in (dat8 V c) 1 t d
theorem before8_2 (t : Fin cfg8.N) (d) : (dat8 V c).before 2 t d = blk8 V c 2 t :=
  before_in (dat8 V c) 2 t d
theorem before8_3 (t : Fin cfg8.N) (d) : (dat8 V c).before 3 t d = blk8 V c 3 t :=
  before_in (dat8 V c) 3 t d

theorem point8 (t : Fin cfg8.N) (x h : Vec F S416x1024 .f32) (d) :
    acc8 (grid8.coords t) x h ((dat8 V c).before 5 t d : Vec F S1x1024 .f32) = acc8 (grid8.coords t) x h (row8 V c t.val) := by
  have ec : (grid8.coords t 0).val = t.val % 20 := by
    rw [Pipeline.Grid.coords_val t 0 (S := 1) (B := 20) (by decide) rfl, Nat.div_one]
  have hN : t.val < 20 := lt_of_lt_of_eq t.isLt (show cfg8.N = 20 from N_8)
  unfold acc8
  by_cases h0 : t.val = 0
  · have e : isFirst (grid8.coords t 0).val := (first_iff ⟨(grid8.coords t 0).val, by rw [ec]; exact Nat.mod_lt _ (by decide)⟩).mpr (by show (grid8.coords t 0).val = 0; rw [ec, h0])
    rw [if_pos e, if_pos e]
  · rw [(dat8 V c).before_out_kept 5 rfl t h0 (by
      rw [← Bool.not_eq_true]; intro e; have := (flush8_5 _).mp e; dsimp only at this; omega) (fun _ => rfl) (fun _ _ => rfl) d]
    show k8_pay1 (k8_pay7 (if _ then k8_pay6 else row8 V c (t.val - 1 + 1))) _ = _
    rw [Nat.sub_add_cancel (Nat.one_le_iff_ne_zero.mpr h0)]

theorem body8 : BodyObligation (dat8 V c) (defs₀ (F := F)) 𝒱₀ () Set.univ :=
  body_of _ _ _ fun t x Q => by
  rw [bigSep_W8, bigSep_W8, before8_0, before8_1, before8_2, before8_3]
  have e : acc8 (grid8.coords t) (blk8 V c 0 t : Vec F S416x1024 .f32) (blk8 V c 1 t : Vec F S416x1024 .f32) ((dat8 V c).before 5 t (x 5) : Vec F S1x1024 .f32) = row8 V c (t.val + 1) :=
    (point8 V c t _ _ (x 5)).trans (row8_succ V c t).symm
  refine (wp_k8 (defs := defs₀) (Q := fun _ => Q) 𝒱₀ c none Set.univ (grid8.coords t) _ (hstage8_0 _) _ (hstage8_1 _) _ (hstage8_2 _) _ (hstage8_3 _) _ (hstage8_4 _) _ (hstage8_5 _) (blk8 V c 0 t) (blk8 V c 1 t) (blk8 V c 2 t) (blk8 V c 3 t) ((dat8 V c).before 4 t (x 4)) ((dat8 V c).before 5 t (x 5))).trans ?_
  rw [e]
  exact .rfl

end Cert.Proof.Ffn
-- ==== Proof.FfnLaunch.lean ====
module

public import proofs.«01_k».proof.Proof.FfnRun
public import proofs.«01_k».proof.Proof.Gen.Kernel2Ideal.Regions
public import proofs.«01_k».proof.Proof.Segs

@[expose] public section

set_option synthInstance.maxSize 4096
set_option maxRecDepth 65536

noncomputable section

/-! The launch: the nine calls as the program's nine segments, and what the program ends with. -/

namespace Cert.Proof.Ffn

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The operands. -/
abbrev args : List (Ref sig .tc) := [main_arg0, main_arg1, main_arg2, main_arg3, main_arg4, main_arg5]
/-- The contents at launch. -/
abbrev U0 (c : Dev nD) : Valuation τ sig (Elt F) := V0 m c
abbrev W0 : Val0 F := fun c b => U0 m c b

/-! ### After call 0 -/

def o_v0 : Buf (Elt F) ((c : Thread nD τ).loc main_v0) := (dat0 (W0 m) c).arrAt 2 cfg0.N
def U1 : Valuation τ sig (Elt F) := (Function.update (U0 m c) main_v0 (o_v0 m c))
abbrev W1 : Val0 F := fun c b => U1 m c b

theorem U1_of (r : Ref sig .tc) (h0 : r ≠ main_v0) : U1 m c r = U0 m c r := Segs.upd_of _ _ h0
theorem U1_arg (r : Ref sig .tc) (h : r ∈ args) : U1 m c r = m ((c : Thread nD τ).loc r) :=
  (U1_of m c r (ne_of_mem_of_not_mem h (by decide)))
theorem U1_v0 : U1 m c main_v0 = o_v0 m c := Function.update_self _ _ _

/-! ### After call 1 -/

def o_v1_0 : Buf (Elt F) ((c : Thread nD τ).loc main_v1_0) := (dat1 (W1 m) c).arrAt 4 cfg1.N
def o_v1_1 : Buf (Elt F) ((c : Thread nD τ).loc main_v1_1) := (dat1 (W1 m) c).arrAt 5 cfg1.N
def o_v1_2 : Buf (Elt F) ((c : Thread nD τ).loc main_v1_2) := (dat1 (W1 m) c).arrAt 6 cfg1.N
def U2 : Valuation τ sig (Elt F) := (Function.update (Function.update (Function.update (U1 m c) main_v1_0 (o_v1_0 m c)) main_v1_1 (o_v1_1 m c)) main_v1_2 (o_v1_2 m c))
abbrev W2 : Val0 F := fun c b => U2 m c b

theorem U2_of (r : Ref sig .tc) (h0 : r ≠ main_v1_0) (h1 : r ≠ main_v1_1) (h2 : r ≠ main_v1_2) : U2 m c r = U1 m c r := ((Segs.upd_of _ _ h2).trans (Segs.upd_of _ _ h1)).trans (Segs.upd_of _ _ h0)
theorem U2_arg (r : Ref sig .tc) (h : r ∈ args) : U2 m c r = m ((c : Thread nD τ).loc r) :=
  (U2_of m c r (ne_of_mem_of_not_mem h (by decide)) (ne_of_mem_of_not_mem h (by decide)) (ne_of_mem_of_not_mem h (by decide))).trans (U1_arg m c r h)
theorem U2_v1_0 : U2 m c main_v1_0 = o_v1_0 m c := (Segs.upd_of _ _ (by decide)).trans ((Segs.upd_of _ _ (by decide)).trans (Function.update_self _ _ _))
theorem U2_v1_1 : U2 m c main_v1_1 = o_v1_1 m c := (Segs.upd_of _ _ (by decide)).trans (Function.update_self _ _ _)
theorem U2_v1_2 : U2 m c main_v1_2 = o_v1_2 m c := Function.update_self _ _ _

/-! ### After call 2 -/

def o_v2 : Buf (Elt F) ((c : Thread nD τ).loc main_v2) := (dat2 (W2 m) c).arrAt 3 cfg2.N
def U3 : Valuation τ sig (Elt F) := (Function.update (U2 m c) main_v2 (o_v2 m c))
abbrev W3 : Val0 F := fun c b => U3 m c b

theorem U3_of (r : Ref sig .tc) (h0 : r ≠ main_v2) : U3 m c r = U2 m c r := Segs.upd_of _ _ h0
theorem U3_arg (r : Ref sig .tc) (h : r ∈ args) : U3 m c r = m ((c : Thread nD τ).loc r) :=
  (U3_of m c r (ne_of_mem_of_not_mem h (by decide))).trans (U2_arg m c r h)
theorem U3_v2 : U3 m c main_v2 = o_v2 m c := Function.update_self _ _ _

/-! ### After call 3 -/

def o_v3_0 : Buf (Elt F) ((c : Thread nD τ).loc main_v3_0) := (dat3 (W3 m) c).arrAt 4 cfg3.N
def o_v3_1 : Buf (Elt F) ((c : Thread nD τ).loc main_v3_1) := (dat3 (W3 m) c).arrAt 5 cfg3.N
def U4 : Valuation τ sig (Elt F) := (Function.update (Function.update (U3 m c) main_v3_0 (o_v3_0 m c)) main_v3_1 (o_v3_1 m c))
abbrev W4 : Val0 F := fun c b => U4 m c b

theorem U4_of (r : Ref sig .tc) (h0 : r ≠ main_v3_0) (h1 : r ≠ main_v3_1) : U4 m c r = U3 m c r := (Segs.upd_of _ _ h1).trans (Segs.upd_of _ _ h0)
theorem U4_arg (r : Ref sig .tc) (h : r ∈ args) : U4 m c r = m ((c : Thread nD τ).loc r) :=
  (U4_of m c r (ne_of_mem_of_not_mem h (by decide)) (ne_of_mem_of_not_mem h (by decide))).trans (U3_arg m c r h)
theorem U4_v3_0 : U4 m c main_v3_0 = o_v3_0 m c := (Segs.upd_of _ _ (by decide)).trans (Function.update_self _ _ _)
theorem U4_v3_1 : U4 m c main_v3_1 = o_v3_1 m c := Function.update_self _ _ _

/-! ### After call 4 -/

def o_v4 : Buf (Elt F) ((c : Thread nD τ).loc main_v4) := (dat4 (W4 m) c).arrAt 2 cfg4.N
def U5 : Valuation τ sig (Elt F) := (Function.update (U4 m c) main_v4 (o_v4 m c))
abbrev W5 : Val0 F := fun c b => U5 m c b

theorem U5_of (r : Ref sig .tc) (h0 : r ≠ main_v4) : U5 m c r = U4 m c r := Segs.upd_of _ _ h0
theorem U5_arg (r : Ref sig .tc) (h : r ∈ args) : U5 m c r = m ((c : Thread nD τ).loc r) :=
  (U5_of m c r (ne_of_mem_of_not_mem h (by decide))).trans (U4_arg m c r h)
theorem U5_v4 : U5 m c main_v4 = o_v4 m c := Function.update_self _ _ _

/-! ### After call 5 -/

def o_v5 : Buf (Elt F) ((c : Thread nD τ).loc main_v5) := (dat5 (W5 m) c).arrAt 2 cfg5.N
def U6 : Valuation τ sig (Elt F) := (Function.update (U5 m c) main_v5 (o_v5 m c))
abbrev W6 : Val0 F := fun c b => U6 m c b

theorem U6_of (r : Ref sig .tc) (h0 : r ≠ main_v5) : U6 m c r = U5 m c r := Segs.upd_of _ _ h0
theorem U6_arg (r : Ref sig .tc) (h : r ∈ args) : U6 m c r = m ((c : Thread nD τ).loc r) :=
  (U6_of m c r (ne_of_mem_of_not_mem h (by decide))).trans (U5_arg m c r h)
theorem U6_v5 : U6 m c main_v5 = o_v5 m c := Function.update_self _ _ _

/-! ### After call 6 -/

def o_v6 : Buf (Elt F) ((c : Thread nD τ).loc main_v6) := (dat6 (W6 m) c).arrAt 2 cfg6.N
def U7 : Valuation τ sig (Elt F) := (Function.update (U6 m c) main_v6 (o_v6 m c))
abbrev W7 : Val0 F := fun c b => U7 m c b

theorem U7_of (r : Ref sig .tc) (h0 : r ≠ main_v6) : U7 m c r = U6 m c r := Segs.upd_of _ _ h0
theorem U7_arg (r : Ref sig .tc) (h : r ∈ args) : U7 m c r = m ((c : Thread nD τ).loc r) :=
  (U7_of m c r (ne_of_mem_of_not_mem h (by decide))).trans (U6_arg m c r h)
theorem U7_v6 : U7 m c main_v6 = o_v6 m c := Function.update_self _ _ _

/-! ### After call 7 -/

def o_v7 : Buf (Elt F) ((c : Thread nD τ).loc main_v7) := (dat7 (W7 m) c).arrAt 4 cfg7.N
def U8 : Valuation τ sig (Elt F) := (Function.update (U7 m c) main_v7 (o_v7 m c))
abbrev W8 : Val0 F := fun c b => U8 m c b

theorem U8_of (r : Ref sig .tc) (h0 : r ≠ main_v7) : U8 m c r = U7 m c r := Segs.upd_of _ _ h0
theorem U8_arg (r : Ref sig .tc) (h : r ∈ args) : U8 m c r = m ((c : Thread nD τ).loc r) :=
  (U8_of m c r (ne_of_mem_of_not_mem h (by decide))).trans (U7_arg m c r h)
theorem U8_v7 : U8 m c main_v7 = o_v7 m c := Function.update_self _ _ _

/-! ### After call 8 -/

def o_v8_0 : Buf (Elt F) ((c : Thread nD τ).loc main_v8_0) := (dat8 (W8 m) c).arrAt 4 cfg8.N
def o_v8_1 : Buf (Elt F) ((c : Thread nD τ).loc main_v8_1) := (dat8 (W8 m) c).arrAt 5 cfg8.N
def U9 : Valuation τ sig (Elt F) := (Function.update (Function.update (U8 m c) main_v8_0 (o_v8_0 m c)) main_v8_1 (o_v8_1 m c))
abbrev W9 : Val0 F := fun c b => U9 m c b

theorem U9_of (r : Ref sig .tc) (h0 : r ≠ main_v8_0) (h1 : r ≠ main_v8_1) : U9 m c r = U8 m c r := (Segs.upd_of _ _ h1).trans (Segs.upd_of _ _ h0)
theorem U9_arg (r : Ref sig .tc) (h : r ∈ args) : U9 m c r = m ((c : Thread nD τ).loc r) :=
  (U9_of m c r (ne_of_mem_of_not_mem h (by decide)) (ne_of_mem_of_not_mem h (by decide))).trans (U8_arg m c r h)
theorem U9_v8_0 : U9 m c main_v8_0 = o_v8_0 m c := (Segs.upd_of _ _ (by decide)).trans (Function.update_self _ _ _)
theorem U9_v8_1 : U9 m c main_v8_1 = o_v8_1 m c := Function.update_self _ _ _

/-- The calls' data. -/
def pdats : (p : Fin 9) → (c : Dev nD) → Dat τ (Elt F) Unit ℕ UU ℕ (cfgs p) c
  | 0 => fun c => dat0 (W0 m) c
  | 1 => fun c => dat1 (W1 m) c
  | 2 => fun c => dat2 (W2 m) c
  | 3 => fun c => dat3 (W3 m) c
  | 4 => fun c => dat4 (W4 m) c
  | 5 => fun c => dat5 (W5 m) c
  | 6 => fun c => dat6 (W6 m) c
  | 7 => fun c => dat7 (W7 m) c
  | 8 => fun c => dat8 (W8 m) c
  | ⟨_ + 9, h⟩ => absurd h (by omega)

abbrev L : GSem nD τ sig → Finset Unit := fun _ => ∅
abbrev lv : GSem nD τ sig → Unit → ℕ := fun _ _ => 0
/-! ### The calls as segments -/

theorem goes0 : Segs.Goes (cfgs := cfgs) 0 (pdats m) (U0 m) (U1 m) :=
  .one launch0 2 (by decide) fun _ => rfl

set_option backward.isDefEq.respectTransparency.types false in
def reg0 : RegionSeg (pcfgs (F := F)) adm (pdats m) () defs₀ 𝒱₀ L lv 0 :=
  Segs.seg (pdats m) defs₀ 𝒱₀ L lv launch0.to₀ (by decide) (body0 (W0 m)) (goes0 m) (fun _ => .rfl) (fun _ => .rfl)

theorem left1' : (w : Fin cfg1.W) → (pdats m 1 c).arrAt w cfg1.N = W2 m c (Pipeline.arrRef spec1 w)
  | ⟨0, _⟩ => ((dat1 (W1 m) c).arrAt_in 0 rfl _).trans (U2_of m c main_v0 (by decide) (by decide) (by decide)).symm
  | ⟨1, _⟩ => ((dat1 (W1 m) c).arrAt_in 1 rfl _).trans (U2_of m c main_arg2 (by decide) (by decide) (by decide)).symm
  | ⟨2, _⟩ => ((dat1 (W1 m) c).arrAt_in 2 rfl _).trans (U2_of m c main_v0 (by decide) (by decide) (by decide)).symm
  | ⟨3, _⟩ => ((dat1 (W1 m) c).arrAt_in 3 rfl _).trans (U2_of m c main_arg3 (by decide) (by decide) (by decide)).symm
  | ⟨4, _⟩ => (U2_v1_0 m c).symm
  | ⟨5, _⟩ => (U2_v1_1 m c).symm
  | ⟨6, _⟩ => (U2_v1_2 m c).symm

theorem other1 (b : Ref sig .tc) (hb : b ∉ Finset.univ.image (Pipeline.arrRef spec1)) : W2 m c b = W1 m c b :=
  U2_of m c b (Segs.ne_arr (cfg := cfg1) hb 4) (Segs.ne_arr (cfg := cfg1) hb 5) (Segs.ne_arr (cfg := cfg1) hb 6)

theorem goes1 : Segs.Goes (cfgs := cfgs) 1 (pdats m) (U1 m) (U2 m) :=
  ⟨fun _ _ _ => rfl, fun _ _ => rfl, fun _ _ => trivial, fun _ _ => rfl, left1' m, other1 m⟩

set_option backward.isDefEq.respectTransparency.types false in
def reg1 : RegionSeg (pcfgs (F := F)) adm (pdats m) () defs₀ 𝒱₀ L lv 1 :=
  Segs.seg (pdats m) defs₀ 𝒱₀ L lv launch₀1 (by decide) (body1 (W1 m)) (goes1 m) (fun _ => .rfl) (fun _ => .rfl)

theorem goes2 : Segs.Goes (cfgs := cfgs) 2 (pdats m) (U2 m) (U3 m) :=
  .one launch2 3 (by decide) fun _ => rfl

set_option backward.isDefEq.respectTransparency.types false in
def reg2 : RegionSeg (pcfgs (F := F)) adm (pdats m) () defs₀ 𝒱₀ L lv 2 :=
  Segs.seg (pdats m) defs₀ 𝒱₀ L lv launch2.to₀ (by decide) (body2 (W2 m)) (goes2 m) (fun _ => .rfl) (fun _ => .rfl)

theorem left3' : (w : Fin cfg3.W) → (pdats m 3 c).arrAt w cfg3.N = W4 m c (Pipeline.arrRef spec3 w)
  | ⟨0, _⟩ => ((dat3 (W3 m) c).arrAt_in 0 rfl _).trans (U4_of m c main_arg5 (by decide) (by decide)).symm
  | ⟨1, _⟩ => ((dat3 (W3 m) c).arrAt_in 1 rfl _).trans (U4_of m c main_arg4 (by decide) (by decide)).symm
  | ⟨2, _⟩ => ((dat3 (W3 m) c).arrAt_in 2 rfl _).trans (U4_of m c main_v1_0 (by decide) (by decide)).symm
  | ⟨3, _⟩ => ((dat3 (W3 m) c).arrAt_in 3 rfl _).trans (U4_of m c main_v1_1 (by decide) (by decide)).symm
  | ⟨4, _⟩ => (U4_v3_0 m c).symm
  | ⟨5, _⟩ => (U4_v3_1 m c).symm

theorem other3 (b : Ref sig .tc) (hb : b ∉ Finset.univ.image (Pipeline.arrRef spec3)) : W4 m c b = W3 m c b :=
  U4_of m c b (Segs.ne_arr (cfg := cfg3) hb 4) (Segs.ne_arr (cfg := cfg3) hb 5)

theorem goes3 : Segs.Goes (cfgs := cfgs) 3 (pdats m) (U3 m) (U4 m) :=
  ⟨Segs.shares launch3 fun _ _ => rfl, fun _ _ => rfl, fun _ _ => trivial, fun _ _ => rfl, left3' m, other3 m⟩

set_option backward.isDefEq.respectTransparency.types false in
def reg3 : RegionSeg (pcfgs (F := F)) adm (pdats m) () defs₀ 𝒱₀ L lv 3 :=
  Segs.seg (pdats m) defs₀ 𝒱₀ L lv launch3.to₀ (by decide) (body3 (W3 m)) (goes3 m) (fun _ => .rfl) (fun _ => .rfl)

theorem goes4 : Segs.Goes (cfgs := cfgs) 4 (pdats m) (U4 m) (U5 m) :=
  .one launch4 2 (by decide) fun _ => rfl

set_option backward.isDefEq.respectTransparency.types false in
def reg4 : RegionSeg (pcfgs (F := F)) adm (pdats m) () defs₀ 𝒱₀ L lv 4 :=
  Segs.seg (pdats m) defs₀ 𝒱₀ L lv launch4.to₀ (by decide) (body4 (W4 m)) (goes4 m) (fun c => (Entails.of_eq (scopedRest4_split c)).trans (Segs.scratch_in c cc4_scratch0 fun _ h => absurd rfl h))
    (fun c => (Segs.scratch_out c cc4_scratch0).trans (Entails.of_eq (scopedRest4_split c).symm))

theorem goes5 : Segs.Goes (cfgs := cfgs) 5 (pdats m) (U5 m) (U6 m) :=
  .one launch5 2 (by decide) fun _ => rfl

set_option backward.isDefEq.respectTransparency.types false in
def reg5 : RegionSeg (pcfgs (F := F)) adm (pdats m) () defs₀ 𝒱₀ L lv 5 :=
  Segs.seg (pdats m) defs₀ 𝒱₀ L lv launch5.to₀ (by decide) (body5 (W5 m)) (goes5 m) (fun c => (Entails.of_eq (scopedRest5_split c)).trans (Segs.scratch_in c cc5_scratch0 fun _ h => absurd rfl h))
    (fun c => (Segs.scratch_out c cc5_scratch0).trans (Entails.of_eq (scopedRest5_split c).symm))

theorem goes6 : Segs.Goes (cfgs := cfgs) 6 (pdats m) (U6 m) (U7 m) :=
  .one launch6 2 (by decide) fun _ => rfl

set_option backward.isDefEq.respectTransparency.types false in
def reg6 : RegionSeg (pcfgs (F := F)) adm (pdats m) () defs₀ 𝒱₀ L lv 6 :=
  Segs.seg (pdats m) defs₀ 𝒱₀ L lv launch6.to₀ (by decide) (body6 (W6 m)) (goes6 m) (fun c => (Entails.of_eq (scopedRest6_split c)).trans (Segs.scratch_in c cc6_scratch0 fun _ h => absurd rfl h))
    (fun c => (Segs.scratch_out c cc6_scratch0).trans (Entails.of_eq (scopedRest6_split c).symm))

theorem goes7 : Segs.Goes (cfgs := cfgs) 7 (pdats m) (U7 m) (U8 m) :=
  .one launch7 4 (by decide) fun _ => rfl

set_option backward.isDefEq.respectTransparency.types false in
def reg7 : RegionSeg (pcfgs (F := F)) adm (pdats m) () defs₀ 𝒱₀ L lv 7 :=
  Segs.seg (pdats m) defs₀ 𝒱₀ L lv launch7.to₀ (by decide) (body7 (W7 m)) (goes7 m) (fun _ => .rfl) (fun _ => .rfl)

theorem left8' : (w : Fin cfg8.W) → (pdats m 8 c).arrAt w cfg8.N = W9 m c (Pipeline.arrRef spec8 w)
  | ⟨0, _⟩ => ((dat8 (W8 m) c).arrAt_in 0 rfl _).trans (U9_of m c main_v7 (by decide) (by decide)).symm
  | ⟨1, _⟩ => ((dat8 (W8 m) c).arrAt_in 1 rfl _).trans (U9_of m c main_arg0 (by decide) (by decide)).symm
  | ⟨2, _⟩ => ((dat8 (W8 m) c).arrAt_in 2 rfl _).trans (U9_of m c main_arg1 (by decide) (by decide)).symm
  | ⟨3, _⟩ => ((dat8 (W8 m) c).arrAt_in 3 rfl _).trans (U9_of m c main_arg5 (by decide) (by decide)).symm
  | ⟨4, _⟩ => (U9_v8_0 m c).symm
  | ⟨5, _⟩ => (U9_v8_1 m c).symm

theorem other8 (b : Ref sig .tc) (hb : b ∉ Finset.univ.image (Pipeline.arrRef spec8)) : W9 m c b = W8 m c b :=
  U9_of m c b (Segs.ne_arr (cfg := cfg8) hb 4) (Segs.ne_arr (cfg := cfg8) hb 5)

theorem goes8 : Segs.Goes (cfgs := cfgs) 8 (pdats m) (U8 m) (U9 m) :=
  ⟨Segs.shares launch8 fun _ _ => rfl, fun _ _ => rfl, fun _ _ => trivial, fun _ _ => rfl, left8' m, other8 m⟩

set_option backward.isDefEq.respectTransparency.types false in
def reg8 : RegionSeg (pcfgs (F := F)) adm (pdats m) () defs₀ 𝒱₀ L lv 8 :=
  Segs.seg (pdats m) defs₀ 𝒱₀ L lv launch8.to₀ (by decide) (body8 (W8 m)) (goes8 m) (fun _ => .rfl) (fun _ => .rfl)

def u₀ : UU := (initOf (Pipeline.cells cfgs cellOf_inj) (Pipeline.launchToks cfgs cellOf_inj), 1)

/-- What a final state holds on a core. -/
def Ends (s : MemSt nD τ sig (Elt F)) : Prop :=
  ∀ b : Ref sig .tc, (Proc.devRef .tc b : DevRef τ sig) ∈ Pipeline.ucRefs τ sig → s.mem ((c : Thread nD τ).loc b) = U9 m c b

set_option backward.isDefEq.respectTransparency.types false in
/-- Every run of the nine calls ends, with every buffer at what the calls leave and every counter at zero. -/
theorem run_main : θ_run defs (onTc (τ := τ) (main (F := F))) ⟨m, fun _ => 0, ρ⟩ (fun r => (∀ c, Ends m c r.2) ∧ r.2.sem = fun _ => 0) :=
  Pipeline.θ_run_regions_kit_sems (pcfgs (F := F)) adm (pdats m) () cellOf_inj EP defs₀ 𝒱₀ L lv m ρ main [.region (reg0 m), .region (reg1 m), .region (reg2 m), .region (reg3 m), .region (reg4 m), .region (reg5 m), .region (reg6 m), .region (reg7 m), .region (reg8 m)]
    (fun c Q => by rw [main_segs adm (pdats m) () 𝒱₀ L lv (reg0 m) (reg1 m) (reg2 m) (reg3 m) (reg4 m) (reg5 m) (reg6 m) (reg7 m) (reg8 m) c])
    (by simp only [Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(Segs.Holds (U0 m) c ∗ Segs.R c)) (Tₙ := Segs.Holds (U9 m))
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = Segs.Holds (U0 m) c from Pipeline.unscopedBufs_held c (V0 m c)]
      iintro ⟨⟨Hh, -, HO, -, -, -⟩, -⟩
      imodintro
      isplitl [Hh]; · iexact Hh
      iexists ∅; iexact HO)
    (QY := Ends m)
    (hfin := fun c s' => by
      dsimp only [Segs.Holds]; unfold StableHlo.held
      iintro ⟨Hh, HSI⟩
      ihave Hr := (pointsTo_read_all (Pipeline.ucRefs τ sig) (fun b => ((c : Thread nD τ).1, b)) (U9 m c) s') $$ [Hh HSI]
      · isplitl [Hh] <;> iassumption
      icases Hr with ⟨%h, HSI⟩
      imodintro
      isplitr
      · ipureintro
        exact fun b hb => h (Proc.devRef .tc b) hb
      iexact HSI)
    (hQ := fun _ h hz => ⟨h, funext fun g => hz g (.inr (regions_no_unscoped g.2))⟩)

theorem end_at (s : MemSt nD τ sig (Elt F)) (h : Ends m c s) (b : Ref sig .tc) (hb : b.isScoped = false) : s.mem ((c : Thread nD τ).loc b) = U9 m c b :=
  h b (Finset.mem_filter.mpr ⟨StableHlo.devRef_mem_tcRefs b, by rw [Bool.not_eq_true]; exact hb⟩)

theorem end_arg (s : MemSt nD τ sig (Elt F)) (h : Ends m c s) (b : Ref sig .tc) (hb : b ∈ args) :
    s.mem ((c : Thread nD τ).loc b) = m ((c : Thread nD τ).loc b) :=
  (end_at m c s h b (by
    simp only [args, List.mem_cons, List.not_mem_nil, _root_.or_false] at hb
    rcases hb with rfl | rfl | rfl | rfl | rfl | rfl <;> rfl)).trans (U9_arg m c b hb)

end Cert.Proof.Ffn
-- ==== Proof.FfnSame.lean ====
module

public import proofs.«01_k».proof.Defs
public import proofs.«01_k».proof.Proof.Gen.Kernel2Ideal
public import proofs.«01_k».proof.Proof.Gen.Kernel2

/-! The program as printed and the program to be read over the reals have one text: a run of one is a run of the other. -/

@[expose] public section

set_option maxHeartbeats 0

namespace Cert.Proof.Ffn

open Idealize.ShloMosaic Idealize.SL.Sem

section
set_option maxRecDepth 100000
set_option backward.isDefEq.respectTransparency false

theorem call0_same : @Cert.Kernel2.cc0_a_ffn1_norm Bits _ _ = @Cert.Kernel2Ideal.cc0_a_ffn1_norm Bits _ _ := by exact rfl
theorem call1_same : @Cert.Kernel2.cc1_a_ffn1_up Bits _ _ = @Cert.Kernel2Ideal.cc1_a_ffn1_up Bits _ _ := by exact rfl
theorem call2_same : @Cert.Kernel2.cc2_a_ffn1_down Bits _ _ = @Cert.Kernel2Ideal.cc2_a_ffn1_down Bits _ _ := by exact rfl
theorem call3_same : @Cert.Kernel2.cc3_b_ffn1_dact Bits _ _ = @Cert.Kernel2Ideal.cc3_b_ffn1_dact Bits _ _ := by exact rfl
theorem call4_same : @Cert.Kernel2.cc4_b_ffn1_dw2 Bits _ _ = @Cert.Kernel2Ideal.cc4_b_ffn1_dw2 Bits _ _ := by exact rfl
theorem call5_same : @Cert.Kernel2.cc5_b_ffn1_dw1 Bits _ _ = @Cert.Kernel2Ideal.cc5_b_ffn1_dw1 Bits _ _ := by exact rfl
theorem call6_same : @Cert.Kernel2.cc6_b_ffn1_dw3 Bits _ _ = @Cert.Kernel2Ideal.cc6_b_ffn1_dw3 Bits _ _ := by exact rfl
theorem call7_same : @Cert.Kernel2.cc7_b_ffn1_dxn Bits _ _ = @Cert.Kernel2Ideal.cc7_b_ffn1_dxn Bits _ _ := by exact rfl
theorem call8_same : @Cert.Kernel2.cc8_b_ffn1_dnorm Bits _ _ = @Cert.Kernel2Ideal.cc8_b_ffn1_dnorm Bits _ _ := by exact rfl
end

theorem bodies_same : @Cert.Kernel2.defs₀ Bits _ _ = @Cert.Kernel2Ideal.defs₀ Bits _ _ := by
  unfold Cert.Kernel2.defs₀ Cert.Kernel2Ideal.defs₀
  refine congrArg (Defs.onTc (nD := Cert.Kernel2Ideal.nD) (τ := Cert.Kernel2Ideal.τ) (sig := Cert.Kernel2Ideal.sig) (Λ := Cert.Kernel2Ideal.Λ₀))
    (funext fun l => funext fun a => ?_)
  match l, a with
  | 0, (t, s) => exact (by rw [← call0_same]; rfl)
  | 1, (t, s) => exact (by rw [← call1_same]; rfl)
  | 2, (t, s) => exact (by rw [← call2_same]; rfl)
  | 3, (t, s) => exact (by rw [← call3_same]; rfl)
  | 4, (t, s) => exact (by rw [← call4_same]; rfl)
  | 5, (t, s) => exact (by rw [← call5_same]; rfl)
  | 6, (t, s) => exact (by rw [← call6_same]; rfl)
  | 7, (t, s) => exact (by rw [← call7_same]; rfl)
  | 8, (t, s) => exact (by rw [← call8_same]; rfl)

theorem defs_same : @Cert.Kernel2.defs Bits _ _ = @Cert.Kernel2Ideal.defs Bits _ _ :=
  congrArg (Pipeline.defs (Cert.Kernel2Ideal.pcfgs (F := Bits))) bodies_same

/-- What holds of every run of the one text holds of every run of the other. -/
theorem run_same (m ρ Q) (h : θ_run Cert.Kernel2Ideal.defs (onTc (τ := Cert.Kernel2Ideal.τ) (Cert.Kernel2Ideal.main (F := Bits))) ⟨m, fun _ => 0, ρ⟩ Q) :
    θ_run (Cert.Kernel2.defs (F := Bits)) (onTc (τ := Cert.Kernel2.τ) (Cert.Kernel2.main (F := Bits))) ⟨m, fun _ => 0, ρ⟩ Q := by
  rw [defs_same]; exact h

end Cert.Proof.Ffn

end
-- ==== Proof.FfnReal.lean ====
module

public import proofs.«01_k».proof.Proof.FfnStep
public import Mathlib.Analysis.SpecialFunctions.Log.Basic
public import Mathlib.Analysis.SpecialFunctions.Pow.NNReal
public import Idealize.ShloMosaic.Lib.Pointwise
public import Idealize.ShloMosaic.Lib.IdealHost

@[expose] public section

set_option maxRecDepth 65536

noncomputable section

/-! What the nine calls' payloads are on real entries. -/

namespace Cert.Proof.Ffn

open Cert.Kernel2Ideal Cert.Kernel2Ideal.Gen
open Idealize.ShloMosaic Idealize.SL.Sem
open Finset

/-! ### The real functions -/

/-- The small number the normalisation adds. -/
def epsR : ℝ := 8796093 / 2 ^ 43
theorem epsR_pos : 0 < epsR := by unfold epsR; positivity

/-- Mean square of a row, -/
def vr (H : ℕ → ℕ → ℝ) (r : ℕ) : ℝ := (∑ k ∈ range 1024, H r k * H r k) / 1024 + epsR
theorem vr_pos (H : ℕ → ℕ → ℝ) (r : ℕ) : 0 < vr H r := by
  unfold vr
  have : 0 ≤ ∑ k ∈ range 1024, H r k * H r k := sum_nonneg fun k _ => mul_self_nonneg _
  have := epsR_pos
  positivity
/-- its reciprocal root, -/
def rs (H : ℕ → ℕ → ℝ) (r : ℕ) : ℝ := (√(vr H r))⁻¹
/-- the row over its root mean square, -/
def xh (H : ℕ → ℕ → ℝ) (r k : ℕ) : ℝ := H r k * rs H r
/-- and scaled by the gains. -/
def xn (H G : ℕ → ℕ → ℝ) (r k : ℕ) : ℝ := xh H r k * G 0 k
/-- The three products. -/
def nn (K : ℕ) (A B : ℕ → ℕ → ℝ) (r n : ℕ) : ℝ := ∑ k ∈ range K, A r k * B k n
def nt (K : ℕ) (A B : ℕ → ℕ → ℝ) (r n : ℕ) : ℝ := ∑ k ∈ range K, A r k * B n k
def tn (K : ℕ) (A B : ℕ → ℕ → ℝ) (r n : ℕ) : ℝ := ∑ k ∈ range K, A k r * B k n
/-- The logistic function, -/
def sg (x : ℝ) : ℝ := 1 / (1 + Real.exp (0 - x))
theorem one_add_exp_ne (x : ℝ) : 1 + Real.exp x ≠ 0 := (add_pos one_pos (Real.exp_pos x)).ne'
/-- the gated product, -/
def act (a b : ℕ → ℕ → ℝ) (r n : ℕ) : ℝ := a r n * sg (a r n) * b r n
/-- its half added to the input, -/
def outR (H P : ℕ → ℕ → ℝ) (r k : ℕ) : ℝ := H r k + 1 / 2 * P r k
/-- and the gradients of the gate's two operands. -/
def daR (p a b : ℕ → ℕ → ℝ) (r n : ℕ) : ℝ := p r n * b r n * (sg (a r n) * (1 + a r n * (1 - sg (a r n))))
def dbR (p a : ℕ → ℕ → ℝ) (r n : ℕ) : ℝ := p r n * a r n * sg (a r n)
def halfR (p : ℕ → ℕ → ℝ) (r n : ℕ) : ℝ := p r n * (1 / 2)
/-- The normalisation's gradient. -/
def dhR (H X G D : ℕ → ℕ → ℝ) (r k : ℕ) : ℝ :=
  D r k + rs H r * (X r k * G 0 k - xh H r k * ((∑ l ∈ range 1024, X r l * G 0 l * xh H r l) / 1024))
/-- What some rows give to the gains' gradient. -/
def dgR (N : ℕ) (H X : ℕ → ℕ → ℝ) (_ k : ℕ) : ℝ := ∑ s ∈ range N, X s k * xh H s k

/-! ### Operations on arrays of real entries -/

/-- An array of real entries. -/
def up (a b : ℕ) (φ : FTy) (f : ℕ → ℕ → ℝ) : FVec Ideal ⟨2, ![a, b]⟩ φ := fun j => ((f (j 0).val (j 1).val : ℝ) : EReal)

theorem sum_up {n : ℕ} (f : ℕ → ℝ) : (∑ k : Fin n, ((f k.val : ℝ) : EReal)) = ((∑ k ∈ Finset.range n, f k : ℝ) : EReal) := by
  rw [← Fin.sum_univ_eq_sum_range]
  exact (map_sum (⟨⟨((↑) : ℝ → EReal), rfl⟩, EReal.coe_add⟩ : ℝ →+ EReal) (fun k : Fin n => f k.val) Finset.univ).symm

section Ops
variable {a b : ℕ} {φ : FTy} (f g : ℕ → ℕ → ℝ)

theorem up_congr {f g : ℕ → ℕ → ℝ} (h : ∀ r < a, ∀ c < b, f r c = g r c) : up a b φ f = up a b φ g := by
  funext j
  exact congrArg _ (h _ (j 0).isLt _ (j 1).isLt)

theorem add_up : addf (up a b φ f) (up a b φ g) = up a b φ fun r c => f r c + g r c := rfl
theorem sub_up : subf (up a b φ f) (up a b φ g) = up a b φ fun r c => f r c - g r c := rfl
theorem mul_up : mulf (up a b φ f) (up a b φ g) = up a b φ fun r c => f r c * g r c := by
  funext j; exact (EReal.coe_mul _ _).symm
theorem exp_up : Idealize.ShloMosaic.exp (up a b φ f) = up a b φ fun r c => Real.exp (f r c) := rfl
theorem div_up (h : ∀ r c, g r c ≠ 0) : divf (up a b φ f) (up a b φ g) = up a b φ fun r c => f r c / g r c := by
  funext j
  refine (Ideal.div_coe (h _ _) _).trans ?_
  exact (EReal.coe_mul _ _).symm.trans (congrArg _ (mul_one_div _ _))
theorem div1024_up : divf (up a b φ f) (up a b φ fun _ _ => 1024) = up a b φ fun r c => f r c / 1024 :=
  div_up f _ fun _ _ => by norm_num
theorem rsqrt_up (h : ∀ r c, 0 < f r c) : rsqrt (up a b φ f) = up a b φ fun r c => (√(f r c))⁻¹ := by
  funext j
  refine (Ideal.rsqrt_coe _).trans ?_
  rw [if_neg (not_lt.mpr (h _ _).le), if_neg (h _ _).ne']; rfl
theorem trunc_up (h : FTy.bits .bf16 < FTy.bits .f32) : truncf .bf16 (up a b .f32 f) h = up a b .bf16 f := rfl
theorem ext_up (h : FTy.bits .bf16 < FTy.bits .f32) : extf .f32 (up a b .bf16 f) h = up a b .f32 f := rfl

theorem ofBits_1024 : Ideal.ofBits .f32 0x44800000#32 = ((1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_eps : Ideal.ofBits .f32 0x358637BD#32 = ((epsR : ℝ) : EReal) := by
  unfold epsR
  simp [Ideal.ofBits, Ideal.ieee, -EReal.coe_mul]; norm_num

variable (a b)
theorem b0_up : broadcast ⟨2, ![a, b]⟩ (Scalar.ofBits (F := Ideal) .f32 0x00000000#32) = up a b .f32 fun _ _ => 0 := by
  funext j; exact Ideal.ofBits_zero_f32
theorem b1_up : broadcast ⟨2, ![a, b]⟩ (Scalar.ofBits (F := Ideal) .f32 0x3F800000#32) = up a b .f32 fun _ _ => 1 := by
  funext j; exact Ideal.ofBits_one_f32
theorem b1024_up : broadcast ⟨2, ![a, b]⟩ (Scalar.ofBits (F := Ideal) .f32 0x44800000#32) = up a b .f32 fun _ _ => 1024 := by
  funext j; exact ofBits_1024
theorem bhalf_up : broadcast ⟨2, ![a, b]⟩ (Scalar.ofBits (F := Ideal) .f32 0x3F000000#32) = up a b .f32 fun _ _ => 1 / 2 := by
  funext j; exact ofBits_half
theorem beps_up : broadcast ⟨2, ![a, b]⟩ (Scalar.ofBits (F := Ideal) .f32 0x358637BD#32) = up a b .f32 fun _ _ => epsR := by
  funext j; exact ofBits_eps
end Ops

theorem same_up {S : Shape} {φ : FTy} (x : FVec Ideal S φ) (h : S.ShapeCasts S) : shapeCast S x h = x := by
  funext j
  pointwise

section Shapes
variable (f g : ℕ → ℕ → ℝ)

theorem rows832_up : shapeCast S832x1 (multiReduction .add [1] S832 (up 832 1024 .f32 f) 0x00000000#32 reduces_S832x1024_S832 (.inl rfl) rfl) shapeCasts_S832_S832x1
    = up 832 1 .f32 fun r _ => ∑ k ∈ range 1024, f r k := by
  funext j
  obtain ⟨r, z, rfl⟩ : ∃ (r : Fin 832) (z : Fin 1), j = ValueIdx.ix2 r z := ⟨j 0, j 1, ValueIdx.eq_ix2 j⟩
  pointwise
  exact sum_up (n := 1024) fun k => f r.val k
theorem rows416_up : shapeCast S416x1 (multiReduction .add [1] S416 (up 416 1024 .f32 f) 0x00000000#32 reduces_S416x1024_S416 (.inl rfl) rfl) shapeCasts_S416_S416x1
    = up 416 1 .f32 fun r _ => ∑ k ∈ range 1024, f r k := by
  funext j
  obtain ⟨r, z, rfl⟩ : ∃ (r : Fin 416) (z : Fin 1), j = ValueIdx.ix2 r z := ⟨j 0, j 1, ValueIdx.eq_ix2 j⟩
  pointwise
  exact sum_up (n := 1024) fun k => f r.val k
theorem cols416_up : shapeCast S1x1024 (multiReduction .add [0] S1024 (up 416 1024 .f32 f) 0x00000000#32 reduces_S416x1024_S1024 (.inl rfl) rfl) shapeCasts_S1024_S1x1024
    = up 1 1024 .f32 fun _ k => ∑ r ∈ range 416, f r k := by
  funext j
  obtain ⟨z, k, rfl⟩ : ∃ (z : Fin 1) (k : Fin 1024), j = ValueIdx.ix2 z k := ⟨j 0, j 1, ValueIdx.eq_ix2 j⟩
  pointwise
  exact sum_up (n := 416) fun r => f r k.val
theorem spread832_up : broadcastTo S832x1024 (up 832 1 .f32 f) broadcasts_S832x1_S832x1024 = up 832 1024 .f32 fun r _ => f r 0 := by
  funext j
  obtain ⟨r, k, rfl⟩ : ∃ (r : Fin 832) (k : Fin 1024), j = ValueIdx.ix2 r k := ⟨j 0, j 1, ValueIdx.eq_ix2 j⟩
  pointwise
  rfl
theorem spread416_up : broadcastTo S416x1024 (up 416 1 .f32 f) broadcasts_S416x1_S416x1024 = up 416 1024 .f32 fun r _ => f r 0 := by
  funext j
  obtain ⟨r, k, rfl⟩ : ∃ (r : Fin 416) (k : Fin 1024), j = ValueIdx.ix2 r k := ⟨j 0, j 1, ValueIdx.eq_ix2 j⟩
  pointwise
  rfl
theorem gains832_up : broadcastTo S832x1024 (up 1 1024 .f32 f) broadcasts_S1x1024_S832x1024 = up 832 1024 .f32 fun _ k => f 0 k := by
  funext j
  obtain ⟨r, k, rfl⟩ : ∃ (r : Fin 832) (k : Fin 1024), j = ValueIdx.ix2 r k := ⟨j 0, j 1, ValueIdx.eq_ix2 j⟩
  pointwise
  rfl
theorem gains416_up : broadcastTo S416x1024 (up 1 1024 .f32 f) broadcasts_S1x1024_S416x1024 = up 416 1024 .f32 fun _ k => f 0 k := by
  funext j
  obtain ⟨r, k, rfl⟩ : ∃ (r : Fin 416) (k : Fin 1024), j = ValueIdx.ix2 r k := ⟨j 0, j 1, ValueIdx.eq_ix2 j⟩
  pointwise
  rfl

/-! ### The products -/

theorem mm1_up : matmul dot_S640x1024_S1024x1408_S640x1408_1_0_0_1_n_n none (up 640 1024 .bf16 f) (up 1024 1408 .bf16 g) (constant (F := Ideal) S640x1408 .f32 0x00000000#32)
    = up 640 1408 .f32 (nn 1024 f g) := by
  funext j
  obtain ⟨r, n, rfl⟩ : ∃ (r : Fin 640) (n : Fin 1408), j = ValueIdx.ix2 r n := ⟨j 0, j 1, ValueIdx.eq_ix2 j⟩
  pointwise
  exact Eq.trans (sum_congr rfl fun _ _ => (EReal.coe_mul _ _).symm) (sum_up (n := 1024) fun k => f r.val k * g k n.val)
theorem mm2_up : matmul dot_S640x2816_S2816x1024_S640x1024_1_0_0_1_n_n none (up 640 2816 .bf16 f) (up 2816 1024 .bf16 g) (constant (F := Ideal) S640x1024 .f32 0x00000000#32)
    = up 640 1024 .f32 (nn 2816 f g) := by
  funext j
  obtain ⟨r, n, rfl⟩ : ∃ (r : Fin 640) (n : Fin 1024), j = ValueIdx.ix2 r n := ⟨j 0, j 1, ValueIdx.eq_ix2 j⟩
  pointwise
  exact Eq.trans (sum_congr rfl fun _ _ => (EReal.coe_mul _ _).symm) (sum_up (n := 2816) fun k => f r.val k * g k n.val)
theorem mm3_up : matmul dot_S640x1024_S1408x1024_S640x1408_1_1_0_0_n_n none (up 640 1024 .bf16 f) (up 1408 1024 .bf16 g) (constant (F := Ideal) S640x1408 .f32 0x00000000#32)
    = up 640 1408 .f32 (nt 1024 f g) := by
  funext j
  obtain ⟨r, n, rfl⟩ : ∃ (r : Fin 640) (n : Fin 1408), j = ValueIdx.ix2 r n := ⟨j 0, j 1, ValueIdx.eq_ix2 j⟩
  pointwise
  exact Eq.trans (sum_congr rfl fun _ _ => (EReal.coe_mul _ _).symm) (sum_up (n := 1024) fun k => f r.val k * g n.val k)
theorem mm4_up : matmul dot_S640x1408_S640x1024_S1408x1024_0_0_1_1_n_n none (up 640 1408 .bf16 f) (up 640 1024 .bf16 g) (constant (F := Ideal) S1408x1024 .f32 0x00000000#32)
    = up 1408 1024 .f32 (tn 640 f g) := by
  funext j
  obtain ⟨r, n, rfl⟩ : ∃ (r : Fin 1408) (n : Fin 1024), j = ValueIdx.ix2 r n := ⟨j 0, j 1, ValueIdx.eq_ix2 j⟩
  pointwise
  exact Eq.trans (sum_congr rfl fun _ _ => (EReal.coe_mul _ _).symm) (sum_up (n := 640) fun k => f k r.val * g k n.val)
theorem mm5_up : matmul dot_S640x1024_S640x1408_S1024x1408_0_0_1_1_n_n none (up 640 1024 .bf16 f) (up 640 1408 .bf16 g) (constant (F := Ideal) S1024x1408 .f32 0x00000000#32)
    = up 1024 1408 .f32 (tn 640 f g) := by
  funext j
  obtain ⟨r, n, rfl⟩ : ∃ (r : Fin 1024) (n : Fin 1408), j = ValueIdx.ix2 r n := ⟨j 0, j 1, ValueIdx.eq_ix2 j⟩
  pointwise
  exact Eq.trans (sum_congr rfl fun _ _ => (EReal.coe_mul _ _).symm) (sum_up (n := 640) fun k => f k r.val * g k n.val)
theorem mm7_up : matmul dot_S640x2816_S512x2816_S640x512_1_1_0_0_n_n none (up 640 2816 .bf16 f) (up 512 2816 .bf16 g) (constant (F := Ideal) S640x512 .f32 0x00000000#32)
    = up 640 512 .f32 (nt 2816 f g) := by
  funext j
  obtain ⟨r, n, rfl⟩ : ∃ (r : Fin 640) (n : Fin 512), j = ValueIdx.ix2 r n := ⟨j 0, j 1, ValueIdx.eq_ix2 j⟩
  pointwise
  exact Eq.trans (sum_congr rfl fun _ _ => (EReal.coe_mul _ _).symm) (sum_up (n := 2816) fun k => f r.val k * g n.val k)
end Shapes

/-! ### The payloads -/

section Payloads
variable (f g h w : ℕ → ℕ → ℝ)

theorem p0_up : k0_pay1 (F := Ideal) (up 832 1024 .f32 f) (up 1 1024 .f32 g) = up 832 1024 .bf16 (xn f g) := by
  unfold k0_pay1
  dsimp only
  rw [mul_up, rows832_up, b1024_up, div1024_up, beps_up, add_up, rsqrt_up (fun r _ => (∑ k ∈ range 1024, f r k * f r k) / 1024 + epsR) fun r _ => vr_pos f r, spread832_up, mul_up, gains832_up, mul_up, trunc_up]
  rfl

theorem p11_up : k1_pay1 (F := Ideal) (up 640 1024 .bf16 f) (up 1024 1408 .bf16 g) = up 640 1408 .f32 (nn 1024 f g) := by
  unfold k1_pay1
  dsimp only
  rw [same_up, mm1_up]
theorem p12_up : k1_pay2 (F := Ideal) (up 640 1024 .bf16 f) (up 1024 1408 .bf16 g) = up 640 1408 .f32 (nn 1024 f g) := by
  unfold k1_pay2
  dsimp only
  rw [same_up, mm1_up]
theorem p13_up : k1_pay3 (F := Ideal) (up 640 1024 .bf16 f) (up 1024 1408 .bf16 g) = up 640 1408 .bf16 (nn 1024 f g) := by
  unfold k1_pay3
  dsimp only
  rw [p11_up, trunc_up]
theorem p14_up : k1_pay4 (F := Ideal) (up 640 1024 .bf16 f) (up 1024 1408 .bf16 g) = up 640 1408 .bf16 (nn 1024 f g) := by
  unfold k1_pay4
  dsimp only
  rw [p12_up, trunc_up]
theorem p15_up : k1_pay5 (F := Ideal) (up 640 1024 .bf16 f) (up 1024 1408 .bf16 g) (up 640 1024 .bf16 h) (up 1024 1408 .bf16 w)
    = up 640 1408 .bf16 (act (nn 1024 f g) (nn 1024 h w)) := by
  unfold k1_pay5
  dsimp only
  rw [p11_up, p12_up, b0_up, sub_up, exp_up, b1_up, add_up, div_up _ _ fun _ _ => one_add_exp_ne _, mul_up, mul_up, trunc_up]
  rfl

theorem p2_up : k2_pay1 (F := Ideal) (up 640 2816 .bf16 f) (up 2816 1024 .bf16 g) (up 640 1024 .f32 h) = up 640 1024 .f32 (outR h (nn 2816 f g)) := by
  unfold k2_pay1
  dsimp only
  rw [same_up, mm2_up, bhalf_up, mul_up, add_up]
  rfl

theorem p31_up : k3_pay1 (F := Ideal) (up 640 1024 .f32 f) (up 1408 1024 .bf16 g) = up 640 1408 .f32 (halfR (nt 1024 f g)) := by
  unfold k3_pay1
  dsimp only
  rw [trunc_up, mm3_up, bhalf_up, mul_up]
  rfl
theorem p32_up : k3_pay2 (F := Ideal) (up 640 1408 .bf16 f) = up 640 1408 .f32 f := by
  unfold k3_pay2
  dsimp only
  rw [same_up, ext_up]
theorem p33_up : k3_pay3 (F := Ideal) (up 640 1408 .bf16 f) = up 640 1408 .f32 fun r n => sg (f r n) := by
  unfold k3_pay3
  dsimp only
  rw [p32_up, b0_up, sub_up, exp_up, b1_up, add_up, div_up _ _ fun _ _ => one_add_exp_ne _]
  rfl
theorem p34_up : k3_pay4 (F := Ideal) (up 640 1024 .f32 f) (up 1408 1024 .bf16 g) (up 640 1408 .bf16 h) (up 640 1408 .bf16 w)
    = up 640 1408 .bf16 (daR (halfR (nt 1024 f g)) h w) := by
  unfold k3_pay4
  dsimp only
  rw [p31_up, p32_up, p33_up, same_up, ext_up, mul_up, b1_up, sub_up, mul_up, add_up, mul_up, mul_up, trunc_up]
  rfl
theorem p35_up : k3_pay5 (F := Ideal) (up 640 1024 .f32 f) (up 1408 1024 .bf16 g) (up 640 1408 .bf16 h)
    = up 640 1408 .bf16 (dbR (halfR (nt 1024 f g)) h) := by
  unfold k3_pay5
  dsimp only
  rw [p31_up, p32_up, p33_up, mul_up, mul_up, trunc_up]
  rfl

theorem p41_up : k4_pay1 (F := Ideal) (up 640 1408 .bf16 f) (up 640 1024 .f32 g) = up 1408 1024 .f32 (tn 640 f g) := by
  unfold k4_pay1
  dsimp only
  rw [same_up, trunc_up, mm4_up]
theorem p42_up : k4_pay2 (F := Ideal) (up 640 1408 .bf16 f) (up 640 1024 .f32 g) = up 1408 1024 .f32 (tn 640 f g) := by
  unfold k4_pay2
  dsimp only
  rw [p41_up, same_up]
theorem p43_up : k4_pay3 (F := Ideal) (up 640 1408 .bf16 f) (up 640 1024 .f32 g) (up 1408 1024 .f32 h)
    = up 1408 1024 .f32 fun r n => h r n + tn 640 f g r n := by
  unfold k4_pay3
  dsimp only
  rw [p41_up, add_up, same_up]
theorem p44_up : k4_pay4 (F := Ideal) (up 1408 1024 .f32 h) = up 1408 1024 .f32 fun r n => 1 / 2 * h r n := by
  unfold k4_pay4
  dsimp only
  rw [bhalf_up, mul_up]

theorem p51_up : k5_pay1 (F := Ideal) (up 640 1024 .bf16 f) (up 640 1408 .bf16 g) = up 1024 1408 .f32 (tn 640 f g) := by
  unfold k5_pay1
  dsimp only
  rw [same_up, same_up, mm5_up]
theorem p52_up : k5_pay2 (F := Ideal) (up 640 1024 .bf16 f) (up 640 1408 .bf16 g) = up 1024 1408 .f32 (tn 640 f g) := by
  unfold k5_pay2
  dsimp only
  rw [p51_up, same_up]
theorem p53_up : k5_pay3 (F := Ideal) (up 640 1024 .bf16 f) (up 640 1408 .bf16 g) (up 1024 1408 .f32 h)
    = up 1024 1408 .f32 fun r n => h r n + tn 640 f g r n := by
  unfold k5_pay3
  dsimp only
  rw [p51_up, add_up, same_up]
theorem p61_up : k6_pay1 (F := Ideal) (up 640 1024 .bf16 f) (up 640 1408 .bf16 g) = up 1024 1408 .f32 (tn 640 f g) := by
  unfold k6_pay1
  dsimp only
  rw [same_up, same_up, mm5_up]
theorem p62_up : k6_pay2 (F := Ideal) (up 640 1024 .bf16 f) (up 640 1408 .bf16 g) = up 1024 1408 .f32 (tn 640 f g) := by
  unfold k6_pay2
  dsimp only
  rw [p61_up, same_up]
theorem p63_up : k6_pay3 (F := Ideal) (up 640 1024 .bf16 f) (up 640 1408 .bf16 g) (up 1024 1408 .f32 h)
    = up 1024 1408 .f32 fun r n => h r n + tn 640 f g r n := by
  unfold k6_pay3
  dsimp only
  rw [p61_up, add_up, same_up]

theorem p7_up : k7_pay1 (F := Ideal) (up 640 2816 .bf16 f) (up 512 2816 .bf16 g) (up 640 2816 .bf16 h) (up 512 2816 .bf16 w)
    = up 640 512 .f32 fun r n => nt 2816 f g r n + nt 2816 h w r n := by
  unfold k7_pay1
  dsimp only
  rw [same_up, same_up, mm7_up, mm7_up, add_up]

theorem p82_up : k8_pay2 (F := Ideal) (up 416 1024 .f32 f) = up 416 1 .f32 fun r _ => rs f r := by
  unfold k8_pay2
  dsimp only
  rw [mul_up, rows416_up, b1024_up, div1024_up, beps_up, add_up, rsqrt_up (fun r _ => (∑ k ∈ range 1024, f r k * f r k) / 1024 + epsR) fun r _ => vr_pos f r]
  rfl
theorem p83_up : k8_pay3 (F := Ideal) (up 416 1024 .f32 f) = up 416 1024 .f32 (xh f) := by
  unfold k8_pay3
  dsimp only
  rw [p82_up, spread416_up, mul_up]
  rfl
theorem p84_up : k8_pay4 (F := Ideal) (up 416 1024 .f32 f) = up 416 1024 .f32 f := by
  unfold k8_pay4
  dsimp only
  rw [same_up]
theorem p85_up : k8_pay5 (F := Ideal) (up 416 1024 .f32 f) (up 416 1024 .f32 g) (up 1 1024 .f32 h) (up 416 1024 .f32 w)
    = up 416 1024 .f32 (dhR f g h w) := by
  unfold k8_pay5
  dsimp only
  rw [p84_up, p83_up, p82_up, gains416_up, mul_up, mul_up, rows416_up, b1024_up, div1024_up, spread416_up, spread416_up, mul_up, sub_up, mul_up, add_up]
  rfl
theorem p86_up : k8_pay6 (F := Ideal) = up 1 1024 .f32 fun _ _ => 0 := by
  unfold k8_pay6
  dsimp only
  rw [b0_up]
theorem p88_up : k8_pay8 (F := Ideal) (up 416 1024 .f32 f) (up 416 1024 .f32 g) = up 1 1024 .f32 (dgR 416 f g) := by
  unfold k8_pay8
  dsimp only
  rw [p84_up, p83_up, mul_up, cols416_up]
  rfl
theorem p81_up : k8_pay1 (F := Ideal) (k8_pay7 (F := Ideal) (up 1 1024 .f32 f)) (up 1 1024 .f32 g) = up 1 1024 .f32 fun r k => f r k + g r k := by
  unfold k8_pay1 k8_pay7
  dsimp only
  rw [same_up, add_up]
end Payloads

end Cert.Proof.Ffn
-- ==== Proof.FfnBlocks.lean ====
module

public import proofs.«01_k».proof.Proof.FfnReal
public import proofs.«01_k».proof.Proof.FfnRun
public import proofs.«01_k».proof.Proof.Windows

@[expose] public section

set_option maxRecDepth 65536

noncomputable section

/-! Which entries of its array each window of the nine calls holds at a point. -/

namespace Cert.Proof.Ffn

open Cert.Kernel2Ideal Cert.Kernel2Ideal.Gen
open Idealize.ShloMosaic Idealize.ShloMosaic.TcCoe Idealize.SL.Sem
open Finset
open Cert.Proof.Windows (emb_at in_slice mem_at)

/-- A block of an array, by its first row and column. -/
def blkAt (f : ℕ → ℕ → ℝ) (I J : ℕ) (r l : ℕ) : ℝ := f (I + r) (J + l)

theorem idx0_0 : ∀ t : Fin grid0.N, cc0_transform_0 (grid0.coords t) = ![t.val, 0] := by decide +kernel
theorem idx0_1 : ∀ t : Fin grid0.N, cc0_transform_1 (grid0.coords t) = ![0, 0] := by decide +kernel
theorem idx0_2 : ∀ t : Fin grid0.N, cc0_transform_2 (grid0.coords t) = ![t.val, 0] := by decide +kernel
theorem idx1_0 : ∀ t : Fin grid1.N, cc1_transform_0 (grid1.coords t) = ![t.val % 13, 0] := by decide +kernel
theorem idx1_1 : ∀ t : Fin grid1.N, cc1_transform_1 (grid1.coords t) = ![0, t.val / 13] := by decide +kernel
theorem idx1_2 : ∀ t : Fin grid1.N, cc1_transform_2 (grid1.coords t) = ![t.val % 13, 0] := by decide +kernel
theorem idx1_3 : ∀ t : Fin grid1.N, cc1_transform_3 (grid1.coords t) = ![0, t.val / 13] := by decide +kernel
theorem idx1_4 : ∀ t : Fin grid1.N, cc1_transform_4 (grid1.coords t) = ![t.val % 13, t.val / 13] := by decide +kernel
theorem idx1_5 : ∀ t : Fin grid1.N, cc1_transform_5 (grid1.coords t) = ![t.val % 13, t.val / 13] := by decide +kernel
theorem idx1_6 : ∀ t : Fin grid1.N, cc1_transform_6 (grid1.coords t) = ![t.val % 13, t.val / 13] := by decide +kernel
theorem idx2_0 : ∀ t : Fin grid2.N, cc2_transform_0 (grid2.coords t) = ![t.val, 0] := by decide +kernel
theorem idx2_1 : ∀ t : Fin grid2.N, cc2_transform_1 (grid2.coords t) = ![0, 0] := by decide +kernel
theorem idx2_2 : ∀ t : Fin grid2.N, cc2_transform_2 (grid2.coords t) = ![t.val, 0] := by decide +kernel
theorem idx2_3 : ∀ t : Fin grid2.N, cc2_transform_3 (grid2.coords t) = ![t.val, 0] := by decide +kernel
theorem idx3_0 : ∀ t : Fin grid3.N, cc3_transform_0 (grid3.coords t) = ![t.val % 13, 0] := by decide +kernel
theorem idx3_1 : ∀ t : Fin grid3.N, cc3_transform_1 (grid3.coords t) = ![t.val / 13, 0] := by decide +kernel
theorem idx3_2 : ∀ t : Fin grid3.N, cc3_transform_2 (grid3.coords t) = ![t.val % 13, t.val / 13] := by decide +kernel
theorem idx3_3 : ∀ t : Fin grid3.N, cc3_transform_3 (grid3.coords t) = ![t.val % 13, t.val / 13] := by decide +kernel
theorem idx3_4 : ∀ t : Fin grid3.N, cc3_transform_4 (grid3.coords t) = ![t.val % 13, t.val / 13] := by decide +kernel
theorem idx3_5 : ∀ t : Fin grid3.N, cc3_transform_5 (grid3.coords t) = ![t.val % 13, t.val / 13] := by decide +kernel
theorem idx4_0 : ∀ t : Fin grid4.N, cc4_transform_0 (grid4.coords t) = ![t.val % 13, t.val / 13] := by decide +kernel
theorem idx4_1 : ∀ t : Fin grid4.N, cc4_transform_1 (grid4.coords t) = ![t.val % 13, 0] := by decide +kernel
theorem idx4_2 : ∀ t : Fin grid4.N, cc4_transform_2 (grid4.coords t) = ![t.val / 13, 0] := by decide +kernel
theorem idx5_0 : ∀ t : Fin grid5.N, cc5_transform_0 (grid5.coords t) = ![t.val % 13, 0] := by decide +kernel
theorem idx5_1 : ∀ t : Fin grid5.N, cc5_transform_1 (grid5.coords t) = ![t.val % 13, t.val / 13] := by decide +kernel
theorem idx5_2 : ∀ t : Fin grid5.N, cc5_transform_2 (grid5.coords t) = ![0, t.val / 13] := by decide +kernel
theorem idx6_0 : ∀ t : Fin grid6.N, cc6_transform_0 (grid6.coords t) = ![t.val % 13, 0] := by decide +kernel
theorem idx6_1 : ∀ t : Fin grid6.N, cc6_transform_1 (grid6.coords t) = ![t.val % 13, t.val / 13] := by decide +kernel
theorem idx6_2 : ∀ t : Fin grid6.N, cc6_transform_2 (grid6.coords t) = ![0, t.val / 13] := by decide +kernel
theorem idx7_0 : ∀ t : Fin grid7.N, cc7_transform_0 (grid7.coords t) = ![t.val % 13, 0] := by decide +kernel
theorem idx7_1 : ∀ t : Fin grid7.N, cc7_transform_1 (grid7.coords t) = ![t.val / 13, 0] := by decide +kernel
theorem idx7_2 : ∀ t : Fin grid7.N, cc7_transform_2 (grid7.coords t) = ![t.val % 13, 0] := by decide +kernel
theorem idx7_3 : ∀ t : Fin grid7.N, cc7_transform_3 (grid7.coords t) = ![t.val / 13, 0] := by decide +kernel
theorem idx7_4 : ∀ t : Fin grid7.N, cc7_transform_4 (grid7.coords t) = ![t.val % 13, t.val / 13] := by decide +kernel
theorem idx8_0 : ∀ t : Fin grid8.N, cc8_transform_0 (grid8.coords t) = ![t.val, 0] := by decide +kernel
theorem idx8_1 : ∀ t : Fin grid8.N, cc8_transform_1 (grid8.coords t) = ![t.val, 0] := by decide +kernel
theorem idx8_2 : ∀ t : Fin grid8.N, cc8_transform_2 (grid8.coords t) = ![0, 0] := by decide +kernel
theorem idx8_3 : ∀ t : Fin grid8.N, cc8_transform_3 (grid8.coords t) = ![t.val, 0] := by decide +kernel
theorem idx8_4 : ∀ t : Fin grid8.N, cc8_transform_4 (grid8.coords t) = ![t.val, 0] := by decide +kernel
theorem idx8_5 : ∀ t : Fin grid8.N, cc8_transform_5 (grid8.coords t) = ![0, 0] := by decide +kernel

/-- An array read through indices which lie as far behind a first row and column as the block's own. -/
theorem up_at {R L m n : ℕ} {φ : FTy} {E : Shape.Idx ⟨2, ![m, n]⟩ → Shape.Idx ⟨2, ![R, L]⟩} {o : Fin 2 → ℕ} (f : ℕ → ℕ → ℝ)
    (h : ∀ y a, (E y a).val = o a + (y a).val) : (fun y => up R L φ f (E y)) = up m n φ (blkAt f (o 0) (o 1)) :=
  funext fun y => congrArg₂ (fun p q : ℕ => ((f p q : ℝ) : EReal)) (h y 0) (h y 1)

section Reads
variable (f : ℕ → ℕ → ℝ)

theorem read0_0 (t : Fin cfg0.N) : ((cfg0.win 0).blk t).view.read (Elt Ideal) (up 8320 1024 .f32 f) = up 832 1024 .f32 (blkAt f (t.val * 832) (0 * 1024)) :=
  up_at f (emb_at win0_0 t (idx0_0 t))
theorem read0_1 (t : Fin cfg0.N) : ((cfg0.win 1).blk t).view.read (Elt Ideal) (up 1 1024 .f32 f) = up 1 1024 .f32 (blkAt f (0 * 1) (0 * 1024)) :=
  up_at f (emb_at win0_1 t (idx0_1 t))
theorem read0_2 (t : Fin cfg0.N) : ((cfg0.win 2).blk t).view.read (Elt Ideal) (up 8320 1024 .bf16 f) = up 832 1024 .bf16 (blkAt f (t.val * 832) (0 * 1024)) :=
  up_at f (emb_at win0_2 t (idx0_2 t))
theorem read1_0 (t : Fin cfg1.N) : ((cfg1.win 0).blk t).view.read (Elt Ideal) (up 8320 1024 .bf16 f) = up 640 1024 .bf16 (blkAt f (t.val % 13 * 640) (0 * 1024)) :=
  up_at f (emb_at win1_0 t (idx1_0 t))
theorem read1_1 (t : Fin cfg1.N) : ((cfg1.win 1).blk t).view.read (Elt Ideal) (up 1024 2816 .bf16 f) = up 1024 1408 .bf16 (blkAt f (0 * 1024) (t.val / 13 * 1408)) :=
  up_at f (emb_at win1_1 t (idx1_1 t))
theorem read1_2 (t : Fin cfg1.N) : ((cfg1.win 2).blk t).view.read (Elt Ideal) (up 8320 1024 .bf16 f) = up 640 1024 .bf16 (blkAt f (t.val % 13 * 640) (0 * 1024)) :=
  up_at f (emb_at win1_2 t (idx1_2 t))
theorem read1_3 (t : Fin cfg1.N) : ((cfg1.win 3).blk t).view.read (Elt Ideal) (up 1024 2816 .bf16 f) = up 1024 1408 .bf16 (blkAt f (0 * 1024) (t.val / 13 * 1408)) :=
  up_at f (emb_at win1_3 t (idx1_3 t))
theorem read1_4 (t : Fin cfg1.N) : ((cfg1.win 4).blk t).view.read (Elt Ideal) (up 8320 2816 .bf16 f) = up 640 1408 .bf16 (blkAt f (t.val % 13 * 640) (t.val / 13 * 1408)) :=
  up_at f (emb_at win1_4 t (idx1_4 t))
theorem read1_5 (t : Fin cfg1.N) : ((cfg1.win 5).blk t).view.read (Elt Ideal) (up 8320 2816 .bf16 f) = up 640 1408 .bf16 (blkAt f (t.val % 13 * 640) (t.val / 13 * 1408)) :=
  up_at f (emb_at win1_5 t (idx1_5 t))
theorem read1_6 (t : Fin cfg1.N) : ((cfg1.win 6).blk t).view.read (Elt Ideal) (up 8320 2816 .bf16 f) = up 640 1408 .bf16 (blkAt f (t.val % 13 * 640) (t.val / 13 * 1408)) :=
  up_at f (emb_at win1_6 t (idx1_6 t))
theorem read2_0 (t : Fin cfg2.N) : ((cfg2.win 0).blk t).view.read (Elt Ideal) (up 8320 2816 .bf16 f) = up 640 2816 .bf16 (blkAt f (t.val * 640) (0 * 2816)) :=
  up_at f (emb_at win2_0 t (idx2_0 t))
theorem read2_1 (t : Fin cfg2.N) : ((cfg2.win 1).blk t).view.read (Elt Ideal) (up 2816 1024 .bf16 f) = up 2816 1024 .bf16 (blkAt f (0 * 2816) (0 * 1024)) :=
  up_at f (emb_at win2_1 t (idx2_1 t))
theorem read2_2 (t : Fin cfg2.N) : ((cfg2.win 2).blk t).view.read (Elt Ideal) (up 8320 1024 .f32 f) = up 640 1024 .f32 (blkAt f (t.val * 640) (0 * 1024)) :=
  up_at f (emb_at win2_2 t (idx2_2 t))
theorem read2_3 (t : Fin cfg2.N) : ((cfg2.win 3).blk t).view.read (Elt Ideal) (up 8320 1024 .f32 f) = up 640 1024 .f32 (blkAt f (t.val * 640) (0 * 1024)) :=
  up_at f (emb_at win2_3 t (idx2_3 t))
theorem read3_0 (t : Fin cfg3.N) : ((cfg3.win 0).blk t).view.read (Elt Ideal) (up 8320 1024 .f32 f) = up 640 1024 .f32 (blkAt f (t.val % 13 * 640) (0 * 1024)) :=
  up_at f (emb_at win3_0 t (idx3_0 t))
theorem read3_1 (t : Fin cfg3.N) : ((cfg3.win 1).blk t).view.read (Elt Ideal) (up 2816 1024 .bf16 f) = up 1408 1024 .bf16 (blkAt f (t.val / 13 * 1408) (0 * 1024)) :=
  up_at f (emb_at win3_1 t (idx3_1 t))
theorem read3_2 (t : Fin cfg3.N) : ((cfg3.win 2).blk t).view.read (Elt Ideal) (up 8320 2816 .bf16 f) = up 640 1408 .bf16 (blkAt f (t.val % 13 * 640) (t.val / 13 * 1408)) :=
  up_at f (emb_at win3_2 t (idx3_2 t))
theorem read3_3 (t : Fin cfg3.N) : ((cfg3.win 3).blk t).view.read (Elt Ideal) (up 8320 2816 .bf16 f) = up 640 1408 .bf16 (blkAt f (t.val % 13 * 640) (t.val / 13 * 1408)) :=
  up_at f (emb_at win3_3 t (idx3_3 t))
theorem read3_4 (t : Fin cfg3.N) : ((cfg3.win 4).blk t).view.read (Elt Ideal) (up 8320 2816 .bf16 f) = up 640 1408 .bf16 (blkAt f (t.val % 13 * 640) (t.val / 13 * 1408)) :=
  up_at f (emb_at win3_4 t (idx3_4 t))
theorem read3_5 (t : Fin cfg3.N) : ((cfg3.win 5).blk t).view.read (Elt Ideal) (up 8320 2816 .bf16 f) = up 640 1408 .bf16 (blkAt f (t.val % 13 * 640) (t.val / 13 * 1408)) :=
  up_at f (emb_at win3_5 t (idx3_5 t))
theorem read4_0 (t : Fin cfg4.N) : ((cfg4.win 0).blk t).view.read (Elt Ideal) (up 8320 2816 .bf16 f) = up 640 1408 .bf16 (blkAt f (t.val % 13 * 640) (t.val / 13 * 1408)) :=
  up_at f (emb_at win4_0 t (idx4_0 t))
theorem read4_1 (t : Fin cfg4.N) : ((cfg4.win 1).blk t).view.read (Elt Ideal) (up 8320 1024 .f32 f) = up 640 1024 .f32 (blkAt f (t.val % 13 * 640) (0 * 1024)) :=
  up_at f (emb_at win4_1 t (idx4_1 t))
theorem read4_2 (t : Fin cfg4.N) : ((cfg4.win 2).blk t).view.read (Elt Ideal) (up 2816 1024 .f32 f) = up 1408 1024 .f32 (blkAt f (t.val / 13 * 1408) (0 * 1024)) :=
  up_at f (emb_at win4_2 t (idx4_2 t))
theorem read5_0 (t : Fin cfg5.N) : ((cfg5.win 0).blk t).view.read (Elt Ideal) (up 8320 1024 .bf16 f) = up 640 1024 .bf16 (blkAt f (t.val % 13 * 640) (0 * 1024)) :=
  up_at f (emb_at win5_0 t (idx5_0 t))
theorem read5_1 (t : Fin cfg5.N) : ((cfg5.win 1).blk t).view.read (Elt Ideal) (up 8320 2816 .bf16 f) = up 640 1408 .bf16 (blkAt f (t.val % 13 * 640) (t.val / 13 * 1408)) :=
  up_at f (emb_at win5_1 t (idx5_1 t))
theorem read5_2 (t : Fin cfg5.N) : ((cfg5.win 2).blk t).view.read (Elt Ideal) (up 1024 2816 .f32 f) = up 1024 1408 .f32 (blkAt f (0 * 1024) (t.val / 13 * 1408)) :=
  up_at f (emb_at win5_2 t (idx5_2 t))
theorem read6_0 (t : Fin cfg6.N) : ((cfg6.win 0).blk t).view.read (Elt Ideal) (up 8320 1024 .bf16 f) = up 640 1024 .bf16 (blkAt f (t.val % 13 * 640) (0 * 1024)) :=
  up_at f (emb_at win6_0 t (idx6_0 t))
theorem read6_1 (t : Fin cfg6.N) : ((cfg6.win 1).blk t).view.read (Elt Ideal) (up 8320 2816 .bf16 f) = up 640 1408 .bf16 (blkAt f (t.val % 13 * 640) (t.val / 13 * 1408)) :=
  up_at f (emb_at win6_1 t (idx6_1 t))
theorem read6_2 (t : Fin cfg6.N) : ((cfg6.win 2).blk t).view.read (Elt Ideal) (up 1024 2816 .f32 f) = up 1024 1408 .f32 (blkAt f (0 * 1024) (t.val / 13 * 1408)) :=
  up_at f (emb_at win6_2 t (idx6_2 t))
theorem read7_0 (t : Fin cfg7.N) : ((cfg7.win 0).blk t).view.read (Elt Ideal) (up 8320 2816 .bf16 f) = up 640 2816 .bf16 (blkAt f (t.val % 13 * 640) (0 * 2816)) :=
  up_at f (emb_at win7_0 t (idx7_0 t))
theorem read7_1 (t : Fin cfg7.N) : ((cfg7.win 1).blk t).view.read (Elt Ideal) (up 1024 2816 .bf16 f) = up 512 2816 .bf16 (blkAt f (t.val / 13 * 512) (0 * 2816)) :=
  up_at f (emb_at win7_1 t (idx7_1 t))
theorem read7_2 (t : Fin cfg7.N) : ((cfg7.win 2).blk t).view.read (Elt Ideal) (up 8320 2816 .bf16 f) = up 640 2816 .bf16 (blkAt f (t.val % 13 * 640) (0 * 2816)) :=
  up_at f (emb_at win7_2 t (idx7_2 t))
theorem read7_3 (t : Fin cfg7.N) : ((cfg7.win 3).blk t).view.read (Elt Ideal) (up 1024 2816 .bf16 f) = up 512 2816 .bf16 (blkAt f (t.val / 13 * 512) (0 * 2816)) :=
  up_at f (emb_at win7_3 t (idx7_3 t))
theorem read7_4 (t : Fin cfg7.N) : ((cfg7.win 4).blk t).view.read (Elt Ideal) (up 8320 1024 .f32 f) = up 640 512 .f32 (blkAt f (t.val % 13 * 640) (t.val / 13 * 512)) :=
  up_at f (emb_at win7_4 t (idx7_4 t))
theorem read8_0 (t : Fin cfg8.N) : ((cfg8.win 0).blk t).view.read (Elt Ideal) (up 8320 1024 .f32 f) = up 416 1024 .f32 (blkAt f (t.val * 416) (0 * 1024)) :=
  up_at f (emb_at win8_0 t (idx8_0 t))
theorem read8_1 (t : Fin cfg8.N) : ((cfg8.win 1).blk t).view.read (Elt Ideal) (up 8320 1024 .f32 f) = up 416 1024 .f32 (blkAt f (t.val * 416) (0 * 1024)) :=
  up_at f (emb_at win8_1 t (idx8_1 t))
theorem read8_2 (t : Fin cfg8.N) : ((cfg8.win 2).blk t).view.read (Elt Ideal) (up 1 1024 .f32 f) = up 1 1024 .f32 (blkAt f (0 * 1) (0 * 1024)) :=
  up_at f (emb_at win8_2 t (idx8_2 t))
theorem read8_3 (t : Fin cfg8.N) : ((cfg8.win 3).blk t).view.read (Elt Ideal) (up 8320 1024 .f32 f) = up 416 1024 .f32 (blkAt f (t.val * 416) (0 * 1024)) :=
  up_at f (emb_at win8_3 t (idx8_3 t))
theorem read8_4 (t : Fin cfg8.N) : ((cfg8.win 4).blk t).view.read (Elt Ideal) (up 8320 1024 .f32 f) = up 416 1024 .f32 (blkAt f (t.val * 416) (0 * 1024)) :=
  up_at f (emb_at win8_4 t (idx8_4 t))
theorem read8_5 (t : Fin cfg8.N) : ((cfg8.win 5).blk t).view.read (Elt Ideal) (up 1 1024 .f32 f) = up 1 1024 .f32 (blkAt f (0 * 1) (0 * 1024)) :=
  up_at f (emb_at win8_5 t (idx8_5 t))

end Reads

theorem cover0_2 (i : S8320x1024.Idx) : ∃ t : Fin cfg0.N, (cfg0.win 2).flush t = true ∧ i ∈ ((cfg0.win 2).blk t).view.set := by
  have h0 : (i 0).val < 8320 := (i 0).isLt
  have h1 : (i 1).val < 1024 := (i 1).isLt
  have hN : cfg0.N = 10 := N_0
  exact ⟨⟨(i 0).val / 832, by omega⟩, flush0_2 _,
    in_slice (mem_at win0_2 _ i (idx0_2 _) (Fin.forall_fin_two.mpr ⟨(by omega : ((i 0).val / 832) * 832 ≤ (i 0).val ∧ (i 0).val < ((i 0).val / 832) * 832 + 832),
      (by omega : 0 * 1024 ≤ (i 1).val ∧ (i 1).val < 0 * 1024 + 1024)⟩))⟩
theorem cover1_4 (i : S8320x2816.Idx) : ∃ t : Fin cfg1.N, (cfg1.win 4).flush t = true ∧ i ∈ ((cfg1.win 4).blk t).view.set := by
  have h0 : (i 0).val < 8320 := (i 0).isLt
  have h1 : (i 1).val < 2816 := (i 1).isLt
  have hN : cfg1.N = 26 := N_1
  exact ⟨⟨(i 1).val / 1408 * 13 + (i 0).val / 640, by omega⟩, flush1_4 _,
    in_slice (mem_at win1_4 _ i (idx1_4 _) (Fin.forall_fin_two.mpr ⟨(by omega : ((i 1).val / 1408 * 13 + (i 0).val / 640) % 13 * 640 ≤ (i 0).val ∧ (i 0).val < ((i 1).val / 1408 * 13 + (i 0).val / 640) % 13 * 640 + 640),
      (by omega : ((i 1).val / 1408 * 13 + (i 0).val / 640) / 13 * 1408 ≤ (i 1).val ∧ (i 1).val < ((i 1).val / 1408 * 13 + (i 0).val / 640) / 13 * 1408 + 1408)⟩))⟩
theorem cover1_5 (i : S8320x2816.Idx) : ∃ t : Fin cfg1.N, (cfg1.win 5).flush t = true ∧ i ∈ ((cfg1.win 5).blk t).view.set := by
  have h0 : (i 0).val < 8320 := (i 0).isLt
  have h1 : (i 1).val < 2816 := (i 1).isLt
  have hN : cfg1.N = 26 := N_1
  exact ⟨⟨(i 1).val / 1408 * 13 + (i 0).val / 640, by omega⟩, flush1_5 _,
    in_slice (mem_at win1_5 _ i (idx1_5 _) (Fin.forall_fin_two.mpr ⟨(by omega : ((i 1).val / 1408 * 13 + (i 0).val / 640) % 13 * 640 ≤ (i 0).val ∧ (i 0).val < ((i 1).val / 1408 * 13 + (i 0).val / 640) % 13 * 640 + 640),
      (by omega : ((i 1).val / 1408 * 13 + (i 0).val / 640) / 13 * 1408 ≤ (i 1).val ∧ (i 1).val < ((i 1).val / 1408 * 13 + (i 0).val / 640) / 13 * 1408 + 1408)⟩))⟩
theorem cover1_6 (i : S8320x2816.Idx) : ∃ t : Fin cfg1.N, (cfg1.win 6).flush t = true ∧ i ∈ ((cfg1.win 6).blk t).view.set := by
  have h0 : (i 0).val < 8320 := (i 0).isLt
  have h1 : (i 1).val < 2816 := (i 1).isLt
  have hN : cfg1.N = 26 := N_1
  exact ⟨⟨(i 1).val / 1408 * 13 + (i 0).val / 640, by omega⟩, flush1_6 _,
    in_slice (mem_at win1_6 _ i (idx1_6 _) (Fin.forall_fin_two.mpr ⟨(by omega : ((i 1).val / 1408 * 13 + (i 0).val / 640) % 13 * 640 ≤ (i 0).val ∧ (i 0).val < ((i 1).val / 1408 * 13 + (i 0).val / 640) % 13 * 640 + 640),
      (by omega : ((i 1).val / 1408 * 13 + (i 0).val / 640) / 13 * 1408 ≤ (i 1).val ∧ (i 1).val < ((i 1).val / 1408 * 13 + (i 0).val / 640) / 13 * 1408 + 1408)⟩))⟩
theorem cover2_3 (i : S8320x1024.Idx) : ∃ t : Fin cfg2.N, (cfg2.win 3).flush t = true ∧ i ∈ ((cfg2.win 3).blk t).view.set := by
  have h0 : (i 0).val < 8320 := (i 0).isLt
  have h1 : (i 1).val < 1024 := (i 1).isLt
  have hN : cfg2.N = 13 := N_2
  exact ⟨⟨(i 0).val / 640, by omega⟩, flush2_3 _,
    in_slice (mem_at win2_3 _ i (idx2_3 _) (Fin.forall_fin_two.mpr ⟨(by omega : ((i 0).val / 640) * 640 ≤ (i 0).val ∧ (i 0).val < ((i 0).val / 640) * 640 + 640),
      (by omega : 0 * 1024 ≤ (i 1).val ∧ (i 1).val < 0 * 1024 + 1024)⟩))⟩
theorem cover3_4 (i : S8320x2816.Idx) : ∃ t : Fin cfg3.N, (cfg3.win 4).flush t = true ∧ i ∈ ((cfg3.win 4).blk t).view.set := by
  have h0 : (i 0).val < 8320 := (i 0).isLt
  have h1 : (i 1).val < 2816 := (i 1).isLt
  have hN : cfg3.N = 26 := N_3
  exact ⟨⟨(i 1).val / 1408 * 13 + (i 0).val / 640, by omega⟩, flush3_4 _,
    in_slice (mem_at win3_4 _ i (idx3_4 _) (Fin.forall_fin_two.mpr ⟨(by omega : ((i 1).val / 1408 * 13 + (i 0).val / 640) % 13 * 640 ≤ (i 0).val ∧ (i 0).val < ((i 1).val / 1408 * 13 + (i 0).val / 640) % 13 * 640 + 640),
      (by omega : ((i 1).val / 1408 * 13 + (i 0).val / 640) / 13 * 1408 ≤ (i 1).val ∧ (i 1).val < ((i 1).val / 1408 * 13 + (i 0).val / 640) / 13 * 1408 + 1408)⟩))⟩
theorem cover3_5 (i : S8320x2816.Idx) : ∃ t : Fin cfg3.N, (cfg3.win 5).flush t = true ∧ i ∈ ((cfg3.win 5).blk t).view.set := by
  have h0 : (i 0).val < 8320 := (i 0).isLt
  have h1 : (i 1).val < 2816 := (i 1).isLt
  have hN : cfg3.N = 26 := N_3
  exact ⟨⟨(i 1).val / 1408 * 13 + (i 0).val / 640, by omega⟩, flush3_5 _,
    in_slice (mem_at win3_5 _ i (idx3_5 _) (Fin.forall_fin_two.mpr ⟨(by omega : ((i 1).val / 1408 * 13 + (i 0).val / 640) % 13 * 640 ≤ (i 0).val ∧ (i 0).val < ((i 1).val / 1408 * 13 + (i 0).val / 640) % 13 * 640 + 640),
      (by omega : ((i 1).val / 1408 * 13 + (i 0).val / 640) / 13 * 1408 ≤ (i 1).val ∧ (i 1).val < ((i 1).val / 1408 * 13 + (i 0).val / 640) / 13 * 1408 + 1408)⟩))⟩
theorem cover4_2 (i : S2816x1024.Idx) : ∃ t : Fin cfg4.N, (cfg4.win 2).flush t = true ∧ i ∈ ((cfg4.win 2).blk t).view.set := by
  have h0 : (i 0).val < 2816 := (i 0).isLt
  have h1 : (i 1).val < 1024 := (i 1).isLt
  have hN : cfg4.N = 26 := N_4
  exact ⟨⟨(i 0).val / 1408 * 13 + 12, by omega⟩, (flush4_2 _).mpr (by dsimp only; omega),
    in_slice (mem_at win4_2 _ i (idx4_2 _) (Fin.forall_fin_two.mpr ⟨(by omega : ((i 0).val / 1408 * 13 + 12) / 13 * 1408 ≤ (i 0).val ∧ (i 0).val < ((i 0).val / 1408 * 13 + 12) / 13 * 1408 + 1408),
      (by omega : 0 * 1024 ≤ (i 1).val ∧ (i 1).val < 0 * 1024 + 1024)⟩))⟩
theorem cover5_2 (i : S1024x2816.Idx) : ∃ t : Fin cfg5.N, (cfg5.win 2).flush t = true ∧ i ∈ ((cfg5.win 2).blk t).view.set := by
  have h0 : (i 0).val < 1024 := (i 0).isLt
  have h1 : (i 1).val < 2816 := (i 1).isLt
  have hN : cfg5.N = 26 := N_5
  exact ⟨⟨(i 1).val / 1408 * 13 + 12, by omega⟩, (flush5_2 _).mpr (by dsimp only; omega),
    in_slice (mem_at win5_2 _ i (idx5_2 _) (Fin.forall_fin_two.mpr ⟨(by omega : 0 * 1024 ≤ (i 0).val ∧ (i 0).val < 0 * 1024 + 1024),
      (by omega : ((i 1).val / 1408 * 13 + 12) / 13 * 1408 ≤ (i 1).val ∧ (i 1).val < ((i 1).val / 1408 * 13 + 12) / 13 * 1408 + 1408)⟩))⟩
theorem cover6_2 (i : S1024x2816.Idx) : ∃ t : Fin cfg6.N, (cfg6.win 2).flush t = true ∧ i ∈ ((cfg6.win 2).blk t).view.set := by
  have h0 : (i 0).val < 1024 := (i 0).isLt
  have h1 : (i 1).val < 2816 := (i 1).isLt
  have hN : cfg6.N = 26 := N_6
  exact ⟨⟨(i 1).val / 1408 * 13 + 12, by omega⟩, (flush6_2 _).mpr (by dsimp only; omega),
    in_slice (mem_at win6_2 _ i (idx6_2 _) (Fin.forall_fin_two.mpr ⟨(by omega : 0 * 1024 ≤ (i 0).val ∧ (i 0).val < 0 * 1024 + 1024),
      (by omega : ((i 1).val / 1408 * 13 + 12) / 13 * 1408 ≤ (i 1).val ∧ (i 1).val < ((i 1).val / 1408 * 13 + 12) / 13 * 1408 + 1408)⟩))⟩
theorem cover7_4 (i : S8320x1024.Idx) : ∃ t : Fin cfg7.N, (cfg7.win 4).flush t = true ∧ i ∈ ((cfg7.win 4).blk t).view.set := by
  have h0 : (i 0).val < 8320 := (i 0).isLt
  have h1 : (i 1).val < 1024 := (i 1).isLt
  have hN : cfg7.N = 26 := N_7
  exact ⟨⟨(i 1).val / 512 * 13 + (i 0).val / 640, by omega⟩, flush7_4 _,
    in_slice (mem_at win7_4 _ i (idx7_4 _) (Fin.forall_fin_two.mpr ⟨(by omega : ((i 1).val / 512 * 13 + (i 0).val / 640) % 13 * 640 ≤ (i 0).val ∧ (i 0).val < ((i 1).val / 512 * 13 + (i 0).val / 640) % 13 * 640 + 640),
      (by omega : ((i 1).val / 512 * 13 + (i 0).val / 640) / 13 * 512 ≤ (i 1).val ∧ (i 1).val < ((i 1).val / 512 * 13 + (i 0).val / 640) / 13 * 512 + 512)⟩))⟩
theorem cover8_4 (i : S8320x1024.Idx) : ∃ t : Fin cfg8.N, (cfg8.win 4).flush t = true ∧ i ∈ ((cfg8.win 4).blk t).view.set := by
  have h0 : (i 0).val < 8320 := (i 0).isLt
  have h1 : (i 1).val < 1024 := (i 1).isLt
  have hN : cfg8.N = 20 := N_8
  exact ⟨⟨(i 0).val / 416, by omega⟩, flush8_4 _,
    in_slice (mem_at win8_4 _ i (idx8_4 _) (Fin.forall_fin_two.mpr ⟨(by omega : ((i 0).val / 416) * 416 ≤ (i 0).val ∧ (i 0).val < ((i 0).val / 416) * 416 + 416),
      (by omega : 0 * 1024 ≤ (i 1).val ∧ (i 1).val < 0 * 1024 + 1024)⟩))⟩
theorem cover8_5 (i : S1x1024.Idx) : ∃ t : Fin cfg8.N, (cfg8.win 5).flush t = true ∧ i ∈ ((cfg8.win 5).blk t).view.set := by
  have h0 : (i 0).val < 1 := (i 0).isLt
  have h1 : (i 1).val < 1024 := (i 1).isLt
  have hN : cfg8.N = 20 := N_8
  exact ⟨⟨19, by omega⟩, (flush8_5 _).mpr rfl,
    in_slice (mem_at win8_5 ⟨19, by decide⟩ i (idx8_5 ⟨19, by decide⟩) (Fin.forall_fin_two.mpr ⟨(by omega : 0 * 1 ≤ (i 0).val ∧ (i 0).val < 0 * 1 + 1),
      (by omega : 0 * 1024 ≤ (i 1).val ∧ (i 1).val < 0 * 1024 + 1024)⟩))⟩

end Cert.Proof.Ffn
-- ==== Proof.FfnArrays.lean ====
module

public import proofs.«01_k».proof.Proof.FfnBlocks
public import proofs.«01_k».proof.Proof.FfnLaunch

@[expose] public section

set_option maxRecDepth 65536

noncomputable section

/-! What the nine calls leave in their result arrays, on real numbers. -/

namespace Cert.Proof.Ffn

open Cert.Kernel2Ideal Cert.Kernel2Ideal.Gen
open Idealize.ShloMosaic Idealize.ShloMosaic.TcCoe Idealize.SL.Sem
open Finset
open Cert.Proof.Steps (isFirst first_iff)
open Cert.Proof.Windows (sum_at)

/-! ### Blocks of the real functions -/

section Blocks
variable (A B : ℕ → ℕ → ℝ) (I J K : ℕ)

theorem xn_blk (H G : ℕ → ℕ → ℝ) : xn (blkAt H I (0 * 1024)) (blkAt G (0 * 1) (0 * 1024)) = blkAt (xn H G) I (0 * 1024) := by
  funext r k
  simp only [xn, xh, rs, vr, blkAt, Nat.zero_mul, Nat.zero_add]
theorem nn_blk : nn K (blkAt A I (0 * K)) (blkAt B (0 * K) J) = blkAt (nn K A B) I J := by
  funext r k
  simp only [nn, blkAt, Nat.zero_mul, Nat.zero_add]
theorem nt_blk : nt K (blkAt A I (0 * K)) (blkAt B J (0 * K)) = blkAt (nt K A B) I J := by
  funext r k
  simp only [nt, blkAt, Nat.zero_mul, Nat.zero_add]
theorem dh_blk (H X G D : ℕ → ℕ → ℝ) : dhR (blkAt H I (0 * 1024)) (blkAt X I (0 * 1024)) (blkAt G (0 * 1) (0 * 1024)) (blkAt D I (0 * 1024)) = blkAt (dhR H X G D) I (0 * 1024) := by
  funext r k
  simp only [dhR, xh, rs, vr, blkAt, Nat.zero_mul, Nat.zero_add]
theorem tn_first : tn 640 (blkAt A (0 * 640) I) (blkAt B (0 * 640) J) = blkAt (tn ((0 + 1) * 640) A B) I J := by
  funext r k
  simp only [tn, blkAt, Nat.zero_mul, Nat.zero_add, Nat.one_mul]
theorem tn_next (s : ℕ) : (fun r n => blkAt (tn (s * 640) A B) I J r n + tn 640 (blkAt A (s * 640) I) (blkAt B (s * 640) J) r n) = blkAt (tn ((s + 1) * 640) A B) I J := by
  funext r k
  simp only [tn, blkAt]
  rw [Nat.succ_mul, sum_range_add]
theorem dg_next (H X : ℕ → ℕ → ℝ) (s : ℕ) : (fun r k => dgR (s * 416) H X r k + dgR 416 (blkAt H (s * 416) (0 * 1024)) (blkAt X (s * 416) (0 * 1024)) r k) = dgR ((s + 1) * 416) H X := by
  funext r k
  simp only [dgR, xh, rs, vr, blkAt, Nat.zero_mul, Nat.zero_add]
  rw [Nat.succ_mul, sum_range_add]
end Blocks

section Real
variable (m : (ℓ : Loc nD τ sig) → Buf (Elt Ideal) ℓ) (c : Dev nD) (H G Wa Wb Wc D : ℕ → ℕ → ℝ)

/-- The gate's operands, -/
def rA (H G W : ℕ → ℕ → ℝ) : ℕ → ℕ → ℝ := nn 1024 (xn H G) W
/-- the gated product, -/
def rAct : ℕ → ℕ → ℝ := act (rA H G Wa) (rA H G Wb)
/-- the gradient of the gated product, -/
def rP (Wc D : ℕ → ℕ → ℝ) : ℕ → ℕ → ℝ := halfR (nt 1024 D Wc)
/-- of the gate's operands, -/
def rDa : ℕ → ℕ → ℝ := daR (rP Wc D) (rA H G Wa) (rA H G Wb)
def rDb (H G Wa Wc D : ℕ → ℕ → ℝ) : ℕ → ℕ → ℝ := dbR (rP Wc D) (rA H G Wa)
/-- of the last weight, -/
def rDw2 (H G Wa Wb D : ℕ → ℕ → ℝ) (r n : ℕ) : ℝ := 1 / 2 * tn 8320 (rAct H G Wa Wb) D r n
/-- and of the normalised rows. -/
def rDx (r n : ℕ) : ℝ := nt 2816 (rDa H G Wa Wb Wc D) Wa r n + nt 2816 (rDb H G Wa Wc D) Wb r n

/-- The six operands hold the given real numbers. -/
def Args : Prop :=
  m ((c : Thread nD τ).loc main_arg0) = up 8320 1024 .f32 H ∧ m ((c : Thread nD τ).loc main_arg1) = up 1 1024 .f32 G
    ∧ m ((c : Thread nD τ).loc main_arg2) = up 1024 2816 .bf16 Wa ∧ m ((c : Thread nD τ).loc main_arg3) = up 1024 2816 .bf16 Wb
    ∧ m ((c : Thread nD τ).loc main_arg4) = up 2816 1024 .bf16 Wc ∧ m ((c : Thread nD τ).loc main_arg5) = up 8320 1024 .f32 D

variable {m c H G Wa Wb Wc D} (h : Args m c H G Wa Wb Wc D)
include h

theorem b0_0 (t : Fin cfg0.N) : blk0 (W0 m) c 0 t = up 832 1024 .f32 (blkAt H (t.val * 832) (0 * 1024)) :=
  (congrArg (((cfg0.win 0).blk t).view.read (Elt Ideal)) h.1).trans (read0_0 _ t)
theorem b0_1 (t : Fin cfg0.N) : blk0 (W0 m) c 1 t = up 1 1024 .f32 (blkAt G (0 * 1) (0 * 1024)) :=
  (congrArg (((cfg0.win 1).blk t).view.read (Elt Ideal)) h.2.1).trans (read0_1 _ t)
theorem o_v0_eq : o_v0 m c = up 8320 1024 .bf16 (xn H G) := by
  refine (dat0 (W0 m) c).arrAt_eq_of_cover 2 (up 8320 1024 .bf16 (xn H G)) (fun t ht => ?_) cover0_2
  rw [read0_2]
  show (cfg0.win 2).cut (grid0.coords t) (k0_pay1 (blk0 (W0 m) c 0 t) (blk0 (W0 m) c 1 t)) = _
  rw [b0_0 h, b0_1 h, p0_up, xn_blk]
  rfl
theorem b1_0 (t : Fin cfg1.N) : blk1 (W1 m) c 0 t = up 640 1024 .bf16 (blkAt (xn H G) (t.val % 13 * 640) (0 * 1024)) :=
  (congrArg (((cfg1.win 0).blk t).view.read (Elt Ideal)) ((U1_v0 m c).trans (o_v0_eq h))).trans (read1_0 _ t)
theorem b1_1 (t : Fin cfg1.N) : blk1 (W1 m) c 1 t = up 1024 1408 .bf16 (blkAt Wa (0 * 1024) (t.val / 13 * 1408)) :=
  (congrArg (((cfg1.win 1).blk t).view.read (Elt Ideal)) ((U1_arg m c main_arg2 (by decide)).trans h.2.2.1)).trans (read1_1 _ t)
theorem b1_2 (t : Fin cfg1.N) : blk1 (W1 m) c 2 t = up 640 1024 .bf16 (blkAt (xn H G) (t.val % 13 * 640) (0 * 1024)) :=
  (congrArg (((cfg1.win 2).blk t).view.read (Elt Ideal)) ((U1_v0 m c).trans (o_v0_eq h))).trans (read1_2 _ t)
theorem b1_3 (t : Fin cfg1.N) : blk1 (W1 m) c 3 t = up 1024 1408 .bf16 (blkAt Wb (0 * 1024) (t.val / 13 * 1408)) :=
  (congrArg (((cfg1.win 3).blk t).view.read (Elt Ideal)) ((U1_arg m c main_arg3 (by decide)).trans h.2.2.2.1)).trans (read1_3 _ t)
theorem o_v1_0_eq : o_v1_0 m c = up 8320 2816 .bf16 (rA H G Wa) := by
  refine (dat1 (W1 m) c).arrAt_eq_of_cover 4 (up 8320 2816 .bf16 (rA H G Wa)) (fun t ht => ?_) cover1_4
  rw [read1_4]
  show (cfg1.win 4).cut (grid1.coords t) (k1_pay3 (blk1 (W1 m) c 0 t) (blk1 (W1 m) c 1 t)) = _
  rw [b1_0 h, b1_1 h, p13_up, nn_blk]
  rfl
theorem o_v1_1_eq : o_v1_1 m c = up 8320 2816 .bf16 (rA H G Wb) := by
  refine (dat1 (W1 m) c).arrAt_eq_of_cover 5 (up 8320 2816 .bf16 (rA H G Wb)) (fun t ht => ?_) cover1_5
  rw [read1_5]
  show (cfg1.win 5).cut (grid1.coords t) (k1_pay4 (blk1 (W1 m) c 2 t) (blk1 (W1 m) c 3 t)) = _
  rw [b1_2 h, b1_3 h, p14_up, nn_blk]
  rfl
theorem o_v1_2_eq : o_v1_2 m c = up 8320 2816 .bf16 (rAct H G Wa Wb) := by
  refine (dat1 (W1 m) c).arrAt_eq_of_cover 6 (up 8320 2816 .bf16 (rAct H G Wa Wb)) (fun t ht => ?_) cover1_6
  rw [read1_6]
  show (cfg1.win 6).cut (grid1.coords t) (k1_pay5 (blk1 (W1 m) c 0 t) (blk1 (W1 m) c 1 t) (blk1 (W1 m) c 2 t) (blk1 (W1 m) c 3 t)) = _
  rw [b1_0 h, b1_1 h, b1_2 h, b1_3 h, p15_up, nn_blk, nn_blk]
  rfl
theorem b2_0 (t : Fin cfg2.N) : blk2 (W2 m) c 0 t = up 640 2816 .bf16 (blkAt (rAct H G Wa Wb) (t.val * 640) (0 * 2816)) :=
  (congrArg (((cfg2.win 0).blk t).view.read (Elt Ideal)) ((U2_v1_2 m c).trans (o_v1_2_eq h))).trans (read2_0 _ t)
theorem b2_1 (t : Fin cfg2.N) : blk2 (W2 m) c 1 t = up 2816 1024 .bf16 (blkAt Wc (0 * 2816) (0 * 1024)) :=
  (congrArg (((cfg2.win 1).blk t).view.read (Elt Ideal)) ((U2_arg m c main_arg4 (by decide)).trans h.2.2.2.2.1)).trans (read2_1 _ t)
theorem b2_2 (t : Fin cfg2.N) : blk2 (W2 m) c 2 t = up 640 1024 .f32 (blkAt H (t.val * 640) (0 * 1024)) :=
  (congrArg (((cfg2.win 2).blk t).view.read (Elt Ideal)) ((U2_arg m c main_arg0 (by decide)).trans h.1)).trans (read2_2 _ t)
theorem o_v2_eq : o_v2 m c = up 8320 1024 .f32 (outR H (nn 2816 (rAct H G Wa Wb) Wc)) := by
  refine (dat2 (W2 m) c).arrAt_eq_of_cover 3 (up 8320 1024 .f32 (outR H (nn 2816 (rAct H G Wa Wb) Wc))) (fun t ht => ?_) cover2_3
  rw [read2_3]
  show (cfg2.win 3).cut (grid2.coords t) (k2_pay1 (blk2 (W2 m) c 0 t) (blk2 (W2 m) c 1 t) (blk2 (W2 m) c 2 t)) = _
  rw [b2_0 h, b2_1 h, b2_2 h, p2_up, nn_blk]
  rfl
theorem b3_0 (t : Fin cfg3.N) : blk3 (W3 m) c 0 t = up 640 1024 .f32 (blkAt D (t.val % 13 * 640) (0 * 1024)) :=
  (congrArg (((cfg3.win 0).blk t).view.read (Elt Ideal)) ((U3_arg m c main_arg5 (by decide)).trans h.2.2.2.2.2)).trans (read3_0 _ t)
theorem b3_1 (t : Fin cfg3.N) : blk3 (W3 m) c 1 t = up 1408 1024 .bf16 (blkAt Wc (t.val / 13 * 1408) (0 * 1024)) :=
  (congrArg (((cfg3.win 1).blk t).view.read (Elt Ideal)) ((U3_arg m c main_arg4 (by decide)).trans h.2.2.2.2.1)).trans (read3_1 _ t)
theorem b3_2 (t : Fin cfg3.N) : blk3 (W3 m) c 2 t = up 640 1408 .bf16 (blkAt (rA H G Wa) (t.val % 13 * 640) (t.val / 13 * 1408)) :=
  (congrArg (((cfg3.win 2).blk t).view.read (Elt Ideal)) ((U3_of m c main_v1_0 (by decide)).trans ((U2_v1_0 m c).trans (o_v1_0_eq h)))).trans (read3_2 _ t)
theorem b3_3 (t : Fin cfg3.N) : blk3 (W3 m) c 3 t = up 640 1408 .bf16 (blkAt (rA H G Wb) (t.val % 13 * 640) (t.val / 13 * 1408)) :=
  (congrArg (((cfg3.win 3).blk t).view.read (Elt Ideal)) ((U3_of m c main_v1_1 (by decide)).trans ((U2_v1_1 m c).trans (o_v1_1_eq h)))).trans (read3_3 _ t)
theorem o_v3_0_eq : o_v3_0 m c = up 8320 2816 .bf16 (rDa H G Wa Wb Wc D) := by
  refine (dat3 (W3 m) c).arrAt_eq_of_cover 4 (up 8320 2816 .bf16 (rDa H G Wa Wb Wc D)) (fun t ht => ?_) cover3_4
  rw [read3_4]
  show (cfg3.win 4).cut (grid3.coords t) (k3_pay4 (blk3 (W3 m) c 0 t) (blk3 (W3 m) c 1 t) (blk3 (W3 m) c 2 t) (blk3 (W3 m) c 3 t)) = _
  rw [b3_0 h, b3_1 h, b3_2 h, b3_3 h, p34_up, nt_blk]
  rfl
theorem o_v3_1_eq : o_v3_1 m c = up 8320 2816 .bf16 (rDb H G Wa Wc D) := by
  refine (dat3 (W3 m) c).arrAt_eq_of_cover 5 (up 8320 2816 .bf16 (rDb H G Wa Wc D)) (fun t ht => ?_) cover3_5
  rw [read3_5]
  show (cfg3.win 5).cut (grid3.coords t) (k3_pay5 (blk3 (W3 m) c 0 t) (blk3 (W3 m) c 1 t) (blk3 (W3 m) c 2 t)) = _
  rw [b3_0 h, b3_1 h, b3_2 h, p35_up, nt_blk]
  rfl
theorem b4_0 (t : Fin cfg4.N) : blk4 (W4 m) c 0 t = up 640 1408 .bf16 (blkAt (rAct H G Wa Wb) (t.val % 13 * 640) (t.val / 13 * 1408)) :=
  (congrArg (((cfg4.win 0).blk t).view.read (Elt Ideal)) ((U4_of m c main_v1_2 (by decide) (by decide)).trans ((U3_of m c main_v1_2 (by decide)).trans ((U2_v1_2 m c).trans (o_v1_2_eq h))))).trans (read4_0 _ t)
theorem b4_1 (t : Fin cfg4.N) : blk4 (W4 m) c 1 t = up 640 1024 .f32 (blkAt D (t.val % 13 * 640) (0 * 1024)) :=
  (congrArg (((cfg4.win 1).blk t).view.read (Elt Ideal)) ((U4_arg m c main_arg5 (by decide)).trans h.2.2.2.2.2)).trans (read4_1 _ t)
theorem scr4_at : ∀ n, n < cfg4.N →
    scr4 (W4 m) c (n + 1) = up 1408 1024 .f32 (blkAt (tn ((n % 13 + 1) * 640) (rAct H G Wa Wb) D) (n / 13 * 1408) (0 * 1024)) :=
  sum_at 13 (scr4 (W4 m) c) (fun n hn h0 => by
    refine (scr4_succ (W4 m) c ⟨n, hn⟩).trans ?_
    rw [acc4_start ⟨n, hn⟩ h0, b4_0 h, b4_1 h, p42_up]
    dsimp only
    rw [h0, tn_first]) fun n hn h0 p => by
    refine (scr4_succ (W4 m) c ⟨n + 1, hn⟩).trans ?_
    rw [show n / 13 = (n + 1) / 13 by omega, show n % 13 + 1 = (n + 1) % 13 by omega] at p
    rw [acc4_next ⟨n + 1, hn⟩ h0, b4_0 h, b4_1 h]
    dsimp only
    rw [p, p43_up, tn_next]
theorem o_v4_eq : o_v4 m c = up 2816 1024 .f32 (rDw2 H G Wa Wb D) := by
  refine (dat4 (W4 m) c).arrAt_eq_of_cover 2 (up 2816 1024 .f32 (rDw2 H G Wa Wb D)) (fun t ht => ?_) cover4_2
  rw [read4_2]
  have h12 := (flush4_2 t).mp ht
  show (cfg4.win 2).cut (grid4.coords t) (k4_pay4 (scr4 (W4 m) c (t.val + 1))) = _
  rw [scr4_at h t.val t.isLt, p44_up, h12]
  rfl
theorem b5_0 (t : Fin cfg5.N) : blk5 (W5 m) c 0 t = up 640 1024 .bf16 (blkAt (xn H G) (t.val % 13 * 640) (0 * 1024)) :=
  (congrArg (((cfg5.win 0).blk t).view.read (Elt Ideal)) ((U5_of m c main_v0 (by decide)).trans ((U4_of m c main_v0 (by decide) (by decide)).trans ((U3_of m c main_v0 (by decide)).trans ((U2_of m c main_v0 (by decide) (by decide) (by decide)).trans ((U1_v0 m c).trans (o_v0_eq h))))))).trans (read5_0 _ t)
theorem b5_1 (t : Fin cfg5.N) : blk5 (W5 m) c 1 t = up 640 1408 .bf16 (blkAt (rDa H G Wa Wb Wc D) (t.val % 13 * 640) (t.val / 13 * 1408)) :=
  (congrArg (((cfg5.win 1).blk t).view.read (Elt Ideal)) ((U5_of m c main_v3_0 (by decide)).trans ((U4_v3_0 m c).trans (o_v3_0_eq h)))).trans (read5_1 _ t)
theorem scr5_at : ∀ n, n < cfg5.N →
    scr5 (W5 m) c (n + 1) = up 1024 1408 .f32 (blkAt (tn ((n % 13 + 1) * 640) (xn H G) (rDa H G Wa Wb Wc D)) (0 * 1024) (n / 13 * 1408)) :=
  sum_at 13 (scr5 (W5 m) c) (fun n hn h0 => by
    refine (scr5_succ (W5 m) c ⟨n, hn⟩).trans ?_
    rw [acc5_start ⟨n, hn⟩ h0, b5_0 h, b5_1 h, p52_up]
    dsimp only
    rw [h0, tn_first]) fun n hn h0 p => by
    refine (scr5_succ (W5 m) c ⟨n + 1, hn⟩).trans ?_
    rw [show n / 13 = (n + 1) / 13 by omega, show n % 13 + 1 = (n + 1) % 13 by omega] at p
    rw [acc5_next ⟨n + 1, hn⟩ h0, b5_0 h, b5_1 h]
    dsimp only
    rw [p, p53_up, tn_next]
theorem o_v5_eq : o_v5 m c = up 1024 2816 .f32 (tn 8320 (xn H G) (rDa H G Wa Wb Wc D)) := by
  refine (dat5 (W5 m) c).arrAt_eq_of_cover 2 (up 1024 2816 .f32 (tn 8320 (xn H G) (rDa H G Wa Wb Wc D))) (fun t ht => ?_) cover5_2
  rw [read5_2]
  have h12 := (flush5_2 t).mp ht
  show (cfg5.win 2).cut (grid5.coords t) (scr5 (W5 m) c (t.val + 1)) = _
  rw [scr5_at h t.val t.isLt, h12]
  rfl
theorem b6_0 (t : Fin cfg6.N) : blk6 (W6 m) c 0 t = up 640 1024 .bf16 (blkAt (xn H G) (t.val % 13 * 640) (0 * 1024)) :=
  (congrArg (((cfg6.win 0).blk t).view.read (Elt Ideal)) ((U6_of m c main_v0 (by decide)).trans ((U5_of m c main_v0 (by decide)).trans ((U4_of m c main_v0 (by decide) (by decide)).trans ((U3_of m c main_v0 (by decide)).trans ((U2_of m c main_v0 (by decide) (by decide) (by decide)).trans ((U1_v0 m c).trans (o_v0_eq h)))))))).trans (read6_0 _ t)
theorem b6_1 (t : Fin cfg6.N) : blk6 (W6 m) c 1 t = up 640 1408 .bf16 (blkAt (rDb H G Wa Wc D) (t.val % 13 * 640) (t.val / 13 * 1408)) :=
  (congrArg (((cfg6.win 1).blk t).view.read (Elt Ideal)) ((U6_of m c main_v3_1 (by decide)).trans ((U5_of m c main_v3_1 (by decide)).trans ((U4_v3_1 m c).trans (o_v3_1_eq h))))).trans (read6_1 _ t)
theorem scr6_at : ∀ n, n < cfg6.N →
    scr6 (W6 m) c (n + 1) = up 1024 1408 .f32 (blkAt (tn ((n % 13 + 1) * 640) (xn H G) (rDb H G Wa Wc D)) (0 * 1024) (n / 13 * 1408)) :=
  sum_at 13 (scr6 (W6 m) c) (fun n hn h0 => by
    refine (scr6_succ (W6 m) c ⟨n, hn⟩).trans ?_
    rw [acc6_start ⟨n, hn⟩ h0, b6_0 h, b6_1 h, p62_up]
    dsimp only
    rw [h0, tn_first]) fun n hn h0 p => by
    refine (scr6_succ (W6 m) c ⟨n + 1, hn⟩).trans ?_
    rw [show n / 13 = (n + 1) / 13 by omega, show n % 13 + 1 = (n + 1) % 13 by omega] at p
    rw [acc6_next ⟨n + 1, hn⟩ h0, b6_0 h, b6_1 h]
    dsimp only
    rw [p, p63_up, tn_next]
theorem o_v6_eq : o_v6 m c = up 1024 2816 .f32 (tn 8320 (xn H G) (rDb H G Wa Wc D)) := by
  refine (dat6 (W6 m) c).arrAt_eq_of_cover 2 (up 1024 2816 .f32 (tn 8320 (xn H G) (rDb H G Wa Wc D))) (fun t ht => ?_) cover6_2
  rw [read6_2]
  have h12 := (flush6_2 t).mp ht
  show (cfg6.win 2).cut (grid6.coords t) (scr6 (W6 m) c (t.val + 1)) = _
  rw [scr6_at h t.val t.isLt, h12]
  rfl
theorem b7_0 (t : Fin cfg7.N) : blk7 (W7 m) c 0 t = up 640 2816 .bf16 (blkAt (rDa H G Wa Wb Wc D) (t.val % 13 * 640) (0 * 2816)) :=
  (congrArg (((cfg7.win 0).blk t).view.read (Elt Ideal)) ((U7_of m c main_v3_0 (by decide)).trans ((U6_of m c main_v3_0 (by decide)).trans ((U5_of m c main_v3_0 (by decide)).trans ((U4_v3_0 m c).trans (o_v3_0_eq h)))))).trans (read7_0 _ t)
theorem b7_1 (t : Fin cfg7.N) : blk7 (W7 m) c 1 t = up 512 2816 .bf16 (blkAt Wa (t.val / 13 * 512) (0 * 2816)) :=
  (congrArg (((cfg7.win 1).blk t).view.read (Elt Ideal)) ((U7_arg m c main_arg2 (by decide)).trans h.2.2.1)).trans (read7_1 _ t)
theorem b7_2 (t : Fin cfg7.N) : blk7 (W7 m) c 2 t = up 640 2816 .bf16 (blkAt (rDb H G Wa Wc D) (t.val % 13 * 640) (0 * 2816)) :=
  (congrArg (((cfg7.win 2).blk t).view.read (Elt Ideal)) ((U7_of m c main_v3_1 (by decide)).trans ((U6_of m c main_v3_1 (by decide)).trans ((U5_of m c main_v3_1 (by decide)).trans ((U4_v3_1 m c).trans (o_v3_1_eq h)))))).trans (read7_2 _ t)
theorem b7_3 (t : Fin cfg7.N) : blk7 (W7 m) c 3 t = up 512 2816 .bf16 (blkAt Wb (t.val / 13 * 512) (0 * 2816)) :=
  (congrArg (((cfg7.win 3).blk t).view.read (Elt Ideal)) ((U7_arg m c main_arg3 (by decide)).trans h.2.2.2.1)).trans (read7_3 _ t)
theorem o_v7_eq : o_v7 m c = up 8320 1024 .f32 (rDx H G Wa Wb Wc D) := by
  refine (dat7 (W7 m) c).arrAt_eq_of_cover 4 (up 8320 1024 .f32 (rDx H G Wa Wb Wc D)) (fun t ht => ?_) cover7_4
  rw [read7_4]
  show (cfg7.win 4).cut (grid7.coords t) (k7_pay1 (blk7 (W7 m) c 0 t) (blk7 (W7 m) c 1 t) (blk7 (W7 m) c 2 t) (blk7 (W7 m) c 3 t)) = _
  rw [b7_0 h, b7_1 h, b7_2 h, b7_3 h, p7_up, nt_blk, nt_blk]
  rfl
theorem b8_0 (t : Fin cfg8.N) : blk8 (W8 m) c 0 t = up 416 1024 .f32 (blkAt (rDx H G Wa Wb Wc D) (t.val * 416) (0 * 1024)) :=
  (congrArg (((cfg8.win 0).blk t).view.read (Elt Ideal)) ((U8_v7 m c).trans (o_v7_eq h))).trans (read8_0 _ t)
theorem b8_1 (t : Fin cfg8.N) : blk8 (W8 m) c 1 t = up 416 1024 .f32 (blkAt H (t.val * 416) (0 * 1024)) :=
  (congrArg (((cfg8.win 1).blk t).view.read (Elt Ideal)) ((U8_arg m c main_arg0 (by decide)).trans h.1)).trans (read8_1 _ t)
theorem b8_2 (t : Fin cfg8.N) : blk8 (W8 m) c 2 t = up 1 1024 .f32 (blkAt G (0 * 1) (0 * 1024)) :=
  (congrArg (((cfg8.win 2).blk t).view.read (Elt Ideal)) ((U8_arg m c main_arg1 (by decide)).trans h.2.1)).trans (read8_2 _ t)
theorem b8_3 (t : Fin cfg8.N) : blk8 (W8 m) c 3 t = up 416 1024 .f32 (blkAt D (t.val * 416) (0 * 1024)) :=
  (congrArg (((cfg8.win 3).blk t).view.read (Elt Ideal)) ((U8_arg m c main_arg5 (by decide)).trans h.2.2.2.2.2)).trans (read8_3 _ t)
theorem row8_at (n : ℕ) : ∀ hn : n < cfg8.N, row8 (W8 m) c (n + 1) = up 1 1024 .f32 (dgR ((n + 1) * 416) H (rDx H G Wa Wb Wc D)) := by
  induction n with
  | zero =>
    intro hn
    refine (row8_succ (W8 m) c ⟨0, hn⟩).trans ?_
    have ec : (grid8.coords ⟨0, hn⟩ 0).val = 0 := by
      rw [Pipeline.Grid.coords_val _ 0 (S := 1) (B := 20) (by decide) rfl, Nat.div_one]
      rfl
    have e : isFirst (grid8.coords ⟨0, hn⟩ 0).val := (first_iff ⟨(grid8.coords ⟨0, hn⟩ 0).val, by rw [ec]; omega⟩).mpr ec
    unfold acc8
    rw [if_pos e, b8_0 h, b8_1 h, p86_up, p88_up, p81_up]
    dsimp only
    rw [← dg_next]
    refine up_congr fun r _ k _ => ?_
    simp only [dgR, Nat.zero_mul, sum_range_zero]
  | succ n ih =>
    intro hn
    refine (row8_succ (W8 m) c ⟨n + 1, hn⟩).trans ?_
    have hN : n + 1 < 20 := lt_of_lt_of_eq hn (show cfg8.N = 20 from N_8)
    have ec : (grid8.coords ⟨n + 1, hn⟩ 0).val = n + 1 := by
      rw [Pipeline.Grid.coords_val _ 0 (S := 1) (B := 20) (by decide) rfl, Nat.div_one]
      exact Nat.mod_eq_of_lt hN
    have e : ¬ isFirst (grid8.coords ⟨n + 1, hn⟩ 0).val := fun e => by
      have := (first_iff ⟨(grid8.coords ⟨n + 1, hn⟩ 0).val, by rw [ec]; omega⟩).mp e
      rw [ec] at this
      omega
    have p := ih (by omega)
    unfold acc8
    rw [if_neg e, b8_0 h, b8_1 h]
    dsimp only
    rw [p, p88_up, p81_up, dg_next]
theorem o_v8_0_eq : o_v8_0 m c = up 8320 1024 .f32 (dhR H (rDx H G Wa Wb Wc D) G D) := by
  refine (dat8 (W8 m) c).arrAt_eq_of_cover 4 (up 8320 1024 .f32 (dhR H (rDx H G Wa Wb Wc D) G D)) (fun t ht => ?_) cover8_4
  rw [read8_4]
  show (cfg8.win 4).cut (grid8.coords t) (k8_pay5 (blk8 (W8 m) c 1 t) (blk8 (W8 m) c 0 t) (blk8 (W8 m) c 2 t) (blk8 (W8 m) c 3 t)) = _
  rw [b8_1 h, b8_0 h, b8_2 h, b8_3 h, p85_up, dh_blk]
  rfl
theorem o_v8_1_eq : o_v8_1 m c = up 1 1024 .f32 (dgR 8320 H (rDx H G Wa Wb Wc D)) := by
  refine (dat8 (W8 m) c).arrAt_eq_of_cover 5 (up 1 1024 .f32 (dgR 8320 H (rDx H G Wa Wb Wc D))) (fun t ht => ?_) cover8_5
  rw [read8_5]
  have hN : cfg8.N = 20 := N_8
  have h19 : t.val = 19 := by have := (flush8_5 t).mp ht; have := t.isLt; omega
  show (cfg8.win 5).cut (grid8.coords t) (row8 (W8 m) c (t.val + 1)) = _
  rw [row8_at h t.val t.isLt, h19]
  funext y
  show ((dgR ((19 + 1) * 416) H _ (y 0).val (y 1).val : ℝ) : EReal) = ((dgR 8320 H _ (0 * 1 + (y 0).val) (0 * 1024 + (y 1).val) : ℝ) : EReal)
  rw [Nat.zero_mul, Nat.zero_add, Nat.zero_add]

end Real

end Cert.Proof.Ffn
-- ==== Proof.FfnRef.lean ====
module

public import proofs.«01_k».proof.Proof.FfnArrays
public import proofs.«01_k».proof.Proof.Gen.Reference2Ideal.Run

@[expose] public section

set_option maxRecDepth 65536

noncomputable section

/-! What the unblocked feed-forward computation leaves, on real numbers. -/

namespace Cert.Proof.Ffn.Ref

open Cert.Reference2Ideal Cert.Reference2Ideal.Gen Cert.Reference2Ideal.Value
open Idealize.ShloMosaic Idealize.SL.Sem
open Finset

/-! ### Operations on arrays of real entries -/

section Ops
variable {a b : ℕ} {φ : FTy} (f g : ℕ → ℕ → ℝ)

theorem neg_up : Host.negf (up a b φ f) = up a b φ fun r c => 0 - f r c := by
  funext j; exact congrArg Real.toEReal (zero_sub (f (j 0).val (j 1).val)).symm
theorem exp_up : Host.exp (up a b φ f) = up a b φ fun r c => Real.exp (f r c) := rfl
theorem div_up (h : ∀ r c, g r c ≠ 0) : Host.divf (up a b φ f) (up a b φ g) = up a b φ fun r c => f r c / g r c := by
  funext j
  refine (Ideal.div_coe (h _ _) _).trans ?_
  exact (EReal.coe_mul _ _).symm.trans (congrArg _ (mul_one_div _ _))
theorem div1024_up : Host.divf (up a b φ f) (up a b φ fun _ _ => 1024) = up a b φ fun r c => f r c / 1024 :=
  div_up f _ fun _ _ => by norm_num
theorem rsqrt_up (h : ∀ r c, 0 < f r c) : Host.rsqrt (up a b φ f) = up a b φ fun r c => (√(f r c))⁻¹ := by
  funext j
  refine (Ideal.rsqrt_coe _).trans ?_
  rw [if_neg (not_lt.mpr (h _ _).le), if_neg (h _ _).ne']; rfl
theorem ofBits_mhalf : Ideal.ofBits .f32 0xBF000000#32 = ((-(1 / 2) : ℝ) : EReal) := by
  simp [Ideal.ofBits, Ideal.ieee, -EReal.coe_mul, -EReal.coe_neg]; norm_num

variable (s : S_.BroadcastsInDim ⟨2, ![a, b]⟩ ![])
theorem c1_up : broadcastInDim ⟨2, ![a, b]⟩ ![] s (constant (F := Ideal) S_ .f32 0x3F800000#32) = up a b .f32 fun _ _ => 1 := by
  funext j; exact Ideal.ofBits_one_f32
theorem c1024_up : broadcastInDim ⟨2, ![a, b]⟩ ![] s (constant (F := Ideal) S_ .f32 0x44800000#32) = up a b .f32 fun _ _ => 1024 := by
  funext j; exact ofBits_1024
theorem chalf_up : broadcastInDim ⟨2, ![a, b]⟩ ![] s (constant (F := Ideal) S_ .f32 0x3F000000#32) = up a b .f32 fun _ _ => 1 / 2 := by
  funext j; exact ofBits_half
theorem cmhalf_up : broadcastInDim ⟨2, ![a, b]⟩ ![] s (constant (F := Ideal) S_ .f32 0xBF000000#32) = up a b .f32 fun _ _ => -(1 / 2) := by
  funext j; exact ofBits_mhalf
theorem ceps_up : broadcastInDim ⟨2, ![a, b]⟩ ![] s (constant (F := Ideal) S_ .f32 0x358637BD#32) = up a b .f32 fun _ _ => epsR := by
  funext j; exact ofBits_eps
end Ops

section Shapes
variable (f g : ℕ → ℕ → ℝ)

/-- The sums of the rows, kept as a column, -/
theorem rows_up : broadcastInDim S8320x1 ![0] bcast_S8320_S8320x1_0 (Host.reduceAdd (up 8320 1024 .f32 f) (constant S_ .f32 0x00000000#32) reducesTo_S8320x1024_S8320_d1 h_S_)
    = up 8320 1 .f32 fun r _ => ∑ k ∈ range 1024, f r k := by
  funext j
  obtain ⟨r, z, rfl⟩ : ∃ (r : Fin 8320) (z : Fin 1), j = ValueIdx.ix2 r z := ⟨j 0, j 1, ValueIdx.eq_ix2 j⟩
  pointwise
  exact sum_up (n := 1024) fun k => f r.val k
/-- or reshaped to one; -/
theorem rows'_up : shapeCast S8320x1 (Host.reduceAdd (up 8320 1024 .f32 f) (constant S_ .f32 0x00000000#32) reducesTo_S8320x1024_S8320_d1 h_S_) shapeCasts_S8320_S8320x1
    = up 8320 1 .f32 fun r _ => ∑ k ∈ range 1024, f r k := by
  funext j
  obtain ⟨r, z, rfl⟩ : ∃ (r : Fin 8320) (z : Fin 1), j = ValueIdx.ix2 r z := ⟨j 0, j 1, ValueIdx.eq_ix2 j⟩
  pointwise
  exact sum_up (n := 1024) fun k => f r.val k
/-- of the columns; -/
theorem cols_up : shapeCast S1x1024 (Host.reduceAdd (up 8320 1024 .f32 f) (constant S_ .f32 0x00000000#32) reducesTo_S8320x1024_S1024_d0 h_S_) shapeCasts_S1024_S1x1024
    = up 1 1024 .f32 fun _ k => ∑ r ∈ range 8320, f r k := by
  funext j
  obtain ⟨z, k, rfl⟩ : ∃ (z : Fin 1) (k : Fin 1024), j = ValueIdx.ix2 z k := ⟨j 0, j 1, ValueIdx.eq_ix2 j⟩
  pointwise
  exact sum_up (n := 8320) fun r => f r k.val
/-- a column spread over the lanes, -/
theorem spread_up : broadcastInDim S8320x1024 ![0, 1] bcast_S8320x1_S8320x1024_0_1 (up 8320 1 .f32 f) = up 8320 1024 .f32 fun r _ => f r 0 := by
  funext j
  obtain ⟨r, k, rfl⟩ : ∃ (r : Fin 8320) (k : Fin 1024), j = ValueIdx.ix2 r k := ⟨j 0, j 1, ValueIdx.eq_ix2 j⟩
  pointwise
  rfl
/-- through its one-entry row sums, -/
theorem spread'_up : broadcastInDim S8320x1024 ![0] bcast_S8320_S8320x1024_0 (Host.reduceAdd (up 8320 1 .f32 f) (constant S_ .f32 0x00000000#32) reducesTo_S8320x1_S8320_d1 h_S_)
    = up 8320 1024 .f32 fun r _ => f r 0 := by
  funext j
  obtain ⟨r, k, rfl⟩ : ∃ (r : Fin 8320) (k : Fin 1024), j = ValueIdx.ix2 r k := ⟨j 0, j 1, ValueIdx.eq_ix2 j⟩
  pointwise
  refine (sum_up (n := 1) fun l => f r.val l).trans (congrArg _ ?_)
  exact sum_range_one _
/-- and a row over the rows. -/
theorem gains_up : broadcastInDim S8320x1024 ![0, 1] bcast_S1x1024_S8320x1024_0_1 (up 1 1024 .f32 f) = up 8320 1024 .f32 fun _ k => f 0 k := by
  funext j
  obtain ⟨r, k, rfl⟩ : ∃ (r : Fin 8320) (k : Fin 1024), j = ValueIdx.ix2 r k := ⟨j 0, j 1, ValueIdx.eq_ix2 j⟩
  pointwise
  rfl
theorem turn1_up : transpose S2816x1024 [1, 0] (up 1024 2816 .f32 f) transposes_S1024x2816_S2816x1024_1_0 = up 2816 1024 .f32 fun r n => f n r := by
  funext j
  obtain ⟨r, n, rfl⟩ : ∃ (r : Fin 2816) (n : Fin 1024), j = ValueIdx.ix2 r n := ⟨j 0, j 1, ValueIdx.eq_ix2 j⟩
  pointwise
  rfl
theorem turn2_up : transpose S1024x2816 [1, 0] (up 2816 1024 .f32 f) transposes_S2816x1024_S1024x2816_1_0 = up 1024 2816 .f32 fun r n => f n r := by
  funext j
  obtain ⟨r, n, rfl⟩ : ∃ (r : Fin 1024) (n : Fin 2816), j = ValueIdx.ix2 r n := ⟨j 0, j 1, ValueIdx.eq_ix2 j⟩
  pointwise
  rfl

/-! ### The products -/

theorem dot1_up : Host.dotGeneral (F := Ideal) (φ₂ := .f32) dot_S8320x1024_S1024x2816_S8320x2816_1_0_0_1_n_n none (up 8320 1024 .f32 f) (up 1024 2816 .f32 g)
    = up 8320 2816 .f32 (nn 1024 f g) := by
  funext j
  obtain ⟨r, n, rfl⟩ : ∃ (r : Fin 8320) (n : Fin 2816), j = ValueIdx.ix2 r n := ⟨j 0, j 1, ValueIdx.eq_ix2 j⟩
  pointwise
  exact Eq.trans (sum_congr rfl fun _ _ => (EReal.coe_mul _ _).symm) (sum_up (n := 1024) fun k => f r.val k * g k n.val)
theorem dot2_up : Host.dotGeneral (F := Ideal) (φ₂ := .f32) dot_S8320x2816_S2816x1024_S8320x1024_1_0_0_1_n_n none (up 8320 2816 .f32 f) (up 2816 1024 .f32 g)
    = up 8320 1024 .f32 (nn 2816 f g) := by
  funext j
  obtain ⟨r, n, rfl⟩ : ∃ (r : Fin 8320) (n : Fin 1024), j = ValueIdx.ix2 r n := ⟨j 0, j 1, ValueIdx.eq_ix2 j⟩
  pointwise
  exact Eq.trans (sum_congr rfl fun _ _ => (EReal.coe_mul _ _).symm) (sum_up (n := 2816) fun k => f r.val k * g k n.val)
theorem dot3_up : Host.dotGeneral (F := Ideal) (φ₂ := .f32) dot_S8320x1024_S8320x2816_S1024x2816_0_0_1_1_n_n none (up 8320 1024 .f32 f) (up 8320 2816 .f32 g)
    = up 1024 2816 .f32 (tn 8320 f g) := by
  funext j
  obtain ⟨r, n, rfl⟩ : ∃ (r : Fin 1024) (n : Fin 2816), j = ValueIdx.ix2 r n := ⟨j 0, j 1, ValueIdx.eq_ix2 j⟩
  pointwise
  exact Eq.trans (sum_congr rfl fun _ _ => (EReal.coe_mul _ _).symm) (sum_up (n := 8320) fun k => f k r.val * g k n.val)
theorem dot4_up : Host.dotGeneral (F := Ideal) (φ₂ := .f32) dot_S8320x1024_S2816x1024_S8320x2816_1_1_0_0_n_n none (up 8320 1024 .f32 f) (up 2816 1024 .f32 g)
    = up 8320 2816 .f32 (nt 1024 f g) := by
  funext j
  obtain ⟨r, n, rfl⟩ : ∃ (r : Fin 8320) (n : Fin 2816), j = ValueIdx.ix2 r n := ⟨j 0, j 1, ValueIdx.eq_ix2 j⟩
  pointwise
  exact Eq.trans (sum_congr rfl fun _ _ => (EReal.coe_mul _ _).symm) (sum_up (n := 1024) fun k => f r.val k * g n.val k)
theorem dot5_up : Host.dotGeneral (F := Ideal) (φ₂ := .f32) dot_S8320x2816_S8320x1024_S2816x1024_0_0_1_1_n_n none (up 8320 2816 .f32 f) (up 8320 1024 .f32 g)
    = up 2816 1024 .f32 (tn 8320 f g) := by
  funext j
  obtain ⟨r, n, rfl⟩ : ∃ (r : Fin 2816) (n : Fin 1024), j = ValueIdx.ix2 r n := ⟨j 0, j 1, ValueIdx.eq_ix2 j⟩
  pointwise
  exact Eq.trans (sum_congr rfl fun _ _ => (EReal.coe_mul _ _).symm) (sum_up (n := 8320) fun k => f k r.val * g k n.val)
theorem dot6_up : Host.dotGeneral (F := Ideal) (φ₂ := .f32) dot_S8320x2816_S1024x2816_S8320x1024_1_1_0_0_n_n none (up 8320 2816 .f32 f) (up 1024 2816 .f32 g)
    = up 8320 1024 .f32 (nt 2816 f g) := by
  funext j
  obtain ⟨r, n, rfl⟩ : ∃ (r : Fin 8320) (n : Fin 1024), j = ValueIdx.ix2 r n := ⟨j 0, j 1, ValueIdx.eq_ix2 j⟩
  pointwise
  exact Eq.trans (sum_congr rfl fun _ _ => (EReal.coe_mul _ _).symm) (sum_up (n := 2816) fun k => f r.val k * g n.val k)
end Shapes

/-! ### The arrays the computation goes through -/

section Terms
variable (h d : FVec Ideal S8320x1024 .f32) (g : FVec Ideal S1x1024 .f32) (w1 w3 : FVec Ideal S1024x2816 .bf16) (w2 : FVec Ideal S2816x1024 .bf16)

def t9 : FVec Ideal S8320x1 .f32 :=
  addf (Host.divf (broadcastInDim S8320x1 ![0] bcast_S8320_S8320x1_0 (Host.reduceAdd (mulf h h) (constant S_ .f32 0x00000000#32) reducesTo_S8320x1024_S8320_d1 h_S_))
    (broadcastInDim S8320x1 ![] bcast_S_S8320x1 (constant S_ .f32 0x44800000#32))) (broadcastInDim S8320x1 ![] bcast_S_S8320x1 (constant S_ .f32 0x358637BD#32))
def t10 : FVec Ideal S8320x1 .f32 := Host.rsqrt (t9 h)
def t13 : FVec Ideal S8320x1 .f32 := mulf (broadcastInDim S8320x1 ![] bcast_S_S8320x1 (constant S_ .f32 0xBF000000#32)) (Host.divf (t10 h) (t9 h))
def t15 : FVec Ideal S8320x1024 .f32 := mulf h (broadcastInDim S8320x1024 ![0, 1] bcast_S8320x1_S8320x1024_0_1 (t10 h))
def t17 : FVec Ideal S8320x1024 .f32 := mulf (t15 h) (broadcastInDim S8320x1024 ![0, 1] bcast_S1x1024_S8320x1024_0_1 g)
def t18 : FVec Ideal S8320x2816 .f32 := Host.dotGeneral (φ₂ := .f32) dot_S8320x1024_S1024x2816_S8320x2816_1_0_0_1_n_n none (t17 h g) (extf .f32 w1 bitsLt_bf16_f32)
def tone : FVec Ideal S8320x2816 .f32 := broadcastInDim S8320x2816 ![] bcast_S_S8320x2816 (constant S_ .f32 0x3F800000#32)
def tsg : FVec Ideal S8320x2816 .f32 := Host.divf tone (addf tone (Host.exp (Host.negf (t18 h g w1))))
def tsl : FVec Ideal S8320x2816 .f32 := mulf (tsg h g w1) (subf tone (tsg h g w1))
def tsx : FVec Ideal S8320x2816 .f32 := mulf (t18 h g w1) (tsg h g w1)
def t21 : FVec Ideal S8320x2816 .f32 := mulf (tsx h g w1) (t18 h g w3)
def t25 : FVec Ideal S8320x1024 .f32 :=
  addf h (mulf (broadcastInDim S8320x1024 ![] bcast_S_S8320x1024 (constant S_ .f32 0x3F000000#32))
    (Host.dotGeneral (φ₂ := .f32) dot_S8320x2816_S2816x1024_S8320x1024_1_0_0_1_n_n none (t21 h g w1 w3) (extf .f32 w2 bitsLt_bf16_f32)))
def t28 : FVec Ideal S8320x1024 .f32 :=
  mulf (broadcastInDim S8320x1024 ![] bcast_S_S8320x1024 (constant S_ .f32 0x3F000000#32)) (shapeCast S8320x1024 d shapeCasts_S8320x1024_S8320x1024)
def t30 : FVec Ideal S2816x1024 .f32 :=
  transpose S2816x1024 [1, 0] (Host.dotGeneral (φ₂ := .f32) dot_S8320x1024_S8320x2816_S1024x2816_0_0_1_1_n_n none (t28 d) (t21 h g w1 w3)) transposes_S1024x2816_S2816x1024_1_0
def t31 : FVec Ideal S8320x2816 .f32 := Host.dotGeneral (φ₂ := .f32) dot_S8320x1024_S2816x1024_S8320x2816_1_1_0_0_n_n none (t28 d) (extf .f32 w2 bitsLt_bf16_f32)
def t32 : FVec Ideal S8320x2816 .f32 := mulf (tsx h g w1) (t31 d w2)
def t33 : FVec Ideal S8320x2816 .f32 := mulf (t31 d w2) (t18 h g w3)
def t35 : FVec Ideal S1024x2816 .f32 :=
  transpose S1024x2816 [1, 0] (Host.dotGeneral (φ₂ := .f32) dot_S8320x2816_S8320x1024_S2816x1024_0_0_1_1_n_n none (t32 h d g w1 w2) (t17 h g)) transposes_S2816x1024_S1024x2816_1_0
def t37 : FVec Ideal S8320x2816 .f32 := addf (mulf (t33 h d g w3 w2) (tsg h g w1)) (mulf (mulf (t18 h g w1) (t33 h d g w3 w2)) (tsl h g w1))
def t39 : FVec Ideal S1024x2816 .f32 :=
  transpose S1024x2816 [1, 0] (Host.dotGeneral (φ₂ := .f32) dot_S8320x2816_S8320x1024_S2816x1024_0_0_1_1_n_n none (t37 h d g w1 w3 w2) (t17 h g)) transposes_S2816x1024_S1024x2816_1_0
def t41 : FVec Ideal S8320x1024 .f32 :=
  addf (Host.dotGeneral (φ₂ := .f32) dot_S8320x2816_S1024x2816_S8320x1024_1_1_0_0_n_n none (t32 h d g w1 w2) (extf .f32 w3 bitsLt_bf16_f32))
    (Host.dotGeneral (φ₂ := .f32) dot_S8320x2816_S1024x2816_S8320x1024_1_1_0_0_n_n none (t37 h d g w1 w3 w2) (extf .f32 w1 bitsLt_bf16_f32))
def t44 : FVec Ideal S1x1024 .f32 :=
  shapeCast S1x1024 (Host.reduceAdd (mulf (t15 h) (t41 h d g w1 w3 w2)) (constant S_ .f32 0x00000000#32) reducesTo_S8320x1024_S1024_d0 h_S_) shapeCasts_S1024_S1x1024
def t46 : FVec Ideal S8320x1024 .f32 := mulf (t41 h d g w1 w3 w2) (broadcastInDim S8320x1024 ![0, 1] bcast_S1x1024_S8320x1024_0_1 g)
def t52 : FVec Ideal S8320x1024 .f32 := addf d (mulf (t46 h d g w1 w3 w2) (broadcastInDim S8320x1024 ![0, 1] bcast_S8320x1_S8320x1024_0_1 (t10 h)))
def t55 : FVec Ideal S8320x1 .f32 :=
  Host.divf (mulf (shapeCast S8320x1 (Host.reduceAdd (mulf h (t46 h d g w1 w3 w2)) (constant S_ .f32 0x00000000#32) reducesTo_S8320x1024_S8320_d1 h_S_) shapeCasts_S8320_S8320x1) (t13 h))
    (broadcastInDim S8320x1 ![] bcast_S_S8320x1 (constant S_ .f32 0x44800000#32))
def t57 : FVec Ideal S8320x1024 .f32 :=
  broadcastInDim S8320x1024 ![0] bcast_S8320_S8320x1024_0 (Host.reduceAdd (t55 h d g w1 w3 w2) (constant S_ .f32 0x00000000#32) reducesTo_S8320x1_S8320_d1 h_S_)
def t61 : FVec Ideal S8320x1024 .f32 :=
  addf (addf (t52 h d g w1 w3 w2) (mulf h (t57 h d g w1 w3 w2))) (mulf (t57 h d g w1 w3 w2) h)
end Terms

section Reals
variable (H G Wa Wb Wc D : ℕ → ℕ → ℝ)

/-- An operand of each kind. -/
abbrev aH : FVec Ideal S8320x1024 .f32 := up 8320 1024 .f32 H
abbrev aG : FVec Ideal S1x1024 .f32 := up 1 1024 .f32 G
abbrev aW : FVec Ideal S1024x2816 .bf16 := up 1024 2816 .bf16 Wa
abbrev aX : FVec Ideal S2816x1024 .bf16 := up 2816 1024 .bf16 Wc

theorem t9_up : t9 (aH H) = up 8320 1 .f32 fun r _ => vr H r := by
  unfold t9
  rw [mul_up, rows_up, c1024_up, div1024_up, ceps_up, add_up]
  rfl
theorem t10_up : t10 (aH H) = up 8320 1 .f32 fun r _ => rs H r := by
  unfold t10
  rw [t9_up, rsqrt_up (fun r _ => vr H r) fun r _ => vr_pos H r]
  rfl
theorem t13_up : t13 (aH H) = up 8320 1 .f32 fun r _ => -(1 / 2) * (rs H r / vr H r) := by
  unfold t13
  rw [t10_up, t9_up, div_up (fun r _ => rs H r) (fun r _ => vr H r) fun r _ => (vr_pos H r).ne', cmhalf_up, mul_up]
theorem t15_up : t15 (aH H) = up 8320 1024 .f32 (xh H) := by
  unfold t15
  rw [t10_up, spread_up, mul_up]
  rfl
theorem t17_up : t17 (aH H) (aG G) = up 8320 1024 .f32 (xn H G) := by
  unfold t17
  rw [t15_up, gains_up, mul_up]
  rfl
theorem t18_up : t18 (aH H) (aG G) (aW Wa) = up 8320 2816 .f32 (rA H G Wa) := by
  unfold t18
  rw [t17_up, ext_up, dot1_up]
  rfl
theorem tone_up : tone = up 8320 2816 .f32 fun _ _ => 1 := c1_up _
theorem tsg_up : tsg (aH H) (aG G) (aW Wa) = up 8320 2816 .f32 fun r n => sg (rA H G Wa r n) := by
  unfold tsg
  rw [t18_up, tone_up, neg_up, exp_up, add_up, div_up _ _ fun _ _ => one_add_exp_ne _]
  rfl
theorem tsl_up : tsl (aH H) (aG G) (aW Wa) = up 8320 2816 .f32 fun r n => sg (rA H G Wa r n) * (1 - sg (rA H G Wa r n)) := by
  unfold tsl
  rw [tsg_up, tone_up, sub_up, mul_up]
theorem tsx_up : tsx (aH H) (aG G) (aW Wa) = up 8320 2816 .f32 fun r n => rA H G Wa r n * sg (rA H G Wa r n) := by
  unfold tsx
  rw [tsg_up, t18_up, mul_up]
theorem t21_up : t21 (aH H) (aG G) (aW Wa) (aW Wb) = up 8320 2816 .f32 (rAct H G Wa Wb) := by
  unfold t21
  rw [tsx_up, t18_up, mul_up]
  rfl
theorem t25_up : t25 (aH H) (aG G) (aW Wa) (aW Wb) (aX Wc) = up 8320 1024 .f32 (outR H (nn 2816 (rAct H G Wa Wb) Wc)) := by
  unfold t25
  rw [t21_up, ext_up, dot2_up, chalf_up, mul_up, add_up]
  rfl
theorem t28_up : t28 (aH D) = up 8320 1024 .f32 fun r n => 1 / 2 * D r n := by
  unfold t28
  rw [same_up, chalf_up, mul_up]
theorem t30_up : t30 (aH H) (aH D) (aG G) (aW Wa) (aW Wb) = up 2816 1024 .f32 (rDw2 H G Wa Wb D) := by
  unfold t30
  rw [t28_up, t21_up, dot3_up, turn1_up]
  refine up_congr fun r _ n _ => ?_
  unfold tn rDw2 tn
  rw [mul_sum]
  exact sum_congr rfl fun k _ => by ring
theorem t31_up : t31 (aH D) (aX Wc) = up 8320 2816 .f32 (rP Wc D) := by
  unfold t31
  rw [t28_up, ext_up, dot4_up]
  refine up_congr fun r _ n _ => ?_
  unfold rP halfR nt
  rw [sum_mul]
  exact sum_congr rfl fun k _ => by ring
theorem t32_up : t32 (aH H) (aH D) (aG G) (aW Wa) (aX Wc) = up 8320 2816 .f32 (rDb H G Wa Wc D) := by
  unfold t32
  rw [tsx_up, t31_up, mul_up]
  refine up_congr fun r _ n _ => ?_
  unfold rDb dbR
  ring
theorem t33_up : t33 (aH H) (aH D) (aG G) (aW Wb) (aX Wc) = up 8320 2816 .f32 fun r n => rP Wc D r n * rA H G Wb r n := by
  unfold t33
  rw [t31_up, t18_up, mul_up]
theorem t35_up : t35 (aH H) (aH D) (aG G) (aW Wa) (aX Wc) = up 1024 2816 .f32 (tn 8320 (xn H G) (rDb H G Wa Wc D)) := by
  unfold t35
  rw [t32_up, t17_up, dot5_up, turn2_up]
  exact up_congr fun r _ n _ => sum_congr rfl fun k _ => mul_comm _ _
theorem t37_up : t37 (aH H) (aH D) (aG G) (aW Wa) (aW Wb) (aX Wc) = up 8320 2816 .f32 (rDa H G Wa Wb Wc D) := by
  unfold t37
  rw [t33_up, tsg_up, mul_up, t18_up, tsl_up, mul_up, mul_up, add_up]
  refine up_congr fun r _ n _ => ?_
  unfold rDa daR
  ring
theorem t39_up : t39 (aH H) (aH D) (aG G) (aW Wa) (aW Wb) (aX Wc) = up 1024 2816 .f32 (tn 8320 (xn H G) (rDa H G Wa Wb Wc D)) := by
  unfold t39
  rw [t37_up, t17_up, dot5_up, turn2_up]
  exact up_congr fun r _ n _ => sum_congr rfl fun k _ => mul_comm _ _
theorem t41_up : t41 (aH H) (aH D) (aG G) (aW Wa) (aW Wb) (aX Wc) = up 8320 1024 .f32 (rDx H G Wa Wb Wc D) := by
  unfold t41
  rw [t32_up, t37_up, ext_up, ext_up, dot6_up, dot6_up, add_up]
  exact up_congr fun r _ n _ => add_comm _ _
theorem t44_up : t44 (aH H) (aH D) (aG G) (aW Wa) (aW Wb) (aX Wc) = up 1 1024 .f32 (dgR 8320 H (rDx H G Wa Wb Wc D)) := by
  unfold t44
  rw [t15_up, t41_up, mul_up, cols_up]
  exact up_congr fun r _ n _ => sum_congr rfl fun k _ => mul_comm _ _
theorem t46_up : t46 (aH H) (aH D) (aG G) (aW Wa) (aW Wb) (aX Wc) = up 8320 1024 .f32 fun r k => rDx H G Wa Wb Wc D r k * G 0 k := by
  unfold t46
  rw [t41_up, gains_up, mul_up]
theorem t52_up : t52 (aH H) (aH D) (aG G) (aW Wa) (aW Wb) (aX Wc) = up 8320 1024 .f32 fun r k => D r k + rDx H G Wa Wb Wc D r k * G 0 k * rs H r := by
  unfold t52
  rw [t46_up, t10_up, spread_up, mul_up, add_up]
theorem t55_up : t55 (aH H) (aH D) (aG G) (aW Wa) (aW Wb) (aX Wc)
    = up 8320 1 .f32 fun r _ => (∑ k ∈ range 1024, H r k * (rDx H G Wa Wb Wc D r k * G 0 k)) * (-(1 / 2) * (rs H r / vr H r)) / 1024 := by
  unfold t55
  rw [t46_up, mul_up, rows'_up, t13_up, mul_up, c1024_up, div1024_up]
theorem t57_up : t57 (aH H) (aH D) (aG G) (aW Wa) (aW Wb) (aX Wc)
    = up 8320 1024 .f32 fun r _ => (∑ k ∈ range 1024, H r k * (rDx H G Wa Wb Wc D r k * G 0 k)) * (-(1 / 2) * (rs H r / vr H r)) / 1024 := by
  unfold t57
  rw [t55_up, spread'_up]

/-- The root's derivative: the reciprocal root over the mean square is the reciprocal root's cube. -/
theorem rs_cube (r : ℕ) : rs H r / vr H r = rs H r * rs H r * rs H r := by
  have hv := vr_pos H r
  have h : rs H r * rs H r = (vr H r)⁻¹ := by
    unfold rs
    rw [← mul_inv, Real.mul_self_sqrt hv.le]
  rw [h, div_eq_mul_inv, mul_comm]

theorem dh_eq (X : ℕ → ℕ → ℝ) (r k : ℕ) :
    D r k + X r k * G 0 k * rs H r + H r k * ((∑ k ∈ range 1024, H r k * (X r k * G 0 k)) * (-(1 / 2) * (rs H r / vr H r)) / 1024)
      + (∑ k ∈ range 1024, H r k * (X r k * G 0 k)) * (-(1 / 2) * (rs H r / vr H r)) / 1024 * H r k = dhR H X G D r k := by
  unfold dhR
  have hs : ∑ l ∈ range 1024, X r l * G 0 l * xh H r l = (∑ k ∈ range 1024, H r k * (X r k * G 0 k)) * rs H r := by
    rw [sum_mul]
    exact sum_congr rfl fun l _ => by unfold xh; ring
  rw [hs, rs_cube]
  unfold xh
  ring

theorem t61_up : t61 (aH H) (aH D) (aG G) (aW Wa) (aW Wb) (aX Wc) = up 8320 1024 .f32 (dhR H (rDx H G Wa Wb Wc D) G D) := by
  unfold t61
  rw [t52_up, t57_up, mul_up, mul_up, add_up, add_up]
  exact up_congr fun r _ k _ => dh_eq H G D _ r k
end Reals

/-! ### The six results -/

section Results
variable (m : (ℓ : Loc nD τ sig) → Buf (Elt Ideal) ℓ) (c : Dev nD)

theorem v61_term : res_main_v61 m c = t61 (m ((c.tc : Thread nD τ).loc main_arg0)) (m ((c.tc : Thread nD τ).loc main_arg5)) (m ((c.tc : Thread nD τ).loc main_arg1))
    (m ((c.tc : Thread nD τ).loc main_arg2)) (m ((c.tc : Thread nD τ).loc main_arg3)) (m ((c.tc : Thread nD τ).loc main_arg4)) := rfl
theorem v44_term : res_main_v44 m c = t44 (m ((c.tc : Thread nD τ).loc main_arg0)) (m ((c.tc : Thread nD τ).loc main_arg5)) (m ((c.tc : Thread nD τ).loc main_arg1))
    (m ((c.tc : Thread nD τ).loc main_arg2)) (m ((c.tc : Thread nD τ).loc main_arg3)) (m ((c.tc : Thread nD τ).loc main_arg4)) := rfl
theorem v39_term : res_main_v39 m c = t39 (m ((c.tc : Thread nD τ).loc main_arg0)) (m ((c.tc : Thread nD τ).loc main_arg5)) (m ((c.tc : Thread nD τ).loc main_arg1))
    (m ((c.tc : Thread nD τ).loc main_arg2)) (m ((c.tc : Thread nD τ).loc main_arg3)) (m ((c.tc : Thread nD τ).loc main_arg4)) := rfl

variable (H G Wa Wb Wc D : ℕ → ℕ → ℝ)

/-- The six operands hold the given real numbers. -/
def Args : Prop :=
  m ((c.tc : Thread nD τ).loc main_arg0) = up 8320 1024 .f32 H ∧ m ((c.tc : Thread nD τ).loc main_arg1) = up 1 1024 .f32 G
    ∧ m ((c.tc : Thread nD τ).loc main_arg2) = up 1024 2816 .bf16 Wa ∧ m ((c.tc : Thread nD τ).loc main_arg3) = up 1024 2816 .bf16 Wb
    ∧ m ((c.tc : Thread nD τ).loc main_arg4) = up 2816 1024 .bf16 Wc ∧ m ((c.tc : Thread nD τ).loc main_arg5) = up 8320 1024 .f32 D

variable {m c H G Wa Wb Wc D} (h : Args m c H G Wa Wb Wc D)
include h

theorem v25_up : t25 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    = up 8320 1024 .f32 (outR H (nn 2816 (rAct H G Wa Wb) Wc)) := by
  obtain ⟨a0, a1, a2, a3, a4, a5⟩ := h
  rw [a0, a1, a2, a3, a4]
  exact t25_up H G Wa Wb Wc
theorem v61_up : res_main_v61 m c = up 8320 1024 .f32 (dhR H (rDx H G Wa Wb Wc D) G D) := by
  obtain ⟨a0, a1, a2, a3, a4, a5⟩ := h
  rw [v61_term, a0, a1, a2, a3, a4, a5]
  exact t61_up H G Wa Wb Wc D
theorem v44_up : res_main_v44 m c = up 1 1024 .f32 (dgR 8320 H (rDx H G Wa Wb Wc D)) := by
  obtain ⟨a0, a1, a2, a3, a4, a5⟩ := h
  rw [v44_term, a0, a1, a2, a3, a4, a5]
  exact t44_up H G Wa Wb Wc D
theorem v39_up : res_main_v39 m c = up 1024 2816 .f32 (tn 8320 (xn H G) (rDa H G Wa Wb Wc D)) := by
  obtain ⟨a0, a1, a2, a3, a4, a5⟩ := h
  rw [v39_term, a0, a1, a2, a3, a4, a5]
  exact t39_up H G Wa Wb Wc D
theorem v35_up : t35 (m ((c.tc : Thread nD τ).loc main_arg0)) (m ((c.tc : Thread nD τ).loc main_arg5)) (m ((c.tc : Thread nD τ).loc main_arg1)) (m ((c.tc : Thread nD τ).loc main_arg2)) (m ((c.tc : Thread nD τ).loc main_arg4))
    = up 1024 2816 .f32 (tn 8320 (xn H G) (rDb H G Wa Wc D)) := by
  obtain ⟨a0, a1, a2, a3, a4, a5⟩ := h
  rw [a0, a1, a2, a4, a5]
  exact t35_up H G Wa Wc D
theorem v30_up : t30 (m ((c.tc : Thread nD τ).loc main_arg0)) (m ((c.tc : Thread nD τ).loc main_arg5)) (m ((c.tc : Thread nD τ).loc main_arg1)) (m ((c.tc : Thread nD τ).loc main_arg2)) (m ((c.tc : Thread nD τ).loc main_arg3))
    = up 2816 1024 .f32 (rDw2 H G Wa Wb D) := by
  obtain ⟨a0, a1, a2, a3, a4, a5⟩ := h
  rw [a0, a1, a2, a3, a5]
  exact t30_up H G Wa Wb D
end Results

end Cert.Proof.Ffn.Ref

end
-- ==== Proof.FfnValue.lean ====
module

public import proofs.«01_k».proof.Defs
public import proofs.«01_k».proof.Proof.FfnRef
public import Idealize.ShloMosaic.Lib.WordArith

@[expose] public section

set_option maxRecDepth 65536

noncomputable section

/-! The nine calls and the unblocked computation leave the same extended reals. -/

namespace Cert.Proof

open Idealize.ShloMosaic Idealize.SL.Sem

instance finite2Facts : Cert.Pre_finite2.Facts := ⟨by decide, by decide, by decide, by decide, by decide⟩

namespace Ffn

/-- An operand whose entries lie strictly below infinity in absolute value has real entries. -/
theorem real_of {a b : ℕ} {φ : FTy} (x : FVec Ideal ⟨2, ![a, b]⟩ φ)
    (h : ∀ j, Ideal.cmp .olt (max (x j) (-(x j)) : EReal) (Ideal.ofBits .f32 0x7F800000#32) = 1#1) : ∃ f, x = up a b φ f := by
  have key : ∀ j, x j = ((EReal.toReal (x j) : ℝ) : EReal) := fun j => by
    have hx := h j
    rw [show Ideal.ofBits .f32 0x7F800000#32 = ⊤ by simp [Ideal.ofBits, Ideal.ieee]] at hx
    have hl : max (x j) (-(x j)) < (⊤ : EReal) := by
      exact of_decide_eq_true ((WordArith.ofBool_eq_one_iff _).mp hx)
    refine (EReal.coe_toReal ?_ ?_).symm
    · exact ne_of_lt (lt_of_le_of_lt (le_max_left _ _) hl)
    · intro hb
      have h2 := lt_of_le_of_lt (le_max_right _ _) hl
      rw [show x j = (⊥ : EReal) from hb] at h2
      exact absurd h2 (by simp)
  refine ⟨fun t c => if h : t < a ∧ c < b then EReal.toReal (x (ValueIdx.ix2 ⟨t, h.1⟩ ⟨c, h.2⟩)) else 0, ?_⟩
  funext j
  refine (key j).trans (congrArg Real.toEReal (Eq.symm ?_))
  exact (dif_pos (⟨(j 0).isLt, (j 1).isLt⟩ : (j 0).val < a ∧ (j 1).val < b)).trans
    (congrArg (fun i => EReal.toReal (x i)) (ValueIdx.eq_ix2 j).symm)

section
open Cert.Kernel2Ideal

theorem args_real (m : (ℓ : Loc nD τ sig) → Buf (Elt Ideal) ℓ) (h : Cert.Pre_Kernel2Ideal_finite2 m) (c : Dev nD) :
    ∃ H G Wa Wb Wc D, Args m c H G Wa Wb Wc D := by
  obtain ⟨h0, h1, h2, h3, h4, h5⟩ := h c
  obtain ⟨H, hH⟩ := real_of (φ := .f32) (a := 8320) (b := 1024) (m ((c.tc : Thread nD τ).loc main_arg0)) (congrFun h0)
  obtain ⟨G, hG⟩ := real_of (φ := .f32) (a := 1) (b := 1024) (m ((c.tc : Thread nD τ).loc main_arg1)) (congrFun h1)
  obtain ⟨Wa, ha⟩ := real_of (φ := .bf16) (a := 1024) (b := 2816) (m ((c.tc : Thread nD τ).loc main_arg2)) (congrFun h2)
  obtain ⟨Wb, hb⟩ := real_of (φ := .bf16) (a := 1024) (b := 2816) (m ((c.tc : Thread nD τ).loc main_arg3)) (congrFun h3)
  obtain ⟨Wc, hc⟩ := real_of (φ := .bf16) (a := 2816) (b := 1024) (m ((c.tc : Thread nD τ).loc main_arg4)) (congrFun h4)
  obtain ⟨D, hD⟩ := real_of (φ := .f32) (a := 8320) (b := 1024) (m ((c.tc : Thread nD τ).loc main_arg5)) (congrFun h5)
  exact ⟨H, G, Wa, Wb, Wc, D, hH, hG, ha, hb, hc, hD⟩

end
end Ffn

/-- The same output and the same five gradients. -/
theorem same_values2 : Cert.algebraic_Kernel2Ideal_Reference2Ideal_pre_finite2 := by
  intro m g m' g' hm hargs
  refine ⟨fun c => Ffn.o_v2 m c, fun c => Ffn.o_v8_0 m c, fun c => Ffn.o_v8_1 m c, fun c => Ffn.o_v5 m c, fun c => Ffn.o_v6 m c, fun c => Ffn.o_v4 m c, ?_, ?_⟩
  · refine (θ_run Cert.Kernel2Ideal.defs _ _).mono (fun r h c => ?_) (Ffn.run_main (F := Ideal) m g)
    have e := h.1 c
    refine ⟨?_, ?_, ?_, ?_, ?_, ?_, Ffn.end_arg m c r.2 e _ (by decide), Ffn.end_arg m c r.2 e _ (by decide), Ffn.end_arg m c r.2 e _ (by decide),
      Ffn.end_arg m c r.2 e _ (by decide), Ffn.end_arg m c r.2 e _ (by decide), Ffn.end_arg m c r.2 e _ (by decide)⟩
    · refine (Ffn.end_at m c r.2 e _ (by decide)).trans ?_
      rw [Ffn.U9_of m c _ (by decide) (by decide), Ffn.U8_of m c _ (by decide), Ffn.U7_of m c _ (by decide), Ffn.U6_of m c _ (by decide), Ffn.U5_of m c _ (by decide),
        Ffn.U4_of m c _ (by decide) (by decide)]
      exact Ffn.U3_v2 m c
    · exact (Ffn.end_at m c r.2 e _ (by decide)).trans (Ffn.U9_v8_0 m c)
    · exact (Ffn.end_at m c r.2 e _ (by decide)).trans (Ffn.U9_v8_1 m c)
    · refine (Ffn.end_at m c r.2 e _ (by decide)).trans ?_
      rw [Ffn.U9_of m c _ (by decide) (by decide), Ffn.U8_of m c _ (by decide), Ffn.U7_of m c _ (by decide)]
      exact Ffn.U6_v5 m c
    · refine (Ffn.end_at m c r.2 e _ (by decide)).trans ?_
      rw [Ffn.U9_of m c _ (by decide) (by decide), Ffn.U8_of m c _ (by decide)]
      exact Ffn.U7_v6 m c
    · refine (Ffn.end_at m c r.2 e _ (by decide)).trans ?_
      rw [Ffn.U9_of m c _ (by decide) (by decide), Ffn.U8_of m c _ (by decide), Ffn.U7_of m c _ (by decide), Ffn.U6_of m c _ (by decide)]
      exact Ffn.U5_v4 m c
  · refine (θ_run Cert.Reference2Ideal.defs _ _).mono (fun r h c => ?_) (Cert.Reference2Ideal.Value.run (F := Ideal) m' g')
    obtain ⟨ho, hh, hg, h1, h3, h2, ha⟩ := h c
    obtain ⟨H, G, Wa, Wb, Wc, D, A⟩ := Ffn.args_real m hm c
    obtain ⟨a0, a1, a2, a3, a4, a5⟩ := hargs c
    have R : Ffn.Ref.Args m' c H G Wa Wb Wc D :=
      ⟨a0.trans A.1, a1.trans A.2.1, a2.trans A.2.2.1, a3.trans A.2.2.2.1, a4.trans A.2.2.2.2.1, a5.trans A.2.2.2.2.2⟩
    exact ⟨(ho.trans (Ffn.Ref.v25_up R)).trans (Ffn.o_v2_eq A).symm, (hh.trans (Ffn.Ref.v61_up R)).trans (Ffn.o_v8_0_eq A).symm,
      (hg.trans (Ffn.Ref.v44_up R)).trans (Ffn.o_v8_1_eq A).symm, (h1.trans (Ffn.Ref.v39_up R)).trans (Ffn.o_v5_eq A).symm,
      (h3.trans (Ffn.Ref.v35_up R)).trans (Ffn.o_v6_eq A).symm, (h2.trans (Ffn.Ref.v30_up R)).trans (Ffn.o_v4_eq A).symm, ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

public import proofs.«01_k».proof.Proof.Gen.ReferenceIdeal.Run
public import proofs.«01_k».proof.Proof.Launch
public import proofs.«01_k».proof.Proof.Same
public import proofs.«01_k».proof.Proof.Value
public import proofs.«01_k».proof.Proof.MixLaunch
public import proofs.«01_k».proof.Proof.MixSame
public import proofs.«01_k».proof.Proof.MixValue
public import proofs.«01_k».proof.Proof.QoLaunch
public import proofs.«01_k».proof.Proof.QoSame
public import proofs.«01_k».proof.Proof.QoValue
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Regions
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Regions
public import proofs.«01_k».proof.Proof.Gen.Kernel4Ideal.Points
public import proofs.«01_k».proof.Proof.Gen.Reference4Ideal
public import proofs.«01_k».proof.Proof.Gen.Reference4Ideal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Reference2Ideal.Run
public import proofs.«01_k».proof.Proof.FfnLaunch
public import proofs.«01_k».proof.Proof.FfnSame
public import proofs.«01_k».proof.Proof.FfnValue

@[expose] public section

noncomputable section

namespace Cert.Proof

open Idealize.ShloMosaic Idealize.SL.Sem

/-- The call pair runs, leaves its arguments, and leaves every counter at zero: as printed. -/
theorem frame_kernel : Cert.quiescent_Kernel := fun m ρ _ =>
  run_same m ρ _ ((θ_run Cert.KernelIdeal.defs _ _).mono
    (fun r h => ⟨fun c => ⟨Sb.end_arg m c r.2 (h.1 c) _ (by decide), Sb.end_arg m c r.2 (h.1 c) _ (by decide), Sb.end_arg m c r.2 (h.1 c) _ (by decide),
      Sb.end_arg m c r.2 (h.1 c) _ (by decide)⟩, h.2⟩) (Sb.run_main (F := Bits) m ρ))

/-- The same of the program over the reals. -/
theorem frame_kernelIdeal : Cert.quiescent_KernelIdeal := fun m ρ _ =>
  (θ_run Cert.KernelIdeal.defs _ _).mono
    (fun r h => ⟨fun c => ⟨Sb.end_arg m c r.2 (h.1 c) _ (by decide), Sb.end_arg m c r.2 (h.1 c) _ (by decide), Sb.end_arg m c r.2 (h.1 c) _ (by decide),
      Sb.end_arg m c r.2 (h.1 c) _ (by decide)⟩, h.2⟩) (Sb.run_main (F := Ideal) m ρ)

/-- The reference is a line of operations that write no argument and touch no counter. -/
theorem frame_referenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The feed-forward block's nine calls run, leave their arguments, and leave every counter at zero: as printed. -/
theorem frame_kernel2 : Cert.quiescent_Kernel2 := fun m ρ _ =>
  Ffn.run_same m ρ _ ((θ_run Cert.Kernel2Ideal.defs _ _).mono
    (fun r h => ⟨fun c => ⟨Ffn.end_arg m c r.2 (h.1 c) _ (by decide), Ffn.end_arg m c r.2 (h.1 c) _ (by decide), Ffn.end_arg m c r.2 (h.1 c) _ (by decide),
      Ffn.end_arg m c r.2 (h.1 c) _ (by decide), Ffn.end_arg m c r.2 (h.1 c) _ (by decide), Ffn.end_arg m c r.2 (h.1 c) _ (by decide)⟩, h.2⟩) (Ffn.run_main (F := Bits) m ρ))

/-- The same of the program over the reals. -/
theorem frame_kernel2Ideal : Cert.quiescent_Kernel2Ideal := fun m ρ _ =>
  (θ_run Cert.Kernel2Ideal.defs _ _).mono
    (fun r h => ⟨fun c => ⟨Ffn.end_arg m c r.2 (h.1 c) _ (by decide), Ffn.end_arg m c r.2 (h.1 c) _ (by decide), Ffn.end_arg m c r.2 (h.1 c) _ (by decide),
      Ffn.end_arg m c r.2 (h.1 c) _ (by decide), Ffn.end_arg m c r.2 (h.1 c) _ (by decide), Ffn.end_arg m c r.2 (h.1 c) _ (by decide)⟩, h.2⟩) (Ffn.run_main (F := Ideal) m ρ)

/-- Its reference is a line of operations too. -/
theorem frame_reference2Ideal : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The eight calls of the mixer's projections run, leave their arguments, and leave every counter at zero: as printed. -/
theorem frame_kernel3 : Cert.quiescent_Kernel3 := fun m ρ _ =>
  Mix.run_same m ρ _ ((θ_run Cert.Kernel3Ideal.defs _ _).mono
    (fun r h => ⟨fun c => ⟨Mix.end_arg m c r.2 (h.1 c) _ (by decide), Mix.end_arg m c r.2 (h.1 c) _ (by decide), Mix.end_arg m c r.2 (h.1 c) _ (by decide), Mix.end_arg m c r.2 (h.1 c) _ (by decide),
      Mix.end_arg m c r.2 (h.1 c) _ (by decide), Mix.end_arg m c r.2 (h.1 c) _ (by decide), Mix.end_arg m c r.2 (h.1 c) _ (by decide)⟩, h.2⟩) (Mix.run_main (F := Bits) m ρ))

/-- The same of the program over the reals. -/
theorem frame_kernel3Ideal : Cert.quiescent_Kernel3Ideal := fun m ρ _ =>
  (θ_run Cert.Kernel3Ideal.defs _ _).mono
    (fun r h => ⟨fun c => ⟨Mix.end_arg m c r.2 (h.1 c) _ (by decide), Mix.end_arg m c r.2 (h.1 c) _ (by decide), Mix.end_arg m c r.2 (h.1 c) _ (by decide), Mix.end_arg m c r.2 (h.1 c) _ (by decide),
      Mix.end_arg m c r.2 (h.1 c) _ (by decide), Mix.end_arg m c r.2 (h.1 c) _ (by decide), Mix.end_arg m c r.2 (h.1 c) _ (by decide)⟩, h.2⟩) (Mix.run_main (F := Ideal) m ρ)

/-- Their reference is a line of operations too. -/
theorem frame_reference3Ideal : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- The eight calls of the query and output projections run, leave their arguments, and leave every counter at zero: as printed. -/
theorem frame_kernel4 : Cert.quiescent_Kernel4 := fun m ρ _ =>
  Qo.run_same m ρ _ ((θ_run Cert.Kernel4Ideal.defs _ _).mono
    (fun r h => ⟨fun c => ⟨Qo.end_arg m c r.2 (h.1 c) _ (by decide), Qo.end_arg m c r.2 (h.1 c) _ (by decide), Qo.end_arg m c r.2 (h.1 c) _ (by decide), Qo.end_arg m c r.2 (h.1 c) _ (by decide),
      Qo.end_arg m c r.2 (h.1 c) _ (by decide), Qo.end_arg m c r.2 (h.1 c) _ (by decide), Qo.end_arg m c r.2 (h.1 c) _ (by decide)⟩, h.2⟩) (Qo.run_main (F := Bits) m ρ))

/-- The same of the program over the reals. -/
theorem frame_kernel4Ideal : Cert.quiescent_Kernel4Ideal := fun m ρ _ =>
  (θ_run Cert.Kernel4Ideal.defs _ _).mono
    (fun r h => ⟨fun c => ⟨Qo.end_arg m c r.2 (h.1 c) _ (by decide), Qo.end_arg m c r.2 (h.1 c) _ (by decide), Qo.end_arg m c r.2 (h.1 c) _ (by decide), Qo.end_arg m c r.2 (h.1 c) _ (by decide),
      Qo.end_arg m c r.2 (h.1 c) _ (by decide), Qo.end_arg m c r.2 (h.1 c) _ (by decide), Qo.end_arg m c r.2 (h.1 c) _ (by decide)⟩, h.2⟩) (Qo.run_main (F := Ideal) m ρ)

/-- Their reference is a line of operations too. -/
theorem frame_reference4Ideal : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, finiteFacts, finite2Facts,
  frame_kernel, frame_kernelIdeal, fun m ρ _ => frame_kernelIdeal m ρ trivial, frame_referenceIdeal,
  fun m ρ _ => frame_referenceIdeal m ρ trivial,
  frame_kernel2, frame_kernel2Ideal, fun m ρ _ => frame_kernel2Ideal m ρ trivial, frame_reference2Ideal,
  fun m ρ _ => frame_reference2Ideal m ρ trivial,
  frame_kernel3, frame_kernel3Ideal, frame_reference3Ideal, frame_kernel4, frame_kernel4Ideal, frame_reference4Ideal,
  trivial, same_values, trivial, same_values2, trivial, same_values3, trivial, same_values4⟩

end Cert.Proof

end
